-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_interval [hPre_unit_interval : Cert.Pre_unit_interval.Facts] (m : (ℓ : Loc Cert.KernelIdeal.nD Cert.KernelIdeal.τ Cert.KernelIdeal.sig) → Buf (Elt Ideal) ℓ) : Prop :=
  ∀ c : Dev Cert.KernelIdeal.nD,
    (Cert.Pre_unit_interval.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_interval [hPre_unit_interval : Cert.Pre_unit_interval.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_interval.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_interval [hKernelIdeal : Cert.KernelIdeal.Facts] [hPre_unit_interval : Cert.Pre_unit_interval.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_interval m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_interval [hReferenceIdeal : Cert.ReferenceIdeal.Facts] [hPre_unit_interval : Cert.Pre_unit_interval.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_interval m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unit_interval [hKernelIdeal : Cert.KernelIdeal.Facts] [hReferenceIdeal : Cert.ReferenceIdeal.Facts] [hPre_unit_interval : Cert.Pre_unit_interval.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_interval m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_interval : Cert.Pre_unit_interval.Facts),
    quiescent_Kernel (hKernel := hKernel)
    ∧ quiescent_KernelIdeal (hKernelIdeal := hKernelIdeal)
    ∧ quiescent_KernelIdeal_pre_unit_interval (hKernelIdeal := hKernelIdeal) (hPre_unit_interval := hPre_unit_interval)
    ∧ quiescent_ReferenceIdeal (hReferenceIdeal := hReferenceIdeal)
    ∧ quiescent_ReferenceIdeal_pre_unit_interval (hReferenceIdeal := hReferenceIdeal) (hPre_unit_interval := hPre_unit_interval)
    ∧ preserves_Kernel_KernelIdeal
    ∧ algebraic_KernelIdeal_ReferenceIdeal_pre_unit_interval (hKernelIdeal := hKernelIdeal) (hReferenceIdeal := hReferenceIdeal) (hPre_unit_interval := hPre_unit_interval)
-- ==== Pre_unit_interval.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)

variable [Facts]

def fn {F : FTy → Type} [FloatOps F] (main_arg0 : FVec F S32x3x512x512 .f32) (main_arg1 : FVec F S32x3x512x512 .f32) : IVec S32x3x512x512 1 :=
  let main_cst : FVec F S_ .f32 := constant S_ .f32 0x00000000#32
  let main_v0 : FVec F S32x3x512x512 .f32 := broadcastInDim S32x3x512x512 ![] bcast_S_S32x3x512x512 main_cst
  let main_v1 : IVec S32x3x512x512 1 := cmpf .oge main_arg0 main_v0
  let main_cst_0 : FVec F S_ .f32 := constant S_ .f32 0x3F800000#32
  let main_v2 : FVec F S32x3x512x512 .f32 := broadcastInDim S32x3x512x512 ![] bcast_S_S32x3x512x512 main_cst_0
  let main_v3 : IVec S32x3x512x512 1 := cmpf .olt main_arg0 main_v2
  let main_v4 : IVec S32x3x512x512 1 := andi main_v1 main_v3
  let main_cst_1 : FVec F S_ .f32 := constant S_ .f32 0x00000000#32
  let main_v5 : FVec F S32x3x512x512 .f32 := broadcastInDim S32x3x512x512 ![] bcast_S_S32x3x512x512 main_cst_1
  let main_v6 : IVec S32x3x512x512 1 := cmpf .oge main_arg1 main_v5
  let main_v7 : IVec S32x3x512x512 1 := andi main_v4 main_v6
  let main_cst_2 : FVec F S_ .f32 := constant S_ .f32 0x3F800000#32
  let main_v8 : FVec F S32x3x512x512 .f32 := broadcastInDim S32x3x512x512 ![] bcast_S_S32x3x512x512 main_cst_2
  let main_v9 : IVec S32x3x512x512 1 := cmpf .olt main_arg1 main_v8
  let main_v10 : IVec S32x3x512x512 1 := andi main_v7 main_v9
  main_v10
-- ==== Kernel.lean ====
abbrev S32x3x512x512 : Shape := ⟨4, ![32, 3, 512, 512]⟩
abbrev S196608 : Shape := ⟨1, ![196608]⟩
abbrev S6144 : Shape := ⟨1, ![6144]⟩
abbrev S64x512 : Shape := ⟨2, ![64, 512]⟩
abbrev S_ : Shape := ⟨0, ![]⟩
abbrev S16 : Shape := ⟨1, ![16]⟩
abbrev S1x1x64x512 : Shape := ⟨4, ![1, 1, 64, 512]⟩
abbrev S1x16 : Shape := ⟨2, ![1, 16]⟩
abbrev S32x384x16 : Shape := ⟨3, ![32, 384, 16]⟩
abbrev S1x1 : Shape := ⟨2, ![1, 1]⟩
abbrev S384x16 : Shape := ⟨2, ![384, 16]⟩
abbrev S384 : Shape := ⟨1, ![384]⟩
abbrev S384x1 : Shape := ⟨2, ![384, 1]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩

abbrev nBuf : Table → Nat
  | .hbm => 6
  | .local .tc .vmem => 2
  | .local .scVector .vmem => 4
  | _ => 0

abbrev bufTy : (tb : Table) → Fin (nBuf tb) → BufTy
  | .hbm, ⟨0, _⟩ => ⟨S32x3x512x512, .f32⟩
  | .hbm, ⟨1, _⟩ => ⟨S32x3x512x512, .f32⟩
  | .hbm, ⟨2, _⟩ => ⟨S196608, .f32⟩
  | .hbm, ⟨3, _⟩ => ⟨S32x384x16, .f32⟩
  | .hbm, ⟨4, _⟩ => ⟨S1x1, .f32⟩
  | .hbm, ⟨5, _⟩ => ⟨S_, .f32⟩
  | .local .tc .vmem, ⟨0, _⟩ => ⟨S32x384x16, .f32⟩
  | .local .tc .vmem, ⟨1, _⟩ => ⟨S1x1, .f32⟩
  | .local .scVector .vmem, ⟨0, _⟩ => ⟨S6144, .f32⟩
  | .local .scVector .vmem, ⟨1, _⟩ => ⟨S64x512, .f32⟩
  | .local .scVector .vmem, ⟨2, _⟩ => ⟨S64x512, .f32⟩
  | .local .scVector .vmem, ⟨3, _⟩ => ⟨S64x512, .f32⟩
  | _, _ => ⟨S32x3x512x512, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c384_i32 : BitVec 32 := 384#32
  let v3 : BitVec 32 := Scalar.addi c0_i32_0 c384_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v535 : BitVec 32 := Scalar.muli arg12 c16_i32
  let v536 : Index := Scalar.indexCast v535
  ![v536.toNat]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c0_i32_4 : BitVec 32 := 0#32
  let c0_i32_5 : BitVec 32 := 0#32
  ![v1.toNat, 0, 0, 0]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8 : BitVec 32 := 0#32
  let c64_i32 : BitVec 32 := 64#32
  let c0_i32_9 : BitVec 32 := 0#32
  ![v1.toNat, 0, 64, 0]
def k0_off4 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c128_i32 : BitVec 32 := 128#32
  let c0_i32_13 : BitVec 32 := 0#32
  ![v1.toNat, 0, 128, 0]
@[reducible] def k0_t2_loop : Scf.Loop 32 :=
  let c0_i32_23 : BitVec 32 := 0#32
  let c64_i32_24 : BitVec 32 := 64#32
  let v24 : BitVec 32 := Scalar.addi c0_i32_23 c64_i32_24
  let c1_i32_25 : BitVec 32 := 1#32
  ⟨c0_i32_23, v24, c1_i32_25⟩
def k0_off5 (k0_t2 : Fin k0_t2_loop.trips) (c0_i32_762 : BitVec 32) : Fin 2 → Nat :=
  let c0_i32_23 : BitVec 32 := 0#32
  let c1_i32_25 : BitVec 32 := 1#32
  let arg12 : BitVec 32 := Scf.iv c0_i32_23 c1_i32_25 k0_t2
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1 (v766 : IVec S16 32) : Prop :=
  (∀ a x, ((![v766] : Fin 1 → IVec S16 32) a x).toNat < S6144.size a)
theorem k0_idx1_inb : ∀ (v766 : IVec S16 32) (k0_hw1 : k0_chk1 v766), ∀ a x, ((![v766] : Fin 1 → IVec S16 32) a x).toNat < S6144.size a := fun v766 k0_hw1 => k0_hw1

def k0_chk2 (v771 : IVec S16 32) : Prop :=
  (∀ a x, ((![v771] : Fin 1 → IVec S16 32) a x).toNat < S6144.size a)
theorem k0_idx2_inb : ∀ (v771 : IVec S16 32) (k0_hw2 : k0_chk2 v771), ∀ a x, ((![v771] : Fin 1 → IVec S16 32) a x).toNat < S6144.size a := fun v771 k0_hw2 => k0_hw2

def k0_chk3 (v776 : IVec S16 32) : Prop :=
  (∀ a x, ((![v776] : Fin 1 → IVec S16 32) a x).toNat < S6144.size a)
theorem k0_idx3_inb : ∀ (v776 : IVec S16 32) (k0_hw3 : k0_chk3 v776), ∀ a x, ((![v776] : Fin 1 → IVec S16 32) a x).toNat < S6144.size a := fun v776 k0_hw3 => k0_hw3

def k0_chk4 (v781 : IVec S16 32) : Prop :=
  (∀ a x, ((![v781] : Fin 1 → IVec S16 32) a x).toNat < S6144.size a)
theorem k0_idx4_inb : ∀ (v781 : IVec S16 32) (k0_hw4 : k0_chk4 v781), ∀ a x, ((![v781] : Fin 1 → IVec S16 32) a x).toNat < S6144.size a := fun v781 k0_hw4 => k0_hw4

def k0_chk5 (v786 : IVec S16 32) : Prop :=
  (∀ a x, ((![v786] : Fin 1 → IVec S16 32) a x).toNat < S6144.size a)
theorem k0_idx5_inb : ∀ (v786 : IVec S16 32) (k0_hw5 : k0_chk5 v786), ∀ a x, ((![v786] : Fin 1 → IVec S16 32) a x).toNat < S6144.size a := fun v786 k0_hw5 => k0_hw5

def k0_chk6 (v791 : IVec S16 32) : Prop :=
  (∀ a x, ((![v791] : Fin 1 → IVec S16 32) a x).toNat < S6144.size a)
theorem k0_idx6_inb : ∀ (v791 : IVec S16 32) (k0_hw6 : k0_chk6 v791), ∀ a x, ((![v791] : Fin 1 → IVec S16 32) a x).toNat < S6144.size a := fun v791 k0_hw6 => k0_hw6

def k0_chk7 (v796 : IVec S16 32) : Prop :=
  (∀ a x, ((![v796] : Fin 1 → IVec S16 32) a x).toNat < S6144.size a)
theorem k0_idx7_inb : ∀ (v796 : IVec S16 32) (k0_hw7 : k0_chk7 v796), ∀ a x, ((![v796] : Fin 1 → IVec S16 32) a x).toNat < S6144.size a := fun v796 k0_hw7 => k0_hw7

def k0_chk8 (v801 : IVec S16 32) : Prop :=
  (∀ a x, ((![v801] : Fin 1 → IVec S16 32) a x).toNat < S6144.size a)
theorem k0_idx8_inb : ∀ (v801 : IVec S16 32) (k0_hw8 : k0_chk8 v801), ∀ a x, ((![v801] : Fin 1 → IVec S16 32) a x).toNat < S6144.size a := fun v801 k0_hw8 => k0_hw8

def k0_chk9 (v806 : IVec S16 32) : Prop :=
  (∀ a x, ((![v806] : Fin 1 → IVec S16 32) a x).toNat < S6144.size a)
theorem k0_idx9_inb : ∀ (v806 : IVec S16 32) (k0_hw9 : k0_chk9 v806), ∀ a x, ((![v806] : Fin 1 → IVec S16 32) a x).toNat < S6144.size a := fun v806 k0_hw9 => k0_hw9

def k0_chk10 (v811 : IVec S16 32) : Prop :=
  (∀ a x, ((![v811] : Fin 1 → IVec S16 32) a x).toNat < S6144.size a)
theorem k0_idx10_inb : ∀ (v811 : IVec S16 32) (k0_hw10 : k0_chk10 v811), ∀ a x, ((![v811] : Fin 1 → IVec S16 32) a x).toNat < S6144.size a := fun v811 k0_hw10 => k0_hw10

def k0_chk11 (v816 : IVec S16 32) : Prop :=
  (∀ a x, ((![v816] : Fin 1 → IVec S16 32) a x).toNat < S6144.size a)
theorem k0_idx11_inb : ∀ (v816 : IVec S16 32) (k0_hw11 : k0_chk11 v816), ∀ a x, ((![v816] : Fin 1 → IVec S16 32) a x).toNat < S6144.size a := fun v816 k0_hw11 => k0_hw11

def k0_chk12 (v821 : IVec S16 32) : Prop :=
  (∀ a x, ((![v821] : Fin 1 → IVec S16 32) a x).toNat < S6144.size a)
theorem k0_idx12_inb : ∀ (v821 : IVec S16 32) (k0_hw12 : k0_chk12 v821), ∀ a x, ((![v821] : Fin 1 → IVec S16 32) a x).toNat < S6144.size a := fun v821 k0_hw12 => k0_hw12

def k0_chk13 (v826 : IVec S16 32) : Prop :=
  (∀ a x, ((![v826] : Fin 1 → IVec S16 32) a x).toNat < S6144.size a)
theorem k0_idx13_inb : ∀ (v826 : IVec S16 32) (k0_hw13 : k0_chk13 v826), ∀ a x, ((![v826] : Fin 1 → IVec S16 32) a x).toNat < S6144.size a := fun v826 k0_hw13 => k0_hw13

def k0_chk14 (v831 : IVec S16 32) : Prop :=
  (∀ a x, ((![v831] : Fin 1 → IVec S16 32) a x).toNat < S6144.size a)
theorem k0_idx14_inb : ∀ (v831 : IVec S16 32) (k0_hw14 : k0_chk14 v831), ∀ a x, ((![v831] : Fin 1 → IVec S16 32) a x).toNat < S6144.size a := fun v831 k0_hw14 => k0_hw14

def k0_chk15 (v836 : IVec S16 32) : Prop :=
  (∀ a x, ((![v836] : Fin 1 → IVec S16 32) a x).toNat < S6144.size a)
theorem k0_idx15_inb : ∀ (v836 : IVec S16 32) (k0_hw15 : k0_chk15 v836), ∀ a x, ((![v836] : Fin 1 → IVec S16 32) a x).toNat < S6144.size a := fun v836 k0_hw15 => k0_hw15

def k0_chk16 (v841 : IVec S16 32) : Prop :=
  (∀ a x, ((![v841] : Fin 1 → IVec S16 32) a x).toNat < S6144.size a)
theorem k0_idx16_inb : ∀ (v841 : IVec S16 32) (k0_hw16 : k0_chk16 v841), ∀ a x, ((![v841] : Fin 1 → IVec S16 32) a x).toNat < S6144.size a := fun v841 k0_hw16 => k0_hw16

def k0_chk17 (v846 : IVec S16 32) : Prop :=
  (∀ a x, ((![v846] : Fin 1 → IVec S16 32) a x).toNat < S6144.size a)
theorem k0_idx17_inb : ∀ (v846 : IVec S16 32) (k0_hw17 : k0_chk17 v846), ∀ a x, ((![v846] : Fin 1 → IVec S16 32) a x).toNat < S6144.size a := fun v846 k0_hw17 => k0_hw17

def k0_chk18 (v851 : IVec S16 32) : Prop :=
  (∀ a x, ((![v851] : Fin 1 → IVec S16 32) a x).toNat < S6144.size a)
theorem k0_idx18_inb : ∀ (v851 : IVec S16 32) (k0_hw18 : k0_chk18 v851), ∀ a x, ((![v851] : Fin 1 → IVec S16 32) a x).toNat < S6144.size a := fun v851 k0_hw18 => k0_hw18

def k0_chk19 (v856 : IVec S16 32) : Prop :=
  (∀ a x, ((![v856] : Fin 1 → IVec S16 32) a x).toNat < S6144.size a)
theorem k0_idx19_inb : ∀ (v856 : IVec S16 32) (k0_hw19 : k0_chk19 v856), ∀ a x, ((![v856] : Fin 1 → IVec S16 32) a x).toNat < S6144.size a := fun v856 k0_hw19 => k0_hw19

def k0_chk20 (v861 : IVec S16 32) : Prop :=
  (∀ a x, ((![v861] : Fin 1 → IVec S16 32) a x).toNat < S6144.size a)
theorem k0_idx20_inb : ∀ (v861 : IVec S16 32) (k0_hw20 : k0_chk20 v861), ∀ a x, ((![v861] : Fin 1 → IVec S16 32) a x).toNat < S6144.size a := fun v861 k0_hw20 => k0_hw20

def k0_chk21 (v866 : IVec S16 32) : Prop :=
  (∀ a x, ((![v866] : Fin 1 → IVec S16 32) a x).toNat < S6144.size a)
theorem k0_idx21_inb : ∀ (v866 : IVec S16 32) (k0_hw21 : k0_chk21 v866), ∀ a x, ((![v866] : Fin 1 → IVec S16 32) a x).toNat < S6144.size a := fun v866 k0_hw21 => k0_hw21

def k0_chk22 (v871 : IVec S16 32) : Prop :=
  (∀ a x, ((![v871] : Fin 1 → IVec S16 32) a x).toNat < S6144.size a)
theorem k0_idx22_inb : ∀ (v871 : IVec S16 32) (k0_hw22 : k0_chk22 v871), ∀ a x, ((![v871] : Fin 1 → IVec S16 32) a x).toNat < S6144.size a := fun v871 k0_hw22 => k0_hw22

def k0_chk23 (v876 : IVec S16 32) : Prop :=
  (∀ a x, ((![v876] : Fin 1 → IVec S16 32) a x).toNat < S6144.size a)
theorem k0_idx23_inb : ∀ (v876 : IVec S16 32) (k0_hw23 : k0_chk23 v876), ∀ a x, ((![v876] : Fin 1 → IVec S16 32) a x).toNat < S6144.size a := fun v876 k0_hw23 => k0_hw23

def k0_chk24 (v881 : IVec S16 32) : Prop :=
  (∀ a x, ((![v881] : Fin 1 → IVec S16 32) a x).toNat < S6144.size a)
theorem k0_idx24_inb : ∀ (v881 : IVec S16 32) (k0_hw24 : k0_chk24 v881), ∀ a x, ((![v881] : Fin 1 → IVec S16 32) a x).toNat < S6144.size a := fun v881 k0_hw24 => k0_hw24

def k0_chk25 (v886 : IVec S16 32) : Prop :=
  (∀ a x, ((![v886] : Fin 1 → IVec S16 32) a x).toNat < S6144.size a)
theorem k0_idx25_inb : ∀ (v886 : IVec S16 32) (k0_hw25 : k0_chk25 v886), ∀ a x, ((![v886] : Fin 1 → IVec S16 32) a x).toNat < S6144.size a := fun v886 k0_hw25 => k0_hw25

def k0_chk26 (v891 : IVec S16 32) : Prop :=
  (∀ a x, ((![v891] : Fin 1 → IVec S16 32) a x).toNat < S6144.size a)
theorem k0_idx26_inb : ∀ (v891 : IVec S16 32) (k0_hw26 : k0_chk26 v891), ∀ a x, ((![v891] : Fin 1 → IVec S16 32) a x).toNat < S6144.size a := fun v891 k0_hw26 => k0_hw26

def k0_chk27 (v896 : IVec S16 32) : Prop :=
  (∀ a x, ((![v896] : Fin 1 → IVec S16 32) a x).toNat < S6144.size a)
theorem k0_idx27_inb : ∀ (v896 : IVec S16 32) (k0_hw27 : k0_chk27 v896), ∀ a x, ((![v896] : Fin 1 → IVec S16 32) a x).toNat < S6144.size a := fun v896 k0_hw27 => k0_hw27

def k0_chk28 (v901 : IVec S16 32) : Prop :=
  (∀ a x, ((![v901] : Fin 1 → IVec S16 32) a x).toNat < S6144.size a)
theorem k0_idx28_inb : ∀ (v901 : IVec S16 32) (k0_hw28 : k0_chk28 v901), ∀ a x, ((![v901] : Fin 1 → IVec S16 32) a x).toNat < S6144.size a := fun v901 k0_hw28 => k0_hw28

def k0_chk29 (v906 : IVec S16 32) : Prop :=
  (∀ a x, ((![v906] : Fin 1 → IVec S16 32) a x).toNat < S6144.size a)
theorem k0_idx29_inb : ∀ (v906 : IVec S16 32) (k0_hw29 : k0_chk29 v906), ∀ a x, ((![v906] : Fin 1 → IVec S16 32) a x).toNat < S6144.size a := fun v906 k0_hw29 => k0_hw29

def k0_chk30 (v911 : IVec S16 32) : Prop :=
  (∀ a x, ((![v911] : Fin 1 → IVec S16 32) a x).toNat < S6144.size a)
theorem k0_idx30_inb : ∀ (v911 : IVec S16 32) (k0_hw30 : k0_chk30 v911), ∀ a x, ((![v911] : Fin 1 → IVec S16 32) a x).toNat < S6144.size a := fun v911 k0_hw30 => k0_hw30

def k0_chk31 (v916 : IVec S16 32) : Prop :=
  (∀ a x, ((![v916] : Fin 1 → IVec S16 32) a x).toNat < S6144.size a)
theorem k0_idx31_inb : ∀ (v916 : IVec S16 32) (k0_hw31 : k0_chk31 v916), ∀ a x, ((![v916] : Fin 1 → IVec S16 32) a x).toNat < S6144.size a := fun v916 k0_hw31 => k0_hw31

def k0_chk32 (v921 : IVec S16 32) : Prop :=
  (∀ a x, ((![v921] : Fin 1 → IVec S16 32) a x).toNat < S6144.size a)
theorem k0_idx32_inb : ∀ (v921 : IVec S16 32) (k0_hw32 : k0_chk32 v921), ∀ a x, ((![v921] : Fin 1 → IVec S16 32) a x).toNat < S6144.size a := fun v921 k0_hw32 => k0_hw32
def k0_off6 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27 : BitVec 32 := 0#32
  let c192_i32 : BitVec 32 := 192#32
  let c0_i32_28 : BitVec 32 := 0#32
  ![v1.toNat, 0, 192, 0]
@[reducible] def k0_t3_loop : Scf.Loop 32 :=
  let c0_i32_38 : BitVec 32 := 0#32
  let c64_i32_39 : BitVec 32 := 64#32
  let v35 : BitVec 32 := Scalar.addi c0_i32_38 c64_i32_39
  let c1_i32_40 : BitVec 32 := 1#32
  ⟨c0_i32_38, v35, c1_i32_40⟩
def k0_off7 (k0_t3 : Fin k0_t3_loop.trips) (c0_i32_762 : BitVec 32) : Fin 2 → Nat :=
  let c0_i32_38 : BitVec 32 := 0#32
  let c1_i32_40 : BitVec 32 := 1#32
  let arg12 : BitVec 32 := Scf.iv c0_i32_38 c1_i32_40 k0_t3
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk33 (v766 : IVec S16 32) : Prop :=
  (∀ a x, ((![v766] : Fin 1 → IVec S16 32) a x).toNat < S6144.size a)
theorem k0_idx33_inb : ∀ (v766 : IVec S16 32) (k0_hw33 : k0_chk33 v766), ∀ a x, ((![v766] : Fin 1 → IVec S16 32) a x).toNat < S6144.size a := fun v766 k0_hw33 => k0_hw33

def k0_chk34 (v771 : IVec S16 32) : Prop :=
  (∀ a x, ((![v771] : Fin 1 → IVec S16 32) a x).toNat < S6144.size a)
theorem k0_idx34_inb : ∀ (v771 : IVec S16 32) (k0_hw34 : k0_chk34 v771), ∀ a x, ((![v771] : Fin 1 → IVec S16 32) a x).toNat < S6144.size a := fun v771 k0_hw34 => k0_hw34

def k0_chk35 (v776 : IVec S16 32) : Prop :=
  (∀ a x, ((![v776] : Fin 1 → IVec S16 32) a x).toNat < S6144.size a)
theorem k0_idx35_inb : ∀ (v776 : IVec S16 32) (k0_hw35 : k0_chk35 v776), ∀ a x, ((![v776] : Fin 1 → IVec S16 32) a x).toNat < S6144.size a := fun v776 k0_hw35 => k0_hw35

def k0_chk36 (v781 : IVec S16 32) : Prop :=
  (∀ a x, ((![v781] : Fin 1 → IVec S16 32) a x).toNat < S6144.size a)
theorem k0_idx36_inb : ∀ (v781 : IVec S16 32) (k0_hw36 : k0_chk36 v781), ∀ a x, ((![v781] : Fin 1 → IVec S16 32) a x).toNat < S6144.size a := fun v781 k0_hw36 => k0_hw36

def k0_chk37 (v786 : IVec S16 32) : Prop :=
  (∀ a x, ((![v786] : Fin 1 → IVec S16 32) a x).toNat < S6144.size a)
theorem k0_idx37_inb : ∀ (v786 : IVec S16 32) (k0_hw37 : k0_chk37 v786), ∀ a x, ((![v786] : Fin 1 → IVec S16 32) a x).toNat < S6144.size a := fun v786 k0_hw37 => k0_hw37

def k0_chk38 (v791 : IVec S16 32) : Prop :=
  (∀ a x, ((![v791] : Fin 1 → IVec S16 32) a x).toNat < S6144.size a)
theorem k0_idx38_inb : ∀ (v791 : IVec S16 32) (k0_hw38 : k0_chk38 v791), ∀ a x, ((![v791] : Fin 1 → IVec S16 32) a x).toNat < S6144.size a := fun v791 k0_hw38 => k0_hw38

def k0_chk39 (v796 : IVec S16 32) : Prop :=
  (∀ a x, ((![v796] : Fin 1 → IVec S16 32) a x).toNat < S6144.size a)
theorem k0_idx39_inb : ∀ (v796 : IVec S16 32) (k0_hw39 : k0_chk39 v796), ∀ a x, ((![v796] : Fin 1 → IVec S16 32) a x).toNat < S6144.size a := fun v796 k0_hw39 => k0_hw39

def k0_chk40 (v801 : IVec S16 32) : Prop :=
  (∀ a x, ((![v801] : Fin 1 → IVec S16 32) a x).toNat < S6144.size a)
theorem k0_idx40_inb : ∀ (v801 : IVec S16 32) (k0_hw40 : k0_chk40 v801), ∀ a x, ((![v801] : Fin 1 → IVec S16 32) a x).toNat < S6144.size a := fun v801 k0_hw40 => k0_hw40

def k0_chk41 (v806 : IVec S16 32) : Prop :=
  (∀ a x, ((![v806] : Fin 1 → IVec S16 32) a x).toNat < S6144.size a)
theorem k0_idx41_inb : ∀ (v806 : IVec S16 32) (k0_hw41 : k0_chk41 v806), ∀ a x, ((![v806] : Fin 1 → IVec S16 32) a x).toNat < S6144.size a := fun v806 k0_hw41 => k0_hw41

def k0_chk42 (v811 : IVec S16 32) : Prop :=
  (∀ a x, ((![v811] : Fin 1 → IVec S16 32) a x).toNat < S6144.size a)
theorem k0_idx42_inb : ∀ (v811 : IVec S16 32) (k0_hw42 : k0_chk42 v811), ∀ a x, ((![v811] : Fin 1 → IVec S16 32) a x).toNat < S6144.size a := fun v811 k0_hw42 => k0_hw42

def k0_chk43 (v816 : IVec S16 32) : Prop :=
  (∀ a x, ((![v816] : Fin 1 → IVec S16 32) a x).toNat < S6144.size a)
theorem k0_idx43_inb : ∀ (v816 : IVec S16 32) (k0_hw43 : k0_chk43 v816), ∀ a x, ((![v816] : Fin 1 → IVec S16 32) a x).toNat < S6144.size a := fun v816 k0_hw43 => k0_hw43

def k0_chk44 (v821 : IVec S16 32) : Prop :=
  (∀ a x, ((![v821] : Fin 1 → IVec S16 32) a x).toNat < S6144.size a)
theorem k0_idx44_inb : ∀ (v821 : IVec S16 32) (k0_hw44 : k0_chk44 v821), ∀ a x, ((![v821] : Fin 1 → IVec S16 32) a x).toNat < S6144.size a := fun v821 k0_hw44 => k0_hw44

def k0_chk45 (v826 : IVec S16 32) : Prop :=
  (∀ a x, ((![v826] : Fin 1 → IVec S16 32) a x).toNat < S6144.size a)
theorem k0_idx45_inb : ∀ (v826 : IVec S16 32) (k0_hw45 : k0_chk45 v826), ∀ a x, ((![v826] : Fin 1 → IVec S16 32) a x).toNat < S6144.size a := fun v826 k0_hw45 => k0_hw45

def k0_chk46 (v831 : IVec S16 32) : Prop :=
  (∀ a x, ((![v831] : Fin 1 → IVec S16 32) a x).toNat < S6144.size a)
theorem k0_idx46_inb : ∀ (v831 : IVec S16 32) (k0_hw46 : k0_chk46 v831), ∀ a x, ((![v831] : Fin 1 → IVec S16 32) a x).toNat < S6144.size a := fun v831 k0_hw46 => k0_hw46

def k0_chk47 (v836 : IVec S16 32) : Prop :=
  (∀ a x, ((![v836] : Fin 1 → IVec S16 32) a x).toNat < S6144.size a)
theorem k0_idx47_inb : ∀ (v836 : IVec S16 32) (k0_hw47 : k0_chk47 v836), ∀ a x, ((![v836] : Fin 1 → IVec S16 32) a x).toNat < S6144.size a := fun v836 k0_hw47 => k0_hw47

def k0_chk48 (v841 : IVec S16 32) : Prop :=
  (∀ a x, ((![v841] : Fin 1 → IVec S16 32) a x).toNat < S6144.size a)
theorem k0_idx48_inb : ∀ (v841 : IVec S16 32) (k0_hw48 : k0_chk48 v841), ∀ a x, ((![v841] : Fin 1 → IVec S16 32) a x).toNat < S6144.size a := fun v841 k0_hw48 => k0_hw48

def k0_chk49 (v846 : IVec S16 32) : Prop :=
  (∀ a x, ((![v846] : Fin 1 → IVec S16 32) a x).toNat < S6144.size a)
theorem k0_idx49_inb : ∀ (v846 : IVec S16 32) (k0_hw49 : k0_chk49 v846), ∀ a x, ((![v846] : Fin 1 → IVec S16 32) a x).toNat < S6144.size a := fun v846 k0_hw49 => k0_hw49

def k0_chk50 (v851 : IVec S16 32) : Prop :=
  (∀ a x, ((![v851] : Fin 1 → IVec S16 32) a x).toNat < S6144.size a)
theorem k0_idx50_inb : ∀ (v851 : IVec S16 32) (k0_hw50 : k0_chk50 v851), ∀ a x, ((![v851] : Fin 1 → IVec S16 32) a x).toNat < S6144.size a := fun v851 k0_hw50 => k0_hw50

def k0_chk51 (v856 : IVec S16 32) : Prop :=
  (∀ a x, ((![v856] : Fin 1 → IVec S16 32) a x).toNat < S6144.size a)
theorem k0_idx51_inb : ∀ (v856 : IVec S16 32) (k0_hw51 : k0_chk51 v856), ∀ a x, ((![v856] : Fin 1 → IVec S16 32) a x).toNat < S6144.size a := fun v856 k0_hw51 => k0_hw51

def k0_chk52 (v861 : IVec S16 32) : Prop :=
  (∀ a x, ((![v861] : Fin 1 → IVec S16 32) a x).toNat < S6144.size a)
theorem k0_idx52_inb : ∀ (v861 : IVec S16 32) (k0_hw52 : k0_chk52 v861), ∀ a x, ((![v861] : Fin 1 → IVec S16 32) a x).toNat < S6144.size a := fun v861 k0_hw52 => k0_hw52

def k0_chk53 (v866 : IVec S16 32) : Prop :=
  (∀ a x, ((![v866] : Fin 1 → IVec S16 32) a x).toNat < S6144.size a)
theorem k0_idx53_inb : ∀ (v866 : IVec S16 32) (k0_hw53 : k0_chk53 v866), ∀ a x, ((![v866] : Fin 1 → IVec S16 32) a x).toNat < S6144.size a := fun v866 k0_hw53 => k0_hw53

def k0_chk54 (v871 : IVec S16 32) : Prop :=
  (∀ a x, ((![v871] : Fin 1 → IVec S16 32) a x).toNat < S6144.size a)
theorem k0_idx54_inb : ∀ (v871 : IVec S16 32) (k0_hw54 : k0_chk54 v871), ∀ a x, ((![v871] : Fin 1 → IVec S16 32) a x).toNat < S6144.size a := fun v871 k0_hw54 => k0_hw54

def k0_chk55 (v876 : IVec S16 32) : Prop :=
  (∀ a x, ((![v876] : Fin 1 → IVec S16 32) a x).toNat < S6144.size a)
theorem k0_idx55_inb : ∀ (v876 : IVec S16 32) (k0_hw55 : k0_chk55 v876), ∀ a x, ((![v876] : Fin 1 → IVec S16 32) a x).toNat < S6144.size a := fun v876 k0_hw55 => k0_hw55

def k0_chk56 (v881 : IVec S16 32) : Prop :=
  (∀ a x, ((![v881] : Fin 1 → IVec S16 32) a x).toNat < S6144.size a)
theorem k0_idx56_inb : ∀ (v881 : IVec S16 32) (k0_hw56 : k0_chk56 v881), ∀ a x, ((![v881] : Fin 1 → IVec S16 32) a x).toNat < S6144.size a := fun v881 k0_hw56 => k0_hw56

def k0_chk57 (v886 : IVec S16 32) : Prop :=
  (∀ a x, ((![v886] : Fin 1 → IVec S16 32) a x).toNat < S6144.size a)
theorem k0_idx57_inb : ∀ (v886 : IVec S16 32) (k0_hw57 : k0_chk57 v886), ∀ a x, ((![v886] : Fin 1 → IVec S16 32) a x).toNat < S6144.size a := fun v886 k0_hw57 => k0_hw57

def k0_chk58 (v891 : IVec S16 32) : Prop :=
  (∀ a x, ((![v891] : Fin 1 → IVec S16 32) a x).toNat < S6144.size a)
theorem k0_idx58_inb : ∀ (v891 : IVec S16 32) (k0_hw58 : k0_chk58 v891), ∀ a x, ((![v891] : Fin 1 → IVec S16 32) a x).toNat < S6144.size a := fun v891 k0_hw58 => k0_hw58

def k0_chk59 (v896 : IVec S16 32) : Prop :=
  (∀ a x, ((![v896] : Fin 1 → IVec S16 32) a x).toNat < S6144.size a)
theorem k0_idx59_inb : ∀ (v896 : IVec S16 32) (k0_hw59 : k0_chk59 v896), ∀ a x, ((![v896] : Fin 1 → IVec S16 32) a x).toNat < S6144.size a := fun v896 k0_hw59 => k0_hw59

def k0_chk60 (v901 : IVec S16 32) : Prop :=
  (∀ a x, ((![v901] : Fin 1 → IVec S16 32) a x).toNat < S6144.size a)
theorem k0_idx60_inb : ∀ (v901 : IVec S16 32) (k0_hw60 : k0_chk60 v901), ∀ a x, ((![v901] : Fin 1 → IVec S16 32) a x).toNat < S6144.size a := fun v901 k0_hw60 => k0_hw60

def k0_chk61 (v906 : IVec S16 32) : Prop :=
  (∀ a x, ((![v906] : Fin 1 → IVec S16 32) a x).toNat < S6144.size a)
theorem k0_idx61_inb : ∀ (v906 : IVec S16 32) (k0_hw61 : k0_chk61 v906), ∀ a x, ((![v906] : Fin 1 → IVec S16 32) a x).toNat < S6144.size a := fun v906 k0_hw61 => k0_hw61

def k0_chk62 (v911 : IVec S16 32) : Prop :=
  (∀ a x, ((![v911] : Fin 1 → IVec S16 32) a x).toNat < S6144.size a)
theorem k0_idx62_inb : ∀ (v911 : IVec S16 32) (k0_hw62 : k0_chk62 v911), ∀ a x, ((![v911] : Fin 1 → IVec S16 32) a x).toNat < S6144.size a := fun v911 k0_hw62 => k0_hw62

def k0_chk63 (v916 : IVec S16 32) : Prop :=
  (∀ a x, ((![v916] : Fin 1 → IVec S16 32) a x).toNat < S6144.size a)
theorem k0_idx63_inb : ∀ (v916 : IVec S16 32) (k0_hw63 : k0_chk63 v916), ∀ a x, ((![v916] : Fin 1 → IVec S16 32) a x).toNat < S6144.size a := fun v916 k0_hw63 => k0_hw63

def k0_chk64 (v921 : IVec S16 32) : Prop :=
  (∀ a x, ((![v921] : Fin 1 → IVec S16 32) a x).toNat < S6144.size a)
theorem k0_idx64_inb : ∀ (v921 : IVec S16 32) (k0_hw64 : k0_chk64 v921), ∀ a x, ((![v921] : Fin 1 → IVec S16 32) a x).toNat < S6144.size a := fun v921 k0_hw64 => k0_hw64
def k0_off8 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c256_i32 : BitVec 32 := 256#32
  let c0_i32_43 : BitVec 32 := 0#32
  ![v1.toNat, 0, 256, 0]
@[reducible] def k0_t4_loop : Scf.Loop 32 :=
  let c0_i32_53 : BitVec 32 := 0#32
  let c64_i32_54 : BitVec 32 := 64#32
  let v46 : BitVec 32 := Scalar.addi c0_i32_53 c64_i32_54
  let c1_i32_55 : BitVec 32 := 1#32
  ⟨c0_i32_53, v46, c1_i32_55⟩
def k0_off9 (k0_t4 : Fin k0_t4_loop.trips) (c0_i32_762 : BitVec 32) : Fin 2 → Nat :=
  let c0_i32_53 : BitVec 32 := 0#32
  let c1_i32_55 : BitVec 32 := 1#32
  let arg12 : BitVec 32 := Scf.iv c0_i32_53 c1_i32_55 k0_t4
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk65 (v766 : IVec S16 32) : Prop :=
  (∀ a x, ((![v766] : Fin 1 → IVec S16 32) a x).toNat < S6144.size a)
theorem k0_idx65_inb : ∀ (v766 : IVec S16 32) (k0_hw65 : k0_chk65 v766), ∀ a x, ((![v766] : Fin 1 → IVec S16 32) a x).toNat < S6144.size a := fun v766 k0_hw65 => k0_hw65

def k0_chk66 (v771 : IVec S16 32) : Prop :=
  (∀ a x, ((![v771] : Fin 1 → IVec S16 32) a x).toNat < S6144.size a)
theorem k0_idx66_inb : ∀ (v771 : IVec S16 32) (k0_hw66 : k0_chk66 v771), ∀ a x, ((![v771] : Fin 1 → IVec S16 32) a x).toNat < S6144.size a := fun v771 k0_hw66 => k0_hw66

def k0_chk67 (v776 : IVec S16 32) : Prop :=
  (∀ a x, ((![v776] : Fin 1 → IVec S16 32) a x).toNat < S6144.size a)
theorem k0_idx67_inb : ∀ (v776 : IVec S16 32) (k0_hw67 : k0_chk67 v776), ∀ a x, ((![v776] : Fin 1 → IVec S16 32) a x).toNat < S6144.size a := fun v776 k0_hw67 => k0_hw67

def k0_chk68 (v781 : IVec S16 32) : Prop :=
  (∀ a x, ((![v781] : Fin 1 → IVec S16 32) a x).toNat < S6144.size a)
theorem k0_idx68_inb : ∀ (v781 : IVec S16 32) (k0_hw68 : k0_chk68 v781), ∀ a x, ((![v781] : Fin 1 → IVec S16 32) a x).toNat < S6144.size a := fun v781 k0_hw68 => k0_hw68

def k0_chk69 (v786 : IVec S16 32) : Prop :=
  (∀ a x, ((![v786] : Fin 1 → IVec S16 32) a x).toNat < S6144.size a)
theorem k0_idx69_inb : ∀ (v786 : IVec S16 32) (k0_hw69 : k0_chk69 v786), ∀ a x, ((![v786] : Fin 1 → IVec S16 32) a x).toNat < S6144.size a := fun v786 k0_hw69 => k0_hw69

def k0_chk70 (v791 : IVec S16 32) : Prop :=
  (∀ a x, ((![v791] : Fin 1 → IVec S16 32) a x).toNat < S6144.size a)
theorem k0_idx70_inb : ∀ (v791 : IVec S16 32) (k0_hw70 : k0_chk70 v791), ∀ a x, ((![v791] : Fin 1 → IVec S16 32) a x).toNat < S6144.size a := fun v791 k0_hw70 => k0_hw70

def k0_chk71 (v796 : IVec S16 32) : Prop :=
  (∀ a x, ((![v796] : Fin 1 → IVec S16 32) a x).toNat < S6144.size a)
theorem k0_idx71_inb : ∀ (v796 : IVec S16 32) (k0_hw71 : k0_chk71 v796), ∀ a x, ((![v796] : Fin 1 → IVec S16 32) a x).toNat < S6144.size a := fun v796 k0_hw71 => k0_hw71

def k0_chk72 (v801 : IVec S16 32) : Prop :=
  (∀ a x, ((![v801] : Fin 1 → IVec S16 32) a x).toNat < S6144.size a)
theorem k0_idx72_inb : ∀ (v801 : IVec S16 32) (k0_hw72 : k0_chk72 v801), ∀ a x, ((![v801] : Fin 1 → IVec S16 32) a x).toNat < S6144.size a := fun v801 k0_hw72 => k0_hw72

def k0_chk73 (v806 : IVec S16 32) : Prop :=
  (∀ a x, ((![v806] : Fin 1 → IVec S16 32) a x).toNat < S6144.size a)
theorem k0_idx73_inb : ∀ (v806 : IVec S16 32) (k0_hw73 : k0_chk73 v806), ∀ a x, ((![v806] : Fin 1 → IVec S16 32) a x).toNat < S6144.size a := fun v806 k0_hw73 => k0_hw73

def k0_chk74 (v811 : IVec S16 32) : Prop :=
  (∀ a x, ((![v811] : Fin 1 → IVec S16 32) a x).toNat < S6144.size a)
theorem k0_idx74_inb : ∀ (v811 : IVec S16 32) (k0_hw74 : k0_chk74 v811), ∀ a x, ((![v811] : Fin 1 → IVec S16 32) a x).toNat < S6144.size a := fun v811 k0_hw74 => k0_hw74

def k0_chk75 (v816 : IVec S16 32) : Prop :=
  (∀ a x, ((![v816] : Fin 1 → IVec S16 32) a x).toNat < S6144.size a)
theorem k0_idx75_inb : ∀ (v816 : IVec S16 32) (k0_hw75 : k0_chk75 v816), ∀ a x, ((![v816] : Fin 1 → IVec S16 32) a x).toNat < S6144.size a := fun v816 k0_hw75 => k0_hw75

def k0_chk76 (v821 : IVec S16 32) : Prop :=
  (∀ a x, ((![v821] : Fin 1 → IVec S16 32) a x).toNat < S6144.size a)
theorem k0_idx76_inb : ∀ (v821 : IVec S16 32) (k0_hw76 : k0_chk76 v821), ∀ a x, ((![v821] : Fin 1 → IVec S16 32) a x).toNat < S6144.size a := fun v821 k0_hw76 => k0_hw76

def k0_chk77 (v826 : IVec S16 32) : Prop :=
  (∀ a x, ((![v826] : Fin 1 → IVec S16 32) a x).toNat < S6144.size a)
theorem k0_idx77_inb : ∀ (v826 : IVec S16 32) (k0_hw77 : k0_chk77 v826), ∀ a x, ((![v826] : Fin 1 → IVec S16 32) a x).toNat < S6144.size a := fun v826 k0_hw77 => k0_hw77

def k0_chk78 (v831 : IVec S16 32) : Prop :=
  (∀ a x, ((![v831] : Fin 1 → IVec S16 32) a x).toNat < S6144.size a)
theorem k0_idx78_inb : ∀ (v831 : IVec S16 32) (k0_hw78 : k0_chk78 v831), ∀ a x, ((![v831] : Fin 1 → IVec S16 32) a x).toNat < S6144.size a := fun v831 k0_hw78 => k0_hw78

def k0_chk79 (v836 : IVec S16 32) : Prop :=
  (∀ a x, ((![v836] : Fin 1 → IVec S16 32) a x).toNat < S6144.size a)
theorem k0_idx79_inb : ∀ (v836 : IVec S16 32) (k0_hw79 : k0_chk79 v836), ∀ a x, ((![v836] : Fin 1 → IVec S16 32) a x).toNat < S6144.size a := fun v836 k0_hw79 => k0_hw79

def k0_chk80 (v841 : IVec S16 32) : Prop :=
  (∀ a x, ((![v841] : Fin 1 → IVec S16 32) a x).toNat < S6144.size a)
theorem k0_idx80_inb : ∀ (v841 : IVec S16 32) (k0_hw80 : k0_chk80 v841), ∀ a x, ((![v841] : Fin 1 → IVec S16 32) a x).toNat < S6144.size a := fun v841 k0_hw80 => k0_hw80

def k0_chk81 (v846 : IVec S16 32) : Prop :=
  (∀ a x, ((![v846] : Fin 1 → IVec S16 32) a x).toNat < S6144.size a)
theorem k0_idx81_inb : ∀ (v846 : IVec S16 32) (k0_hw81 : k0_chk81 v846), ∀ a x, ((![v846] : Fin 1 → IVec S16 32) a x).toNat < S6144.size a := fun v846 k0_hw81 => k0_hw81

def k0_chk82 (v851 : IVec S16 32) : Prop :=
  (∀ a x, ((![v851] : Fin 1 → IVec S16 32) a x).toNat < S6144.size a)
theorem k0_idx82_inb : ∀ (v851 : IVec S16 32) (k0_hw82 : k0_chk82 v851), ∀ a x, ((![v851] : Fin 1 → IVec S16 32) a x).toNat < S6144.size a := fun v851 k0_hw82 => k0_hw82

def k0_chk83 (v856 : IVec S16 32) : Prop :=
  (∀ a x, ((![v856] : Fin 1 → IVec S16 32) a x).toNat < S6144.size a)
theorem k0_idx83_inb : ∀ (v856 : IVec S16 32) (k0_hw83 : k0_chk83 v856), ∀ a x, ((![v856] : Fin 1 → IVec S16 32) a x).toNat < S6144.size a := fun v856 k0_hw83 => k0_hw83

def k0_chk84 (v861 : IVec S16 32) : Prop :=
  (∀ a x, ((![v861] : Fin 1 → IVec S16 32) a x).toNat < S6144.size a)
theorem k0_idx84_inb : ∀ (v861 : IVec S16 32) (k0_hw84 : k0_chk84 v861), ∀ a x, ((![v861] : Fin 1 → IVec S16 32) a x).toNat < S6144.size a := fun v861 k0_hw84 => k0_hw84

def k0_chk85 (v866 : IVec S16 32) : Prop :=
  (∀ a x, ((![v866] : Fin 1 → IVec S16 32) a x).toNat < S6144.size a)
theorem k0_idx85_inb : ∀ (v866 : IVec S16 32) (k0_hw85 : k0_chk85 v866), ∀ a x, ((![v866] : Fin 1 → IVec S16 32) a x).toNat < S6144.size a := fun v866 k0_hw85 => k0_hw85

def k0_chk86 (v871 : IVec S16 32) : Prop :=
  (∀ a x, ((![v871] : Fin 1 → IVec S16 32) a x).toNat < S6144.size a)
theorem k0_idx86_inb : ∀ (v871 : IVec S16 32) (k0_hw86 : k0_chk86 v871), ∀ a x, ((![v871] : Fin 1 → IVec S16 32) a x).toNat < S6144.size a := fun v871 k0_hw86 => k0_hw86

def k0_chk87 (v876 : IVec S16 32) : Prop :=
  (∀ a x, ((![v876] : Fin 1 → IVec S16 32) a x).toNat < S6144.size a)
theorem k0_idx87_inb : ∀ (v876 : IVec S16 32) (k0_hw87 : k0_chk87 v876), ∀ a x, ((![v876] : Fin 1 → IVec S16 32) a x).toNat < S6144.size a := fun v876 k0_hw87 => k0_hw87

def k0_chk88 (v881 : IVec S16 32) : Prop :=
  (∀ a x, ((![v881] : Fin 1 → IVec S16 32) a x).toNat < S6144.size a)
theorem k0_idx88_inb : ∀ (v881 : IVec S16 32) (k0_hw88 : k0_chk88 v881), ∀ a x, ((![v881] : Fin 1 → IVec S16 32) a x).toNat < S6144.size a := fun v881 k0_hw88 => k0_hw88

def k0_chk89 (v886 : IVec S16 32) : Prop :=
  (∀ a x, ((![v886] : Fin 1 → IVec S16 32) a x).toNat < S6144.size a)
theorem k0_idx89_inb : ∀ (v886 : IVec S16 32) (k0_hw89 : k0_chk89 v886), ∀ a x, ((![v886] : Fin 1 → IVec S16 32) a x).toNat < S6144.size a := fun v886 k0_hw89 => k0_hw89

def k0_chk90 (v891 : IVec S16 32) : Prop :=
  (∀ a x, ((![v891] : Fin 1 → IVec S16 32) a x).toNat < S6144.size a)
theorem k0_idx90_inb : ∀ (v891 : IVec S16 32) (k0_hw90 : k0_chk90 v891), ∀ a x, ((![v891] : Fin 1 → IVec S16 32) a x).toNat < S6144.size a := fun v891 k0_hw90 => k0_hw90

def k0_chk91 (v896 : IVec S16 32) : Prop :=
  (∀ a x, ((![v896] : Fin 1 → IVec S16 32) a x).toNat < S6144.size a)
theorem k0_idx91_inb : ∀ (v896 : IVec S16 32) (k0_hw91 : k0_chk91 v896), ∀ a x, ((![v896] : Fin 1 → IVec S16 32) a x).toNat < S6144.size a := fun v896 k0_hw91 => k0_hw91

def k0_chk92 (v901 : IVec S16 32) : Prop :=
  (∀ a x, ((![v901] : Fin 1 → IVec S16 32) a x).toNat < S6144.size a)
theorem k0_idx92_inb : ∀ (v901 : IVec S16 32) (k0_hw92 : k0_chk92 v901), ∀ a x, ((![v901] : Fin 1 → IVec S16 32) a x).toNat < S6144.size a := fun v901 k0_hw92 => k0_hw92

def k0_chk93 (v906 : IVec S16 32) : Prop :=
  (∀ a x, ((![v906] : Fin 1 → IVec S16 32) a x).toNat < S6144.size a)
theorem k0_idx93_inb : ∀ (v906 : IVec S16 32) (k0_hw93 : k0_chk93 v906), ∀ a x, ((![v906] : Fin 1 → IVec S16 32) a x).toNat < S6144.size a := fun v906 k0_hw93 => k0_hw93

def k0_chk94 (v911 : IVec S16 32) : Prop :=
  (∀ a x, ((![v911] : Fin 1 → IVec S16 32) a x).toNat < S6144.size a)
theorem k0_idx94_inb : ∀ (v911 : IVec S16 32) (k0_hw94 : k0_chk94 v911), ∀ a x, ((![v911] : Fin 1 → IVec S16 32) a x).toNat < S6144.size a := fun v911 k0_hw94 => k0_hw94

def k0_chk95 (v916 : IVec S16 32) : Prop :=
  (∀ a x, ((![v916] : Fin 1 → IVec S16 32) a x).toNat < S6144.size a)
theorem k0_idx95_inb : ∀ (v916 : IVec S16 32) (k0_hw95 : k0_chk95 v916), ∀ a x, ((![v916] : Fin 1 → IVec S16 32) a x).toNat < S6144.size a := fun v916 k0_hw95 => k0_hw95

def k0_chk96 (v921 : IVec S16 32) : Prop :=
  (∀ a x, ((![v921] : Fin 1 → IVec S16 32) a x).toNat < S6144.size a)
theorem k0_idx96_inb : ∀ (v921 : IVec S16 32) (k0_hw96 : k0_chk96 v921), ∀ a x, ((![v921] : Fin 1 → IVec S16 32) a x).toNat < S6144.size a := fun v921 k0_hw96 => k0_hw96
def k0_off10 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let c320_i32 : BitVec 32 := 320#32
  let c0_i32_58 : BitVec 32 := 0#32
  ![v1.toNat, 0, 320, 0]
@[reducible] def k0_t5_loop : Scf.Loop 32 :=
  let c0_i32_68 : BitVec 32 := 0#32
  let c64_i32_69 : BitVec 32 := 64#32
  let v57 : BitVec 32 := Scalar.addi c0_i32_68 c64_i32_69
  let c1_i32_70 : BitVec 32 := 1#32
  ⟨c0_i32_68, v57, c1_i32_70⟩
def k0_off11 (k0_t5 : Fin k0_t5_loop.trips) (c0_i32_762 : BitVec 32) : Fin 2 → Nat :=
  let c0_i32_68 : BitVec 32 := 0#32
  let c1_i32_70 : BitVec 32 := 1#32
  let arg12 : BitVec 32 := Scf.iv c0_i32_68 c1_i32_70 k0_t5
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk97 (v766 : IVec S16 32) : Prop :=
  (∀ a x, ((![v766] : Fin 1 → IVec S16 32) a x).toNat < S6144.size a)
theorem k0_idx97_inb : ∀ (v766 : IVec S16 32) (k0_hw97 : k0_chk97 v766), ∀ a x, ((![v766] : Fin 1 → IVec S16 32) a x).toNat < S6144.size a := fun v766 k0_hw97 => k0_hw97

def k0_chk98 (v771 : IVec S16 32) : Prop :=
  (∀ a x, ((![v771] : Fin 1 → IVec S16 32) a x).toNat < S6144.size a)
theorem k0_idx98_inb : ∀ (v771 : IVec S16 32) (k0_hw98 : k0_chk98 v771), ∀ a x, ((![v771] : Fin 1 → IVec S16 32) a x).toNat < S6144.size a := fun v771 k0_hw98 => k0_hw98

def k0_chk99 (v776 : IVec S16 32) : Prop :=
  (∀ a x, ((![v776] : Fin 1 → IVec S16 32) a x).toNat < S6144.size a)
theorem k0_idx99_inb : ∀ (v776 : IVec S16 32) (k0_hw99 : k0_chk99 v776), ∀ a x, ((![v776] : Fin 1 → IVec S16 32) a x).toNat < S6144.size a := fun v776 k0_hw99 => k0_hw99

def k0_chk100 (v781 : IVec S16 32) : Prop :=
  (∀ a x, ((![v781] : Fin 1 → IVec S16 32) a x).toNat < S6144.size a)
theorem k0_idx100_inb : ∀ (v781 : IVec S16 32) (k0_hw100 : k0_chk100 v781), ∀ a x, ((![v781] : Fin 1 → IVec S16 32) a x).toNat < S6144.size a := fun v781 k0_hw100 => k0_hw100

def k0_chk101 (v786 : IVec S16 32) : Prop :=
  (∀ a x, ((![v786] : Fin 1 → IVec S16 32) a x).toNat < S6144.size a)
theorem k0_idx101_inb : ∀ (v786 : IVec S16 32) (k0_hw101 : k0_chk101 v786), ∀ a x, ((![v786] : Fin 1 → IVec S16 32) a x).toNat < S6144.size a := fun v786 k0_hw101 => k0_hw101

def k0_chk102 (v791 : IVec S16 32) : Prop :=
  (∀ a x, ((![v791] : Fin 1 → IVec S16 32) a x).toNat < S6144.size a)
theorem k0_idx102_inb : ∀ (v791 : IVec S16 32) (k0_hw102 : k0_chk102 v791), ∀ a x, ((![v791] : Fin 1 → IVec S16 32) a x).toNat < S6144.size a := fun v791 k0_hw102 => k0_hw102

def k0_chk103 (v796 : IVec S16 32) : Prop :=
  (∀ a x, ((![v796] : Fin 1 → IVec S16 32) a x).toNat < S6144.size a)
theorem k0_idx103_inb : ∀ (v796 : IVec S16 32) (k0_hw103 : k0_chk103 v796), ∀ a x, ((![v796] : Fin 1 → IVec S16 32) a x).toNat < S6144.size a := fun v796 k0_hw103 => k0_hw103

def k0_chk104 (v801 : IVec S16 32) : Prop :=
  (∀ a x, ((![v801] : Fin 1 → IVec S16 32) a x).toNat < S6144.size a)
theorem k0_idx104_inb : ∀ (v801 : IVec S16 32) (k0_hw104 : k0_chk104 v801), ∀ a x, ((![v801] : Fin 1 → IVec S16 32) a x).toNat < S6144.size a := fun v801 k0_hw104 => k0_hw104

def k0_chk105 (v806 : IVec S16 32) : Prop :=
  (∀ a x, ((![v806] : Fin 1 → IVec S16 32) a x).toNat < S6144.size a)
theorem k0_idx105_inb : ∀ (v806 : IVec S16 32) (k0_hw105 : k0_chk105 v806), ∀ a x, ((![v806] : Fin 1 → IVec S16 32) a x).toNat < S6144.size a := fun v806 k0_hw105 => k0_hw105

def k0_chk106 (v811 : IVec S16 32) : Prop :=
  (∀ a x, ((![v811] : Fin 1 → IVec S16 32) a x).toNat < S6144.size a)
theorem k0_idx106_inb : ∀ (v811 : IVec S16 32) (k0_hw106 : k0_chk106 v811), ∀ a x, ((![v811] : Fin 1 → IVec S16 32) a x).toNat < S6144.size a := fun v811 k0_hw106 => k0_hw106

def k0_chk107 (v816 : IVec S16 32) : Prop :=
  (∀ a x, ((![v816] : Fin 1 → IVec S16 32) a x).toNat < S6144.size a)
theorem k0_idx107_inb : ∀ (v816 : IVec S16 32) (k0_hw107 : k0_chk107 v816), ∀ a x, ((![v816] : Fin 1 → IVec S16 32) a x).toNat < S6144.size a := fun v816 k0_hw107 => k0_hw107

def k0_chk108 (v821 : IVec S16 32) : Prop :=
  (∀ a x, ((![v821] : Fin 1 → IVec S16 32) a x).toNat < S6144.size a)
theorem k0_idx108_inb : ∀ (v821 : IVec S16 32) (k0_hw108 : k0_chk108 v821), ∀ a x, ((![v821] : Fin 1 → IVec S16 32) a x).toNat < S6144.size a := fun v821 k0_hw108 => k0_hw108

def k0_chk109 (v826 : IVec S16 32) : Prop :=
  (∀ a x, ((![v826] : Fin 1 → IVec S16 32) a x).toNat < S6144.size a)
theorem k0_idx109_inb : ∀ (v826 : IVec S16 32) (k0_hw109 : k0_chk109 v826), ∀ a x, ((![v826] : Fin 1 → IVec S16 32) a x).toNat < S6144.size a := fun v826 k0_hw109 => k0_hw109

def k0_chk110 (v831 : IVec S16 32) : Prop :=
  (∀ a x, ((![v831] : Fin 1 → IVec S16 32) a x).toNat < S6144.size a)
theorem k0_idx110_inb : ∀ (v831 : IVec S16 32) (k0_hw110 : k0_chk110 v831), ∀ a x, ((![v831] : Fin 1 → IVec S16 32) a x).toNat < S6144.size a := fun v831 k0_hw110 => k0_hw110

def k0_chk111 (v836 : IVec S16 32) : Prop :=
  (∀ a x, ((![v836] : Fin 1 → IVec S16 32) a x).toNat < S6144.size a)
theorem k0_idx111_inb : ∀ (v836 : IVec S16 32) (k0_hw111 : k0_chk111 v836), ∀ a x, ((![v836] : Fin 1 → IVec S16 32) a x).toNat < S6144.size a := fun v836 k0_hw111 => k0_hw111

def k0_chk112 (v841 : IVec S16 32) : Prop :=
  (∀ a x, ((![v841] : Fin 1 → IVec S16 32) a x).toNat < S6144.size a)
theorem k0_idx112_inb : ∀ (v841 : IVec S16 32) (k0_hw112 : k0_chk112 v841), ∀ a x, ((![v841] : Fin 1 → IVec S16 32) a x).toNat < S6144.size a := fun v841 k0_hw112 => k0_hw112

def k0_chk113 (v846 : IVec S16 32) : Prop :=
  (∀ a x, ((![v846] : Fin 1 → IVec S16 32) a x).toNat < S6144.size a)
theorem k0_idx113_inb : ∀ (v846 : IVec S16 32) (k0_hw113 : k0_chk113 v846), ∀ a x, ((![v846] : Fin 1 → IVec S16 32) a x).toNat < S6144.size a := fun v846 k0_hw113 => k0_hw113

def k0_chk114 (v851 : IVec S16 32) : Prop :=
  (∀ a x, ((![v851] : Fin 1 → IVec S16 32) a x).toNat < S6144.size a)
theorem k0_idx114_inb : ∀ (v851 : IVec S16 32) (k0_hw114 : k0_chk114 v851), ∀ a x, ((![v851] : Fin 1 → IVec S16 32) a x).toNat < S6144.size a := fun v851 k0_hw114 => k0_hw114

def k0_chk115 (v856 : IVec S16 32) : Prop :=
  (∀ a x, ((![v856] : Fin 1 → IVec S16 32) a x).toNat < S6144.size a)
theorem k0_idx115_inb : ∀ (v856 : IVec S16 32) (k0_hw115 : k0_chk115 v856), ∀ a x, ((![v856] : Fin 1 → IVec S16 32) a x).toNat < S6144.size a := fun v856 k0_hw115 => k0_hw115

def k0_chk116 (v861 : IVec S16 32) : Prop :=
  (∀ a x, ((![v861] : Fin 1 → IVec S16 32) a x).toNat < S6144.size a)
theorem k0_idx116_inb : ∀ (v861 : IVec S16 32) (k0_hw116 : k0_chk116 v861), ∀ a x, ((![v861] : Fin 1 → IVec S16 32) a x).toNat < S6144.size a := fun v861 k0_hw116 => k0_hw116

def k0_chk117 (v866 : IVec S16 32) : Prop :=
  (∀ a x, ((![v866] : Fin 1 → IVec S16 32) a x).toNat < S6144.size a)
theorem k0_idx117_inb : ∀ (v866 : IVec S16 32) (k0_hw117 : k0_chk117 v866), ∀ a x, ((![v866] : Fin 1 → IVec S16 32) a x).toNat < S6144.size a := fun v866 k0_hw117 => k0_hw117

def k0_chk118 (v871 : IVec S16 32) : Prop :=
  (∀ a x, ((![v871] : Fin 1 → IVec S16 32) a x).toNat < S6144.size a)
theorem k0_idx118_inb : ∀ (v871 : IVec S16 32) (k0_hw118 : k0_chk118 v871), ∀ a x, ((![v871] : Fin 1 → IVec S16 32) a x).toNat < S6144.size a := fun v871 k0_hw118 => k0_hw118

def k0_chk119 (v876 : IVec S16 32) : Prop :=
  (∀ a x, ((![v876] : Fin 1 → IVec S16 32) a x).toNat < S6144.size a)
theorem k0_idx119_inb : ∀ (v876 : IVec S16 32) (k0_hw119 : k0_chk119 v876), ∀ a x, ((![v876] : Fin 1 → IVec S16 32) a x).toNat < S6144.size a := fun v876 k0_hw119 => k0_hw119

def k0_chk120 (v881 : IVec S16 32) : Prop :=
  (∀ a x, ((![v881] : Fin 1 → IVec S16 32) a x).toNat < S6144.size a)
theorem k0_idx120_inb : ∀ (v881 : IVec S16 32) (k0_hw120 : k0_chk120 v881), ∀ a x, ((![v881] : Fin 1 → IVec S16 32) a x).toNat < S6144.size a := fun v881 k0_hw120 => k0_hw120

def k0_chk121 (v886 : IVec S16 32) : Prop :=
  (∀ a x, ((![v886] : Fin 1 → IVec S16 32) a x).toNat < S6144.size a)
theorem k0_idx121_inb : ∀ (v886 : IVec S16 32) (k0_hw121 : k0_chk121 v886), ∀ a x, ((![v886] : Fin 1 → IVec S16 32) a x).toNat < S6144.size a := fun v886 k0_hw121 => k0_hw121

def k0_chk122 (v891 : IVec S16 32) : Prop :=
  (∀ a x, ((![v891] : Fin 1 → IVec S16 32) a x).toNat < S6144.size a)
theorem k0_idx122_inb : ∀ (v891 : IVec S16 32) (k0_hw122 : k0_chk122 v891), ∀ a x, ((![v891] : Fin 1 → IVec S16 32) a x).toNat < S6144.size a := fun v891 k0_hw122 => k0_hw122

def k0_chk123 (v896 : IVec S16 32) : Prop :=
  (∀ a x, ((![v896] : Fin 1 → IVec S16 32) a x).toNat < S6144.size a)
theorem k0_idx123_inb : ∀ (v896 : IVec S16 32) (k0_hw123 : k0_chk123 v896), ∀ a x, ((![v896] : Fin 1 → IVec S16 32) a x).toNat < S6144.size a := fun v896 k0_hw123 => k0_hw123

def k0_chk124 (v901 : IVec S16 32) : Prop :=
  (∀ a x, ((![v901] : Fin 1 → IVec S16 32) a x).toNat < S6144.size a)
theorem k0_idx124_inb : ∀ (v901 : IVec S16 32) (k0_hw124 : k0_chk124 v901), ∀ a x, ((![v901] : Fin 1 → IVec S16 32) a x).toNat < S6144.size a := fun v901 k0_hw124 => k0_hw124

def k0_chk125 (v906 : IVec S16 32) : Prop :=
  (∀ a x, ((![v906] : Fin 1 → IVec S16 32) a x).toNat < S6144.size a)
theorem k0_idx125_inb : ∀ (v906 : IVec S16 32) (k0_hw125 : k0_chk125 v906), ∀ a x, ((![v906] : Fin 1 → IVec S16 32) a x).toNat < S6144.size a := fun v906 k0_hw125 => k0_hw125

def k0_chk126 (v911 : IVec S16 32) : Prop :=
  (∀ a x, ((![v911] : Fin 1 → IVec S16 32) a x).toNat < S6144.size a)
theorem k0_idx126_inb : ∀ (v911 : IVec S16 32) (k0_hw126 : k0_chk126 v911), ∀ a x, ((![v911] : Fin 1 → IVec S16 32) a x).toNat < S6144.size a := fun v911 k0_hw126 => k0_hw126

def k0_chk127 (v916 : IVec S16 32) : Prop :=
  (∀ a x, ((![v916] : Fin 1 → IVec S16 32) a x).toNat < S6144.size a)
theorem k0_idx127_inb : ∀ (v916 : IVec S16 32) (k0_hw127 : k0_chk127 v916), ∀ a x, ((![v916] : Fin 1 → IVec S16 32) a x).toNat < S6144.size a := fun v916 k0_hw127 => k0_hw127

def k0_chk128 (v921 : IVec S16 32) : Prop :=
  (∀ a x, ((![v921] : Fin 1 → IVec S16 32) a x).toNat < S6144.size a)
theorem k0_idx128_inb : ∀ (v921 : IVec S16 32) (k0_hw128 : k0_chk128 v921), ∀ a x, ((![v921] : Fin 1 → IVec S16 32) a x).toNat < S6144.size a := fun v921 k0_hw128 => k0_hw128
def k0_off12 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_72 : BitVec 32 := 0#32
  let c384_i32_73 : BitVec 32 := 384#32
  let c0_i32_74 : BitVec 32 := 0#32
  ![v1.toNat, 0, 384, 0]
@[reducible] def k0_t6_loop : Scf.Loop 32 :=
  let c0_i32_84 : BitVec 32 := 0#32
  let c64_i32_85 : BitVec 32 := 64#32
  let v68 : BitVec 32 := Scalar.addi c0_i32_84 c64_i32_85
  let c1_i32_86 : BitVec 32 := 1#32
  ⟨c0_i32_84, v68, c1_i32_86⟩
def k0_off13 (k0_t6 : Fin k0_t6_loop.trips) (c0_i32_762 : BitVec 32) : Fin 2 → Nat :=
  let c0_i32_84 : BitVec 32 := 0#32
  let c1_i32_86 : BitVec 32 := 1#32
  let arg12 : BitVec 32 := Scf.iv c0_i32_84 c1_i32_86 k0_t6
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk129 (v766 : IVec S16 32) : Prop :=
  (∀ a x, ((![v766] : Fin 1 → IVec S16 32) a x).toNat < S6144.size a)
theorem k0_idx129_inb : ∀ (v766 : IVec S16 32) (k0_hw129 : k0_chk129 v766), ∀ a x, ((![v766] : Fin 1 → IVec S16 32) a x).toNat < S6144.size a := fun v766 k0_hw129 => k0_hw129

def k0_chk130 (v771 : IVec S16 32) : Prop :=
  (∀ a x, ((![v771] : Fin 1 → IVec S16 32) a x).toNat < S6144.size a)
theorem k0_idx130_inb : ∀ (v771 : IVec S16 32) (k0_hw130 : k0_chk130 v771), ∀ a x, ((![v771] : Fin 1 → IVec S16 32) a x).toNat < S6144.size a := fun v771 k0_hw130 => k0_hw130

def k0_chk131 (v776 : IVec S16 32) : Prop :=
  (∀ a x, ((![v776] : Fin 1 → IVec S16 32) a x).toNat < S6144.size a)
theorem k0_idx131_inb : ∀ (v776 : IVec S16 32) (k0_hw131 : k0_chk131 v776), ∀ a x, ((![v776] : Fin 1 → IVec S16 32) a x).toNat < S6144.size a := fun v776 k0_hw131 => k0_hw131

def k0_chk132 (v781 : IVec S16 32) : Prop :=
  (∀ a x, ((![v781] : Fin 1 → IVec S16 32) a x).toNat < S6144.size a)
theorem k0_idx132_inb : ∀ (v781 : IVec S16 32) (k0_hw132 : k0_chk132 v781), ∀ a x, ((![v781] : Fin 1 → IVec S16 32) a x).toNat < S6144.size a := fun v781 k0_hw132 => k0_hw132

def k0_chk133 (v786 : IVec S16 32) : Prop :=
  (∀ a x, ((![v786] : Fin 1 → IVec S16 32) a x).toNat < S6144.size a)
theorem k0_idx133_inb : ∀ (v786 : IVec S16 32) (k0_hw133 : k0_chk133 v786), ∀ a x, ((![v786] : Fin 1 → IVec S16 32) a x).toNat < S6144.size a := fun v786 k0_hw133 => k0_hw133

def k0_chk134 (v791 : IVec S16 32) : Prop :=
  (∀ a x, ((![v791] : Fin 1 → IVec S16 32) a x).toNat < S6144.size a)
theorem k0_idx134_inb : ∀ (v791 : IVec S16 32) (k0_hw134 : k0_chk134 v791), ∀ a x, ((![v791] : Fin 1 → IVec S16 32) a x).toNat < S6144.size a := fun v791 k0_hw134 => k0_hw134

def k0_chk135 (v796 : IVec S16 32) : Prop :=
  (∀ a x, ((![v796] : Fin 1 → IVec S16 32) a x).toNat < S6144.size a)
theorem k0_idx135_inb : ∀ (v796 : IVec S16 32) (k0_hw135 : k0_chk135 v796), ∀ a x, ((![v796] : Fin 1 → IVec S16 32) a x).toNat < S6144.size a := fun v796 k0_hw135 => k0_hw135

def k0_chk136 (v801 : IVec S16 32) : Prop :=
  (∀ a x, ((![v801] : Fin 1 → IVec S16 32) a x).toNat < S6144.size a)
theorem k0_idx136_inb : ∀ (v801 : IVec S16 32) (k0_hw136 : k0_chk136 v801), ∀ a x, ((![v801] : Fin 1 → IVec S16 32) a x).toNat < S6144.size a := fun v801 k0_hw136 => k0_hw136

def k0_chk137 (v806 : IVec S16 32) : Prop :=
  (∀ a x, ((![v806] : Fin 1 → IVec S16 32) a x).toNat < S6144.size a)
theorem k0_idx137_inb : ∀ (v806 : IVec S16 32) (k0_hw137 : k0_chk137 v806), ∀ a x, ((![v806] : Fin 1 → IVec S16 32) a x).toNat < S6144.size a := fun v806 k0_hw137 => k0_hw137

def k0_chk138 (v811 : IVec S16 32) : Prop :=
  (∀ a x, ((![v811] : Fin 1 → IVec S16 32) a x).toNat < S6144.size a)
theorem k0_idx138_inb : ∀ (v811 : IVec S16 32) (k0_hw138 : k0_chk138 v811), ∀ a x, ((![v811] : Fin 1 → IVec S16 32) a x).toNat < S6144.size a := fun v811 k0_hw138 => k0_hw138

def k0_chk139 (v816 : IVec S16 32) : Prop :=
  (∀ a x, ((![v816] : Fin 1 → IVec S16 32) a x).toNat < S6144.size a)
theorem k0_idx139_inb : ∀ (v816 : IVec S16 32) (k0_hw139 : k0_chk139 v816), ∀ a x, ((![v816] : Fin 1 → IVec S16 32) a x).toNat < S6144.size a := fun v816 k0_hw139 => k0_hw139

def k0_chk140 (v821 : IVec S16 32) : Prop :=
  (∀ a x, ((![v821] : Fin 1 → IVec S16 32) a x).toNat < S6144.size a)
theorem k0_idx140_inb : ∀ (v821 : IVec S16 32) (k0_hw140 : k0_chk140 v821), ∀ a x, ((![v821] : Fin 1 → IVec S16 32) a x).toNat < S6144.size a := fun v821 k0_hw140 => k0_hw140

def k0_chk141 (v826 : IVec S16 32) : Prop :=
  (∀ a x, ((![v826] : Fin 1 → IVec S16 32) a x).toNat < S6144.size a)
theorem k0_idx141_inb : ∀ (v826 : IVec S16 32) (k0_hw141 : k0_chk141 v826), ∀ a x, ((![v826] : Fin 1 → IVec S16 32) a x).toNat < S6144.size a := fun v826 k0_hw141 => k0_hw141

def k0_chk142 (v831 : IVec S16 32) : Prop :=
  (∀ a x, ((![v831] : Fin 1 → IVec S16 32) a x).toNat < S6144.size a)
theorem k0_idx142_inb : ∀ (v831 : IVec S16 32) (k0_hw142 : k0_chk142 v831), ∀ a x, ((![v831] : Fin 1 → IVec S16 32) a x).toNat < S6144.size a := fun v831 k0_hw142 => k0_hw142

def k0_chk143 (v836 : IVec S16 32) : Prop :=
  (∀ a x, ((![v836] : Fin 1 → IVec S16 32) a x).toNat < S6144.size a)
theorem k0_idx143_inb : ∀ (v836 : IVec S16 32) (k0_hw143 : k0_chk143 v836), ∀ a x, ((![v836] : Fin 1 → IVec S16 32) a x).toNat < S6144.size a := fun v836 k0_hw143 => k0_hw143

def k0_chk144 (v841 : IVec S16 32) : Prop :=
  (∀ a x, ((![v841] : Fin 1 → IVec S16 32) a x).toNat < S6144.size a)
theorem k0_idx144_inb : ∀ (v841 : IVec S16 32) (k0_hw144 : k0_chk144 v841), ∀ a x, ((![v841] : Fin 1 → IVec S16 32) a x).toNat < S6144.size a := fun v841 k0_hw144 => k0_hw144

def k0_chk145 (v846 : IVec S16 32) : Prop :=
  (∀ a x, ((![v846] : Fin 1 → IVec S16 32) a x).toNat < S6144.size a)
theorem k0_idx145_inb : ∀ (v846 : IVec S16 32) (k0_hw145 : k0_chk145 v846), ∀ a x, ((![v846] : Fin 1 → IVec S16 32) a x).toNat < S6144.size a := fun v846 k0_hw145 => k0_hw145

def k0_chk146 (v851 : IVec S16 32) : Prop :=
  (∀ a x, ((![v851] : Fin 1 → IVec S16 32) a x).toNat < S6144.size a)
theorem k0_idx146_inb : ∀ (v851 : IVec S16 32) (k0_hw146 : k0_chk146 v851), ∀ a x, ((![v851] : Fin 1 → IVec S16 32) a x).toNat < S6144.size a := fun v851 k0_hw146 => k0_hw146

def k0_chk147 (v856 : IVec S16 32) : Prop :=
  (∀ a x, ((![v856] : Fin 1 → IVec S16 32) a x).toNat < S6144.size a)
theorem k0_idx147_inb : ∀ (v856 : IVec S16 32) (k0_hw147 : k0_chk147 v856), ∀ a x, ((![v856] : Fin 1 → IVec S16 32) a x).toNat < S6144.size a := fun v856 k0_hw147 => k0_hw147

def k0_chk148 (v861 : IVec S16 32) : Prop :=
  (∀ a x, ((![v861] : Fin 1 → IVec S16 32) a x).toNat < S6144.size a)
theorem k0_idx148_inb : ∀ (v861 : IVec S16 32) (k0_hw148 : k0_chk148 v861), ∀ a x, ((![v861] : Fin 1 → IVec S16 32) a x).toNat < S6144.size a := fun v861 k0_hw148 => k0_hw148

def k0_chk149 (v866 : IVec S16 32) : Prop :=
  (∀ a x, ((![v866] : Fin 1 → IVec S16 32) a x).toNat < S6144.size a)
theorem k0_idx149_inb : ∀ (v866 : IVec S16 32) (k0_hw149 : k0_chk149 v866), ∀ a x, ((![v866] : Fin 1 → IVec S16 32) a x).toNat < S6144.size a := fun v866 k0_hw149 => k0_hw149

def k0_chk150 (v871 : IVec S16 32) : Prop :=
  (∀ a x, ((![v871] : Fin 1 → IVec S16 32) a x).toNat < S6144.size a)
theorem k0_idx150_inb : ∀ (v871 : IVec S16 32) (k0_hw150 : k0_chk150 v871), ∀ a x, ((![v871] : Fin 1 → IVec S16 32) a x).toNat < S6144.size a := fun v871 k0_hw150 => k0_hw150

def k0_chk151 (v876 : IVec S16 32) : Prop :=
  (∀ a x, ((![v876] : Fin 1 → IVec S16 32) a x).toNat < S6144.size a)
theorem k0_idx151_inb : ∀ (v876 : IVec S16 32) (k0_hw151 : k0_chk151 v876), ∀ a x, ((![v876] : Fin 1 → IVec S16 32) a x).toNat < S6144.size a := fun v876 k0_hw151 => k0_hw151

def k0_chk152 (v881 : IVec S16 32) : Prop :=
  (∀ a x, ((![v881] : Fin 1 → IVec S16 32) a x).toNat < S6144.size a)
theorem k0_idx152_inb : ∀ (v881 : IVec S16 32) (k0_hw152 : k0_chk152 v881), ∀ a x, ((![v881] : Fin 1 → IVec S16 32) a x).toNat < S6144.size a := fun v881 k0_hw152 => k0_hw152

def k0_chk153 (v886 : IVec S16 32) : Prop :=
  (∀ a x, ((![v886] : Fin 1 → IVec S16 32) a x).toNat < S6144.size a)
theorem k0_idx153_inb : ∀ (v886 : IVec S16 32) (k0_hw153 : k0_chk153 v886), ∀ a x, ((![v886] : Fin 1 → IVec S16 32) a x).toNat < S6144.size a := fun v886 k0_hw153 => k0_hw153

def k0_chk154 (v891 : IVec S16 32) : Prop :=
  (∀ a x, ((![v891] : Fin 1 → IVec S16 32) a x).toNat < S6144.size a)
theorem k0_idx154_inb : ∀ (v891 : IVec S16 32) (k0_hw154 : k0_chk154 v891), ∀ a x, ((![v891] : Fin 1 → IVec S16 32) a x).toNat < S6144.size a := fun v891 k0_hw154 => k0_hw154

def k0_chk155 (v896 : IVec S16 32) : Prop :=
  (∀ a x, ((![v896] : Fin 1 → IVec S16 32) a x).toNat < S6144.size a)
theorem k0_idx155_inb : ∀ (v896 : IVec S16 32) (k0_hw155 : k0_chk155 v896), ∀ a x, ((![v896] : Fin 1 → IVec S16 32) a x).toNat < S6144.size a := fun v896 k0_hw155 => k0_hw155

def k0_chk156 (v901 : IVec S16 32) : Prop :=
  (∀ a x, ((![v901] : Fin 1 → IVec S16 32) a x).toNat < S6144.size a)
theorem k0_idx156_inb : ∀ (v901 : IVec S16 32) (k0_hw156 : k0_chk156 v901), ∀ a x, ((![v901] : Fin 1 → IVec S16 32) a x).toNat < S6144.size a := fun v901 k0_hw156 => k0_hw156

def k0_chk157 (v906 : IVec S16 32) : Prop :=
  (∀ a x, ((![v906] : Fin 1 → IVec S16 32) a x).toNat < S6144.size a)
theorem k0_idx157_inb : ∀ (v906 : IVec S16 32) (k0_hw157 : k0_chk157 v906), ∀ a x, ((![v906] : Fin 1 → IVec S16 32) a x).toNat < S6144.size a := fun v906 k0_hw157 => k0_hw157

def k0_chk158 (v911 : IVec S16 32) : Prop :=
  (∀ a x, ((![v911] : Fin 1 → IVec S16 32) a x).toNat < S6144.size a)
theorem k0_idx158_inb : ∀ (v911 : IVec S16 32) (k0_hw158 : k0_chk158 v911), ∀ a x, ((![v911] : Fin 1 → IVec S16 32) a x).toNat < S6144.size a := fun v911 k0_hw158 => k0_hw158

def k0_chk159 (v916 : IVec S16 32) : Prop :=
  (∀ a x, ((![v916] : Fin 1 → IVec S16 32) a x).toNat < S6144.size a)
theorem k0_idx159_inb : ∀ (v916 : IVec S16 32) (k0_hw159 : k0_chk159 v916), ∀ a x, ((![v916] : Fin 1 → IVec S16 32) a x).toNat < S6144.size a := fun v916 k0_hw159 => k0_hw159

def k0_chk160 (v921 : IVec S16 32) : Prop :=
  (∀ a x, ((![v921] : Fin 1 → IVec S16 32) a x).toNat < S6144.size a)
theorem k0_idx160_inb : ∀ (v921 : IVec S16 32) (k0_hw160 : k0_chk160 v921), ∀ a x, ((![v921] : Fin 1 → IVec S16 32) a x).toNat < S6144.size a := fun v921 k0_hw160 => k0_hw160
def k0_off14 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_88 : BitVec 32 := 0#32
  let c448_i32 : BitVec 32 := 448#32
  let c0_i32_89 : BitVec 32 := 0#32
  ![v1.toNat, 0, 448, 0]
@[reducible] def k0_t7_loop : Scf.Loop 32 :=
  let c0_i32_99 : BitVec 32 := 0#32
  let c64_i32_100 : BitVec 32 := 64#32
  let v79 : BitVec 32 := Scalar.addi c0_i32_99 c64_i32_100
  let c1_i32_101 : BitVec 32 := 1#32
  ⟨c0_i32_99, v79, c1_i32_101⟩
def k0_off15 (k0_t7 : Fin k0_t7_loop.trips) (c0_i32_762 : BitVec 32) : Fin 2 → Nat :=
  let c0_i32_99 : BitVec 32 := 0#32
  let c1_i32_101 : BitVec 32 := 1#32
  let arg12 : BitVec 32 := Scf.iv c0_i32_99 c1_i32_101 k0_t7
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk161 (v766 : IVec S16 32) : Prop :=
  (∀ a x, ((![v766] : Fin 1 → IVec S16 32) a x).toNat < S6144.size a)
theorem k0_idx161_inb : ∀ (v766 : IVec S16 32) (k0_hw161 : k0_chk161 v766), ∀ a x, ((![v766] : Fin 1 → IVec S16 32) a x).toNat < S6144.size a := fun v766 k0_hw161 => k0_hw161

def k0_chk162 (v771 : IVec S16 32) : Prop :=
  (∀ a x, ((![v771] : Fin 1 → IVec S16 32) a x).toNat < S6144.size a)
theorem k0_idx162_inb : ∀ (v771 : IVec S16 32) (k0_hw162 : k0_chk162 v771), ∀ a x, ((![v771] : Fin 1 → IVec S16 32) a x).toNat < S6144.size a := fun v771 k0_hw162 => k0_hw162

def k0_chk163 (v776 : IVec S16 32) : Prop :=
  (∀ a x, ((![v776] : Fin 1 → IVec S16 32) a x).toNat < S6144.size a)
theorem k0_idx163_inb : ∀ (v776 : IVec S16 32) (k0_hw163 : k0_chk163 v776), ∀ a x, ((![v776] : Fin 1 → IVec S16 32) a x).toNat < S6144.size a := fun v776 k0_hw163 => k0_hw163

def k0_chk164 (v781 : IVec S16 32) : Prop :=
  (∀ a x, ((![v781] : Fin 1 → IVec S16 32) a x).toNat < S6144.size a)
theorem k0_idx164_inb : ∀ (v781 : IVec S16 32) (k0_hw164 : k0_chk164 v781), ∀ a x, ((![v781] : Fin 1 → IVec S16 32) a x).toNat < S6144.size a := fun v781 k0_hw164 => k0_hw164

def k0_chk165 (v786 : IVec S16 32) : Prop :=
  (∀ a x, ((![v786] : Fin 1 → IVec S16 32) a x).toNat < S6144.size a)
theorem k0_idx165_inb : ∀ (v786 : IVec S16 32) (k0_hw165 : k0_chk165 v786), ∀ a x, ((![v786] : Fin 1 → IVec S16 32) a x).toNat < S6144.size a := fun v786 k0_hw165 => k0_hw165

def k0_chk166 (v791 : IVec S16 32) : Prop :=
  (∀ a x, ((![v791] : Fin 1 → IVec S16 32) a x).toNat < S6144.size a)
theorem k0_idx166_inb : ∀ (v791 : IVec S16 32) (k0_hw166 : k0_chk166 v791), ∀ a x, ((![v791] : Fin 1 → IVec S16 32) a x).toNat < S6144.size a := fun v791 k0_hw166 => k0_hw166

def k0_chk167 (v796 : IVec S16 32) : Prop :=
  (∀ a x, ((![v796] : Fin 1 → IVec S16 32) a x).toNat < S6144.size a)
theorem k0_idx167_inb : ∀ (v796 : IVec S16 32) (k0_hw167 : k0_chk167 v796), ∀ a x, ((![v796] : Fin 1 → IVec S16 32) a x).toNat < S6144.size a := fun v796 k0_hw167 => k0_hw167

def k0_chk168 (v801 : IVec S16 32) : Prop :=
  (∀ a x, ((![v801] : Fin 1 → IVec S16 32) a x).toNat < S6144.size a)
theorem k0_idx168_inb : ∀ (v801 : IVec S16 32) (k0_hw168 : k0_chk168 v801), ∀ a x, ((![v801] : Fin 1 → IVec S16 32) a x).toNat < S6144.size a := fun v801 k0_hw168 => k0_hw168

def k0_chk169 (v806 : IVec S16 32) : Prop :=
  (∀ a x, ((![v806] : Fin 1 → IVec S16 32) a x).toNat < S6144.size a)
theorem k0_idx169_inb : ∀ (v806 : IVec S16 32) (k0_hw169 : k0_chk169 v806), ∀ a x, ((![v806] : Fin 1 → IVec S16 32) a x).toNat < S6144.size a := fun v806 k0_hw169 => k0_hw169

def k0_chk170 (v811 : IVec S16 32) : Prop :=
  (∀ a x, ((![v811] : Fin 1 → IVec S16 32) a x).toNat < S6144.size a)
theorem k0_idx170_inb : ∀ (v811 : IVec S16 32) (k0_hw170 : k0_chk170 v811), ∀ a x, ((![v811] : Fin 1 → IVec S16 32) a x).toNat < S6144.size a := fun v811 k0_hw170 => k0_hw170

def k0_chk171 (v816 : IVec S16 32) : Prop :=
  (∀ a x, ((![v816] : Fin 1 → IVec S16 32) a x).toNat < S6144.size a)
theorem k0_idx171_inb : ∀ (v816 : IVec S16 32) (k0_hw171 : k0_chk171 v816), ∀ a x, ((![v816] : Fin 1 → IVec S16 32) a x).toNat < S6144.size a := fun v816 k0_hw171 => k0_hw171

def k0_chk172 (v821 : IVec S16 32) : Prop :=
  (∀ a x, ((![v821] : Fin 1 → IVec S16 32) a x).toNat < S6144.size a)
theorem k0_idx172_inb : ∀ (v821 : IVec S16 32) (k0_hw172 : k0_chk172 v821), ∀ a x, ((![v821] : Fin 1 → IVec S16 32) a x).toNat < S6144.size a := fun v821 k0_hw172 => k0_hw172

def k0_chk173 (v826 : IVec S16 32) : Prop :=
  (∀ a x, ((![v826] : Fin 1 → IVec S16 32) a x).toNat < S6144.size a)
theorem k0_idx173_inb : ∀ (v826 : IVec S16 32) (k0_hw173 : k0_chk173 v826), ∀ a x, ((![v826] : Fin 1 → IVec S16 32) a x).toNat < S6144.size a := fun v826 k0_hw173 => k0_hw173

def k0_chk174 (v831 : IVec S16 32) : Prop :=
  (∀ a x, ((![v831] : Fin 1 → IVec S16 32) a x).toNat < S6144.size a)
theorem k0_idx174_inb : ∀ (v831 : IVec S16 32) (k0_hw174 : k0_chk174 v831), ∀ a x, ((![v831] : Fin 1 → IVec S16 32) a x).toNat < S6144.size a := fun v831 k0_hw174 => k0_hw174

def k0_chk175 (v836 : IVec S16 32) : Prop :=
  (∀ a x, ((![v836] : Fin 1 → IVec S16 32) a x).toNat < S6144.size a)
theorem k0_idx175_inb : ∀ (v836 : IVec S16 32) (k0_hw175 : k0_chk175 v836), ∀ a x, ((![v836] : Fin 1 → IVec S16 32) a x).toNat < S6144.size a := fun v836 k0_hw175 => k0_hw175

def k0_chk176 (v841 : IVec S16 32) : Prop :=
  (∀ a x, ((![v841] : Fin 1 → IVec S16 32) a x).toNat < S6144.size a)
theorem k0_idx176_inb : ∀ (v841 : IVec S16 32) (k0_hw176 : k0_chk176 v841), ∀ a x, ((![v841] : Fin 1 → IVec S16 32) a x).toNat < S6144.size a := fun v841 k0_hw176 => k0_hw176

def k0_chk177 (v846 : IVec S16 32) : Prop :=
  (∀ a x, ((![v846] : Fin 1 → IVec S16 32) a x).toNat < S6144.size a)
theorem k0_idx177_inb : ∀ (v846 : IVec S16 32) (k0_hw177 : k0_chk177 v846), ∀ a x, ((![v846] : Fin 1 → IVec S16 32) a x).toNat < S6144.size a := fun v846 k0_hw177 => k0_hw177

def k0_chk178 (v851 : IVec S16 32) : Prop :=
  (∀ a x, ((![v851] : Fin 1 → IVec S16 32) a x).toNat < S6144.size a)
theorem k0_idx178_inb : ∀ (v851 : IVec S16 32) (k0_hw178 : k0_chk178 v851), ∀ a x, ((![v851] : Fin 1 → IVec S16 32) a x).toNat < S6144.size a := fun v851 k0_hw178 => k0_hw178

def k0_chk179 (v856 : IVec S16 32) : Prop :=
  (∀ a x, ((![v856] : Fin 1 → IVec S16 32) a x).toNat < S6144.size a)
theorem k0_idx179_inb : ∀ (v856 : IVec S16 32) (k0_hw179 : k0_chk179 v856), ∀ a x, ((![v856] : Fin 1 → IVec S16 32) a x).toNat < S6144.size a := fun v856 k0_hw179 => k0_hw179

def k0_chk180 (v861 : IVec S16 32) : Prop :=
  (∀ a x, ((![v861] : Fin 1 → IVec S16 32) a x).toNat < S6144.size a)
theorem k0_idx180_inb : ∀ (v861 : IVec S16 32) (k0_hw180 : k0_chk180 v861), ∀ a x, ((![v861] : Fin 1 → IVec S16 32) a x).toNat < S6144.size a := fun v861 k0_hw180 => k0_hw180

def k0_chk181 (v866 : IVec S16 32) : Prop :=
  (∀ a x, ((![v866] : Fin 1 → IVec S16 32) a x).toNat < S6144.size a)
theorem k0_idx181_inb : ∀ (v866 : IVec S16 32) (k0_hw181 : k0_chk181 v866), ∀ a x, ((![v866] : Fin 1 → IVec S16 32) a x).toNat < S6144.size a := fun v866 k0_hw181 => k0_hw181

def k0_chk182 (v871 : IVec S16 32) : Prop :=
  (∀ a x, ((![v871] : Fin 1 → IVec S16 32) a x).toNat < S6144.size a)
theorem k0_idx182_inb : ∀ (v871 : IVec S16 32) (k0_hw182 : k0_chk182 v871), ∀ a x, ((![v871] : Fin 1 → IVec S16 32) a x).toNat < S6144.size a := fun v871 k0_hw182 => k0_hw182

def k0_chk183 (v876 : IVec S16 32) : Prop :=
  (∀ a x, ((![v876] : Fin 1 → IVec S16 32) a x).toNat < S6144.size a)
theorem k0_idx183_inb : ∀ (v876 : IVec S16 32) (k0_hw183 : k0_chk183 v876), ∀ a x, ((![v876] : Fin 1 → IVec S16 32) a x).toNat < S6144.size a := fun v876 k0_hw183 => k0_hw183

def k0_chk184 (v881 : IVec S16 32) : Prop :=
  (∀ a x, ((![v881] : Fin 1 → IVec S16 32) a x).toNat < S6144.size a)
theorem k0_idx184_inb : ∀ (v881 : IVec S16 32) (k0_hw184 : k0_chk184 v881), ∀ a x, ((![v881] : Fin 1 → IVec S16 32) a x).toNat < S6144.size a := fun v881 k0_hw184 => k0_hw184

def k0_chk185 (v886 : IVec S16 32) : Prop :=
  (∀ a x, ((![v886] : Fin 1 → IVec S16 32) a x).toNat < S6144.size a)
theorem k0_idx185_inb : ∀ (v886 : IVec S16 32) (k0_hw185 : k0_chk185 v886), ∀ a x, ((![v886] : Fin 1 → IVec S16 32) a x).toNat < S6144.size a := fun v886 k0_hw185 => k0_hw185

def k0_chk186 (v891 : IVec S16 32) : Prop :=
  (∀ a x, ((![v891] : Fin 1 → IVec S16 32) a x).toNat < S6144.size a)
theorem k0_idx186_inb : ∀ (v891 : IVec S16 32) (k0_hw186 : k0_chk186 v891), ∀ a x, ((![v891] : Fin 1 → IVec S16 32) a x).toNat < S6144.size a := fun v891 k0_hw186 => k0_hw186

def k0_chk187 (v896 : IVec S16 32) : Prop :=
  (∀ a x, ((![v896] : Fin 1 → IVec S16 32) a x).toNat < S6144.size a)
theorem k0_idx187_inb : ∀ (v896 : IVec S16 32) (k0_hw187 : k0_chk187 v896), ∀ a x, ((![v896] : Fin 1 → IVec S16 32) a x).toNat < S6144.size a := fun v896 k0_hw187 => k0_hw187

def k0_chk188 (v901 : IVec S16 32) : Prop :=
  (∀ a x, ((![v901] : Fin 1 → IVec S16 32) a x).toNat < S6144.size a)
theorem k0_idx188_inb : ∀ (v901 : IVec S16 32) (k0_hw188 : k0_chk188 v901), ∀ a x, ((![v901] : Fin 1 → IVec S16 32) a x).toNat < S6144.size a := fun v901 k0_hw188 => k0_hw188

def k0_chk189 (v906 : IVec S16 32) : Prop :=
  (∀ a x, ((![v906] : Fin 1 → IVec S16 32) a x).toNat < S6144.size a)
theorem k0_idx189_inb : ∀ (v906 : IVec S16 32) (k0_hw189 : k0_chk189 v906), ∀ a x, ((![v906] : Fin 1 → IVec S16 32) a x).toNat < S6144.size a := fun v906 k0_hw189 => k0_hw189

def k0_chk190 (v911 : IVec S16 32) : Prop :=
  (∀ a x, ((![v911] : Fin 1 → IVec S16 32) a x).toNat < S6144.size a)
theorem k0_idx190_inb : ∀ (v911 : IVec S16 32) (k0_hw190 : k0_chk190 v911), ∀ a x, ((![v911] : Fin 1 → IVec S16 32) a x).toNat < S6144.size a := fun v911 k0_hw190 => k0_hw190

def k0_chk191 (v916 : IVec S16 32) : Prop :=
  (∀ a x, ((![v916] : Fin 1 → IVec S16 32) a x).toNat < S6144.size a)
theorem k0_idx191_inb : ∀ (v916 : IVec S16 32) (k0_hw191 : k0_chk191 v916), ∀ a x, ((![v916] : Fin 1 → IVec S16 32) a x).toNat < S6144.size a := fun v916 k0_hw191 => k0_hw191

def k0_chk192 (v921 : IVec S16 32) : Prop :=
  (∀ a x, ((![v921] : Fin 1 → IVec S16 32) a x).toNat < S6144.size a)
theorem k0_idx192_inb : ∀ (v921 : IVec S16 32) (k0_hw192 : k0_chk192 v921), ∀ a x, ((![v921] : Fin 1 → IVec S16 32) a x).toNat < S6144.size a := fun v921 k0_hw192 => k0_hw192
def k0_off16 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_103 : BitVec 32 := 1#32
  let c0_i32_104 : BitVec 32 := 0#32
  let c0_i32_105 : BitVec 32 := 0#32
  ![v1.toNat, 1, 0, 0]
@[reducible] def k0_t8_loop : Scf.Loop 32 :=
  let c0_i32_115 : BitVec 32 := 0#32
  let c64_i32_116 : BitVec 32 := 64#32
  let v90 : BitVec 32 := Scalar.addi c0_i32_115 c64_i32_116
  let c1_i32_117 : BitVec 32 := 1#32
  ⟨c0_i32_115, v90, c1_i32_117⟩
def k0_off17 (k0_t8 : Fin k0_t8_loop.trips) (c0_i32_762 : BitVec 32) : Fin 2 → Nat :=
  let c0_i32_115 : BitVec 32 := 0#32
  let c1_i32_117 : BitVec 32 := 1#32
  let arg12 : BitVec 32 := Scf.iv c0_i32_115 c1_i32_117 k0_t8
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk193 (v766 : IVec S16 32) : Prop :=
  (∀ a x, ((![v766] : Fin 1 → IVec S16 32) a x).toNat < S6144.size a)
theorem k0_idx193_inb : ∀ (v766 : IVec S16 32) (k0_hw193 : k0_chk193 v766), ∀ a x, ((![v766] : Fin 1 → IVec S16 32) a x).toNat < S6144.size a := fun v766 k0_hw193 => k0_hw193

def k0_chk194 (v771 : IVec S16 32) : Prop :=
  (∀ a x, ((![v771] : Fin 1 → IVec S16 32) a x).toNat < S6144.size a)
theorem k0_idx194_inb : ∀ (v771 : IVec S16 32) (k0_hw194 : k0_chk194 v771), ∀ a x, ((![v771] : Fin 1 → IVec S16 32) a x).toNat < S6144.size a := fun v771 k0_hw194 => k0_hw194

def k0_chk195 (v776 : IVec S16 32) : Prop :=
  (∀ a x, ((![v776] : Fin 1 → IVec S16 32) a x).toNat < S6144.size a)
theorem k0_idx195_inb : ∀ (v776 : IVec S16 32) (k0_hw195 : k0_chk195 v776), ∀ a x, ((![v776] : Fin 1 → IVec S16 32) a x).toNat < S6144.size a := fun v776 k0_hw195 => k0_hw195

def k0_chk196 (v781 : IVec S16 32) : Prop :=
  (∀ a x, ((![v781] : Fin 1 → IVec S16 32) a x).toNat < S6144.size a)
theorem k0_idx196_inb : ∀ (v781 : IVec S16 32) (k0_hw196 : k0_chk196 v781), ∀ a x, ((![v781] : Fin 1 → IVec S16 32) a x).toNat < S6144.size a := fun v781 k0_hw196 => k0_hw196

def k0_chk197 (v786 : IVec S16 32) : Prop :=
  (∀ a x, ((![v786] : Fin 1 → IVec S16 32) a x).toNat < S6144.size a)
theorem k0_idx197_inb : ∀ (v786 : IVec S16 32) (k0_hw197 : k0_chk197 v786), ∀ a x, ((![v786] : Fin 1 → IVec S16 32) a x).toNat < S6144.size a := fun v786 k0_hw197 => k0_hw197

def k0_chk198 (v791 : IVec S16 32) : Prop :=
  (∀ a x, ((![v791] : Fin 1 → IVec S16 32) a x).toNat < S6144.size a)
theorem k0_idx198_inb : ∀ (v791 : IVec S16 32) (k0_hw198 : k0_chk198 v791), ∀ a x, ((![v791] : Fin 1 → IVec S16 32) a x).toNat < S6144.size a := fun v791 k0_hw198 => k0_hw198

def k0_chk199 (v796 : IVec S16 32) : Prop :=
  (∀ a x, ((![v796] : Fin 1 → IVec S16 32) a x).toNat < S6144.size a)
theorem k0_idx199_inb : ∀ (v796 : IVec S16 32) (k0_hw199 : k0_chk199 v796), ∀ a x, ((![v796] : Fin 1 → IVec S16 32) a x).toNat < S6144.size a := fun v796 k0_hw199 => k0_hw199

def k0_chk200 (v801 : IVec S16 32) : Prop :=
  (∀ a x, ((![v801] : Fin 1 → IVec S16 32) a x).toNat < S6144.size a)
theorem k0_idx200_inb : ∀ (v801 : IVec S16 32) (k0_hw200 : k0_chk200 v801), ∀ a x, ((![v801] : Fin 1 → IVec S16 32) a x).toNat < S6144.size a := fun v801 k0_hw200 => k0_hw200

def k0_chk201 (v806 : IVec S16 32) : Prop :=
  (∀ a x, ((![v806] : Fin 1 → IVec S16 32) a x).toNat < S6144.size a)
theorem k0_idx201_inb : ∀ (v806 : IVec S16 32) (k0_hw201 : k0_chk201 v806), ∀ a x, ((![v806] : Fin 1 → IVec S16 32) a x).toNat < S6144.size a := fun v806 k0_hw201 => k0_hw201

def k0_chk202 (v811 : IVec S16 32) : Prop :=
  (∀ a x, ((![v811] : Fin 1 → IVec S16 32) a x).toNat < S6144.size a)
theorem k0_idx202_inb : ∀ (v811 : IVec S16 32) (k0_hw202 : k0_chk202 v811), ∀ a x, ((![v811] : Fin 1 → IVec S16 32) a x).toNat < S6144.size a := fun v811 k0_hw202 => k0_hw202

def k0_chk203 (v816 : IVec S16 32) : Prop :=
  (∀ a x, ((![v816] : Fin 1 → IVec S16 32) a x).toNat < S6144.size a)
theorem k0_idx203_inb : ∀ (v816 : IVec S16 32) (k0_hw203 : k0_chk203 v816), ∀ a x, ((![v816] : Fin 1 → IVec S16 32) a x).toNat < S6144.size a := fun v816 k0_hw203 => k0_hw203

def k0_chk204 (v821 : IVec S16 32) : Prop :=
  (∀ a x, ((![v821] : Fin 1 → IVec S16 32) a x).toNat < S6144.size a)
theorem k0_idx204_inb : ∀ (v821 : IVec S16 32) (k0_hw204 : k0_chk204 v821), ∀ a x, ((![v821] : Fin 1 → IVec S16 32) a x).toNat < S6144.size a := fun v821 k0_hw204 => k0_hw204

def k0_chk205 (v826 : IVec S16 32) : Prop :=
  (∀ a x, ((![v826] : Fin 1 → IVec S16 32) a x).toNat < S6144.size a)
theorem k0_idx205_inb : ∀ (v826 : IVec S16 32) (k0_hw205 : k0_chk205 v826), ∀ a x, ((![v826] : Fin 1 → IVec S16 32) a x).toNat < S6144.size a := fun v826 k0_hw205 => k0_hw205

def k0_chk206 (v831 : IVec S16 32) : Prop :=
  (∀ a x, ((![v831] : Fin 1 → IVec S16 32) a x).toNat < S6144.size a)
theorem k0_idx206_inb : ∀ (v831 : IVec S16 32) (k0_hw206 : k0_chk206 v831), ∀ a x, ((![v831] : Fin 1 → IVec S16 32) a x).toNat < S6144.size a := fun v831 k0_hw206 => k0_hw206

def k0_chk207 (v836 : IVec S16 32) : Prop :=
  (∀ a x, ((![v836] : Fin 1 → IVec S16 32) a x).toNat < S6144.size a)
theorem k0_idx207_inb : ∀ (v836 : IVec S16 32) (k0_hw207 : k0_chk207 v836), ∀ a x, ((![v836] : Fin 1 → IVec S16 32) a x).toNat < S6144.size a := fun v836 k0_hw207 => k0_hw207

def k0_chk208 (v841 : IVec S16 32) : Prop :=
  (∀ a x, ((![v841] : Fin 1 → IVec S16 32) a x).toNat < S6144.size a)
theorem k0_idx208_inb : ∀ (v841 : IVec S16 32) (k0_hw208 : k0_chk208 v841), ∀ a x, ((![v841] : Fin 1 → IVec S16 32) a x).toNat < S6144.size a := fun v841 k0_hw208 => k0_hw208

def k0_chk209 (v846 : IVec S16 32) : Prop :=
  (∀ a x, ((![v846] : Fin 1 → IVec S16 32) a x).toNat < S6144.size a)
theorem k0_idx209_inb : ∀ (v846 : IVec S16 32) (k0_hw209 : k0_chk209 v846), ∀ a x, ((![v846] : Fin 1 → IVec S16 32) a x).toNat < S6144.size a := fun v846 k0_hw209 => k0_hw209

def k0_chk210 (v851 : IVec S16 32) : Prop :=
  (∀ a x, ((![v851] : Fin 1 → IVec S16 32) a x).toNat < S6144.size a)
theorem k0_idx210_inb : ∀ (v851 : IVec S16 32) (k0_hw210 : k0_chk210 v851), ∀ a x, ((![v851] : Fin 1 → IVec S16 32) a x).toNat < S6144.size a := fun v851 k0_hw210 => k0_hw210

def k0_chk211 (v856 : IVec S16 32) : Prop :=
  (∀ a x, ((![v856] : Fin 1 → IVec S16 32) a x).toNat < S6144.size a)
theorem k0_idx211_inb : ∀ (v856 : IVec S16 32) (k0_hw211 : k0_chk211 v856), ∀ a x, ((![v856] : Fin 1 → IVec S16 32) a x).toNat < S6144.size a := fun v856 k0_hw211 => k0_hw211

def k0_chk212 (v861 : IVec S16 32) : Prop :=
  (∀ a x, ((![v861] : Fin 1 → IVec S16 32) a x).toNat < S6144.size a)
theorem k0_idx212_inb : ∀ (v861 : IVec S16 32) (k0_hw212 : k0_chk212 v861), ∀ a x, ((![v861] : Fin 1 → IVec S16 32) a x).toNat < S6144.size a := fun v861 k0_hw212 => k0_hw212

def k0_chk213 (v866 : IVec S16 32) : Prop :=
  (∀ a x, ((![v866] : Fin 1 → IVec S16 32) a x).toNat < S6144.size a)
theorem k0_idx213_inb : ∀ (v866 : IVec S16 32) (k0_hw213 : k0_chk213 v866), ∀ a x, ((![v866] : Fin 1 → IVec S16 32) a x).toNat < S6144.size a := fun v866 k0_hw213 => k0_hw213

def k0_chk214 (v871 : IVec S16 32) : Prop :=
  (∀ a x, ((![v871] : Fin 1 → IVec S16 32) a x).toNat < S6144.size a)
theorem k0_idx214_inb : ∀ (v871 : IVec S16 32) (k0_hw214 : k0_chk214 v871), ∀ a x, ((![v871] : Fin 1 → IVec S16 32) a x).toNat < S6144.size a := fun v871 k0_hw214 => k0_hw214

def k0_chk215 (v876 : IVec S16 32) : Prop :=
  (∀ a x, ((![v876] : Fin 1 → IVec S16 32) a x).toNat < S6144.size a)
theorem k0_idx215_inb : ∀ (v876 : IVec S16 32) (k0_hw215 : k0_chk215 v876), ∀ a x, ((![v876] : Fin 1 → IVec S16 32) a x).toNat < S6144.size a := fun v876 k0_hw215 => k0_hw215

def k0_chk216 (v881 : IVec S16 32) : Prop :=
  (∀ a x, ((![v881] : Fin 1 → IVec S16 32) a x).toNat < S6144.size a)
theorem k0_idx216_inb : ∀ (v881 : IVec S16 32) (k0_hw216 : k0_chk216 v881), ∀ a x, ((![v881] : Fin 1 → IVec S16 32) a x).toNat < S6144.size a := fun v881 k0_hw216 => k0_hw216

def k0_chk217 (v886 : IVec S16 32) : Prop :=
  (∀ a x, ((![v886] : Fin 1 → IVec S16 32) a x).toNat < S6144.size a)
theorem k0_idx217_inb : ∀ (v886 : IVec S16 32) (k0_hw217 : k0_chk217 v886), ∀ a x, ((![v886] : Fin 1 → IVec S16 32) a x).toNat < S6144.size a := fun v886 k0_hw217 => k0_hw217

def k0_chk218 (v891 : IVec S16 32) : Prop :=
  (∀ a x, ((![v891] : Fin 1 → IVec S16 32) a x).toNat < S6144.size a)
theorem k0_idx218_inb : ∀ (v891 : IVec S16 32) (k0_hw218 : k0_chk218 v891), ∀ a x, ((![v891] : Fin 1 → IVec S16 32) a x).toNat < S6144.size a := fun v891 k0_hw218 => k0_hw218

def k0_chk219 (v896 : IVec S16 32) : Prop :=
  (∀ a x, ((![v896] : Fin 1 → IVec S16 32) a x).toNat < S6144.size a)
theorem k0_idx219_inb : ∀ (v896 : IVec S16 32) (k0_hw219 : k0_chk219 v896), ∀ a x, ((![v896] : Fin 1 → IVec S16 32) a x).toNat < S6144.size a := fun v896 k0_hw219 => k0_hw219

def k0_chk220 (v901 : IVec S16 32) : Prop :=
  (∀ a x, ((![v901] : Fin 1 → IVec S16 32) a x).toNat < S6144.size a)
theorem k0_idx220_inb : ∀ (v901 : IVec S16 32) (k0_hw220 : k0_chk220 v901), ∀ a x, ((![v901] : Fin 1 → IVec S16 32) a x).toNat < S6144.size a := fun v901 k0_hw220 => k0_hw220

def k0_chk221 (v906 : IVec S16 32) : Prop :=
  (∀ a x, ((![v906] : Fin 1 → IVec S16 32) a x).toNat < S6144.size a)
theorem k0_idx221_inb : ∀ (v906 : IVec S16 32) (k0_hw221 : k0_chk221 v906), ∀ a x, ((![v906] : Fin 1 → IVec S16 32) a x).toNat < S6144.size a := fun v906 k0_hw221 => k0_hw221

def k0_chk222 (v911 : IVec S16 32) : Prop :=
  (∀ a x, ((![v911] : Fin 1 → IVec S16 32) a x).toNat < S6144.size a)
theorem k0_idx222_inb : ∀ (v911 : IVec S16 32) (k0_hw222 : k0_chk222 v911), ∀ a x, ((![v911] : Fin 1 → IVec S16 32) a x).toNat < S6144.size a := fun v911 k0_hw222 => k0_hw222

def k0_chk223 (v916 : IVec S16 32) : Prop :=
  (∀ a x, ((![v916] : Fin 1 → IVec S16 32) a x).toNat < S6144.size a)
theorem k0_idx223_inb : ∀ (v916 : IVec S16 32) (k0_hw223 : k0_chk223 v916), ∀ a x, ((![v916] : Fin 1 → IVec S16 32) a x).toNat < S6144.size a := fun v916 k0_hw223 => k0_hw223

def k0_chk224 (v921 : IVec S16 32) : Prop :=
  (∀ a x, ((![v921] : Fin 1 → IVec S16 32) a x).toNat < S6144.size a)
theorem k0_idx224_inb : ∀ (v921 : IVec S16 32) (k0_hw224 : k0_chk224 v921), ∀ a x, ((![v921] : Fin 1 → IVec S16 32) a x).toNat < S6144.size a := fun v921 k0_hw224 => k0_hw224
def k0_off18 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_119 : BitVec 32 := 1#32
  let c64_i32_120 : BitVec 32 := 64#32
  let c0_i32_121 : BitVec 32 := 0#32
  ![v1.toNat, 1, 64, 0]
@[reducible] def k0_t9_loop : Scf.Loop 32 :=
  let c0_i32_131 : BitVec 32 := 0#32
  let c64_i32_132 : BitVec 32 := 64#32
  let v101 : BitVec 32 := Scalar.addi c0_i32_131 c64_i32_132
  let c1_i32_133 : BitVec 32 := 1#32
  ⟨c0_i32_131, v101, c1_i32_133⟩
def k0_off19 (k0_t9 : Fin k0_t9_loop.trips) (c0_i32_762 : BitVec 32) : Fin 2 → Nat :=
  let c0_i32_131 : BitVec 32 := 0#32
  let c1_i32_133 : BitVec 32 := 1#32
  let arg12 : BitVec 32 := Scf.iv c0_i32_131 c1_i32_133 k0_t9
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk225 (v766 : IVec S16 32) : Prop :=
  (∀ a x, ((![v766] : Fin 1 → IVec S16 32) a x).toNat < S6144.size a)
theorem k0_idx225_inb : ∀ (v766 : IVec S16 32) (k0_hw225 : k0_chk225 v766), ∀ a x, ((![v766] : Fin 1 → IVec S16 32) a x).toNat < S6144.size a := fun v766 k0_hw225 => k0_hw225

def k0_chk226 (v771 : IVec S16 32) : Prop :=
  (∀ a x, ((![v771] : Fin 1 → IVec S16 32) a x).toNat < S6144.size a)
theorem k0_idx226_inb : ∀ (v771 : IVec S16 32) (k0_hw226 : k0_chk226 v771), ∀ a x, ((![v771] : Fin 1 → IVec S16 32) a x).toNat < S6144.size a := fun v771 k0_hw226 => k0_hw226

def k0_chk227 (v776 : IVec S16 32) : Prop :=
  (∀ a x, ((![v776] : Fin 1 → IVec S16 32) a x).toNat < S6144.size a)
theorem k0_idx227_inb : ∀ (v776 : IVec S16 32) (k0_hw227 : k0_chk227 v776), ∀ a x, ((![v776] : Fin 1 → IVec S16 32) a x).toNat < S6144.size a := fun v776 k0_hw227 => k0_hw227

def k0_chk228 (v781 : IVec S16 32) : Prop :=
  (∀ a x, ((![v781] : Fin 1 → IVec S16 32) a x).toNat < S6144.size a)
theorem k0_idx228_inb : ∀ (v781 : IVec S16 32) (k0_hw228 : k0_chk228 v781), ∀ a x, ((![v781] : Fin 1 → IVec S16 32) a x).toNat < S6144.size a := fun v781 k0_hw228 => k0_hw228

def k0_chk229 (v786 : IVec S16 32) : Prop :=
  (∀ a x, ((![v786] : Fin 1 → IVec S16 32) a x).toNat < S6144.size a)
theorem k0_idx229_inb : ∀ (v786 : IVec S16 32) (k0_hw229 : k0_chk229 v786), ∀ a x, ((![v786] : Fin 1 → IVec S16 32) a x).toNat < S6144.size a := fun v786 k0_hw229 => k0_hw229

def k0_chk230 (v791 : IVec S16 32) : Prop :=
  (∀ a x, ((![v791] : Fin 1 → IVec S16 32) a x).toNat < S6144.size a)
theorem k0_idx230_inb : ∀ (v791 : IVec S16 32) (k0_hw230 : k0_chk230 v791), ∀ a x, ((![v791] : Fin 1 → IVec S16 32) a x).toNat < S6144.size a := fun v791 k0_hw230 => k0_hw230

def k0_chk231 (v796 : IVec S16 32) : Prop :=
  (∀ a x, ((![v796] : Fin 1 → IVec S16 32) a x).toNat < S6144.size a)
theorem k0_idx231_inb : ∀ (v796 : IVec S16 32) (k0_hw231 : k0_chk231 v796), ∀ a x, ((![v796] : Fin 1 → IVec S16 32) a x).toNat < S6144.size a := fun v796 k0_hw231 => k0_hw231

def k0_chk232 (v801 : IVec S16 32) : Prop :=
  (∀ a x, ((![v801] : Fin 1 → IVec S16 32) a x).toNat < S6144.size a)
theorem k0_idx232_inb : ∀ (v801 : IVec S16 32) (k0_hw232 : k0_chk232 v801), ∀ a x, ((![v801] : Fin 1 → IVec S16 32) a x).toNat < S6144.size a := fun v801 k0_hw232 => k0_hw232

def k0_chk233 (v806 : IVec S16 32) : Prop :=
  (∀ a x, ((![v806] : Fin 1 → IVec S16 32) a x).toNat < S6144.size a)
theorem k0_idx233_inb : ∀ (v806 : IVec S16 32) (k0_hw233 : k0_chk233 v806), ∀ a x, ((![v806] : Fin 1 → IVec S16 32) a x).toNat < S6144.size a := fun v806 k0_hw233 => k0_hw233

def k0_chk234 (v811 : IVec S16 32) : Prop :=
  (∀ a x, ((![v811] : Fin 1 → IVec S16 32) a x).toNat < S6144.size a)
theorem k0_idx234_inb : ∀ (v811 : IVec S16 32) (k0_hw234 : k0_chk234 v811), ∀ a x, ((![v811] : Fin 1 → IVec S16 32) a x).toNat < S6144.size a := fun v811 k0_hw234 => k0_hw234

def k0_chk235 (v816 : IVec S16 32) : Prop :=
  (∀ a x, ((![v816] : Fin 1 → IVec S16 32) a x).toNat < S6144.size a)
theorem k0_idx235_inb : ∀ (v816 : IVec S16 32) (k0_hw235 : k0_chk235 v816), ∀ a x, ((![v816] : Fin 1 → IVec S16 32) a x).toNat < S6144.size a := fun v816 k0_hw235 => k0_hw235

def k0_chk236 (v821 : IVec S16 32) : Prop :=
  (∀ a x, ((![v821] : Fin 1 → IVec S16 32) a x).toNat < S6144.size a)
theorem k0_idx236_inb : ∀ (v821 : IVec S16 32) (k0_hw236 : k0_chk236 v821), ∀ a x, ((![v821] : Fin 1 → IVec S16 32) a x).toNat < S6144.size a := fun v821 k0_hw236 => k0_hw236

def k0_chk237 (v826 : IVec S16 32) : Prop :=
  (∀ a x, ((![v826] : Fin 1 → IVec S16 32) a x).toNat < S6144.size a)
theorem k0_idx237_inb : ∀ (v826 : IVec S16 32) (k0_hw237 : k0_chk237 v826), ∀ a x, ((![v826] : Fin 1 → IVec S16 32) a x).toNat < S6144.size a := fun v826 k0_hw237 => k0_hw237

def k0_chk238 (v831 : IVec S16 32) : Prop :=
  (∀ a x, ((![v831] : Fin 1 → IVec S16 32) a x).toNat < S6144.size a)
theorem k0_idx238_inb : ∀ (v831 : IVec S16 32) (k0_hw238 : k0_chk238 v831), ∀ a x, ((![v831] : Fin 1 → IVec S16 32) a x).toNat < S6144.size a := fun v831 k0_hw238 => k0_hw238

def k0_chk239 (v836 : IVec S16 32) : Prop :=
  (∀ a x, ((![v836] : Fin 1 → IVec S16 32) a x).toNat < S6144.size a)
theorem k0_idx239_inb : ∀ (v836 : IVec S16 32) (k0_hw239 : k0_chk239 v836), ∀ a x, ((![v836] : Fin 1 → IVec S16 32) a x).toNat < S6144.size a := fun v836 k0_hw239 => k0_hw239

def k0_chk240 (v841 : IVec S16 32) : Prop :=
  (∀ a x, ((![v841] : Fin 1 → IVec S16 32) a x).toNat < S6144.size a)
theorem k0_idx240_inb : ∀ (v841 : IVec S16 32) (k0_hw240 : k0_chk240 v841), ∀ a x, ((![v841] : Fin 1 → IVec S16 32) a x).toNat < S6144.size a := fun v841 k0_hw240 => k0_hw240

def k0_chk241 (v846 : IVec S16 32) : Prop :=
  (∀ a x, ((![v846] : Fin 1 → IVec S16 32) a x).toNat < S6144.size a)
theorem k0_idx241_inb : ∀ (v846 : IVec S16 32) (k0_hw241 : k0_chk241 v846), ∀ a x, ((![v846] : Fin 1 → IVec S16 32) a x).toNat < S6144.size a := fun v846 k0_hw241 => k0_hw241

def k0_chk242 (v851 : IVec S16 32) : Prop :=
  (∀ a x, ((![v851] : Fin 1 → IVec S16 32) a x).toNat < S6144.size a)
theorem k0_idx242_inb : ∀ (v851 : IVec S16 32) (k0_hw242 : k0_chk242 v851), ∀ a x, ((![v851] : Fin 1 → IVec S16 32) a x).toNat < S6144.size a := fun v851 k0_hw242 => k0_hw242

def k0_chk243 (v856 : IVec S16 32) : Prop :=
  (∀ a x, ((![v856] : Fin 1 → IVec S16 32) a x).toNat < S6144.size a)
theorem k0_idx243_inb : ∀ (v856 : IVec S16 32) (k0_hw243 : k0_chk243 v856), ∀ a x, ((![v856] : Fin 1 → IVec S16 32) a x).toNat < S6144.size a := fun v856 k0_hw243 => k0_hw243

def k0_chk244 (v861 : IVec S16 32) : Prop :=
  (∀ a x, ((![v861] : Fin 1 → IVec S16 32) a x).toNat < S6144.size a)
theorem k0_idx244_inb : ∀ (v861 : IVec S16 32) (k0_hw244 : k0_chk244 v861), ∀ a x, ((![v861] : Fin 1 → IVec S16 32) a x).toNat < S6144.size a := fun v861 k0_hw244 => k0_hw244

def k0_chk245 (v866 : IVec S16 32) : Prop :=
  (∀ a x, ((![v866] : Fin 1 → IVec S16 32) a x).toNat < S6144.size a)
theorem k0_idx245_inb : ∀ (v866 : IVec S16 32) (k0_hw245 : k0_chk245 v866), ∀ a x, ((![v866] : Fin 1 → IVec S16 32) a x).toNat < S6144.size a := fun v866 k0_hw245 => k0_hw245

def k0_chk246 (v871 : IVec S16 32) : Prop :=
  (∀ a x, ((![v871] : Fin 1 → IVec S16 32) a x).toNat < S6144.size a)
theorem k0_idx246_inb : ∀ (v871 : IVec S16 32) (k0_hw246 : k0_chk246 v871), ∀ a x, ((![v871] : Fin 1 → IVec S16 32) a x).toNat < S6144.size a := fun v871 k0_hw246 => k0_hw246

def k0_chk247 (v876 : IVec S16 32) : Prop :=
  (∀ a x, ((![v876] : Fin 1 → IVec S16 32) a x).toNat < S6144.size a)
theorem k0_idx247_inb : ∀ (v876 : IVec S16 32) (k0_hw247 : k0_chk247 v876), ∀ a x, ((![v876] : Fin 1 → IVec S16 32) a x).toNat < S6144.size a := fun v876 k0_hw247 => k0_hw247

def k0_chk248 (v881 : IVec S16 32) : Prop :=
  (∀ a x, ((![v881] : Fin 1 → IVec S16 32) a x).toNat < S6144.size a)
theorem k0_idx248_inb : ∀ (v881 : IVec S16 32) (k0_hw248 : k0_chk248 v881), ∀ a x, ((![v881] : Fin 1 → IVec S16 32) a x).toNat < S6144.size a := fun v881 k0_hw248 => k0_hw248

def k0_chk249 (v886 : IVec S16 32) : Prop :=
  (∀ a x, ((![v886] : Fin 1 → IVec S16 32) a x).toNat < S6144.size a)
theorem k0_idx249_inb : ∀ (v886 : IVec S16 32) (k0_hw249 : k0_chk249 v886), ∀ a x, ((![v886] : Fin 1 → IVec S16 32) a x).toNat < S6144.size a := fun v886 k0_hw249 => k0_hw249

def k0_chk250 (v891 : IVec S16 32) : Prop :=
  (∀ a x, ((![v891] : Fin 1 → IVec S16 32) a x).toNat < S6144.size a)
theorem k0_idx250_inb : ∀ (v891 : IVec S16 32) (k0_hw250 : k0_chk250 v891), ∀ a x, ((![v891] : Fin 1 → IVec S16 32) a x).toNat < S6144.size a := fun v891 k0_hw250 => k0_hw250

def k0_chk251 (v896 : IVec S16 32) : Prop :=
  (∀ a x, ((![v896] : Fin 1 → IVec S16 32) a x).toNat < S6144.size a)
theorem k0_idx251_inb : ∀ (v896 : IVec S16 32) (k0_hw251 : k0_chk251 v896), ∀ a x, ((![v896] : Fin 1 → IVec S16 32) a x).toNat < S6144.size a := fun v896 k0_hw251 => k0_hw251

def k0_chk252 (v901 : IVec S16 32) : Prop :=
  (∀ a x, ((![v901] : Fin 1 → IVec S16 32) a x).toNat < S6144.size a)
theorem k0_idx252_inb : ∀ (v901 : IVec S16 32) (k0_hw252 : k0_chk252 v901), ∀ a x, ((![v901] : Fin 1 → IVec S16 32) a x).toNat < S6144.size a := fun v901 k0_hw252 => k0_hw252

def k0_chk253 (v906 : IVec S16 32) : Prop :=
  (∀ a x, ((![v906] : Fin 1 → IVec S16 32) a x).toNat < S6144.size a)
theorem k0_idx253_inb : ∀ (v906 : IVec S16 32) (k0_hw253 : k0_chk253 v906), ∀ a x, ((![v906] : Fin 1 → IVec S16 32) a x).toNat < S6144.size a := fun v906 k0_hw253 => k0_hw253

def k0_chk254 (v911 : IVec S16 32) : Prop :=
  (∀ a x, ((![v911] : Fin 1 → IVec S16 32) a x).toNat < S6144.size a)
theorem k0_idx254_inb : ∀ (v911 : IVec S16 32) (k0_hw254 : k0_chk254 v911), ∀ a x, ((![v911] : Fin 1 → IVec S16 32) a x).toNat < S6144.size a := fun v911 k0_hw254 => k0_hw254

def k0_chk255 (v916 : IVec S16 32) : Prop :=
  (∀ a x, ((![v916] : Fin 1 → IVec S16 32) a x).toNat < S6144.size a)
theorem k0_idx255_inb : ∀ (v916 : IVec S16 32) (k0_hw255 : k0_chk255 v916), ∀ a x, ((![v916] : Fin 1 → IVec S16 32) a x).toNat < S6144.size a := fun v916 k0_hw255 => k0_hw255

def k0_chk256 (v921 : IVec S16 32) : Prop :=
  (∀ a x, ((![v921] : Fin 1 → IVec S16 32) a x).toNat < S6144.size a)
theorem k0_idx256_inb : ∀ (v921 : IVec S16 32) (k0_hw256 : k0_chk256 v921), ∀ a x, ((![v921] : Fin 1 → IVec S16 32) a x).toNat < S6144.size a := fun v921 k0_hw256 => k0_hw256
def k0_off20 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_135 : BitVec 32 := 1#32
  let c128_i32_136 : BitVec 32 := 128#32
  let c0_i32_137 : BitVec 32 := 0#32
  ![v1.toNat, 1, 128, 0]
@[reducible] def k0_t10_loop : Scf.Loop 32 :=
  let c0_i32_146 : BitVec 32 := 0#32
  let c64_i32_147 : BitVec 32 := 64#32
  let v112 : BitVec 32 := Scalar.addi c0_i32_146 c64_i32_147
  let c1_i32_148 : BitVec 32 := 1#32
  ⟨c0_i32_146, v112, c1_i32_148⟩
def k0_off21 (k0_t10 : Fin k0_t10_loop.trips) (c0_i32_762 : BitVec 32) : Fin 2 → Nat :=
  let c0_i32_146 : BitVec 32 := 0#32
  let c1_i32_148 : BitVec 32 := 1#32
  let arg12 : BitVec 32 := Scf.iv c0_i32_146 c1_i32_148 k0_t10
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk257 (v766 : IVec S16 32) : Prop :=
  (∀ a x, ((![v766] : Fin 1 → IVec S16 32) a x).toNat < S6144.size a)
theorem k0_idx257_inb : ∀ (v766 : IVec S16 32) (k0_hw257 : k0_chk257 v766), ∀ a x, ((![v766] : Fin 1 → IVec S16 32) a x).toNat < S6144.size a := fun v766 k0_hw257 => k0_hw257

def k0_chk258 (v771 : IVec S16 32) : Prop :=
  (∀ a x, ((![v771] : Fin 1 → IVec S16 32) a x).toNat < S6144.size a)
theorem k0_idx258_inb : ∀ (v771 : IVec S16 32) (k0_hw258 : k0_chk258 v771), ∀ a x, ((![v771] : Fin 1 → IVec S16 32) a x).toNat < S6144.size a := fun v771 k0_hw258 => k0_hw258

def k0_chk259 (v776 : IVec S16 32) : Prop :=
  (∀ a x, ((![v776] : Fin 1 → IVec S16 32) a x).toNat < S6144.size a)
theorem k0_idx259_inb : ∀ (v776 : IVec S16 32) (k0_hw259 : k0_chk259 v776), ∀ a x, ((![v776] : Fin 1 → IVec S16 32) a x).toNat < S6144.size a := fun v776 k0_hw259 => k0_hw259

def k0_chk260 (v781 : IVec S16 32) : Prop :=
  (∀ a x, ((![v781] : Fin 1 → IVec S16 32) a x).toNat < S6144.size a)
theorem k0_idx260_inb : ∀ (v781 : IVec S16 32) (k0_hw260 : k0_chk260 v781), ∀ a x, ((![v781] : Fin 1 → IVec S16 32) a x).toNat < S6144.size a := fun v781 k0_hw260 => k0_hw260

def k0_chk261 (v786 : IVec S16 32) : Prop :=
  (∀ a x, ((![v786] : Fin 1 → IVec S16 32) a x).toNat < S6144.size a)
theorem k0_idx261_inb : ∀ (v786 : IVec S16 32) (k0_hw261 : k0_chk261 v786), ∀ a x, ((![v786] : Fin 1 → IVec S16 32) a x).toNat < S6144.size a := fun v786 k0_hw261 => k0_hw261

def k0_chk262 (v791 : IVec S16 32) : Prop :=
  (∀ a x, ((![v791] : Fin 1 → IVec S16 32) a x).toNat < S6144.size a)
theorem k0_idx262_inb : ∀ (v791 : IVec S16 32) (k0_hw262 : k0_chk262 v791), ∀ a x, ((![v791] : Fin 1 → IVec S16 32) a x).toNat < S6144.size a := fun v791 k0_hw262 => k0_hw262

def k0_chk263 (v796 : IVec S16 32) : Prop :=
  (∀ a x, ((![v796] : Fin 1 → IVec S16 32) a x).toNat < S6144.size a)
theorem k0_idx263_inb : ∀ (v796 : IVec S16 32) (k0_hw263 : k0_chk263 v796), ∀ a x, ((![v796] : Fin 1 → IVec S16 32) a x).toNat < S6144.size a := fun v796 k0_hw263 => k0_hw263

def k0_chk264 (v801 : IVec S16 32) : Prop :=
  (∀ a x, ((![v801] : Fin 1 → IVec S16 32) a x).toNat < S6144.size a)
theorem k0_idx264_inb : ∀ (v801 : IVec S16 32) (k0_hw264 : k0_chk264 v801), ∀ a x, ((![v801] : Fin 1 → IVec S16 32) a x).toNat < S6144.size a := fun v801 k0_hw264 => k0_hw264

def k0_chk265 (v806 : IVec S16 32) : Prop :=
  (∀ a x, ((![v806] : Fin 1 → IVec S16 32) a x).toNat < S6144.size a)
theorem k0_idx265_inb : ∀ (v806 : IVec S16 32) (k0_hw265 : k0_chk265 v806), ∀ a x, ((![v806] : Fin 1 → IVec S16 32) a x).toNat < S6144.size a := fun v806 k0_hw265 => k0_hw265

def k0_chk266 (v811 : IVec S16 32) : Prop :=
  (∀ a x, ((![v811] : Fin 1 → IVec S16 32) a x).toNat < S6144.size a)
theorem k0_idx266_inb : ∀ (v811 : IVec S16 32) (k0_hw266 : k0_chk266 v811), ∀ a x, ((![v811] : Fin 1 → IVec S16 32) a x).toNat < S6144.size a := fun v811 k0_hw266 => k0_hw266

def k0_chk267 (v816 : IVec S16 32) : Prop :=
  (∀ a x, ((![v816] : Fin 1 → IVec S16 32) a x).toNat < S6144.size a)
theorem k0_idx267_inb : ∀ (v816 : IVec S16 32) (k0_hw267 : k0_chk267 v816), ∀ a x, ((![v816] : Fin 1 → IVec S16 32) a x).toNat < S6144.size a := fun v816 k0_hw267 => k0_hw267

def k0_chk268 (v821 : IVec S16 32) : Prop :=
  (∀ a x, ((![v821] : Fin 1 → IVec S16 32) a x).toNat < S6144.size a)
theorem k0_idx268_inb : ∀ (v821 : IVec S16 32) (k0_hw268 : k0_chk268 v821), ∀ a x, ((![v821] : Fin 1 → IVec S16 32) a x).toNat < S6144.size a := fun v821 k0_hw268 => k0_hw268

def k0_chk269 (v826 : IVec S16 32) : Prop :=
  (∀ a x, ((![v826] : Fin 1 → IVec S16 32) a x).toNat < S6144.size a)
theorem k0_idx269_inb : ∀ (v826 : IVec S16 32) (k0_hw269 : k0_chk269 v826), ∀ a x, ((![v826] : Fin 1 → IVec S16 32) a x).toNat < S6144.size a := fun v826 k0_hw269 => k0_hw269

def k0_chk270 (v831 : IVec S16 32) : Prop :=
  (∀ a x, ((![v831] : Fin 1 → IVec S16 32) a x).toNat < S6144.size a)
theorem k0_idx270_inb : ∀ (v831 : IVec S16 32) (k0_hw270 : k0_chk270 v831), ∀ a x, ((![v831] : Fin 1 → IVec S16 32) a x).toNat < S6144.size a := fun v831 k0_hw270 => k0_hw270

def k0_chk271 (v836 : IVec S16 32) : Prop :=
  (∀ a x, ((![v836] : Fin 1 → IVec S16 32) a x).toNat < S6144.size a)
theorem k0_idx271_inb : ∀ (v836 : IVec S16 32) (k0_hw271 : k0_chk271 v836), ∀ a x, ((![v836] : Fin 1 → IVec S16 32) a x).toNat < S6144.size a := fun v836 k0_hw271 => k0_hw271

def k0_chk272 (v841 : IVec S16 32) : Prop :=
  (∀ a x, ((![v841] : Fin 1 → IVec S16 32) a x).toNat < S6144.size a)
theorem k0_idx272_inb : ∀ (v841 : IVec S16 32) (k0_hw272 : k0_chk272 v841), ∀ a x, ((![v841] : Fin 1 → IVec S16 32) a x).toNat < S6144.size a := fun v841 k0_hw272 => k0_hw272

def k0_chk273 (v846 : IVec S16 32) : Prop :=
  (∀ a x, ((![v846] : Fin 1 → IVec S16 32) a x).toNat < S6144.size a)
theorem k0_idx273_inb : ∀ (v846 : IVec S16 32) (k0_hw273 : k0_chk273 v846), ∀ a x, ((![v846] : Fin 1 → IVec S16 32) a x).toNat < S6144.size a := fun v846 k0_hw273 => k0_hw273

def k0_chk274 (v851 : IVec S16 32) : Prop :=
  (∀ a x, ((![v851] : Fin 1 → IVec S16 32) a x).toNat < S6144.size a)
theorem k0_idx274_inb : ∀ (v851 : IVec S16 32) (k0_hw274 : k0_chk274 v851), ∀ a x, ((![v851] : Fin 1 → IVec S16 32) a x).toNat < S6144.size a := fun v851 k0_hw274 => k0_hw274

def k0_chk275 (v856 : IVec S16 32) : Prop :=
  (∀ a x, ((![v856] : Fin 1 → IVec S16 32) a x).toNat < S6144.size a)
theorem k0_idx275_inb : ∀ (v856 : IVec S16 32) (k0_hw275 : k0_chk275 v856), ∀ a x, ((![v856] : Fin 1 → IVec S16 32) a x).toNat < S6144.size a := fun v856 k0_hw275 => k0_hw275

def k0_chk276 (v861 : IVec S16 32) : Prop :=
  (∀ a x, ((![v861] : Fin 1 → IVec S16 32) a x).toNat < S6144.size a)
theorem k0_idx276_inb : ∀ (v861 : IVec S16 32) (k0_hw276 : k0_chk276 v861), ∀ a x, ((![v861] : Fin 1 → IVec S16 32) a x).toNat < S6144.size a := fun v861 k0_hw276 => k0_hw276

def k0_chk277 (v866 : IVec S16 32) : Prop :=
  (∀ a x, ((![v866] : Fin 1 → IVec S16 32) a x).toNat < S6144.size a)
theorem k0_idx277_inb : ∀ (v866 : IVec S16 32) (k0_hw277 : k0_chk277 v866), ∀ a x, ((![v866] : Fin 1 → IVec S16 32) a x).toNat < S6144.size a := fun v866 k0_hw277 => k0_hw277

def k0_chk278 (v871 : IVec S16 32) : Prop :=
  (∀ a x, ((![v871] : Fin 1 → IVec S16 32) a x).toNat < S6144.size a)
theorem k0_idx278_inb : ∀ (v871 : IVec S16 32) (k0_hw278 : k0_chk278 v871), ∀ a x, ((![v871] : Fin 1 → IVec S16 32) a x).toNat < S6144.size a := fun v871 k0_hw278 => k0_hw278

def k0_chk279 (v876 : IVec S16 32) : Prop :=
  (∀ a x, ((![v876] : Fin 1 → IVec S16 32) a x).toNat < S6144.size a)
theorem k0_idx279_inb : ∀ (v876 : IVec S16 32) (k0_hw279 : k0_chk279 v876), ∀ a x, ((![v876] : Fin 1 → IVec S16 32) a x).toNat < S6144.size a := fun v876 k0_hw279 => k0_hw279

def k0_chk280 (v881 : IVec S16 32) : Prop :=
  (∀ a x, ((![v881] : Fin 1 → IVec S16 32) a x).toNat < S6144.size a)
theorem k0_idx280_inb : ∀ (v881 : IVec S16 32) (k0_hw280 : k0_chk280 v881), ∀ a x, ((![v881] : Fin 1 → IVec S16 32) a x).toNat < S6144.size a := fun v881 k0_hw280 => k0_hw280

def k0_chk281 (v886 : IVec S16 32) : Prop :=
  (∀ a x, ((![v886] : Fin 1 → IVec S16 32) a x).toNat < S6144.size a)
theorem k0_idx281_inb : ∀ (v886 : IVec S16 32) (k0_hw281 : k0_chk281 v886), ∀ a x, ((![v886] : Fin 1 → IVec S16 32) a x).toNat < S6144.size a := fun v886 k0_hw281 => k0_hw281

def k0_chk282 (v891 : IVec S16 32) : Prop :=
  (∀ a x, ((![v891] : Fin 1 → IVec S16 32) a x).toNat < S6144.size a)
theorem k0_idx282_inb : ∀ (v891 : IVec S16 32) (k0_hw282 : k0_chk282 v891), ∀ a x, ((![v891] : Fin 1 → IVec S16 32) a x).toNat < S6144.size a := fun v891 k0_hw282 => k0_hw282

def k0_chk283 (v896 : IVec S16 32) : Prop :=
  (∀ a x, ((![v896] : Fin 1 → IVec S16 32) a x).toNat < S6144.size a)
theorem k0_idx283_inb : ∀ (v896 : IVec S16 32) (k0_hw283 : k0_chk283 v896), ∀ a x, ((![v896] : Fin 1 → IVec S16 32) a x).toNat < S6144.size a := fun v896 k0_hw283 => k0_hw283

def k0_chk284 (v901 : IVec S16 32) : Prop :=
  (∀ a x, ((![v901] : Fin 1 → IVec S16 32) a x).toNat < S6144.size a)
theorem k0_idx284_inb : ∀ (v901 : IVec S16 32) (k0_hw284 : k0_chk284 v901), ∀ a x, ((![v901] : Fin 1 → IVec S16 32) a x).toNat < S6144.size a := fun v901 k0_hw284 => k0_hw284

def k0_chk285 (v906 : IVec S16 32) : Prop :=
  (∀ a x, ((![v906] : Fin 1 → IVec S16 32) a x).toNat < S6144.size a)
theorem k0_idx285_inb : ∀ (v906 : IVec S16 32) (k0_hw285 : k0_chk285 v906), ∀ a x, ((![v906] : Fin 1 → IVec S16 32) a x).toNat < S6144.size a := fun v906 k0_hw285 => k0_hw285

def k0_chk286 (v911 : IVec S16 32) : Prop :=
  (∀ a x, ((![v911] : Fin 1 → IVec S16 32) a x).toNat < S6144.size a)
theorem k0_idx286_inb : ∀ (v911 : IVec S16 32) (k0_hw286 : k0_chk286 v911), ∀ a x, ((![v911] : Fin 1 → IVec S16 32) a x).toNat < S6144.size a := fun v911 k0_hw286 => k0_hw286

def k0_chk287 (v916 : IVec S16 32) : Prop :=
  (∀ a x, ((![v916] : Fin 1 → IVec S16 32) a x).toNat < S6144.size a)
theorem k0_idx287_inb : ∀ (v916 : IVec S16 32) (k0_hw287 : k0_chk287 v916), ∀ a x, ((![v916] : Fin 1 → IVec S16 32) a x).toNat < S6144.size a := fun v916 k0_hw287 => k0_hw287

def k0_chk288 (v921 : IVec S16 32) : Prop :=
  (∀ a x, ((![v921] : Fin 1 → IVec S16 32) a x).toNat < S6144.size a)
theorem k0_idx288_inb : ∀ (v921 : IVec S16 32) (k0_hw288 : k0_chk288 v921), ∀ a x, ((![v921] : Fin 1 → IVec S16 32) a x).toNat < S6144.size a := fun v921 k0_hw288 => k0_hw288
def k0_off22 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_150 : BitVec 32 := 1#32
  let c192_i32_151 : BitVec 32 := 192#32
  let c0_i32_152 : BitVec 32 := 0#32
  ![v1.toNat, 1, 192, 0]
@[reducible] def k0_t11_loop : Scf.Loop 32 :=
  let c0_i32_162 : BitVec 32 := 0#32
  let c64_i32_163 : BitVec 32 := 64#32
  let v123 : BitVec 32 := Scalar.addi c0_i32_162 c64_i32_163
  let c1_i32_164 : BitVec 32 := 1#32
  ⟨c0_i32_162, v123, c1_i32_164⟩
def k0_off23 (k0_t11 : Fin k0_t11_loop.trips) (c0_i32_762 : BitVec 32) : Fin 2 → Nat :=
  let c0_i32_162 : BitVec 32 := 0#32
  let c1_i32_164 : BitVec 32 := 1#32
  let arg12 : BitVec 32 := Scf.iv c0_i32_162 c1_i32_164 k0_t11
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk289 (v766 : IVec S16 32) : Prop :=
  (∀ a x, ((![v766] : Fin 1 → IVec S16 32) a x).toNat < S6144.size a)
theorem k0_idx289_inb : ∀ (v766 : IVec S16 32) (k0_hw289 : k0_chk289 v766), ∀ a x, ((![v766] : Fin 1 → IVec S16 32) a x).toNat < S6144.size a := fun v766 k0_hw289 => k0_hw289

def k0_chk290 (v771 : IVec S16 32) : Prop :=
  (∀ a x, ((![v771] : Fin 1 → IVec S16 32) a x).toNat < S6144.size a)
theorem k0_idx290_inb : ∀ (v771 : IVec S16 32) (k0_hw290 : k0_chk290 v771), ∀ a x, ((![v771] : Fin 1 → IVec S16 32) a x).toNat < S6144.size a := fun v771 k0_hw290 => k0_hw290

def k0_chk291 (v776 : IVec S16 32) : Prop :=
  (∀ a x, ((![v776] : Fin 1 → IVec S16 32) a x).toNat < S6144.size a)
theorem k0_idx291_inb : ∀ (v776 : IVec S16 32) (k0_hw291 : k0_chk291 v776), ∀ a x, ((![v776] : Fin 1 → IVec S16 32) a x).toNat < S6144.size a := fun v776 k0_hw291 => k0_hw291

def k0_chk292 (v781 : IVec S16 32) : Prop :=
  (∀ a x, ((![v781] : Fin 1 → IVec S16 32) a x).toNat < S6144.size a)
theorem k0_idx292_inb : ∀ (v781 : IVec S16 32) (k0_hw292 : k0_chk292 v781), ∀ a x, ((![v781] : Fin 1 → IVec S16 32) a x).toNat < S6144.size a := fun v781 k0_hw292 => k0_hw292

def k0_chk293 (v786 : IVec S16 32) : Prop :=
  (∀ a x, ((![v786] : Fin 1 → IVec S16 32) a x).toNat < S6144.size a)
theorem k0_idx293_inb : ∀ (v786 : IVec S16 32) (k0_hw293 : k0_chk293 v786), ∀ a x, ((![v786] : Fin 1 → IVec S16 32) a x).toNat < S6144.size a := fun v786 k0_hw293 => k0_hw293

def k0_chk294 (v791 : IVec S16 32) : Prop :=
  (∀ a x, ((![v791] : Fin 1 → IVec S16 32) a x).toNat < S6144.size a)
theorem k0_idx294_inb : ∀ (v791 : IVec S16 32) (k0_hw294 : k0_chk294 v791), ∀ a x, ((![v791] : Fin 1 → IVec S16 32) a x).toNat < S6144.size a := fun v791 k0_hw294 => k0_hw294

def k0_chk295 (v796 : IVec S16 32) : Prop :=
  (∀ a x, ((![v796] : Fin 1 → IVec S16 32) a x).toNat < S6144.size a)
theorem k0_idx295_inb : ∀ (v796 : IVec S16 32) (k0_hw295 : k0_chk295 v796), ∀ a x, ((![v796] : Fin 1 → IVec S16 32) a x).toNat < S6144.size a := fun v796 k0_hw295 => k0_hw295

def k0_chk296 (v801 : IVec S16 32) : Prop :=
  (∀ a x, ((![v801] : Fin 1 → IVec S16 32) a x).toNat < S6144.size a)
theorem k0_idx296_inb : ∀ (v801 : IVec S16 32) (k0_hw296 : k0_chk296 v801), ∀ a x, ((![v801] : Fin 1 → IVec S16 32) a x).toNat < S6144.size a := fun v801 k0_hw296 => k0_hw296

def k0_chk297 (v806 : IVec S16 32) : Prop :=
  (∀ a x, ((![v806] : Fin 1 → IVec S16 32) a x).toNat < S6144.size a)
theorem k0_idx297_inb : ∀ (v806 : IVec S16 32) (k0_hw297 : k0_chk297 v806), ∀ a x, ((![v806] : Fin 1 → IVec S16 32) a x).toNat < S6144.size a := fun v806 k0_hw297 => k0_hw297

def k0_chk298 (v811 : IVec S16 32) : Prop :=
  (∀ a x, ((![v811] : Fin 1 → IVec S16 32) a x).toNat < S6144.size a)
theorem k0_idx298_inb : ∀ (v811 : IVec S16 32) (k0_hw298 : k0_chk298 v811), ∀ a x, ((![v811] : Fin 1 → IVec S16 32) a x).toNat < S6144.size a := fun v811 k0_hw298 => k0_hw298

def k0_chk299 (v816 : IVec S16 32) : Prop :=
  (∀ a x, ((![v816] : Fin 1 → IVec S16 32) a x).toNat < S6144.size a)
theorem k0_idx299_inb : ∀ (v816 : IVec S16 32) (k0_hw299 : k0_chk299 v816), ∀ a x, ((![v816] : Fin 1 → IVec S16 32) a x).toNat < S6144.size a := fun v816 k0_hw299 => k0_hw299

def k0_chk300 (v821 : IVec S16 32) : Prop :=
  (∀ a x, ((![v821] : Fin 1 → IVec S16 32) a x).toNat < S6144.size a)
theorem k0_idx300_inb : ∀ (v821 : IVec S16 32) (k0_hw300 : k0_chk300 v821), ∀ a x, ((![v821] : Fin 1 → IVec S16 32) a x).toNat < S6144.size a := fun v821 k0_hw300 => k0_hw300

def k0_chk301 (v826 : IVec S16 32) : Prop :=
  (∀ a x, ((![v826] : Fin 1 → IVec S16 32) a x).toNat < S6144.size a)
theorem k0_idx301_inb : ∀ (v826 : IVec S16 32) (k0_hw301 : k0_chk301 v826), ∀ a x, ((![v826] : Fin 1 → IVec S16 32) a x).toNat < S6144.size a := fun v826 k0_hw301 => k0_hw301

def k0_chk302 (v831 : IVec S16 32) : Prop :=
  (∀ a x, ((![v831] : Fin 1 → IVec S16 32) a x).toNat < S6144.size a)
theorem k0_idx302_inb : ∀ (v831 : IVec S16 32) (k0_hw302 : k0_chk302 v831), ∀ a x, ((![v831] : Fin 1 → IVec S16 32) a x).toNat < S6144.size a := fun v831 k0_hw302 => k0_hw302

def k0_chk303 (v836 : IVec S16 32) : Prop :=
  (∀ a x, ((![v836] : Fin 1 → IVec S16 32) a x).toNat < S6144.size a)
theorem k0_idx303_inb : ∀ (v836 : IVec S16 32) (k0_hw303 : k0_chk303 v836), ∀ a x, ((![v836] : Fin 1 → IVec S16 32) a x).toNat < S6144.size a := fun v836 k0_hw303 => k0_hw303

def k0_chk304 (v841 : IVec S16 32) : Prop :=
  (∀ a x, ((![v841] : Fin 1 → IVec S16 32) a x).toNat < S6144.size a)
theorem k0_idx304_inb : ∀ (v841 : IVec S16 32) (k0_hw304 : k0_chk304 v841), ∀ a x, ((![v841] : Fin 1 → IVec S16 32) a x).toNat < S6144.size a := fun v841 k0_hw304 => k0_hw304

def k0_chk305 (v846 : IVec S16 32) : Prop :=
  (∀ a x, ((![v846] : Fin 1 → IVec S16 32) a x).toNat < S6144.size a)
theorem k0_idx305_inb : ∀ (v846 : IVec S16 32) (k0_hw305 : k0_chk305 v846), ∀ a x, ((![v846] : Fin 1 → IVec S16 32) a x).toNat < S6144.size a := fun v846 k0_hw305 => k0_hw305

def k0_chk306 (v851 : IVec S16 32) : Prop :=
  (∀ a x, ((![v851] : Fin 1 → IVec S16 32) a x).toNat < S6144.size a)
theorem k0_idx306_inb : ∀ (v851 : IVec S16 32) (k0_hw306 : k0_chk306 v851), ∀ a x, ((![v851] : Fin 1 → IVec S16 32) a x).toNat < S6144.size a := fun v851 k0_hw306 => k0_hw306

def k0_chk307 (v856 : IVec S16 32) : Prop :=
  (∀ a x, ((![v856] : Fin 1 → IVec S16 32) a x).toNat < S6144.size a)
theorem k0_idx307_inb : ∀ (v856 : IVec S16 32) (k0_hw307 : k0_chk307 v856), ∀ a x, ((![v856] : Fin 1 → IVec S16 32) a x).toNat < S6144.size a := fun v856 k0_hw307 => k0_hw307

def k0_chk308 (v861 : IVec S16 32) : Prop :=
  (∀ a x, ((![v861] : Fin 1 → IVec S16 32) a x).toNat < S6144.size a)
theorem k0_idx308_inb : ∀ (v861 : IVec S16 32) (k0_hw308 : k0_chk308 v861), ∀ a x, ((![v861] : Fin 1 → IVec S16 32) a x).toNat < S6144.size a := fun v861 k0_hw308 => k0_hw308

def k0_chk309 (v866 : IVec S16 32) : Prop :=
  (∀ a x, ((![v866] : Fin 1 → IVec S16 32) a x).toNat < S6144.size a)
theorem k0_idx309_inb : ∀ (v866 : IVec S16 32) (k0_hw309 : k0_chk309 v866), ∀ a x, ((![v866] : Fin 1 → IVec S16 32) a x).toNat < S6144.size a := fun v866 k0_hw309 => k0_hw309

def k0_chk310 (v871 : IVec S16 32) : Prop :=
  (∀ a x, ((![v871] : Fin 1 → IVec S16 32) a x).toNat < S6144.size a)
theorem k0_idx310_inb : ∀ (v871 : IVec S16 32) (k0_hw310 : k0_chk310 v871), ∀ a x, ((![v871] : Fin 1 → IVec S16 32) a x).toNat < S6144.size a := fun v871 k0_hw310 => k0_hw310

def k0_chk311 (v876 : IVec S16 32) : Prop :=
  (∀ a x, ((![v876] : Fin 1 → IVec S16 32) a x).toNat < S6144.size a)
theorem k0_idx311_inb : ∀ (v876 : IVec S16 32) (k0_hw311 : k0_chk311 v876), ∀ a x, ((![v876] : Fin 1 → IVec S16 32) a x).toNat < S6144.size a := fun v876 k0_hw311 => k0_hw311

def k0_chk312 (v881 : IVec S16 32) : Prop :=
  (∀ a x, ((![v881] : Fin 1 → IVec S16 32) a x).toNat < S6144.size a)
theorem k0_idx312_inb : ∀ (v881 : IVec S16 32) (k0_hw312 : k0_chk312 v881), ∀ a x, ((![v881] : Fin 1 → IVec S16 32) a x).toNat < S6144.size a := fun v881 k0_hw312 => k0_hw312

def k0_chk313 (v886 : IVec S16 32) : Prop :=
  (∀ a x, ((![v886] : Fin 1 → IVec S16 32) a x).toNat < S6144.size a)
theorem k0_idx313_inb : ∀ (v886 : IVec S16 32) (k0_hw313 : k0_chk313 v886), ∀ a x, ((![v886] : Fin 1 → IVec S16 32) a x).toNat < S6144.size a := fun v886 k0_hw313 => k0_hw313

def k0_chk314 (v891 : IVec S16 32) : Prop :=
  (∀ a x, ((![v891] : Fin 1 → IVec S16 32) a x).toNat < S6144.size a)
theorem k0_idx314_inb : ∀ (v891 : IVec S16 32) (k0_hw314 : k0_chk314 v891), ∀ a x, ((![v891] : Fin 1 → IVec S16 32) a x).toNat < S6144.size a := fun v891 k0_hw314 => k0_hw314

def k0_chk315 (v896 : IVec S16 32) : Prop :=
  (∀ a x, ((![v896] : Fin 1 → IVec S16 32) a x).toNat < S6144.size a)
theorem k0_idx315_inb : ∀ (v896 : IVec S16 32) (k0_hw315 : k0_chk315 v896), ∀ a x, ((![v896] : Fin 1 → IVec S16 32) a x).toNat < S6144.size a := fun v896 k0_hw315 => k0_hw315

def k0_chk316 (v901 : IVec S16 32) : Prop :=
  (∀ a x, ((![v901] : Fin 1 → IVec S16 32) a x).toNat < S6144.size a)
theorem k0_idx316_inb : ∀ (v901 : IVec S16 32) (k0_hw316 : k0_chk316 v901), ∀ a x, ((![v901] : Fin 1 → IVec S16 32) a x).toNat < S6144.size a := fun v901 k0_hw316 => k0_hw316

def k0_chk317 (v906 : IVec S16 32) : Prop :=
  (∀ a x, ((![v906] : Fin 1 → IVec S16 32) a x).toNat < S6144.size a)
theorem k0_idx317_inb : ∀ (v906 : IVec S16 32) (k0_hw317 : k0_chk317 v906), ∀ a x, ((![v906] : Fin 1 → IVec S16 32) a x).toNat < S6144.size a := fun v906 k0_hw317 => k0_hw317

def k0_chk318 (v911 : IVec S16 32) : Prop :=
  (∀ a x, ((![v911] : Fin 1 → IVec S16 32) a x).toNat < S6144.size a)
theorem k0_idx318_inb : ∀ (v911 : IVec S16 32) (k0_hw318 : k0_chk318 v911), ∀ a x, ((![v911] : Fin 1 → IVec S16 32) a x).toNat < S6144.size a := fun v911 k0_hw318 => k0_hw318

def k0_chk319 (v916 : IVec S16 32) : Prop :=
  (∀ a x, ((![v916] : Fin 1 → IVec S16 32) a x).toNat < S6144.size a)
theorem k0_idx319_inb : ∀ (v916 : IVec S16 32) (k0_hw319 : k0_chk319 v916), ∀ a x, ((![v916] : Fin 1 → IVec S16 32) a x).toNat < S6144.size a := fun v916 k0_hw319 => k0_hw319

def k0_chk320 (v921 : IVec S16 32) : Prop :=
  (∀ a x, ((![v921] : Fin 1 → IVec S16 32) a x).toNat < S6144.size a)
theorem k0_idx320_inb : ∀ (v921 : IVec S16 32) (k0_hw320 : k0_chk320 v921), ∀ a x, ((![v921] : Fin 1 → IVec S16 32) a x).toNat < S6144.size a := fun v921 k0_hw320 => k0_hw320
def k0_off24 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_166 : BitVec 32 := 1#32
  let c256_i32_167 : BitVec 32 := 256#32
  let c0_i32_168 : BitVec 32 := 0#32
  ![v1.toNat, 1, 256, 0]
@[reducible] def k0_t12_loop : Scf.Loop 32 :=
  let c0_i32_178 : BitVec 32 := 0#32
  let c64_i32_179 : BitVec 32 := 64#32
  let v134 : BitVec 32 := Scalar.addi c0_i32_178 c64_i32_179
  let c1_i32_180 : BitVec 32 := 1#32
  ⟨c0_i32_178, v134, c1_i32_180⟩
def k0_off25 (k0_t12 : Fin k0_t12_loop.trips) (c0_i32_762 : BitVec 32) : Fin 2 → Nat :=
  let c0_i32_178 : BitVec 32 := 0#32
  let c1_i32_180 : BitVec 32 := 1#32
  let arg12 : BitVec 32 := Scf.iv c0_i32_178 c1_i32_180 k0_t12
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk321 (v766 : IVec S16 32) : Prop :=
  (∀ a x, ((![v766] : Fin 1 → IVec S16 32) a x).toNat < S6144.size a)
theorem k0_idx321_inb : ∀ (v766 : IVec S16 32) (k0_hw321 : k0_chk321 v766), ∀ a x, ((![v766] : Fin 1 → IVec S16 32) a x).toNat < S6144.size a := fun v766 k0_hw321 => k0_hw321

def k0_chk322 (v771 : IVec S16 32) : Prop :=
  (∀ a x, ((![v771] : Fin 1 → IVec S16 32) a x).toNat < S6144.size a)
theorem k0_idx322_inb : ∀ (v771 : IVec S16 32) (k0_hw322 : k0_chk322 v771), ∀ a x, ((![v771] : Fin 1 → IVec S16 32) a x).toNat < S6144.size a := fun v771 k0_hw322 => k0_hw322

def k0_chk323 (v776 : IVec S16 32) : Prop :=
  (∀ a x, ((![v776] : Fin 1 → IVec S16 32) a x).toNat < S6144.size a)
theorem k0_idx323_inb : ∀ (v776 : IVec S16 32) (k0_hw323 : k0_chk323 v776), ∀ a x, ((![v776] : Fin 1 → IVec S16 32) a x).toNat < S6144.size a := fun v776 k0_hw323 => k0_hw323

def k0_chk324 (v781 : IVec S16 32) : Prop :=
  (∀ a x, ((![v781] : Fin 1 → IVec S16 32) a x).toNat < S6144.size a)
theorem k0_idx324_inb : ∀ (v781 : IVec S16 32) (k0_hw324 : k0_chk324 v781), ∀ a x, ((![v781] : Fin 1 → IVec S16 32) a x).toNat < S6144.size a := fun v781 k0_hw324 => k0_hw324

def k0_chk325 (v786 : IVec S16 32) : Prop :=
  (∀ a x, ((![v786] : Fin 1 → IVec S16 32) a x).toNat < S6144.size a)
theorem k0_idx325_inb : ∀ (v786 : IVec S16 32) (k0_hw325 : k0_chk325 v786), ∀ a x, ((![v786] : Fin 1 → IVec S16 32) a x).toNat < S6144.size a := fun v786 k0_hw325 => k0_hw325

def k0_chk326 (v791 : IVec S16 32) : Prop :=
  (∀ a x, ((![v791] : Fin 1 → IVec S16 32) a x).toNat < S6144.size a)
theorem k0_idx326_inb : ∀ (v791 : IVec S16 32) (k0_hw326 : k0_chk326 v791), ∀ a x, ((![v791] : Fin 1 → IVec S16 32) a x).toNat < S6144.size a := fun v791 k0_hw326 => k0_hw326

def k0_chk327 (v796 : IVec S16 32) : Prop :=
  (∀ a x, ((![v796] : Fin 1 → IVec S16 32) a x).toNat < S6144.size a)
theorem k0_idx327_inb : ∀ (v796 : IVec S16 32) (k0_hw327 : k0_chk327 v796), ∀ a x, ((![v796] : Fin 1 → IVec S16 32) a x).toNat < S6144.size a := fun v796 k0_hw327 => k0_hw327

def k0_chk328 (v801 : IVec S16 32) : Prop :=
  (∀ a x, ((![v801] : Fin 1 → IVec S16 32) a x).toNat < S6144.size a)
theorem k0_idx328_inb : ∀ (v801 : IVec S16 32) (k0_hw328 : k0_chk328 v801), ∀ a x, ((![v801] : Fin 1 → IVec S16 32) a x).toNat < S6144.size a := fun v801 k0_hw328 => k0_hw328

def k0_chk329 (v806 : IVec S16 32) : Prop :=
  (∀ a x, ((![v806] : Fin 1 → IVec S16 32) a x).toNat < S6144.size a)
theorem k0_idx329_inb : ∀ (v806 : IVec S16 32) (k0_hw329 : k0_chk329 v806), ∀ a x, ((![v806] : Fin 1 → IVec S16 32) a x).toNat < S6144.size a := fun v806 k0_hw329 => k0_hw329

def k0_chk330 (v811 : IVec S16 32) : Prop :=
  (∀ a x, ((![v811] : Fin 1 → IVec S16 32) a x).toNat < S6144.size a)
theorem k0_idx330_inb : ∀ (v811 : IVec S16 32) (k0_hw330 : k0_chk330 v811), ∀ a x, ((![v811] : Fin 1 → IVec S16 32) a x).toNat < S6144.size a := fun v811 k0_hw330 => k0_hw330

def k0_chk331 (v816 : IVec S16 32) : Prop :=
  (∀ a x, ((![v816] : Fin 1 → IVec S16 32) a x).toNat < S6144.size a)
theorem k0_idx331_inb : ∀ (v816 : IVec S16 32) (k0_hw331 : k0_chk331 v816), ∀ a x, ((![v816] : Fin 1 → IVec S16 32) a x).toNat < S6144.size a := fun v816 k0_hw331 => k0_hw331

def k0_chk332 (v821 : IVec S16 32) : Prop :=
  (∀ a x, ((![v821] : Fin 1 → IVec S16 32) a x).toNat < S6144.size a)
theorem k0_idx332_inb : ∀ (v821 : IVec S16 32) (k0_hw332 : k0_chk332 v821), ∀ a x, ((![v821] : Fin 1 → IVec S16 32) a x).toNat < S6144.size a := fun v821 k0_hw332 => k0_hw332

def k0_chk333 (v826 : IVec S16 32) : Prop :=
  (∀ a x, ((![v826] : Fin 1 → IVec S16 32) a x).toNat < S6144.size a)
theorem k0_idx333_inb : ∀ (v826 : IVec S16 32) (k0_hw333 : k0_chk333 v826), ∀ a x, ((![v826] : Fin 1 → IVec S16 32) a x).toNat < S6144.size a := fun v826 k0_hw333 => k0_hw333

def k0_chk334 (v831 : IVec S16 32) : Prop :=
  (∀ a x, ((![v831] : Fin 1 → IVec S16 32) a x).toNat < S6144.size a)
theorem k0_idx334_inb : ∀ (v831 : IVec S16 32) (k0_hw334 : k0_chk334 v831), ∀ a x, ((![v831] : Fin 1 → IVec S16 32) a x).toNat < S6144.size a := fun v831 k0_hw334 => k0_hw334

def k0_chk335 (v836 : IVec S16 32) : Prop :=
  (∀ a x, ((![v836] : Fin 1 → IVec S16 32) a x).toNat < S6144.size a)
theorem k0_idx335_inb : ∀ (v836 : IVec S16 32) (k0_hw335 : k0_chk335 v836), ∀ a x, ((![v836] : Fin 1 → IVec S16 32) a x).toNat < S6144.size a := fun v836 k0_hw335 => k0_hw335

def k0_chk336 (v841 : IVec S16 32) : Prop :=
  (∀ a x, ((![v841] : Fin 1 → IVec S16 32) a x).toNat < S6144.size a)
theorem k0_idx336_inb : ∀ (v841 : IVec S16 32) (k0_hw336 : k0_chk336 v841), ∀ a x, ((![v841] : Fin 1 → IVec S16 32) a x).toNat < S6144.size a := fun v841 k0_hw336 => k0_hw336

def k0_chk337 (v846 : IVec S16 32) : Prop :=
  (∀ a x, ((![v846] : Fin 1 → IVec S16 32) a x).toNat < S6144.size a)
theorem k0_idx337_inb : ∀ (v846 : IVec S16 32) (k0_hw337 : k0_chk337 v846), ∀ a x, ((![v846] : Fin 1 → IVec S16 32) a x).toNat < S6144.size a := fun v846 k0_hw337 => k0_hw337

def k0_chk338 (v851 : IVec S16 32) : Prop :=
  (∀ a x, ((![v851] : Fin 1 → IVec S16 32) a x).toNat < S6144.size a)
theorem k0_idx338_inb : ∀ (v851 : IVec S16 32) (k0_hw338 : k0_chk338 v851), ∀ a x, ((![v851] : Fin 1 → IVec S16 32) a x).toNat < S6144.size a := fun v851 k0_hw338 => k0_hw338

def k0_chk339 (v856 : IVec S16 32) : Prop :=
  (∀ a x, ((![v856] : Fin 1 → IVec S16 32) a x).toNat < S6144.size a)
theorem k0_idx339_inb : ∀ (v856 : IVec S16 32) (k0_hw339 : k0_chk339 v856), ∀ a x, ((![v856] : Fin 1 → IVec S16 32) a x).toNat < S6144.size a := fun v856 k0_hw339 => k0_hw339

def k0_chk340 (v861 : IVec S16 32) : Prop :=
  (∀ a x, ((![v861] : Fin 1 → IVec S16 32) a x).toNat < S6144.size a)
theorem k0_idx340_inb : ∀ (v861 : IVec S16 32) (k0_hw340 : k0_chk340 v861), ∀ a x, ((![v861] : Fin 1 → IVec S16 32) a x).toNat < S6144.size a := fun v861 k0_hw340 => k0_hw340

def k0_chk341 (v866 : IVec S16 32) : Prop :=
  (∀ a x, ((![v866] : Fin 1 → IVec S16 32) a x).toNat < S6144.size a)
theorem k0_idx341_inb : ∀ (v866 : IVec S16 32) (k0_hw341 : k0_chk341 v866), ∀ a x, ((![v866] : Fin 1 → IVec S16 32) a x).toNat < S6144.size a := fun v866 k0_hw341 => k0_hw341

def k0_chk342 (v871 : IVec S16 32) : Prop :=
  (∀ a x, ((![v871] : Fin 1 → IVec S16 32) a x).toNat < S6144.size a)
theorem k0_idx342_inb : ∀ (v871 : IVec S16 32) (k0_hw342 : k0_chk342 v871), ∀ a x, ((![v871] : Fin 1 → IVec S16 32) a x).toNat < S6144.size a := fun v871 k0_hw342 => k0_hw342

def k0_chk343 (v876 : IVec S16 32) : Prop :=
  (∀ a x, ((![v876] : Fin 1 → IVec S16 32) a x).toNat < S6144.size a)
theorem k0_idx343_inb : ∀ (v876 : IVec S16 32) (k0_hw343 : k0_chk343 v876), ∀ a x, ((![v876] : Fin 1 → IVec S16 32) a x).toNat < S6144.size a := fun v876 k0_hw343 => k0_hw343

def k0_chk344 (v881 : IVec S16 32) : Prop :=
  (∀ a x, ((![v881] : Fin 1 → IVec S16 32) a x).toNat < S6144.size a)
theorem k0_idx344_inb : ∀ (v881 : IVec S16 32) (k0_hw344 : k0_chk344 v881), ∀ a x, ((![v881] : Fin 1 → IVec S16 32) a x).toNat < S6144.size a := fun v881 k0_hw344 => k0_hw344

def k0_chk345 (v886 : IVec S16 32) : Prop :=
  (∀ a x, ((![v886] : Fin 1 → IVec S16 32) a x).toNat < S6144.size a)
theorem k0_idx345_inb : ∀ (v886 : IVec S16 32) (k0_hw345 : k0_chk345 v886), ∀ a x, ((![v886] : Fin 1 → IVec S16 32) a x).toNat < S6144.size a := fun v886 k0_hw345 => k0_hw345

def k0_chk346 (v891 : IVec S16 32) : Prop :=
  (∀ a x, ((![v891] : Fin 1 → IVec S16 32) a x).toNat < S6144.size a)
theorem k0_idx346_inb : ∀ (v891 : IVec S16 32) (k0_hw346 : k0_chk346 v891), ∀ a x, ((![v891] : Fin 1 → IVec S16 32) a x).toNat < S6144.size a := fun v891 k0_hw346 => k0_hw346

def k0_chk347 (v896 : IVec S16 32) : Prop :=
  (∀ a x, ((![v896] : Fin 1 → IVec S16 32) a x).toNat < S6144.size a)
theorem k0_idx347_inb : ∀ (v896 : IVec S16 32) (k0_hw347 : k0_chk347 v896), ∀ a x, ((![v896] : Fin 1 → IVec S16 32) a x).toNat < S6144.size a := fun v896 k0_hw347 => k0_hw347

def k0_chk348 (v901 : IVec S16 32) : Prop :=
  (∀ a x, ((![v901] : Fin 1 → IVec S16 32) a x).toNat < S6144.size a)
theorem k0_idx348_inb : ∀ (v901 : IVec S16 32) (k0_hw348 : k0_chk348 v901), ∀ a x, ((![v901] : Fin 1 → IVec S16 32) a x).toNat < S6144.size a := fun v901 k0_hw348 => k0_hw348

def k0_chk349 (v906 : IVec S16 32) : Prop :=
  (∀ a x, ((![v906] : Fin 1 → IVec S16 32) a x).toNat < S6144.size a)
theorem k0_idx349_inb : ∀ (v906 : IVec S16 32) (k0_hw349 : k0_chk349 v906), ∀ a x, ((![v906] : Fin 1 → IVec S16 32) a x).toNat < S6144.size a := fun v906 k0_hw349 => k0_hw349

def k0_chk350 (v911 : IVec S16 32) : Prop :=
  (∀ a x, ((![v911] : Fin 1 → IVec S16 32) a x).toNat < S6144.size a)
theorem k0_idx350_inb : ∀ (v911 : IVec S16 32) (k0_hw350 : k0_chk350 v911), ∀ a x, ((![v911] : Fin 1 → IVec S16 32) a x).toNat < S6144.size a := fun v911 k0_hw350 => k0_hw350

def k0_chk351 (v916 : IVec S16 32) : Prop :=
  (∀ a x, ((![v916] : Fin 1 → IVec S16 32) a x).toNat < S6144.size a)
theorem k0_idx351_inb : ∀ (v916 : IVec S16 32) (k0_hw351 : k0_chk351 v916), ∀ a x, ((![v916] : Fin 1 → IVec S16 32) a x).toNat < S6144.size a := fun v916 k0_hw351 => k0_hw351

def k0_chk352 (v921 : IVec S16 32) : Prop :=
  (∀ a x, ((![v921] : Fin 1 → IVec S16 32) a x).toNat < S6144.size a)
theorem k0_idx352_inb : ∀ (v921 : IVec S16 32) (k0_hw352 : k0_chk352 v921), ∀ a x, ((![v921] : Fin 1 → IVec S16 32) a x).toNat < S6144.size a := fun v921 k0_hw352 => k0_hw352
def k0_off26 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_182 : BitVec 32 := 1#32
  let c320_i32_183 : BitVec 32 := 320#32
  let c0_i32_184 : BitVec 32 := 0#32
  ![v1.toNat, 1, 320, 0]
@[reducible] def k0_t13_loop : Scf.Loop 32 :=
  let c0_i32_194 : BitVec 32 := 0#32
  let c64_i32_195 : BitVec 32 := 64#32
  let v145 : BitVec 32 := Scalar.addi c0_i32_194 c64_i32_195
  let c1_i32_196 : BitVec 32 := 1#32
  ⟨c0_i32_194, v145, c1_i32_196⟩
def k0_off27 (k0_t13 : Fin k0_t13_loop.trips) (c0_i32_762 : BitVec 32) : Fin 2 → Nat :=
  let c0_i32_194 : BitVec 32 := 0#32
  let c1_i32_196 : BitVec 32 := 1#32
  let arg12 : BitVec 32 := Scf.iv c0_i32_194 c1_i32_196 k0_t13
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk353 (v766 : IVec S16 32) : Prop :=
  (∀ a x, ((![v766] : Fin 1 → IVec S16 32) a x).toNat < S6144.size a)
theorem k0_idx353_inb : ∀ (v766 : IVec S16 32) (k0_hw353 : k0_chk353 v766), ∀ a x, ((![v766] : Fin 1 → IVec S16 32) a x).toNat < S6144.size a := fun v766 k0_hw353 => k0_hw353

def k0_chk354 (v771 : IVec S16 32) : Prop :=
  (∀ a x, ((![v771] : Fin 1 → IVec S16 32) a x).toNat < S6144.size a)
theorem k0_idx354_inb : ∀ (v771 : IVec S16 32) (k0_hw354 : k0_chk354 v771), ∀ a x, ((![v771] : Fin 1 → IVec S16 32) a x).toNat < S6144.size a := fun v771 k0_hw354 => k0_hw354

def k0_chk355 (v776 : IVec S16 32) : Prop :=
  (∀ a x, ((![v776] : Fin 1 → IVec S16 32) a x).toNat < S6144.size a)
theorem k0_idx355_inb : ∀ (v776 : IVec S16 32) (k0_hw355 : k0_chk355 v776), ∀ a x, ((![v776] : Fin 1 → IVec S16 32) a x).toNat < S6144.size a := fun v776 k0_hw355 => k0_hw355

def k0_chk356 (v781 : IVec S16 32) : Prop :=
  (∀ a x, ((![v781] : Fin 1 → IVec S16 32) a x).toNat < S6144.size a)
theorem k0_idx356_inb : ∀ (v781 : IVec S16 32) (k0_hw356 : k0_chk356 v781), ∀ a x, ((![v781] : Fin 1 → IVec S16 32) a x).toNat < S6144.size a := fun v781 k0_hw356 => k0_hw356

def k0_chk357 (v786 : IVec S16 32) : Prop :=
  (∀ a x, ((![v786] : Fin 1 → IVec S16 32) a x).toNat < S6144.size a)
theorem k0_idx357_inb : ∀ (v786 : IVec S16 32) (k0_hw357 : k0_chk357 v786), ∀ a x, ((![v786] : Fin 1 → IVec S16 32) a x).toNat < S6144.size a := fun v786 k0_hw357 => k0_hw357

def k0_chk358 (v791 : IVec S16 32) : Prop :=
  (∀ a x, ((![v791] : Fin 1 → IVec S16 32) a x).toNat < S6144.size a)
theorem k0_idx358_inb : ∀ (v791 : IVec S16 32) (k0_hw358 : k0_chk358 v791), ∀ a x, ((![v791] : Fin 1 → IVec S16 32) a x).toNat < S6144.size a := fun v791 k0_hw358 => k0_hw358

def k0_chk359 (v796 : IVec S16 32) : Prop :=
  (∀ a x, ((![v796] : Fin 1 → IVec S16 32) a x).toNat < S6144.size a)
theorem k0_idx359_inb : ∀ (v796 : IVec S16 32) (k0_hw359 : k0_chk359 v796), ∀ a x, ((![v796] : Fin 1 → IVec S16 32) a x).toNat < S6144.size a := fun v796 k0_hw359 => k0_hw359

def k0_chk360 (v801 : IVec S16 32) : Prop :=
  (∀ a x, ((![v801] : Fin 1 → IVec S16 32) a x).toNat < S6144.size a)
theorem k0_idx360_inb : ∀ (v801 : IVec S16 32) (k0_hw360 : k0_chk360 v801), ∀ a x, ((![v801] : Fin 1 → IVec S16 32) a x).toNat < S6144.size a := fun v801 k0_hw360 => k0_hw360

def k0_chk361 (v806 : IVec S16 32) : Prop :=
  (∀ a x, ((![v806] : Fin 1 → IVec S16 32) a x).toNat < S6144.size a)
theorem k0_idx361_inb : ∀ (v806 : IVec S16 32) (k0_hw361 : k0_chk361 v806), ∀ a x, ((![v806] : Fin 1 → IVec S16 32) a x).toNat < S6144.size a := fun v806 k0_hw361 => k0_hw361

def k0_chk362 (v811 : IVec S16 32) : Prop :=
  (∀ a x, ((![v811] : Fin 1 → IVec S16 32) a x).toNat < S6144.size a)
theorem k0_idx362_inb : ∀ (v811 : IVec S16 32) (k0_hw362 : k0_chk362 v811), ∀ a x, ((![v811] : Fin 1 → IVec S16 32) a x).toNat < S6144.size a := fun v811 k0_hw362 => k0_hw362

def k0_chk363 (v816 : IVec S16 32) : Prop :=
  (∀ a x, ((![v816] : Fin 1 → IVec S16 32) a x).toNat < S6144.size a)
theorem k0_idx363_inb : ∀ (v816 : IVec S16 32) (k0_hw363 : k0_chk363 v816), ∀ a x, ((![v816] : Fin 1 → IVec S16 32) a x).toNat < S6144.size a := fun v816 k0_hw363 => k0_hw363

def k0_chk364 (v821 : IVec S16 32) : Prop :=
  (∀ a x, ((![v821] : Fin 1 → IVec S16 32) a x).toNat < S6144.size a)
theorem k0_idx364_inb : ∀ (v821 : IVec S16 32) (k0_hw364 : k0_chk364 v821), ∀ a x, ((![v821] : Fin 1 → IVec S16 32) a x).toNat < S6144.size a := fun v821 k0_hw364 => k0_hw364

def k0_chk365 (v826 : IVec S16 32) : Prop :=
  (∀ a x, ((![v826] : Fin 1 → IVec S16 32) a x).toNat < S6144.size a)
theorem k0_idx365_inb : ∀ (v826 : IVec S16 32) (k0_hw365 : k0_chk365 v826), ∀ a x, ((![v826] : Fin 1 → IVec S16 32) a x).toNat < S6144.size a := fun v826 k0_hw365 => k0_hw365

def k0_chk366 (v831 : IVec S16 32) : Prop :=
  (∀ a x, ((![v831] : Fin 1 → IVec S16 32) a x).toNat < S6144.size a)
theorem k0_idx366_inb : ∀ (v831 : IVec S16 32) (k0_hw366 : k0_chk366 v831), ∀ a x, ((![v831] : Fin 1 → IVec S16 32) a x).toNat < S6144.size a := fun v831 k0_hw366 => k0_hw366

def k0_chk367 (v836 : IVec S16 32) : Prop :=
  (∀ a x, ((![v836] : Fin 1 → IVec S16 32) a x).toNat < S6144.size a)
theorem k0_idx367_inb : ∀ (v836 : IVec S16 32) (k0_hw367 : k0_chk367 v836), ∀ a x, ((![v836] : Fin 1 → IVec S16 32) a x).toNat < S6144.size a := fun v836 k0_hw367 => k0_hw367

def k0_chk368 (v841 : IVec S16 32) : Prop :=
  (∀ a x, ((![v841] : Fin 1 → IVec S16 32) a x).toNat < S6144.size a)
theorem k0_idx368_inb : ∀ (v841 : IVec S16 32) (k0_hw368 : k0_chk368 v841), ∀ a x, ((![v841] : Fin 1 → IVec S16 32) a x).toNat < S6144.size a := fun v841 k0_hw368 => k0_hw368

def k0_chk369 (v846 : IVec S16 32) : Prop :=
  (∀ a x, ((![v846] : Fin 1 → IVec S16 32) a x).toNat < S6144.size a)
theorem k0_idx369_inb : ∀ (v846 : IVec S16 32) (k0_hw369 : k0_chk369 v846), ∀ a x, ((![v846] : Fin 1 → IVec S16 32) a x).toNat < S6144.size a := fun v846 k0_hw369 => k0_hw369

def k0_chk370 (v851 : IVec S16 32) : Prop :=
  (∀ a x, ((![v851] : Fin 1 → IVec S16 32) a x).toNat < S6144.size a)
theorem k0_idx370_inb : ∀ (v851 : IVec S16 32) (k0_hw370 : k0_chk370 v851), ∀ a x, ((![v851] : Fin 1 → IVec S16 32) a x).toNat < S6144.size a := fun v851 k0_hw370 => k0_hw370

def k0_chk371 (v856 : IVec S16 32) : Prop :=
  (∀ a x, ((![v856] : Fin 1 → IVec S16 32) a x).toNat < S6144.size a)
theorem k0_idx371_inb : ∀ (v856 : IVec S16 32) (k0_hw371 : k0_chk371 v856), ∀ a x, ((![v856] : Fin 1 → IVec S16 32) a x).toNat < S6144.size a := fun v856 k0_hw371 => k0_hw371

def k0_chk372 (v861 : IVec S16 32) : Prop :=
  (∀ a x, ((![v861] : Fin 1 → IVec S16 32) a x).toNat < S6144.size a)
theorem k0_idx372_inb : ∀ (v861 : IVec S16 32) (k0_hw372 : k0_chk372 v861), ∀ a x, ((![v861] : Fin 1 → IVec S16 32) a x).toNat < S6144.size a := fun v861 k0_hw372 => k0_hw372

def k0_chk373 (v866 : IVec S16 32) : Prop :=
  (∀ a x, ((![v866] : Fin 1 → IVec S16 32) a x).toNat < S6144.size a)
theorem k0_idx373_inb : ∀ (v866 : IVec S16 32) (k0_hw373 : k0_chk373 v866), ∀ a x, ((![v866] : Fin 1 → IVec S16 32) a x).toNat < S6144.size a := fun v866 k0_hw373 => k0_hw373

def k0_chk374 (v871 : IVec S16 32) : Prop :=
  (∀ a x, ((![v871] : Fin 1 → IVec S16 32) a x).toNat < S6144.size a)
theorem k0_idx374_inb : ∀ (v871 : IVec S16 32) (k0_hw374 : k0_chk374 v871), ∀ a x, ((![v871] : Fin 1 → IVec S16 32) a x).toNat < S6144.size a := fun v871 k0_hw374 => k0_hw374

def k0_chk375 (v876 : IVec S16 32) : Prop :=
  (∀ a x, ((![v876] : Fin 1 → IVec S16 32) a x).toNat < S6144.size a)
theorem k0_idx375_inb : ∀ (v876 : IVec S16 32) (k0_hw375 : k0_chk375 v876), ∀ a x, ((![v876] : Fin 1 → IVec S16 32) a x).toNat < S6144.size a := fun v876 k0_hw375 => k0_hw375

def k0_chk376 (v881 : IVec S16 32) : Prop :=
  (∀ a x, ((![v881] : Fin 1 → IVec S16 32) a x).toNat < S6144.size a)
theorem k0_idx376_inb : ∀ (v881 : IVec S16 32) (k0_hw376 : k0_chk376 v881), ∀ a x, ((![v881] : Fin 1 → IVec S16 32) a x).toNat < S6144.size a := fun v881 k0_hw376 => k0_hw376

def k0_chk377 (v886 : IVec S16 32) : Prop :=
  (∀ a x, ((![v886] : Fin 1 → IVec S16 32) a x).toNat < S6144.size a)
theorem k0_idx377_inb : ∀ (v886 : IVec S16 32) (k0_hw377 : k0_chk377 v886), ∀ a x, ((![v886] : Fin 1 → IVec S16 32) a x).toNat < S6144.size a := fun v886 k0_hw377 => k0_hw377

def k0_chk378 (v891 : IVec S16 32) : Prop :=
  (∀ a x, ((![v891] : Fin 1 → IVec S16 32) a x).toNat < S6144.size a)
theorem k0_idx378_inb : ∀ (v891 : IVec S16 32) (k0_hw378 : k0_chk378 v891), ∀ a x, ((![v891] : Fin 1 → IVec S16 32) a x).toNat < S6144.size a := fun v891 k0_hw378 => k0_hw378

def k0_chk379 (v896 : IVec S16 32) : Prop :=
  (∀ a x, ((![v896] : Fin 1 → IVec S16 32) a x).toNat < S6144.size a)
theorem k0_idx379_inb : ∀ (v896 : IVec S16 32) (k0_hw379 : k0_chk379 v896), ∀ a x, ((![v896] : Fin 1 → IVec S16 32) a x).toNat < S6144.size a := fun v896 k0_hw379 => k0_hw379

def k0_chk380 (v901 : IVec S16 32) : Prop :=
  (∀ a x, ((![v901] : Fin 1 → IVec S16 32) a x).toNat < S6144.size a)
theorem k0_idx380_inb : ∀ (v901 : IVec S16 32) (k0_hw380 : k0_chk380 v901), ∀ a x, ((![v901] : Fin 1 → IVec S16 32) a x).toNat < S6144.size a := fun v901 k0_hw380 => k0_hw380

def k0_chk381 (v906 : IVec S16 32) : Prop :=
  (∀ a x, ((![v906] : Fin 1 → IVec S16 32) a x).toNat < S6144.size a)
theorem k0_idx381_inb : ∀ (v906 : IVec S16 32) (k0_hw381 : k0_chk381 v906), ∀ a x, ((![v906] : Fin 1 → IVec S16 32) a x).toNat < S6144.size a := fun v906 k0_hw381 => k0_hw381

def k0_chk382 (v911 : IVec S16 32) : Prop :=
  (∀ a x, ((![v911] : Fin 1 → IVec S16 32) a x).toNat < S6144.size a)
theorem k0_idx382_inb : ∀ (v911 : IVec S16 32) (k0_hw382 : k0_chk382 v911), ∀ a x, ((![v911] : Fin 1 → IVec S16 32) a x).toNat < S6144.size a := fun v911 k0_hw382 => k0_hw382

def k0_chk383 (v916 : IVec S16 32) : Prop :=
  (∀ a x, ((![v916] : Fin 1 → IVec S16 32) a x).toNat < S6144.size a)
theorem k0_idx383_inb : ∀ (v916 : IVec S16 32) (k0_hw383 : k0_chk383 v916), ∀ a x, ((![v916] : Fin 1 → IVec S16 32) a x).toNat < S6144.size a := fun v916 k0_hw383 => k0_hw383

def k0_chk384 (v921 : IVec S16 32) : Prop :=
  (∀ a x, ((![v921] : Fin 1 → IVec S16 32) a x).toNat < S6144.size a)
theorem k0_idx384_inb : ∀ (v921 : IVec S16 32) (k0_hw384 : k0_chk384 v921), ∀ a x, ((![v921] : Fin 1 → IVec S16 32) a x).toNat < S6144.size a := fun v921 k0_hw384 => k0_hw384
def k0_off28 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_198 : BitVec 32 := 1#32
  let c384_i32_199 : BitVec 32 := 384#32
  let c0_i32_200 : BitVec 32 := 0#32
  ![v1.toNat, 1, 384, 0]
@[reducible] def k0_t14_loop : Scf.Loop 32 :=
  let c0_i32_210 : BitVec 32 := 0#32
  let c64_i32_211 : BitVec 32 := 64#32
  let v156 : BitVec 32 := Scalar.addi c0_i32_210 c64_i32_211
  let c1_i32_212 : BitVec 32 := 1#32
  ⟨c0_i32_210, v156, c1_i32_212⟩
def k0_off29 (k0_t14 : Fin k0_t14_loop.trips) (c0_i32_762 : BitVec 32) : Fin 2 → Nat :=
  let c0_i32_210 : BitVec 32 := 0#32
  let c1_i32_212 : BitVec 32 := 1#32
  let arg12 : BitVec 32 := Scf.iv c0_i32_210 c1_i32_212 k0_t14
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk385 (v766 : IVec S16 32) : Prop :=
  (∀ a x, ((![v766] : Fin 1 → IVec S16 32) a x).toNat < S6144.size a)
theorem k0_idx385_inb : ∀ (v766 : IVec S16 32) (k0_hw385 : k0_chk385 v766), ∀ a x, ((![v766] : Fin 1 → IVec S16 32) a x).toNat < S6144.size a := fun v766 k0_hw385 => k0_hw385

def k0_chk386 (v771 : IVec S16 32) : Prop :=
  (∀ a x, ((![v771] : Fin 1 → IVec S16 32) a x).toNat < S6144.size a)
theorem k0_idx386_inb : ∀ (v771 : IVec S16 32) (k0_hw386 : k0_chk386 v771), ∀ a x, ((![v771] : Fin 1 → IVec S16 32) a x).toNat < S6144.size a := fun v771 k0_hw386 => k0_hw386

def k0_chk387 (v776 : IVec S16 32) : Prop :=
  (∀ a x, ((![v776] : Fin 1 → IVec S16 32) a x).toNat < S6144.size a)
theorem k0_idx387_inb : ∀ (v776 : IVec S16 32) (k0_hw387 : k0_chk387 v776), ∀ a x, ((![v776] : Fin 1 → IVec S16 32) a x).toNat < S6144.size a := fun v776 k0_hw387 => k0_hw387

def k0_chk388 (v781 : IVec S16 32) : Prop :=
  (∀ a x, ((![v781] : Fin 1 → IVec S16 32) a x).toNat < S6144.size a)
theorem k0_idx388_inb : ∀ (v781 : IVec S16 32) (k0_hw388 : k0_chk388 v781), ∀ a x, ((![v781] : Fin 1 → IVec S16 32) a x).toNat < S6144.size a := fun v781 k0_hw388 => k0_hw388

def k0_chk389 (v786 : IVec S16 32) : Prop :=
  (∀ a x, ((![v786] : Fin 1 → IVec S16 32) a x).toNat < S6144.size a)
theorem k0_idx389_inb : ∀ (v786 : IVec S16 32) (k0_hw389 : k0_chk389 v786), ∀ a x, ((![v786] : Fin 1 → IVec S16 32) a x).toNat < S6144.size a := fun v786 k0_hw389 => k0_hw389

def k0_chk390 (v791 : IVec S16 32) : Prop :=
  (∀ a x, ((![v791] : Fin 1 → IVec S16 32) a x).toNat < S6144.size a)
theorem k0_idx390_inb : ∀ (v791 : IVec S16 32) (k0_hw390 : k0_chk390 v791), ∀ a x, ((![v791] : Fin 1 → IVec S16 32) a x).toNat < S6144.size a := fun v791 k0_hw390 => k0_hw390

def k0_chk391 (v796 : IVec S16 32) : Prop :=
  (∀ a x, ((![v796] : Fin 1 → IVec S16 32) a x).toNat < S6144.size a)
theorem k0_idx391_inb : ∀ (v796 : IVec S16 32) (k0_hw391 : k0_chk391 v796), ∀ a x, ((![v796] : Fin 1 → IVec S16 32) a x).toNat < S6144.size a := fun v796 k0_hw391 => k0_hw391

def k0_chk392 (v801 : IVec S16 32) : Prop :=
  (∀ a x, ((![v801] : Fin 1 → IVec S16 32) a x).toNat < S6144.size a)
theorem k0_idx392_inb : ∀ (v801 : IVec S16 32) (k0_hw392 : k0_chk392 v801), ∀ a x, ((![v801] : Fin 1 → IVec S16 32) a x).toNat < S6144.size a := fun v801 k0_hw392 => k0_hw392

def k0_chk393 (v806 : IVec S16 32) : Prop :=
  (∀ a x, ((![v806] : Fin 1 → IVec S16 32) a x).toNat < S6144.size a)
theorem k0_idx393_inb : ∀ (v806 : IVec S16 32) (k0_hw393 : k0_chk393 v806), ∀ a x, ((![v806] : Fin 1 → IVec S16 32) a x).toNat < S6144.size a := fun v806 k0_hw393 => k0_hw393

def k0_chk394 (v811 : IVec S16 32) : Prop :=
  (∀ a x, ((![v811] : Fin 1 → IVec S16 32) a x).toNat < S6144.size a)
theorem k0_idx394_inb : ∀ (v811 : IVec S16 32) (k0_hw394 : k0_chk394 v811), ∀ a x, ((![v811] : Fin 1 → IVec S16 32) a x).toNat < S6144.size a := fun v811 k0_hw394 => k0_hw394

def k0_chk395 (v816 : IVec S16 32) : Prop :=
  (∀ a x, ((![v816] : Fin 1 → IVec S16 32) a x).toNat < S6144.size a)
theorem k0_idx395_inb : ∀ (v816 : IVec S16 32) (k0_hw395 : k0_chk395 v816), ∀ a x, ((![v816] : Fin 1 → IVec S16 32) a x).toNat < S6144.size a := fun v816 k0_hw395 => k0_hw395

def k0_chk396 (v821 : IVec S16 32) : Prop :=
  (∀ a x, ((![v821] : Fin 1 → IVec S16 32) a x).toNat < S6144.size a)
theorem k0_idx396_inb : ∀ (v821 : IVec S16 32) (k0_hw396 : k0_chk396 v821), ∀ a x, ((![v821] : Fin 1 → IVec S16 32) a x).toNat < S6144.size a := fun v821 k0_hw396 => k0_hw396

def k0_chk397 (v826 : IVec S16 32) : Prop :=
  (∀ a x, ((![v826] : Fin 1 → IVec S16 32) a x).toNat < S6144.size a)
theorem k0_idx397_inb : ∀ (v826 : IVec S16 32) (k0_hw397 : k0_chk397 v826), ∀ a x, ((![v826] : Fin 1 → IVec S16 32) a x).toNat < S6144.size a := fun v826 k0_hw397 => k0_hw397

def k0_chk398 (v831 : IVec S16 32) : Prop :=
  (∀ a x, ((![v831] : Fin 1 → IVec S16 32) a x).toNat < S6144.size a)
theorem k0_idx398_inb : ∀ (v831 : IVec S16 32) (k0_hw398 : k0_chk398 v831), ∀ a x, ((![v831] : Fin 1 → IVec S16 32) a x).toNat < S6144.size a := fun v831 k0_hw398 => k0_hw398

def k0_chk399 (v836 : IVec S16 32) : Prop :=
  (∀ a x, ((![v836] : Fin 1 → IVec S16 32) a x).toNat < S6144.size a)
theorem k0_idx399_inb : ∀ (v836 : IVec S16 32) (k0_hw399 : k0_chk399 v836), ∀ a x, ((![v836] : Fin 1 → IVec S16 32) a x).toNat < S6144.size a := fun v836 k0_hw399 => k0_hw399

def k0_chk400 (v841 : IVec S16 32) : Prop :=
  (∀ a x, ((![v841] : Fin 1 → IVec S16 32) a x).toNat < S6144.size a)
theorem k0_idx400_inb : ∀ (v841 : IVec S16 32) (k0_hw400 : k0_chk400 v841), ∀ a x, ((![v841] : Fin 1 → IVec S16 32) a x).toNat < S6144.size a := fun v841 k0_hw400 => k0_hw400

def k0_chk401 (v846 : IVec S16 32) : Prop :=
  (∀ a x, ((![v846] : Fin 1 → IVec S16 32) a x).toNat < S6144.size a)
theorem k0_idx401_inb : ∀ (v846 : IVec S16 32) (k0_hw401 : k0_chk401 v846), ∀ a x, ((![v846] : Fin 1 → IVec S16 32) a x).toNat < S6144.size a := fun v846 k0_hw401 => k0_hw401

def k0_chk402 (v851 : IVec S16 32) : Prop :=
  (∀ a x, ((![v851] : Fin 1 → IVec S16 32) a x).toNat < S6144.size a)
theorem k0_idx402_inb : ∀ (v851 : IVec S16 32) (k0_hw402 : k0_chk402 v851), ∀ a x, ((![v851] : Fin 1 → IVec S16 32) a x).toNat < S6144.size a := fun v851 k0_hw402 => k0_hw402

def k0_chk403 (v856 : IVec S16 32) : Prop :=
  (∀ a x, ((![v856] : Fin 1 → IVec S16 32) a x).toNat < S6144.size a)
theorem k0_idx403_inb : ∀ (v856 : IVec S16 32) (k0_hw403 : k0_chk403 v856), ∀ a x, ((![v856] : Fin 1 → IVec S16 32) a x).toNat < S6144.size a := fun v856 k0_hw403 => k0_hw403

def k0_chk404 (v861 : IVec S16 32) : Prop :=
  (∀ a x, ((![v861] : Fin 1 → IVec S16 32) a x).toNat < S6144.size a)
theorem k0_idx404_inb : ∀ (v861 : IVec S16 32) (k0_hw404 : k0_chk404 v861), ∀ a x, ((![v861] : Fin 1 → IVec S16 32) a x).toNat < S6144.size a := fun v861 k0_hw404 => k0_hw404

def k0_chk405 (v866 : IVec S16 32) : Prop :=
  (∀ a x, ((![v866] : Fin 1 → IVec S16 32) a x).toNat < S6144.size a)
theorem k0_idx405_inb : ∀ (v866 : IVec S16 32) (k0_hw405 : k0_chk405 v866), ∀ a x, ((![v866] : Fin 1 → IVec S16 32) a x).toNat < S6144.size a := fun v866 k0_hw405 => k0_hw405

def k0_chk406 (v871 : IVec S16 32) : Prop :=
  (∀ a x, ((![v871] : Fin 1 → IVec S16 32) a x).toNat < S6144.size a)
theorem k0_idx406_inb : ∀ (v871 : IVec S16 32) (k0_hw406 : k0_chk406 v871), ∀ a x, ((![v871] : Fin 1 → IVec S16 32) a x).toNat < S6144.size a := fun v871 k0_hw406 => k0_hw406

def k0_chk407 (v876 : IVec S16 32) : Prop :=
  (∀ a x, ((![v876] : Fin 1 → IVec S16 32) a x).toNat < S6144.size a)
theorem k0_idx407_inb : ∀ (v876 : IVec S16 32) (k0_hw407 : k0_chk407 v876), ∀ a x, ((![v876] : Fin 1 → IVec S16 32) a x).toNat < S6144.size a := fun v876 k0_hw407 => k0_hw407

def k0_chk408 (v881 : IVec S16 32) : Prop :=
  (∀ a x, ((![v881] : Fin 1 → IVec S16 32) a x).toNat < S6144.size a)
theorem k0_idx408_inb : ∀ (v881 : IVec S16 32) (k0_hw408 : k0_chk408 v881), ∀ a x, ((![v881] : Fin 1 → IVec S16 32) a x).toNat < S6144.size a := fun v881 k0_hw408 => k0_hw408

def k0_chk409 (v886 : IVec S16 32) : Prop :=
  (∀ a x, ((![v886] : Fin 1 → IVec S16 32) a x).toNat < S6144.size a)
theorem k0_idx409_inb : ∀ (v886 : IVec S16 32) (k0_hw409 : k0_chk409 v886), ∀ a x, ((![v886] : Fin 1 → IVec S16 32) a x).toNat < S6144.size a := fun v886 k0_hw409 => k0_hw409

def k0_chk410 (v891 : IVec S16 32) : Prop :=
  (∀ a x, ((![v891] : Fin 1 → IVec S16 32) a x).toNat < S6144.size a)
theorem k0_idx410_inb : ∀ (v891 : IVec S16 32) (k0_hw410 : k0_chk410 v891), ∀ a x, ((![v891] : Fin 1 → IVec S16 32) a x).toNat < S6144.size a := fun v891 k0_hw410 => k0_hw410

def k0_chk411 (v896 : IVec S16 32) : Prop :=
  (∀ a x, ((![v896] : Fin 1 → IVec S16 32) a x).toNat < S6144.size a)
theorem k0_idx411_inb : ∀ (v896 : IVec S16 32) (k0_hw411 : k0_chk411 v896), ∀ a x, ((![v896] : Fin 1 → IVec S16 32) a x).toNat < S6144.size a := fun v896 k0_hw411 => k0_hw411

def k0_chk412 (v901 : IVec S16 32) : Prop :=
  (∀ a x, ((![v901] : Fin 1 → IVec S16 32) a x).toNat < S6144.size a)
theorem k0_idx412_inb : ∀ (v901 : IVec S16 32) (k0_hw412 : k0_chk412 v901), ∀ a x, ((![v901] : Fin 1 → IVec S16 32) a x).toNat < S6144.size a := fun v901 k0_hw412 => k0_hw412

def k0_chk413 (v906 : IVec S16 32) : Prop :=
  (∀ a x, ((![v906] : Fin 1 → IVec S16 32) a x).toNat < S6144.size a)
theorem k0_idx413_inb : ∀ (v906 : IVec S16 32) (k0_hw413 : k0_chk413 v906), ∀ a x, ((![v906] : Fin 1 → IVec S16 32) a x).toNat < S6144.size a := fun v906 k0_hw413 => k0_hw413

def k0_chk414 (v911 : IVec S16 32) : Prop :=
  (∀ a x, ((![v911] : Fin 1 → IVec S16 32) a x).toNat < S6144.size a)
theorem k0_idx414_inb : ∀ (v911 : IVec S16 32) (k0_hw414 : k0_chk414 v911), ∀ a x, ((![v911] : Fin 1 → IVec S16 32) a x).toNat < S6144.size a := fun v911 k0_hw414 => k0_hw414

def k0_chk415 (v916 : IVec S16 32) : Prop :=
  (∀ a x, ((![v916] : Fin 1 → IVec S16 32) a x).toNat < S6144.size a)
theorem k0_idx415_inb : ∀ (v916 : IVec S16 32) (k0_hw415 : k0_chk415 v916), ∀ a x, ((![v916] : Fin 1 → IVec S16 32) a x).toNat < S6144.size a := fun v916 k0_hw415 => k0_hw415

def k0_chk416 (v921 : IVec S16 32) : Prop :=
  (∀ a x, ((![v921] : Fin 1 → IVec S16 32) a x).toNat < S6144.size a)
theorem k0_idx416_inb : ∀ (v921 : IVec S16 32) (k0_hw416 : k0_chk416 v921), ∀ a x, ((![v921] : Fin 1 → IVec S16 32) a x).toNat < S6144.size a := fun v921 k0_hw416 => k0_hw416
def k0_off30 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_214 : BitVec 32 := 1#32
  let c448_i32_215 : BitVec 32 := 448#32
  let c0_i32_216 : BitVec 32 := 0#32
  ![v1.toNat, 1, 448, 0]
@[reducible] def k0_t15_loop : Scf.Loop 32 :=
  let c0_i32_226 : BitVec 32 := 0#32
  let c64_i32_227 : BitVec 32 := 64#32
  let v167 : BitVec 32 := Scalar.addi c0_i32_226 c64_i32_227
  let c1_i32_228 : BitVec 32 := 1#32
  ⟨c0_i32_226, v167, c1_i32_228⟩
def k0_off31 (k0_t15 : Fin k0_t15_loop.trips) (c0_i32_762 : BitVec 32) : Fin 2 → Nat :=
  let c0_i32_226 : BitVec 32 := 0#32
  let c1_i32_228 : BitVec 32 := 1#32
  let arg12 : BitVec 32 := Scf.iv c0_i32_226 c1_i32_228 k0_t15
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk417 (v766 : IVec S16 32) : Prop :=
  (∀ a x, ((![v766] : Fin 1 → IVec S16 32) a x).toNat < S6144.size a)
theorem k0_idx417_inb : ∀ (v766 : IVec S16 32) (k0_hw417 : k0_chk417 v766), ∀ a x, ((![v766] : Fin 1 → IVec S16 32) a x).toNat < S6144.size a := fun v766 k0_hw417 => k0_hw417

def k0_chk418 (v771 : IVec S16 32) : Prop :=
  (∀ a x, ((![v771] : Fin 1 → IVec S16 32) a x).toNat < S6144.size a)
theorem k0_idx418_inb : ∀ (v771 : IVec S16 32) (k0_hw418 : k0_chk418 v771), ∀ a x, ((![v771] : Fin 1 → IVec S16 32) a x).toNat < S6144.size a := fun v771 k0_hw418 => k0_hw418

def k0_chk419 (v776 : IVec S16 32) : Prop :=
  (∀ a x, ((![v776] : Fin 1 → IVec S16 32) a x).toNat < S6144.size a)
theorem k0_idx419_inb : ∀ (v776 : IVec S16 32) (k0_hw419 : k0_chk419 v776), ∀ a x, ((![v776] : Fin 1 → IVec S16 32) a x).toNat < S6144.size a := fun v776 k0_hw419 => k0_hw419

def k0_chk420 (v781 : IVec S16 32) : Prop :=
  (∀ a x, ((![v781] : Fin 1 → IVec S16 32) a x).toNat < S6144.size a)
theorem k0_idx420_inb : ∀ (v781 : IVec S16 32) (k0_hw420 : k0_chk420 v781), ∀ a x, ((![v781] : Fin 1 → IVec S16 32) a x).toNat < S6144.size a := fun v781 k0_hw420 => k0_hw420

def k0_chk421 (v786 : IVec S16 32) : Prop :=
  (∀ a x, ((![v786] : Fin 1 → IVec S16 32) a x).toNat < S6144.size a)
theorem k0_idx421_inb : ∀ (v786 : IVec S16 32) (k0_hw421 : k0_chk421 v786), ∀ a x, ((![v786] : Fin 1 → IVec S16 32) a x).toNat < S6144.size a := fun v786 k0_hw421 => k0_hw421

def k0_chk422 (v791 : IVec S16 32) : Prop :=
  (∀ a x, ((![v791] : Fin 1 → IVec S16 32) a x).toNat < S6144.size a)
theorem k0_idx422_inb : ∀ (v791 : IVec S16 32) (k0_hw422 : k0_chk422 v791), ∀ a x, ((![v791] : Fin 1 → IVec S16 32) a x).toNat < S6144.size a := fun v791 k0_hw422 => k0_hw422

def k0_chk423 (v796 : IVec S16 32) : Prop :=
  (∀ a x, ((![v796] : Fin 1 → IVec S16 32) a x).toNat < S6144.size a)
theorem k0_idx423_inb : ∀ (v796 : IVec S16 32) (k0_hw423 : k0_chk423 v796), ∀ a x, ((![v796] : Fin 1 → IVec S16 32) a x).toNat < S6144.size a := fun v796 k0_hw423 => k0_hw423

def k0_chk424 (v801 : IVec S16 32) : Prop :=
  (∀ a x, ((![v801] : Fin 1 → IVec S16 32) a x).toNat < S6144.size a)
theorem k0_idx424_inb : ∀ (v801 : IVec S16 32) (k0_hw424 : k0_chk424 v801), ∀ a x, ((![v801] : Fin 1 → IVec S16 32) a x).toNat < S6144.size a := fun v801 k0_hw424 => k0_hw424

def k0_chk425 (v806 : IVec S16 32) : Prop :=
  (∀ a x, ((![v806] : Fin 1 → IVec S16 32) a x).toNat < S6144.size a)
theorem k0_idx425_inb : ∀ (v806 : IVec S16 32) (k0_hw425 : k0_chk425 v806), ∀ a x, ((![v806] : Fin 1 → IVec S16 32) a x).toNat < S6144.size a := fun v806 k0_hw425 => k0_hw425

def k0_chk426 (v811 : IVec S16 32) : Prop :=
  (∀ a x, ((![v811] : Fin 1 → IVec S16 32) a x).toNat < S6144.size a)
theorem k0_idx426_inb : ∀ (v811 : IVec S16 32) (k0_hw426 : k0_chk426 v811), ∀ a x, ((![v811] : Fin 1 → IVec S16 32) a x).toNat < S6144.size a := fun v811 k0_hw426 => k0_hw426

def k0_chk427 (v816 : IVec S16 32) : Prop :=
  (∀ a x, ((![v816] : Fin 1 → IVec S16 32) a x).toNat < S6144.size a)
theorem k0_idx427_inb : ∀ (v816 : IVec S16 32) (k0_hw427 : k0_chk427 v816), ∀ a x, ((![v816] : Fin 1 → IVec S16 32) a x).toNat < S6144.size a := fun v816 k0_hw427 => k0_hw427

def k0_chk428 (v821 : IVec S16 32) : Prop :=
  (∀ a x, ((![v821] : Fin 1 → IVec S16 32) a x).toNat < S6144.size a)
theorem k0_idx428_inb : ∀ (v821 : IVec S16 32) (k0_hw428 : k0_chk428 v821), ∀ a x, ((![v821] : Fin 1 → IVec S16 32) a x).toNat < S6144.size a := fun v821 k0_hw428 => k0_hw428

def k0_chk429 (v826 : IVec S16 32) : Prop :=
  (∀ a x, ((![v826] : Fin 1 → IVec S16 32) a x).toNat < S6144.size a)
theorem k0_idx429_inb : ∀ (v826 : IVec S16 32) (k0_hw429 : k0_chk429 v826), ∀ a x, ((![v826] : Fin 1 → IVec S16 32) a x).toNat < S6144.size a := fun v826 k0_hw429 => k0_hw429

def k0_chk430 (v831 : IVec S16 32) : Prop :=
  (∀ a x, ((![v831] : Fin 1 → IVec S16 32) a x).toNat < S6144.size a)
theorem k0_idx430_inb : ∀ (v831 : IVec S16 32) (k0_hw430 : k0_chk430 v831), ∀ a x, ((![v831] : Fin 1 → IVec S16 32) a x).toNat < S6144.size a := fun v831 k0_hw430 => k0_hw430

def k0_chk431 (v836 : IVec S16 32) : Prop :=
  (∀ a x, ((![v836] : Fin 1 → IVec S16 32) a x).toNat < S6144.size a)
theorem k0_idx431_inb : ∀ (v836 : IVec S16 32) (k0_hw431 : k0_chk431 v836), ∀ a x, ((![v836] : Fin 1 → IVec S16 32) a x).toNat < S6144.size a := fun v836 k0_hw431 => k0_hw431

def k0_chk432 (v841 : IVec S16 32) : Prop :=
  (∀ a x, ((![v841] : Fin 1 → IVec S16 32) a x).toNat < S6144.size a)
theorem k0_idx432_inb : ∀ (v841 : IVec S16 32) (k0_hw432 : k0_chk432 v841), ∀ a x, ((![v841] : Fin 1 → IVec S16 32) a x).toNat < S6144.size a := fun v841 k0_hw432 => k0_hw432

def k0_chk433 (v846 : IVec S16 32) : Prop :=
  (∀ a x, ((![v846] : Fin 1 → IVec S16 32) a x).toNat < S6144.size a)
theorem k0_idx433_inb : ∀ (v846 : IVec S16 32) (k0_hw433 : k0_chk433 v846), ∀ a x, ((![v846] : Fin 1 → IVec S16 32) a x).toNat < S6144.size a := fun v846 k0_hw433 => k0_hw433

def k0_chk434 (v851 : IVec S16 32) : Prop :=
  (∀ a x, ((![v851] : Fin 1 → IVec S16 32) a x).toNat < S6144.size a)
theorem k0_idx434_inb : ∀ (v851 : IVec S16 32) (k0_hw434 : k0_chk434 v851), ∀ a x, ((![v851] : Fin 1 → IVec S16 32) a x).toNat < S6144.size a := fun v851 k0_hw434 => k0_hw434

def k0_chk435 (v856 : IVec S16 32) : Prop :=
  (∀ a x, ((![v856] : Fin 1 → IVec S16 32) a x).toNat < S6144.size a)
theorem k0_idx435_inb : ∀ (v856 : IVec S16 32) (k0_hw435 : k0_chk435 v856), ∀ a x, ((![v856] : Fin 1 → IVec S16 32) a x).toNat < S6144.size a := fun v856 k0_hw435 => k0_hw435

def k0_chk436 (v861 : IVec S16 32) : Prop :=
  (∀ a x, ((![v861] : Fin 1 → IVec S16 32) a x).toNat < S6144.size a)
theorem k0_idx436_inb : ∀ (v861 : IVec S16 32) (k0_hw436 : k0_chk436 v861), ∀ a x, ((![v861] : Fin 1 → IVec S16 32) a x).toNat < S6144.size a := fun v861 k0_hw436 => k0_hw436

def k0_chk437 (v866 : IVec S16 32) : Prop :=
  (∀ a x, ((![v866] : Fin 1 → IVec S16 32) a x).toNat < S6144.size a)
theorem k0_idx437_inb : ∀ (v866 : IVec S16 32) (k0_hw437 : k0_chk437 v866), ∀ a x, ((![v866] : Fin 1 → IVec S16 32) a x).toNat < S6144.size a := fun v866 k0_hw437 => k0_hw437

def k0_chk438 (v871 : IVec S16 32) : Prop :=
  (∀ a x, ((![v871] : Fin 1 → IVec S16 32) a x).toNat < S6144.size a)
theorem k0_idx438_inb : ∀ (v871 : IVec S16 32) (k0_hw438 : k0_chk438 v871), ∀ a x, ((![v871] : Fin 1 → IVec S16 32) a x).toNat < S6144.size a := fun v871 k0_hw438 => k0_hw438

def k0_chk439 (v876 : IVec S16 32) : Prop :=
  (∀ a x, ((![v876] : Fin 1 → IVec S16 32) a x).toNat < S6144.size a)
theorem k0_idx439_inb : ∀ (v876 : IVec S16 32) (k0_hw439 : k0_chk439 v876), ∀ a x, ((![v876] : Fin 1 → IVec S16 32) a x).toNat < S6144.size a := fun v876 k0_hw439 => k0_hw439

def k0_chk440 (v881 : IVec S16 32) : Prop :=
  (∀ a x, ((![v881] : Fin 1 → IVec S16 32) a x).toNat < S6144.size a)
theorem k0_idx440_inb : ∀ (v881 : IVec S16 32) (k0_hw440 : k0_chk440 v881), ∀ a x, ((![v881] : Fin 1 → IVec S16 32) a x).toNat < S6144.size a := fun v881 k0_hw440 => k0_hw440

def k0_chk441 (v886 : IVec S16 32) : Prop :=
  (∀ a x, ((![v886] : Fin 1 → IVec S16 32) a x).toNat < S6144.size a)
theorem k0_idx441_inb : ∀ (v886 : IVec S16 32) (k0_hw441 : k0_chk441 v886), ∀ a x, ((![v886] : Fin 1 → IVec S16 32) a x).toNat < S6144.size a := fun v886 k0_hw441 => k0_hw441

def k0_chk442 (v891 : IVec S16 32) : Prop :=
  (∀ a x, ((![v891] : Fin 1 → IVec S16 32) a x).toNat < S6144.size a)
theorem k0_idx442_inb : ∀ (v891 : IVec S16 32) (k0_hw442 : k0_chk442 v891), ∀ a x, ((![v891] : Fin 1 → IVec S16 32) a x).toNat < S6144.size a := fun v891 k0_hw442 => k0_hw442

def k0_chk443 (v896 : IVec S16 32) : Prop :=
  (∀ a x, ((![v896] : Fin 1 → IVec S16 32) a x).toNat < S6144.size a)
theorem k0_idx443_inb : ∀ (v896 : IVec S16 32) (k0_hw443 : k0_chk443 v896), ∀ a x, ((![v896] : Fin 1 → IVec S16 32) a x).toNat < S6144.size a := fun v896 k0_hw443 => k0_hw443

def k0_chk444 (v901 : IVec S16 32) : Prop :=
  (∀ a x, ((![v901] : Fin 1 → IVec S16 32) a x).toNat < S6144.size a)
theorem k0_idx444_inb : ∀ (v901 : IVec S16 32) (k0_hw444 : k0_chk444 v901), ∀ a x, ((![v901] : Fin 1 → IVec S16 32) a x).toNat < S6144.size a := fun v901 k0_hw444 => k0_hw444

def k0_chk445 (v906 : IVec S16 32) : Prop :=
  (∀ a x, ((![v906] : Fin 1 → IVec S16 32) a x).toNat < S6144.size a)
theorem k0_idx445_inb : ∀ (v906 : IVec S16 32) (k0_hw445 : k0_chk445 v906), ∀ a x, ((![v906] : Fin 1 → IVec S16 32) a x).toNat < S6144.size a := fun v906 k0_hw445 => k0_hw445

def k0_chk446 (v911 : IVec S16 32) : Prop :=
  (∀ a x, ((![v911] : Fin 1 → IVec S16 32) a x).toNat < S6144.size a)
theorem k0_idx446_inb : ∀ (v911 : IVec S16 32) (k0_hw446 : k0_chk446 v911), ∀ a x, ((![v911] : Fin 1 → IVec S16 32) a x).toNat < S6144.size a := fun v911 k0_hw446 => k0_hw446

def k0_chk447 (v916 : IVec S16 32) : Prop :=
  (∀ a x, ((![v916] : Fin 1 → IVec S16 32) a x).toNat < S6144.size a)
theorem k0_idx447_inb : ∀ (v916 : IVec S16 32) (k0_hw447 : k0_chk447 v916), ∀ a x, ((![v916] : Fin 1 → IVec S16 32) a x).toNat < S6144.size a := fun v916 k0_hw447 => k0_hw447

def k0_chk448 (v921 : IVec S16 32) : Prop :=
  (∀ a x, ((![v921] : Fin 1 → IVec S16 32) a x).toNat < S6144.size a)
theorem k0_idx448_inb : ∀ (v921 : IVec S16 32) (k0_hw448 : k0_chk448 v921), ∀ a x, ((![v921] : Fin 1 → IVec S16 32) a x).toNat < S6144.size a := fun v921 k0_hw448 => k0_hw448
def k0_off32 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_230 : BitVec 32 := 2#32
  let c0_i32_231 : BitVec 32 := 0#32
  let c0_i32_232 : BitVec 32 := 0#32
  ![v1.toNat, 2, 0, 0]
@[reducible] def k0_t16_loop : Scf.Loop 32 :=
  let c0_i32_242 : BitVec 32 := 0#32
  let c64_i32_243 : BitVec 32 := 64#32
  let v178 : BitVec 32 := Scalar.addi c0_i32_242 c64_i32_243
  let c1_i32_244 : BitVec 32 := 1#32
  ⟨c0_i32_242, v178, c1_i32_244⟩
def k0_off33 (k0_t16 : Fin k0_t16_loop.trips) (c0_i32_762 : BitVec 32) : Fin 2 → Nat :=
  let c0_i32_242 : BitVec 32 := 0#32
  let c1_i32_244 : BitVec 32 := 1#32
  let arg12 : BitVec 32 := Scf.iv c0_i32_242 c1_i32_244 k0_t16
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk449 (v766 : IVec S16 32) : Prop :=
  (∀ a x, ((![v766] : Fin 1 → IVec S16 32) a x).toNat < S6144.size a)
theorem k0_idx449_inb : ∀ (v766 : IVec S16 32) (k0_hw449 : k0_chk449 v766), ∀ a x, ((![v766] : Fin 1 → IVec S16 32) a x).toNat < S6144.size a := fun v766 k0_hw449 => k0_hw449

def k0_chk450 (v771 : IVec S16 32) : Prop :=
  (∀ a x, ((![v771] : Fin 1 → IVec S16 32) a x).toNat < S6144.size a)
theorem k0_idx450_inb : ∀ (v771 : IVec S16 32) (k0_hw450 : k0_chk450 v771), ∀ a x, ((![v771] : Fin 1 → IVec S16 32) a x).toNat < S6144.size a := fun v771 k0_hw450 => k0_hw450

def k0_chk451 (v776 : IVec S16 32) : Prop :=
  (∀ a x, ((![v776] : Fin 1 → IVec S16 32) a x).toNat < S6144.size a)
theorem k0_idx451_inb : ∀ (v776 : IVec S16 32) (k0_hw451 : k0_chk451 v776), ∀ a x, ((![v776] : Fin 1 → IVec S16 32) a x).toNat < S6144.size a := fun v776 k0_hw451 => k0_hw451

def k0_chk452 (v781 : IVec S16 32) : Prop :=
  (∀ a x, ((![v781] : Fin 1 → IVec S16 32) a x).toNat < S6144.size a)
theorem k0_idx452_inb : ∀ (v781 : IVec S16 32) (k0_hw452 : k0_chk452 v781), ∀ a x, ((![v781] : Fin 1 → IVec S16 32) a x).toNat < S6144.size a := fun v781 k0_hw452 => k0_hw452

def k0_chk453 (v786 : IVec S16 32) : Prop :=
  (∀ a x, ((![v786] : Fin 1 → IVec S16 32) a x).toNat < S6144.size a)
theorem k0_idx453_inb : ∀ (v786 : IVec S16 32) (k0_hw453 : k0_chk453 v786), ∀ a x, ((![v786] : Fin 1 → IVec S16 32) a x).toNat < S6144.size a := fun v786 k0_hw453 => k0_hw453

def k0_chk454 (v791 : IVec S16 32) : Prop :=
  (∀ a x, ((![v791] : Fin 1 → IVec S16 32) a x).toNat < S6144.size a)
theorem k0_idx454_inb : ∀ (v791 : IVec S16 32) (k0_hw454 : k0_chk454 v791), ∀ a x, ((![v791] : Fin 1 → IVec S16 32) a x).toNat < S6144.size a := fun v791 k0_hw454 => k0_hw454

def k0_chk455 (v796 : IVec S16 32) : Prop :=
  (∀ a x, ((![v796] : Fin 1 → IVec S16 32) a x).toNat < S6144.size a)
theorem k0_idx455_inb : ∀ (v796 : IVec S16 32) (k0_hw455 : k0_chk455 v796), ∀ a x, ((![v796] : Fin 1 → IVec S16 32) a x).toNat < S6144.size a := fun v796 k0_hw455 => k0_hw455

def k0_chk456 (v801 : IVec S16 32) : Prop :=
  (∀ a x, ((![v801] : Fin 1 → IVec S16 32) a x).toNat < S6144.size a)
theorem k0_idx456_inb : ∀ (v801 : IVec S16 32) (k0_hw456 : k0_chk456 v801), ∀ a x, ((![v801] : Fin 1 → IVec S16 32) a x).toNat < S6144.size a := fun v801 k0_hw456 => k0_hw456

def k0_chk457 (v806 : IVec S16 32) : Prop :=
  (∀ a x, ((![v806] : Fin 1 → IVec S16 32) a x).toNat < S6144.size a)
theorem k0_idx457_inb : ∀ (v806 : IVec S16 32) (k0_hw457 : k0_chk457 v806), ∀ a x, ((![v806] : Fin 1 → IVec S16 32) a x).toNat < S6144.size a := fun v806 k0_hw457 => k0_hw457

def k0_chk458 (v811 : IVec S16 32) : Prop :=
  (∀ a x, ((![v811] : Fin 1 → IVec S16 32) a x).toNat < S6144.size a)
theorem k0_idx458_inb : ∀ (v811 : IVec S16 32) (k0_hw458 : k0_chk458 v811), ∀ a x, ((![v811] : Fin 1 → IVec S16 32) a x).toNat < S6144.size a := fun v811 k0_hw458 => k0_hw458

def k0_chk459 (v816 : IVec S16 32) : Prop :=
  (∀ a x, ((![v816] : Fin 1 → IVec S16 32) a x).toNat < S6144.size a)
theorem k0_idx459_inb : ∀ (v816 : IVec S16 32) (k0_hw459 : k0_chk459 v816), ∀ a x, ((![v816] : Fin 1 → IVec S16 32) a x).toNat < S6144.size a := fun v816 k0_hw459 => k0_hw459

def k0_chk460 (v821 : IVec S16 32) : Prop :=
  (∀ a x, ((![v821] : Fin 1 → IVec S16 32) a x).toNat < S6144.size a)
theorem k0_idx460_inb : ∀ (v821 : IVec S16 32) (k0_hw460 : k0_chk460 v821), ∀ a x, ((![v821] : Fin 1 → IVec S16 32) a x).toNat < S6144.size a := fun v821 k0_hw460 => k0_hw460

def k0_chk461 (v826 : IVec S16 32) : Prop :=
  (∀ a x, ((![v826] : Fin 1 → IVec S16 32) a x).toNat < S6144.size a)
theorem k0_idx461_inb : ∀ (v826 : IVec S16 32) (k0_hw461 : k0_chk461 v826), ∀ a x, ((![v826] : Fin 1 → IVec S16 32) a x).toNat < S6144.size a := fun v826 k0_hw461 => k0_hw461

def k0_chk462 (v831 : IVec S16 32) : Prop :=
  (∀ a x, ((![v831] : Fin 1 → IVec S16 32) a x).toNat < S6144.size a)
theorem k0_idx462_inb : ∀ (v831 : IVec S16 32) (k0_hw462 : k0_chk462 v831), ∀ a x, ((![v831] : Fin 1 → IVec S16 32) a x).toNat < S6144.size a := fun v831 k0_hw462 => k0_hw462

def k0_chk463 (v836 : IVec S16 32) : Prop :=
  (∀ a x, ((![v836] : Fin 1 → IVec S16 32) a x).toNat < S6144.size a)
theorem k0_idx463_inb : ∀ (v836 : IVec S16 32) (k0_hw463 : k0_chk463 v836), ∀ a x, ((![v836] : Fin 1 → IVec S16 32) a x).toNat < S6144.size a := fun v836 k0_hw463 => k0_hw463

def k0_chk464 (v841 : IVec S16 32) : Prop :=
  (∀ a x, ((![v841] : Fin 1 → IVec S16 32) a x).toNat < S6144.size a)
theorem k0_idx464_inb : ∀ (v841 : IVec S16 32) (k0_hw464 : k0_chk464 v841), ∀ a x, ((![v841] : Fin 1 → IVec S16 32) a x).toNat < S6144.size a := fun v841 k0_hw464 => k0_hw464

def k0_chk465 (v846 : IVec S16 32) : Prop :=
  (∀ a x, ((![v846] : Fin 1 → IVec S16 32) a x).toNat < S6144.size a)
theorem k0_idx465_inb : ∀ (v846 : IVec S16 32) (k0_hw465 : k0_chk465 v846), ∀ a x, ((![v846] : Fin 1 → IVec S16 32) a x).toNat < S6144.size a := fun v846 k0_hw465 => k0_hw465

def k0_chk466 (v851 : IVec S16 32) : Prop :=
  (∀ a x, ((![v851] : Fin 1 → IVec S16 32) a x).toNat < S6144.size a)
theorem k0_idx466_inb : ∀ (v851 : IVec S16 32) (k0_hw466 : k0_chk466 v851), ∀ a x, ((![v851] : Fin 1 → IVec S16 32) a x).toNat < S6144.size a := fun v851 k0_hw466 => k0_hw466

def k0_chk467 (v856 : IVec S16 32) : Prop :=
  (∀ a x, ((![v856] : Fin 1 → IVec S16 32) a x).toNat < S6144.size a)
theorem k0_idx467_inb : ∀ (v856 : IVec S16 32) (k0_hw467 : k0_chk467 v856), ∀ a x, ((![v856] : Fin 1 → IVec S16 32) a x).toNat < S6144.size a := fun v856 k0_hw467 => k0_hw467

def k0_chk468 (v861 : IVec S16 32) : Prop :=
  (∀ a x, ((![v861] : Fin 1 → IVec S16 32) a x).toNat < S6144.size a)
theorem k0_idx468_inb : ∀ (v861 : IVec S16 32) (k0_hw468 : k0_chk468 v861), ∀ a x, ((![v861] : Fin 1 → IVec S16 32) a x).toNat < S6144.size a := fun v861 k0_hw468 => k0_hw468

def k0_chk469 (v866 : IVec S16 32) : Prop :=
  (∀ a x, ((![v866] : Fin 1 → IVec S16 32) a x).toNat < S6144.size a)
theorem k0_idx469_inb : ∀ (v866 : IVec S16 32) (k0_hw469 : k0_chk469 v866), ∀ a x, ((![v866] : Fin 1 → IVec S16 32) a x).toNat < S6144.size a := fun v866 k0_hw469 => k0_hw469

def k0_chk470 (v871 : IVec S16 32) : Prop :=
  (∀ a x, ((![v871] : Fin 1 → IVec S16 32) a x).toNat < S6144.size a)
theorem k0_idx470_inb : ∀ (v871 : IVec S16 32) (k0_hw470 : k0_chk470 v871), ∀ a x, ((![v871] : Fin 1 → IVec S16 32) a x).toNat < S6144.size a := fun v871 k0_hw470 => k0_hw470

def k0_chk471 (v876 : IVec S16 32) : Prop :=
  (∀ a x, ((![v876] : Fin 1 → IVec S16 32) a x).toNat < S6144.size a)
theorem k0_idx471_inb : ∀ (v876 : IVec S16 32) (k0_hw471 : k0_chk471 v876), ∀ a x, ((![v876] : Fin 1 → IVec S16 32) a x).toNat < S6144.size a := fun v876 k0_hw471 => k0_hw471

def k0_chk472 (v881 : IVec S16 32) : Prop :=
  (∀ a x, ((![v881] : Fin 1 → IVec S16 32) a x).toNat < S6144.size a)
theorem k0_idx472_inb : ∀ (v881 : IVec S16 32) (k0_hw472 : k0_chk472 v881), ∀ a x, ((![v881] : Fin 1 → IVec S16 32) a x).toNat < S6144.size a := fun v881 k0_hw472 => k0_hw472

def k0_chk473 (v886 : IVec S16 32) : Prop :=
  (∀ a x, ((![v886] : Fin 1 → IVec S16 32) a x).toNat < S6144.size a)
theorem k0_idx473_inb : ∀ (v886 : IVec S16 32) (k0_hw473 : k0_chk473 v886), ∀ a x, ((![v886] : Fin 1 → IVec S16 32) a x).toNat < S6144.size a := fun v886 k0_hw473 => k0_hw473

def k0_chk474 (v891 : IVec S16 32) : Prop :=
  (∀ a x, ((![v891] : Fin 1 → IVec S16 32) a x).toNat < S6144.size a)
theorem k0_idx474_inb : ∀ (v891 : IVec S16 32) (k0_hw474 : k0_chk474 v891), ∀ a x, ((![v891] : Fin 1 → IVec S16 32) a x).toNat < S6144.size a := fun v891 k0_hw474 => k0_hw474

def k0_chk475 (v896 : IVec S16 32) : Prop :=
  (∀ a x, ((![v896] : Fin 1 → IVec S16 32) a x).toNat < S6144.size a)
theorem k0_idx475_inb : ∀ (v896 : IVec S16 32) (k0_hw475 : k0_chk475 v896), ∀ a x, ((![v896] : Fin 1 → IVec S16 32) a x).toNat < S6144.size a := fun v896 k0_hw475 => k0_hw475

def k0_chk476 (v901 : IVec S16 32) : Prop :=
  (∀ a x, ((![v901] : Fin 1 → IVec S16 32) a x).toNat < S6144.size a)
theorem k0_idx476_inb : ∀ (v901 : IVec S16 32) (k0_hw476 : k0_chk476 v901), ∀ a x, ((![v901] : Fin 1 → IVec S16 32) a x).toNat < S6144.size a := fun v901 k0_hw476 => k0_hw476

def k0_chk477 (v906 : IVec S16 32) : Prop :=
  (∀ a x, ((![v906] : Fin 1 → IVec S16 32) a x).toNat < S6144.size a)
theorem k0_idx477_inb : ∀ (v906 : IVec S16 32) (k0_hw477 : k0_chk477 v906), ∀ a x, ((![v906] : Fin 1 → IVec S16 32) a x).toNat < S6144.size a := fun v906 k0_hw477 => k0_hw477

def k0_chk478 (v911 : IVec S16 32) : Prop :=
  (∀ a x, ((![v911] : Fin 1 → IVec S16 32) a x).toNat < S6144.size a)
theorem k0_idx478_inb : ∀ (v911 : IVec S16 32) (k0_hw478 : k0_chk478 v911), ∀ a x, ((![v911] : Fin 1 → IVec S16 32) a x).toNat < S6144.size a := fun v911 k0_hw478 => k0_hw478

def k0_chk479 (v916 : IVec S16 32) : Prop :=
  (∀ a x, ((![v916] : Fin 1 → IVec S16 32) a x).toNat < S6144.size a)
theorem k0_idx479_inb : ∀ (v916 : IVec S16 32) (k0_hw479 : k0_chk479 v916), ∀ a x, ((![v916] : Fin 1 → IVec S16 32) a x).toNat < S6144.size a := fun v916 k0_hw479 => k0_hw479

def k0_chk480 (v921 : IVec S16 32) : Prop :=
  (∀ a x, ((![v921] : Fin 1 → IVec S16 32) a x).toNat < S6144.size a)
theorem k0_idx480_inb : ∀ (v921 : IVec S16 32) (k0_hw480 : k0_chk480 v921), ∀ a x, ((![v921] : Fin 1 → IVec S16 32) a x).toNat < S6144.size a := fun v921 k0_hw480 => k0_hw480
def k0_off34 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_246 : BitVec 32 := 2#32
  let c64_i32_247 : BitVec 32 := 64#32
  let c0_i32_248 : BitVec 32 := 0#32
  ![v1.toNat, 2, 64, 0]
@[reducible] def k0_t17_loop : Scf.Loop 32 :=
  let c0_i32_258 : BitVec 32 := 0#32
  let c64_i32_259 : BitVec 32 := 64#32
  let v189 : BitVec 32 := Scalar.addi c0_i32_258 c64_i32_259
  let c1_i32_260 : BitVec 32 := 1#32
  ⟨c0_i32_258, v189, c1_i32_260⟩
def k0_off35 (k0_t17 : Fin k0_t17_loop.trips) (c0_i32_762 : BitVec 32) : Fin 2 → Nat :=
  let c0_i32_258 : BitVec 32 := 0#32
  let c1_i32_260 : BitVec 32 := 1#32
  let arg12 : BitVec 32 := Scf.iv c0_i32_258 c1_i32_260 k0_t17
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk481 (v766 : IVec S16 32) : Prop :=
  (∀ a x, ((![v766] : Fin 1 → IVec S16 32) a x).toNat < S6144.size a)
theorem k0_idx481_inb : ∀ (v766 : IVec S16 32) (k0_hw481 : k0_chk481 v766), ∀ a x, ((![v766] : Fin 1 → IVec S16 32) a x).toNat < S6144.size a := fun v766 k0_hw481 => k0_hw481

def k0_chk482 (v771 : IVec S16 32) : Prop :=
  (∀ a x, ((![v771] : Fin 1 → IVec S16 32) a x).toNat < S6144.size a)
theorem k0_idx482_inb : ∀ (v771 : IVec S16 32) (k0_hw482 : k0_chk482 v771), ∀ a x, ((![v771] : Fin 1 → IVec S16 32) a x).toNat < S6144.size a := fun v771 k0_hw482 => k0_hw482

def k0_chk483 (v776 : IVec S16 32) : Prop :=
  (∀ a x, ((![v776] : Fin 1 → IVec S16 32) a x).toNat < S6144.size a)
theorem k0_idx483_inb : ∀ (v776 : IVec S16 32) (k0_hw483 : k0_chk483 v776), ∀ a x, ((![v776] : Fin 1 → IVec S16 32) a x).toNat < S6144.size a := fun v776 k0_hw483 => k0_hw483

def k0_chk484 (v781 : IVec S16 32) : Prop :=
  (∀ a x, ((![v781] : Fin 1 → IVec S16 32) a x).toNat < S6144.size a)
theorem k0_idx484_inb : ∀ (v781 : IVec S16 32) (k0_hw484 : k0_chk484 v781), ∀ a x, ((![v781] : Fin 1 → IVec S16 32) a x).toNat < S6144.size a := fun v781 k0_hw484 => k0_hw484

def k0_chk485 (v786 : IVec S16 32) : Prop :=
  (∀ a x, ((![v786] : Fin 1 → IVec S16 32) a x).toNat < S6144.size a)
theorem k0_idx485_inb : ∀ (v786 : IVec S16 32) (k0_hw485 : k0_chk485 v786), ∀ a x, ((![v786] : Fin 1 → IVec S16 32) a x).toNat < S6144.size a := fun v786 k0_hw485 => k0_hw485

def k0_chk486 (v791 : IVec S16 32) : Prop :=
  (∀ a x, ((![v791] : Fin 1 → IVec S16 32) a x).toNat < S6144.size a)
theorem k0_idx486_inb : ∀ (v791 : IVec S16 32) (k0_hw486 : k0_chk486 v791), ∀ a x, ((![v791] : Fin 1 → IVec S16 32) a x).toNat < S6144.size a := fun v791 k0_hw486 => k0_hw486

def k0_chk487 (v796 : IVec S16 32) : Prop :=
  (∀ a x, ((![v796] : Fin 1 → IVec S16 32) a x).toNat < S6144.size a)
theorem k0_idx487_inb : ∀ (v796 : IVec S16 32) (k0_hw487 : k0_chk487 v796), ∀ a x, ((![v796] : Fin 1 → IVec S16 32) a x).toNat < S6144.size a := fun v796 k0_hw487 => k0_hw487

def k0_chk488 (v801 : IVec S16 32) : Prop :=
  (∀ a x, ((![v801] : Fin 1 → IVec S16 32) a x).toNat < S6144.size a)
theorem k0_idx488_inb : ∀ (v801 : IVec S16 32) (k0_hw488 : k0_chk488 v801), ∀ a x, ((![v801] : Fin 1 → IVec S16 32) a x).toNat < S6144.size a := fun v801 k0_hw488 => k0_hw488

def k0_chk489 (v806 : IVec S16 32) : Prop :=
  (∀ a x, ((![v806] : Fin 1 → IVec S16 32) a x).toNat < S6144.size a)
theorem k0_idx489_inb : ∀ (v806 : IVec S16 32) (k0_hw489 : k0_chk489 v806), ∀ a x, ((![v806] : Fin 1 → IVec S16 32) a x).toNat < S6144.size a := fun v806 k0_hw489 => k0_hw489

def k0_chk490 (v811 : IVec S16 32) : Prop :=
  (∀ a x, ((![v811] : Fin 1 → IVec S16 32) a x).toNat < S6144.size a)
theorem k0_idx490_inb : ∀ (v811 : IVec S16 32) (k0_hw490 : k0_chk490 v811), ∀ a x, ((![v811] : Fin 1 → IVec S16 32) a x).toNat < S6144.size a := fun v811 k0_hw490 => k0_hw490

def k0_chk491 (v816 : IVec S16 32) : Prop :=
  (∀ a x, ((![v816] : Fin 1 → IVec S16 32) a x).toNat < S6144.size a)
theorem k0_idx491_inb : ∀ (v816 : IVec S16 32) (k0_hw491 : k0_chk491 v816), ∀ a x, ((![v816] : Fin 1 → IVec S16 32) a x).toNat < S6144.size a := fun v816 k0_hw491 => k0_hw491

def k0_chk492 (v821 : IVec S16 32) : Prop :=
  (∀ a x, ((![v821] : Fin 1 → IVec S16 32) a x).toNat < S6144.size a)
theorem k0_idx492_inb : ∀ (v821 : IVec S16 32) (k0_hw492 : k0_chk492 v821), ∀ a x, ((![v821] : Fin 1 → IVec S16 32) a x).toNat < S6144.size a := fun v821 k0_hw492 => k0_hw492

def k0_chk493 (v826 : IVec S16 32) : Prop :=
  (∀ a x, ((![v826] : Fin 1 → IVec S16 32) a x).toNat < S6144.size a)
theorem k0_idx493_inb : ∀ (v826 : IVec S16 32) (k0_hw493 : k0_chk493 v826), ∀ a x, ((![v826] : Fin 1 → IVec S16 32) a x).toNat < S6144.size a := fun v826 k0_hw493 => k0_hw493

def k0_chk494 (v831 : IVec S16 32) : Prop :=
  (∀ a x, ((![v831] : Fin 1 → IVec S16 32) a x).toNat < S6144.size a)
theorem k0_idx494_inb : ∀ (v831 : IVec S16 32) (k0_hw494 : k0_chk494 v831), ∀ a x, ((![v831] : Fin 1 → IVec S16 32) a x).toNat < S6144.size a := fun v831 k0_hw494 => k0_hw494

def k0_chk495 (v836 : IVec S16 32) : Prop :=
  (∀ a x, ((![v836] : Fin 1 → IVec S16 32) a x).toNat < S6144.size a)
theorem k0_idx495_inb : ∀ (v836 : IVec S16 32) (k0_hw495 : k0_chk495 v836), ∀ a x, ((![v836] : Fin 1 → IVec S16 32) a x).toNat < S6144.size a := fun v836 k0_hw495 => k0_hw495

def k0_chk496 (v841 : IVec S16 32) : Prop :=
  (∀ a x, ((![v841] : Fin 1 → IVec S16 32) a x).toNat < S6144.size a)
theorem k0_idx496_inb : ∀ (v841 : IVec S16 32) (k0_hw496 : k0_chk496 v841), ∀ a x, ((![v841] : Fin 1 → IVec S16 32) a x).toNat < S6144.size a := fun v841 k0_hw496 => k0_hw496

def k0_chk497 (v846 : IVec S16 32) : Prop :=
  (∀ a x, ((![v846] : Fin 1 → IVec S16 32) a x).toNat < S6144.size a)
theorem k0_idx497_inb : ∀ (v846 : IVec S16 32) (k0_hw497 : k0_chk497 v846), ∀ a x, ((![v846] : Fin 1 → IVec S16 32) a x).toNat < S6144.size a := fun v846 k0_hw497 => k0_hw497

def k0_chk498 (v851 : IVec S16 32) : Prop :=
  (∀ a x, ((![v851] : Fin 1 → IVec S16 32) a x).toNat < S6144.size a)
theorem k0_idx498_inb : ∀ (v851 : IVec S16 32) (k0_hw498 : k0_chk498 v851), ∀ a x, ((![v851] : Fin 1 → IVec S16 32) a x).toNat < S6144.size a := fun v851 k0_hw498 => k0_hw498

def k0_chk499 (v856 : IVec S16 32) : Prop :=
  (∀ a x, ((![v856] : Fin 1 → IVec S16 32) a x).toNat < S6144.size a)
theorem k0_idx499_inb : ∀ (v856 : IVec S16 32) (k0_hw499 : k0_chk499 v856), ∀ a x, ((![v856] : Fin 1 → IVec S16 32) a x).toNat < S6144.size a := fun v856 k0_hw499 => k0_hw499

def k0_chk500 (v861 : IVec S16 32) : Prop :=
  (∀ a x, ((![v861] : Fin 1 → IVec S16 32) a x).toNat < S6144.size a)
theorem k0_idx500_inb : ∀ (v861 : IVec S16 32) (k0_hw500 : k0_chk500 v861), ∀ a x, ((![v861] : Fin 1 → IVec S16 32) a x).toNat < S6144.size a := fun v861 k0_hw500 => k0_hw500

def k0_chk501 (v866 : IVec S16 32) : Prop :=
  (∀ a x, ((![v866] : Fin 1 → IVec S16 32) a x).toNat < S6144.size a)
theorem k0_idx501_inb : ∀ (v866 : IVec S16 32) (k0_hw501 : k0_chk501 v866), ∀ a x, ((![v866] : Fin 1 → IVec S16 32) a x).toNat < S6144.size a := fun v866 k0_hw501 => k0_hw501

def k0_chk502 (v871 : IVec S16 32) : Prop :=
  (∀ a x, ((![v871] : Fin 1 → IVec S16 32) a x).toNat < S6144.size a)
theorem k0_idx502_inb : ∀ (v871 : IVec S16 32) (k0_hw502 : k0_chk502 v871), ∀ a x, ((![v871] : Fin 1 → IVec S16 32) a x).toNat < S6144.size a := fun v871 k0_hw502 => k0_hw502

def k0_chk503 (v876 : IVec S16 32) : Prop :=
  (∀ a x, ((![v876] : Fin 1 → IVec S16 32) a x).toNat < S6144.size a)
theorem k0_idx503_inb : ∀ (v876 : IVec S16 32) (k0_hw503 : k0_chk503 v876), ∀ a x, ((![v876] : Fin 1 → IVec S16 32) a x).toNat < S6144.size a := fun v876 k0_hw503 => k0_hw503

def k0_chk504 (v881 : IVec S16 32) : Prop :=
  (∀ a x, ((![v881] : Fin 1 → IVec S16 32) a x).toNat < S6144.size a)
theorem k0_idx504_inb : ∀ (v881 : IVec S16 32) (k0_hw504 : k0_chk504 v881), ∀ a x, ((![v881] : Fin 1 → IVec S16 32) a x).toNat < S6144.size a := fun v881 k0_hw504 => k0_hw504

def k0_chk505 (v886 : IVec S16 32) : Prop :=
  (∀ a x, ((![v886] : Fin 1 → IVec S16 32) a x).toNat < S6144.size a)
theorem k0_idx505_inb : ∀ (v886 : IVec S16 32) (k0_hw505 : k0_chk505 v886), ∀ a x, ((![v886] : Fin 1 → IVec S16 32) a x).toNat < S6144.size a := fun v886 k0_hw505 => k0_hw505

def k0_chk506 (v891 : IVec S16 32) : Prop :=
  (∀ a x, ((![v891] : Fin 1 → IVec S16 32) a x).toNat < S6144.size a)
theorem k0_idx506_inb : ∀ (v891 : IVec S16 32) (k0_hw506 : k0_chk506 v891), ∀ a x, ((![v891] : Fin 1 → IVec S16 32) a x).toNat < S6144.size a := fun v891 k0_hw506 => k0_hw506

def k0_chk507 (v896 : IVec S16 32) : Prop :=
  (∀ a x, ((![v896] : Fin 1 → IVec S16 32) a x).toNat < S6144.size a)
theorem k0_idx507_inb : ∀ (v896 : IVec S16 32) (k0_hw507 : k0_chk507 v896), ∀ a x, ((![v896] : Fin 1 → IVec S16 32) a x).toNat < S6144.size a := fun v896 k0_hw507 => k0_hw507

def k0_chk508 (v901 : IVec S16 32) : Prop :=
  (∀ a x, ((![v901] : Fin 1 → IVec S16 32) a x).toNat < S6144.size a)
theorem k0_idx508_inb : ∀ (v901 : IVec S16 32) (k0_hw508 : k0_chk508 v901), ∀ a x, ((![v901] : Fin 1 → IVec S16 32) a x).toNat < S6144.size a := fun v901 k0_hw508 => k0_hw508

def k0_chk509 (v906 : IVec S16 32) : Prop :=
  (∀ a x, ((![v906] : Fin 1 → IVec S16 32) a x).toNat < S6144.size a)
theorem k0_idx509_inb : ∀ (v906 : IVec S16 32) (k0_hw509 : k0_chk509 v906), ∀ a x, ((![v906] : Fin 1 → IVec S16 32) a x).toNat < S6144.size a := fun v906 k0_hw509 => k0_hw509

def k0_chk510 (v911 : IVec S16 32) : Prop :=
  (∀ a x, ((![v911] : Fin 1 → IVec S16 32) a x).toNat < S6144.size a)
theorem k0_idx510_inb : ∀ (v911 : IVec S16 32) (k0_hw510 : k0_chk510 v911), ∀ a x, ((![v911] : Fin 1 → IVec S16 32) a x).toNat < S6144.size a := fun v911 k0_hw510 => k0_hw510

def k0_chk511 (v916 : IVec S16 32) : Prop :=
  (∀ a x, ((![v916] : Fin 1 → IVec S16 32) a x).toNat < S6144.size a)
theorem k0_idx511_inb : ∀ (v916 : IVec S16 32) (k0_hw511 : k0_chk511 v916), ∀ a x, ((![v916] : Fin 1 → IVec S16 32) a x).toNat < S6144.size a := fun v916 k0_hw511 => k0_hw511

def k0_chk512 (v921 : IVec S16 32) : Prop :=
  (∀ a x, ((![v921] : Fin 1 → IVec S16 32) a x).toNat < S6144.size a)
theorem k0_idx512_inb : ∀ (v921 : IVec S16 32) (k0_hw512 : k0_chk512 v921), ∀ a x, ((![v921] : Fin 1 → IVec S16 32) a x).toNat < S6144.size a := fun v921 k0_hw512 => k0_hw512
def k0_off36 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_262 : BitVec 32 := 2#32
  let c128_i32_263 : BitVec 32 := 128#32
  let c0_i32_264 : BitVec 32 := 0#32
  ![v1.toNat, 2, 128, 0]
@[reducible] def k0_t18_loop : Scf.Loop 32 :=
  let c0_i32_273 : BitVec 32 := 0#32
  let c64_i32_274 : BitVec 32 := 64#32
  let v200 : BitVec 32 := Scalar.addi c0_i32_273 c64_i32_274
  let c1_i32_275 : BitVec 32 := 1#32
  ⟨c0_i32_273, v200, c1_i32_275⟩
def k0_off37 (k0_t18 : Fin k0_t18_loop.trips) (c0_i32_762 : BitVec 32) : Fin 2 → Nat :=
  let c0_i32_273 : BitVec 32 := 0#32
  let c1_i32_275 : BitVec 32 := 1#32
  let arg12 : BitVec 32 := Scf.iv c0_i32_273 c1_i32_275 k0_t18
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk513 (v766 : IVec S16 32) : Prop :=
  (∀ a x, ((![v766] : Fin 1 → IVec S16 32) a x).toNat < S6144.size a)
theorem k0_idx513_inb : ∀ (v766 : IVec S16 32) (k0_hw513 : k0_chk513 v766), ∀ a x, ((![v766] : Fin 1 → IVec S16 32) a x).toNat < S6144.size a := fun v766 k0_hw513 => k0_hw513

def k0_chk514 (v771 : IVec S16 32) : Prop :=
  (∀ a x, ((![v771] : Fin 1 → IVec S16 32) a x).toNat < S6144.size a)
theorem k0_idx514_inb : ∀ (v771 : IVec S16 32) (k0_hw514 : k0_chk514 v771), ∀ a x, ((![v771] : Fin 1 → IVec S16 32) a x).toNat < S6144.size a := fun v771 k0_hw514 => k0_hw514

def k0_chk515 (v776 : IVec S16 32) : Prop :=
  (∀ a x, ((![v776] : Fin 1 → IVec S16 32) a x).toNat < S6144.size a)
theorem k0_idx515_inb : ∀ (v776 : IVec S16 32) (k0_hw515 : k0_chk515 v776), ∀ a x, ((![v776] : Fin 1 → IVec S16 32) a x).toNat < S6144.size a := fun v776 k0_hw515 => k0_hw515

def k0_chk516 (v781 : IVec S16 32) : Prop :=
  (∀ a x, ((![v781] : Fin 1 → IVec S16 32) a x).toNat < S6144.size a)
theorem k0_idx516_inb : ∀ (v781 : IVec S16 32) (k0_hw516 : k0_chk516 v781), ∀ a x, ((![v781] : Fin 1 → IVec S16 32) a x).toNat < S6144.size a := fun v781 k0_hw516 => k0_hw516

def k0_chk517 (v786 : IVec S16 32) : Prop :=
  (∀ a x, ((![v786] : Fin 1 → IVec S16 32) a x).toNat < S6144.size a)
theorem k0_idx517_inb : ∀ (v786 : IVec S16 32) (k0_hw517 : k0_chk517 v786), ∀ a x, ((![v786] : Fin 1 → IVec S16 32) a x).toNat < S6144.size a := fun v786 k0_hw517 => k0_hw517

def k0_chk518 (v791 : IVec S16 32) : Prop :=
  (∀ a x, ((![v791] : Fin 1 → IVec S16 32) a x).toNat < S6144.size a)
theorem k0_idx518_inb : ∀ (v791 : IVec S16 32) (k0_hw518 : k0_chk518 v791), ∀ a x, ((![v791] : Fin 1 → IVec S16 32) a x).toNat < S6144.size a := fun v791 k0_hw518 => k0_hw518

def k0_chk519 (v796 : IVec S16 32) : Prop :=
  (∀ a x, ((![v796] : Fin 1 → IVec S16 32) a x).toNat < S6144.size a)
theorem k0_idx519_inb : ∀ (v796 : IVec S16 32) (k0_hw519 : k0_chk519 v796), ∀ a x, ((![v796] : Fin 1 → IVec S16 32) a x).toNat < S6144.size a := fun v796 k0_hw519 => k0_hw519

def k0_chk520 (v801 : IVec S16 32) : Prop :=
  (∀ a x, ((![v801] : Fin 1 → IVec S16 32) a x).toNat < S6144.size a)
theorem k0_idx520_inb : ∀ (v801 : IVec S16 32) (k0_hw520 : k0_chk520 v801), ∀ a x, ((![v801] : Fin 1 → IVec S16 32) a x).toNat < S6144.size a := fun v801 k0_hw520 => k0_hw520

def k0_chk521 (v806 : IVec S16 32) : Prop :=
  (∀ a x, ((![v806] : Fin 1 → IVec S16 32) a x).toNat < S6144.size a)
theorem k0_idx521_inb : ∀ (v806 : IVec S16 32) (k0_hw521 : k0_chk521 v806), ∀ a x, ((![v806] : Fin 1 → IVec S16 32) a x).toNat < S6144.size a := fun v806 k0_hw521 => k0_hw521

def k0_chk522 (v811 : IVec S16 32) : Prop :=
  (∀ a x, ((![v811] : Fin 1 → IVec S16 32) a x).toNat < S6144.size a)
theorem k0_idx522_inb : ∀ (v811 : IVec S16 32) (k0_hw522 : k0_chk522 v811), ∀ a x, ((![v811] : Fin 1 → IVec S16 32) a x).toNat < S6144.size a := fun v811 k0_hw522 => k0_hw522

def k0_chk523 (v816 : IVec S16 32) : Prop :=
  (∀ a x, ((![v816] : Fin 1 → IVec S16 32) a x).toNat < S6144.size a)
theorem k0_idx523_inb : ∀ (v816 : IVec S16 32) (k0_hw523 : k0_chk523 v816), ∀ a x, ((![v816] : Fin 1 → IVec S16 32) a x).toNat < S6144.size a := fun v816 k0_hw523 => k0_hw523

def k0_chk524 (v821 : IVec S16 32) : Prop :=
  (∀ a x, ((![v821] : Fin 1 → IVec S16 32) a x).toNat < S6144.size a)
theorem k0_idx524_inb : ∀ (v821 : IVec S16 32) (k0_hw524 : k0_chk524 v821), ∀ a x, ((![v821] : Fin 1 → IVec S16 32) a x).toNat < S6144.size a := fun v821 k0_hw524 => k0_hw524

def k0_chk525 (v826 : IVec S16 32) : Prop :=
  (∀ a x, ((![v826] : Fin 1 → IVec S16 32) a x).toNat < S6144.size a)
theorem k0_idx525_inb : ∀ (v826 : IVec S16 32) (k0_hw525 : k0_chk525 v826), ∀ a x, ((![v826] : Fin 1 → IVec S16 32) a x).toNat < S6144.size a := fun v826 k0_hw525 => k0_hw525

def k0_chk526 (v831 : IVec S16 32) : Prop :=
  (∀ a x, ((![v831] : Fin 1 → IVec S16 32) a x).toNat < S6144.size a)
theorem k0_idx526_inb : ∀ (v831 : IVec S16 32) (k0_hw526 : k0_chk526 v831), ∀ a x, ((![v831] : Fin 1 → IVec S16 32) a x).toNat < S6144.size a := fun v831 k0_hw526 => k0_hw526

def k0_chk527 (v836 : IVec S16 32) : Prop :=
  (∀ a x, ((![v836] : Fin 1 → IVec S16 32) a x).toNat < S6144.size a)
theorem k0_idx527_inb : ∀ (v836 : IVec S16 32) (k0_hw527 : k0_chk527 v836), ∀ a x, ((![v836] : Fin 1 → IVec S16 32) a x).toNat < S6144.size a := fun v836 k0_hw527 => k0_hw527

def k0_chk528 (v841 : IVec S16 32) : Prop :=
  (∀ a x, ((![v841] : Fin 1 → IVec S16 32) a x).toNat < S6144.size a)
theorem k0_idx528_inb : ∀ (v841 : IVec S16 32) (k0_hw528 : k0_chk528 v841), ∀ a x, ((![v841] : Fin 1 → IVec S16 32) a x).toNat < S6144.size a := fun v841 k0_hw528 => k0_hw528

def k0_chk529 (v846 : IVec S16 32) : Prop :=
  (∀ a x, ((![v846] : Fin 1 → IVec S16 32) a x).toNat < S6144.size a)
theorem k0_idx529_inb : ∀ (v846 : IVec S16 32) (k0_hw529 : k0_chk529 v846), ∀ a x, ((![v846] : Fin 1 → IVec S16 32) a x).toNat < S6144.size a := fun v846 k0_hw529 => k0_hw529

def k0_chk530 (v851 : IVec S16 32) : Prop :=
  (∀ a x, ((![v851] : Fin 1 → IVec S16 32) a x).toNat < S6144.size a)
theorem k0_idx530_inb : ∀ (v851 : IVec S16 32) (k0_hw530 : k0_chk530 v851), ∀ a x, ((![v851] : Fin 1 → IVec S16 32) a x).toNat < S6144.size a := fun v851 k0_hw530 => k0_hw530

def k0_chk531 (v856 : IVec S16 32) : Prop :=
  (∀ a x, ((![v856] : Fin 1 → IVec S16 32) a x).toNat < S6144.size a)
theorem k0_idx531_inb : ∀ (v856 : IVec S16 32) (k0_hw531 : k0_chk531 v856), ∀ a x, ((![v856] : Fin 1 → IVec S16 32) a x).toNat < S6144.size a := fun v856 k0_hw531 => k0_hw531

def k0_chk532 (v861 : IVec S16 32) : Prop :=
  (∀ a x, ((![v861] : Fin 1 → IVec S16 32) a x).toNat < S6144.size a)
theorem k0_idx532_inb : ∀ (v861 : IVec S16 32) (k0_hw532 : k0_chk532 v861), ∀ a x, ((![v861] : Fin 1 → IVec S16 32) a x).toNat < S6144.size a := fun v861 k0_hw532 => k0_hw532

def k0_chk533 (v866 : IVec S16 32) : Prop :=
  (∀ a x, ((![v866] : Fin 1 → IVec S16 32) a x).toNat < S6144.size a)
theorem k0_idx533_inb : ∀ (v866 : IVec S16 32) (k0_hw533 : k0_chk533 v866), ∀ a x, ((![v866] : Fin 1 → IVec S16 32) a x).toNat < S6144.size a := fun v866 k0_hw533 => k0_hw533

def k0_chk534 (v871 : IVec S16 32) : Prop :=
  (∀ a x, ((![v871] : Fin 1 → IVec S16 32) a x).toNat < S6144.size a)
theorem k0_idx534_inb : ∀ (v871 : IVec S16 32) (k0_hw534 : k0_chk534 v871), ∀ a x, ((![v871] : Fin 1 → IVec S16 32) a x).toNat < S6144.size a := fun v871 k0_hw534 => k0_hw534

def k0_chk535 (v876 : IVec S16 32) : Prop :=
  (∀ a x, ((![v876] : Fin 1 → IVec S16 32) a x).toNat < S6144.size a)
theorem k0_idx535_inb : ∀ (v876 : IVec S16 32) (k0_hw535 : k0_chk535 v876), ∀ a x, ((![v876] : Fin 1 → IVec S16 32) a x).toNat < S6144.size a := fun v876 k0_hw535 => k0_hw535

def k0_chk536 (v881 : IVec S16 32) : Prop :=
  (∀ a x, ((![v881] : Fin 1 → IVec S16 32) a x).toNat < S6144.size a)
theorem k0_idx536_inb : ∀ (v881 : IVec S16 32) (k0_hw536 : k0_chk536 v881), ∀ a x, ((![v881] : Fin 1 → IVec S16 32) a x).toNat < S6144.size a := fun v881 k0_hw536 => k0_hw536

def k0_chk537 (v886 : IVec S16 32) : Prop :=
  (∀ a x, ((![v886] : Fin 1 → IVec S16 32) a x).toNat < S6144.size a)
theorem k0_idx537_inb : ∀ (v886 : IVec S16 32) (k0_hw537 : k0_chk537 v886), ∀ a x, ((![v886] : Fin 1 → IVec S16 32) a x).toNat < S6144.size a := fun v886 k0_hw537 => k0_hw537

def k0_chk538 (v891 : IVec S16 32) : Prop :=
  (∀ a x, ((![v891] : Fin 1 → IVec S16 32) a x).toNat < S6144.size a)
theorem k0_idx538_inb : ∀ (v891 : IVec S16 32) (k0_hw538 : k0_chk538 v891), ∀ a x, ((![v891] : Fin 1 → IVec S16 32) a x).toNat < S6144.size a := fun v891 k0_hw538 => k0_hw538

def k0_chk539 (v896 : IVec S16 32) : Prop :=
  (∀ a x, ((![v896] : Fin 1 → IVec S16 32) a x).toNat < S6144.size a)
theorem k0_idx539_inb : ∀ (v896 : IVec S16 32) (k0_hw539 : k0_chk539 v896), ∀ a x, ((![v896] : Fin 1 → IVec S16 32) a x).toNat < S6144.size a := fun v896 k0_hw539 => k0_hw539

def k0_chk540 (v901 : IVec S16 32) : Prop :=
  (∀ a x, ((![v901] : Fin 1 → IVec S16 32) a x).toNat < S6144.size a)
theorem k0_idx540_inb : ∀ (v901 : IVec S16 32) (k0_hw540 : k0_chk540 v901), ∀ a x, ((![v901] : Fin 1 → IVec S16 32) a x).toNat < S6144.size a := fun v901 k0_hw540 => k0_hw540

def k0_chk541 (v906 : IVec S16 32) : Prop :=
  (∀ a x, ((![v906] : Fin 1 → IVec S16 32) a x).toNat < S6144.size a)
theorem k0_idx541_inb : ∀ (v906 : IVec S16 32) (k0_hw541 : k0_chk541 v906), ∀ a x, ((![v906] : Fin 1 → IVec S16 32) a x).toNat < S6144.size a := fun v906 k0_hw541 => k0_hw541

def k0_chk542 (v911 : IVec S16 32) : Prop :=
  (∀ a x, ((![v911] : Fin 1 → IVec S16 32) a x).toNat < S6144.size a)
theorem k0_idx542_inb : ∀ (v911 : IVec S16 32) (k0_hw542 : k0_chk542 v911), ∀ a x, ((![v911] : Fin 1 → IVec S16 32) a x).toNat < S6144.size a := fun v911 k0_hw542 => k0_hw542

def k0_chk543 (v916 : IVec S16 32) : Prop :=
  (∀ a x, ((![v916] : Fin 1 → IVec S16 32) a x).toNat < S6144.size a)
theorem k0_idx543_inb : ∀ (v916 : IVec S16 32) (k0_hw543 : k0_chk543 v916), ∀ a x, ((![v916] : Fin 1 → IVec S16 32) a x).toNat < S6144.size a := fun v916 k0_hw543 => k0_hw543

def k0_chk544 (v921 : IVec S16 32) : Prop :=
  (∀ a x, ((![v921] : Fin 1 → IVec S16 32) a x).toNat < S6144.size a)
theorem k0_idx544_inb : ∀ (v921 : IVec S16 32) (k0_hw544 : k0_chk544 v921), ∀ a x, ((![v921] : Fin 1 → IVec S16 32) a x).toNat < S6144.size a := fun v921 k0_hw544 => k0_hw544
def k0_off38 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c192_i32_278 : BitVec 32 := 192#32
  let c0_i32_279 : BitVec 32 := 0#32
  ![v1.toNat, 2, 192, 0]
@[reducible] def k0_t19_loop : Scf.Loop 32 :=
  let c0_i32_289 : BitVec 32 := 0#32
  let c64_i32_290 : BitVec 32 := 64#32
  let v211 : BitVec 32 := Scalar.addi c0_i32_289 c64_i32_290
  let c1_i32_291 : BitVec 32 := 1#32
  ⟨c0_i32_289, v211, c1_i32_291⟩
def k0_off39 (k0_t19 : Fin k0_t19_loop.trips) (c0_i32_762 : BitVec 32) : Fin 2 → Nat :=
  let c0_i32_289 : BitVec 32 := 0#32
  let c1_i32_291 : BitVec 32 := 1#32
  let arg12 : BitVec 32 := Scf.iv c0_i32_289 c1_i32_291 k0_t19
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk545 (v766 : IVec S16 32) : Prop :=
  (∀ a x, ((![v766] : Fin 1 → IVec S16 32) a x).toNat < S6144.size a)
theorem k0_idx545_inb : ∀ (v766 : IVec S16 32) (k0_hw545 : k0_chk545 v766), ∀ a x, ((![v766] : Fin 1 → IVec S16 32) a x).toNat < S6144.size a := fun v766 k0_hw545 => k0_hw545

def k0_chk546 (v771 : IVec S16 32) : Prop :=
  (∀ a x, ((![v771] : Fin 1 → IVec S16 32) a x).toNat < S6144.size a)
theorem k0_idx546_inb : ∀ (v771 : IVec S16 32) (k0_hw546 : k0_chk546 v771), ∀ a x, ((![v771] : Fin 1 → IVec S16 32) a x).toNat < S6144.size a := fun v771 k0_hw546 => k0_hw546

def k0_chk547 (v776 : IVec S16 32) : Prop :=
  (∀ a x, ((![v776] : Fin 1 → IVec S16 32) a x).toNat < S6144.size a)
theorem k0_idx547_inb : ∀ (v776 : IVec S16 32) (k0_hw547 : k0_chk547 v776), ∀ a x, ((![v776] : Fin 1 → IVec S16 32) a x).toNat < S6144.size a := fun v776 k0_hw547 => k0_hw547

def k0_chk548 (v781 : IVec S16 32) : Prop :=
  (∀ a x, ((![v781] : Fin 1 → IVec S16 32) a x).toNat < S6144.size a)
theorem k0_idx548_inb : ∀ (v781 : IVec S16 32) (k0_hw548 : k0_chk548 v781), ∀ a x, ((![v781] : Fin 1 → IVec S16 32) a x).toNat < S6144.size a := fun v781 k0_hw548 => k0_hw548

def k0_chk549 (v786 : IVec S16 32) : Prop :=
  (∀ a x, ((![v786] : Fin 1 → IVec S16 32) a x).toNat < S6144.size a)
theorem k0_idx549_inb : ∀ (v786 : IVec S16 32) (k0_hw549 : k0_chk549 v786), ∀ a x, ((![v786] : Fin 1 → IVec S16 32) a x).toNat < S6144.size a := fun v786 k0_hw549 => k0_hw549

def k0_chk550 (v791 : IVec S16 32) : Prop :=
  (∀ a x, ((![v791] : Fin 1 → IVec S16 32) a x).toNat < S6144.size a)
theorem k0_idx550_inb : ∀ (v791 : IVec S16 32) (k0_hw550 : k0_chk550 v791), ∀ a x, ((![v791] : Fin 1 → IVec S16 32) a x).toNat < S6144.size a := fun v791 k0_hw550 => k0_hw550

def k0_chk551 (v796 : IVec S16 32) : Prop :=
  (∀ a x, ((![v796] : Fin 1 → IVec S16 32) a x).toNat < S6144.size a)
theorem k0_idx551_inb : ∀ (v796 : IVec S16 32) (k0_hw551 : k0_chk551 v796), ∀ a x, ((![v796] : Fin 1 → IVec S16 32) a x).toNat < S6144.size a := fun v796 k0_hw551 => k0_hw551

def k0_chk552 (v801 : IVec S16 32) : Prop :=
  (∀ a x, ((![v801] : Fin 1 → IVec S16 32) a x).toNat < S6144.size a)
theorem k0_idx552_inb : ∀ (v801 : IVec S16 32) (k0_hw552 : k0_chk552 v801), ∀ a x, ((![v801] : Fin 1 → IVec S16 32) a x).toNat < S6144.size a := fun v801 k0_hw552 => k0_hw552

def k0_chk553 (v806 : IVec S16 32) : Prop :=
  (∀ a x, ((![v806] : Fin 1 → IVec S16 32) a x).toNat < S6144.size a)
theorem k0_idx553_inb : ∀ (v806 : IVec S16 32) (k0_hw553 : k0_chk553 v806), ∀ a x, ((![v806] : Fin 1 → IVec S16 32) a x).toNat < S6144.size a := fun v806 k0_hw553 => k0_hw553

def k0_chk554 (v811 : IVec S16 32) : Prop :=
  (∀ a x, ((![v811] : Fin 1 → IVec S16 32) a x).toNat < S6144.size a)
theorem k0_idx554_inb : ∀ (v811 : IVec S16 32) (k0_hw554 : k0_chk554 v811), ∀ a x, ((![v811] : Fin 1 → IVec S16 32) a x).toNat < S6144.size a := fun v811 k0_hw554 => k0_hw554

def k0_chk555 (v816 : IVec S16 32) : Prop :=
  (∀ a x, ((![v816] : Fin 1 → IVec S16 32) a x).toNat < S6144.size a)
theorem k0_idx555_inb : ∀ (v816 : IVec S16 32) (k0_hw555 : k0_chk555 v816), ∀ a x, ((![v816] : Fin 1 → IVec S16 32) a x).toNat < S6144.size a := fun v816 k0_hw555 => k0_hw555

def k0_chk556 (v821 : IVec S16 32) : Prop :=
  (∀ a x, ((![v821] : Fin 1 → IVec S16 32) a x).toNat < S6144.size a)
theorem k0_idx556_inb : ∀ (v821 : IVec S16 32) (k0_hw556 : k0_chk556 v821), ∀ a x, ((![v821] : Fin 1 → IVec S16 32) a x).toNat < S6144.size a := fun v821 k0_hw556 => k0_hw556

def k0_chk557 (v826 : IVec S16 32) : Prop :=
  (∀ a x, ((![v826] : Fin 1 → IVec S16 32) a x).toNat < S6144.size a)
theorem k0_idx557_inb : ∀ (v826 : IVec S16 32) (k0_hw557 : k0_chk557 v826), ∀ a x, ((![v826] : Fin 1 → IVec S16 32) a x).toNat < S6144.size a := fun v826 k0_hw557 => k0_hw557

def k0_chk558 (v831 : IVec S16 32) : Prop :=
  (∀ a x, ((![v831] : Fin 1 → IVec S16 32) a x).toNat < S6144.size a)
theorem k0_idx558_inb : ∀ (v831 : IVec S16 32) (k0_hw558 : k0_chk558 v831), ∀ a x, ((![v831] : Fin 1 → IVec S16 32) a x).toNat < S6144.size a := fun v831 k0_hw558 => k0_hw558

def k0_chk559 (v836 : IVec S16 32) : Prop :=
  (∀ a x, ((![v836] : Fin 1 → IVec S16 32) a x).toNat < S6144.size a)
theorem k0_idx559_inb : ∀ (v836 : IVec S16 32) (k0_hw559 : k0_chk559 v836), ∀ a x, ((![v836] : Fin 1 → IVec S16 32) a x).toNat < S6144.size a := fun v836 k0_hw559 => k0_hw559

def k0_chk560 (v841 : IVec S16 32) : Prop :=
  (∀ a x, ((![v841] : Fin 1 → IVec S16 32) a x).toNat < S6144.size a)
theorem k0_idx560_inb : ∀ (v841 : IVec S16 32) (k0_hw560 : k0_chk560 v841), ∀ a x, ((![v841] : Fin 1 → IVec S16 32) a x).toNat < S6144.size a := fun v841 k0_hw560 => k0_hw560

def k0_chk561 (v846 : IVec S16 32) : Prop :=
  (∀ a x, ((![v846] : Fin 1 → IVec S16 32) a x).toNat < S6144.size a)
theorem k0_idx561_inb : ∀ (v846 : IVec S16 32) (k0_hw561 : k0_chk561 v846), ∀ a x, ((![v846] : Fin 1 → IVec S16 32) a x).toNat < S6144.size a := fun v846 k0_hw561 => k0_hw561

def k0_chk562 (v851 : IVec S16 32) : Prop :=
  (∀ a x, ((![v851] : Fin 1 → IVec S16 32) a x).toNat < S6144.size a)
theorem k0_idx562_inb : ∀ (v851 : IVec S16 32) (k0_hw562 : k0_chk562 v851), ∀ a x, ((![v851] : Fin 1 → IVec S16 32) a x).toNat < S6144.size a := fun v851 k0_hw562 => k0_hw562

def k0_chk563 (v856 : IVec S16 32) : Prop :=
  (∀ a x, ((![v856] : Fin 1 → IVec S16 32) a x).toNat < S6144.size a)
theorem k0_idx563_inb : ∀ (v856 : IVec S16 32) (k0_hw563 : k0_chk563 v856), ∀ a x, ((![v856] : Fin 1 → IVec S16 32) a x).toNat < S6144.size a := fun v856 k0_hw563 => k0_hw563

def k0_chk564 (v861 : IVec S16 32) : Prop :=
  (∀ a x, ((![v861] : Fin 1 → IVec S16 32) a x).toNat < S6144.size a)
theorem k0_idx564_inb : ∀ (v861 : IVec S16 32) (k0_hw564 : k0_chk564 v861), ∀ a x, ((![v861] : Fin 1 → IVec S16 32) a x).toNat < S6144.size a := fun v861 k0_hw564 => k0_hw564

def k0_chk565 (v866 : IVec S16 32) : Prop :=
  (∀ a x, ((![v866] : Fin 1 → IVec S16 32) a x).toNat < S6144.size a)
theorem k0_idx565_inb : ∀ (v866 : IVec S16 32) (k0_hw565 : k0_chk565 v866), ∀ a x, ((![v866] : Fin 1 → IVec S16 32) a x).toNat < S6144.size a := fun v866 k0_hw565 => k0_hw565

def k0_chk566 (v871 : IVec S16 32) : Prop :=
  (∀ a x, ((![v871] : Fin 1 → IVec S16 32) a x).toNat < S6144.size a)
theorem k0_idx566_inb : ∀ (v871 : IVec S16 32) (k0_hw566 : k0_chk566 v871), ∀ a x, ((![v871] : Fin 1 → IVec S16 32) a x).toNat < S6144.size a := fun v871 k0_hw566 => k0_hw566

def k0_chk567 (v876 : IVec S16 32) : Prop :=
  (∀ a x, ((![v876] : Fin 1 → IVec S16 32) a x).toNat < S6144.size a)
theorem k0_idx567_inb : ∀ (v876 : IVec S16 32) (k0_hw567 : k0_chk567 v876), ∀ a x, ((![v876] : Fin 1 → IVec S16 32) a x).toNat < S6144.size a := fun v876 k0_hw567 => k0_hw567

def k0_chk568 (v881 : IVec S16 32) : Prop :=
  (∀ a x, ((![v881] : Fin 1 → IVec S16 32) a x).toNat < S6144.size a)
theorem k0_idx568_inb : ∀ (v881 : IVec S16 32) (k0_hw568 : k0_chk568 v881), ∀ a x, ((![v881] : Fin 1 → IVec S16 32) a x).toNat < S6144.size a := fun v881 k0_hw568 => k0_hw568

def k0_chk569 (v886 : IVec S16 32) : Prop :=
  (∀ a x, ((![v886] : Fin 1 → IVec S16 32) a x).toNat < S6144.size a)
theorem k0_idx569_inb : ∀ (v886 : IVec S16 32) (k0_hw569 : k0_chk569 v886), ∀ a x, ((![v886] : Fin 1 → IVec S16 32) a x).toNat < S6144.size a := fun v886 k0_hw569 => k0_hw569

def k0_chk570 (v891 : IVec S16 32) : Prop :=
  (∀ a x, ((![v891] : Fin 1 → IVec S16 32) a x).toNat < S6144.size a)
theorem k0_idx570_inb : ∀ (v891 : IVec S16 32) (k0_hw570 : k0_chk570 v891), ∀ a x, ((![v891] : Fin 1 → IVec S16 32) a x).toNat < S6144.size a := fun v891 k0_hw570 => k0_hw570

def k0_chk571 (v896 : IVec S16 32) : Prop :=
  (∀ a x, ((![v896] : Fin 1 → IVec S16 32) a x).toNat < S6144.size a)
theorem k0_idx571_inb : ∀ (v896 : IVec S16 32) (k0_hw571 : k0_chk571 v896), ∀ a x, ((![v896] : Fin 1 → IVec S16 32) a x).toNat < S6144.size a := fun v896 k0_hw571 => k0_hw571

def k0_chk572 (v901 : IVec S16 32) : Prop :=
  (∀ a x, ((![v901] : Fin 1 → IVec S16 32) a x).toNat < S6144.size a)
theorem k0_idx572_inb : ∀ (v901 : IVec S16 32) (k0_hw572 : k0_chk572 v901), ∀ a x, ((![v901] : Fin 1 → IVec S16 32) a x).toNat < S6144.size a := fun v901 k0_hw572 => k0_hw572

def k0_chk573 (v906 : IVec S16 32) : Prop :=
  (∀ a x, ((![v906] : Fin 1 → IVec S16 32) a x).toNat < S6144.size a)
theorem k0_idx573_inb : ∀ (v906 : IVec S16 32) (k0_hw573 : k0_chk573 v906), ∀ a x, ((![v906] : Fin 1 → IVec S16 32) a x).toNat < S6144.size a := fun v906 k0_hw573 => k0_hw573

def k0_chk574 (v911 : IVec S16 32) : Prop :=
  (∀ a x, ((![v911] : Fin 1 → IVec S16 32) a x).toNat < S6144.size a)
theorem k0_idx574_inb : ∀ (v911 : IVec S16 32) (k0_hw574 : k0_chk574 v911), ∀ a x, ((![v911] : Fin 1 → IVec S16 32) a x).toNat < S6144.size a := fun v911 k0_hw574 => k0_hw574

def k0_chk575 (v916 : IVec S16 32) : Prop :=
  (∀ a x, ((![v916] : Fin 1 → IVec S16 32) a x).toNat < S6144.size a)
theorem k0_idx575_inb : ∀ (v916 : IVec S16 32) (k0_hw575 : k0_chk575 v916), ∀ a x, ((![v916] : Fin 1 → IVec S16 32) a x).toNat < S6144.size a := fun v916 k0_hw575 => k0_hw575

def k0_chk576 (v921 : IVec S16 32) : Prop :=
  (∀ a x, ((![v921] : Fin 1 → IVec S16 32) a x).toNat < S6144.size a)
theorem k0_idx576_inb : ∀ (v921 : IVec S16 32) (k0_hw576 : k0_chk576 v921), ∀ a x, ((![v921] : Fin 1 → IVec S16 32) a x).toNat < S6144.size a := fun v921 k0_hw576 => k0_hw576
def k0_off40 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_293 : BitVec 32 := 2#32
  let c256_i32_294 : BitVec 32 := 256#32
  let c0_i32_295 : BitVec 32 := 0#32
  ![v1.toNat, 2, 256, 0]
@[reducible] def k0_t20_loop : Scf.Loop 32 :=
  let c0_i32_305 : BitVec 32 := 0#32
  let c64_i32_306 : BitVec 32 := 64#32
  let v222 : BitVec 32 := Scalar.addi c0_i32_305 c64_i32_306
  let c1_i32_307 : BitVec 32 := 1#32
  ⟨c0_i32_305, v222, c1_i32_307⟩
def k0_off41 (k0_t20 : Fin k0_t20_loop.trips) (c0_i32_762 : BitVec 32) : Fin 2 → Nat :=
  let c0_i32_305 : BitVec 32 := 0#32
  let c1_i32_307 : BitVec 32 := 1#32
  let arg12 : BitVec 32 := Scf.iv c0_i32_305 c1_i32_307 k0_t20
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk577 (v766 : IVec S16 32) : Prop :=
  (∀ a x, ((![v766] : Fin 1 → IVec S16 32) a x).toNat < S6144.size a)
theorem k0_idx577_inb : ∀ (v766 : IVec S16 32) (k0_hw577 : k0_chk577 v766), ∀ a x, ((![v766] : Fin 1 → IVec S16 32) a x).toNat < S6144.size a := fun v766 k0_hw577 => k0_hw577

def k0_chk578 (v771 : IVec S16 32) : Prop :=
  (∀ a x, ((![v771] : Fin 1 → IVec S16 32) a x).toNat < S6144.size a)
theorem k0_idx578_inb : ∀ (v771 : IVec S16 32) (k0_hw578 : k0_chk578 v771), ∀ a x, ((![v771] : Fin 1 → IVec S16 32) a x).toNat < S6144.size a := fun v771 k0_hw578 => k0_hw578

def k0_chk579 (v776 : IVec S16 32) : Prop :=
  (∀ a x, ((![v776] : Fin 1 → IVec S16 32) a x).toNat < S6144.size a)
theorem k0_idx579_inb : ∀ (v776 : IVec S16 32) (k0_hw579 : k0_chk579 v776), ∀ a x, ((![v776] : Fin 1 → IVec S16 32) a x).toNat < S6144.size a := fun v776 k0_hw579 => k0_hw579

def k0_chk580 (v781 : IVec S16 32) : Prop :=
  (∀ a x, ((![v781] : Fin 1 → IVec S16 32) a x).toNat < S6144.size a)
theorem k0_idx580_inb : ∀ (v781 : IVec S16 32) (k0_hw580 : k0_chk580 v781), ∀ a x, ((![v781] : Fin 1 → IVec S16 32) a x).toNat < S6144.size a := fun v781 k0_hw580 => k0_hw580

def k0_chk581 (v786 : IVec S16 32) : Prop :=
  (∀ a x, ((![v786] : Fin 1 → IVec S16 32) a x).toNat < S6144.size a)
theorem k0_idx581_inb : ∀ (v786 : IVec S16 32) (k0_hw581 : k0_chk581 v786), ∀ a x, ((![v786] : Fin 1 → IVec S16 32) a x).toNat < S6144.size a := fun v786 k0_hw581 => k0_hw581

def k0_chk582 (v791 : IVec S16 32) : Prop :=
  (∀ a x, ((![v791] : Fin 1 → IVec S16 32) a x).toNat < S6144.size a)
theorem k0_idx582_inb : ∀ (v791 : IVec S16 32) (k0_hw582 : k0_chk582 v791), ∀ a x, ((![v791] : Fin 1 → IVec S16 32) a x).toNat < S6144.size a := fun v791 k0_hw582 => k0_hw582

def k0_chk583 (v796 : IVec S16 32) : Prop :=
  (∀ a x, ((![v796] : Fin 1 → IVec S16 32) a x).toNat < S6144.size a)
theorem k0_idx583_inb : ∀ (v796 : IVec S16 32) (k0_hw583 : k0_chk583 v796), ∀ a x, ((![v796] : Fin 1 → IVec S16 32) a x).toNat < S6144.size a := fun v796 k0_hw583 => k0_hw583

def k0_chk584 (v801 : IVec S16 32) : Prop :=
  (∀ a x, ((![v801] : Fin 1 → IVec S16 32) a x).toNat < S6144.size a)
theorem k0_idx584_inb : ∀ (v801 : IVec S16 32) (k0_hw584 : k0_chk584 v801), ∀ a x, ((![v801] : Fin 1 → IVec S16 32) a x).toNat < S6144.size a := fun v801 k0_hw584 => k0_hw584

def k0_chk585 (v806 : IVec S16 32) : Prop :=
  (∀ a x, ((![v806] : Fin 1 → IVec S16 32) a x).toNat < S6144.size a)
theorem k0_idx585_inb : ∀ (v806 : IVec S16 32) (k0_hw585 : k0_chk585 v806), ∀ a x, ((![v806] : Fin 1 → IVec S16 32) a x).toNat < S6144.size a := fun v806 k0_hw585 => k0_hw585

def k0_chk586 (v811 : IVec S16 32) : Prop :=
  (∀ a x, ((![v811] : Fin 1 → IVec S16 32) a x).toNat < S6144.size a)
theorem k0_idx586_inb : ∀ (v811 : IVec S16 32) (k0_hw586 : k0_chk586 v811), ∀ a x, ((![v811] : Fin 1 → IVec S16 32) a x).toNat < S6144.size a := fun v811 k0_hw586 => k0_hw586

def k0_chk587 (v816 : IVec S16 32) : Prop :=
  (∀ a x, ((![v816] : Fin 1 → IVec S16 32) a x).toNat < S6144.size a)
theorem k0_idx587_inb : ∀ (v816 : IVec S16 32) (k0_hw587 : k0_chk587 v816), ∀ a x, ((![v816] : Fin 1 → IVec S16 32) a x).toNat < S6144.size a := fun v816 k0_hw587 => k0_hw587

def k0_chk588 (v821 : IVec S16 32) : Prop :=
  (∀ a x, ((![v821] : Fin 1 → IVec S16 32) a x).toNat < S6144.size a)
theorem k0_idx588_inb : ∀ (v821 : IVec S16 32) (k0_hw588 : k0_chk588 v821), ∀ a x, ((![v821] : Fin 1 → IVec S16 32) a x).toNat < S6144.size a := fun v821 k0_hw588 => k0_hw588

def k0_chk589 (v826 : IVec S16 32) : Prop :=
  (∀ a x, ((![v826] : Fin 1 → IVec S16 32) a x).toNat < S6144.size a)
theorem k0_idx589_inb : ∀ (v826 : IVec S16 32) (k0_hw589 : k0_chk589 v826), ∀ a x, ((![v826] : Fin 1 → IVec S16 32) a x).toNat < S6144.size a := fun v826 k0_hw589 => k0_hw589

def k0_chk590 (v831 : IVec S16 32) : Prop :=
  (∀ a x, ((![v831] : Fin 1 → IVec S16 32) a x).toNat < S6144.size a)
theorem k0_idx590_inb : ∀ (v831 : IVec S16 32) (k0_hw590 : k0_chk590 v831), ∀ a x, ((![v831] : Fin 1 → IVec S16 32) a x).toNat < S6144.size a := fun v831 k0_hw590 => k0_hw590

def k0_chk591 (v836 : IVec S16 32) : Prop :=
  (∀ a x, ((![v836] : Fin 1 → IVec S16 32) a x).toNat < S6144.size a)
theorem k0_idx591_inb : ∀ (v836 : IVec S16 32) (k0_hw591 : k0_chk591 v836), ∀ a x, ((![v836] : Fin 1 → IVec S16 32) a x).toNat < S6144.size a := fun v836 k0_hw591 => k0_hw591

def k0_chk592 (v841 : IVec S16 32) : Prop :=
  (∀ a x, ((![v841] : Fin 1 → IVec S16 32) a x).toNat < S6144.size a)
theorem k0_idx592_inb : ∀ (v841 : IVec S16 32) (k0_hw592 : k0_chk592 v841), ∀ a x, ((![v841] : Fin 1 → IVec S16 32) a x).toNat < S6144.size a := fun v841 k0_hw592 => k0_hw592

def k0_chk593 (v846 : IVec S16 32) : Prop :=
  (∀ a x, ((![v846] : Fin 1 → IVec S16 32) a x).toNat < S6144.size a)
theorem k0_idx593_inb : ∀ (v846 : IVec S16 32) (k0_hw593 : k0_chk593 v846), ∀ a x, ((![v846] : Fin 1 → IVec S16 32) a x).toNat < S6144.size a := fun v846 k0_hw593 => k0_hw593

def k0_chk594 (v851 : IVec S16 32) : Prop :=
  (∀ a x, ((![v851] : Fin 1 → IVec S16 32) a x).toNat < S6144.size a)
theorem k0_idx594_inb : ∀ (v851 : IVec S16 32) (k0_hw594 : k0_chk594 v851), ∀ a x, ((![v851] : Fin 1 → IVec S16 32) a x).toNat < S6144.size a := fun v851 k0_hw594 => k0_hw594

def k0_chk595 (v856 : IVec S16 32) : Prop :=
  (∀ a x, ((![v856] : Fin 1 → IVec S16 32) a x).toNat < S6144.size a)
theorem k0_idx595_inb : ∀ (v856 : IVec S16 32) (k0_hw595 : k0_chk595 v856), ∀ a x, ((![v856] : Fin 1 → IVec S16 32) a x).toNat < S6144.size a := fun v856 k0_hw595 => k0_hw595

def k0_chk596 (v861 : IVec S16 32) : Prop :=
  (∀ a x, ((![v861] : Fin 1 → IVec S16 32) a x).toNat < S6144.size a)
theorem k0_idx596_inb : ∀ (v861 : IVec S16 32) (k0_hw596 : k0_chk596 v861), ∀ a x, ((![v861] : Fin 1 → IVec S16 32) a x).toNat < S6144.size a := fun v861 k0_hw596 => k0_hw596

def k0_chk597 (v866 : IVec S16 32) : Prop :=
  (∀ a x, ((![v866] : Fin 1 → IVec S16 32) a x).toNat < S6144.size a)
theorem k0_idx597_inb : ∀ (v866 : IVec S16 32) (k0_hw597 : k0_chk597 v866), ∀ a x, ((![v866] : Fin 1 → IVec S16 32) a x).toNat < S6144.size a := fun v866 k0_hw597 => k0_hw597

def k0_chk598 (v871 : IVec S16 32) : Prop :=
  (∀ a x, ((![v871] : Fin 1 → IVec S16 32) a x).toNat < S6144.size a)
theorem k0_idx598_inb : ∀ (v871 : IVec S16 32) (k0_hw598 : k0_chk598 v871), ∀ a x, ((![v871] : Fin 1 → IVec S16 32) a x).toNat < S6144.size a := fun v871 k0_hw598 => k0_hw598

def k0_chk599 (v876 : IVec S16 32) : Prop :=
  (∀ a x, ((![v876] : Fin 1 → IVec S16 32) a x).toNat < S6144.size a)
theorem k0_idx599_inb : ∀ (v876 : IVec S16 32) (k0_hw599 : k0_chk599 v876), ∀ a x, ((![v876] : Fin 1 → IVec S16 32) a x).toNat < S6144.size a := fun v876 k0_hw599 => k0_hw599

def k0_chk600 (v881 : IVec S16 32) : Prop :=
  (∀ a x, ((![v881] : Fin 1 → IVec S16 32) a x).toNat < S6144.size a)
theorem k0_idx600_inb : ∀ (v881 : IVec S16 32) (k0_hw600 : k0_chk600 v881), ∀ a x, ((![v881] : Fin 1 → IVec S16 32) a x).toNat < S6144.size a := fun v881 k0_hw600 => k0_hw600

def k0_chk601 (v886 : IVec S16 32) : Prop :=
  (∀ a x, ((![v886] : Fin 1 → IVec S16 32) a x).toNat < S6144.size a)
theorem k0_idx601_inb : ∀ (v886 : IVec S16 32) (k0_hw601 : k0_chk601 v886), ∀ a x, ((![v886] : Fin 1 → IVec S16 32) a x).toNat < S6144.size a := fun v886 k0_hw601 => k0_hw601

def k0_chk602 (v891 : IVec S16 32) : Prop :=
  (∀ a x, ((![v891] : Fin 1 → IVec S16 32) a x).toNat < S6144.size a)
theorem k0_idx602_inb : ∀ (v891 : IVec S16 32) (k0_hw602 : k0_chk602 v891), ∀ a x, ((![v891] : Fin 1 → IVec S16 32) a x).toNat < S6144.size a := fun v891 k0_hw602 => k0_hw602

def k0_chk603 (v896 : IVec S16 32) : Prop :=
  (∀ a x, ((![v896] : Fin 1 → IVec S16 32) a x).toNat < S6144.size a)
theorem k0_idx603_inb : ∀ (v896 : IVec S16 32) (k0_hw603 : k0_chk603 v896), ∀ a x, ((![v896] : Fin 1 → IVec S16 32) a x).toNat < S6144.size a := fun v896 k0_hw603 => k0_hw603

def k0_chk604 (v901 : IVec S16 32) : Prop :=
  (∀ a x, ((![v901] : Fin 1 → IVec S16 32) a x).toNat < S6144.size a)
theorem k0_idx604_inb : ∀ (v901 : IVec S16 32) (k0_hw604 : k0_chk604 v901), ∀ a x, ((![v901] : Fin 1 → IVec S16 32) a x).toNat < S6144.size a := fun v901 k0_hw604 => k0_hw604

def k0_chk605 (v906 : IVec S16 32) : Prop :=
  (∀ a x, ((![v906] : Fin 1 → IVec S16 32) a x).toNat < S6144.size a)
theorem k0_idx605_inb : ∀ (v906 : IVec S16 32) (k0_hw605 : k0_chk605 v906), ∀ a x, ((![v906] : Fin 1 → IVec S16 32) a x).toNat < S6144.size a := fun v906 k0_hw605 => k0_hw605

def k0_chk606 (v911 : IVec S16 32) : Prop :=
  (∀ a x, ((![v911] : Fin 1 → IVec S16 32) a x).toNat < S6144.size a)
theorem k0_idx606_inb : ∀ (v911 : IVec S16 32) (k0_hw606 : k0_chk606 v911), ∀ a x, ((![v911] : Fin 1 → IVec S16 32) a x).toNat < S6144.size a := fun v911 k0_hw606 => k0_hw606

def k0_chk607 (v916 : IVec S16 32) : Prop :=
  (∀ a x, ((![v916] : Fin 1 → IVec S16 32) a x).toNat < S6144.size a)
theorem k0_idx607_inb : ∀ (v916 : IVec S16 32) (k0_hw607 : k0_chk607 v916), ∀ a x, ((![v916] : Fin 1 → IVec S16 32) a x).toNat < S6144.size a := fun v916 k0_hw607 => k0_hw607

def k0_chk608 (v921 : IVec S16 32) : Prop :=
  (∀ a x, ((![v921] : Fin 1 → IVec S16 32) a x).toNat < S6144.size a)
theorem k0_idx608_inb : ∀ (v921 : IVec S16 32) (k0_hw608 : k0_chk608 v921), ∀ a x, ((![v921] : Fin 1 → IVec S16 32) a x).toNat < S6144.size a := fun v921 k0_hw608 => k0_hw608
def k0_off42 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_309 : BitVec 32 := 2#32
  let c320_i32_310 : BitVec 32 := 320#32
  let c0_i32_311 : BitVec 32 := 0#32
  ![v1.toNat, 2, 320, 0]
@[reducible] def k0_t21_loop : Scf.Loop 32 :=
  let c0_i32_321 : BitVec 32 := 0#32
  let c64_i32_322 : BitVec 32 := 64#32
  let v233 : BitVec 32 := Scalar.addi c0_i32_321 c64_i32_322
  let c1_i32_323 : BitVec 32 := 1#32
  ⟨c0_i32_321, v233, c1_i32_323⟩
def k0_off43 (k0_t21 : Fin k0_t21_loop.trips) (c0_i32_762 : BitVec 32) : Fin 2 → Nat :=
  let c0_i32_321 : BitVec 32 := 0#32
  let c1_i32_323 : BitVec 32 := 1#32
  let arg12 : BitVec 32 := Scf.iv c0_i32_321 c1_i32_323 k0_t21
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk609 (v766 : IVec S16 32) : Prop :=
  (∀ a x, ((![v766] : Fin 1 → IVec S16 32) a x).toNat < S6144.size a)
theorem k0_idx609_inb : ∀ (v766 : IVec S16 32) (k0_hw609 : k0_chk609 v766), ∀ a x, ((![v766] : Fin 1 → IVec S16 32) a x).toNat < S6144.size a := fun v766 k0_hw609 => k0_hw609

def k0_chk610 (v771 : IVec S16 32) : Prop :=
  (∀ a x, ((![v771] : Fin 1 → IVec S16 32) a x).toNat < S6144.size a)
theorem k0_idx610_inb : ∀ (v771 : IVec S16 32) (k0_hw610 : k0_chk610 v771), ∀ a x, ((![v771] : Fin 1 → IVec S16 32) a x).toNat < S6144.size a := fun v771 k0_hw610 => k0_hw610

def k0_chk611 (v776 : IVec S16 32) : Prop :=
  (∀ a x, ((![v776] : Fin 1 → IVec S16 32) a x).toNat < S6144.size a)
theorem k0_idx611_inb : ∀ (v776 : IVec S16 32) (k0_hw611 : k0_chk611 v776), ∀ a x, ((![v776] : Fin 1 → IVec S16 32) a x).toNat < S6144.size a := fun v776 k0_hw611 => k0_hw611

def k0_chk612 (v781 : IVec S16 32) : Prop :=
  (∀ a x, ((![v781] : Fin 1 → IVec S16 32) a x).toNat < S6144.size a)
theorem k0_idx612_inb : ∀ (v781 : IVec S16 32) (k0_hw612 : k0_chk612 v781), ∀ a x, ((![v781] : Fin 1 → IVec S16 32) a x).toNat < S6144.size a := fun v781 k0_hw612 => k0_hw612

def k0_chk613 (v786 : IVec S16 32) : Prop :=
  (∀ a x, ((![v786] : Fin 1 → IVec S16 32) a x).toNat < S6144.size a)
theorem k0_idx613_inb : ∀ (v786 : IVec S16 32) (k0_hw613 : k0_chk613 v786), ∀ a x, ((![v786] : Fin 1 → IVec S16 32) a x).toNat < S6144.size a := fun v786 k0_hw613 => k0_hw613

def k0_chk614 (v791 : IVec S16 32) : Prop :=
  (∀ a x, ((![v791] : Fin 1 → IVec S16 32) a x).toNat < S6144.size a)
theorem k0_idx614_inb : ∀ (v791 : IVec S16 32) (k0_hw614 : k0_chk614 v791), ∀ a x, ((![v791] : Fin 1 → IVec S16 32) a x).toNat < S6144.size a := fun v791 k0_hw614 => k0_hw614

def k0_chk615 (v796 : IVec S16 32) : Prop :=
  (∀ a x, ((![v796] : Fin 1 → IVec S16 32) a x).toNat < S6144.size a)
theorem k0_idx615_inb : ∀ (v796 : IVec S16 32) (k0_hw615 : k0_chk615 v796), ∀ a x, ((![v796] : Fin 1 → IVec S16 32) a x).toNat < S6144.size a := fun v796 k0_hw615 => k0_hw615

def k0_chk616 (v801 : IVec S16 32) : Prop :=
  (∀ a x, ((![v801] : Fin 1 → IVec S16 32) a x).toNat < S6144.size a)
theorem k0_idx616_inb : ∀ (v801 : IVec S16 32) (k0_hw616 : k0_chk616 v801), ∀ a x, ((![v801] : Fin 1 → IVec S16 32) a x).toNat < S6144.size a := fun v801 k0_hw616 => k0_hw616

def k0_chk617 (v806 : IVec S16 32) : Prop :=
  (∀ a x, ((![v806] : Fin 1 → IVec S16 32) a x).toNat < S6144.size a)
theorem k0_idx617_inb : ∀ (v806 : IVec S16 32) (k0_hw617 : k0_chk617 v806), ∀ a x, ((![v806] : Fin 1 → IVec S16 32) a x).toNat < S6144.size a := fun v806 k0_hw617 => k0_hw617

def k0_chk618 (v811 : IVec S16 32) : Prop :=
  (∀ a x, ((![v811] : Fin 1 → IVec S16 32) a x).toNat < S6144.size a)
theorem k0_idx618_inb : ∀ (v811 : IVec S16 32) (k0_hw618 : k0_chk618 v811), ∀ a x, ((![v811] : Fin 1 → IVec S16 32) a x).toNat < S6144.size a := fun v811 k0_hw618 => k0_hw618

def k0_chk619 (v816 : IVec S16 32) : Prop :=
  (∀ a x, ((![v816] : Fin 1 → IVec S16 32) a x).toNat < S6144.size a)
theorem k0_idx619_inb : ∀ (v816 : IVec S16 32) (k0_hw619 : k0_chk619 v816), ∀ a x, ((![v816] : Fin 1 → IVec S16 32) a x).toNat < S6144.size a := fun v816 k0_hw619 => k0_hw619

def k0_chk620 (v821 : IVec S16 32) : Prop :=
  (∀ a x, ((![v821] : Fin 1 → IVec S16 32) a x).toNat < S6144.size a)
theorem k0_idx620_inb : ∀ (v821 : IVec S16 32) (k0_hw620 : k0_chk620 v821), ∀ a x, ((![v821] : Fin 1 → IVec S16 32) a x).toNat < S6144.size a := fun v821 k0_hw620 => k0_hw620

def k0_chk621 (v826 : IVec S16 32) : Prop :=
  (∀ a x, ((![v826] : Fin 1 → IVec S16 32) a x).toNat < S6144.size a)
theorem k0_idx621_inb : ∀ (v826 : IVec S16 32) (k0_hw621 : k0_chk621 v826), ∀ a x, ((![v826] : Fin 1 → IVec S16 32) a x).toNat < S6144.size a := fun v826 k0_hw621 => k0_hw621

def k0_chk622 (v831 : IVec S16 32) : Prop :=
  (∀ a x, ((![v831] : Fin 1 → IVec S16 32) a x).toNat < S6144.size a)
theorem k0_idx622_inb : ∀ (v831 : IVec S16 32) (k0_hw622 : k0_chk622 v831), ∀ a x, ((![v831] : Fin 1 → IVec S16 32) a x).toNat < S6144.size a := fun v831 k0_hw622 => k0_hw622

def k0_chk623 (v836 : IVec S16 32) : Prop :=
  (∀ a x, ((![v836] : Fin 1 → IVec S16 32) a x).toNat < S6144.size a)
theorem k0_idx623_inb : ∀ (v836 : IVec S16 32) (k0_hw623 : k0_chk623 v836), ∀ a x, ((![v836] : Fin 1 → IVec S16 32) a x).toNat < S6144.size a := fun v836 k0_hw623 => k0_hw623

def k0_chk624 (v841 : IVec S16 32) : Prop :=
  (∀ a x, ((![v841] : Fin 1 → IVec S16 32) a x).toNat < S6144.size a)
theorem k0_idx624_inb : ∀ (v841 : IVec S16 32) (k0_hw624 : k0_chk624 v841), ∀ a x, ((![v841] : Fin 1 → IVec S16 32) a x).toNat < S6144.size a := fun v841 k0_hw624 => k0_hw624

def k0_chk625 (v846 : IVec S16 32) : Prop :=
  (∀ a x, ((![v846] : Fin 1 → IVec S16 32) a x).toNat < S6144.size a)
theorem k0_idx625_inb : ∀ (v846 : IVec S16 32) (k0_hw625 : k0_chk625 v846), ∀ a x, ((![v846] : Fin 1 → IVec S16 32) a x).toNat < S6144.size a := fun v846 k0_hw625 => k0_hw625

def k0_chk626 (v851 : IVec S16 32) : Prop :=
  (∀ a x, ((![v851] : Fin 1 → IVec S16 32) a x).toNat < S6144.size a)
theorem k0_idx626_inb : ∀ (v851 : IVec S16 32) (k0_hw626 : k0_chk626 v851), ∀ a x, ((![v851] : Fin 1 → IVec S16 32) a x).toNat < S6144.size a := fun v851 k0_hw626 => k0_hw626

def k0_chk627 (v856 : IVec S16 32) : Prop :=
  (∀ a x, ((![v856] : Fin 1 → IVec S16 32) a x).toNat < S6144.size a)
theorem k0_idx627_inb : ∀ (v856 : IVec S16 32) (k0_hw627 : k0_chk627 v856), ∀ a x, ((![v856] : Fin 1 → IVec S16 32) a x).toNat < S6144.size a := fun v856 k0_hw627 => k0_hw627

def k0_chk628 (v861 : IVec S16 32) : Prop :=
  (∀ a x, ((![v861] : Fin 1 → IVec S16 32) a x).toNat < S6144.size a)
theorem k0_idx628_inb : ∀ (v861 : IVec S16 32) (k0_hw628 : k0_chk628 v861), ∀ a x, ((![v861] : Fin 1 → IVec S16 32) a x).toNat < S6144.size a := fun v861 k0_hw628 => k0_hw628

def k0_chk629 (v866 : IVec S16 32) : Prop :=
  (∀ a x, ((![v866] : Fin 1 → IVec S16 32) a x).toNat < S6144.size a)
theorem k0_idx629_inb : ∀ (v866 : IVec S16 32) (k0_hw629 : k0_chk629 v866), ∀ a x, ((![v866] : Fin 1 → IVec S16 32) a x).toNat < S6144.size a := fun v866 k0_hw629 => k0_hw629

def k0_chk630 (v871 : IVec S16 32) : Prop :=
  (∀ a x, ((![v871] : Fin 1 → IVec S16 32) a x).toNat < S6144.size a)
theorem k0_idx630_inb : ∀ (v871 : IVec S16 32) (k0_hw630 : k0_chk630 v871), ∀ a x, ((![v871] : Fin 1 → IVec S16 32) a x).toNat < S6144.size a := fun v871 k0_hw630 => k0_hw630

def k0_chk631 (v876 : IVec S16 32) : Prop :=
  (∀ a x, ((![v876] : Fin 1 → IVec S16 32) a x).toNat < S6144.size a)
theorem k0_idx631_inb : ∀ (v876 : IVec S16 32) (k0_hw631 : k0_chk631 v876), ∀ a x, ((![v876] : Fin 1 → IVec S16 32) a x).toNat < S6144.size a := fun v876 k0_hw631 => k0_hw631

def k0_chk632 (v881 : IVec S16 32) : Prop :=
  (∀ a x, ((![v881] : Fin 1 → IVec S16 32) a x).toNat < S6144.size a)
theorem k0_idx632_inb : ∀ (v881 : IVec S16 32) (k0_hw632 : k0_chk632 v881), ∀ a x, ((![v881] : Fin 1 → IVec S16 32) a x).toNat < S6144.size a := fun v881 k0_hw632 => k0_hw632

def k0_chk633 (v886 : IVec S16 32) : Prop :=
  (∀ a x, ((![v886] : Fin 1 → IVec S16 32) a x).toNat < S6144.size a)
theorem k0_idx633_inb : ∀ (v886 : IVec S16 32) (k0_hw633 : k0_chk633 v886), ∀ a x, ((![v886] : Fin 1 → IVec S16 32) a x).toNat < S6144.size a := fun v886 k0_hw633 => k0_hw633

def k0_chk634 (v891 : IVec S16 32) : Prop :=
  (∀ a x, ((![v891] : Fin 1 → IVec S16 32) a x).toNat < S6144.size a)
theorem k0_idx634_inb : ∀ (v891 : IVec S16 32) (k0_hw634 : k0_chk634 v891), ∀ a x, ((![v891] : Fin 1 → IVec S16 32) a x).toNat < S6144.size a := fun v891 k0_hw634 => k0_hw634

def k0_chk635 (v896 : IVec S16 32) : Prop :=
  (∀ a x, ((![v896] : Fin 1 → IVec S16 32) a x).toNat < S6144.size a)
theorem k0_idx635_inb : ∀ (v896 : IVec S16 32) (k0_hw635 : k0_chk635 v896), ∀ a x, ((![v896] : Fin 1 → IVec S16 32) a x).toNat < S6144.size a := fun v896 k0_hw635 => k0_hw635

def k0_chk636 (v901 : IVec S16 32) : Prop :=
  (∀ a x, ((![v901] : Fin 1 → IVec S16 32) a x).toNat < S6144.size a)
theorem k0_idx636_inb : ∀ (v901 : IVec S16 32) (k0_hw636 : k0_chk636 v901), ∀ a x, ((![v901] : Fin 1 → IVec S16 32) a x).toNat < S6144.size a := fun v901 k0_hw636 => k0_hw636

def k0_chk637 (v906 : IVec S16 32) : Prop :=
  (∀ a x, ((![v906] : Fin 1 → IVec S16 32) a x).toNat < S6144.size a)
theorem k0_idx637_inb : ∀ (v906 : IVec S16 32) (k0_hw637 : k0_chk637 v906), ∀ a x, ((![v906] : Fin 1 → IVec S16 32) a x).toNat < S6144.size a := fun v906 k0_hw637 => k0_hw637

def k0_chk638 (v911 : IVec S16 32) : Prop :=
  (∀ a x, ((![v911] : Fin 1 → IVec S16 32) a x).toNat < S6144.size a)
theorem k0_idx638_inb : ∀ (v911 : IVec S16 32) (k0_hw638 : k0_chk638 v911), ∀ a x, ((![v911] : Fin 1 → IVec S16 32) a x).toNat < S6144.size a := fun v911 k0_hw638 => k0_hw638

def k0_chk639 (v916 : IVec S16 32) : Prop :=
  (∀ a x, ((![v916] : Fin 1 → IVec S16 32) a x).toNat < S6144.size a)
theorem k0_idx639_inb : ∀ (v916 : IVec S16 32) (k0_hw639 : k0_chk639 v916), ∀ a x, ((![v916] : Fin 1 → IVec S16 32) a x).toNat < S6144.size a := fun v916 k0_hw639 => k0_hw639

def k0_chk640 (v921 : IVec S16 32) : Prop :=
  (∀ a x, ((![v921] : Fin 1 → IVec S16 32) a x).toNat < S6144.size a)
theorem k0_idx640_inb : ∀ (v921 : IVec S16 32) (k0_hw640 : k0_chk640 v921), ∀ a x, ((![v921] : Fin 1 → IVec S16 32) a x).toNat < S6144.size a := fun v921 k0_hw640 => k0_hw640
def k0_off44 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_325 : BitVec 32 := 2#32
  let c384_i32_326 : BitVec 32 := 384#32
  let c0_i32_327 : BitVec 32 := 0#32
  ![v1.toNat, 2, 384, 0]
@[reducible] def k0_t22_loop : Scf.Loop 32 :=
  let c0_i32_337 : BitVec 32 := 0#32
  let c64_i32_338 : BitVec 32 := 64#32
  let v244 : BitVec 32 := Scalar.addi c0_i32_337 c64_i32_338
  let c1_i32_339 : BitVec 32 := 1#32
  ⟨c0_i32_337, v244, c1_i32_339⟩
def k0_off45 (k0_t22 : Fin k0_t22_loop.trips) (c0_i32_762 : BitVec 32) : Fin 2 → Nat :=
  let c0_i32_337 : BitVec 32 := 0#32
  let c1_i32_339 : BitVec 32 := 1#32
  let arg12 : BitVec 32 := Scf.iv c0_i32_337 c1_i32_339 k0_t22
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk641 (v766 : IVec S16 32) : Prop :=
  (∀ a x, ((![v766] : Fin 1 → IVec S16 32) a x).toNat < S6144.size a)
theorem k0_idx641_inb : ∀ (v766 : IVec S16 32) (k0_hw641 : k0_chk641 v766), ∀ a x, ((![v766] : Fin 1 → IVec S16 32) a x).toNat < S6144.size a := fun v766 k0_hw641 => k0_hw641

def k0_chk642 (v771 : IVec S16 32) : Prop :=
  (∀ a x, ((![v771] : Fin 1 → IVec S16 32) a x).toNat < S6144.size a)
theorem k0_idx642_inb : ∀ (v771 : IVec S16 32) (k0_hw642 : k0_chk642 v771), ∀ a x, ((![v771] : Fin 1 → IVec S16 32) a x).toNat < S6144.size a := fun v771 k0_hw642 => k0_hw642

def k0_chk643 (v776 : IVec S16 32) : Prop :=
  (∀ a x, ((![v776] : Fin 1 → IVec S16 32) a x).toNat < S6144.size a)
theorem k0_idx643_inb : ∀ (v776 : IVec S16 32) (k0_hw643 : k0_chk643 v776), ∀ a x, ((![v776] : Fin 1 → IVec S16 32) a x).toNat < S6144.size a := fun v776 k0_hw643 => k0_hw643

def k0_chk644 (v781 : IVec S16 32) : Prop :=
  (∀ a x, ((![v781] : Fin 1 → IVec S16 32) a x).toNat < S6144.size a)
theorem k0_idx644_inb : ∀ (v781 : IVec S16 32) (k0_hw644 : k0_chk644 v781), ∀ a x, ((![v781] : Fin 1 → IVec S16 32) a x).toNat < S6144.size a := fun v781 k0_hw644 => k0_hw644

def k0_chk645 (v786 : IVec S16 32) : Prop :=
  (∀ a x, ((![v786] : Fin 1 → IVec S16 32) a x).toNat < S6144.size a)
theorem k0_idx645_inb : ∀ (v786 : IVec S16 32) (k0_hw645 : k0_chk645 v786), ∀ a x, ((![v786] : Fin 1 → IVec S16 32) a x).toNat < S6144.size a := fun v786 k0_hw645 => k0_hw645

def k0_chk646 (v791 : IVec S16 32) : Prop :=
  (∀ a x, ((![v791] : Fin 1 → IVec S16 32) a x).toNat < S6144.size a)
theorem k0_idx646_inb : ∀ (v791 : IVec S16 32) (k0_hw646 : k0_chk646 v791), ∀ a x, ((![v791] : Fin 1 → IVec S16 32) a x).toNat < S6144.size a := fun v791 k0_hw646 => k0_hw646

def k0_chk647 (v796 : IVec S16 32) : Prop :=
  (∀ a x, ((![v796] : Fin 1 → IVec S16 32) a x).toNat < S6144.size a)
theorem k0_idx647_inb : ∀ (v796 : IVec S16 32) (k0_hw647 : k0_chk647 v796), ∀ a x, ((![v796] : Fin 1 → IVec S16 32) a x).toNat < S6144.size a := fun v796 k0_hw647 => k0_hw647

def k0_chk648 (v801 : IVec S16 32) : Prop :=
  (∀ a x, ((![v801] : Fin 1 → IVec S16 32) a x).toNat < S6144.size a)
theorem k0_idx648_inb : ∀ (v801 : IVec S16 32) (k0_hw648 : k0_chk648 v801), ∀ a x, ((![v801] : Fin 1 → IVec S16 32) a x).toNat < S6144.size a := fun v801 k0_hw648 => k0_hw648

def k0_chk649 (v806 : IVec S16 32) : Prop :=
  (∀ a x, ((![v806] : Fin 1 → IVec S16 32) a x).toNat < S6144.size a)
theorem k0_idx649_inb : ∀ (v806 : IVec S16 32) (k0_hw649 : k0_chk649 v806), ∀ a x, ((![v806] : Fin 1 → IVec S16 32) a x).toNat < S6144.size a := fun v806 k0_hw649 => k0_hw649

def k0_chk650 (v811 : IVec S16 32) : Prop :=
  (∀ a x, ((![v811] : Fin 1 → IVec S16 32) a x).toNat < S6144.size a)
theorem k0_idx650_inb : ∀ (v811 : IVec S16 32) (k0_hw650 : k0_chk650 v811), ∀ a x, ((![v811] : Fin 1 → IVec S16 32) a x).toNat < S6144.size a := fun v811 k0_hw650 => k0_hw650

def k0_chk651 (v816 : IVec S16 32) : Prop :=
  (∀ a x, ((![v816] : Fin 1 → IVec S16 32) a x).toNat < S6144.size a)
theorem k0_idx651_inb : ∀ (v816 : IVec S16 32) (k0_hw651 : k0_chk651 v816), ∀ a x, ((![v816] : Fin 1 → IVec S16 32) a x).toNat < S6144.size a := fun v816 k0_hw651 => k0_hw651

def k0_chk652 (v821 : IVec S16 32) : Prop :=
  (∀ a x, ((![v821] : Fin 1 → IVec S16 32) a x).toNat < S6144.size a)
theorem k0_idx652_inb : ∀ (v821 : IVec S16 32) (k0_hw652 : k0_chk652 v821), ∀ a x, ((![v821] : Fin 1 → IVec S16 32) a x).toNat < S6144.size a := fun v821 k0_hw652 => k0_hw652

def k0_chk653 (v826 : IVec S16 32) : Prop :=
  (∀ a x, ((![v826] : Fin 1 → IVec S16 32) a x).toNat < S6144.size a)
theorem k0_idx653_inb : ∀ (v826 : IVec S16 32) (k0_hw653 : k0_chk653 v826), ∀ a x, ((![v826] : Fin 1 → IVec S16 32) a x).toNat < S6144.size a := fun v826 k0_hw653 => k0_hw653

def k0_chk654 (v831 : IVec S16 32) : Prop :=
  (∀ a x, ((![v831] : Fin 1 → IVec S16 32) a x).toNat < S6144.size a)
theorem k0_idx654_inb : ∀ (v831 : IVec S16 32) (k0_hw654 : k0_chk654 v831), ∀ a x, ((![v831] : Fin 1 → IVec S16 32) a x).toNat < S6144.size a := fun v831 k0_hw654 => k0_hw654

def k0_chk655 (v836 : IVec S16 32) : Prop :=
  (∀ a x, ((![v836] : Fin 1 → IVec S16 32) a x).toNat < S6144.size a)
theorem k0_idx655_inb : ∀ (v836 : IVec S16 32) (k0_hw655 : k0_chk655 v836), ∀ a x, ((![v836] : Fin 1 → IVec S16 32) a x).toNat < S6144.size a := fun v836 k0_hw655 => k0_hw655

def k0_chk656 (v841 : IVec S16 32) : Prop :=
  (∀ a x, ((![v841] : Fin 1 → IVec S16 32) a x).toNat < S6144.size a)
theorem k0_idx656_inb : ∀ (v841 : IVec S16 32) (k0_hw656 : k0_chk656 v841), ∀ a x, ((![v841] : Fin 1 → IVec S16 32) a x).toNat < S6144.size a := fun v841 k0_hw656 => k0_hw656

def k0_chk657 (v846 : IVec S16 32) : Prop :=
  (∀ a x, ((![v846] : Fin 1 → IVec S16 32) a x).toNat < S6144.size a)
theorem k0_idx657_inb : ∀ (v846 : IVec S16 32) (k0_hw657 : k0_chk657 v846), ∀ a x, ((![v846] : Fin 1 → IVec S16 32) a x).toNat < S6144.size a := fun v846 k0_hw657 => k0_hw657

def k0_chk658 (v851 : IVec S16 32) : Prop :=
  (∀ a x, ((![v851] : Fin 1 → IVec S16 32) a x).toNat < S6144.size a)
theorem k0_idx658_inb : ∀ (v851 : IVec S16 32) (k0_hw658 : k0_chk658 v851), ∀ a x, ((![v851] : Fin 1 → IVec S16 32) a x).toNat < S6144.size a := fun v851 k0_hw658 => k0_hw658

def k0_chk659 (v856 : IVec S16 32) : Prop :=
  (∀ a x, ((![v856] : Fin 1 → IVec S16 32) a x).toNat < S6144.size a)
theorem k0_idx659_inb : ∀ (v856 : IVec S16 32) (k0_hw659 : k0_chk659 v856), ∀ a x, ((![v856] : Fin 1 → IVec S16 32) a x).toNat < S6144.size a := fun v856 k0_hw659 => k0_hw659

def k0_chk660 (v861 : IVec S16 32) : Prop :=
  (∀ a x, ((![v861] : Fin 1 → IVec S16 32) a x).toNat < S6144.size a)
theorem k0_idx660_inb : ∀ (v861 : IVec S16 32) (k0_hw660 : k0_chk660 v861), ∀ a x, ((![v861] : Fin 1 → IVec S16 32) a x).toNat < S6144.size a := fun v861 k0_hw660 => k0_hw660

def k0_chk661 (v866 : IVec S16 32) : Prop :=
  (∀ a x, ((![v866] : Fin 1 → IVec S16 32) a x).toNat < S6144.size a)
theorem k0_idx661_inb : ∀ (v866 : IVec S16 32) (k0_hw661 : k0_chk661 v866), ∀ a x, ((![v866] : Fin 1 → IVec S16 32) a x).toNat < S6144.size a := fun v866 k0_hw661 => k0_hw661

def k0_chk662 (v871 : IVec S16 32) : Prop :=
  (∀ a x, ((![v871] : Fin 1 → IVec S16 32) a x).toNat < S6144.size a)
theorem k0_idx662_inb : ∀ (v871 : IVec S16 32) (k0_hw662 : k0_chk662 v871), ∀ a x, ((![v871] : Fin 1 → IVec S16 32) a x).toNat < S6144.size a := fun v871 k0_hw662 => k0_hw662

def k0_chk663 (v876 : IVec S16 32) : Prop :=
  (∀ a x, ((![v876] : Fin 1 → IVec S16 32) a x).toNat < S6144.size a)
theorem k0_idx663_inb : ∀ (v876 : IVec S16 32) (k0_hw663 : k0_chk663 v876), ∀ a x, ((![v876] : Fin 1 → IVec S16 32) a x).toNat < S6144.size a := fun v876 k0_hw663 => k0_hw663

def k0_chk664 (v881 : IVec S16 32) : Prop :=
  (∀ a x, ((![v881] : Fin 1 → IVec S16 32) a x).toNat < S6144.size a)
theorem k0_idx664_inb : ∀ (v881 : IVec S16 32) (k0_hw664 : k0_chk664 v881), ∀ a x, ((![v881] : Fin 1 → IVec S16 32) a x).toNat < S6144.size a := fun v881 k0_hw664 => k0_hw664

def k0_chk665 (v886 : IVec S16 32) : Prop :=
  (∀ a x, ((![v886] : Fin 1 → IVec S16 32) a x).toNat < S6144.size a)
theorem k0_idx665_inb : ∀ (v886 : IVec S16 32) (k0_hw665 : k0_chk665 v886), ∀ a x, ((![v886] : Fin 1 → IVec S16 32) a x).toNat < S6144.size a := fun v886 k0_hw665 => k0_hw665

def k0_chk666 (v891 : IVec S16 32) : Prop :=
  (∀ a x, ((![v891] : Fin 1 → IVec S16 32) a x).toNat < S6144.size a)
theorem k0_idx666_inb : ∀ (v891 : IVec S16 32) (k0_hw666 : k0_chk666 v891), ∀ a x, ((![v891] : Fin 1 → IVec S16 32) a x).toNat < S6144.size a := fun v891 k0_hw666 => k0_hw666

def k0_chk667 (v896 : IVec S16 32) : Prop :=
  (∀ a x, ((![v896] : Fin 1 → IVec S16 32) a x).toNat < S6144.size a)
theorem k0_idx667_inb : ∀ (v896 : IVec S16 32) (k0_hw667 : k0_chk667 v896), ∀ a x, ((![v896] : Fin 1 → IVec S16 32) a x).toNat < S6144.size a := fun v896 k0_hw667 => k0_hw667

def k0_chk668 (v901 : IVec S16 32) : Prop :=
  (∀ a x, ((![v901] : Fin 1 → IVec S16 32) a x).toNat < S6144.size a)
theorem k0_idx668_inb : ∀ (v901 : IVec S16 32) (k0_hw668 : k0_chk668 v901), ∀ a x, ((![v901] : Fin 1 → IVec S16 32) a x).toNat < S6144.size a := fun v901 k0_hw668 => k0_hw668

def k0_chk669 (v906 : IVec S16 32) : Prop :=
  (∀ a x, ((![v906] : Fin 1 → IVec S16 32) a x).toNat < S6144.size a)
theorem k0_idx669_inb : ∀ (v906 : IVec S16 32) (k0_hw669 : k0_chk669 v906), ∀ a x, ((![v906] : Fin 1 → IVec S16 32) a x).toNat < S6144.size a := fun v906 k0_hw669 => k0_hw669

def k0_chk670 (v911 : IVec S16 32) : Prop :=
  (∀ a x, ((![v911] : Fin 1 → IVec S16 32) a x).toNat < S6144.size a)
theorem k0_idx670_inb : ∀ (v911 : IVec S16 32) (k0_hw670 : k0_chk670 v911), ∀ a x, ((![v911] : Fin 1 → IVec S16 32) a x).toNat < S6144.size a := fun v911 k0_hw670 => k0_hw670

def k0_chk671 (v916 : IVec S16 32) : Prop :=
  (∀ a x, ((![v916] : Fin 1 → IVec S16 32) a x).toNat < S6144.size a)
theorem k0_idx671_inb : ∀ (v916 : IVec S16 32) (k0_hw671 : k0_chk671 v916), ∀ a x, ((![v916] : Fin 1 → IVec S16 32) a x).toNat < S6144.size a := fun v916 k0_hw671 => k0_hw671

def k0_chk672 (v921 : IVec S16 32) : Prop :=
  (∀ a x, ((![v921] : Fin 1 → IVec S16 32) a x).toNat < S6144.size a)
theorem k0_idx672_inb : ∀ (v921 : IVec S16 32) (k0_hw672 : k0_chk672 v921), ∀ a x, ((![v921] : Fin 1 → IVec S16 32) a x).toNat < S6144.size a := fun v921 k0_hw672 => k0_hw672
def k0_off46 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_341 : BitVec 32 := 2#32
  let c448_i32_342 : BitVec 32 := 448#32
  let c0_i32_343 : BitVec 32 := 0#32
  ![v1.toNat, 2, 448, 0]
@[reducible] def k0_t23_loop : Scf.Loop 32 :=
  let c0_i32_353 : BitVec 32 := 0#32
  let c64_i32_354 : BitVec 32 := 64#32
  let v255 : BitVec 32 := Scalar.addi c0_i32_353 c64_i32_354
  let c1_i32_355 : BitVec 32 := 1#32
  ⟨c0_i32_353, v255, c1_i32_355⟩
def k0_off47 (k0_t23 : Fin k0_t23_loop.trips) (c0_i32_762 : BitVec 32) : Fin 2 → Nat :=
  let c0_i32_353 : BitVec 32 := 0#32
  let c1_i32_355 : BitVec 32 := 1#32
  let arg12 : BitVec 32 := Scf.iv c0_i32_353 c1_i32_355 k0_t23
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk673 (v766 : IVec S16 32) : Prop :=
  (∀ a x, ((![v766] : Fin 1 → IVec S16 32) a x).toNat < S6144.size a)
theorem k0_idx673_inb : ∀ (v766 : IVec S16 32) (k0_hw673 : k0_chk673 v766), ∀ a x, ((![v766] : Fin 1 → IVec S16 32) a x).toNat < S6144.size a := fun v766 k0_hw673 => k0_hw673

def k0_chk674 (v771 : IVec S16 32) : Prop :=
  (∀ a x, ((![v771] : Fin 1 → IVec S16 32) a x).toNat < S6144.size a)
theorem k0_idx674_inb : ∀ (v771 : IVec S16 32) (k0_hw674 : k0_chk674 v771), ∀ a x, ((![v771] : Fin 1 → IVec S16 32) a x).toNat < S6144.size a := fun v771 k0_hw674 => k0_hw674

def k0_chk675 (v776 : IVec S16 32) : Prop :=
  (∀ a x, ((![v776] : Fin 1 → IVec S16 32) a x).toNat < S6144.size a)
theorem k0_idx675_inb : ∀ (v776 : IVec S16 32) (k0_hw675 : k0_chk675 v776), ∀ a x, ((![v776] : Fin 1 → IVec S16 32) a x).toNat < S6144.size a := fun v776 k0_hw675 => k0_hw675

def k0_chk676 (v781 : IVec S16 32) : Prop :=
  (∀ a x, ((![v781] : Fin 1 → IVec S16 32) a x).toNat < S6144.size a)
theorem k0_idx676_inb : ∀ (v781 : IVec S16 32) (k0_hw676 : k0_chk676 v781), ∀ a x, ((![v781] : Fin 1 → IVec S16 32) a x).toNat < S6144.size a := fun v781 k0_hw676 => k0_hw676

def k0_chk677 (v786 : IVec S16 32) : Prop :=
  (∀ a x, ((![v786] : Fin 1 → IVec S16 32) a x).toNat < S6144.size a)
theorem k0_idx677_inb : ∀ (v786 : IVec S16 32) (k0_hw677 : k0_chk677 v786), ∀ a x, ((![v786] : Fin 1 → IVec S16 32) a x).toNat < S6144.size a := fun v786 k0_hw677 => k0_hw677

def k0_chk678 (v791 : IVec S16 32) : Prop :=
  (∀ a x, ((![v791] : Fin 1 → IVec S16 32) a x).toNat < S6144.size a)
theorem k0_idx678_inb : ∀ (v791 : IVec S16 32) (k0_hw678 : k0_chk678 v791), ∀ a x, ((![v791] : Fin 1 → IVec S16 32) a x).toNat < S6144.size a := fun v791 k0_hw678 => k0_hw678

def k0_chk679 (v796 : IVec S16 32) : Prop :=
  (∀ a x, ((![v796] : Fin 1 → IVec S16 32) a x).toNat < S6144.size a)
theorem k0_idx679_inb : ∀ (v796 : IVec S16 32) (k0_hw679 : k0_chk679 v796), ∀ a x, ((![v796] : Fin 1 → IVec S16 32) a x).toNat < S6144.size a := fun v796 k0_hw679 => k0_hw679

def k0_chk680 (v801 : IVec S16 32) : Prop :=
  (∀ a x, ((![v801] : Fin 1 → IVec S16 32) a x).toNat < S6144.size a)
theorem k0_idx680_inb : ∀ (v801 : IVec S16 32) (k0_hw680 : k0_chk680 v801), ∀ a x, ((![v801] : Fin 1 → IVec S16 32) a x).toNat < S6144.size a := fun v801 k0_hw680 => k0_hw680

def k0_chk681 (v806 : IVec S16 32) : Prop :=
  (∀ a x, ((![v806] : Fin 1 → IVec S16 32) a x).toNat < S6144.size a)
theorem k0_idx681_inb : ∀ (v806 : IVec S16 32) (k0_hw681 : k0_chk681 v806), ∀ a x, ((![v806] : Fin 1 → IVec S16 32) a x).toNat < S6144.size a := fun v806 k0_hw681 => k0_hw681

def k0_chk682 (v811 : IVec S16 32) : Prop :=
  (∀ a x, ((![v811] : Fin 1 → IVec S16 32) a x).toNat < S6144.size a)
theorem k0_idx682_inb : ∀ (v811 : IVec S16 32) (k0_hw682 : k0_chk682 v811), ∀ a x, ((![v811] : Fin 1 → IVec S16 32) a x).toNat < S6144.size a := fun v811 k0_hw682 => k0_hw682

def k0_chk683 (v816 : IVec S16 32) : Prop :=
  (∀ a x, ((![v816] : Fin 1 → IVec S16 32) a x).toNat < S6144.size a)
theorem k0_idx683_inb : ∀ (v816 : IVec S16 32) (k0_hw683 : k0_chk683 v816), ∀ a x, ((![v816] : Fin 1 → IVec S16 32) a x).toNat < S6144.size a := fun v816 k0_hw683 => k0_hw683

def k0_chk684 (v821 : IVec S16 32) : Prop :=
  (∀ a x, ((![v821] : Fin 1 → IVec S16 32) a x).toNat < S6144.size a)
theorem k0_idx684_inb : ∀ (v821 : IVec S16 32) (k0_hw684 : k0_chk684 v821), ∀ a x, ((![v821] : Fin 1 → IVec S16 32) a x).toNat < S6144.size a := fun v821 k0_hw684 => k0_hw684

def k0_chk685 (v826 : IVec S16 32) : Prop :=
  (∀ a x, ((![v826] : Fin 1 → IVec S16 32) a x).toNat < S6144.size a)
theorem k0_idx685_inb : ∀ (v826 : IVec S16 32) (k0_hw685 : k0_chk685 v826), ∀ a x, ((![v826] : Fin 1 → IVec S16 32) a x).toNat < S6144.size a := fun v826 k0_hw685 => k0_hw685

def k0_chk686 (v831 : IVec S16 32) : Prop :=
  (∀ a x, ((![v831] : Fin 1 → IVec S16 32) a x).toNat < S6144.size a)
theorem k0_idx686_inb : ∀ (v831 : IVec S16 32) (k0_hw686 : k0_chk686 v831), ∀ a x, ((![v831] : Fin 1 → IVec S16 32) a x).toNat < S6144.size a := fun v831 k0_hw686 => k0_hw686

def k0_chk687 (v836 : IVec S16 32) : Prop :=
  (∀ a x, ((![v836] : Fin 1 → IVec S16 32) a x).toNat < S6144.size a)
theorem k0_idx687_inb : ∀ (v836 : IVec S16 32) (k0_hw687 : k0_chk687 v836), ∀ a x, ((![v836] : Fin 1 → IVec S16 32) a x).toNat < S6144.size a := fun v836 k0_hw687 => k0_hw687

def k0_chk688 (v841 : IVec S16 32) : Prop :=
  (∀ a x, ((![v841] : Fin 1 → IVec S16 32) a x).toNat < S6144.size a)
theorem k0_idx688_inb : ∀ (v841 : IVec S16 32) (k0_hw688 : k0_chk688 v841), ∀ a x, ((![v841] : Fin 1 → IVec S16 32) a x).toNat < S6144.size a := fun v841 k0_hw688 => k0_hw688

def k0_chk689 (v846 : IVec S16 32) : Prop :=
  (∀ a x, ((![v846] : Fin 1 → IVec S16 32) a x).toNat < S6144.size a)
theorem k0_idx689_inb : ∀ (v846 : IVec S16 32) (k0_hw689 : k0_chk689 v846), ∀ a x, ((![v846] : Fin 1 → IVec S16 32) a x).toNat < S6144.size a := fun v846 k0_hw689 => k0_hw689

def k0_chk690 (v851 : IVec S16 32) : Prop :=
  (∀ a x, ((![v851] : Fin 1 → IVec S16 32) a x).toNat < S6144.size a)
theorem k0_idx690_inb : ∀ (v851 : IVec S16 32) (k0_hw690 : k0_chk690 v851), ∀ a x, ((![v851] : Fin 1 → IVec S16 32) a x).toNat < S6144.size a := fun v851 k0_hw690 => k0_hw690

def k0_chk691 (v856 : IVec S16 32) : Prop :=
  (∀ a x, ((![v856] : Fin 1 → IVec S16 32) a x).toNat < S6144.size a)
theorem k0_idx691_inb : ∀ (v856 : IVec S16 32) (k0_hw691 : k0_chk691 v856), ∀ a x, ((![v856] : Fin 1 → IVec S16 32) a x).toNat < S6144.size a := fun v856 k0_hw691 => k0_hw691

def k0_chk692 (v861 : IVec S16 32) : Prop :=
  (∀ a x, ((![v861] : Fin 1 → IVec S16 32) a x).toNat < S6144.size a)
theorem k0_idx692_inb : ∀ (v861 : IVec S16 32) (k0_hw692 : k0_chk692 v861), ∀ a x, ((![v861] : Fin 1 → IVec S16 32) a x).toNat < S6144.size a := fun v861 k0_hw692 => k0_hw692

def k0_chk693 (v866 : IVec S16 32) : Prop :=
  (∀ a x, ((![v866] : Fin 1 → IVec S16 32) a x).toNat < S6144.size a)
theorem k0_idx693_inb : ∀ (v866 : IVec S16 32) (k0_hw693 : k0_chk693 v866), ∀ a x, ((![v866] : Fin 1 → IVec S16 32) a x).toNat < S6144.size a := fun v866 k0_hw693 => k0_hw693

def k0_chk694 (v871 : IVec S16 32) : Prop :=
  (∀ a x, ((![v871] : Fin 1 → IVec S16 32) a x).toNat < S6144.size a)
theorem k0_idx694_inb : ∀ (v871 : IVec S16 32) (k0_hw694 : k0_chk694 v871), ∀ a x, ((![v871] : Fin 1 → IVec S16 32) a x).toNat < S6144.size a := fun v871 k0_hw694 => k0_hw694

def k0_chk695 (v876 : IVec S16 32) : Prop :=
  (∀ a x, ((![v876] : Fin 1 → IVec S16 32) a x).toNat < S6144.size a)
theorem k0_idx695_inb : ∀ (v876 : IVec S16 32) (k0_hw695 : k0_chk695 v876), ∀ a x, ((![v876] : Fin 1 → IVec S16 32) a x).toNat < S6144.size a := fun v876 k0_hw695 => k0_hw695

def k0_chk696 (v881 : IVec S16 32) : Prop :=
  (∀ a x, ((![v881] : Fin 1 → IVec S16 32) a x).toNat < S6144.size a)
theorem k0_idx696_inb : ∀ (v881 : IVec S16 32) (k0_hw696 : k0_chk696 v881), ∀ a x, ((![v881] : Fin 1 → IVec S16 32) a x).toNat < S6144.size a := fun v881 k0_hw696 => k0_hw696

def k0_chk697 (v886 : IVec S16 32) : Prop :=
  (∀ a x, ((![v886] : Fin 1 → IVec S16 32) a x).toNat < S6144.size a)
theorem k0_idx697_inb : ∀ (v886 : IVec S16 32) (k0_hw697 : k0_chk697 v886), ∀ a x, ((![v886] : Fin 1 → IVec S16 32) a x).toNat < S6144.size a := fun v886 k0_hw697 => k0_hw697

def k0_chk698 (v891 : IVec S16 32) : Prop :=
  (∀ a x, ((![v891] : Fin 1 → IVec S16 32) a x).toNat < S6144.size a)
theorem k0_idx698_inb : ∀ (v891 : IVec S16 32) (k0_hw698 : k0_chk698 v891), ∀ a x, ((![v891] : Fin 1 → IVec S16 32) a x).toNat < S6144.size a := fun v891 k0_hw698 => k0_hw698

def k0_chk699 (v896 : IVec S16 32) : Prop :=
  (∀ a x, ((![v896] : Fin 1 → IVec S16 32) a x).toNat < S6144.size a)
theorem k0_idx699_inb : ∀ (v896 : IVec S16 32) (k0_hw699 : k0_chk699 v896), ∀ a x, ((![v896] : Fin 1 → IVec S16 32) a x).toNat < S6144.size a := fun v896 k0_hw699 => k0_hw699

def k0_chk700 (v901 : IVec S16 32) : Prop :=
  (∀ a x, ((![v901] : Fin 1 → IVec S16 32) a x).toNat < S6144.size a)
theorem k0_idx700_inb : ∀ (v901 : IVec S16 32) (k0_hw700 : k0_chk700 v901), ∀ a x, ((![v901] : Fin 1 → IVec S16 32) a x).toNat < S6144.size a := fun v901 k0_hw700 => k0_hw700

def k0_chk701 (v906 : IVec S16 32) : Prop :=
  (∀ a x, ((![v906] : Fin 1 → IVec S16 32) a x).toNat < S6144.size a)
theorem k0_idx701_inb : ∀ (v906 : IVec S16 32) (k0_hw701 : k0_chk701 v906), ∀ a x, ((![v906] : Fin 1 → IVec S16 32) a x).toNat < S6144.size a := fun v906 k0_hw701 => k0_hw701

def k0_chk702 (v911 : IVec S16 32) : Prop :=
  (∀ a x, ((![v911] : Fin 1 → IVec S16 32) a x).toNat < S6144.size a)
theorem k0_idx702_inb : ∀ (v911 : IVec S16 32) (k0_hw702 : k0_chk702 v911), ∀ a x, ((![v911] : Fin 1 → IVec S16 32) a x).toNat < S6144.size a := fun v911 k0_hw702 => k0_hw702

def k0_chk703 (v916 : IVec S16 32) : Prop :=
  (∀ a x, ((![v916] : Fin 1 → IVec S16 32) a x).toNat < S6144.size a)
theorem k0_idx703_inb : ∀ (v916 : IVec S16 32) (k0_hw703 : k0_chk703 v916), ∀ a x, ((![v916] : Fin 1 → IVec S16 32) a x).toNat < S6144.size a := fun v916 k0_hw703 => k0_hw703

def k0_chk704 (v921 : IVec S16 32) : Prop :=
  (∀ a x, ((![v921] : Fin 1 → IVec S16 32) a x).toNat < S6144.size a)
theorem k0_idx704_inb : ∀ (v921 : IVec S16 32) (k0_hw704 : k0_chk704 v921), ∀ a x, ((![v921] : Fin 1 → IVec S16 32) a x).toNat < S6144.size a := fun v921 k0_hw704 => k0_hw704
@[reducible] def k0_t24_loop : Scf.Loop 32 :=
  let c0_i32_369 : BitVec 32 := 0#32
  let c64_i32_370 : BitVec 32 := 64#32
  let v266 : BitVec 32 := Scalar.addi c0_i32_369 c64_i32_370
  let c1_i32_371 : BitVec 32 := 1#32
  ⟨c0_i32_369, v266, c1_i32_371⟩
def k0_off48 (k0_t24 : Fin k0_t24_loop.trips) (c0_i32_762 : BitVec 32) : Fin 2 → Nat :=
  let c0_i32_369 : BitVec 32 := 0#32
  let c1_i32_371 : BitVec 32 := 1#32
  let arg12 : BitVec 32 := Scf.iv c0_i32_369 c1_i32_371 k0_t24
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk705 (v766 : IVec S16 32) : Prop :=
  (∀ a x, ((![v766] : Fin 1 → IVec S16 32) a x).toNat < S6144.size a)
theorem k0_idx705_inb : ∀ (v766 : IVec S16 32) (k0_hw705 : k0_chk705 v766), ∀ a x, ((![v766] : Fin 1 → IVec S16 32) a x).toNat < S6144.size a := fun v766 k0_hw705 => k0_hw705

def k0_chk706 (v771 : IVec S16 32) : Prop :=
  (∀ a x, ((![v771] : Fin 1 → IVec S16 32) a x).toNat < S6144.size a)
theorem k0_idx706_inb : ∀ (v771 : IVec S16 32) (k0_hw706 : k0_chk706 v771), ∀ a x, ((![v771] : Fin 1 → IVec S16 32) a x).toNat < S6144.size a := fun v771 k0_hw706 => k0_hw706

def k0_chk707 (v776 : IVec S16 32) : Prop :=
  (∀ a x, ((![v776] : Fin 1 → IVec S16 32) a x).toNat < S6144.size a)
theorem k0_idx707_inb : ∀ (v776 : IVec S16 32) (k0_hw707 : k0_chk707 v776), ∀ a x, ((![v776] : Fin 1 → IVec S16 32) a x).toNat < S6144.size a := fun v776 k0_hw707 => k0_hw707

def k0_chk708 (v781 : IVec S16 32) : Prop :=
  (∀ a x, ((![v781] : Fin 1 → IVec S16 32) a x).toNat < S6144.size a)
theorem k0_idx708_inb : ∀ (v781 : IVec S16 32) (k0_hw708 : k0_chk708 v781), ∀ a x, ((![v781] : Fin 1 → IVec S16 32) a x).toNat < S6144.size a := fun v781 k0_hw708 => k0_hw708

def k0_chk709 (v786 : IVec S16 32) : Prop :=
  (∀ a x, ((![v786] : Fin 1 → IVec S16 32) a x).toNat < S6144.size a)
theorem k0_idx709_inb : ∀ (v786 : IVec S16 32) (k0_hw709 : k0_chk709 v786), ∀ a x, ((![v786] : Fin 1 → IVec S16 32) a x).toNat < S6144.size a := fun v786 k0_hw709 => k0_hw709

def k0_chk710 (v791 : IVec S16 32) : Prop :=
  (∀ a x, ((![v791] : Fin 1 → IVec S16 32) a x).toNat < S6144.size a)
theorem k0_idx710_inb : ∀ (v791 : IVec S16 32) (k0_hw710 : k0_chk710 v791), ∀ a x, ((![v791] : Fin 1 → IVec S16 32) a x).toNat < S6144.size a := fun v791 k0_hw710 => k0_hw710

def k0_chk711 (v796 : IVec S16 32) : Prop :=
  (∀ a x, ((![v796] : Fin 1 → IVec S16 32) a x).toNat < S6144.size a)
theorem k0_idx711_inb : ∀ (v796 : IVec S16 32) (k0_hw711 : k0_chk711 v796), ∀ a x, ((![v796] : Fin 1 → IVec S16 32) a x).toNat < S6144.size a := fun v796 k0_hw711 => k0_hw711

def k0_chk712 (v801 : IVec S16 32) : Prop :=
  (∀ a x, ((![v801] : Fin 1 → IVec S16 32) a x).toNat < S6144.size a)
theorem k0_idx712_inb : ∀ (v801 : IVec S16 32) (k0_hw712 : k0_chk712 v801), ∀ a x, ((![v801] : Fin 1 → IVec S16 32) a x).toNat < S6144.size a := fun v801 k0_hw712 => k0_hw712

def k0_chk713 (v806 : IVec S16 32) : Prop :=
  (∀ a x, ((![v806] : Fin 1 → IVec S16 32) a x).toNat < S6144.size a)
theorem k0_idx713_inb : ∀ (v806 : IVec S16 32) (k0_hw713 : k0_chk713 v806), ∀ a x, ((![v806] : Fin 1 → IVec S16 32) a x).toNat < S6144.size a := fun v806 k0_hw713 => k0_hw713

def k0_chk714 (v811 : IVec S16 32) : Prop :=
  (∀ a x, ((![v811] : Fin 1 → IVec S16 32) a x).toNat < S6144.size a)
theorem k0_idx714_inb : ∀ (v811 : IVec S16 32) (k0_hw714 : k0_chk714 v811), ∀ a x, ((![v811] : Fin 1 → IVec S16 32) a x).toNat < S6144.size a := fun v811 k0_hw714 => k0_hw714

def k0_chk715 (v816 : IVec S16 32) : Prop :=
  (∀ a x, ((![v816] : Fin 1 → IVec S16 32) a x).toNat < S6144.size a)
theorem k0_idx715_inb : ∀ (v816 : IVec S16 32) (k0_hw715 : k0_chk715 v816), ∀ a x, ((![v816] : Fin 1 → IVec S16 32) a x).toNat < S6144.size a := fun v816 k0_hw715 => k0_hw715

def k0_chk716 (v821 : IVec S16 32) : Prop :=
  (∀ a x, ((![v821] : Fin 1 → IVec S16 32) a x).toNat < S6144.size a)
theorem k0_idx716_inb : ∀ (v821 : IVec S16 32) (k0_hw716 : k0_chk716 v821), ∀ a x, ((![v821] : Fin 1 → IVec S16 32) a x).toNat < S6144.size a := fun v821 k0_hw716 => k0_hw716

def k0_chk717 (v826 : IVec S16 32) : Prop :=
  (∀ a x, ((![v826] : Fin 1 → IVec S16 32) a x).toNat < S6144.size a)
theorem k0_idx717_inb : ∀ (v826 : IVec S16 32) (k0_hw717 : k0_chk717 v826), ∀ a x, ((![v826] : Fin 1 → IVec S16 32) a x).toNat < S6144.size a := fun v826 k0_hw717 => k0_hw717

def k0_chk718 (v831 : IVec S16 32) : Prop :=
  (∀ a x, ((![v831] : Fin 1 → IVec S16 32) a x).toNat < S6144.size a)
theorem k0_idx718_inb : ∀ (v831 : IVec S16 32) (k0_hw718 : k0_chk718 v831), ∀ a x, ((![v831] : Fin 1 → IVec S16 32) a x).toNat < S6144.size a := fun v831 k0_hw718 => k0_hw718

def k0_chk719 (v836 : IVec S16 32) : Prop :=
  (∀ a x, ((![v836] : Fin 1 → IVec S16 32) a x).toNat < S6144.size a)
theorem k0_idx719_inb : ∀ (v836 : IVec S16 32) (k0_hw719 : k0_chk719 v836), ∀ a x, ((![v836] : Fin 1 → IVec S16 32) a x).toNat < S6144.size a := fun v836 k0_hw719 => k0_hw719

def k0_chk720 (v841 : IVec S16 32) : Prop :=
  (∀ a x, ((![v841] : Fin 1 → IVec S16 32) a x).toNat < S6144.size a)
theorem k0_idx720_inb : ∀ (v841 : IVec S16 32) (k0_hw720 : k0_chk720 v841), ∀ a x, ((![v841] : Fin 1 → IVec S16 32) a x).toNat < S6144.size a := fun v841 k0_hw720 => k0_hw720

def k0_chk721 (v846 : IVec S16 32) : Prop :=
  (∀ a x, ((![v846] : Fin 1 → IVec S16 32) a x).toNat < S6144.size a)
theorem k0_idx721_inb : ∀ (v846 : IVec S16 32) (k0_hw721 : k0_chk721 v846), ∀ a x, ((![v846] : Fin 1 → IVec S16 32) a x).toNat < S6144.size a := fun v846 k0_hw721 => k0_hw721

def k0_chk722 (v851 : IVec S16 32) : Prop :=
  (∀ a x, ((![v851] : Fin 1 → IVec S16 32) a x).toNat < S6144.size a)
theorem k0_idx722_inb : ∀ (v851 : IVec S16 32) (k0_hw722 : k0_chk722 v851), ∀ a x, ((![v851] : Fin 1 → IVec S16 32) a x).toNat < S6144.size a := fun v851 k0_hw722 => k0_hw722

def k0_chk723 (v856 : IVec S16 32) : Prop :=
  (∀ a x, ((![v856] : Fin 1 → IVec S16 32) a x).toNat < S6144.size a)
theorem k0_idx723_inb : ∀ (v856 : IVec S16 32) (k0_hw723 : k0_chk723 v856), ∀ a x, ((![v856] : Fin 1 → IVec S16 32) a x).toNat < S6144.size a := fun v856 k0_hw723 => k0_hw723

def k0_chk724 (v861 : IVec S16 32) : Prop :=
  (∀ a x, ((![v861] : Fin 1 → IVec S16 32) a x).toNat < S6144.size a)
theorem k0_idx724_inb : ∀ (v861 : IVec S16 32) (k0_hw724 : k0_chk724 v861), ∀ a x, ((![v861] : Fin 1 → IVec S16 32) a x).toNat < S6144.size a := fun v861 k0_hw724 => k0_hw724

def k0_chk725 (v866 : IVec S16 32) : Prop :=
  (∀ a x, ((![v866] : Fin 1 → IVec S16 32) a x).toNat < S6144.size a)
theorem k0_idx725_inb : ∀ (v866 : IVec S16 32) (k0_hw725 : k0_chk725 v866), ∀ a x, ((![v866] : Fin 1 → IVec S16 32) a x).toNat < S6144.size a := fun v866 k0_hw725 => k0_hw725

def k0_chk726 (v871 : IVec S16 32) : Prop :=
  (∀ a x, ((![v871] : Fin 1 → IVec S16 32) a x).toNat < S6144.size a)
theorem k0_idx726_inb : ∀ (v871 : IVec S16 32) (k0_hw726 : k0_chk726 v871), ∀ a x, ((![v871] : Fin 1 → IVec S16 32) a x).toNat < S6144.size a := fun v871 k0_hw726 => k0_hw726

def k0_chk727 (v876 : IVec S16 32) : Prop :=
  (∀ a x, ((![v876] : Fin 1 → IVec S16 32) a x).toNat < S6144.size a)
theorem k0_idx727_inb : ∀ (v876 : IVec S16 32) (k0_hw727 : k0_chk727 v876), ∀ a x, ((![v876] : Fin 1 → IVec S16 32) a x).toNat < S6144.size a := fun v876 k0_hw727 => k0_hw727

def k0_chk728 (v881 : IVec S16 32) : Prop :=
  (∀ a x, ((![v881] : Fin 1 → IVec S16 32) a x).toNat < S6144.size a)
theorem k0_idx728_inb : ∀ (v881 : IVec S16 32) (k0_hw728 : k0_chk728 v881), ∀ a x, ((![v881] : Fin 1 → IVec S16 32) a x).toNat < S6144.size a := fun v881 k0_hw728 => k0_hw728

def k0_chk729 (v886 : IVec S16 32) : Prop :=
  (∀ a x, ((![v886] : Fin 1 → IVec S16 32) a x).toNat < S6144.size a)
theorem k0_idx729_inb : ∀ (v886 : IVec S16 32) (k0_hw729 : k0_chk729 v886), ∀ a x, ((![v886] : Fin 1 → IVec S16 32) a x).toNat < S6144.size a := fun v886 k0_hw729 => k0_hw729

def k0_chk730 (v891 : IVec S16 32) : Prop :=
  (∀ a x, ((![v891] : Fin 1 → IVec S16 32) a x).toNat < S6144.size a)
theorem k0_idx730_inb : ∀ (v891 : IVec S16 32) (k0_hw730 : k0_chk730 v891), ∀ a x, ((![v891] : Fin 1 → IVec S16 32) a x).toNat < S6144.size a := fun v891 k0_hw730 => k0_hw730

def k0_chk731 (v896 : IVec S16 32) : Prop :=
  (∀ a x, ((![v896] : Fin 1 → IVec S16 32) a x).toNat < S6144.size a)
theorem k0_idx731_inb : ∀ (v896 : IVec S16 32) (k0_hw731 : k0_chk731 v896), ∀ a x, ((![v896] : Fin 1 → IVec S16 32) a x).toNat < S6144.size a := fun v896 k0_hw731 => k0_hw731

def k0_chk732 (v901 : IVec S16 32) : Prop :=
  (∀ a x, ((![v901] : Fin 1 → IVec S16 32) a x).toNat < S6144.size a)
theorem k0_idx732_inb : ∀ (v901 : IVec S16 32) (k0_hw732 : k0_chk732 v901), ∀ a x, ((![v901] : Fin 1 → IVec S16 32) a x).toNat < S6144.size a := fun v901 k0_hw732 => k0_hw732

def k0_chk733 (v906 : IVec S16 32) : Prop :=
  (∀ a x, ((![v906] : Fin 1 → IVec S16 32) a x).toNat < S6144.size a)
theorem k0_idx733_inb : ∀ (v906 : IVec S16 32) (k0_hw733 : k0_chk733 v906), ∀ a x, ((![v906] : Fin 1 → IVec S16 32) a x).toNat < S6144.size a := fun v906 k0_hw733 => k0_hw733

def k0_chk734 (v911 : IVec S16 32) : Prop :=
  (∀ a x, ((![v911] : Fin 1 → IVec S16 32) a x).toNat < S6144.size a)
theorem k0_idx734_inb : ∀ (v911 : IVec S16 32) (k0_hw734 : k0_chk734 v911), ∀ a x, ((![v911] : Fin 1 → IVec S16 32) a x).toNat < S6144.size a := fun v911 k0_hw734 => k0_hw734

def k0_chk735 (v916 : IVec S16 32) : Prop :=
  (∀ a x, ((![v916] : Fin 1 → IVec S16 32) a x).toNat < S6144.size a)
theorem k0_idx735_inb : ∀ (v916 : IVec S16 32) (k0_hw735 : k0_chk735 v916), ∀ a x, ((![v916] : Fin 1 → IVec S16 32) a x).toNat < S6144.size a := fun v916 k0_hw735 => k0_hw735

def k0_chk736 (v921 : IVec S16 32) : Prop :=
  (∀ a x, ((![v921] : Fin 1 → IVec S16 32) a x).toNat < S6144.size a)
theorem k0_idx736_inb : ∀ (v921 : IVec S16 32) (k0_hw736 : k0_chk736 v921), ∀ a x, ((![v921] : Fin 1 → IVec S16 32) a x).toNat < S6144.size a := fun v921 k0_hw736 => k0_hw736
@[reducible] def k0_t25_loop : Scf.Loop 32 :=
  let c0_i32_385 : BitVec 32 := 0#32
  let c64_i32_386 : BitVec 32 := 64#32
  let v277 : BitVec 32 := Scalar.addi c0_i32_385 c64_i32_386
  let c1_i32_387 : BitVec 32 := 1#32
  ⟨c0_i32_385, v277, c1_i32_387⟩
def k0_off49 (k0_t25 : Fin k0_t25_loop.trips) (c0_i32_762 : BitVec 32) : Fin 2 → Nat :=
  let c0_i32_385 : BitVec 32 := 0#32
  let c1_i32_387 : BitVec 32 := 1#32
  let arg12 : BitVec 32 := Scf.iv c0_i32_385 c1_i32_387 k0_t25
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk737 (v766 : IVec S16 32) : Prop :=
  (∀ a x, ((![v766] : Fin 1 → IVec S16 32) a x).toNat < S6144.size a)
theorem k0_idx737_inb : ∀ (v766 : IVec S16 32) (k0_hw737 : k0_chk737 v766), ∀ a x, ((![v766] : Fin 1 → IVec S16 32) a x).toNat < S6144.size a := fun v766 k0_hw737 => k0_hw737

def k0_chk738 (v771 : IVec S16 32) : Prop :=
  (∀ a x, ((![v771] : Fin 1 → IVec S16 32) a x).toNat < S6144.size a)
theorem k0_idx738_inb : ∀ (v771 : IVec S16 32) (k0_hw738 : k0_chk738 v771), ∀ a x, ((![v771] : Fin 1 → IVec S16 32) a x).toNat < S6144.size a := fun v771 k0_hw738 => k0_hw738

def k0_chk739 (v776 : IVec S16 32) : Prop :=
  (∀ a x, ((![v776] : Fin 1 → IVec S16 32) a x).toNat < S6144.size a)
theorem k0_idx739_inb : ∀ (v776 : IVec S16 32) (k0_hw739 : k0_chk739 v776), ∀ a x, ((![v776] : Fin 1 → IVec S16 32) a x).toNat < S6144.size a := fun v776 k0_hw739 => k0_hw739

def k0_chk740 (v781 : IVec S16 32) : Prop :=
  (∀ a x, ((![v781] : Fin 1 → IVec S16 32) a x).toNat < S6144.size a)
theorem k0_idx740_inb : ∀ (v781 : IVec S16 32) (k0_hw740 : k0_chk740 v781), ∀ a x, ((![v781] : Fin 1 → IVec S16 32) a x).toNat < S6144.size a := fun v781 k0_hw740 => k0_hw740

def k0_chk741 (v786 : IVec S16 32) : Prop :=
  (∀ a x, ((![v786] : Fin 1 → IVec S16 32) a x).toNat < S6144.size a)
theorem k0_idx741_inb : ∀ (v786 : IVec S16 32) (k0_hw741 : k0_chk741 v786), ∀ a x, ((![v786] : Fin 1 → IVec S16 32) a x).toNat < S6144.size a := fun v786 k0_hw741 => k0_hw741

def k0_chk742 (v791 : IVec S16 32) : Prop :=
  (∀ a x, ((![v791] : Fin 1 → IVec S16 32) a x).toNat < S6144.size a)
theorem k0_idx742_inb : ∀ (v791 : IVec S16 32) (k0_hw742 : k0_chk742 v791), ∀ a x, ((![v791] : Fin 1 → IVec S16 32) a x).toNat < S6144.size a := fun v791 k0_hw742 => k0_hw742

def k0_chk743 (v796 : IVec S16 32) : Prop :=
  (∀ a x, ((![v796] : Fin 1 → IVec S16 32) a x).toNat < S6144.size a)
theorem k0_idx743_inb : ∀ (v796 : IVec S16 32) (k0_hw743 : k0_chk743 v796), ∀ a x, ((![v796] : Fin 1 → IVec S16 32) a x).toNat < S6144.size a := fun v796 k0_hw743 => k0_hw743

def k0_chk744 (v801 : IVec S16 32) : Prop :=
  (∀ a x, ((![v801] : Fin 1 → IVec S16 32) a x).toNat < S6144.size a)
theorem k0_idx744_inb : ∀ (v801 : IVec S16 32) (k0_hw744 : k0_chk744 v801), ∀ a x, ((![v801] : Fin 1 → IVec S16 32) a x).toNat < S6144.size a := fun v801 k0_hw744 => k0_hw744

def k0_chk745 (v806 : IVec S16 32) : Prop :=
  (∀ a x, ((![v806] : Fin 1 → IVec S16 32) a x).toNat < S6144.size a)
theorem k0_idx745_inb : ∀ (v806 : IVec S16 32) (k0_hw745 : k0_chk745 v806), ∀ a x, ((![v806] : Fin 1 → IVec S16 32) a x).toNat < S6144.size a := fun v806 k0_hw745 => k0_hw745

def k0_chk746 (v811 : IVec S16 32) : Prop :=
  (∀ a x, ((![v811] : Fin 1 → IVec S16 32) a x).toNat < S6144.size a)
theorem k0_idx746_inb : ∀ (v811 : IVec S16 32) (k0_hw746 : k0_chk746 v811), ∀ a x, ((![v811] : Fin 1 → IVec S16 32) a x).toNat < S6144.size a := fun v811 k0_hw746 => k0_hw746

def k0_chk747 (v816 : IVec S16 32) : Prop :=
  (∀ a x, ((![v816] : Fin 1 → IVec S16 32) a x).toNat < S6144.size a)
theorem k0_idx747_inb : ∀ (v816 : IVec S16 32) (k0_hw747 : k0_chk747 v816), ∀ a x, ((![v816] : Fin 1 → IVec S16 32) a x).toNat < S6144.size a := fun v816 k0_hw747 => k0_hw747

def k0_chk748 (v821 : IVec S16 32) : Prop :=
  (∀ a x, ((![v821] : Fin 1 → IVec S16 32) a x).toNat < S6144.size a)
theorem k0_idx748_inb : ∀ (v821 : IVec S16 32) (k0_hw748 : k0_chk748 v821), ∀ a x, ((![v821] : Fin 1 → IVec S16 32) a x).toNat < S6144.size a := fun v821 k0_hw748 => k0_hw748

def k0_chk749 (v826 : IVec S16 32) : Prop :=
  (∀ a x, ((![v826] : Fin 1 → IVec S16 32) a x).toNat < S6144.size a)
theorem k0_idx749_inb : ∀ (v826 : IVec S16 32) (k0_hw749 : k0_chk749 v826), ∀ a x, ((![v826] : Fin 1 → IVec S16 32) a x).toNat < S6144.size a := fun v826 k0_hw749 => k0_hw749

def k0_chk750 (v831 : IVec S16 32) : Prop :=
  (∀ a x, ((![v831] : Fin 1 → IVec S16 32) a x).toNat < S6144.size a)
theorem k0_idx750_inb : ∀ (v831 : IVec S16 32) (k0_hw750 : k0_chk750 v831), ∀ a x, ((![v831] : Fin 1 → IVec S16 32) a x).toNat < S6144.size a := fun v831 k0_hw750 => k0_hw750

def k0_chk751 (v836 : IVec S16 32) : Prop :=
  (∀ a x, ((![v836] : Fin 1 → IVec S16 32) a x).toNat < S6144.size a)
theorem k0_idx751_inb : ∀ (v836 : IVec S16 32) (k0_hw751 : k0_chk751 v836), ∀ a x, ((![v836] : Fin 1 → IVec S16 32) a x).toNat < S6144.size a := fun v836 k0_hw751 => k0_hw751

def k0_chk752 (v841 : IVec S16 32) : Prop :=
  (∀ a x, ((![v841] : Fin 1 → IVec S16 32) a x).toNat < S6144.size a)
theorem k0_idx752_inb : ∀ (v841 : IVec S16 32) (k0_hw752 : k0_chk752 v841), ∀ a x, ((![v841] : Fin 1 → IVec S16 32) a x).toNat < S6144.size a := fun v841 k0_hw752 => k0_hw752

def k0_chk753 (v846 : IVec S16 32) : Prop :=
  (∀ a x, ((![v846] : Fin 1 → IVec S16 32) a x).toNat < S6144.size a)
theorem k0_idx753_inb : ∀ (v846 : IVec S16 32) (k0_hw753 : k0_chk753 v846), ∀ a x, ((![v846] : Fin 1 → IVec S16 32) a x).toNat < S6144.size a := fun v846 k0_hw753 => k0_hw753

def k0_chk754 (v851 : IVec S16 32) : Prop :=
  (∀ a x, ((![v851] : Fin 1 → IVec S16 32) a x).toNat < S6144.size a)
theorem k0_idx754_inb : ∀ (v851 : IVec S16 32) (k0_hw754 : k0_chk754 v851), ∀ a x, ((![v851] : Fin 1 → IVec S16 32) a x).toNat < S6144.size a := fun v851 k0_hw754 => k0_hw754

def k0_chk755 (v856 : IVec S16 32) : Prop :=
  (∀ a x, ((![v856] : Fin 1 → IVec S16 32) a x).toNat < S6144.size a)
theorem k0_idx755_inb : ∀ (v856 : IVec S16 32) (k0_hw755 : k0_chk755 v856), ∀ a x, ((![v856] : Fin 1 → IVec S16 32) a x).toNat < S6144.size a := fun v856 k0_hw755 => k0_hw755

def k0_chk756 (v861 : IVec S16 32) : Prop :=
  (∀ a x, ((![v861] : Fin 1 → IVec S16 32) a x).toNat < S6144.size a)
theorem k0_idx756_inb : ∀ (v861 : IVec S16 32) (k0_hw756 : k0_chk756 v861), ∀ a x, ((![v861] : Fin 1 → IVec S16 32) a x).toNat < S6144.size a := fun v861 k0_hw756 => k0_hw756

def k0_chk757 (v866 : IVec S16 32) : Prop :=
  (∀ a x, ((![v866] : Fin 1 → IVec S16 32) a x).toNat < S6144.size a)
theorem k0_idx757_inb : ∀ (v866 : IVec S16 32) (k0_hw757 : k0_chk757 v866), ∀ a x, ((![v866] : Fin 1 → IVec S16 32) a x).toNat < S6144.size a := fun v866 k0_hw757 => k0_hw757

def k0_chk758 (v871 : IVec S16 32) : Prop :=
  (∀ a x, ((![v871] : Fin 1 → IVec S16 32) a x).toNat < S6144.size a)
theorem k0_idx758_inb : ∀ (v871 : IVec S16 32) (k0_hw758 : k0_chk758 v871), ∀ a x, ((![v871] : Fin 1 → IVec S16 32) a x).toNat < S6144.size a := fun v871 k0_hw758 => k0_hw758

def k0_chk759 (v876 : IVec S16 32) : Prop :=
  (∀ a x, ((![v876] : Fin 1 → IVec S16 32) a x).toNat < S6144.size a)
theorem k0_idx759_inb : ∀ (v876 : IVec S16 32) (k0_hw759 : k0_chk759 v876), ∀ a x, ((![v876] : Fin 1 → IVec S16 32) a x).toNat < S6144.size a := fun v876 k0_hw759 => k0_hw759

def k0_chk760 (v881 : IVec S16 32) : Prop :=
  (∀ a x, ((![v881] : Fin 1 → IVec S16 32) a x).toNat < S6144.size a)
theorem k0_idx760_inb : ∀ (v881 : IVec S16 32) (k0_hw760 : k0_chk760 v881), ∀ a x, ((![v881] : Fin 1 → IVec S16 32) a x).toNat < S6144.size a := fun v881 k0_hw760 => k0_hw760

def k0_chk761 (v886 : IVec S16 32) : Prop :=
  (∀ a x, ((![v886] : Fin 1 → IVec S16 32) a x).toNat < S6144.size a)
theorem k0_idx761_inb : ∀ (v886 : IVec S16 32) (k0_hw761 : k0_chk761 v886), ∀ a x, ((![v886] : Fin 1 → IVec S16 32) a x).toNat < S6144.size a := fun v886 k0_hw761 => k0_hw761

def k0_chk762 (v891 : IVec S16 32) : Prop :=
  (∀ a x, ((![v891] : Fin 1 → IVec S16 32) a x).toNat < S6144.size a)
theorem k0_idx762_inb : ∀ (v891 : IVec S16 32) (k0_hw762 : k0_chk762 v891), ∀ a x, ((![v891] : Fin 1 → IVec S16 32) a x).toNat < S6144.size a := fun v891 k0_hw762 => k0_hw762

def k0_chk763 (v896 : IVec S16 32) : Prop :=
  (∀ a x, ((![v896] : Fin 1 → IVec S16 32) a x).toNat < S6144.size a)
theorem k0_idx763_inb : ∀ (v896 : IVec S16 32) (k0_hw763 : k0_chk763 v896), ∀ a x, ((![v896] : Fin 1 → IVec S16 32) a x).toNat < S6144.size a := fun v896 k0_hw763 => k0_hw763

def k0_chk764 (v901 : IVec S16 32) : Prop :=
  (∀ a x, ((![v901] : Fin 1 → IVec S16 32) a x).toNat < S6144.size a)
theorem k0_idx764_inb : ∀ (v901 : IVec S16 32) (k0_hw764 : k0_chk764 v901), ∀ a x, ((![v901] : Fin 1 → IVec S16 32) a x).toNat < S6144.size a := fun v901 k0_hw764 => k0_hw764

def k0_chk765 (v906 : IVec S16 32) : Prop :=
  (∀ a x, ((![v906] : Fin 1 → IVec S16 32) a x).toNat < S6144.size a)
theorem k0_idx765_inb : ∀ (v906 : IVec S16 32) (k0_hw765 : k0_chk765 v906), ∀ a x, ((![v906] : Fin 1 → IVec S16 32) a x).toNat < S6144.size a := fun v906 k0_hw765 => k0_hw765

def k0_chk766 (v911 : IVec S16 32) : Prop :=
  (∀ a x, ((![v911] : Fin 1 → IVec S16 32) a x).toNat < S6144.size a)
theorem k0_idx766_inb : ∀ (v911 : IVec S16 32) (k0_hw766 : k0_chk766 v911), ∀ a x, ((![v911] : Fin 1 → IVec S16 32) a x).toNat < S6144.size a := fun v911 k0_hw766 => k0_hw766

def k0_chk767 (v916 : IVec S16 32) : Prop :=
  (∀ a x, ((![v916] : Fin 1 → IVec S16 32) a x).toNat < S6144.size a)
theorem k0_idx767_inb : ∀ (v916 : IVec S16 32) (k0_hw767 : k0_chk767 v916), ∀ a x, ((![v916] : Fin 1 → IVec S16 32) a x).toNat < S6144.size a := fun v916 k0_hw767 => k0_hw767

def k0_chk768 (v921 : IVec S16 32) : Prop :=
  (∀ a x, ((![v921] : Fin 1 → IVec S16 32) a x).toNat < S6144.size a)
theorem k0_idx768_inb : ∀ (v921 : IVec S16 32) (k0_hw768 : k0_chk768 v921), ∀ a x, ((![v921] : Fin 1 → IVec S16 32) a x).toNat < S6144.size a := fun v921 k0_hw768 => k0_hw768
@[reducible] def k0_t26_loop : Scf.Loop 32 :=
  let c0_i32_400 : BitVec 32 := 0#32
  let c64_i32_401 : BitVec 32 := 64#32
  let v288 : BitVec 32 := Scalar.addi c0_i32_400 c64_i32_401
  let c1_i32_402 : BitVec 32 := 1#32
  ⟨c0_i32_400, v288, c1_i32_402⟩
def k0_off50 (k0_t26 : Fin k0_t26_loop.trips) (c0_i32_762 : BitVec 32) : Fin 2 → Nat :=
  let c0_i32_400 : BitVec 32 := 0#32
  let c1_i32_402 : BitVec 32 := 1#32
  let arg12 : BitVec 32 := Scf.iv c0_i32_400 c1_i32_402 k0_t26
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk769 (v766 : IVec S16 32) : Prop :=
  (∀ a x, ((![v766] : Fin 1 → IVec S16 32) a x).toNat < S6144.size a)
theorem k0_idx769_inb : ∀ (v766 : IVec S16 32) (k0_hw769 : k0_chk769 v766), ∀ a x, ((![v766] : Fin 1 → IVec S16 32) a x).toNat < S6144.size a := fun v766 k0_hw769 => k0_hw769

def k0_chk770 (v771 : IVec S16 32) : Prop :=
  (∀ a x, ((![v771] : Fin 1 → IVec S16 32) a x).toNat < S6144.size a)
theorem k0_idx770_inb : ∀ (v771 : IVec S16 32) (k0_hw770 : k0_chk770 v771), ∀ a x, ((![v771] : Fin 1 → IVec S16 32) a x).toNat < S6144.size a := fun v771 k0_hw770 => k0_hw770

def k0_chk771 (v776 : IVec S16 32) : Prop :=
  (∀ a x, ((![v776] : Fin 1 → IVec S16 32) a x).toNat < S6144.size a)
theorem k0_idx771_inb : ∀ (v776 : IVec S16 32) (k0_hw771 : k0_chk771 v776), ∀ a x, ((![v776] : Fin 1 → IVec S16 32) a x).toNat < S6144.size a := fun v776 k0_hw771 => k0_hw771

def k0_chk772 (v781 : IVec S16 32) : Prop :=
  (∀ a x, ((![v781] : Fin 1 → IVec S16 32) a x).toNat < S6144.size a)
theorem k0_idx772_inb : ∀ (v781 : IVec S16 32) (k0_hw772 : k0_chk772 v781), ∀ a x, ((![v781] : Fin 1 → IVec S16 32) a x).toNat < S6144.size a := fun v781 k0_hw772 => k0_hw772

def k0_chk773 (v786 : IVec S16 32) : Prop :=
  (∀ a x, ((![v786] : Fin 1 → IVec S16 32) a x).toNat < S6144.size a)
theorem k0_idx773_inb : ∀ (v786 : IVec S16 32) (k0_hw773 : k0_chk773 v786), ∀ a x, ((![v786] : Fin 1 → IVec S16 32) a x).toNat < S6144.size a := fun v786 k0_hw773 => k0_hw773

def k0_chk774 (v791 : IVec S16 32) : Prop :=
  (∀ a x, ((![v791] : Fin 1 → IVec S16 32) a x).toNat < S6144.size a)
theorem k0_idx774_inb : ∀ (v791 : IVec S16 32) (k0_hw774 : k0_chk774 v791), ∀ a x, ((![v791] : Fin 1 → IVec S16 32) a x).toNat < S6144.size a := fun v791 k0_hw774 => k0_hw774

def k0_chk775 (v796 : IVec S16 32) : Prop :=
  (∀ a x, ((![v796] : Fin 1 → IVec S16 32) a x).toNat < S6144.size a)
theorem k0_idx775_inb : ∀ (v796 : IVec S16 32) (k0_hw775 : k0_chk775 v796), ∀ a x, ((![v796] : Fin 1 → IVec S16 32) a x).toNat < S6144.size a := fun v796 k0_hw775 => k0_hw775

def k0_chk776 (v801 : IVec S16 32) : Prop :=
  (∀ a x, ((![v801] : Fin 1 → IVec S16 32) a x).toNat < S6144.size a)
theorem k0_idx776_inb : ∀ (v801 : IVec S16 32) (k0_hw776 : k0_chk776 v801), ∀ a x, ((![v801] : Fin 1 → IVec S16 32) a x).toNat < S6144.size a := fun v801 k0_hw776 => k0_hw776

def k0_chk777 (v806 : IVec S16 32) : Prop :=
  (∀ a x, ((![v806] : Fin 1 → IVec S16 32) a x).toNat < S6144.size a)
theorem k0_idx777_inb : ∀ (v806 : IVec S16 32) (k0_hw777 : k0_chk777 v806), ∀ a x, ((![v806] : Fin 1 → IVec S16 32) a x).toNat < S6144.size a := fun v806 k0_hw777 => k0_hw777

def k0_chk778 (v811 : IVec S16 32) : Prop :=
  (∀ a x, ((![v811] : Fin 1 → IVec S16 32) a x).toNat < S6144.size a)
theorem k0_idx778_inb : ∀ (v811 : IVec S16 32) (k0_hw778 : k0_chk778 v811), ∀ a x, ((![v811] : Fin 1 → IVec S16 32) a x).toNat < S6144.size a := fun v811 k0_hw778 => k0_hw778

def k0_chk779 (v816 : IVec S16 32) : Prop :=
  (∀ a x, ((![v816] : Fin 1 → IVec S16 32) a x).toNat < S6144.size a)
theorem k0_idx779_inb : ∀ (v816 : IVec S16 32) (k0_hw779 : k0_chk779 v816), ∀ a x, ((![v816] : Fin 1 → IVec S16 32) a x).toNat < S6144.size a := fun v816 k0_hw779 => k0_hw779

def k0_chk780 (v821 : IVec S16 32) : Prop :=
  (∀ a x, ((![v821] : Fin 1 → IVec S16 32) a x).toNat < S6144.size a)
theorem k0_idx780_inb : ∀ (v821 : IVec S16 32) (k0_hw780 : k0_chk780 v821), ∀ a x, ((![v821] : Fin 1 → IVec S16 32) a x).toNat < S6144.size a := fun v821 k0_hw780 => k0_hw780

def k0_chk781 (v826 : IVec S16 32) : Prop :=
  (∀ a x, ((![v826] : Fin 1 → IVec S16 32) a x).toNat < S6144.size a)
theorem k0_idx781_inb : ∀ (v826 : IVec S16 32) (k0_hw781 : k0_chk781 v826), ∀ a x, ((![v826] : Fin 1 → IVec S16 32) a x).toNat < S6144.size a := fun v826 k0_hw781 => k0_hw781

def k0_chk782 (v831 : IVec S16 32) : Prop :=
  (∀ a x, ((![v831] : Fin 1 → IVec S16 32) a x).toNat < S6144.size a)
theorem k0_idx782_inb : ∀ (v831 : IVec S16 32) (k0_hw782 : k0_chk782 v831), ∀ a x, ((![v831] : Fin 1 → IVec S16 32) a x).toNat < S6144.size a := fun v831 k0_hw782 => k0_hw782

def k0_chk783 (v836 : IVec S16 32) : Prop :=
  (∀ a x, ((![v836] : Fin 1 → IVec S16 32) a x).toNat < S6144.size a)
theorem k0_idx783_inb : ∀ (v836 : IVec S16 32) (k0_hw783 : k0_chk783 v836), ∀ a x, ((![v836] : Fin 1 → IVec S16 32) a x).toNat < S6144.size a := fun v836 k0_hw783 => k0_hw783

def k0_chk784 (v841 : IVec S16 32) : Prop :=
  (∀ a x, ((![v841] : Fin 1 → IVec S16 32) a x).toNat < S6144.size a)
theorem k0_idx784_inb : ∀ (v841 : IVec S16 32) (k0_hw784 : k0_chk784 v841), ∀ a x, ((![v841] : Fin 1 → IVec S16 32) a x).toNat < S6144.size a := fun v841 k0_hw784 => k0_hw784

def k0_chk785 (v846 : IVec S16 32) : Prop :=
  (∀ a x, ((![v846] : Fin 1 → IVec S16 32) a x).toNat < S6144.size a)
theorem k0_idx785_inb : ∀ (v846 : IVec S16 32) (k0_hw785 : k0_chk785 v846), ∀ a x, ((![v846] : Fin 1 → IVec S16 32) a x).toNat < S6144.size a := fun v846 k0_hw785 => k0_hw785

def k0_chk786 (v851 : IVec S16 32) : Prop :=
  (∀ a x, ((![v851] : Fin 1 → IVec S16 32) a x).toNat < S6144.size a)
theorem k0_idx786_inb : ∀ (v851 : IVec S16 32) (k0_hw786 : k0_chk786 v851), ∀ a x, ((![v851] : Fin 1 → IVec S16 32) a x).toNat < S6144.size a := fun v851 k0_hw786 => k0_hw786

def k0_chk787 (v856 : IVec S16 32) : Prop :=
  (∀ a x, ((![v856] : Fin 1 → IVec S16 32) a x).toNat < S6144.size a)
theorem k0_idx787_inb : ∀ (v856 : IVec S16 32) (k0_hw787 : k0_chk787 v856), ∀ a x, ((![v856] : Fin 1 → IVec S16 32) a x).toNat < S6144.size a := fun v856 k0_hw787 => k0_hw787

def k0_chk788 (v861 : IVec S16 32) : Prop :=
  (∀ a x, ((![v861] : Fin 1 → IVec S16 32) a x).toNat < S6144.size a)
theorem k0_idx788_inb : ∀ (v861 : IVec S16 32) (k0_hw788 : k0_chk788 v861), ∀ a x, ((![v861] : Fin 1 → IVec S16 32) a x).toNat < S6144.size a := fun v861 k0_hw788 => k0_hw788

def k0_chk789 (v866 : IVec S16 32) : Prop :=
  (∀ a x, ((![v866] : Fin 1 → IVec S16 32) a x).toNat < S6144.size a)
theorem k0_idx789_inb : ∀ (v866 : IVec S16 32) (k0_hw789 : k0_chk789 v866), ∀ a x, ((![v866] : Fin 1 → IVec S16 32) a x).toNat < S6144.size a := fun v866 k0_hw789 => k0_hw789

def k0_chk790 (v871 : IVec S16 32) : Prop :=
  (∀ a x, ((![v871] : Fin 1 → IVec S16 32) a x).toNat < S6144.size a)
theorem k0_idx790_inb : ∀ (v871 : IVec S16 32) (k0_hw790 : k0_chk790 v871), ∀ a x, ((![v871] : Fin 1 → IVec S16 32) a x).toNat < S6144.size a := fun v871 k0_hw790 => k0_hw790

def k0_chk791 (v876 : IVec S16 32) : Prop :=
  (∀ a x, ((![v876] : Fin 1 → IVec S16 32) a x).toNat < S6144.size a)
theorem k0_idx791_inb : ∀ (v876 : IVec S16 32) (k0_hw791 : k0_chk791 v876), ∀ a x, ((![v876] : Fin 1 → IVec S16 32) a x).toNat < S6144.size a := fun v876 k0_hw791 => k0_hw791

def k0_chk792 (v881 : IVec S16 32) : Prop :=
  (∀ a x, ((![v881] : Fin 1 → IVec S16 32) a x).toNat < S6144.size a)
theorem k0_idx792_inb : ∀ (v881 : IVec S16 32) (k0_hw792 : k0_chk792 v881), ∀ a x, ((![v881] : Fin 1 → IVec S16 32) a x).toNat < S6144.size a := fun v881 k0_hw792 => k0_hw792

def k0_chk793 (v886 : IVec S16 32) : Prop :=
  (∀ a x, ((![v886] : Fin 1 → IVec S16 32) a x).toNat < S6144.size a)
theorem k0_idx793_inb : ∀ (v886 : IVec S16 32) (k0_hw793 : k0_chk793 v886), ∀ a x, ((![v886] : Fin 1 → IVec S16 32) a x).toNat < S6144.size a := fun v886 k0_hw793 => k0_hw793

def k0_chk794 (v891 : IVec S16 32) : Prop :=
  (∀ a x, ((![v891] : Fin 1 → IVec S16 32) a x).toNat < S6144.size a)
theorem k0_idx794_inb : ∀ (v891 : IVec S16 32) (k0_hw794 : k0_chk794 v891), ∀ a x, ((![v891] : Fin 1 → IVec S16 32) a x).toNat < S6144.size a := fun v891 k0_hw794 => k0_hw794

def k0_chk795 (v896 : IVec S16 32) : Prop :=
  (∀ a x, ((![v896] : Fin 1 → IVec S16 32) a x).toNat < S6144.size a)
theorem k0_idx795_inb : ∀ (v896 : IVec S16 32) (k0_hw795 : k0_chk795 v896), ∀ a x, ((![v896] : Fin 1 → IVec S16 32) a x).toNat < S6144.size a := fun v896 k0_hw795 => k0_hw795

def k0_chk796 (v901 : IVec S16 32) : Prop :=
  (∀ a x, ((![v901] : Fin 1 → IVec S16 32) a x).toNat < S6144.size a)
theorem k0_idx796_inb : ∀ (v901 : IVec S16 32) (k0_hw796 : k0_chk796 v901), ∀ a x, ((![v901] : Fin 1 → IVec S16 32) a x).toNat < S6144.size a := fun v901 k0_hw796 => k0_hw796

def k0_chk797 (v906 : IVec S16 32) : Prop :=
  (∀ a x, ((![v906] : Fin 1 → IVec S16 32) a x).toNat < S6144.size a)
theorem k0_idx797_inb : ∀ (v906 : IVec S16 32) (k0_hw797 : k0_chk797 v906), ∀ a x, ((![v906] : Fin 1 → IVec S16 32) a x).toNat < S6144.size a := fun v906 k0_hw797 => k0_hw797

def k0_chk798 (v911 : IVec S16 32) : Prop :=
  (∀ a x, ((![v911] : Fin 1 → IVec S16 32) a x).toNat < S6144.size a)
theorem k0_idx798_inb : ∀ (v911 : IVec S16 32) (k0_hw798 : k0_chk798 v911), ∀ a x, ((![v911] : Fin 1 → IVec S16 32) a x).toNat < S6144.size a := fun v911 k0_hw798 => k0_hw798

def k0_chk799 (v916 : IVec S16 32) : Prop :=
  (∀ a x, ((![v916] : Fin 1 → IVec S16 32) a x).toNat < S6144.size a)
theorem k0_idx799_inb : ∀ (v916 : IVec S16 32) (k0_hw799 : k0_chk799 v916), ∀ a x, ((![v916] : Fin 1 → IVec S16 32) a x).toNat < S6144.size a := fun v916 k0_hw799 => k0_hw799

def k0_chk800 (v921 : IVec S16 32) : Prop :=
  (∀ a x, ((![v921] : Fin 1 → IVec S16 32) a x).toNat < S6144.size a)
theorem k0_idx800_inb : ∀ (v921 : IVec S16 32) (k0_hw800 : k0_chk800 v921), ∀ a x, ((![v921] : Fin 1 → IVec S16 32) a x).toNat < S6144.size a := fun v921 k0_hw800 => k0_hw800
@[reducible] def k0_t27_loop : Scf.Loop 32 :=
  let c0_i32_416 : BitVec 32 := 0#32
  let c64_i32_417 : BitVec 32 := 64#32
  let v299 : BitVec 32 := Scalar.addi c0_i32_416 c64_i32_417
  let c1_i32_418 : BitVec 32 := 1#32
  ⟨c0_i32_416, v299, c1_i32_418⟩
def k0_off51 (k0_t27 : Fin k0_t27_loop.trips) (c0_i32_762 : BitVec 32) : Fin 2 → Nat :=
  let c0_i32_416 : BitVec 32 := 0#32
  let c1_i32_418 : BitVec 32 := 1#32
  let arg12 : BitVec 32 := Scf.iv c0_i32_416 c1_i32_418 k0_t27
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk801 (v766 : IVec S16 32) : Prop :=
  (∀ a x, ((![v766] : Fin 1 → IVec S16 32) a x).toNat < S6144.size a)
theorem k0_idx801_inb : ∀ (v766 : IVec S16 32) (k0_hw801 : k0_chk801 v766), ∀ a x, ((![v766] : Fin 1 → IVec S16 32) a x).toNat < S6144.size a := fun v766 k0_hw801 => k0_hw801

def k0_chk802 (v771 : IVec S16 32) : Prop :=
  (∀ a x, ((![v771] : Fin 1 → IVec S16 32) a x).toNat < S6144.size a)
theorem k0_idx802_inb : ∀ (v771 : IVec S16 32) (k0_hw802 : k0_chk802 v771), ∀ a x, ((![v771] : Fin 1 → IVec S16 32) a x).toNat < S6144.size a := fun v771 k0_hw802 => k0_hw802

def k0_chk803 (v776 : IVec S16 32) : Prop :=
  (∀ a x, ((![v776] : Fin 1 → IVec S16 32) a x).toNat < S6144.size a)
theorem k0_idx803_inb : ∀ (v776 : IVec S16 32) (k0_hw803 : k0_chk803 v776), ∀ a x, ((![v776] : Fin 1 → IVec S16 32) a x).toNat < S6144.size a := fun v776 k0_hw803 => k0_hw803

def k0_chk804 (v781 : IVec S16 32) : Prop :=
  (∀ a x, ((![v781] : Fin 1 → IVec S16 32) a x).toNat < S6144.size a)
theorem k0_idx804_inb : ∀ (v781 : IVec S16 32) (k0_hw804 : k0_chk804 v781), ∀ a x, ((![v781] : Fin 1 → IVec S16 32) a x).toNat < S6144.size a := fun v781 k0_hw804 => k0_hw804

def k0_chk805 (v786 : IVec S16 32) : Prop :=
  (∀ a x, ((![v786] : Fin 1 → IVec S16 32) a x).toNat < S6144.size a)
theorem k0_idx805_inb : ∀ (v786 : IVec S16 32) (k0_hw805 : k0_chk805 v786), ∀ a x, ((![v786] : Fin 1 → IVec S16 32) a x).toNat < S6144.size a := fun v786 k0_hw805 => k0_hw805

def k0_chk806 (v791 : IVec S16 32) : Prop :=
  (∀ a x, ((![v791] : Fin 1 → IVec S16 32) a x).toNat < S6144.size a)
theorem k0_idx806_inb : ∀ (v791 : IVec S16 32) (k0_hw806 : k0_chk806 v791), ∀ a x, ((![v791] : Fin 1 → IVec S16 32) a x).toNat < S6144.size a := fun v791 k0_hw806 => k0_hw806

def k0_chk807 (v796 : IVec S16 32) : Prop :=
  (∀ a x, ((![v796] : Fin 1 → IVec S16 32) a x).toNat < S6144.size a)
theorem k0_idx807_inb : ∀ (v796 : IVec S16 32) (k0_hw807 : k0_chk807 v796), ∀ a x, ((![v796] : Fin 1 → IVec S16 32) a x).toNat < S6144.size a := fun v796 k0_hw807 => k0_hw807

def k0_chk808 (v801 : IVec S16 32) : Prop :=
  (∀ a x, ((![v801] : Fin 1 → IVec S16 32) a x).toNat < S6144.size a)
theorem k0_idx808_inb : ∀ (v801 : IVec S16 32) (k0_hw808 : k0_chk808 v801), ∀ a x, ((![v801] : Fin 1 → IVec S16 32) a x).toNat < S6144.size a := fun v801 k0_hw808 => k0_hw808

def k0_chk809 (v806 : IVec S16 32) : Prop :=
  (∀ a x, ((![v806] : Fin 1 → IVec S16 32) a x).toNat < S6144.size a)
theorem k0_idx809_inb : ∀ (v806 : IVec S16 32) (k0_hw809 : k0_chk809 v806), ∀ a x, ((![v806] : Fin 1 → IVec S16 32) a x).toNat < S6144.size a := fun v806 k0_hw809 => k0_hw809

def k0_chk810 (v811 : IVec S16 32) : Prop :=
  (∀ a x, ((![v811] : Fin 1 → IVec S16 32) a x).toNat < S6144.size a)
theorem k0_idx810_inb : ∀ (v811 : IVec S16 32) (k0_hw810 : k0_chk810 v811), ∀ a x, ((![v811] : Fin 1 → IVec S16 32) a x).toNat < S6144.size a := fun v811 k0_hw810 => k0_hw810

def k0_chk811 (v816 : IVec S16 32) : Prop :=
  (∀ a x, ((![v816] : Fin 1 → IVec S16 32) a x).toNat < S6144.size a)
theorem k0_idx811_inb : ∀ (v816 : IVec S16 32) (k0_hw811 : k0_chk811 v816), ∀ a x, ((![v816] : Fin 1 → IVec S16 32) a x).toNat < S6144.size a := fun v816 k0_hw811 => k0_hw811

def k0_chk812 (v821 : IVec S16 32) : Prop :=
  (∀ a x, ((![v821] : Fin 1 → IVec S16 32) a x).toNat < S6144.size a)
theorem k0_idx812_inb : ∀ (v821 : IVec S16 32) (k0_hw812 : k0_chk812 v821), ∀ a x, ((![v821] : Fin 1 → IVec S16 32) a x).toNat < S6144.size a := fun v821 k0_hw812 => k0_hw812

def k0_chk813 (v826 : IVec S16 32) : Prop :=
  (∀ a x, ((![v826] : Fin 1 → IVec S16 32) a x).toNat < S6144.size a)
theorem k0_idx813_inb : ∀ (v826 : IVec S16 32) (k0_hw813 : k0_chk813 v826), ∀ a x, ((![v826] : Fin 1 → IVec S16 32) a x).toNat < S6144.size a := fun v826 k0_hw813 => k0_hw813

def k0_chk814 (v831 : IVec S16 32) : Prop :=
  (∀ a x, ((![v831] : Fin 1 → IVec S16 32) a x).toNat < S6144.size a)
theorem k0_idx814_inb : ∀ (v831 : IVec S16 32) (k0_hw814 : k0_chk814 v831), ∀ a x, ((![v831] : Fin 1 → IVec S16 32) a x).toNat < S6144.size a := fun v831 k0_hw814 => k0_hw814

def k0_chk815 (v836 : IVec S16 32) : Prop :=
  (∀ a x, ((![v836] : Fin 1 → IVec S16 32) a x).toNat < S6144.size a)
theorem k0_idx815_inb : ∀ (v836 : IVec S16 32) (k0_hw815 : k0_chk815 v836), ∀ a x, ((![v836] : Fin 1 → IVec S16 32) a x).toNat < S6144.size a := fun v836 k0_hw815 => k0_hw815

def k0_chk816 (v841 : IVec S16 32) : Prop :=
  (∀ a x, ((![v841] : Fin 1 → IVec S16 32) a x).toNat < S6144.size a)
theorem k0_idx816_inb : ∀ (v841 : IVec S16 32) (k0_hw816 : k0_chk816 v841), ∀ a x, ((![v841] : Fin 1 → IVec S16 32) a x).toNat < S6144.size a := fun v841 k0_hw816 => k0_hw816

def k0_chk817 (v846 : IVec S16 32) : Prop :=
  (∀ a x, ((![v846] : Fin 1 → IVec S16 32) a x).toNat < S6144.size a)
theorem k0_idx817_inb : ∀ (v846 : IVec S16 32) (k0_hw817 : k0_chk817 v846), ∀ a x, ((![v846] : Fin 1 → IVec S16 32) a x).toNat < S6144.size a := fun v846 k0_hw817 => k0_hw817

def k0_chk818 (v851 : IVec S16 32) : Prop :=
  (∀ a x, ((![v851] : Fin 1 → IVec S16 32) a x).toNat < S6144.size a)
theorem k0_idx818_inb : ∀ (v851 : IVec S16 32) (k0_hw818 : k0_chk818 v851), ∀ a x, ((![v851] : Fin 1 → IVec S16 32) a x).toNat < S6144.size a := fun v851 k0_hw818 => k0_hw818

def k0_chk819 (v856 : IVec S16 32) : Prop :=
  (∀ a x, ((![v856] : Fin 1 → IVec S16 32) a x).toNat < S6144.size a)
theorem k0_idx819_inb : ∀ (v856 : IVec S16 32) (k0_hw819 : k0_chk819 v856), ∀ a x, ((![v856] : Fin 1 → IVec S16 32) a x).toNat < S6144.size a := fun v856 k0_hw819 => k0_hw819

def k0_chk820 (v861 : IVec S16 32) : Prop :=
  (∀ a x, ((![v861] : Fin 1 → IVec S16 32) a x).toNat < S6144.size a)
theorem k0_idx820_inb : ∀ (v861 : IVec S16 32) (k0_hw820 : k0_chk820 v861), ∀ a x, ((![v861] : Fin 1 → IVec S16 32) a x).toNat < S6144.size a := fun v861 k0_hw820 => k0_hw820

def k0_chk821 (v866 : IVec S16 32) : Prop :=
  (∀ a x, ((![v866] : Fin 1 → IVec S16 32) a x).toNat < S6144.size a)
theorem k0_idx821_inb : ∀ (v866 : IVec S16 32) (k0_hw821 : k0_chk821 v866), ∀ a x, ((![v866] : Fin 1 → IVec S16 32) a x).toNat < S6144.size a := fun v866 k0_hw821 => k0_hw821

def k0_chk822 (v871 : IVec S16 32) : Prop :=
  (∀ a x, ((![v871] : Fin 1 → IVec S16 32) a x).toNat < S6144.size a)
theorem k0_idx822_inb : ∀ (v871 : IVec S16 32) (k0_hw822 : k0_chk822 v871), ∀ a x, ((![v871] : Fin 1 → IVec S16 32) a x).toNat < S6144.size a := fun v871 k0_hw822 => k0_hw822

def k0_chk823 (v876 : IVec S16 32) : Prop :=
  (∀ a x, ((![v876] : Fin 1 → IVec S16 32) a x).toNat < S6144.size a)
theorem k0_idx823_inb : ∀ (v876 : IVec S16 32) (k0_hw823 : k0_chk823 v876), ∀ a x, ((![v876] : Fin 1 → IVec S16 32) a x).toNat < S6144.size a := fun v876 k0_hw823 => k0_hw823

def k0_chk824 (v881 : IVec S16 32) : Prop :=
  (∀ a x, ((![v881] : Fin 1 → IVec S16 32) a x).toNat < S6144.size a)
theorem k0_idx824_inb : ∀ (v881 : IVec S16 32) (k0_hw824 : k0_chk824 v881), ∀ a x, ((![v881] : Fin 1 → IVec S16 32) a x).toNat < S6144.size a := fun v881 k0_hw824 => k0_hw824

def k0_chk825 (v886 : IVec S16 32) : Prop :=
  (∀ a x, ((![v886] : Fin 1 → IVec S16 32) a x).toNat < S6144.size a)
theorem k0_idx825_inb : ∀ (v886 : IVec S16 32) (k0_hw825 : k0_chk825 v886), ∀ a x, ((![v886] : Fin 1 → IVec S16 32) a x).toNat < S6144.size a := fun v886 k0_hw825 => k0_hw825

def k0_chk826 (v891 : IVec S16 32) : Prop :=
  (∀ a x, ((![v891] : Fin 1 → IVec S16 32) a x).toNat < S6144.size a)
theorem k0_idx826_inb : ∀ (v891 : IVec S16 32) (k0_hw826 : k0_chk826 v891), ∀ a x, ((![v891] : Fin 1 → IVec S16 32) a x).toNat < S6144.size a := fun v891 k0_hw826 => k0_hw826

def k0_chk827 (v896 : IVec S16 32) : Prop :=
  (∀ a x, ((![v896] : Fin 1 → IVec S16 32) a x).toNat < S6144.size a)
theorem k0_idx827_inb : ∀ (v896 : IVec S16 32) (k0_hw827 : k0_chk827 v896), ∀ a x, ((![v896] : Fin 1 → IVec S16 32) a x).toNat < S6144.size a := fun v896 k0_hw827 => k0_hw827

def k0_chk828 (v901 : IVec S16 32) : Prop :=
  (∀ a x, ((![v901] : Fin 1 → IVec S16 32) a x).toNat < S6144.size a)
theorem k0_idx828_inb : ∀ (v901 : IVec S16 32) (k0_hw828 : k0_chk828 v901), ∀ a x, ((![v901] : Fin 1 → IVec S16 32) a x).toNat < S6144.size a := fun v901 k0_hw828 => k0_hw828

def k0_chk829 (v906 : IVec S16 32) : Prop :=
  (∀ a x, ((![v906] : Fin 1 → IVec S16 32) a x).toNat < S6144.size a)
theorem k0_idx829_inb : ∀ (v906 : IVec S16 32) (k0_hw829 : k0_chk829 v906), ∀ a x, ((![v906] : Fin 1 → IVec S16 32) a x).toNat < S6144.size a := fun v906 k0_hw829 => k0_hw829

def k0_chk830 (v911 : IVec S16 32) : Prop :=
  (∀ a x, ((![v911] : Fin 1 → IVec S16 32) a x).toNat < S6144.size a)
theorem k0_idx830_inb : ∀ (v911 : IVec S16 32) (k0_hw830 : k0_chk830 v911), ∀ a x, ((![v911] : Fin 1 → IVec S16 32) a x).toNat < S6144.size a := fun v911 k0_hw830 => k0_hw830

def k0_chk831 (v916 : IVec S16 32) : Prop :=
  (∀ a x, ((![v916] : Fin 1 → IVec S16 32) a x).toNat < S6144.size a)
theorem k0_idx831_inb : ∀ (v916 : IVec S16 32) (k0_hw831 : k0_chk831 v916), ∀ a x, ((![v916] : Fin 1 → IVec S16 32) a x).toNat < S6144.size a := fun v916 k0_hw831 => k0_hw831

def k0_chk832 (v921 : IVec S16 32) : Prop :=
  (∀ a x, ((![v921] : Fin 1 → IVec S16 32) a x).toNat < S6144.size a)
theorem k0_idx832_inb : ∀ (v921 : IVec S16 32) (k0_hw832 : k0_chk832 v921), ∀ a x, ((![v921] : Fin 1 → IVec S16 32) a x).toNat < S6144.size a := fun v921 k0_hw832 => k0_hw832
@[reducible] def k0_t28_loop : Scf.Loop 32 :=
  let c0_i32_432 : BitVec 32 := 0#32
  let c64_i32_433 : BitVec 32 := 64#32
  let v310 : BitVec 32 := Scalar.addi c0_i32_432 c64_i32_433
  let c1_i32_434 : BitVec 32 := 1#32
  ⟨c0_i32_432, v310, c1_i32_434⟩
def k0_off52 (k0_t28 : Fin k0_t28_loop.trips) (c0_i32_762 : BitVec 32) : Fin 2 → Nat :=
  let c0_i32_432 : BitVec 32 := 0#32
  let c1_i32_434 : BitVec 32 := 1#32
  let arg12 : BitVec 32 := Scf.iv c0_i32_432 c1_i32_434 k0_t28
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk833 (v766 : IVec S16 32) : Prop :=
  (∀ a x, ((![v766] : Fin 1 → IVec S16 32) a x).toNat < S6144.size a)
theorem k0_idx833_inb : ∀ (v766 : IVec S16 32) (k0_hw833 : k0_chk833 v766), ∀ a x, ((![v766] : Fin 1 → IVec S16 32) a x).toNat < S6144.size a := fun v766 k0_hw833 => k0_hw833

def k0_chk834 (v771 : IVec S16 32) : Prop :=
  (∀ a x, ((![v771] : Fin 1 → IVec S16 32) a x).toNat < S6144.size a)
theorem k0_idx834_inb : ∀ (v771 : IVec S16 32) (k0_hw834 : k0_chk834 v771), ∀ a x, ((![v771] : Fin 1 → IVec S16 32) a x).toNat < S6144.size a := fun v771 k0_hw834 => k0_hw834

def k0_chk835 (v776 : IVec S16 32) : Prop :=
  (∀ a x, ((![v776] : Fin 1 → IVec S16 32) a x).toNat < S6144.size a)
theorem k0_idx835_inb : ∀ (v776 : IVec S16 32) (k0_hw835 : k0_chk835 v776), ∀ a x, ((![v776] : Fin 1 → IVec S16 32) a x).toNat < S6144.size a := fun v776 k0_hw835 => k0_hw835

def k0_chk836 (v781 : IVec S16 32) : Prop :=
  (∀ a x, ((![v781] : Fin 1 → IVec S16 32) a x).toNat < S6144.size a)
theorem k0_idx836_inb : ∀ (v781 : IVec S16 32) (k0_hw836 : k0_chk836 v781), ∀ a x, ((![v781] : Fin 1 → IVec S16 32) a x).toNat < S6144.size a := fun v781 k0_hw836 => k0_hw836

def k0_chk837 (v786 : IVec S16 32) : Prop :=
  (∀ a x, ((![v786] : Fin 1 → IVec S16 32) a x).toNat < S6144.size a)
theorem k0_idx837_inb : ∀ (v786 : IVec S16 32) (k0_hw837 : k0_chk837 v786), ∀ a x, ((![v786] : Fin 1 → IVec S16 32) a x).toNat < S6144.size a := fun v786 k0_hw837 => k0_hw837

def k0_chk838 (v791 : IVec S16 32) : Prop :=
  (∀ a x, ((![v791] : Fin 1 → IVec S16 32) a x).toNat < S6144.size a)
theorem k0_idx838_inb : ∀ (v791 : IVec S16 32) (k0_hw838 : k0_chk838 v791), ∀ a x, ((![v791] : Fin 1 → IVec S16 32) a x).toNat < S6144.size a := fun v791 k0_hw838 => k0_hw838

def k0_chk839 (v796 : IVec S16 32) : Prop :=
  (∀ a x, ((![v796] : Fin 1 → IVec S16 32) a x).toNat < S6144.size a)
theorem k0_idx839_inb : ∀ (v796 : IVec S16 32) (k0_hw839 : k0_chk839 v796), ∀ a x, ((![v796] : Fin 1 → IVec S16 32) a x).toNat < S6144.size a := fun v796 k0_hw839 => k0_hw839

def k0_chk840 (v801 : IVec S16 32) : Prop :=
  (∀ a x, ((![v801] : Fin 1 → IVec S16 32) a x).toNat < S6144.size a)
theorem k0_idx840_inb : ∀ (v801 : IVec S16 32) (k0_hw840 : k0_chk840 v801), ∀ a x, ((![v801] : Fin 1 → IVec S16 32) a x).toNat < S6144.size a := fun v801 k0_hw840 => k0_hw840

def k0_chk841 (v806 : IVec S16 32) : Prop :=
  (∀ a x, ((![v806] : Fin 1 → IVec S16 32) a x).toNat < S6144.size a)
theorem k0_idx841_inb : ∀ (v806 : IVec S16 32) (k0_hw841 : k0_chk841 v806), ∀ a x, ((![v806] : Fin 1 → IVec S16 32) a x).toNat < S6144.size a := fun v806 k0_hw841 => k0_hw841

def k0_chk842 (v811 : IVec S16 32) : Prop :=
  (∀ a x, ((![v811] : Fin 1 → IVec S16 32) a x).toNat < S6144.size a)
theorem k0_idx842_inb : ∀ (v811 : IVec S16 32) (k0_hw842 : k0_chk842 v811), ∀ a x, ((![v811] : Fin 1 → IVec S16 32) a x).toNat < S6144.size a := fun v811 k0_hw842 => k0_hw842

def k0_chk843 (v816 : IVec S16 32) : Prop :=
  (∀ a x, ((![v816] : Fin 1 → IVec S16 32) a x).toNat < S6144.size a)
theorem k0_idx843_inb : ∀ (v816 : IVec S16 32) (k0_hw843 : k0_chk843 v816), ∀ a x, ((![v816] : Fin 1 → IVec S16 32) a x).toNat < S6144.size a := fun v816 k0_hw843 => k0_hw843

def k0_chk844 (v821 : IVec S16 32) : Prop :=
  (∀ a x, ((![v821] : Fin 1 → IVec S16 32) a x).toNat < S6144.size a)
theorem k0_idx844_inb : ∀ (v821 : IVec S16 32) (k0_hw844 : k0_chk844 v821), ∀ a x, ((![v821] : Fin 1 → IVec S16 32) a x).toNat < S6144.size a := fun v821 k0_hw844 => k0_hw844

def k0_chk845 (v826 : IVec S16 32) : Prop :=
  (∀ a x, ((![v826] : Fin 1 → IVec S16 32) a x).toNat < S6144.size a)
theorem k0_idx845_inb : ∀ (v826 : IVec S16 32) (k0_hw845 : k0_chk845 v826), ∀ a x, ((![v826] : Fin 1 → IVec S16 32) a x).toNat < S6144.size a := fun v826 k0_hw845 => k0_hw845

def k0_chk846 (v831 : IVec S16 32) : Prop :=
  (∀ a x, ((![v831] : Fin 1 → IVec S16 32) a x).toNat < S6144.size a)
theorem k0_idx846_inb : ∀ (v831 : IVec S16 32) (k0_hw846 : k0_chk846 v831), ∀ a x, ((![v831] : Fin 1 → IVec S16 32) a x).toNat < S6144.size a := fun v831 k0_hw846 => k0_hw846

def k0_chk847 (v836 : IVec S16 32) : Prop :=
  (∀ a x, ((![v836] : Fin 1 → IVec S16 32) a x).toNat < S6144.size a)
theorem k0_idx847_inb : ∀ (v836 : IVec S16 32) (k0_hw847 : k0_chk847 v836), ∀ a x, ((![v836] : Fin 1 → IVec S16 32) a x).toNat < S6144.size a := fun v836 k0_hw847 => k0_hw847

def k0_chk848 (v841 : IVec S16 32) : Prop :=
  (∀ a x, ((![v841] : Fin 1 → IVec S16 32) a x).toNat < S6144.size a)
theorem k0_idx848_inb : ∀ (v841 : IVec S16 32) (k0_hw848 : k0_chk848 v841), ∀ a x, ((![v841] : Fin 1 → IVec S16 32) a x).toNat < S6144.size a := fun v841 k0_hw848 => k0_hw848

def k0_chk849 (v846 : IVec S16 32) : Prop :=
  (∀ a x, ((![v846] : Fin 1 → IVec S16 32) a x).toNat < S6144.size a)
theorem k0_idx849_inb : ∀ (v846 : IVec S16 32) (k0_hw849 : k0_chk849 v846), ∀ a x, ((![v846] : Fin 1 → IVec S16 32) a x).toNat < S6144.size a := fun v846 k0_hw849 => k0_hw849

def k0_chk850 (v851 : IVec S16 32) : Prop :=
  (∀ a x, ((![v851] : Fin 1 → IVec S16 32) a x).toNat < S6144.size a)
theorem k0_idx850_inb : ∀ (v851 : IVec S16 32) (k0_hw850 : k0_chk850 v851), ∀ a x, ((![v851] : Fin 1 → IVec S16 32) a x).toNat < S6144.size a := fun v851 k0_hw850 => k0_hw850

def k0_chk851 (v856 : IVec S16 32) : Prop :=
  (∀ a x, ((![v856] : Fin 1 → IVec S16 32) a x).toNat < S6144.size a)
theorem k0_idx851_inb : ∀ (v856 : IVec S16 32) (k0_hw851 : k0_chk851 v856), ∀ a x, ((![v856] : Fin 1 → IVec S16 32) a x).toNat < S6144.size a := fun v856 k0_hw851 => k0_hw851

def k0_chk852 (v861 : IVec S16 32) : Prop :=
  (∀ a x, ((![v861] : Fin 1 → IVec S16 32) a x).toNat < S6144.size a)
theorem k0_idx852_inb : ∀ (v861 : IVec S16 32) (k0_hw852 : k0_chk852 v861), ∀ a x, ((![v861] : Fin 1 → IVec S16 32) a x).toNat < S6144.size a := fun v861 k0_hw852 => k0_hw852

def k0_chk853 (v866 : IVec S16 32) : Prop :=
  (∀ a x, ((![v866] : Fin 1 → IVec S16 32) a x).toNat < S6144.size a)
theorem k0_idx853_inb : ∀ (v866 : IVec S16 32) (k0_hw853 : k0_chk853 v866), ∀ a x, ((![v866] : Fin 1 → IVec S16 32) a x).toNat < S6144.size a := fun v866 k0_hw853 => k0_hw853

def k0_chk854 (v871 : IVec S16 32) : Prop :=
  (∀ a x, ((![v871] : Fin 1 → IVec S16 32) a x).toNat < S6144.size a)
theorem k0_idx854_inb : ∀ (v871 : IVec S16 32) (k0_hw854 : k0_chk854 v871), ∀ a x, ((![v871] : Fin 1 → IVec S16 32) a x).toNat < S6144.size a := fun v871 k0_hw854 => k0_hw854

def k0_chk855 (v876 : IVec S16 32) : Prop :=
  (∀ a x, ((![v876] : Fin 1 → IVec S16 32) a x).toNat < S6144.size a)
theorem k0_idx855_inb : ∀ (v876 : IVec S16 32) (k0_hw855 : k0_chk855 v876), ∀ a x, ((![v876] : Fin 1 → IVec S16 32) a x).toNat < S6144.size a := fun v876 k0_hw855 => k0_hw855

def k0_chk856 (v881 : IVec S16 32) : Prop :=
  (∀ a x, ((![v881] : Fin 1 → IVec S16 32) a x).toNat < S6144.size a)
theorem k0_idx856_inb : ∀ (v881 : IVec S16 32) (k0_hw856 : k0_chk856 v881), ∀ a x, ((![v881] : Fin 1 → IVec S16 32) a x).toNat < S6144.size a := fun v881 k0_hw856 => k0_hw856

def k0_chk857 (v886 : IVec S16 32) : Prop :=
  (∀ a x, ((![v886] : Fin 1 → IVec S16 32) a x).toNat < S6144.size a)
theorem k0_idx857_inb : ∀ (v886 : IVec S16 32) (k0_hw857 : k0_chk857 v886), ∀ a x, ((![v886] : Fin 1 → IVec S16 32) a x).toNat < S6144.size a := fun v886 k0_hw857 => k0_hw857

def k0_chk858 (v891 : IVec S16 32) : Prop :=
  (∀ a x, ((![v891] : Fin 1 → IVec S16 32) a x).toNat < S6144.size a)
theorem k0_idx858_inb : ∀ (v891 : IVec S16 32) (k0_hw858 : k0_chk858 v891), ∀ a x, ((![v891] : Fin 1 → IVec S16 32) a x).toNat < S6144.size a := fun v891 k0_hw858 => k0_hw858

def k0_chk859 (v896 : IVec S16 32) : Prop :=
  (∀ a x, ((![v896] : Fin 1 → IVec S16 32) a x).toNat < S6144.size a)
theorem k0_idx859_inb : ∀ (v896 : IVec S16 32) (k0_hw859 : k0_chk859 v896), ∀ a x, ((![v896] : Fin 1 → IVec S16 32) a x).toNat < S6144.size a := fun v896 k0_hw859 => k0_hw859

def k0_chk860 (v901 : IVec S16 32) : Prop :=
  (∀ a x, ((![v901] : Fin 1 → IVec S16 32) a x).toNat < S6144.size a)
theorem k0_idx860_inb : ∀ (v901 : IVec S16 32) (k0_hw860 : k0_chk860 v901), ∀ a x, ((![v901] : Fin 1 → IVec S16 32) a x).toNat < S6144.size a := fun v901 k0_hw860 => k0_hw860

def k0_chk861 (v906 : IVec S16 32) : Prop :=
  (∀ a x, ((![v906] : Fin 1 → IVec S16 32) a x).toNat < S6144.size a)
theorem k0_idx861_inb : ∀ (v906 : IVec S16 32) (k0_hw861 : k0_chk861 v906), ∀ a x, ((![v906] : Fin 1 → IVec S16 32) a x).toNat < S6144.size a := fun v906 k0_hw861 => k0_hw861

def k0_chk862 (v911 : IVec S16 32) : Prop :=
  (∀ a x, ((![v911] : Fin 1 → IVec S16 32) a x).toNat < S6144.size a)
theorem k0_idx862_inb : ∀ (v911 : IVec S16 32) (k0_hw862 : k0_chk862 v911), ∀ a x, ((![v911] : Fin 1 → IVec S16 32) a x).toNat < S6144.size a := fun v911 k0_hw862 => k0_hw862

def k0_chk863 (v916 : IVec S16 32) : Prop :=
  (∀ a x, ((![v916] : Fin 1 → IVec S16 32) a x).toNat < S6144.size a)
theorem k0_idx863_inb : ∀ (v916 : IVec S16 32) (k0_hw863 : k0_chk863 v916), ∀ a x, ((![v916] : Fin 1 → IVec S16 32) a x).toNat < S6144.size a := fun v916 k0_hw863 => k0_hw863

def k0_chk864 (v921 : IVec S16 32) : Prop :=
  (∀ a x, ((![v921] : Fin 1 → IVec S16 32) a x).toNat < S6144.size a)
theorem k0_idx864_inb : ∀ (v921 : IVec S16 32) (k0_hw864 : k0_chk864 v921), ∀ a x, ((![v921] : Fin 1 → IVec S16 32) a x).toNat < S6144.size a := fun v921 k0_hw864 => k0_hw864
@[reducible] def k0_t29_loop : Scf.Loop 32 :=
  let c0_i32_448 : BitVec 32 := 0#32
  let c64_i32_449 : BitVec 32 := 64#32
  let v321 : BitVec 32 := Scalar.addi c0_i32_448 c64_i32_449
  let c1_i32_450 : BitVec 32 := 1#32
  ⟨c0_i32_448, v321, c1_i32_450⟩
def k0_off53 (k0_t29 : Fin k0_t29_loop.trips) (c0_i32_762 : BitVec 32) : Fin 2 → Nat :=
  let c0_i32_448 : BitVec 32 := 0#32
  let c1_i32_450 : BitVec 32 := 1#32
  let arg12 : BitVec 32 := Scf.iv c0_i32_448 c1_i32_450 k0_t29
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk865 (v766 : IVec S16 32) : Prop :=
  (∀ a x, ((![v766] : Fin 1 → IVec S16 32) a x).toNat < S6144.size a)
theorem k0_idx865_inb : ∀ (v766 : IVec S16 32) (k0_hw865 : k0_chk865 v766), ∀ a x, ((![v766] : Fin 1 → IVec S16 32) a x).toNat < S6144.size a := fun v766 k0_hw865 => k0_hw865

def k0_chk866 (v771 : IVec S16 32) : Prop :=
  (∀ a x, ((![v771] : Fin 1 → IVec S16 32) a x).toNat < S6144.size a)
theorem k0_idx866_inb : ∀ (v771 : IVec S16 32) (k0_hw866 : k0_chk866 v771), ∀ a x, ((![v771] : Fin 1 → IVec S16 32) a x).toNat < S6144.size a := fun v771 k0_hw866 => k0_hw866

def k0_chk867 (v776 : IVec S16 32) : Prop :=
  (∀ a x, ((![v776] : Fin 1 → IVec S16 32) a x).toNat < S6144.size a)
theorem k0_idx867_inb : ∀ (v776 : IVec S16 32) (k0_hw867 : k0_chk867 v776), ∀ a x, ((![v776] : Fin 1 → IVec S16 32) a x).toNat < S6144.size a := fun v776 k0_hw867 => k0_hw867

def k0_chk868 (v781 : IVec S16 32) : Prop :=
  (∀ a x, ((![v781] : Fin 1 → IVec S16 32) a x).toNat < S6144.size a)
theorem k0_idx868_inb : ∀ (v781 : IVec S16 32) (k0_hw868 : k0_chk868 v781), ∀ a x, ((![v781] : Fin 1 → IVec S16 32) a x).toNat < S6144.size a := fun v781 k0_hw868 => k0_hw868

def k0_chk869 (v786 : IVec S16 32) : Prop :=
  (∀ a x, ((![v786] : Fin 1 → IVec S16 32) a x).toNat < S6144.size a)
theorem k0_idx869_inb : ∀ (v786 : IVec S16 32) (k0_hw869 : k0_chk869 v786), ∀ a x, ((![v786] : Fin 1 → IVec S16 32) a x).toNat < S6144.size a := fun v786 k0_hw869 => k0_hw869

def k0_chk870 (v791 : IVec S16 32) : Prop :=
  (∀ a x, ((![v791] : Fin 1 → IVec S16 32) a x).toNat < S6144.size a)
theorem k0_idx870_inb : ∀ (v791 : IVec S16 32) (k0_hw870 : k0_chk870 v791), ∀ a x, ((![v791] : Fin 1 → IVec S16 32) a x).toNat < S6144.size a := fun v791 k0_hw870 => k0_hw870

def k0_chk871 (v796 : IVec S16 32) : Prop :=
  (∀ a x, ((![v796] : Fin 1 → IVec S16 32) a x).toNat < S6144.size a)
theorem k0_idx871_inb : ∀ (v796 : IVec S16 32) (k0_hw871 : k0_chk871 v796), ∀ a x, ((![v796] : Fin 1 → IVec S16 32) a x).toNat < S6144.size a := fun v796 k0_hw871 => k0_hw871

def k0_chk872 (v801 : IVec S16 32) : Prop :=
  (∀ a x, ((![v801] : Fin 1 → IVec S16 32) a x).toNat < S6144.size a)
theorem k0_idx872_inb : ∀ (v801 : IVec S16 32) (k0_hw872 : k0_chk872 v801), ∀ a x, ((![v801] : Fin 1 → IVec S16 32) a x).toNat < S6144.size a := fun v801 k0_hw872 => k0_hw872

def k0_chk873 (v806 : IVec S16 32) : Prop :=
  (∀ a x, ((![v806] : Fin 1 → IVec S16 32) a x).toNat < S6144.size a)
theorem k0_idx873_inb : ∀ (v806 : IVec S16 32) (k0_hw873 : k0_chk873 v806), ∀ a x, ((![v806] : Fin 1 → IVec S16 32) a x).toNat < S6144.size a := fun v806 k0_hw873 => k0_hw873

def k0_chk874 (v811 : IVec S16 32) : Prop :=
  (∀ a x, ((![v811] : Fin 1 → IVec S16 32) a x).toNat < S6144.size a)
theorem k0_idx874_inb : ∀ (v811 : IVec S16 32) (k0_hw874 : k0_chk874 v811), ∀ a x, ((![v811] : Fin 1 → IVec S16 32) a x).toNat < S6144.size a := fun v811 k0_hw874 => k0_hw874

def k0_chk875 (v816 : IVec S16 32) : Prop :=
  (∀ a x, ((![v816] : Fin 1 → IVec S16 32) a x).toNat < S6144.size a)
theorem k0_idx875_inb : ∀ (v816 : IVec S16 32) (k0_hw875 : k0_chk875 v816), ∀ a x, ((![v816] : Fin 1 → IVec S16 32) a x).toNat < S6144.size a := fun v816 k0_hw875 => k0_hw875

def k0_chk876 (v821 : IVec S16 32) : Prop :=
  (∀ a x, ((![v821] : Fin 1 → IVec S16 32) a x).toNat < S6144.size a)
theorem k0_idx876_inb : ∀ (v821 : IVec S16 32) (k0_hw876 : k0_chk876 v821), ∀ a x, ((![v821] : Fin 1 → IVec S16 32) a x).toNat < S6144.size a := fun v821 k0_hw876 => k0_hw876

def k0_chk877 (v826 : IVec S16 32) : Prop :=
  (∀ a x, ((![v826] : Fin 1 → IVec S16 32) a x).toNat < S6144.size a)
theorem k0_idx877_inb : ∀ (v826 : IVec S16 32) (k0_hw877 : k0_chk877 v826), ∀ a x, ((![v826] : Fin 1 → IVec S16 32) a x).toNat < S6144.size a := fun v826 k0_hw877 => k0_hw877

def k0_chk878 (v831 : IVec S16 32) : Prop :=
  (∀ a x, ((![v831] : Fin 1 → IVec S16 32) a x).toNat < S6144.size a)
theorem k0_idx878_inb : ∀ (v831 : IVec S16 32) (k0_hw878 : k0_chk878 v831), ∀ a x, ((![v831] : Fin 1 → IVec S16 32) a x).toNat < S6144.size a := fun v831 k0_hw878 => k0_hw878

def k0_chk879 (v836 : IVec S16 32) : Prop :=
  (∀ a x, ((![v836] : Fin 1 → IVec S16 32) a x).toNat < S6144.size a)
theorem k0_idx879_inb : ∀ (v836 : IVec S16 32) (k0_hw879 : k0_chk879 v836), ∀ a x, ((![v836] : Fin 1 → IVec S16 32) a x).toNat < S6144.size a := fun v836 k0_hw879 => k0_hw879

def k0_chk880 (v841 : IVec S16 32) : Prop :=
  (∀ a x, ((![v841] : Fin 1 → IVec S16 32) a x).toNat < S6144.size a)
theorem k0_idx880_inb : ∀ (v841 : IVec S16 32) (k0_hw880 : k0_chk880 v841), ∀ a x, ((![v841] : Fin 1 → IVec S16 32) a x).toNat < S6144.size a := fun v841 k0_hw880 => k0_hw880

def k0_chk881 (v846 : IVec S16 32) : Prop :=
  (∀ a x, ((![v846] : Fin 1 → IVec S16 32) a x).toNat < S6144.size a)
theorem k0_idx881_inb : ∀ (v846 : IVec S16 32) (k0_hw881 : k0_chk881 v846), ∀ a x, ((![v846] : Fin 1 → IVec S16 32) a x).toNat < S6144.size a := fun v846 k0_hw881 => k0_hw881

def k0_chk882 (v851 : IVec S16 32) : Prop :=
  (∀ a x, ((![v851] : Fin 1 → IVec S16 32) a x).toNat < S6144.size a)
theorem k0_idx882_inb : ∀ (v851 : IVec S16 32) (k0_hw882 : k0_chk882 v851), ∀ a x, ((![v851] : Fin 1 → IVec S16 32) a x).toNat < S6144.size a := fun v851 k0_hw882 => k0_hw882

def k0_chk883 (v856 : IVec S16 32) : Prop :=
  (∀ a x, ((![v856] : Fin 1 → IVec S16 32) a x).toNat < S6144.size a)
theorem k0_idx883_inb : ∀ (v856 : IVec S16 32) (k0_hw883 : k0_chk883 v856), ∀ a x, ((![v856] : Fin 1 → IVec S16 32) a x).toNat < S6144.size a := fun v856 k0_hw883 => k0_hw883

def k0_chk884 (v861 : IVec S16 32) : Prop :=
  (∀ a x, ((![v861] : Fin 1 → IVec S16 32) a x).toNat < S6144.size a)
theorem k0_idx884_inb : ∀ (v861 : IVec S16 32) (k0_hw884 : k0_chk884 v861), ∀ a x, ((![v861] : Fin 1 → IVec S16 32) a x).toNat < S6144.size a := fun v861 k0_hw884 => k0_hw884

def k0_chk885 (v866 : IVec S16 32) : Prop :=
  (∀ a x, ((![v866] : Fin 1 → IVec S16 32) a x).toNat < S6144.size a)
theorem k0_idx885_inb : ∀ (v866 : IVec S16 32) (k0_hw885 : k0_chk885 v866), ∀ a x, ((![v866] : Fin 1 → IVec S16 32) a x).toNat < S6144.size a := fun v866 k0_hw885 => k0_hw885

def k0_chk886 (v871 : IVec S16 32) : Prop :=
  (∀ a x, ((![v871] : Fin 1 → IVec S16 32) a x).toNat < S6144.size a)
theorem k0_idx886_inb : ∀ (v871 : IVec S16 32) (k0_hw886 : k0_chk886 v871), ∀ a x, ((![v871] : Fin 1 → IVec S16 32) a x).toNat < S6144.size a := fun v871 k0_hw886 => k0_hw886

def k0_chk887 (v876 : IVec S16 32) : Prop :=
  (∀ a x, ((![v876] : Fin 1 → IVec S16 32) a x).toNat < S6144.size a)
theorem k0_idx887_inb : ∀ (v876 : IVec S16 32) (k0_hw887 : k0_chk887 v876), ∀ a x, ((![v876] : Fin 1 → IVec S16 32) a x).toNat < S6144.size a := fun v876 k0_hw887 => k0_hw887

def k0_chk888 (v881 : IVec S16 32) : Prop :=
  (∀ a x, ((![v881] : Fin 1 → IVec S16 32) a x).toNat < S6144.size a)
theorem k0_idx888_inb : ∀ (v881 : IVec S16 32) (k0_hw888 : k0_chk888 v881), ∀ a x, ((![v881] : Fin 1 → IVec S16 32) a x).toNat < S6144.size a := fun v881 k0_hw888 => k0_hw888

def k0_chk889 (v886 : IVec S16 32) : Prop :=
  (∀ a x, ((![v886] : Fin 1 → IVec S16 32) a x).toNat < S6144.size a)
theorem k0_idx889_inb : ∀ (v886 : IVec S16 32) (k0_hw889 : k0_chk889 v886), ∀ a x, ((![v886] : Fin 1 → IVec S16 32) a x).toNat < S6144.size a := fun v886 k0_hw889 => k0_hw889

def k0_chk890 (v891 : IVec S16 32) : Prop :=
  (∀ a x, ((![v891] : Fin 1 → IVec S16 32) a x).toNat < S6144.size a)
theorem k0_idx890_inb : ∀ (v891 : IVec S16 32) (k0_hw890 : k0_chk890 v891), ∀ a x, ((![v891] : Fin 1 → IVec S16 32) a x).toNat < S6144.size a := fun v891 k0_hw890 => k0_hw890

def k0_chk891 (v896 : IVec S16 32) : Prop :=
  (∀ a x, ((![v896] : Fin 1 → IVec S16 32) a x).toNat < S6144.size a)
theorem k0_idx891_inb : ∀ (v896 : IVec S16 32) (k0_hw891 : k0_chk891 v896), ∀ a x, ((![v896] : Fin 1 → IVec S16 32) a x).toNat < S6144.size a := fun v896 k0_hw891 => k0_hw891

def k0_chk892 (v901 : IVec S16 32) : Prop :=
  (∀ a x, ((![v901] : Fin 1 → IVec S16 32) a x).toNat < S6144.size a)
theorem k0_idx892_inb : ∀ (v901 : IVec S16 32) (k0_hw892 : k0_chk892 v901), ∀ a x, ((![v901] : Fin 1 → IVec S16 32) a x).toNat < S6144.size a := fun v901 k0_hw892 => k0_hw892

def k0_chk893 (v906 : IVec S16 32) : Prop :=
  (∀ a x, ((![v906] : Fin 1 → IVec S16 32) a x).toNat < S6144.size a)
theorem k0_idx893_inb : ∀ (v906 : IVec S16 32) (k0_hw893 : k0_chk893 v906), ∀ a x, ((![v906] : Fin 1 → IVec S16 32) a x).toNat < S6144.size a := fun v906 k0_hw893 => k0_hw893

def k0_chk894 (v911 : IVec S16 32) : Prop :=
  (∀ a x, ((![v911] : Fin 1 → IVec S16 32) a x).toNat < S6144.size a)
theorem k0_idx894_inb : ∀ (v911 : IVec S16 32) (k0_hw894 : k0_chk894 v911), ∀ a x, ((![v911] : Fin 1 → IVec S16 32) a x).toNat < S6144.size a := fun v911 k0_hw894 => k0_hw894

def k0_chk895 (v916 : IVec S16 32) : Prop :=
  (∀ a x, ((![v916] : Fin 1 → IVec S16 32) a x).toNat < S6144.size a)
theorem k0_idx895_inb : ∀ (v916 : IVec S16 32) (k0_hw895 : k0_chk895 v916), ∀ a x, ((![v916] : Fin 1 → IVec S16 32) a x).toNat < S6144.size a := fun v916 k0_hw895 => k0_hw895

def k0_chk896 (v921 : IVec S16 32) : Prop :=
  (∀ a x, ((![v921] : Fin 1 → IVec S16 32) a x).toNat < S6144.size a)
theorem k0_idx896_inb : ∀ (v921 : IVec S16 32) (k0_hw896 : k0_chk896 v921), ∀ a x, ((![v921] : Fin 1 → IVec S16 32) a x).toNat < S6144.size a := fun v921 k0_hw896 => k0_hw896
@[reducible] def k0_t30_loop : Scf.Loop 32 :=
  let c0_i32_464 : BitVec 32 := 0#32
  let c64_i32_465 : BitVec 32 := 64#32
  let v332 : BitVec 32 := Scalar.addi c0_i32_464 c64_i32_465
  let c1_i32_466 : BitVec 32 := 1#32
  ⟨c0_i32_464, v332, c1_i32_466⟩
def k0_off54 (k0_t30 : Fin k0_t30_loop.trips) (c0_i32_762 : BitVec 32) : Fin 2 → Nat :=
  let c0_i32_464 : BitVec 32 := 0#32
  let c1_i32_466 : BitVec 32 := 1#32
  let arg12 : BitVec 32 := Scf.iv c0_i32_464 c1_i32_466 k0_t30
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk897 (v766 : IVec S16 32) : Prop :=
  (∀ a x, ((![v766] : Fin 1 → IVec S16 32) a x).toNat < S6144.size a)
theorem k0_idx897_inb : ∀ (v766 : IVec S16 32) (k0_hw897 : k0_chk897 v766), ∀ a x, ((![v766] : Fin 1 → IVec S16 32) a x).toNat < S6144.size a := fun v766 k0_hw897 => k0_hw897

def k0_chk898 (v771 : IVec S16 32) : Prop :=
  (∀ a x, ((![v771] : Fin 1 → IVec S16 32) a x).toNat < S6144.size a)
theorem k0_idx898_inb : ∀ (v771 : IVec S16 32) (k0_hw898 : k0_chk898 v771), ∀ a x, ((![v771] : Fin 1 → IVec S16 32) a x).toNat < S6144.size a := fun v771 k0_hw898 => k0_hw898

def k0_chk899 (v776 : IVec S16 32) : Prop :=
  (∀ a x, ((![v776] : Fin 1 → IVec S16 32) a x).toNat < S6144.size a)
theorem k0_idx899_inb : ∀ (v776 : IVec S16 32) (k0_hw899 : k0_chk899 v776), ∀ a x, ((![v776] : Fin 1 → IVec S16 32) a x).toNat < S6144.size a := fun v776 k0_hw899 => k0_hw899

def k0_chk900 (v781 : IVec S16 32) : Prop :=
  (∀ a x, ((![v781] : Fin 1 → IVec S16 32) a x).toNat < S6144.size a)
theorem k0_idx900_inb : ∀ (v781 : IVec S16 32) (k0_hw900 : k0_chk900 v781), ∀ a x, ((![v781] : Fin 1 → IVec S16 32) a x).toNat < S6144.size a := fun v781 k0_hw900 => k0_hw900

def k0_chk901 (v786 : IVec S16 32) : Prop :=
  (∀ a x, ((![v786] : Fin 1 → IVec S16 32) a x).toNat < S6144.size a)
theorem k0_idx901_inb : ∀ (v786 : IVec S16 32) (k0_hw901 : k0_chk901 v786), ∀ a x, ((![v786] : Fin 1 → IVec S16 32) a x).toNat < S6144.size a := fun v786 k0_hw901 => k0_hw901

def k0_chk902 (v791 : IVec S16 32) : Prop :=
  (∀ a x, ((![v791] : Fin 1 → IVec S16 32) a x).toNat < S6144.size a)
theorem k0_idx902_inb : ∀ (v791 : IVec S16 32) (k0_hw902 : k0_chk902 v791), ∀ a x, ((![v791] : Fin 1 → IVec S16 32) a x).toNat < S6144.size a := fun v791 k0_hw902 => k0_hw902

def k0_chk903 (v796 : IVec S16 32) : Prop :=
  (∀ a x, ((![v796] : Fin 1 → IVec S16 32) a x).toNat < S6144.size a)
theorem k0_idx903_inb : ∀ (v796 : IVec S16 32) (k0_hw903 : k0_chk903 v796), ∀ a x, ((![v796] : Fin 1 → IVec S16 32) a x).toNat < S6144.size a := fun v796 k0_hw903 => k0_hw903

def k0_chk904 (v801 : IVec S16 32) : Prop :=
  (∀ a x, ((![v801] : Fin 1 → IVec S16 32) a x).toNat < S6144.size a)
theorem k0_idx904_inb : ∀ (v801 : IVec S16 32) (k0_hw904 : k0_chk904 v801), ∀ a x, ((![v801] : Fin 1 → IVec S16 32) a x).toNat < S6144.size a := fun v801 k0_hw904 => k0_hw904

def k0_chk905 (v806 : IVec S16 32) : Prop :=
  (∀ a x, ((![v806] : Fin 1 → IVec S16 32) a x).toNat < S6144.size a)
theorem k0_idx905_inb : ∀ (v806 : IVec S16 32) (k0_hw905 : k0_chk905 v806), ∀ a x, ((![v806] : Fin 1 → IVec S16 32) a x).toNat < S6144.size a := fun v806 k0_hw905 => k0_hw905

def k0_chk906 (v811 : IVec S16 32) : Prop :=
  (∀ a x, ((![v811] : Fin 1 → IVec S16 32) a x).toNat < S6144.size a)
theorem k0_idx906_inb : ∀ (v811 : IVec S16 32) (k0_hw906 : k0_chk906 v811), ∀ a x, ((![v811] : Fin 1 → IVec S16 32) a x).toNat < S6144.size a := fun v811 k0_hw906 => k0_hw906

def k0_chk907 (v816 : IVec S16 32) : Prop :=
  (∀ a x, ((![v816] : Fin 1 → IVec S16 32) a x).toNat < S6144.size a)
theorem k0_idx907_inb : ∀ (v816 : IVec S16 32) (k0_hw907 : k0_chk907 v816), ∀ a x, ((![v816] : Fin 1 → IVec S16 32) a x).toNat < S6144.size a := fun v816 k0_hw907 => k0_hw907

def k0_chk908 (v821 : IVec S16 32) : Prop :=
  (∀ a x, ((![v821] : Fin 1 → IVec S16 32) a x).toNat < S6144.size a)
theorem k0_idx908_inb : ∀ (v821 : IVec S16 32) (k0_hw908 : k0_chk908 v821), ∀ a x, ((![v821] : Fin 1 → IVec S16 32) a x).toNat < S6144.size a := fun v821 k0_hw908 => k0_hw908

def k0_chk909 (v826 : IVec S16 32) : Prop :=
  (∀ a x, ((![v826] : Fin 1 → IVec S16 32) a x).toNat < S6144.size a)
theorem k0_idx909_inb : ∀ (v826 : IVec S16 32) (k0_hw909 : k0_chk909 v826), ∀ a x, ((![v826] : Fin 1 → IVec S16 32) a x).toNat < S6144.size a := fun v826 k0_hw909 => k0_hw909

def k0_chk910 (v831 : IVec S16 32) : Prop :=
  (∀ a x, ((![v831] : Fin 1 → IVec S16 32) a x).toNat < S6144.size a)
theorem k0_idx910_inb : ∀ (v831 : IVec S16 32) (k0_hw910 : k0_chk910 v831), ∀ a x, ((![v831] : Fin 1 → IVec S16 32) a x).toNat < S6144.size a := fun v831 k0_hw910 => k0_hw910

def k0_chk911 (v836 : IVec S16 32) : Prop :=
  (∀ a x, ((![v836] : Fin 1 → IVec S16 32) a x).toNat < S6144.size a)
theorem k0_idx911_inb : ∀ (v836 : IVec S16 32) (k0_hw911 : k0_chk911 v836), ∀ a x, ((![v836] : Fin 1 → IVec S16 32) a x).toNat < S6144.size a := fun v836 k0_hw911 => k0_hw911

def k0_chk912 (v841 : IVec S16 32) : Prop :=
  (∀ a x, ((![v841] : Fin 1 → IVec S16 32) a x).toNat < S6144.size a)
theorem k0_idx912_inb : ∀ (v841 : IVec S16 32) (k0_hw912 : k0_chk912 v841), ∀ a x, ((![v841] : Fin 1 → IVec S16 32) a x).toNat < S6144.size a := fun v841 k0_hw912 => k0_hw912

def k0_chk913 (v846 : IVec S16 32) : Prop :=
  (∀ a x, ((![v846] : Fin 1 → IVec S16 32) a x).toNat < S6144.size a)
theorem k0_idx913_inb : ∀ (v846 : IVec S16 32) (k0_hw913 : k0_chk913 v846), ∀ a x, ((![v846] : Fin 1 → IVec S16 32) a x).toNat < S6144.size a := fun v846 k0_hw913 => k0_hw913

def k0_chk914 (v851 : IVec S16 32) : Prop :=
  (∀ a x, ((![v851] : Fin 1 → IVec S16 32) a x).toNat < S6144.size a)
theorem k0_idx914_inb : ∀ (v851 : IVec S16 32) (k0_hw914 : k0_chk914 v851), ∀ a x, ((![v851] : Fin 1 → IVec S16 32) a x).toNat < S6144.size a := fun v851 k0_hw914 => k0_hw914

def k0_chk915 (v856 : IVec S16 32) : Prop :=
  (∀ a x, ((![v856] : Fin 1 → IVec S16 32) a x).toNat < S6144.size a)
theorem k0_idx915_inb : ∀ (v856 : IVec S16 32) (k0_hw915 : k0_chk915 v856), ∀ a x, ((![v856] : Fin 1 → IVec S16 32) a x).toNat < S6144.size a := fun v856 k0_hw915 => k0_hw915

def k0_chk916 (v861 : IVec S16 32) : Prop :=
  (∀ a x, ((![v861] : Fin 1 → IVec S16 32) a x).toNat < S6144.size a)
theorem k0_idx916_inb : ∀ (v861 : IVec S16 32) (k0_hw916 : k0_chk916 v861), ∀ a x, ((![v861] : Fin 1 → IVec S16 32) a x).toNat < S6144.size a := fun v861 k0_hw916 => k0_hw916

def k0_chk917 (v866 : IVec S16 32) : Prop :=
  (∀ a x, ((![v866] : Fin 1 → IVec S16 32) a x).toNat < S6144.size a)
theorem k0_idx917_inb : ∀ (v866 : IVec S16 32) (k0_hw917 : k0_chk917 v866), ∀ a x, ((![v866] : Fin 1 → IVec S16 32) a x).toNat < S6144.size a := fun v866 k0_hw917 => k0_hw917

def k0_chk918 (v871 : IVec S16 32) : Prop :=
  (∀ a x, ((![v871] : Fin 1 → IVec S16 32) a x).toNat < S6144.size a)
theorem k0_idx918_inb : ∀ (v871 : IVec S16 32) (k0_hw918 : k0_chk918 v871), ∀ a x, ((![v871] : Fin 1 → IVec S16 32) a x).toNat < S6144.size a := fun v871 k0_hw918 => k0_hw918

def k0_chk919 (v876 : IVec S16 32) : Prop :=
  (∀ a x, ((![v876] : Fin 1 → IVec S16 32) a x).toNat < S6144.size a)
theorem k0_idx919_inb : ∀ (v876 : IVec S16 32) (k0_hw919 : k0_chk919 v876), ∀ a x, ((![v876] : Fin 1 → IVec S16 32) a x).toNat < S6144.size a := fun v876 k0_hw919 => k0_hw919

def k0_chk920 (v881 : IVec S16 32) : Prop :=
  (∀ a x, ((![v881] : Fin 1 → IVec S16 32) a x).toNat < S6144.size a)
theorem k0_idx920_inb : ∀ (v881 : IVec S16 32) (k0_hw920 : k0_chk920 v881), ∀ a x, ((![v881] : Fin 1 → IVec S16 32) a x).toNat < S6144.size a := fun v881 k0_hw920 => k0_hw920

def k0_chk921 (v886 : IVec S16 32) : Prop :=
  (∀ a x, ((![v886] : Fin 1 → IVec S16 32) a x).toNat < S6144.size a)
theorem k0_idx921_inb : ∀ (v886 : IVec S16 32) (k0_hw921 : k0_chk921 v886), ∀ a x, ((![v886] : Fin 1 → IVec S16 32) a x).toNat < S6144.size a := fun v886 k0_hw921 => k0_hw921

def k0_chk922 (v891 : IVec S16 32) : Prop :=
  (∀ a x, ((![v891] : Fin 1 → IVec S16 32) a x).toNat < S6144.size a)
theorem k0_idx922_inb : ∀ (v891 : IVec S16 32) (k0_hw922 : k0_chk922 v891), ∀ a x, ((![v891] : Fin 1 → IVec S16 32) a x).toNat < S6144.size a := fun v891 k0_hw922 => k0_hw922

def k0_chk923 (v896 : IVec S16 32) : Prop :=
  (∀ a x, ((![v896] : Fin 1 → IVec S16 32) a x).toNat < S6144.size a)
theorem k0_idx923_inb : ∀ (v896 : IVec S16 32) (k0_hw923 : k0_chk923 v896), ∀ a x, ((![v896] : Fin 1 → IVec S16 32) a x).toNat < S6144.size a := fun v896 k0_hw923 => k0_hw923

def k0_chk924 (v901 : IVec S16 32) : Prop :=
  (∀ a x, ((![v901] : Fin 1 → IVec S16 32) a x).toNat < S6144.size a)
theorem k0_idx924_inb : ∀ (v901 : IVec S16 32) (k0_hw924 : k0_chk924 v901), ∀ a x, ((![v901] : Fin 1 → IVec S16 32) a x).toNat < S6144.size a := fun v901 k0_hw924 => k0_hw924

def k0_chk925 (v906 : IVec S16 32) : Prop :=
  (∀ a x, ((![v906] : Fin 1 → IVec S16 32) a x).toNat < S6144.size a)
theorem k0_idx925_inb : ∀ (v906 : IVec S16 32) (k0_hw925 : k0_chk925 v906), ∀ a x, ((![v906] : Fin 1 → IVec S16 32) a x).toNat < S6144.size a := fun v906 k0_hw925 => k0_hw925

def k0_chk926 (v911 : IVec S16 32) : Prop :=
  (∀ a x, ((![v911] : Fin 1 → IVec S16 32) a x).toNat < S6144.size a)
theorem k0_idx926_inb : ∀ (v911 : IVec S16 32) (k0_hw926 : k0_chk926 v911), ∀ a x, ((![v911] : Fin 1 → IVec S16 32) a x).toNat < S6144.size a := fun v911 k0_hw926 => k0_hw926

def k0_chk927 (v916 : IVec S16 32) : Prop :=
  (∀ a x, ((![v916] : Fin 1 → IVec S16 32) a x).toNat < S6144.size a)
theorem k0_idx927_inb : ∀ (v916 : IVec S16 32) (k0_hw927 : k0_chk927 v916), ∀ a x, ((![v916] : Fin 1 → IVec S16 32) a x).toNat < S6144.size a := fun v916 k0_hw927 => k0_hw927

def k0_chk928 (v921 : IVec S16 32) : Prop :=
  (∀ a x, ((![v921] : Fin 1 → IVec S16 32) a x).toNat < S6144.size a)
theorem k0_idx928_inb : ∀ (v921 : IVec S16 32) (k0_hw928 : k0_chk928 v921), ∀ a x, ((![v921] : Fin 1 → IVec S16 32) a x).toNat < S6144.size a := fun v921 k0_hw928 => k0_hw928
@[reducible] def k0_t31_loop : Scf.Loop 32 :=
  let c0_i32_480 : BitVec 32 := 0#32
  let c64_i32_481 : BitVec 32 := 64#32
  let v343 : BitVec 32 := Scalar.addi c0_i32_480 c64_i32_481
  let c1_i32_482 : BitVec 32 := 1#32
  ⟨c0_i32_480, v343, c1_i32_482⟩
def k0_off55 (k0_t31 : Fin k0_t31_loop.trips) (c0_i32_762 : BitVec 32) : Fin 2 → Nat :=
  let c0_i32_480 : BitVec 32 := 0#32
  let c1_i32_482 : BitVec 32 := 1#32
  let arg12 : BitVec 32 := Scf.iv c0_i32_480 c1_i32_482 k0_t31
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk929 (v766 : IVec S16 32) : Prop :=
  (∀ a x, ((![v766] : Fin 1 → IVec S16 32) a x).toNat < S6144.size a)
theorem k0_idx929_inb : ∀ (v766 : IVec S16 32) (k0_hw929 : k0_chk929 v766), ∀ a x, ((![v766] : Fin 1 → IVec S16 32) a x).toNat < S6144.size a := fun v766 k0_hw929 => k0_hw929

def k0_chk930 (v771 : IVec S16 32) : Prop :=
  (∀ a x, ((![v771] : Fin 1 → IVec S16 32) a x).toNat < S6144.size a)
theorem k0_idx930_inb : ∀ (v771 : IVec S16 32) (k0_hw930 : k0_chk930 v771), ∀ a x, ((![v771] : Fin 1 → IVec S16 32) a x).toNat < S6144.size a := fun v771 k0_hw930 => k0_hw930

def k0_chk931 (v776 : IVec S16 32) : Prop :=
  (∀ a x, ((![v776] : Fin 1 → IVec S16 32) a x).toNat < S6144.size a)
theorem k0_idx931_inb : ∀ (v776 : IVec S16 32) (k0_hw931 : k0_chk931 v776), ∀ a x, ((![v776] : Fin 1 → IVec S16 32) a x).toNat < S6144.size a := fun v776 k0_hw931 => k0_hw931

def k0_chk932 (v781 : IVec S16 32) : Prop :=
  (∀ a x, ((![v781] : Fin 1 → IVec S16 32) a x).toNat < S6144.size a)
theorem k0_idx932_inb : ∀ (v781 : IVec S16 32) (k0_hw932 : k0_chk932 v781), ∀ a x, ((![v781] : Fin 1 → IVec S16 32) a x).toNat < S6144.size a := fun v781 k0_hw932 => k0_hw932

def k0_chk933 (v786 : IVec S16 32) : Prop :=
  (∀ a x, ((![v786] : Fin 1 → IVec S16 32) a x).toNat < S6144.size a)
theorem k0_idx933_inb : ∀ (v786 : IVec S16 32) (k0_hw933 : k0_chk933 v786), ∀ a x, ((![v786] : Fin 1 → IVec S16 32) a x).toNat < S6144.size a := fun v786 k0_hw933 => k0_hw933

def k0_chk934 (v791 : IVec S16 32) : Prop :=
  (∀ a x, ((![v791] : Fin 1 → IVec S16 32) a x).toNat < S6144.size a)
theorem k0_idx934_inb : ∀ (v791 : IVec S16 32) (k0_hw934 : k0_chk934 v791), ∀ a x, ((![v791] : Fin 1 → IVec S16 32) a x).toNat < S6144.size a := fun v791 k0_hw934 => k0_hw934

def k0_chk935 (v796 : IVec S16 32) : Prop :=
  (∀ a x, ((![v796] : Fin 1 → IVec S16 32) a x).toNat < S6144.size a)
theorem k0_idx935_inb : ∀ (v796 : IVec S16 32) (k0_hw935 : k0_chk935 v796), ∀ a x, ((![v796] : Fin 1 → IVec S16 32) a x).toNat < S6144.size a := fun v796 k0_hw935 => k0_hw935

def k0_chk936 (v801 : IVec S16 32) : Prop :=
  (∀ a x, ((![v801] : Fin 1 → IVec S16 32) a x).toNat < S6144.size a)
theorem k0_idx936_inb : ∀ (v801 : IVec S16 32) (k0_hw936 : k0_chk936 v801), ∀ a x, ((![v801] : Fin 1 → IVec S16 32) a x).toNat < S6144.size a := fun v801 k0_hw936 => k0_hw936

def k0_chk937 (v806 : IVec S16 32) : Prop :=
  (∀ a x, ((![v806] : Fin 1 → IVec S16 32) a x).toNat < S6144.size a)
theorem k0_idx937_inb : ∀ (v806 : IVec S16 32) (k0_hw937 : k0_chk937 v806), ∀ a x, ((![v806] : Fin 1 → IVec S16 32) a x).toNat < S6144.size a := fun v806 k0_hw937 => k0_hw937

def k0_chk938 (v811 : IVec S16 32) : Prop :=
  (∀ a x, ((![v811] : Fin 1 → IVec S16 32) a x).toNat < S6144.size a)
theorem k0_idx938_inb : ∀ (v811 : IVec S16 32) (k0_hw938 : k0_chk938 v811), ∀ a x, ((![v811] : Fin 1 → IVec S16 32) a x).toNat < S6144.size a := fun v811 k0_hw938 => k0_hw938

def k0_chk939 (v816 : IVec S16 32) : Prop :=
  (∀ a x, ((![v816] : Fin 1 → IVec S16 32) a x).toNat < S6144.size a)
theorem k0_idx939_inb : ∀ (v816 : IVec S16 32) (k0_hw939 : k0_chk939 v816), ∀ a x, ((![v816] : Fin 1 → IVec S16 32) a x).toNat < S6144.size a := fun v816 k0_hw939 => k0_hw939

def k0_chk940 (v821 : IVec S16 32) : Prop :=
  (∀ a x, ((![v821] : Fin 1 → IVec S16 32) a x).toNat < S6144.size a)
theorem k0_idx940_inb : ∀ (v821 : IVec S16 32) (k0_hw940 : k0_chk940 v821), ∀ a x, ((![v821] : Fin 1 → IVec S16 32) a x).toNat < S6144.size a := fun v821 k0_hw940 => k0_hw940

def k0_chk941 (v826 : IVec S16 32) : Prop :=
  (∀ a x, ((![v826] : Fin 1 → IVec S16 32) a x).toNat < S6144.size a)
theorem k0_idx941_inb : ∀ (v826 : IVec S16 32) (k0_hw941 : k0_chk941 v826), ∀ a x, ((![v826] : Fin 1 → IVec S16 32) a x).toNat < S6144.size a := fun v826 k0_hw941 => k0_hw941

def k0_chk942 (v831 : IVec S16 32) : Prop :=
  (∀ a x, ((![v831] : Fin 1 → IVec S16 32) a x).toNat < S6144.size a)
theorem k0_idx942_inb : ∀ (v831 : IVec S16 32) (k0_hw942 : k0_chk942 v831), ∀ a x, ((![v831] : Fin 1 → IVec S16 32) a x).toNat < S6144.size a := fun v831 k0_hw942 => k0_hw942

def k0_chk943 (v836 : IVec S16 32) : Prop :=
  (∀ a x, ((![v836] : Fin 1 → IVec S16 32) a x).toNat < S6144.size a)
theorem k0_idx943_inb : ∀ (v836 : IVec S16 32) (k0_hw943 : k0_chk943 v836), ∀ a x, ((![v836] : Fin 1 → IVec S16 32) a x).toNat < S6144.size a := fun v836 k0_hw943 => k0_hw943

def k0_chk944 (v841 : IVec S16 32) : Prop :=
  (∀ a x, ((![v841] : Fin 1 → IVec S16 32) a x).toNat < S6144.size a)
theorem k0_idx944_inb : ∀ (v841 : IVec S16 32) (k0_hw944 : k0_chk944 v841), ∀ a x, ((![v841] : Fin 1 → IVec S16 32) a x).toNat < S6144.size a := fun v841 k0_hw944 => k0_hw944

def k0_chk945 (v846 : IVec S16 32) : Prop :=
  (∀ a x, ((![v846] : Fin 1 → IVec S16 32) a x).toNat < S6144.size a)
theorem k0_idx945_inb : ∀ (v846 : IVec S16 32) (k0_hw945 : k0_chk945 v846), ∀ a x, ((![v846] : Fin 1 → IVec S16 32) a x).toNat < S6144.size a := fun v846 k0_hw945 => k0_hw945

def k0_chk946 (v851 : IVec S16 32) : Prop :=
  (∀ a x, ((![v851] : Fin 1 → IVec S16 32) a x).toNat < S6144.size a)
theorem k0_idx946_inb : ∀ (v851 : IVec S16 32) (k0_hw946 : k0_chk946 v851), ∀ a x, ((![v851] : Fin 1 → IVec S16 32) a x).toNat < S6144.size a := fun v851 k0_hw946 => k0_hw946

def k0_chk947 (v856 : IVec S16 32) : Prop :=
  (∀ a x, ((![v856] : Fin 1 → IVec S16 32) a x).toNat < S6144.size a)
theorem k0_idx947_inb : ∀ (v856 : IVec S16 32) (k0_hw947 : k0_chk947 v856), ∀ a x, ((![v856] : Fin 1 → IVec S16 32) a x).toNat < S6144.size a := fun v856 k0_hw947 => k0_hw947

def k0_chk948 (v861 : IVec S16 32) : Prop :=
  (∀ a x, ((![v861] : Fin 1 → IVec S16 32) a x).toNat < S6144.size a)
theorem k0_idx948_inb : ∀ (v861 : IVec S16 32) (k0_hw948 : k0_chk948 v861), ∀ a x, ((![v861] : Fin 1 → IVec S16 32) a x).toNat < S6144.size a := fun v861 k0_hw948 => k0_hw948

def k0_chk949 (v866 : IVec S16 32) : Prop :=
  (∀ a x, ((![v866] : Fin 1 → IVec S16 32) a x).toNat < S6144.size a)
theorem k0_idx949_inb : ∀ (v866 : IVec S16 32) (k0_hw949 : k0_chk949 v866), ∀ a x, ((![v866] : Fin 1 → IVec S16 32) a x).toNat < S6144.size a := fun v866 k0_hw949 => k0_hw949

def k0_chk950 (v871 : IVec S16 32) : Prop :=
  (∀ a x, ((![v871] : Fin 1 → IVec S16 32) a x).toNat < S6144.size a)
theorem k0_idx950_inb : ∀ (v871 : IVec S16 32) (k0_hw950 : k0_chk950 v871), ∀ a x, ((![v871] : Fin 1 → IVec S16 32) a x).toNat < S6144.size a := fun v871 k0_hw950 => k0_hw950

def k0_chk951 (v876 : IVec S16 32) : Prop :=
  (∀ a x, ((![v876] : Fin 1 → IVec S16 32) a x).toNat < S6144.size a)
theorem k0_idx951_inb : ∀ (v876 : IVec S16 32) (k0_hw951 : k0_chk951 v876), ∀ a x, ((![v876] : Fin 1 → IVec S16 32) a x).toNat < S6144.size a := fun v876 k0_hw951 => k0_hw951

def k0_chk952 (v881 : IVec S16 32) : Prop :=
  (∀ a x, ((![v881] : Fin 1 → IVec S16 32) a x).toNat < S6144.size a)
theorem k0_idx952_inb : ∀ (v881 : IVec S16 32) (k0_hw952 : k0_chk952 v881), ∀ a x, ((![v881] : Fin 1 → IVec S16 32) a x).toNat < S6144.size a := fun v881 k0_hw952 => k0_hw952

def k0_chk953 (v886 : IVec S16 32) : Prop :=
  (∀ a x, ((![v886] : Fin 1 → IVec S16 32) a x).toNat < S6144.size a)
theorem k0_idx953_inb : ∀ (v886 : IVec S16 32) (k0_hw953 : k0_chk953 v886), ∀ a x, ((![v886] : Fin 1 → IVec S16 32) a x).toNat < S6144.size a := fun v886 k0_hw953 => k0_hw953

def k0_chk954 (v891 : IVec S16 32) : Prop :=
  (∀ a x, ((![v891] : Fin 1 → IVec S16 32) a x).toNat < S6144.size a)
theorem k0_idx954_inb : ∀ (v891 : IVec S16 32) (k0_hw954 : k0_chk954 v891), ∀ a x, ((![v891] : Fin 1 → IVec S16 32) a x).toNat < S6144.size a := fun v891 k0_hw954 => k0_hw954

def k0_chk955 (v896 : IVec S16 32) : Prop :=
  (∀ a x, ((![v896] : Fin 1 → IVec S16 32) a x).toNat < S6144.size a)
theorem k0_idx955_inb : ∀ (v896 : IVec S16 32) (k0_hw955 : k0_chk955 v896), ∀ a x, ((![v896] : Fin 1 → IVec S16 32) a x).toNat < S6144.size a := fun v896 k0_hw955 => k0_hw955

def k0_chk956 (v901 : IVec S16 32) : Prop :=
  (∀ a x, ((![v901] : Fin 1 → IVec S16 32) a x).toNat < S6144.size a)
theorem k0_idx956_inb : ∀ (v901 : IVec S16 32) (k0_hw956 : k0_chk956 v901), ∀ a x, ((![v901] : Fin 1 → IVec S16 32) a x).toNat < S6144.size a := fun v901 k0_hw956 => k0_hw956

def k0_chk957 (v906 : IVec S16 32) : Prop :=
  (∀ a x, ((![v906] : Fin 1 → IVec S16 32) a x).toNat < S6144.size a)
theorem k0_idx957_inb : ∀ (v906 : IVec S16 32) (k0_hw957 : k0_chk957 v906), ∀ a x, ((![v906] : Fin 1 → IVec S16 32) a x).toNat < S6144.size a := fun v906 k0_hw957 => k0_hw957

def k0_chk958 (v911 : IVec S16 32) : Prop :=
  (∀ a x, ((![v911] : Fin 1 → IVec S16 32) a x).toNat < S6144.size a)
theorem k0_idx958_inb : ∀ (v911 : IVec S16 32) (k0_hw958 : k0_chk958 v911), ∀ a x, ((![v911] : Fin 1 → IVec S16 32) a x).toNat < S6144.size a := fun v911 k0_hw958 => k0_hw958

def k0_chk959 (v916 : IVec S16 32) : Prop :=
  (∀ a x, ((![v916] : Fin 1 → IVec S16 32) a x).toNat < S6144.size a)
theorem k0_idx959_inb : ∀ (v916 : IVec S16 32) (k0_hw959 : k0_chk959 v916), ∀ a x, ((![v916] : Fin 1 → IVec S16 32) a x).toNat < S6144.size a := fun v916 k0_hw959 => k0_hw959

def k0_chk960 (v921 : IVec S16 32) : Prop :=
  (∀ a x, ((![v921] : Fin 1 → IVec S16 32) a x).toNat < S6144.size a)
theorem k0_idx960_inb : ∀ (v921 : IVec S16 32) (k0_hw960 : k0_chk960 v921), ∀ a x, ((![v921] : Fin 1 → IVec S16 32) a x).toNat < S6144.size a := fun v921 k0_hw960 => k0_hw960
@[reducible] def k0_t32_loop : Scf.Loop 32 :=
  let c0_i32_496 : BitVec 32 := 0#32
  let c64_i32_497 : BitVec 32 := 64#32
  let v354 : BitVec 32 := Scalar.addi c0_i32_496 c64_i32_497
  let c1_i32_498 : BitVec 32 := 1#32
  ⟨c0_i32_496, v354, c1_i32_498⟩
def k0_off56 (k0_t32 : Fin k0_t32_loop.trips) (c0_i32_762 : BitVec 32) : Fin 2 → Nat :=
  let c0_i32_496 : BitVec 32 := 0#32
  let c1_i32_498 : BitVec 32 := 1#32
  let arg12 : BitVec 32 := Scf.iv c0_i32_496 c1_i32_498 k0_t32
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk961 (v766 : IVec S16 32) : Prop :=
  (∀ a x, ((![v766] : Fin 1 → IVec S16 32) a x).toNat < S6144.size a)
theorem k0_idx961_inb : ∀ (v766 : IVec S16 32) (k0_hw961 : k0_chk961 v766), ∀ a x, ((![v766] : Fin 1 → IVec S16 32) a x).toNat < S6144.size a := fun v766 k0_hw961 => k0_hw961

def k0_chk962 (v771 : IVec S16 32) : Prop :=
  (∀ a x, ((![v771] : Fin 1 → IVec S16 32) a x).toNat < S6144.size a)
theorem k0_idx962_inb : ∀ (v771 : IVec S16 32) (k0_hw962 : k0_chk962 v771), ∀ a x, ((![v771] : Fin 1 → IVec S16 32) a x).toNat < S6144.size a := fun v771 k0_hw962 => k0_hw962

def k0_chk963 (v776 : IVec S16 32) : Prop :=
  (∀ a x, ((![v776] : Fin 1 → IVec S16 32) a x).toNat < S6144.size a)
theorem k0_idx963_inb : ∀ (v776 : IVec S16 32) (k0_hw963 : k0_chk963 v776), ∀ a x, ((![v776] : Fin 1 → IVec S16 32) a x).toNat < S6144.size a := fun v776 k0_hw963 => k0_hw963

def k0_chk964 (v781 : IVec S16 32) : Prop :=
  (∀ a x, ((![v781] : Fin 1 → IVec S16 32) a x).toNat < S6144.size a)
theorem k0_idx964_inb : ∀ (v781 : IVec S16 32) (k0_hw964 : k0_chk964 v781), ∀ a x, ((![v781] : Fin 1 → IVec S16 32) a x).toNat < S6144.size a := fun v781 k0_hw964 => k0_hw964

def k0_chk965 (v786 : IVec S16 32) : Prop :=
  (∀ a x, ((![v786] : Fin 1 → IVec S16 32) a x).toNat < S6144.size a)
theorem k0_idx965_inb : ∀ (v786 : IVec S16 32) (k0_hw965 : k0_chk965 v786), ∀ a x, ((![v786] : Fin 1 → IVec S16 32) a x).toNat < S6144.size a := fun v786 k0_hw965 => k0_hw965

def k0_chk966 (v791 : IVec S16 32) : Prop :=
  (∀ a x, ((![v791] : Fin 1 → IVec S16 32) a x).toNat < S6144.size a)
theorem k0_idx966_inb : ∀ (v791 : IVec S16 32) (k0_hw966 : k0_chk966 v791), ∀ a x, ((![v791] : Fin 1 → IVec S16 32) a x).toNat < S6144.size a := fun v791 k0_hw966 => k0_hw966

def k0_chk967 (v796 : IVec S16 32) : Prop :=
  (∀ a x, ((![v796] : Fin 1 → IVec S16 32) a x).toNat < S6144.size a)
theorem k0_idx967_inb : ∀ (v796 : IVec S16 32) (k0_hw967 : k0_chk967 v796), ∀ a x, ((![v796] : Fin 1 → IVec S16 32) a x).toNat < S6144.size a := fun v796 k0_hw967 => k0_hw967

def k0_chk968 (v801 : IVec S16 32) : Prop :=
  (∀ a x, ((![v801] : Fin 1 → IVec S16 32) a x).toNat < S6144.size a)
theorem k0_idx968_inb : ∀ (v801 : IVec S16 32) (k0_hw968 : k0_chk968 v801), ∀ a x, ((![v801] : Fin 1 → IVec S16 32) a x).toNat < S6144.size a := fun v801 k0_hw968 => k0_hw968

def k0_chk969 (v806 : IVec S16 32) : Prop :=
  (∀ a x, ((![v806] : Fin 1 → IVec S16 32) a x).toNat < S6144.size a)
theorem k0_idx969_inb : ∀ (v806 : IVec S16 32) (k0_hw969 : k0_chk969 v806), ∀ a x, ((![v806] : Fin 1 → IVec S16 32) a x).toNat < S6144.size a := fun v806 k0_hw969 => k0_hw969

def k0_chk970 (v811 : IVec S16 32) : Prop :=
  (∀ a x, ((![v811] : Fin 1 → IVec S16 32) a x).toNat < S6144.size a)
theorem k0_idx970_inb : ∀ (v811 : IVec S16 32) (k0_hw970 : k0_chk970 v811), ∀ a x, ((![v811] : Fin 1 → IVec S16 32) a x).toNat < S6144.size a := fun v811 k0_hw970 => k0_hw970

def k0_chk971 (v816 : IVec S16 32) : Prop :=
  (∀ a x, ((![v816] : Fin 1 → IVec S16 32) a x).toNat < S6144.size a)
theorem k0_idx971_inb : ∀ (v816 : IVec S16 32) (k0_hw971 : k0_chk971 v816), ∀ a x, ((![v816] : Fin 1 → IVec S16 32) a x).toNat < S6144.size a := fun v816 k0_hw971 => k0_hw971

def k0_chk972 (v821 : IVec S16 32) : Prop :=
  (∀ a x, ((![v821] : Fin 1 → IVec S16 32) a x).toNat < S6144.size a)
theorem k0_idx972_inb : ∀ (v821 : IVec S16 32) (k0_hw972 : k0_chk972 v821), ∀ a x, ((![v821] : Fin 1 → IVec S16 32) a x).toNat < S6144.size a := fun v821 k0_hw972 => k0_hw972

def k0_chk973 (v826 : IVec S16 32) : Prop :=
  (∀ a x, ((![v826] : Fin 1 → IVec S16 32) a x).toNat < S6144.size a)
theorem k0_idx973_inb : ∀ (v826 : IVec S16 32) (k0_hw973 : k0_chk973 v826), ∀ a x, ((![v826] : Fin 1 → IVec S16 32) a x).toNat < S6144.size a := fun v826 k0_hw973 => k0_hw973

def k0_chk974 (v831 : IVec S16 32) : Prop :=
  (∀ a x, ((![v831] : Fin 1 → IVec S16 32) a x).toNat < S6144.size a)
theorem k0_idx974_inb : ∀ (v831 : IVec S16 32) (k0_hw974 : k0_chk974 v831), ∀ a x, ((![v831] : Fin 1 → IVec S16 32) a x).toNat < S6144.size a := fun v831 k0_hw974 => k0_hw974

def k0_chk975 (v836 : IVec S16 32) : Prop :=
  (∀ a x, ((![v836] : Fin 1 → IVec S16 32) a x).toNat < S6144.size a)
theorem k0_idx975_inb : ∀ (v836 : IVec S16 32) (k0_hw975 : k0_chk975 v836), ∀ a x, ((![v836] : Fin 1 → IVec S16 32) a x).toNat < S6144.size a := fun v836 k0_hw975 => k0_hw975

def k0_chk976 (v841 : IVec S16 32) : Prop :=
  (∀ a x, ((![v841] : Fin 1 → IVec S16 32) a x).toNat < S6144.size a)
theorem k0_idx976_inb : ∀ (v841 : IVec S16 32) (k0_hw976 : k0_chk976 v841), ∀ a x, ((![v841] : Fin 1 → IVec S16 32) a x).toNat < S6144.size a := fun v841 k0_hw976 => k0_hw976

def k0_chk977 (v846 : IVec S16 32) : Prop :=
  (∀ a x, ((![v846] : Fin 1 → IVec S16 32) a x).toNat < S6144.size a)
theorem k0_idx977_inb : ∀ (v846 : IVec S16 32) (k0_hw977 : k0_chk977 v846), ∀ a x, ((![v846] : Fin 1 → IVec S16 32) a x).toNat < S6144.size a := fun v846 k0_hw977 => k0_hw977

def k0_chk978 (v851 : IVec S16 32) : Prop :=
  (∀ a x, ((![v851] : Fin 1 → IVec S16 32) a x).toNat < S6144.size a)
theorem k0_idx978_inb : ∀ (v851 : IVec S16 32) (k0_hw978 : k0_chk978 v851), ∀ a x, ((![v851] : Fin 1 → IVec S16 32) a x).toNat < S6144.size a := fun v851 k0_hw978 => k0_hw978

def k0_chk979 (v856 : IVec S16 32) : Prop :=
  (∀ a x, ((![v856] : Fin 1 → IVec S16 32) a x).toNat < S6144.size a)
theorem k0_idx979_inb : ∀ (v856 : IVec S16 32) (k0_hw979 : k0_chk979 v856), ∀ a x, ((![v856] : Fin 1 → IVec S16 32) a x).toNat < S6144.size a := fun v856 k0_hw979 => k0_hw979

def k0_chk980 (v861 : IVec S16 32) : Prop :=
  (∀ a x, ((![v861] : Fin 1 → IVec S16 32) a x).toNat < S6144.size a)
theorem k0_idx980_inb : ∀ (v861 : IVec S16 32) (k0_hw980 : k0_chk980 v861), ∀ a x, ((![v861] : Fin 1 → IVec S16 32) a x).toNat < S6144.size a := fun v861 k0_hw980 => k0_hw980

def k0_chk981 (v866 : IVec S16 32) : Prop :=
  (∀ a x, ((![v866] : Fin 1 → IVec S16 32) a x).toNat < S6144.size a)
theorem k0_idx981_inb : ∀ (v866 : IVec S16 32) (k0_hw981 : k0_chk981 v866), ∀ a x, ((![v866] : Fin 1 → IVec S16 32) a x).toNat < S6144.size a := fun v866 k0_hw981 => k0_hw981

def k0_chk982 (v871 : IVec S16 32) : Prop :=
  (∀ a x, ((![v871] : Fin 1 → IVec S16 32) a x).toNat < S6144.size a)
theorem k0_idx982_inb : ∀ (v871 : IVec S16 32) (k0_hw982 : k0_chk982 v871), ∀ a x, ((![v871] : Fin 1 → IVec S16 32) a x).toNat < S6144.size a := fun v871 k0_hw982 => k0_hw982

def k0_chk983 (v876 : IVec S16 32) : Prop :=
  (∀ a x, ((![v876] : Fin 1 → IVec S16 32) a x).toNat < S6144.size a)
theorem k0_idx983_inb : ∀ (v876 : IVec S16 32) (k0_hw983 : k0_chk983 v876), ∀ a x, ((![v876] : Fin 1 → IVec S16 32) a x).toNat < S6144.size a := fun v876 k0_hw983 => k0_hw983

def k0_chk984 (v881 : IVec S16 32) : Prop :=
  (∀ a x, ((![v881] : Fin 1 → IVec S16 32) a x).toNat < S6144.size a)
theorem k0_idx984_inb : ∀ (v881 : IVec S16 32) (k0_hw984 : k0_chk984 v881), ∀ a x, ((![v881] : Fin 1 → IVec S16 32) a x).toNat < S6144.size a := fun v881 k0_hw984 => k0_hw984

def k0_chk985 (v886 : IVec S16 32) : Prop :=
  (∀ a x, ((![v886] : Fin 1 → IVec S16 32) a x).toNat < S6144.size a)
theorem k0_idx985_inb : ∀ (v886 : IVec S16 32) (k0_hw985 : k0_chk985 v886), ∀ a x, ((![v886] : Fin 1 → IVec S16 32) a x).toNat < S6144.size a := fun v886 k0_hw985 => k0_hw985

def k0_chk986 (v891 : IVec S16 32) : Prop :=
  (∀ a x, ((![v891] : Fin 1 → IVec S16 32) a x).toNat < S6144.size a)
theorem k0_idx986_inb : ∀ (v891 : IVec S16 32) (k0_hw986 : k0_chk986 v891), ∀ a x, ((![v891] : Fin 1 → IVec S16 32) a x).toNat < S6144.size a := fun v891 k0_hw986 => k0_hw986

def k0_chk987 (v896 : IVec S16 32) : Prop :=
  (∀ a x, ((![v896] : Fin 1 → IVec S16 32) a x).toNat < S6144.size a)
theorem k0_idx987_inb : ∀ (v896 : IVec S16 32) (k0_hw987 : k0_chk987 v896), ∀ a x, ((![v896] : Fin 1 → IVec S16 32) a x).toNat < S6144.size a := fun v896 k0_hw987 => k0_hw987

def k0_chk988 (v901 : IVec S16 32) : Prop :=
  (∀ a x, ((![v901] : Fin 1 → IVec S16 32) a x).toNat < S6144.size a)
theorem k0_idx988_inb : ∀ (v901 : IVec S16 32) (k0_hw988 : k0_chk988 v901), ∀ a x, ((![v901] : Fin 1 → IVec S16 32) a x).toNat < S6144.size a := fun v901 k0_hw988 => k0_hw988

def k0_chk989 (v906 : IVec S16 32) : Prop :=
  (∀ a x, ((![v906] : Fin 1 → IVec S16 32) a x).toNat < S6144.size a)
theorem k0_idx989_inb : ∀ (v906 : IVec S16 32) (k0_hw989 : k0_chk989 v906), ∀ a x, ((![v906] : Fin 1 → IVec S16 32) a x).toNat < S6144.size a := fun v906 k0_hw989 => k0_hw989

def k0_chk990 (v911 : IVec S16 32) : Prop :=
  (∀ a x, ((![v911] : Fin 1 → IVec S16 32) a x).toNat < S6144.size a)
theorem k0_idx990_inb : ∀ (v911 : IVec S16 32) (k0_hw990 : k0_chk990 v911), ∀ a x, ((![v911] : Fin 1 → IVec S16 32) a x).toNat < S6144.size a := fun v911 k0_hw990 => k0_hw990

def k0_chk991 (v916 : IVec S16 32) : Prop :=
  (∀ a x, ((![v916] : Fin 1 → IVec S16 32) a x).toNat < S6144.size a)
theorem k0_idx991_inb : ∀ (v916 : IVec S16 32) (k0_hw991 : k0_chk991 v916), ∀ a x, ((![v916] : Fin 1 → IVec S16 32) a x).toNat < S6144.size a := fun v916 k0_hw991 => k0_hw991

def k0_chk992 (v921 : IVec S16 32) : Prop :=
  (∀ a x, ((![v921] : Fin 1 → IVec S16 32) a x).toNat < S6144.size a)
theorem k0_idx992_inb : ∀ (v921 : IVec S16 32) (k0_hw992 : k0_chk992 v921), ∀ a x, ((![v921] : Fin 1 → IVec S16 32) a x).toNat < S6144.size a := fun v921 k0_hw992 => k0_hw992
@[reducible] def k0_t33_loop : Scf.Loop 32 :=
  let c0_i32_512 : BitVec 32 := 0#32
  let c64_i32_513 : BitVec 32 := 64#32
  let v365 : BitVec 32 := Scalar.addi c0_i32_512 c64_i32_513
  let c1_i32_514 : BitVec 32 := 1#32
  ⟨c0_i32_512, v365, c1_i32_514⟩
def k0_off57 (k0_t33 : Fin k0_t33_loop.trips) (c0_i32_762 : BitVec 32) : Fin 2 → Nat :=
  let c0_i32_512 : BitVec 32 := 0#32
  let c1_i32_514 : BitVec 32 := 1#32
  let arg12 : BitVec 32 := Scf.iv c0_i32_512 c1_i32_514 k0_t33
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk993 (v766 : IVec S16 32) : Prop :=
  (∀ a x, ((![v766] : Fin 1 → IVec S16 32) a x).toNat < S6144.size a)
theorem k0_idx993_inb : ∀ (v766 : IVec S16 32) (k0_hw993 : k0_chk993 v766), ∀ a x, ((![v766] : Fin 1 → IVec S16 32) a x).toNat < S6144.size a := fun v766 k0_hw993 => k0_hw993

def k0_chk994 (v771 : IVec S16 32) : Prop :=
  (∀ a x, ((![v771] : Fin 1 → IVec S16 32) a x).toNat < S6144.size a)
theorem k0_idx994_inb : ∀ (v771 : IVec S16 32) (k0_hw994 : k0_chk994 v771), ∀ a x, ((![v771] : Fin 1 → IVec S16 32) a x).toNat < S6144.size a := fun v771 k0_hw994 => k0_hw994

def k0_chk995 (v776 : IVec S16 32) : Prop :=
  (∀ a x, ((![v776] : Fin 1 → IVec S16 32) a x).toNat < S6144.size a)
theorem k0_idx995_inb : ∀ (v776 : IVec S16 32) (k0_hw995 : k0_chk995 v776), ∀ a x, ((![v776] : Fin 1 → IVec S16 32) a x).toNat < S6144.size a := fun v776 k0_hw995 => k0_hw995

def k0_chk996 (v781 : IVec S16 32) : Prop :=
  (∀ a x, ((![v781] : Fin 1 → IVec S16 32) a x).toNat < S6144.size a)
theorem k0_idx996_inb : ∀ (v781 : IVec S16 32) (k0_hw996 : k0_chk996 v781), ∀ a x, ((![v781] : Fin 1 → IVec S16 32) a x).toNat < S6144.size a := fun v781 k0_hw996 => k0_hw996

def k0_chk997 (v786 : IVec S16 32) : Prop :=
  (∀ a x, ((![v786] : Fin 1 → IVec S16 32) a x).toNat < S6144.size a)
theorem k0_idx997_inb : ∀ (v786 : IVec S16 32) (k0_hw997 : k0_chk997 v786), ∀ a x, ((![v786] : Fin 1 → IVec S16 32) a x).toNat < S6144.size a := fun v786 k0_hw997 => k0_hw997

def k0_chk998 (v791 : IVec S16 32) : Prop :=
  (∀ a x, ((![v791] : Fin 1 → IVec S16 32) a x).toNat < S6144.size a)
theorem k0_idx998_inb : ∀ (v791 : IVec S16 32) (k0_hw998 : k0_chk998 v791), ∀ a x, ((![v791] : Fin 1 → IVec S16 32) a x).toNat < S6144.size a := fun v791 k0_hw998 => k0_hw998

def k0_chk999 (v796 : IVec S16 32) : Prop :=
  (∀ a x, ((![v796] : Fin 1 → IVec S16 32) a x).toNat < S6144.size a)
theorem k0_idx999_inb : ∀ (v796 : IVec S16 32) (k0_hw999 : k0_chk999 v796), ∀ a x, ((![v796] : Fin 1 → IVec S16 32) a x).toNat < S6144.size a := fun v796 k0_hw999 => k0_hw999

def k0_chk1000 (v801 : IVec S16 32) : Prop :=
  (∀ a x, ((![v801] : Fin 1 → IVec S16 32) a x).toNat < S6144.size a)
theorem k0_idx1000_inb : ∀ (v801 : IVec S16 32) (k0_hw1000 : k0_chk1000 v801), ∀ a x, ((![v801] : Fin 1 → IVec S16 32) a x).toNat < S6144.size a := fun v801 k0_hw1000 => k0_hw1000

def k0_chk1001 (v806 : IVec S16 32) : Prop :=
  (∀ a x, ((![v806] : Fin 1 → IVec S16 32) a x).toNat < S6144.size a)
theorem k0_idx1001_inb : ∀ (v806 : IVec S16 32) (k0_hw1001 : k0_chk1001 v806), ∀ a x, ((![v806] : Fin 1 → IVec S16 32) a x).toNat < S6144.size a := fun v806 k0_hw1001 => k0_hw1001

def k0_chk1002 (v811 : IVec S16 32) : Prop :=
  (∀ a x, ((![v811] : Fin 1 → IVec S16 32) a x).toNat < S6144.size a)
theorem k0_idx1002_inb : ∀ (v811 : IVec S16 32) (k0_hw1002 : k0_chk1002 v811), ∀ a x, ((![v811] : Fin 1 → IVec S16 32) a x).toNat < S6144.size a := fun v811 k0_hw1002 => k0_hw1002

def k0_chk1003 (v816 : IVec S16 32) : Prop :=
  (∀ a x, ((![v816] : Fin 1 → IVec S16 32) a x).toNat < S6144.size a)
theorem k0_idx1003_inb : ∀ (v816 : IVec S16 32) (k0_hw1003 : k0_chk1003 v816), ∀ a x, ((![v816] : Fin 1 → IVec S16 32) a x).toNat < S6144.size a := fun v816 k0_hw1003 => k0_hw1003

def k0_chk1004 (v821 : IVec S16 32) : Prop :=
  (∀ a x, ((![v821] : Fin 1 → IVec S16 32) a x).toNat < S6144.size a)
theorem k0_idx1004_inb : ∀ (v821 : IVec S16 32) (k0_hw1004 : k0_chk1004 v821), ∀ a x, ((![v821] : Fin 1 → IVec S16 32) a x).toNat < S6144.size a := fun v821 k0_hw1004 => k0_hw1004

def k0_chk1005 (v826 : IVec S16 32) : Prop :=
  (∀ a x, ((![v826] : Fin 1 → IVec S16 32) a x).toNat < S6144.size a)
theorem k0_idx1005_inb : ∀ (v826 : IVec S16 32) (k0_hw1005 : k0_chk1005 v826), ∀ a x, ((![v826] : Fin 1 → IVec S16 32) a x).toNat < S6144.size a := fun v826 k0_hw1005 => k0_hw1005

def k0_chk1006 (v831 : IVec S16 32) : Prop :=
  (∀ a x, ((![v831] : Fin 1 → IVec S16 32) a x).toNat < S6144.size a)
theorem k0_idx1006_inb : ∀ (v831 : IVec S16 32) (k0_hw1006 : k0_chk1006 v831), ∀ a x, ((![v831] : Fin 1 → IVec S16 32) a x).toNat < S6144.size a := fun v831 k0_hw1006 => k0_hw1006

def k0_chk1007 (v836 : IVec S16 32) : Prop :=
  (∀ a x, ((![v836] : Fin 1 → IVec S16 32) a x).toNat < S6144.size a)
theorem k0_idx1007_inb : ∀ (v836 : IVec S16 32) (k0_hw1007 : k0_chk1007 v836), ∀ a x, ((![v836] : Fin 1 → IVec S16 32) a x).toNat < S6144.size a := fun v836 k0_hw1007 => k0_hw1007

def k0_chk1008 (v841 : IVec S16 32) : Prop :=
  (∀ a x, ((![v841] : Fin 1 → IVec S16 32) a x).toNat < S6144.size a)
theorem k0_idx1008_inb : ∀ (v841 : IVec S16 32) (k0_hw1008 : k0_chk1008 v841), ∀ a x, ((![v841] : Fin 1 → IVec S16 32) a x).toNat < S6144.size a := fun v841 k0_hw1008 => k0_hw1008

def k0_chk1009 (v846 : IVec S16 32) : Prop :=
  (∀ a x, ((![v846] : Fin 1 → IVec S16 32) a x).toNat < S6144.size a)
theorem k0_idx1009_inb : ∀ (v846 : IVec S16 32) (k0_hw1009 : k0_chk1009 v846), ∀ a x, ((![v846] : Fin 1 → IVec S16 32) a x).toNat < S6144.size a := fun v846 k0_hw1009 => k0_hw1009

def k0_chk1010 (v851 : IVec S16 32) : Prop :=
  (∀ a x, ((![v851] : Fin 1 → IVec S16 32) a x).toNat < S6144.size a)
theorem k0_idx1010_inb : ∀ (v851 : IVec S16 32) (k0_hw1010 : k0_chk1010 v851), ∀ a x, ((![v851] : Fin 1 → IVec S16 32) a x).toNat < S6144.size a := fun v851 k0_hw1010 => k0_hw1010

def k0_chk1011 (v856 : IVec S16 32) : Prop :=
  (∀ a x, ((![v856] : Fin 1 → IVec S16 32) a x).toNat < S6144.size a)
theorem k0_idx1011_inb : ∀ (v856 : IVec S16 32) (k0_hw1011 : k0_chk1011 v856), ∀ a x, ((![v856] : Fin 1 → IVec S16 32) a x).toNat < S6144.size a := fun v856 k0_hw1011 => k0_hw1011

def k0_chk1012 (v861 : IVec S16 32) : Prop :=
  (∀ a x, ((![v861] : Fin 1 → IVec S16 32) a x).toNat < S6144.size a)
theorem k0_idx1012_inb : ∀ (v861 : IVec S16 32) (k0_hw1012 : k0_chk1012 v861), ∀ a x, ((![v861] : Fin 1 → IVec S16 32) a x).toNat < S6144.size a := fun v861 k0_hw1012 => k0_hw1012

def k0_chk1013 (v866 : IVec S16 32) : Prop :=
  (∀ a x, ((![v866] : Fin 1 → IVec S16 32) a x).toNat < S6144.size a)
theorem k0_idx1013_inb : ∀ (v866 : IVec S16 32) (k0_hw1013 : k0_chk1013 v866), ∀ a x, ((![v866] : Fin 1 → IVec S16 32) a x).toNat < S6144.size a := fun v866 k0_hw1013 => k0_hw1013

def k0_chk1014 (v871 : IVec S16 32) : Prop :=
  (∀ a x, ((![v871] : Fin 1 → IVec S16 32) a x).toNat < S6144.size a)
theorem k0_idx1014_inb : ∀ (v871 : IVec S16 32) (k0_hw1014 : k0_chk1014 v871), ∀ a x, ((![v871] : Fin 1 → IVec S16 32) a x).toNat < S6144.size a := fun v871 k0_hw1014 => k0_hw1014

def k0_chk1015 (v876 : IVec S16 32) : Prop :=
  (∀ a x, ((![v876] : Fin 1 → IVec S16 32) a x).toNat < S6144.size a)
theorem k0_idx1015_inb : ∀ (v876 : IVec S16 32) (k0_hw1015 : k0_chk1015 v876), ∀ a x, ((![v876] : Fin 1 → IVec S16 32) a x).toNat < S6144.size a := fun v876 k0_hw1015 => k0_hw1015

def k0_chk1016 (v881 : IVec S16 32) : Prop :=
  (∀ a x, ((![v881] : Fin 1 → IVec S16 32) a x).toNat < S6144.size a)
theorem k0_idx1016_inb : ∀ (v881 : IVec S16 32) (k0_hw1016 : k0_chk1016 v881), ∀ a x, ((![v881] : Fin 1 → IVec S16 32) a x).toNat < S6144.size a := fun v881 k0_hw1016 => k0_hw1016

def k0_chk1017 (v886 : IVec S16 32) : Prop :=
  (∀ a x, ((![v886] : Fin 1 → IVec S16 32) a x).toNat < S6144.size a)
theorem k0_idx1017_inb : ∀ (v886 : IVec S16 32) (k0_hw1017 : k0_chk1017 v886), ∀ a x, ((![v886] : Fin 1 → IVec S16 32) a x).toNat < S6144.size a := fun v886 k0_hw1017 => k0_hw1017

def k0_chk1018 (v891 : IVec S16 32) : Prop :=
  (∀ a x, ((![v891] : Fin 1 → IVec S16 32) a x).toNat < S6144.size a)
theorem k0_idx1018_inb : ∀ (v891 : IVec S16 32) (k0_hw1018 : k0_chk1018 v891), ∀ a x, ((![v891] : Fin 1 → IVec S16 32) a x).toNat < S6144.size a := fun v891 k0_hw1018 => k0_hw1018

def k0_chk1019 (v896 : IVec S16 32) : Prop :=
  (∀ a x, ((![v896] : Fin 1 → IVec S16 32) a x).toNat < S6144.size a)
theorem k0_idx1019_inb : ∀ (v896 : IVec S16 32) (k0_hw1019 : k0_chk1019 v896), ∀ a x, ((![v896] : Fin 1 → IVec S16 32) a x).toNat < S6144.size a := fun v896 k0_hw1019 => k0_hw1019

def k0_chk1020 (v901 : IVec S16 32) : Prop :=
  (∀ a x, ((![v901] : Fin 1 → IVec S16 32) a x).toNat < S6144.size a)
theorem k0_idx1020_inb : ∀ (v901 : IVec S16 32) (k0_hw1020 : k0_chk1020 v901), ∀ a x, ((![v901] : Fin 1 → IVec S16 32) a x).toNat < S6144.size a := fun v901 k0_hw1020 => k0_hw1020

def k0_chk1021 (v906 : IVec S16 32) : Prop :=
  (∀ a x, ((![v906] : Fin 1 → IVec S16 32) a x).toNat < S6144.size a)
theorem k0_idx1021_inb : ∀ (v906 : IVec S16 32) (k0_hw1021 : k0_chk1021 v906), ∀ a x, ((![v906] : Fin 1 → IVec S16 32) a x).toNat < S6144.size a := fun v906 k0_hw1021 => k0_hw1021

def k0_chk1022 (v911 : IVec S16 32) : Prop :=
  (∀ a x, ((![v911] : Fin 1 → IVec S16 32) a x).toNat < S6144.size a)
theorem k0_idx1022_inb : ∀ (v911 : IVec S16 32) (k0_hw1022 : k0_chk1022 v911), ∀ a x, ((![v911] : Fin 1 → IVec S16 32) a x).toNat < S6144.size a := fun v911 k0_hw1022 => k0_hw1022

def k0_chk1023 (v916 : IVec S16 32) : Prop :=
  (∀ a x, ((![v916] : Fin 1 → IVec S16 32) a x).toNat < S6144.size a)
theorem k0_idx1023_inb : ∀ (v916 : IVec S16 32) (k0_hw1023 : k0_chk1023 v916), ∀ a x, ((![v916] : Fin 1 → IVec S16 32) a x).toNat < S6144.size a := fun v916 k0_hw1023 => k0_hw1023

def k0_chk1024 (v921 : IVec S16 32) : Prop :=
  (∀ a x, ((![v921] : Fin 1 → IVec S16 32) a x).toNat < S6144.size a)
theorem k0_idx1024_inb : ∀ (v921 : IVec S16 32) (k0_hw1024 : k0_chk1024 v921), ∀ a x, ((![v921] : Fin 1 → IVec S16 32) a x).toNat < S6144.size a := fun v921 k0_hw1024 => k0_hw1024
@[reducible] def k0_t34_loop : Scf.Loop 32 :=
  let c0_i32_527 : BitVec 32 := 0#32
  let c64_i32_528 : BitVec 32 := 64#32
  let v376 : BitVec 32 := Scalar.addi c0_i32_527 c64_i32_528
  let c1_i32_529 : BitVec 32 := 1#32
  ⟨c0_i32_527, v376, c1_i32_529⟩
def k0_off58 (k0_t34 : Fin k0_t34_loop.trips) (c0_i32_762 : BitVec 32) : Fin 2 → Nat :=
  let c0_i32_527 : BitVec 32 := 0#32
  let c1_i32_529 : BitVec 32 := 1#32
  let arg12 : BitVec 32 := Scf.iv c0_i32_527 c1_i32_529 k0_t34
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1025 (v766 : IVec S16 32) : Prop :=
  (∀ a x, ((![v766] : Fin 1 → IVec S16 32) a x).toNat < S6144.size a)
theorem k0_idx1025_inb : ∀ (v766 : IVec S16 32) (k0_hw1025 : k0_chk1025 v766), ∀ a x, ((![v766] : Fin 1 → IVec S16 32) a x).toNat < S6144.size a := fun v766 k0_hw1025 => k0_hw1025

def k0_chk1026 (v771 : IVec S16 32) : Prop :=
  (∀ a x, ((![v771] : Fin 1 → IVec S16 32) a x).toNat < S6144.size a)
theorem k0_idx1026_inb : ∀ (v771 : IVec S16 32) (k0_hw1026 : k0_chk1026 v771), ∀ a x, ((![v771] : Fin 1 → IVec S16 32) a x).toNat < S6144.size a := fun v771 k0_hw1026 => k0_hw1026

def k0_chk1027 (v776 : IVec S16 32) : Prop :=
  (∀ a x, ((![v776] : Fin 1 → IVec S16 32) a x).toNat < S6144.size a)
theorem k0_idx1027_inb : ∀ (v776 : IVec S16 32) (k0_hw1027 : k0_chk1027 v776), ∀ a x, ((![v776] : Fin 1 → IVec S16 32) a x).toNat < S6144.size a := fun v776 k0_hw1027 => k0_hw1027

def k0_chk1028 (v781 : IVec S16 32) : Prop :=
  (∀ a x, ((![v781] : Fin 1 → IVec S16 32) a x).toNat < S6144.size a)
theorem k0_idx1028_inb : ∀ (v781 : IVec S16 32) (k0_hw1028 : k0_chk1028 v781), ∀ a x, ((![v781] : Fin 1 → IVec S16 32) a x).toNat < S6144.size a := fun v781 k0_hw1028 => k0_hw1028

def k0_chk1029 (v786 : IVec S16 32) : Prop :=
  (∀ a x, ((![v786] : Fin 1 → IVec S16 32) a x).toNat < S6144.size a)
theorem k0_idx1029_inb : ∀ (v786 : IVec S16 32) (k0_hw1029 : k0_chk1029 v786), ∀ a x, ((![v786] : Fin 1 → IVec S16 32) a x).toNat < S6144.size a := fun v786 k0_hw1029 => k0_hw1029

def k0_chk1030 (v791 : IVec S16 32) : Prop :=
  (∀ a x, ((![v791] : Fin 1 → IVec S16 32) a x).toNat < S6144.size a)
theorem k0_idx1030_inb : ∀ (v791 : IVec S16 32) (k0_hw1030 : k0_chk1030 v791), ∀ a x, ((![v791] : Fin 1 → IVec S16 32) a x).toNat < S6144.size a := fun v791 k0_hw1030 => k0_hw1030

def k0_chk1031 (v796 : IVec S16 32) : Prop :=
  (∀ a x, ((![v796] : Fin 1 → IVec S16 32) a x).toNat < S6144.size a)
theorem k0_idx1031_inb : ∀ (v796 : IVec S16 32) (k0_hw1031 : k0_chk1031 v796), ∀ a x, ((![v796] : Fin 1 → IVec S16 32) a x).toNat < S6144.size a := fun v796 k0_hw1031 => k0_hw1031

def k0_chk1032 (v801 : IVec S16 32) : Prop :=
  (∀ a x, ((![v801] : Fin 1 → IVec S16 32) a x).toNat < S6144.size a)
theorem k0_idx1032_inb : ∀ (v801 : IVec S16 32) (k0_hw1032 : k0_chk1032 v801), ∀ a x, ((![v801] : Fin 1 → IVec S16 32) a x).toNat < S6144.size a := fun v801 k0_hw1032 => k0_hw1032

def k0_chk1033 (v806 : IVec S16 32) : Prop :=
  (∀ a x, ((![v806] : Fin 1 → IVec S16 32) a x).toNat < S6144.size a)
theorem k0_idx1033_inb : ∀ (v806 : IVec S16 32) (k0_hw1033 : k0_chk1033 v806), ∀ a x, ((![v806] : Fin 1 → IVec S16 32) a x).toNat < S6144.size a := fun v806 k0_hw1033 => k0_hw1033

def k0_chk1034 (v811 : IVec S16 32) : Prop :=
  (∀ a x, ((![v811] : Fin 1 → IVec S16 32) a x).toNat < S6144.size a)
theorem k0_idx1034_inb : ∀ (v811 : IVec S16 32) (k0_hw1034 : k0_chk1034 v811), ∀ a x, ((![v811] : Fin 1 → IVec S16 32) a x).toNat < S6144.size a := fun v811 k0_hw1034 => k0_hw1034

def k0_chk1035 (v816 : IVec S16 32) : Prop :=
  (∀ a x, ((![v816] : Fin 1 → IVec S16 32) a x).toNat < S6144.size a)
theorem k0_idx1035_inb : ∀ (v816 : IVec S16 32) (k0_hw1035 : k0_chk1035 v816), ∀ a x, ((![v816] : Fin 1 → IVec S16 32) a x).toNat < S6144.size a := fun v816 k0_hw1035 => k0_hw1035

def k0_chk1036 (v821 : IVec S16 32) : Prop :=
  (∀ a x, ((![v821] : Fin 1 → IVec S16 32) a x).toNat < S6144.size a)
theorem k0_idx1036_inb : ∀ (v821 : IVec S16 32) (k0_hw1036 : k0_chk1036 v821), ∀ a x, ((![v821] : Fin 1 → IVec S16 32) a x).toNat < S6144.size a := fun v821 k0_hw1036 => k0_hw1036

def k0_chk1037 (v826 : IVec S16 32) : Prop :=
  (∀ a x, ((![v826] : Fin 1 → IVec S16 32) a x).toNat < S6144.size a)
theorem k0_idx1037_inb : ∀ (v826 : IVec S16 32) (k0_hw1037 : k0_chk1037 v826), ∀ a x, ((![v826] : Fin 1 → IVec S16 32) a x).toNat < S6144.size a := fun v826 k0_hw1037 => k0_hw1037

def k0_chk1038 (v831 : IVec S16 32) : Prop :=
  (∀ a x, ((![v831] : Fin 1 → IVec S16 32) a x).toNat < S6144.size a)
theorem k0_idx1038_inb : ∀ (v831 : IVec S16 32) (k0_hw1038 : k0_chk1038 v831), ∀ a x, ((![v831] : Fin 1 → IVec S16 32) a x).toNat < S6144.size a := fun v831 k0_hw1038 => k0_hw1038

def k0_chk1039 (v836 : IVec S16 32) : Prop :=
  (∀ a x, ((![v836] : Fin 1 → IVec S16 32) a x).toNat < S6144.size a)
theorem k0_idx1039_inb : ∀ (v836 : IVec S16 32) (k0_hw1039 : k0_chk1039 v836), ∀ a x, ((![v836] : Fin 1 → IVec S16 32) a x).toNat < S6144.size a := fun v836 k0_hw1039 => k0_hw1039

def k0_chk1040 (v841 : IVec S16 32) : Prop :=
  (∀ a x, ((![v841] : Fin 1 → IVec S16 32) a x).toNat < S6144.size a)
theorem k0_idx1040_inb : ∀ (v841 : IVec S16 32) (k0_hw1040 : k0_chk1040 v841), ∀ a x, ((![v841] : Fin 1 → IVec S16 32) a x).toNat < S6144.size a := fun v841 k0_hw1040 => k0_hw1040

def k0_chk1041 (v846 : IVec S16 32) : Prop :=
  (∀ a x, ((![v846] : Fin 1 → IVec S16 32) a x).toNat < S6144.size a)
theorem k0_idx1041_inb : ∀ (v846 : IVec S16 32) (k0_hw1041 : k0_chk1041 v846), ∀ a x, ((![v846] : Fin 1 → IVec S16 32) a x).toNat < S6144.size a := fun v846 k0_hw1041 => k0_hw1041

def k0_chk1042 (v851 : IVec S16 32) : Prop :=
  (∀ a x, ((![v851] : Fin 1 → IVec S16 32) a x).toNat < S6144.size a)
theorem k0_idx1042_inb : ∀ (v851 : IVec S16 32) (k0_hw1042 : k0_chk1042 v851), ∀ a x, ((![v851] : Fin 1 → IVec S16 32) a x).toNat < S6144.size a := fun v851 k0_hw1042 => k0_hw1042

def k0_chk1043 (v856 : IVec S16 32) : Prop :=
  (∀ a x, ((![v856] : Fin 1 → IVec S16 32) a x).toNat < S6144.size a)
theorem k0_idx1043_inb : ∀ (v856 : IVec S16 32) (k0_hw1043 : k0_chk1043 v856), ∀ a x, ((![v856] : Fin 1 → IVec S16 32) a x).toNat < S6144.size a := fun v856 k0_hw1043 => k0_hw1043

def k0_chk1044 (v861 : IVec S16 32) : Prop :=
  (∀ a x, ((![v861] : Fin 1 → IVec S16 32) a x).toNat < S6144.size a)
theorem k0_idx1044_inb : ∀ (v861 : IVec S16 32) (k0_hw1044 : k0_chk1044 v861), ∀ a x, ((![v861] : Fin 1 → IVec S16 32) a x).toNat < S6144.size a := fun v861 k0_hw1044 => k0_hw1044

def k0_chk1045 (v866 : IVec S16 32) : Prop :=
  (∀ a x, ((![v866] : Fin 1 → IVec S16 32) a x).toNat < S6144.size a)
theorem k0_idx1045_inb : ∀ (v866 : IVec S16 32) (k0_hw1045 : k0_chk1045 v866), ∀ a x, ((![v866] : Fin 1 → IVec S16 32) a x).toNat < S6144.size a := fun v866 k0_hw1045 => k0_hw1045

def k0_chk1046 (v871 : IVec S16 32) : Prop :=
  (∀ a x, ((![v871] : Fin 1 → IVec S16 32) a x).toNat < S6144.size a)
theorem k0_idx1046_inb : ∀ (v871 : IVec S16 32) (k0_hw1046 : k0_chk1046 v871), ∀ a x, ((![v871] : Fin 1 → IVec S16 32) a x).toNat < S6144.size a := fun v871 k0_hw1046 => k0_hw1046

def k0_chk1047 (v876 : IVec S16 32) : Prop :=
  (∀ a x, ((![v876] : Fin 1 → IVec S16 32) a x).toNat < S6144.size a)
theorem k0_idx1047_inb : ∀ (v876 : IVec S16 32) (k0_hw1047 : k0_chk1047 v876), ∀ a x, ((![v876] : Fin 1 → IVec S16 32) a x).toNat < S6144.size a := fun v876 k0_hw1047 => k0_hw1047

def k0_chk1048 (v881 : IVec S16 32) : Prop :=
  (∀ a x, ((![v881] : Fin 1 → IVec S16 32) a x).toNat < S6144.size a)
theorem k0_idx1048_inb : ∀ (v881 : IVec S16 32) (k0_hw1048 : k0_chk1048 v881), ∀ a x, ((![v881] : Fin 1 → IVec S16 32) a x).toNat < S6144.size a := fun v881 k0_hw1048 => k0_hw1048

def k0_chk1049 (v886 : IVec S16 32) : Prop :=
  (∀ a x, ((![v886] : Fin 1 → IVec S16 32) a x).toNat < S6144.size a)
theorem k0_idx1049_inb : ∀ (v886 : IVec S16 32) (k0_hw1049 : k0_chk1049 v886), ∀ a x, ((![v886] : Fin 1 → IVec S16 32) a x).toNat < S6144.size a := fun v886 k0_hw1049 => k0_hw1049

def k0_chk1050 (v891 : IVec S16 32) : Prop :=
  (∀ a x, ((![v891] : Fin 1 → IVec S16 32) a x).toNat < S6144.size a)
theorem k0_idx1050_inb : ∀ (v891 : IVec S16 32) (k0_hw1050 : k0_chk1050 v891), ∀ a x, ((![v891] : Fin 1 → IVec S16 32) a x).toNat < S6144.size a := fun v891 k0_hw1050 => k0_hw1050

def k0_chk1051 (v896 : IVec S16 32) : Prop :=
  (∀ a x, ((![v896] : Fin 1 → IVec S16 32) a x).toNat < S6144.size a)
theorem k0_idx1051_inb : ∀ (v896 : IVec S16 32) (k0_hw1051 : k0_chk1051 v896), ∀ a x, ((![v896] : Fin 1 → IVec S16 32) a x).toNat < S6144.size a := fun v896 k0_hw1051 => k0_hw1051

def k0_chk1052 (v901 : IVec S16 32) : Prop :=
  (∀ a x, ((![v901] : Fin 1 → IVec S16 32) a x).toNat < S6144.size a)
theorem k0_idx1052_inb : ∀ (v901 : IVec S16 32) (k0_hw1052 : k0_chk1052 v901), ∀ a x, ((![v901] : Fin 1 → IVec S16 32) a x).toNat < S6144.size a := fun v901 k0_hw1052 => k0_hw1052

def k0_chk1053 (v906 : IVec S16 32) : Prop :=
  (∀ a x, ((![v906] : Fin 1 → IVec S16 32) a x).toNat < S6144.size a)
theorem k0_idx1053_inb : ∀ (v906 : IVec S16 32) (k0_hw1053 : k0_chk1053 v906), ∀ a x, ((![v906] : Fin 1 → IVec S16 32) a x).toNat < S6144.size a := fun v906 k0_hw1053 => k0_hw1053

def k0_chk1054 (v911 : IVec S16 32) : Prop :=
  (∀ a x, ((![v911] : Fin 1 → IVec S16 32) a x).toNat < S6144.size a)
theorem k0_idx1054_inb : ∀ (v911 : IVec S16 32) (k0_hw1054 : k0_chk1054 v911), ∀ a x, ((![v911] : Fin 1 → IVec S16 32) a x).toNat < S6144.size a := fun v911 k0_hw1054 => k0_hw1054

def k0_chk1055 (v916 : IVec S16 32) : Prop :=
  (∀ a x, ((![v916] : Fin 1 → IVec S16 32) a x).toNat < S6144.size a)
theorem k0_idx1055_inb : ∀ (v916 : IVec S16 32) (k0_hw1055 : k0_chk1055 v916), ∀ a x, ((![v916] : Fin 1 → IVec S16 32) a x).toNat < S6144.size a := fun v916 k0_hw1055 => k0_hw1055

def k0_chk1056 (v921 : IVec S16 32) : Prop :=
  (∀ a x, ((![v921] : Fin 1 → IVec S16 32) a x).toNat < S6144.size a)
theorem k0_idx1056_inb : ∀ (v921 : IVec S16 32) (k0_hw1056 : k0_chk1056 v921), ∀ a x, ((![v921] : Fin 1 → IVec S16 32) a x).toNat < S6144.size a := fun v921 k0_hw1056 => k0_hw1056
@[reducible] def k0_t35_loop : Scf.Loop 32 :=
  let c0_i32_543 : BitVec 32 := 0#32
  let c64_i32_544 : BitVec 32 := 64#32
  let v387 : BitVec 32 := Scalar.addi c0_i32_543 c64_i32_544
  let c1_i32_545 : BitVec 32 := 1#32
  ⟨c0_i32_543, v387, c1_i32_545⟩
def k0_off59 (k0_t35 : Fin k0_t35_loop.trips) (c0_i32_762 : BitVec 32) : Fin 2 → Nat :=
  let c0_i32_543 : BitVec 32 := 0#32
  let c1_i32_545 : BitVec 32 := 1#32
  let arg12 : BitVec 32 := Scf.iv c0_i32_543 c1_i32_545 k0_t35
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1057 (v766 : IVec S16 32) : Prop :=
  (∀ a x, ((![v766] : Fin 1 → IVec S16 32) a x).toNat < S6144.size a)
theorem k0_idx1057_inb : ∀ (v766 : IVec S16 32) (k0_hw1057 : k0_chk1057 v766), ∀ a x, ((![v766] : Fin 1 → IVec S16 32) a x).toNat < S6144.size a := fun v766 k0_hw1057 => k0_hw1057

def k0_chk1058 (v771 : IVec S16 32) : Prop :=
  (∀ a x, ((![v771] : Fin 1 → IVec S16 32) a x).toNat < S6144.size a)
theorem k0_idx1058_inb : ∀ (v771 : IVec S16 32) (k0_hw1058 : k0_chk1058 v771), ∀ a x, ((![v771] : Fin 1 → IVec S16 32) a x).toNat < S6144.size a := fun v771 k0_hw1058 => k0_hw1058

def k0_chk1059 (v776 : IVec S16 32) : Prop :=
  (∀ a x, ((![v776] : Fin 1 → IVec S16 32) a x).toNat < S6144.size a)
theorem k0_idx1059_inb : ∀ (v776 : IVec S16 32) (k0_hw1059 : k0_chk1059 v776), ∀ a x, ((![v776] : Fin 1 → IVec S16 32) a x).toNat < S6144.size a := fun v776 k0_hw1059 => k0_hw1059

def k0_chk1060 (v781 : IVec S16 32) : Prop :=
  (∀ a x, ((![v781] : Fin 1 → IVec S16 32) a x).toNat < S6144.size a)
theorem k0_idx1060_inb : ∀ (v781 : IVec S16 32) (k0_hw1060 : k0_chk1060 v781), ∀ a x, ((![v781] : Fin 1 → IVec S16 32) a x).toNat < S6144.size a := fun v781 k0_hw1060 => k0_hw1060

def k0_chk1061 (v786 : IVec S16 32) : Prop :=
  (∀ a x, ((![v786] : Fin 1 → IVec S16 32) a x).toNat < S6144.size a)
theorem k0_idx1061_inb : ∀ (v786 : IVec S16 32) (k0_hw1061 : k0_chk1061 v786), ∀ a x, ((![v786] : Fin 1 → IVec S16 32) a x).toNat < S6144.size a := fun v786 k0_hw1061 => k0_hw1061

def k0_chk1062 (v791 : IVec S16 32) : Prop :=
  (∀ a x, ((![v791] : Fin 1 → IVec S16 32) a x).toNat < S6144.size a)
theorem k0_idx1062_inb : ∀ (v791 : IVec S16 32) (k0_hw1062 : k0_chk1062 v791), ∀ a x, ((![v791] : Fin 1 → IVec S16 32) a x).toNat < S6144.size a := fun v791 k0_hw1062 => k0_hw1062

def k0_chk1063 (v796 : IVec S16 32) : Prop :=
  (∀ a x, ((![v796] : Fin 1 → IVec S16 32) a x).toNat < S6144.size a)
theorem k0_idx1063_inb : ∀ (v796 : IVec S16 32) (k0_hw1063 : k0_chk1063 v796), ∀ a x, ((![v796] : Fin 1 → IVec S16 32) a x).toNat < S6144.size a := fun v796 k0_hw1063 => k0_hw1063

def k0_chk1064 (v801 : IVec S16 32) : Prop :=
  (∀ a x, ((![v801] : Fin 1 → IVec S16 32) a x).toNat < S6144.size a)
theorem k0_idx1064_inb : ∀ (v801 : IVec S16 32) (k0_hw1064 : k0_chk1064 v801), ∀ a x, ((![v801] : Fin 1 → IVec S16 32) a x).toNat < S6144.size a := fun v801 k0_hw1064 => k0_hw1064

def k0_chk1065 (v806 : IVec S16 32) : Prop :=
  (∀ a x, ((![v806] : Fin 1 → IVec S16 32) a x).toNat < S6144.size a)
theorem k0_idx1065_inb : ∀ (v806 : IVec S16 32) (k0_hw1065 : k0_chk1065 v806), ∀ a x, ((![v806] : Fin 1 → IVec S16 32) a x).toNat < S6144.size a := fun v806 k0_hw1065 => k0_hw1065

def k0_chk1066 (v811 : IVec S16 32) : Prop :=
  (∀ a x, ((![v811] : Fin 1 → IVec S16 32) a x).toNat < S6144.size a)
theorem k0_idx1066_inb : ∀ (v811 : IVec S16 32) (k0_hw1066 : k0_chk1066 v811), ∀ a x, ((![v811] : Fin 1 → IVec S16 32) a x).toNat < S6144.size a := fun v811 k0_hw1066 => k0_hw1066

def k0_chk1067 (v816 : IVec S16 32) : Prop :=
  (∀ a x, ((![v816] : Fin 1 → IVec S16 32) a x).toNat < S6144.size a)
theorem k0_idx1067_inb : ∀ (v816 : IVec S16 32) (k0_hw1067 : k0_chk1067 v816), ∀ a x, ((![v816] : Fin 1 → IVec S16 32) a x).toNat < S6144.size a := fun v816 k0_hw1067 => k0_hw1067

def k0_chk1068 (v821 : IVec S16 32) : Prop :=
  (∀ a x, ((![v821] : Fin 1 → IVec S16 32) a x).toNat < S6144.size a)
theorem k0_idx1068_inb : ∀ (v821 : IVec S16 32) (k0_hw1068 : k0_chk1068 v821), ∀ a x, ((![v821] : Fin 1 → IVec S16 32) a x).toNat < S6144.size a := fun v821 k0_hw1068 => k0_hw1068

def k0_chk1069 (v826 : IVec S16 32) : Prop :=
  (∀ a x, ((![v826] : Fin 1 → IVec S16 32) a x).toNat < S6144.size a)
theorem k0_idx1069_inb : ∀ (v826 : IVec S16 32) (k0_hw1069 : k0_chk1069 v826), ∀ a x, ((![v826] : Fin 1 → IVec S16 32) a x).toNat < S6144.size a := fun v826 k0_hw1069 => k0_hw1069

def k0_chk1070 (v831 : IVec S16 32) : Prop :=
  (∀ a x, ((![v831] : Fin 1 → IVec S16 32) a x).toNat < S6144.size a)
theorem k0_idx1070_inb : ∀ (v831 : IVec S16 32) (k0_hw1070 : k0_chk1070 v831), ∀ a x, ((![v831] : Fin 1 → IVec S16 32) a x).toNat < S6144.size a := fun v831 k0_hw1070 => k0_hw1070

def k0_chk1071 (v836 : IVec S16 32) : Prop :=
  (∀ a x, ((![v836] : Fin 1 → IVec S16 32) a x).toNat < S6144.size a)
theorem k0_idx1071_inb : ∀ (v836 : IVec S16 32) (k0_hw1071 : k0_chk1071 v836), ∀ a x, ((![v836] : Fin 1 → IVec S16 32) a x).toNat < S6144.size a := fun v836 k0_hw1071 => k0_hw1071

def k0_chk1072 (v841 : IVec S16 32) : Prop :=
  (∀ a x, ((![v841] : Fin 1 → IVec S16 32) a x).toNat < S6144.size a)
theorem k0_idx1072_inb : ∀ (v841 : IVec S16 32) (k0_hw1072 : k0_chk1072 v841), ∀ a x, ((![v841] : Fin 1 → IVec S16 32) a x).toNat < S6144.size a := fun v841 k0_hw1072 => k0_hw1072

def k0_chk1073 (v846 : IVec S16 32) : Prop :=
  (∀ a x, ((![v846] : Fin 1 → IVec S16 32) a x).toNat < S6144.size a)
theorem k0_idx1073_inb : ∀ (v846 : IVec S16 32) (k0_hw1073 : k0_chk1073 v846), ∀ a x, ((![v846] : Fin 1 → IVec S16 32) a x).toNat < S6144.size a := fun v846 k0_hw1073 => k0_hw1073

def k0_chk1074 (v851 : IVec S16 32) : Prop :=
  (∀ a x, ((![v851] : Fin 1 → IVec S16 32) a x).toNat < S6144.size a)
theorem k0_idx1074_inb : ∀ (v851 : IVec S16 32) (k0_hw1074 : k0_chk1074 v851), ∀ a x, ((![v851] : Fin 1 → IVec S16 32) a x).toNat < S6144.size a := fun v851 k0_hw1074 => k0_hw1074

def k0_chk1075 (v856 : IVec S16 32) : Prop :=
  (∀ a x, ((![v856] : Fin 1 → IVec S16 32) a x).toNat < S6144.size a)
theorem k0_idx1075_inb : ∀ (v856 : IVec S16 32) (k0_hw1075 : k0_chk1075 v856), ∀ a x, ((![v856] : Fin 1 → IVec S16 32) a x).toNat < S6144.size a := fun v856 k0_hw1075 => k0_hw1075

def k0_chk1076 (v861 : IVec S16 32) : Prop :=
  (∀ a x, ((![v861] : Fin 1 → IVec S16 32) a x).toNat < S6144.size a)
theorem k0_idx1076_inb : ∀ (v861 : IVec S16 32) (k0_hw1076 : k0_chk1076 v861), ∀ a x, ((![v861] : Fin 1 → IVec S16 32) a x).toNat < S6144.size a := fun v861 k0_hw1076 => k0_hw1076

def k0_chk1077 (v866 : IVec S16 32) : Prop :=
  (∀ a x, ((![v866] : Fin 1 → IVec S16 32) a x).toNat < S6144.size a)
theorem k0_idx1077_inb : ∀ (v866 : IVec S16 32) (k0_hw1077 : k0_chk1077 v866), ∀ a x, ((![v866] : Fin 1 → IVec S16 32) a x).toNat < S6144.size a := fun v866 k0_hw1077 => k0_hw1077

def k0_chk1078 (v871 : IVec S16 32) : Prop :=
  (∀ a x, ((![v871] : Fin 1 → IVec S16 32) a x).toNat < S6144.size a)
theorem k0_idx1078_inb : ∀ (v871 : IVec S16 32) (k0_hw1078 : k0_chk1078 v871), ∀ a x, ((![v871] : Fin 1 → IVec S16 32) a x).toNat < S6144.size a := fun v871 k0_hw1078 => k0_hw1078

def k0_chk1079 (v876 : IVec S16 32) : Prop :=
  (∀ a x, ((![v876] : Fin 1 → IVec S16 32) a x).toNat < S6144.size a)
theorem k0_idx1079_inb : ∀ (v876 : IVec S16 32) (k0_hw1079 : k0_chk1079 v876), ∀ a x, ((![v876] : Fin 1 → IVec S16 32) a x).toNat < S6144.size a := fun v876 k0_hw1079 => k0_hw1079

def k0_chk1080 (v881 : IVec S16 32) : Prop :=
  (∀ a x, ((![v881] : Fin 1 → IVec S16 32) a x).toNat < S6144.size a)
theorem k0_idx1080_inb : ∀ (v881 : IVec S16 32) (k0_hw1080 : k0_chk1080 v881), ∀ a x, ((![v881] : Fin 1 → IVec S16 32) a x).toNat < S6144.size a := fun v881 k0_hw1080 => k0_hw1080

def k0_chk1081 (v886 : IVec S16 32) : Prop :=
  (∀ a x, ((![v886] : Fin 1 → IVec S16 32) a x).toNat < S6144.size a)
theorem k0_idx1081_inb : ∀ (v886 : IVec S16 32) (k0_hw1081 : k0_chk1081 v886), ∀ a x, ((![v886] : Fin 1 → IVec S16 32) a x).toNat < S6144.size a := fun v886 k0_hw1081 => k0_hw1081

def k0_chk1082 (v891 : IVec S16 32) : Prop :=
  (∀ a x, ((![v891] : Fin 1 → IVec S16 32) a x).toNat < S6144.size a)
theorem k0_idx1082_inb : ∀ (v891 : IVec S16 32) (k0_hw1082 : k0_chk1082 v891), ∀ a x, ((![v891] : Fin 1 → IVec S16 32) a x).toNat < S6144.size a := fun v891 k0_hw1082 => k0_hw1082

def k0_chk1083 (v896 : IVec S16 32) : Prop :=
  (∀ a x, ((![v896] : Fin 1 → IVec S16 32) a x).toNat < S6144.size a)
theorem k0_idx1083_inb : ∀ (v896 : IVec S16 32) (k0_hw1083 : k0_chk1083 v896), ∀ a x, ((![v896] : Fin 1 → IVec S16 32) a x).toNat < S6144.size a := fun v896 k0_hw1083 => k0_hw1083

def k0_chk1084 (v901 : IVec S16 32) : Prop :=
  (∀ a x, ((![v901] : Fin 1 → IVec S16 32) a x).toNat < S6144.size a)
theorem k0_idx1084_inb : ∀ (v901 : IVec S16 32) (k0_hw1084 : k0_chk1084 v901), ∀ a x, ((![v901] : Fin 1 → IVec S16 32) a x).toNat < S6144.size a := fun v901 k0_hw1084 => k0_hw1084

def k0_chk1085 (v906 : IVec S16 32) : Prop :=
  (∀ a x, ((![v906] : Fin 1 → IVec S16 32) a x).toNat < S6144.size a)
theorem k0_idx1085_inb : ∀ (v906 : IVec S16 32) (k0_hw1085 : k0_chk1085 v906), ∀ a x, ((![v906] : Fin 1 → IVec S16 32) a x).toNat < S6144.size a := fun v906 k0_hw1085 => k0_hw1085

def k0_chk1086 (v911 : IVec S16 32) : Prop :=
  (∀ a x, ((![v911] : Fin 1 → IVec S16 32) a x).toNat < S6144.size a)
theorem k0_idx1086_inb : ∀ (v911 : IVec S16 32) (k0_hw1086 : k0_chk1086 v911), ∀ a x, ((![v911] : Fin 1 → IVec S16 32) a x).toNat < S6144.size a := fun v911 k0_hw1086 => k0_hw1086

def k0_chk1087 (v916 : IVec S16 32) : Prop :=
  (∀ a x, ((![v916] : Fin 1 → IVec S16 32) a x).toNat < S6144.size a)
theorem k0_idx1087_inb : ∀ (v916 : IVec S16 32) (k0_hw1087 : k0_chk1087 v916), ∀ a x, ((![v916] : Fin 1 → IVec S16 32) a x).toNat < S6144.size a := fun v916 k0_hw1087 => k0_hw1087

def k0_chk1088 (v921 : IVec S16 32) : Prop :=
  (∀ a x, ((![v921] : Fin 1 → IVec S16 32) a x).toNat < S6144.size a)
theorem k0_idx1088_inb : ∀ (v921 : IVec S16 32) (k0_hw1088 : k0_chk1088 v921), ∀ a x, ((![v921] : Fin 1 → IVec S16 32) a x).toNat < S6144.size a := fun v921 k0_hw1088 => k0_hw1088
@[reducible] def k0_t36_loop : Scf.Loop 32 :=
  let c0_i32_559 : BitVec 32 := 0#32
  let c64_i32_560 : BitVec 32 := 64#32
  let v398 : BitVec 32 := Scalar.addi c0_i32_559 c64_i32_560
  let c1_i32_561 : BitVec 32 := 1#32
  ⟨c0_i32_559, v398, c1_i32_561⟩
def k0_off60 (k0_t36 : Fin k0_t36_loop.trips) (c0_i32_762 : BitVec 32) : Fin 2 → Nat :=
  let c0_i32_559 : BitVec 32 := 0#32
  let c1_i32_561 : BitVec 32 := 1#32
  let arg12 : BitVec 32 := Scf.iv c0_i32_559 c1_i32_561 k0_t36
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1089 (v766 : IVec S16 32) : Prop :=
  (∀ a x, ((![v766] : Fin 1 → IVec S16 32) a x).toNat < S6144.size a)
theorem k0_idx1089_inb : ∀ (v766 : IVec S16 32) (k0_hw1089 : k0_chk1089 v766), ∀ a x, ((![v766] : Fin 1 → IVec S16 32) a x).toNat < S6144.size a := fun v766 k0_hw1089 => k0_hw1089

def k0_chk1090 (v771 : IVec S16 32) : Prop :=
  (∀ a x, ((![v771] : Fin 1 → IVec S16 32) a x).toNat < S6144.size a)
theorem k0_idx1090_inb : ∀ (v771 : IVec S16 32) (k0_hw1090 : k0_chk1090 v771), ∀ a x, ((![v771] : Fin 1 → IVec S16 32) a x).toNat < S6144.size a := fun v771 k0_hw1090 => k0_hw1090

def k0_chk1091 (v776 : IVec S16 32) : Prop :=
  (∀ a x, ((![v776] : Fin 1 → IVec S16 32) a x).toNat < S6144.size a)
theorem k0_idx1091_inb : ∀ (v776 : IVec S16 32) (k0_hw1091 : k0_chk1091 v776), ∀ a x, ((![v776] : Fin 1 → IVec S16 32) a x).toNat < S6144.size a := fun v776 k0_hw1091 => k0_hw1091

def k0_chk1092 (v781 : IVec S16 32) : Prop :=
  (∀ a x, ((![v781] : Fin 1 → IVec S16 32) a x).toNat < S6144.size a)
theorem k0_idx1092_inb : ∀ (v781 : IVec S16 32) (k0_hw1092 : k0_chk1092 v781), ∀ a x, ((![v781] : Fin 1 → IVec S16 32) a x).toNat < S6144.size a := fun v781 k0_hw1092 => k0_hw1092

def k0_chk1093 (v786 : IVec S16 32) : Prop :=
  (∀ a x, ((![v786] : Fin 1 → IVec S16 32) a x).toNat < S6144.size a)
theorem k0_idx1093_inb : ∀ (v786 : IVec S16 32) (k0_hw1093 : k0_chk1093 v786), ∀ a x, ((![v786] : Fin 1 → IVec S16 32) a x).toNat < S6144.size a := fun v786 k0_hw1093 => k0_hw1093

def k0_chk1094 (v791 : IVec S16 32) : Prop :=
  (∀ a x, ((![v791] : Fin 1 → IVec S16 32) a x).toNat < S6144.size a)
theorem k0_idx1094_inb : ∀ (v791 : IVec S16 32) (k0_hw1094 : k0_chk1094 v791), ∀ a x, ((![v791] : Fin 1 → IVec S16 32) a x).toNat < S6144.size a := fun v791 k0_hw1094 => k0_hw1094

def k0_chk1095 (v796 : IVec S16 32) : Prop :=
  (∀ a x, ((![v796] : Fin 1 → IVec S16 32) a x).toNat < S6144.size a)
theorem k0_idx1095_inb : ∀ (v796 : IVec S16 32) (k0_hw1095 : k0_chk1095 v796), ∀ a x, ((![v796] : Fin 1 → IVec S16 32) a x).toNat < S6144.size a := fun v796 k0_hw1095 => k0_hw1095

def k0_chk1096 (v801 : IVec S16 32) : Prop :=
  (∀ a x, ((![v801] : Fin 1 → IVec S16 32) a x).toNat < S6144.size a)
theorem k0_idx1096_inb : ∀ (v801 : IVec S16 32) (k0_hw1096 : k0_chk1096 v801), ∀ a x, ((![v801] : Fin 1 → IVec S16 32) a x).toNat < S6144.size a := fun v801 k0_hw1096 => k0_hw1096

def k0_chk1097 (v806 : IVec S16 32) : Prop :=
  (∀ a x, ((![v806] : Fin 1 → IVec S16 32) a x).toNat < S6144.size a)
theorem k0_idx1097_inb : ∀ (v806 : IVec S16 32) (k0_hw1097 : k0_chk1097 v806), ∀ a x, ((![v806] : Fin 1 → IVec S16 32) a x).toNat < S6144.size a := fun v806 k0_hw1097 => k0_hw1097

def k0_chk1098 (v811 : IVec S16 32) : Prop :=
  (∀ a x, ((![v811] : Fin 1 → IVec S16 32) a x).toNat < S6144.size a)
theorem k0_idx1098_inb : ∀ (v811 : IVec S16 32) (k0_hw1098 : k0_chk1098 v811), ∀ a x, ((![v811] : Fin 1 → IVec S16 32) a x).toNat < S6144.size a := fun v811 k0_hw1098 => k0_hw1098

def k0_chk1099 (v816 : IVec S16 32) : Prop :=
  (∀ a x, ((![v816] : Fin 1 → IVec S16 32) a x).toNat < S6144.size a)
theorem k0_idx1099_inb : ∀ (v816 : IVec S16 32) (k0_hw1099 : k0_chk1099 v816), ∀ a x, ((![v816] : Fin 1 → IVec S16 32) a x).toNat < S6144.size a := fun v816 k0_hw1099 => k0_hw1099

def k0_chk1100 (v821 : IVec S16 32) : Prop :=
  (∀ a x, ((![v821] : Fin 1 → IVec S16 32) a x).toNat < S6144.size a)
theorem k0_idx1100_inb : ∀ (v821 : IVec S16 32) (k0_hw1100 : k0_chk1100 v821), ∀ a x, ((![v821] : Fin 1 → IVec S16 32) a x).toNat < S6144.size a := fun v821 k0_hw1100 => k0_hw1100

def k0_chk1101 (v826 : IVec S16 32) : Prop :=
  (∀ a x, ((![v826] : Fin 1 → IVec S16 32) a x).toNat < S6144.size a)
theorem k0_idx1101_inb : ∀ (v826 : IVec S16 32) (k0_hw1101 : k0_chk1101 v826), ∀ a x, ((![v826] : Fin 1 → IVec S16 32) a x).toNat < S6144.size a := fun v826 k0_hw1101 => k0_hw1101

def k0_chk1102 (v831 : IVec S16 32) : Prop :=
  (∀ a x, ((![v831] : Fin 1 → IVec S16 32) a x).toNat < S6144.size a)
theorem k0_idx1102_inb : ∀ (v831 : IVec S16 32) (k0_hw1102 : k0_chk1102 v831), ∀ a x, ((![v831] : Fin 1 → IVec S16 32) a x).toNat < S6144.size a := fun v831 k0_hw1102 => k0_hw1102

def k0_chk1103 (v836 : IVec S16 32) : Prop :=
  (∀ a x, ((![v836] : Fin 1 → IVec S16 32) a x).toNat < S6144.size a)
theorem k0_idx1103_inb : ∀ (v836 : IVec S16 32) (k0_hw1103 : k0_chk1103 v836), ∀ a x, ((![v836] : Fin 1 → IVec S16 32) a x).toNat < S6144.size a := fun v836 k0_hw1103 => k0_hw1103

def k0_chk1104 (v841 : IVec S16 32) : Prop :=
  (∀ a x, ((![v841] : Fin 1 → IVec S16 32) a x).toNat < S6144.size a)
theorem k0_idx1104_inb : ∀ (v841 : IVec S16 32) (k0_hw1104 : k0_chk1104 v841), ∀ a x, ((![v841] : Fin 1 → IVec S16 32) a x).toNat < S6144.size a := fun v841 k0_hw1104 => k0_hw1104

def k0_chk1105 (v846 : IVec S16 32) : Prop :=
  (∀ a x, ((![v846] : Fin 1 → IVec S16 32) a x).toNat < S6144.size a)
theorem k0_idx1105_inb : ∀ (v846 : IVec S16 32) (k0_hw1105 : k0_chk1105 v846), ∀ a x, ((![v846] : Fin 1 → IVec S16 32) a x).toNat < S6144.size a := fun v846 k0_hw1105 => k0_hw1105

def k0_chk1106 (v851 : IVec S16 32) : Prop :=
  (∀ a x, ((![v851] : Fin 1 → IVec S16 32) a x).toNat < S6144.size a)
theorem k0_idx1106_inb : ∀ (v851 : IVec S16 32) (k0_hw1106 : k0_chk1106 v851), ∀ a x, ((![v851] : Fin 1 → IVec S16 32) a x).toNat < S6144.size a := fun v851 k0_hw1106 => k0_hw1106

def k0_chk1107 (v856 : IVec S16 32) : Prop :=
  (∀ a x, ((![v856] : Fin 1 → IVec S16 32) a x).toNat < S6144.size a)
theorem k0_idx1107_inb : ∀ (v856 : IVec S16 32) (k0_hw1107 : k0_chk1107 v856), ∀ a x, ((![v856] : Fin 1 → IVec S16 32) a x).toNat < S6144.size a := fun v856 k0_hw1107 => k0_hw1107

def k0_chk1108 (v861 : IVec S16 32) : Prop :=
  (∀ a x, ((![v861] : Fin 1 → IVec S16 32) a x).toNat < S6144.size a)
theorem k0_idx1108_inb : ∀ (v861 : IVec S16 32) (k0_hw1108 : k0_chk1108 v861), ∀ a x, ((![v861] : Fin 1 → IVec S16 32) a x).toNat < S6144.size a := fun v861 k0_hw1108 => k0_hw1108

def k0_chk1109 (v866 : IVec S16 32) : Prop :=
  (∀ a x, ((![v866] : Fin 1 → IVec S16 32) a x).toNat < S6144.size a)
theorem k0_idx1109_inb : ∀ (v866 : IVec S16 32) (k0_hw1109 : k0_chk1109 v866), ∀ a x, ((![v866] : Fin 1 → IVec S16 32) a x).toNat < S6144.size a := fun v866 k0_hw1109 => k0_hw1109

def k0_chk1110 (v871 : IVec S16 32) : Prop :=
  (∀ a x, ((![v871] : Fin 1 → IVec S16 32) a x).toNat < S6144.size a)
theorem k0_idx1110_inb : ∀ (v871 : IVec S16 32) (k0_hw1110 : k0_chk1110 v871), ∀ a x, ((![v871] : Fin 1 → IVec S16 32) a x).toNat < S6144.size a := fun v871 k0_hw1110 => k0_hw1110

def k0_chk1111 (v876 : IVec S16 32) : Prop :=
  (∀ a x, ((![v876] : Fin 1 → IVec S16 32) a x).toNat < S6144.size a)
theorem k0_idx1111_inb : ∀ (v876 : IVec S16 32) (k0_hw1111 : k0_chk1111 v876), ∀ a x, ((![v876] : Fin 1 → IVec S16 32) a x).toNat < S6144.size a := fun v876 k0_hw1111 => k0_hw1111

def k0_chk1112 (v881 : IVec S16 32) : Prop :=
  (∀ a x, ((![v881] : Fin 1 → IVec S16 32) a x).toNat < S6144.size a)
theorem k0_idx1112_inb : ∀ (v881 : IVec S16 32) (k0_hw1112 : k0_chk1112 v881), ∀ a x, ((![v881] : Fin 1 → IVec S16 32) a x).toNat < S6144.size a := fun v881 k0_hw1112 => k0_hw1112

def k0_chk1113 (v886 : IVec S16 32) : Prop :=
  (∀ a x, ((![v886] : Fin 1 → IVec S16 32) a x).toNat < S6144.size a)
theorem k0_idx1113_inb : ∀ (v886 : IVec S16 32) (k0_hw1113 : k0_chk1113 v886), ∀ a x, ((![v886] : Fin 1 → IVec S16 32) a x).toNat < S6144.size a := fun v886 k0_hw1113 => k0_hw1113

def k0_chk1114 (v891 : IVec S16 32) : Prop :=
  (∀ a x, ((![v891] : Fin 1 → IVec S16 32) a x).toNat < S6144.size a)
theorem k0_idx1114_inb : ∀ (v891 : IVec S16 32) (k0_hw1114 : k0_chk1114 v891), ∀ a x, ((![v891] : Fin 1 → IVec S16 32) a x).toNat < S6144.size a := fun v891 k0_hw1114 => k0_hw1114

def k0_chk1115 (v896 : IVec S16 32) : Prop :=
  (∀ a x, ((![v896] : Fin 1 → IVec S16 32) a x).toNat < S6144.size a)
theorem k0_idx1115_inb : ∀ (v896 : IVec S16 32) (k0_hw1115 : k0_chk1115 v896), ∀ a x, ((![v896] : Fin 1 → IVec S16 32) a x).toNat < S6144.size a := fun v896 k0_hw1115 => k0_hw1115

def k0_chk1116 (v901 : IVec S16 32) : Prop :=
  (∀ a x, ((![v901] : Fin 1 → IVec S16 32) a x).toNat < S6144.size a)
theorem k0_idx1116_inb : ∀ (v901 : IVec S16 32) (k0_hw1116 : k0_chk1116 v901), ∀ a x, ((![v901] : Fin 1 → IVec S16 32) a x).toNat < S6144.size a := fun v901 k0_hw1116 => k0_hw1116

def k0_chk1117 (v906 : IVec S16 32) : Prop :=
  (∀ a x, ((![v906] : Fin 1 → IVec S16 32) a x).toNat < S6144.size a)
theorem k0_idx1117_inb : ∀ (v906 : IVec S16 32) (k0_hw1117 : k0_chk1117 v906), ∀ a x, ((![v906] : Fin 1 → IVec S16 32) a x).toNat < S6144.size a := fun v906 k0_hw1117 => k0_hw1117

def k0_chk1118 (v911 : IVec S16 32) : Prop :=
  (∀ a x, ((![v911] : Fin 1 → IVec S16 32) a x).toNat < S6144.size a)
theorem k0_idx1118_inb : ∀ (v911 : IVec S16 32) (k0_hw1118 : k0_chk1118 v911), ∀ a x, ((![v911] : Fin 1 → IVec S16 32) a x).toNat < S6144.size a := fun v911 k0_hw1118 => k0_hw1118

def k0_chk1119 (v916 : IVec S16 32) : Prop :=
  (∀ a x, ((![v916] : Fin 1 → IVec S16 32) a x).toNat < S6144.size a)
theorem k0_idx1119_inb : ∀ (v916 : IVec S16 32) (k0_hw1119 : k0_chk1119 v916), ∀ a x, ((![v916] : Fin 1 → IVec S16 32) a x).toNat < S6144.size a := fun v916 k0_hw1119 => k0_hw1119

def k0_chk1120 (v921 : IVec S16 32) : Prop :=
  (∀ a x, ((![v921] : Fin 1 → IVec S16 32) a x).toNat < S6144.size a)
theorem k0_idx1120_inb : ∀ (v921 : IVec S16 32) (k0_hw1120 : k0_chk1120 v921), ∀ a x, ((![v921] : Fin 1 → IVec S16 32) a x).toNat < S6144.size a := fun v921 k0_hw1120 => k0_hw1120
@[reducible] def k0_t37_loop : Scf.Loop 32 :=
  let c0_i32_575 : BitVec 32 := 0#32
  let c64_i32_576 : BitVec 32 := 64#32
  let v409 : BitVec 32 := Scalar.addi c0_i32_575 c64_i32_576
  let c1_i32_577 : BitVec 32 := 1#32
  ⟨c0_i32_575, v409, c1_i32_577⟩
def k0_off61 (k0_t37 : Fin k0_t37_loop.trips) (c0_i32_762 : BitVec 32) : Fin 2 → Nat :=
  let c0_i32_575 : BitVec 32 := 0#32
  let c1_i32_577 : BitVec 32 := 1#32
  let arg12 : BitVec 32 := Scf.iv c0_i32_575 c1_i32_577 k0_t37
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1121 (v766 : IVec S16 32) : Prop :=
  (∀ a x, ((![v766] : Fin 1 → IVec S16 32) a x).toNat < S6144.size a)
theorem k0_idx1121_inb : ∀ (v766 : IVec S16 32) (k0_hw1121 : k0_chk1121 v766), ∀ a x, ((![v766] : Fin 1 → IVec S16 32) a x).toNat < S6144.size a := fun v766 k0_hw1121 => k0_hw1121

def k0_chk1122 (v771 : IVec S16 32) : Prop :=
  (∀ a x, ((![v771] : Fin 1 → IVec S16 32) a x).toNat < S6144.size a)
theorem k0_idx1122_inb : ∀ (v771 : IVec S16 32) (k0_hw1122 : k0_chk1122 v771), ∀ a x, ((![v771] : Fin 1 → IVec S16 32) a x).toNat < S6144.size a := fun v771 k0_hw1122 => k0_hw1122

def k0_chk1123 (v776 : IVec S16 32) : Prop :=
  (∀ a x, ((![v776] : Fin 1 → IVec S16 32) a x).toNat < S6144.size a)
theorem k0_idx1123_inb : ∀ (v776 : IVec S16 32) (k0_hw1123 : k0_chk1123 v776), ∀ a x, ((![v776] : Fin 1 → IVec S16 32) a x).toNat < S6144.size a := fun v776 k0_hw1123 => k0_hw1123

def k0_chk1124 (v781 : IVec S16 32) : Prop :=
  (∀ a x, ((![v781] : Fin 1 → IVec S16 32) a x).toNat < S6144.size a)
theorem k0_idx1124_inb : ∀ (v781 : IVec S16 32) (k0_hw1124 : k0_chk1124 v781), ∀ a x, ((![v781] : Fin 1 → IVec S16 32) a x).toNat < S6144.size a := fun v781 k0_hw1124 => k0_hw1124

def k0_chk1125 (v786 : IVec S16 32) : Prop :=
  (∀ a x, ((![v786] : Fin 1 → IVec S16 32) a x).toNat < S6144.size a)
theorem k0_idx1125_inb : ∀ (v786 : IVec S16 32) (k0_hw1125 : k0_chk1125 v786), ∀ a x, ((![v786] : Fin 1 → IVec S16 32) a x).toNat < S6144.size a := fun v786 k0_hw1125 => k0_hw1125

def k0_chk1126 (v791 : IVec S16 32) : Prop :=
  (∀ a x, ((![v791] : Fin 1 → IVec S16 32) a x).toNat < S6144.size a)
theorem k0_idx1126_inb : ∀ (v791 : IVec S16 32) (k0_hw1126 : k0_chk1126 v791), ∀ a x, ((![v791] : Fin 1 → IVec S16 32) a x).toNat < S6144.size a := fun v791 k0_hw1126 => k0_hw1126

def k0_chk1127 (v796 : IVec S16 32) : Prop :=
  (∀ a x, ((![v796] : Fin 1 → IVec S16 32) a x).toNat < S6144.size a)
theorem k0_idx1127_inb : ∀ (v796 : IVec S16 32) (k0_hw1127 : k0_chk1127 v796), ∀ a x, ((![v796] : Fin 1 → IVec S16 32) a x).toNat < S6144.size a := fun v796 k0_hw1127 => k0_hw1127

def k0_chk1128 (v801 : IVec S16 32) : Prop :=
  (∀ a x, ((![v801] : Fin 1 → IVec S16 32) a x).toNat < S6144.size a)
theorem k0_idx1128_inb : ∀ (v801 : IVec S16 32) (k0_hw1128 : k0_chk1128 v801), ∀ a x, ((![v801] : Fin 1 → IVec S16 32) a x).toNat < S6144.size a := fun v801 k0_hw1128 => k0_hw1128

def k0_chk1129 (v806 : IVec S16 32) : Prop :=
  (∀ a x, ((![v806] : Fin 1 → IVec S16 32) a x).toNat < S6144.size a)
theorem k0_idx1129_inb : ∀ (v806 : IVec S16 32) (k0_hw1129 : k0_chk1129 v806), ∀ a x, ((![v806] : Fin 1 → IVec S16 32) a x).toNat < S6144.size a := fun v806 k0_hw1129 => k0_hw1129

def k0_chk1130 (v811 : IVec S16 32) : Prop :=
  (∀ a x, ((![v811] : Fin 1 → IVec S16 32) a x).toNat < S6144.size a)
theorem k0_idx1130_inb : ∀ (v811 : IVec S16 32) (k0_hw1130 : k0_chk1130 v811), ∀ a x, ((![v811] : Fin 1 → IVec S16 32) a x).toNat < S6144.size a := fun v811 k0_hw1130 => k0_hw1130

def k0_chk1131 (v816 : IVec S16 32) : Prop :=
  (∀ a x, ((![v816] : Fin 1 → IVec S16 32) a x).toNat < S6144.size a)
theorem k0_idx1131_inb : ∀ (v816 : IVec S16 32) (k0_hw1131 : k0_chk1131 v816), ∀ a x, ((![v816] : Fin 1 → IVec S16 32) a x).toNat < S6144.size a := fun v816 k0_hw1131 => k0_hw1131

def k0_chk1132 (v821 : IVec S16 32) : Prop :=
  (∀ a x, ((![v821] : Fin 1 → IVec S16 32) a x).toNat < S6144.size a)
theorem k0_idx1132_inb : ∀ (v821 : IVec S16 32) (k0_hw1132 : k0_chk1132 v821), ∀ a x, ((![v821] : Fin 1 → IVec S16 32) a x).toNat < S6144.size a := fun v821 k0_hw1132 => k0_hw1132

def k0_chk1133 (v826 : IVec S16 32) : Prop :=
  (∀ a x, ((![v826] : Fin 1 → IVec S16 32) a x).toNat < S6144.size a)
theorem k0_idx1133_inb : ∀ (v826 : IVec S16 32) (k0_hw1133 : k0_chk1133 v826), ∀ a x, ((![v826] : Fin 1 → IVec S16 32) a x).toNat < S6144.size a := fun v826 k0_hw1133 => k0_hw1133

def k0_chk1134 (v831 : IVec S16 32) : Prop :=
  (∀ a x, ((![v831] : Fin 1 → IVec S16 32) a x).toNat < S6144.size a)
theorem k0_idx1134_inb : ∀ (v831 : IVec S16 32) (k0_hw1134 : k0_chk1134 v831), ∀ a x, ((![v831] : Fin 1 → IVec S16 32) a x).toNat < S6144.size a := fun v831 k0_hw1134 => k0_hw1134

def k0_chk1135 (v836 : IVec S16 32) : Prop :=
  (∀ a x, ((![v836] : Fin 1 → IVec S16 32) a x).toNat < S6144.size a)
theorem k0_idx1135_inb : ∀ (v836 : IVec S16 32) (k0_hw1135 : k0_chk1135 v836), ∀ a x, ((![v836] : Fin 1 → IVec S16 32) a x).toNat < S6144.size a := fun v836 k0_hw1135 => k0_hw1135

def k0_chk1136 (v841 : IVec S16 32) : Prop :=
  (∀ a x, ((![v841] : Fin 1 → IVec S16 32) a x).toNat < S6144.size a)
theorem k0_idx1136_inb : ∀ (v841 : IVec S16 32) (k0_hw1136 : k0_chk1136 v841), ∀ a x, ((![v841] : Fin 1 → IVec S16 32) a x).toNat < S6144.size a := fun v841 k0_hw1136 => k0_hw1136

def k0_chk1137 (v846 : IVec S16 32) : Prop :=
  (∀ a x, ((![v846] : Fin 1 → IVec S16 32) a x).toNat < S6144.size a)
theorem k0_idx1137_inb : ∀ (v846 : IVec S16 32) (k0_hw1137 : k0_chk1137 v846), ∀ a x, ((![v846] : Fin 1 → IVec S16 32) a x).toNat < S6144.size a := fun v846 k0_hw1137 => k0_hw1137

def k0_chk1138 (v851 : IVec S16 32) : Prop :=
  (∀ a x, ((![v851] : Fin 1 → IVec S16 32) a x).toNat < S6144.size a)
theorem k0_idx1138_inb : ∀ (v851 : IVec S16 32) (k0_hw1138 : k0_chk1138 v851), ∀ a x, ((![v851] : Fin 1 → IVec S16 32) a x).toNat < S6144.size a := fun v851 k0_hw1138 => k0_hw1138

def k0_chk1139 (v856 : IVec S16 32) : Prop :=
  (∀ a x, ((![v856] : Fin 1 → IVec S16 32) a x).toNat < S6144.size a)
theorem k0_idx1139_inb : ∀ (v856 : IVec S16 32) (k0_hw1139 : k0_chk1139 v856), ∀ a x, ((![v856] : Fin 1 → IVec S16 32) a x).toNat < S6144.size a := fun v856 k0_hw1139 => k0_hw1139

def k0_chk1140 (v861 : IVec S16 32) : Prop :=
  (∀ a x, ((![v861] : Fin 1 → IVec S16 32) a x).toNat < S6144.size a)
theorem k0_idx1140_inb : ∀ (v861 : IVec S16 32) (k0_hw1140 : k0_chk1140 v861), ∀ a x, ((![v861] : Fin 1 → IVec S16 32) a x).toNat < S6144.size a := fun v861 k0_hw1140 => k0_hw1140

def k0_chk1141 (v866 : IVec S16 32) : Prop :=
  (∀ a x, ((![v866] : Fin 1 → IVec S16 32) a x).toNat < S6144.size a)
theorem k0_idx1141_inb : ∀ (v866 : IVec S16 32) (k0_hw1141 : k0_chk1141 v866), ∀ a x, ((![v866] : Fin 1 → IVec S16 32) a x).toNat < S6144.size a := fun v866 k0_hw1141 => k0_hw1141

def k0_chk1142 (v871 : IVec S16 32) : Prop :=
  (∀ a x, ((![v871] : Fin 1 → IVec S16 32) a x).toNat < S6144.size a)
theorem k0_idx1142_inb : ∀ (v871 : IVec S16 32) (k0_hw1142 : k0_chk1142 v871), ∀ a x, ((![v871] : Fin 1 → IVec S16 32) a x).toNat < S6144.size a := fun v871 k0_hw1142 => k0_hw1142

def k0_chk1143 (v876 : IVec S16 32) : Prop :=
  (∀ a x, ((![v876] : Fin 1 → IVec S16 32) a x).toNat < S6144.size a)
theorem k0_idx1143_inb : ∀ (v876 : IVec S16 32) (k0_hw1143 : k0_chk1143 v876), ∀ a x, ((![v876] : Fin 1 → IVec S16 32) a x).toNat < S6144.size a := fun v876 k0_hw1143 => k0_hw1143

def k0_chk1144 (v881 : IVec S16 32) : Prop :=
  (∀ a x, ((![v881] : Fin 1 → IVec S16 32) a x).toNat < S6144.size a)
theorem k0_idx1144_inb : ∀ (v881 : IVec S16 32) (k0_hw1144 : k0_chk1144 v881), ∀ a x, ((![v881] : Fin 1 → IVec S16 32) a x).toNat < S6144.size a := fun v881 k0_hw1144 => k0_hw1144

def k0_chk1145 (v886 : IVec S16 32) : Prop :=
  (∀ a x, ((![v886] : Fin 1 → IVec S16 32) a x).toNat < S6144.size a)
theorem k0_idx1145_inb : ∀ (v886 : IVec S16 32) (k0_hw1145 : k0_chk1145 v886), ∀ a x, ((![v886] : Fin 1 → IVec S16 32) a x).toNat < S6144.size a := fun v886 k0_hw1145 => k0_hw1145

def k0_chk1146 (v891 : IVec S16 32) : Prop :=
  (∀ a x, ((![v891] : Fin 1 → IVec S16 32) a x).toNat < S6144.size a)
theorem k0_idx1146_inb : ∀ (v891 : IVec S16 32) (k0_hw1146 : k0_chk1146 v891), ∀ a x, ((![v891] : Fin 1 → IVec S16 32) a x).toNat < S6144.size a := fun v891 k0_hw1146 => k0_hw1146

def k0_chk1147 (v896 : IVec S16 32) : Prop :=
  (∀ a x, ((![v896] : Fin 1 → IVec S16 32) a x).toNat < S6144.size a)
theorem k0_idx1147_inb : ∀ (v896 : IVec S16 32) (k0_hw1147 : k0_chk1147 v896), ∀ a x, ((![v896] : Fin 1 → IVec S16 32) a x).toNat < S6144.size a := fun v896 k0_hw1147 => k0_hw1147

def k0_chk1148 (v901 : IVec S16 32) : Prop :=
  (∀ a x, ((![v901] : Fin 1 → IVec S16 32) a x).toNat < S6144.size a)
theorem k0_idx1148_inb : ∀ (v901 : IVec S16 32) (k0_hw1148 : k0_chk1148 v901), ∀ a x, ((![v901] : Fin 1 → IVec S16 32) a x).toNat < S6144.size a := fun v901 k0_hw1148 => k0_hw1148

def k0_chk1149 (v906 : IVec S16 32) : Prop :=
  (∀ a x, ((![v906] : Fin 1 → IVec S16 32) a x).toNat < S6144.size a)
theorem k0_idx1149_inb : ∀ (v906 : IVec S16 32) (k0_hw1149 : k0_chk1149 v906), ∀ a x, ((![v906] : Fin 1 → IVec S16 32) a x).toNat < S6144.size a := fun v906 k0_hw1149 => k0_hw1149

def k0_chk1150 (v911 : IVec S16 32) : Prop :=
  (∀ a x, ((![v911] : Fin 1 → IVec S16 32) a x).toNat < S6144.size a)
theorem k0_idx1150_inb : ∀ (v911 : IVec S16 32) (k0_hw1150 : k0_chk1150 v911), ∀ a x, ((![v911] : Fin 1 → IVec S16 32) a x).toNat < S6144.size a := fun v911 k0_hw1150 => k0_hw1150

def k0_chk1151 (v916 : IVec S16 32) : Prop :=
  (∀ a x, ((![v916] : Fin 1 → IVec S16 32) a x).toNat < S6144.size a)
theorem k0_idx1151_inb : ∀ (v916 : IVec S16 32) (k0_hw1151 : k0_chk1151 v916), ∀ a x, ((![v916] : Fin 1 → IVec S16 32) a x).toNat < S6144.size a := fun v916 k0_hw1151 => k0_hw1151

def k0_chk1152 (v921 : IVec S16 32) : Prop :=
  (∀ a x, ((![v921] : Fin 1 → IVec S16 32) a x).toNat < S6144.size a)
theorem k0_idx1152_inb : ∀ (v921 : IVec S16 32) (k0_hw1152 : k0_chk1152 v921), ∀ a x, ((![v921] : Fin 1 → IVec S16 32) a x).toNat < S6144.size a := fun v921 k0_hw1152 => k0_hw1152
@[reducible] def k0_t38_loop : Scf.Loop 32 :=
  let c0_i32_591 : BitVec 32 := 0#32
  let c64_i32_592 : BitVec 32 := 64#32
  let v420 : BitVec 32 := Scalar.addi c0_i32_591 c64_i32_592
  let c1_i32_593 : BitVec 32 := 1#32
  ⟨c0_i32_591, v420, c1_i32_593⟩
def k0_off62 (k0_t38 : Fin k0_t38_loop.trips) (c0_i32_762 : BitVec 32) : Fin 2 → Nat :=
  let c0_i32_591 : BitVec 32 := 0#32
  let c1_i32_593 : BitVec 32 := 1#32
  let arg12 : BitVec 32 := Scf.iv c0_i32_591 c1_i32_593 k0_t38
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1153 (v766 : IVec S16 32) : Prop :=
  (∀ a x, ((![v766] : Fin 1 → IVec S16 32) a x).toNat < S6144.size a)
theorem k0_idx1153_inb : ∀ (v766 : IVec S16 32) (k0_hw1153 : k0_chk1153 v766), ∀ a x, ((![v766] : Fin 1 → IVec S16 32) a x).toNat < S6144.size a := fun v766 k0_hw1153 => k0_hw1153

def k0_chk1154 (v771 : IVec S16 32) : Prop :=
  (∀ a x, ((![v771] : Fin 1 → IVec S16 32) a x).toNat < S6144.size a)
theorem k0_idx1154_inb : ∀ (v771 : IVec S16 32) (k0_hw1154 : k0_chk1154 v771), ∀ a x, ((![v771] : Fin 1 → IVec S16 32) a x).toNat < S6144.size a := fun v771 k0_hw1154 => k0_hw1154

def k0_chk1155 (v776 : IVec S16 32) : Prop :=
  (∀ a x, ((![v776] : Fin 1 → IVec S16 32) a x).toNat < S6144.size a)
theorem k0_idx1155_inb : ∀ (v776 : IVec S16 32) (k0_hw1155 : k0_chk1155 v776), ∀ a x, ((![v776] : Fin 1 → IVec S16 32) a x).toNat < S6144.size a := fun v776 k0_hw1155 => k0_hw1155

def k0_chk1156 (v781 : IVec S16 32) : Prop :=
  (∀ a x, ((![v781] : Fin 1 → IVec S16 32) a x).toNat < S6144.size a)
theorem k0_idx1156_inb : ∀ (v781 : IVec S16 32) (k0_hw1156 : k0_chk1156 v781), ∀ a x, ((![v781] : Fin 1 → IVec S16 32) a x).toNat < S6144.size a := fun v781 k0_hw1156 => k0_hw1156

def k0_chk1157 (v786 : IVec S16 32) : Prop :=
  (∀ a x, ((![v786] : Fin 1 → IVec S16 32) a x).toNat < S6144.size a)
theorem k0_idx1157_inb : ∀ (v786 : IVec S16 32) (k0_hw1157 : k0_chk1157 v786), ∀ a x, ((![v786] : Fin 1 → IVec S16 32) a x).toNat < S6144.size a := fun v786 k0_hw1157 => k0_hw1157

def k0_chk1158 (v791 : IVec S16 32) : Prop :=
  (∀ a x, ((![v791] : Fin 1 → IVec S16 32) a x).toNat < S6144.size a)
theorem k0_idx1158_inb : ∀ (v791 : IVec S16 32) (k0_hw1158 : k0_chk1158 v791), ∀ a x, ((![v791] : Fin 1 → IVec S16 32) a x).toNat < S6144.size a := fun v791 k0_hw1158 => k0_hw1158

def k0_chk1159 (v796 : IVec S16 32) : Prop :=
  (∀ a x, ((![v796] : Fin 1 → IVec S16 32) a x).toNat < S6144.size a)
theorem k0_idx1159_inb : ∀ (v796 : IVec S16 32) (k0_hw1159 : k0_chk1159 v796), ∀ a x, ((![v796] : Fin 1 → IVec S16 32) a x).toNat < S6144.size a := fun v796 k0_hw1159 => k0_hw1159

def k0_chk1160 (v801 : IVec S16 32) : Prop :=
  (∀ a x, ((![v801] : Fin 1 → IVec S16 32) a x).toNat < S6144.size a)
theorem k0_idx1160_inb : ∀ (v801 : IVec S16 32) (k0_hw1160 : k0_chk1160 v801), ∀ a x, ((![v801] : Fin 1 → IVec S16 32) a x).toNat < S6144.size a := fun v801 k0_hw1160 => k0_hw1160

def k0_chk1161 (v806 : IVec S16 32) : Prop :=
  (∀ a x, ((![v806] : Fin 1 → IVec S16 32) a x).toNat < S6144.size a)
theorem k0_idx1161_inb : ∀ (v806 : IVec S16 32) (k0_hw1161 : k0_chk1161 v806), ∀ a x, ((![v806] : Fin 1 → IVec S16 32) a x).toNat < S6144.size a := fun v806 k0_hw1161 => k0_hw1161

def k0_chk1162 (v811 : IVec S16 32) : Prop :=
  (∀ a x, ((![v811] : Fin 1 → IVec S16 32) a x).toNat < S6144.size a)
theorem k0_idx1162_inb : ∀ (v811 : IVec S16 32) (k0_hw1162 : k0_chk1162 v811), ∀ a x, ((![v811] : Fin 1 → IVec S16 32) a x).toNat < S6144.size a := fun v811 k0_hw1162 => k0_hw1162

def k0_chk1163 (v816 : IVec S16 32) : Prop :=
  (∀ a x, ((![v816] : Fin 1 → IVec S16 32) a x).toNat < S6144.size a)
theorem k0_idx1163_inb : ∀ (v816 : IVec S16 32) (k0_hw1163 : k0_chk1163 v816), ∀ a x, ((![v816] : Fin 1 → IVec S16 32) a x).toNat < S6144.size a := fun v816 k0_hw1163 => k0_hw1163

def k0_chk1164 (v821 : IVec S16 32) : Prop :=
  (∀ a x, ((![v821] : Fin 1 → IVec S16 32) a x).toNat < S6144.size a)
theorem k0_idx1164_inb : ∀ (v821 : IVec S16 32) (k0_hw1164 : k0_chk1164 v821), ∀ a x, ((![v821] : Fin 1 → IVec S16 32) a x).toNat < S6144.size a := fun v821 k0_hw1164 => k0_hw1164

def k0_chk1165 (v826 : IVec S16 32) : Prop :=
  (∀ a x, ((![v826] : Fin 1 → IVec S16 32) a x).toNat < S6144.size a)
theorem k0_idx1165_inb : ∀ (v826 : IVec S16 32) (k0_hw1165 : k0_chk1165 v826), ∀ a x, ((![v826] : Fin 1 → IVec S16 32) a x).toNat < S6144.size a := fun v826 k0_hw1165 => k0_hw1165

def k0_chk1166 (v831 : IVec S16 32) : Prop :=
  (∀ a x, ((![v831] : Fin 1 → IVec S16 32) a x).toNat < S6144.size a)
theorem k0_idx1166_inb : ∀ (v831 : IVec S16 32) (k0_hw1166 : k0_chk1166 v831), ∀ a x, ((![v831] : Fin 1 → IVec S16 32) a x).toNat < S6144.size a := fun v831 k0_hw1166 => k0_hw1166

def k0_chk1167 (v836 : IVec S16 32) : Prop :=
  (∀ a x, ((![v836] : Fin 1 → IVec S16 32) a x).toNat < S6144.size a)
theorem k0_idx1167_inb : ∀ (v836 : IVec S16 32) (k0_hw1167 : k0_chk1167 v836), ∀ a x, ((![v836] : Fin 1 → IVec S16 32) a x).toNat < S6144.size a := fun v836 k0_hw1167 => k0_hw1167

def k0_chk1168 (v841 : IVec S16 32) : Prop :=
  (∀ a x, ((![v841] : Fin 1 → IVec S16 32) a x).toNat < S6144.size a)
theorem k0_idx1168_inb : ∀ (v841 : IVec S16 32) (k0_hw1168 : k0_chk1168 v841), ∀ a x, ((![v841] : Fin 1 → IVec S16 32) a x).toNat < S6144.size a := fun v841 k0_hw1168 => k0_hw1168

def k0_chk1169 (v846 : IVec S16 32) : Prop :=
  (∀ a x, ((![v846] : Fin 1 → IVec S16 32) a x).toNat < S6144.size a)
theorem k0_idx1169_inb : ∀ (v846 : IVec S16 32) (k0_hw1169 : k0_chk1169 v846), ∀ a x, ((![v846] : Fin 1 → IVec S16 32) a x).toNat < S6144.size a := fun v846 k0_hw1169 => k0_hw1169

def k0_chk1170 (v851 : IVec S16 32) : Prop :=
  (∀ a x, ((![v851] : Fin 1 → IVec S16 32) a x).toNat < S6144.size a)
theorem k0_idx1170_inb : ∀ (v851 : IVec S16 32) (k0_hw1170 : k0_chk1170 v851), ∀ a x, ((![v851] : Fin 1 → IVec S16 32) a x).toNat < S6144.size a := fun v851 k0_hw1170 => k0_hw1170

def k0_chk1171 (v856 : IVec S16 32) : Prop :=
  (∀ a x, ((![v856] : Fin 1 → IVec S16 32) a x).toNat < S6144.size a)
theorem k0_idx1171_inb : ∀ (v856 : IVec S16 32) (k0_hw1171 : k0_chk1171 v856), ∀ a x, ((![v856] : Fin 1 → IVec S16 32) a x).toNat < S6144.size a := fun v856 k0_hw1171 => k0_hw1171

def k0_chk1172 (v861 : IVec S16 32) : Prop :=
  (∀ a x, ((![v861] : Fin 1 → IVec S16 32) a x).toNat < S6144.size a)
theorem k0_idx1172_inb : ∀ (v861 : IVec S16 32) (k0_hw1172 : k0_chk1172 v861), ∀ a x, ((![v861] : Fin 1 → IVec S16 32) a x).toNat < S6144.size a := fun v861 k0_hw1172 => k0_hw1172

def k0_chk1173 (v866 : IVec S16 32) : Prop :=
  (∀ a x, ((![v866] : Fin 1 → IVec S16 32) a x).toNat < S6144.size a)
theorem k0_idx1173_inb : ∀ (v866 : IVec S16 32) (k0_hw1173 : k0_chk1173 v866), ∀ a x, ((![v866] : Fin 1 → IVec S16 32) a x).toNat < S6144.size a := fun v866 k0_hw1173 => k0_hw1173

def k0_chk1174 (v871 : IVec S16 32) : Prop :=
  (∀ a x, ((![v871] : Fin 1 → IVec S16 32) a x).toNat < S6144.size a)
theorem k0_idx1174_inb : ∀ (v871 : IVec S16 32) (k0_hw1174 : k0_chk1174 v871), ∀ a x, ((![v871] : Fin 1 → IVec S16 32) a x).toNat < S6144.size a := fun v871 k0_hw1174 => k0_hw1174

def k0_chk1175 (v876 : IVec S16 32) : Prop :=
  (∀ a x, ((![v876] : Fin 1 → IVec S16 32) a x).toNat < S6144.size a)
theorem k0_idx1175_inb : ∀ (v876 : IVec S16 32) (k0_hw1175 : k0_chk1175 v876), ∀ a x, ((![v876] : Fin 1 → IVec S16 32) a x).toNat < S6144.size a := fun v876 k0_hw1175 => k0_hw1175

def k0_chk1176 (v881 : IVec S16 32) : Prop :=
  (∀ a x, ((![v881] : Fin 1 → IVec S16 32) a x).toNat < S6144.size a)
theorem k0_idx1176_inb : ∀ (v881 : IVec S16 32) (k0_hw1176 : k0_chk1176 v881), ∀ a x, ((![v881] : Fin 1 → IVec S16 32) a x).toNat < S6144.size a := fun v881 k0_hw1176 => k0_hw1176

def k0_chk1177 (v886 : IVec S16 32) : Prop :=
  (∀ a x, ((![v886] : Fin 1 → IVec S16 32) a x).toNat < S6144.size a)
theorem k0_idx1177_inb : ∀ (v886 : IVec S16 32) (k0_hw1177 : k0_chk1177 v886), ∀ a x, ((![v886] : Fin 1 → IVec S16 32) a x).toNat < S6144.size a := fun v886 k0_hw1177 => k0_hw1177

def k0_chk1178 (v891 : IVec S16 32) : Prop :=
  (∀ a x, ((![v891] : Fin 1 → IVec S16 32) a x).toNat < S6144.size a)
theorem k0_idx1178_inb : ∀ (v891 : IVec S16 32) (k0_hw1178 : k0_chk1178 v891), ∀ a x, ((![v891] : Fin 1 → IVec S16 32) a x).toNat < S6144.size a := fun v891 k0_hw1178 => k0_hw1178

def k0_chk1179 (v896 : IVec S16 32) : Prop :=
  (∀ a x, ((![v896] : Fin 1 → IVec S16 32) a x).toNat < S6144.size a)
theorem k0_idx1179_inb : ∀ (v896 : IVec S16 32) (k0_hw1179 : k0_chk1179 v896), ∀ a x, ((![v896] : Fin 1 → IVec S16 32) a x).toNat < S6144.size a := fun v896 k0_hw1179 => k0_hw1179

def k0_chk1180 (v901 : IVec S16 32) : Prop :=
  (∀ a x, ((![v901] : Fin 1 → IVec S16 32) a x).toNat < S6144.size a)
theorem k0_idx1180_inb : ∀ (v901 : IVec S16 32) (k0_hw1180 : k0_chk1180 v901), ∀ a x, ((![v901] : Fin 1 → IVec S16 32) a x).toNat < S6144.size a := fun v901 k0_hw1180 => k0_hw1180

def k0_chk1181 (v906 : IVec S16 32) : Prop :=
  (∀ a x, ((![v906] : Fin 1 → IVec S16 32) a x).toNat < S6144.size a)
theorem k0_idx1181_inb : ∀ (v906 : IVec S16 32) (k0_hw1181 : k0_chk1181 v906), ∀ a x, ((![v906] : Fin 1 → IVec S16 32) a x).toNat < S6144.size a := fun v906 k0_hw1181 => k0_hw1181

def k0_chk1182 (v911 : IVec S16 32) : Prop :=
  (∀ a x, ((![v911] : Fin 1 → IVec S16 32) a x).toNat < S6144.size a)
theorem k0_idx1182_inb : ∀ (v911 : IVec S16 32) (k0_hw1182 : k0_chk1182 v911), ∀ a x, ((![v911] : Fin 1 → IVec S16 32) a x).toNat < S6144.size a := fun v911 k0_hw1182 => k0_hw1182

def k0_chk1183 (v916 : IVec S16 32) : Prop :=
  (∀ a x, ((![v916] : Fin 1 → IVec S16 32) a x).toNat < S6144.size a)
theorem k0_idx1183_inb : ∀ (v916 : IVec S16 32) (k0_hw1183 : k0_chk1183 v916), ∀ a x, ((![v916] : Fin 1 → IVec S16 32) a x).toNat < S6144.size a := fun v916 k0_hw1183 => k0_hw1183

def k0_chk1184 (v921 : IVec S16 32) : Prop :=
  (∀ a x, ((![v921] : Fin 1 → IVec S16 32) a x).toNat < S6144.size a)
theorem k0_idx1184_inb : ∀ (v921 : IVec S16 32) (k0_hw1184 : k0_chk1184 v921), ∀ a x, ((![v921] : Fin 1 → IVec S16 32) a x).toNat < S6144.size a := fun v921 k0_hw1184 => k0_hw1184
@[reducible] def k0_t39_loop : Scf.Loop 32 :=
  let c0_i32_607 : BitVec 32 := 0#32
  let c64_i32_608 : BitVec 32 := 64#32
  let v431 : BitVec 32 := Scalar.addi c0_i32_607 c64_i32_608
  let c1_i32_609 : BitVec 32 := 1#32
  ⟨c0_i32_607, v431, c1_i32_609⟩
def k0_off63 (k0_t39 : Fin k0_t39_loop.trips) (c0_i32_762 : BitVec 32) : Fin 2 → Nat :=
  let c0_i32_607 : BitVec 32 := 0#32
  let c1_i32_609 : BitVec 32 := 1#32
  let arg12 : BitVec 32 := Scf.iv c0_i32_607 c1_i32_609 k0_t39
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1185 (v766 : IVec S16 32) : Prop :=
  (∀ a x, ((![v766] : Fin 1 → IVec S16 32) a x).toNat < S6144.size a)
theorem k0_idx1185_inb : ∀ (v766 : IVec S16 32) (k0_hw1185 : k0_chk1185 v766), ∀ a x, ((![v766] : Fin 1 → IVec S16 32) a x).toNat < S6144.size a := fun v766 k0_hw1185 => k0_hw1185

def k0_chk1186 (v771 : IVec S16 32) : Prop :=
  (∀ a x, ((![v771] : Fin 1 → IVec S16 32) a x).toNat < S6144.size a)
theorem k0_idx1186_inb : ∀ (v771 : IVec S16 32) (k0_hw1186 : k0_chk1186 v771), ∀ a x, ((![v771] : Fin 1 → IVec S16 32) a x).toNat < S6144.size a := fun v771 k0_hw1186 => k0_hw1186

def k0_chk1187 (v776 : IVec S16 32) : Prop :=
  (∀ a x, ((![v776] : Fin 1 → IVec S16 32) a x).toNat < S6144.size a)
theorem k0_idx1187_inb : ∀ (v776 : IVec S16 32) (k0_hw1187 : k0_chk1187 v776), ∀ a x, ((![v776] : Fin 1 → IVec S16 32) a x).toNat < S6144.size a := fun v776 k0_hw1187 => k0_hw1187

def k0_chk1188 (v781 : IVec S16 32) : Prop :=
  (∀ a x, ((![v781] : Fin 1 → IVec S16 32) a x).toNat < S6144.size a)
theorem k0_idx1188_inb : ∀ (v781 : IVec S16 32) (k0_hw1188 : k0_chk1188 v781), ∀ a x, ((![v781] : Fin 1 → IVec S16 32) a x).toNat < S6144.size a := fun v781 k0_hw1188 => k0_hw1188

def k0_chk1189 (v786 : IVec S16 32) : Prop :=
  (∀ a x, ((![v786] : Fin 1 → IVec S16 32) a x).toNat < S6144.size a)
theorem k0_idx1189_inb : ∀ (v786 : IVec S16 32) (k0_hw1189 : k0_chk1189 v786), ∀ a x, ((![v786] : Fin 1 → IVec S16 32) a x).toNat < S6144.size a := fun v786 k0_hw1189 => k0_hw1189

def k0_chk1190 (v791 : IVec S16 32) : Prop :=
  (∀ a x, ((![v791] : Fin 1 → IVec S16 32) a x).toNat < S6144.size a)
theorem k0_idx1190_inb : ∀ (v791 : IVec S16 32) (k0_hw1190 : k0_chk1190 v791), ∀ a x, ((![v791] : Fin 1 → IVec S16 32) a x).toNat < S6144.size a := fun v791 k0_hw1190 => k0_hw1190

def k0_chk1191 (v796 : IVec S16 32) : Prop :=
  (∀ a x, ((![v796] : Fin 1 → IVec S16 32) a x).toNat < S6144.size a)
theorem k0_idx1191_inb : ∀ (v796 : IVec S16 32) (k0_hw1191 : k0_chk1191 v796), ∀ a x, ((![v796] : Fin 1 → IVec S16 32) a x).toNat < S6144.size a := fun v796 k0_hw1191 => k0_hw1191

def k0_chk1192 (v801 : IVec S16 32) : Prop :=
  (∀ a x, ((![v801] : Fin 1 → IVec S16 32) a x).toNat < S6144.size a)
theorem k0_idx1192_inb : ∀ (v801 : IVec S16 32) (k0_hw1192 : k0_chk1192 v801), ∀ a x, ((![v801] : Fin 1 → IVec S16 32) a x).toNat < S6144.size a := fun v801 k0_hw1192 => k0_hw1192

def k0_chk1193 (v806 : IVec S16 32) : Prop :=
  (∀ a x, ((![v806] : Fin 1 → IVec S16 32) a x).toNat < S6144.size a)
theorem k0_idx1193_inb : ∀ (v806 : IVec S16 32) (k0_hw1193 : k0_chk1193 v806), ∀ a x, ((![v806] : Fin 1 → IVec S16 32) a x).toNat < S6144.size a := fun v806 k0_hw1193 => k0_hw1193

def k0_chk1194 (v811 : IVec S16 32) : Prop :=
  (∀ a x, ((![v811] : Fin 1 → IVec S16 32) a x).toNat < S6144.size a)
theorem k0_idx1194_inb : ∀ (v811 : IVec S16 32) (k0_hw1194 : k0_chk1194 v811), ∀ a x, ((![v811] : Fin 1 → IVec S16 32) a x).toNat < S6144.size a := fun v811 k0_hw1194 => k0_hw1194

def k0_chk1195 (v816 : IVec S16 32) : Prop :=
  (∀ a x, ((![v816] : Fin 1 → IVec S16 32) a x).toNat < S6144.size a)
theorem k0_idx1195_inb : ∀ (v816 : IVec S16 32) (k0_hw1195 : k0_chk1195 v816), ∀ a x, ((![v816] : Fin 1 → IVec S16 32) a x).toNat < S6144.size a := fun v816 k0_hw1195 => k0_hw1195

def k0_chk1196 (v821 : IVec S16 32) : Prop :=
  (∀ a x, ((![v821] : Fin 1 → IVec S16 32) a x).toNat < S6144.size a)
theorem k0_idx1196_inb : ∀ (v821 : IVec S16 32) (k0_hw1196 : k0_chk1196 v821), ∀ a x, ((![v821] : Fin 1 → IVec S16 32) a x).toNat < S6144.size a := fun v821 k0_hw1196 => k0_hw1196

def k0_chk1197 (v826 : IVec S16 32) : Prop :=
  (∀ a x, ((![v826] : Fin 1 → IVec S16 32) a x).toNat < S6144.size a)
theorem k0_idx1197_inb : ∀ (v826 : IVec S16 32) (k0_hw1197 : k0_chk1197 v826), ∀ a x, ((![v826] : Fin 1 → IVec S16 32) a x).toNat < S6144.size a := fun v826 k0_hw1197 => k0_hw1197

def k0_chk1198 (v831 : IVec S16 32) : Prop :=
  (∀ a x, ((![v831] : Fin 1 → IVec S16 32) a x).toNat < S6144.size a)
theorem k0_idx1198_inb : ∀ (v831 : IVec S16 32) (k0_hw1198 : k0_chk1198 v831), ∀ a x, ((![v831] : Fin 1 → IVec S16 32) a x).toNat < S6144.size a := fun v831 k0_hw1198 => k0_hw1198

def k0_chk1199 (v836 : IVec S16 32) : Prop :=
  (∀ a x, ((![v836] : Fin 1 → IVec S16 32) a x).toNat < S6144.size a)
theorem k0_idx1199_inb : ∀ (v836 : IVec S16 32) (k0_hw1199 : k0_chk1199 v836), ∀ a x, ((![v836] : Fin 1 → IVec S16 32) a x).toNat < S6144.size a := fun v836 k0_hw1199 => k0_hw1199

def k0_chk1200 (v841 : IVec S16 32) : Prop :=
  (∀ a x, ((![v841] : Fin 1 → IVec S16 32) a x).toNat < S6144.size a)
theorem k0_idx1200_inb : ∀ (v841 : IVec S16 32) (k0_hw1200 : k0_chk1200 v841), ∀ a x, ((![v841] : Fin 1 → IVec S16 32) a x).toNat < S6144.size a := fun v841 k0_hw1200 => k0_hw1200

def k0_chk1201 (v846 : IVec S16 32) : Prop :=
  (∀ a x, ((![v846] : Fin 1 → IVec S16 32) a x).toNat < S6144.size a)
theorem k0_idx1201_inb : ∀ (v846 : IVec S16 32) (k0_hw1201 : k0_chk1201 v846), ∀ a x, ((![v846] : Fin 1 → IVec S16 32) a x).toNat < S6144.size a := fun v846 k0_hw1201 => k0_hw1201

def k0_chk1202 (v851 : IVec S16 32) : Prop :=
  (∀ a x, ((![v851] : Fin 1 → IVec S16 32) a x).toNat < S6144.size a)
theorem k0_idx1202_inb : ∀ (v851 : IVec S16 32) (k0_hw1202 : k0_chk1202 v851), ∀ a x, ((![v851] : Fin 1 → IVec S16 32) a x).toNat < S6144.size a := fun v851 k0_hw1202 => k0_hw1202

def k0_chk1203 (v856 : IVec S16 32) : Prop :=
  (∀ a x, ((![v856] : Fin 1 → IVec S16 32) a x).toNat < S6144.size a)
theorem k0_idx1203_inb : ∀ (v856 : IVec S16 32) (k0_hw1203 : k0_chk1203 v856), ∀ a x, ((![v856] : Fin 1 → IVec S16 32) a x).toNat < S6144.size a := fun v856 k0_hw1203 => k0_hw1203

def k0_chk1204 (v861 : IVec S16 32) : Prop :=
  (∀ a x, ((![v861] : Fin 1 → IVec S16 32) a x).toNat < S6144.size a)
theorem k0_idx1204_inb : ∀ (v861 : IVec S16 32) (k0_hw1204 : k0_chk1204 v861), ∀ a x, ((![v861] : Fin 1 → IVec S16 32) a x).toNat < S6144.size a := fun v861 k0_hw1204 => k0_hw1204

def k0_chk1205 (v866 : IVec S16 32) : Prop :=
  (∀ a x, ((![v866] : Fin 1 → IVec S16 32) a x).toNat < S6144.size a)
theorem k0_idx1205_inb : ∀ (v866 : IVec S16 32) (k0_hw1205 : k0_chk1205 v866), ∀ a x, ((![v866] : Fin 1 → IVec S16 32) a x).toNat < S6144.size a := fun v866 k0_hw1205 => k0_hw1205

def k0_chk1206 (v871 : IVec S16 32) : Prop :=
  (∀ a x, ((![v871] : Fin 1 → IVec S16 32) a x).toNat < S6144.size a)
theorem k0_idx1206_inb : ∀ (v871 : IVec S16 32) (k0_hw1206 : k0_chk1206 v871), ∀ a x, ((![v871] : Fin 1 → IVec S16 32) a x).toNat < S6144.size a := fun v871 k0_hw1206 => k0_hw1206

def k0_chk1207 (v876 : IVec S16 32) : Prop :=
  (∀ a x, ((![v876] : Fin 1 → IVec S16 32) a x).toNat < S6144.size a)
theorem k0_idx1207_inb : ∀ (v876 : IVec S16 32) (k0_hw1207 : k0_chk1207 v876), ∀ a x, ((![v876] : Fin 1 → IVec S16 32) a x).toNat < S6144.size a := fun v876 k0_hw1207 => k0_hw1207

def k0_chk1208 (v881 : IVec S16 32) : Prop :=
  (∀ a x, ((![v881] : Fin 1 → IVec S16 32) a x).toNat < S6144.size a)
theorem k0_idx1208_inb : ∀ (v881 : IVec S16 32) (k0_hw1208 : k0_chk1208 v881), ∀ a x, ((![v881] : Fin 1 → IVec S16 32) a x).toNat < S6144.size a := fun v881 k0_hw1208 => k0_hw1208

def k0_chk1209 (v886 : IVec S16 32) : Prop :=
  (∀ a x, ((![v886] : Fin 1 → IVec S16 32) a x).toNat < S6144.size a)
theorem k0_idx1209_inb : ∀ (v886 : IVec S16 32) (k0_hw1209 : k0_chk1209 v886), ∀ a x, ((![v886] : Fin 1 → IVec S16 32) a x).toNat < S6144.size a := fun v886 k0_hw1209 => k0_hw1209

def k0_chk1210 (v891 : IVec S16 32) : Prop :=
  (∀ a x, ((![v891] : Fin 1 → IVec S16 32) a x).toNat < S6144.size a)
theorem k0_idx1210_inb : ∀ (v891 : IVec S16 32) (k0_hw1210 : k0_chk1210 v891), ∀ a x, ((![v891] : Fin 1 → IVec S16 32) a x).toNat < S6144.size a := fun v891 k0_hw1210 => k0_hw1210

def k0_chk1211 (v896 : IVec S16 32) : Prop :=
  (∀ a x, ((![v896] : Fin 1 → IVec S16 32) a x).toNat < S6144.size a)
theorem k0_idx1211_inb : ∀ (v896 : IVec S16 32) (k0_hw1211 : k0_chk1211 v896), ∀ a x, ((![v896] : Fin 1 → IVec S16 32) a x).toNat < S6144.size a := fun v896 k0_hw1211 => k0_hw1211

def k0_chk1212 (v901 : IVec S16 32) : Prop :=
  (∀ a x, ((![v901] : Fin 1 → IVec S16 32) a x).toNat < S6144.size a)
theorem k0_idx1212_inb : ∀ (v901 : IVec S16 32) (k0_hw1212 : k0_chk1212 v901), ∀ a x, ((![v901] : Fin 1 → IVec S16 32) a x).toNat < S6144.size a := fun v901 k0_hw1212 => k0_hw1212

def k0_chk1213 (v906 : IVec S16 32) : Prop :=
  (∀ a x, ((![v906] : Fin 1 → IVec S16 32) a x).toNat < S6144.size a)
theorem k0_idx1213_inb : ∀ (v906 : IVec S16 32) (k0_hw1213 : k0_chk1213 v906), ∀ a x, ((![v906] : Fin 1 → IVec S16 32) a x).toNat < S6144.size a := fun v906 k0_hw1213 => k0_hw1213

def k0_chk1214 (v911 : IVec S16 32) : Prop :=
  (∀ a x, ((![v911] : Fin 1 → IVec S16 32) a x).toNat < S6144.size a)
theorem k0_idx1214_inb : ∀ (v911 : IVec S16 32) (k0_hw1214 : k0_chk1214 v911), ∀ a x, ((![v911] : Fin 1 → IVec S16 32) a x).toNat < S6144.size a := fun v911 k0_hw1214 => k0_hw1214

def k0_chk1215 (v916 : IVec S16 32) : Prop :=
  (∀ a x, ((![v916] : Fin 1 → IVec S16 32) a x).toNat < S6144.size a)
theorem k0_idx1215_inb : ∀ (v916 : IVec S16 32) (k0_hw1215 : k0_chk1215 v916), ∀ a x, ((![v916] : Fin 1 → IVec S16 32) a x).toNat < S6144.size a := fun v916 k0_hw1215 => k0_hw1215

def k0_chk1216 (v921 : IVec S16 32) : Prop :=
  (∀ a x, ((![v921] : Fin 1 → IVec S16 32) a x).toNat < S6144.size a)
theorem k0_idx1216_inb : ∀ (v921 : IVec S16 32) (k0_hw1216 : k0_chk1216 v921), ∀ a x, ((![v921] : Fin 1 → IVec S16 32) a x).toNat < S6144.size a := fun v921 k0_hw1216 => k0_hw1216
@[reducible] def k0_t40_loop : Scf.Loop 32 :=
  let c0_i32_623 : BitVec 32 := 0#32
  let c64_i32_624 : BitVec 32 := 64#32
  let v442 : BitVec 32 := Scalar.addi c0_i32_623 c64_i32_624
  let c1_i32_625 : BitVec 32 := 1#32
  ⟨c0_i32_623, v442, c1_i32_625⟩
def k0_off64 (k0_t40 : Fin k0_t40_loop.trips) (c0_i32_762 : BitVec 32) : Fin 2 → Nat :=
  let c0_i32_623 : BitVec 32 := 0#32
  let c1_i32_625 : BitVec 32 := 1#32
  let arg12 : BitVec 32 := Scf.iv c0_i32_623 c1_i32_625 k0_t40
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1217 (v766 : IVec S16 32) : Prop :=
  (∀ a x, ((![v766] : Fin 1 → IVec S16 32) a x).toNat < S6144.size a)
theorem k0_idx1217_inb : ∀ (v766 : IVec S16 32) (k0_hw1217 : k0_chk1217 v766), ∀ a x, ((![v766] : Fin 1 → IVec S16 32) a x).toNat < S6144.size a := fun v766 k0_hw1217 => k0_hw1217

def k0_chk1218 (v771 : IVec S16 32) : Prop :=
  (∀ a x, ((![v771] : Fin 1 → IVec S16 32) a x).toNat < S6144.size a)
theorem k0_idx1218_inb : ∀ (v771 : IVec S16 32) (k0_hw1218 : k0_chk1218 v771), ∀ a x, ((![v771] : Fin 1 → IVec S16 32) a x).toNat < S6144.size a := fun v771 k0_hw1218 => k0_hw1218

def k0_chk1219 (v776 : IVec S16 32) : Prop :=
  (∀ a x, ((![v776] : Fin 1 → IVec S16 32) a x).toNat < S6144.size a)
theorem k0_idx1219_inb : ∀ (v776 : IVec S16 32) (k0_hw1219 : k0_chk1219 v776), ∀ a x, ((![v776] : Fin 1 → IVec S16 32) a x).toNat < S6144.size a := fun v776 k0_hw1219 => k0_hw1219

def k0_chk1220 (v781 : IVec S16 32) : Prop :=
  (∀ a x, ((![v781] : Fin 1 → IVec S16 32) a x).toNat < S6144.size a)
theorem k0_idx1220_inb : ∀ (v781 : IVec S16 32) (k0_hw1220 : k0_chk1220 v781), ∀ a x, ((![v781] : Fin 1 → IVec S16 32) a x).toNat < S6144.size a := fun v781 k0_hw1220 => k0_hw1220

def k0_chk1221 (v786 : IVec S16 32) : Prop :=
  (∀ a x, ((![v786] : Fin 1 → IVec S16 32) a x).toNat < S6144.size a)
theorem k0_idx1221_inb : ∀ (v786 : IVec S16 32) (k0_hw1221 : k0_chk1221 v786), ∀ a x, ((![v786] : Fin 1 → IVec S16 32) a x).toNat < S6144.size a := fun v786 k0_hw1221 => k0_hw1221

def k0_chk1222 (v791 : IVec S16 32) : Prop :=
  (∀ a x, ((![v791] : Fin 1 → IVec S16 32) a x).toNat < S6144.size a)
theorem k0_idx1222_inb : ∀ (v791 : IVec S16 32) (k0_hw1222 : k0_chk1222 v791), ∀ a x, ((![v791] : Fin 1 → IVec S16 32) a x).toNat < S6144.size a := fun v791 k0_hw1222 => k0_hw1222

def k0_chk1223 (v796 : IVec S16 32) : Prop :=
  (∀ a x, ((![v796] : Fin 1 → IVec S16 32) a x).toNat < S6144.size a)
theorem k0_idx1223_inb : ∀ (v796 : IVec S16 32) (k0_hw1223 : k0_chk1223 v796), ∀ a x, ((![v796] : Fin 1 → IVec S16 32) a x).toNat < S6144.size a := fun v796 k0_hw1223 => k0_hw1223

def k0_chk1224 (v801 : IVec S16 32) : Prop :=
  (∀ a x, ((![v801] : Fin 1 → IVec S16 32) a x).toNat < S6144.size a)
theorem k0_idx1224_inb : ∀ (v801 : IVec S16 32) (k0_hw1224 : k0_chk1224 v801), ∀ a x, ((![v801] : Fin 1 → IVec S16 32) a x).toNat < S6144.size a := fun v801 k0_hw1224 => k0_hw1224

def k0_chk1225 (v806 : IVec S16 32) : Prop :=
  (∀ a x, ((![v806] : Fin 1 → IVec S16 32) a x).toNat < S6144.size a)
theorem k0_idx1225_inb : ∀ (v806 : IVec S16 32) (k0_hw1225 : k0_chk1225 v806), ∀ a x, ((![v806] : Fin 1 → IVec S16 32) a x).toNat < S6144.size a := fun v806 k0_hw1225 => k0_hw1225

def k0_chk1226 (v811 : IVec S16 32) : Prop :=
  (∀ a x, ((![v811] : Fin 1 → IVec S16 32) a x).toNat < S6144.size a)
theorem k0_idx1226_inb : ∀ (v811 : IVec S16 32) (k0_hw1226 : k0_chk1226 v811), ∀ a x, ((![v811] : Fin 1 → IVec S16 32) a x).toNat < S6144.size a := fun v811 k0_hw1226 => k0_hw1226

def k0_chk1227 (v816 : IVec S16 32) : Prop :=
  (∀ a x, ((![v816] : Fin 1 → IVec S16 32) a x).toNat < S6144.size a)
theorem k0_idx1227_inb : ∀ (v816 : IVec S16 32) (k0_hw1227 : k0_chk1227 v816), ∀ a x, ((![v816] : Fin 1 → IVec S16 32) a x).toNat < S6144.size a := fun v816 k0_hw1227 => k0_hw1227

def k0_chk1228 (v821 : IVec S16 32) : Prop :=
  (∀ a x, ((![v821] : Fin 1 → IVec S16 32) a x).toNat < S6144.size a)
theorem k0_idx1228_inb : ∀ (v821 : IVec S16 32) (k0_hw1228 : k0_chk1228 v821), ∀ a x, ((![v821] : Fin 1 → IVec S16 32) a x).toNat < S6144.size a := fun v821 k0_hw1228 => k0_hw1228

def k0_chk1229 (v826 : IVec S16 32) : Prop :=
  (∀ a x, ((![v826] : Fin 1 → IVec S16 32) a x).toNat < S6144.size a)
theorem k0_idx1229_inb : ∀ (v826 : IVec S16 32) (k0_hw1229 : k0_chk1229 v826), ∀ a x, ((![v826] : Fin 1 → IVec S16 32) a x).toNat < S6144.size a := fun v826 k0_hw1229 => k0_hw1229

def k0_chk1230 (v831 : IVec S16 32) : Prop :=
  (∀ a x, ((![v831] : Fin 1 → IVec S16 32) a x).toNat < S6144.size a)
theorem k0_idx1230_inb : ∀ (v831 : IVec S16 32) (k0_hw1230 : k0_chk1230 v831), ∀ a x, ((![v831] : Fin 1 → IVec S16 32) a x).toNat < S6144.size a := fun v831 k0_hw1230 => k0_hw1230

def k0_chk1231 (v836 : IVec S16 32) : Prop :=
  (∀ a x, ((![v836] : Fin 1 → IVec S16 32) a x).toNat < S6144.size a)
theorem k0_idx1231_inb : ∀ (v836 : IVec S16 32) (k0_hw1231 : k0_chk1231 v836), ∀ a x, ((![v836] : Fin 1 → IVec S16 32) a x).toNat < S6144.size a := fun v836 k0_hw1231 => k0_hw1231

def k0_chk1232 (v841 : IVec S16 32) : Prop :=
  (∀ a x, ((![v841] : Fin 1 → IVec S16 32) a x).toNat < S6144.size a)
theorem k0_idx1232_inb : ∀ (v841 : IVec S16 32) (k0_hw1232 : k0_chk1232 v841), ∀ a x, ((![v841] : Fin 1 → IVec S16 32) a x).toNat < S6144.size a := fun v841 k0_hw1232 => k0_hw1232

def k0_chk1233 (v846 : IVec S16 32) : Prop :=
  (∀ a x, ((![v846] : Fin 1 → IVec S16 32) a x).toNat < S6144.size a)
theorem k0_idx1233_inb : ∀ (v846 : IVec S16 32) (k0_hw1233 : k0_chk1233 v846), ∀ a x, ((![v846] : Fin 1 → IVec S16 32) a x).toNat < S6144.size a := fun v846 k0_hw1233 => k0_hw1233

def k0_chk1234 (v851 : IVec S16 32) : Prop :=
  (∀ a x, ((![v851] : Fin 1 → IVec S16 32) a x).toNat < S6144.size a)
theorem k0_idx1234_inb : ∀ (v851 : IVec S16 32) (k0_hw1234 : k0_chk1234 v851), ∀ a x, ((![v851] : Fin 1 → IVec S16 32) a x).toNat < S6144.size a := fun v851 k0_hw1234 => k0_hw1234

def k0_chk1235 (v856 : IVec S16 32) : Prop :=
  (∀ a x, ((![v856] : Fin 1 → IVec S16 32) a x).toNat < S6144.size a)
theorem k0_idx1235_inb : ∀ (v856 : IVec S16 32) (k0_hw1235 : k0_chk1235 v856), ∀ a x, ((![v856] : Fin 1 → IVec S16 32) a x).toNat < S6144.size a := fun v856 k0_hw1235 => k0_hw1235

def k0_chk1236 (v861 : IVec S16 32) : Prop :=
  (∀ a x, ((![v861] : Fin 1 → IVec S16 32) a x).toNat < S6144.size a)
theorem k0_idx1236_inb : ∀ (v861 : IVec S16 32) (k0_hw1236 : k0_chk1236 v861), ∀ a x, ((![v861] : Fin 1 → IVec S16 32) a x).toNat < S6144.size a := fun v861 k0_hw1236 => k0_hw1236

def k0_chk1237 (v866 : IVec S16 32) : Prop :=
  (∀ a x, ((![v866] : Fin 1 → IVec S16 32) a x).toNat < S6144.size a)
theorem k0_idx1237_inb : ∀ (v866 : IVec S16 32) (k0_hw1237 : k0_chk1237 v866), ∀ a x, ((![v866] : Fin 1 → IVec S16 32) a x).toNat < S6144.size a := fun v866 k0_hw1237 => k0_hw1237

def k0_chk1238 (v871 : IVec S16 32) : Prop :=
  (∀ a x, ((![v871] : Fin 1 → IVec S16 32) a x).toNat < S6144.size a)
theorem k0_idx1238_inb : ∀ (v871 : IVec S16 32) (k0_hw1238 : k0_chk1238 v871), ∀ a x, ((![v871] : Fin 1 → IVec S16 32) a x).toNat < S6144.size a := fun v871 k0_hw1238 => k0_hw1238

def k0_chk1239 (v876 : IVec S16 32) : Prop :=
  (∀ a x, ((![v876] : Fin 1 → IVec S16 32) a x).toNat < S6144.size a)
theorem k0_idx1239_inb : ∀ (v876 : IVec S16 32) (k0_hw1239 : k0_chk1239 v876), ∀ a x, ((![v876] : Fin 1 → IVec S16 32) a x).toNat < S6144.size a := fun v876 k0_hw1239 => k0_hw1239

def k0_chk1240 (v881 : IVec S16 32) : Prop :=
  (∀ a x, ((![v881] : Fin 1 → IVec S16 32) a x).toNat < S6144.size a)
theorem k0_idx1240_inb : ∀ (v881 : IVec S16 32) (k0_hw1240 : k0_chk1240 v881), ∀ a x, ((![v881] : Fin 1 → IVec S16 32) a x).toNat < S6144.size a := fun v881 k0_hw1240 => k0_hw1240

def k0_chk1241 (v886 : IVec S16 32) : Prop :=
  (∀ a x, ((![v886] : Fin 1 → IVec S16 32) a x).toNat < S6144.size a)
theorem k0_idx1241_inb : ∀ (v886 : IVec S16 32) (k0_hw1241 : k0_chk1241 v886), ∀ a x, ((![v886] : Fin 1 → IVec S16 32) a x).toNat < S6144.size a := fun v886 k0_hw1241 => k0_hw1241

def k0_chk1242 (v891 : IVec S16 32) : Prop :=
  (∀ a x, ((![v891] : Fin 1 → IVec S16 32) a x).toNat < S6144.size a)
theorem k0_idx1242_inb : ∀ (v891 : IVec S16 32) (k0_hw1242 : k0_chk1242 v891), ∀ a x, ((![v891] : Fin 1 → IVec S16 32) a x).toNat < S6144.size a := fun v891 k0_hw1242 => k0_hw1242

def k0_chk1243 (v896 : IVec S16 32) : Prop :=
  (∀ a x, ((![v896] : Fin 1 → IVec S16 32) a x).toNat < S6144.size a)
theorem k0_idx1243_inb : ∀ (v896 : IVec S16 32) (k0_hw1243 : k0_chk1243 v896), ∀ a x, ((![v896] : Fin 1 → IVec S16 32) a x).toNat < S6144.size a := fun v896 k0_hw1243 => k0_hw1243

def k0_chk1244 (v901 : IVec S16 32) : Prop :=
  (∀ a x, ((![v901] : Fin 1 → IVec S16 32) a x).toNat < S6144.size a)
theorem k0_idx1244_inb : ∀ (v901 : IVec S16 32) (k0_hw1244 : k0_chk1244 v901), ∀ a x, ((![v901] : Fin 1 → IVec S16 32) a x).toNat < S6144.size a := fun v901 k0_hw1244 => k0_hw1244

def k0_chk1245 (v906 : IVec S16 32) : Prop :=
  (∀ a x, ((![v906] : Fin 1 → IVec S16 32) a x).toNat < S6144.size a)
theorem k0_idx1245_inb : ∀ (v906 : IVec S16 32) (k0_hw1245 : k0_chk1245 v906), ∀ a x, ((![v906] : Fin 1 → IVec S16 32) a x).toNat < S6144.size a := fun v906 k0_hw1245 => k0_hw1245

def k0_chk1246 (v911 : IVec S16 32) : Prop :=
  (∀ a x, ((![v911] : Fin 1 → IVec S16 32) a x).toNat < S6144.size a)
theorem k0_idx1246_inb : ∀ (v911 : IVec S16 32) (k0_hw1246 : k0_chk1246 v911), ∀ a x, ((![v911] : Fin 1 → IVec S16 32) a x).toNat < S6144.size a := fun v911 k0_hw1246 => k0_hw1246

def k0_chk1247 (v916 : IVec S16 32) : Prop :=
  (∀ a x, ((![v916] : Fin 1 → IVec S16 32) a x).toNat < S6144.size a)
theorem k0_idx1247_inb : ∀ (v916 : IVec S16 32) (k0_hw1247 : k0_chk1247 v916), ∀ a x, ((![v916] : Fin 1 → IVec S16 32) a x).toNat < S6144.size a := fun v916 k0_hw1247 => k0_hw1247

def k0_chk1248 (v921 : IVec S16 32) : Prop :=
  (∀ a x, ((![v921] : Fin 1 → IVec S16 32) a x).toNat < S6144.size a)
theorem k0_idx1248_inb : ∀ (v921 : IVec S16 32) (k0_hw1248 : k0_chk1248 v921), ∀ a x, ((![v921] : Fin 1 → IVec S16 32) a x).toNat < S6144.size a := fun v921 k0_hw1248 => k0_hw1248
@[reducible] def k0_t41_loop : Scf.Loop 32 :=
  let c0_i32_639 : BitVec 32 := 0#32
  let c64_i32_640 : BitVec 32 := 64#32
  let v453 : BitVec 32 := Scalar.addi c0_i32_639 c64_i32_640
  let c1_i32_641 : BitVec 32 := 1#32
  ⟨c0_i32_639, v453, c1_i32_641⟩
def k0_off65 (k0_t41 : Fin k0_t41_loop.trips) (c0_i32_762 : BitVec 32) : Fin 2 → Nat :=
  let c0_i32_639 : BitVec 32 := 0#32
  let c1_i32_641 : BitVec 32 := 1#32
  let arg12 : BitVec 32 := Scf.iv c0_i32_639 c1_i32_641 k0_t41
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1249 (v766 : IVec S16 32) : Prop :=
  (∀ a x, ((![v766] : Fin 1 → IVec S16 32) a x).toNat < S6144.size a)
theorem k0_idx1249_inb : ∀ (v766 : IVec S16 32) (k0_hw1249 : k0_chk1249 v766), ∀ a x, ((![v766] : Fin 1 → IVec S16 32) a x).toNat < S6144.size a := fun v766 k0_hw1249 => k0_hw1249

def k0_chk1250 (v771 : IVec S16 32) : Prop :=
  (∀ a x, ((![v771] : Fin 1 → IVec S16 32) a x).toNat < S6144.size a)
theorem k0_idx1250_inb : ∀ (v771 : IVec S16 32) (k0_hw1250 : k0_chk1250 v771), ∀ a x, ((![v771] : Fin 1 → IVec S16 32) a x).toNat < S6144.size a := fun v771 k0_hw1250 => k0_hw1250

def k0_chk1251 (v776 : IVec S16 32) : Prop :=
  (∀ a x, ((![v776] : Fin 1 → IVec S16 32) a x).toNat < S6144.size a)
theorem k0_idx1251_inb : ∀ (v776 : IVec S16 32) (k0_hw1251 : k0_chk1251 v776), ∀ a x, ((![v776] : Fin 1 → IVec S16 32) a x).toNat < S6144.size a := fun v776 k0_hw1251 => k0_hw1251

def k0_chk1252 (v781 : IVec S16 32) : Prop :=
  (∀ a x, ((![v781] : Fin 1 → IVec S16 32) a x).toNat < S6144.size a)
theorem k0_idx1252_inb : ∀ (v781 : IVec S16 32) (k0_hw1252 : k0_chk1252 v781), ∀ a x, ((![v781] : Fin 1 → IVec S16 32) a x).toNat < S6144.size a := fun v781 k0_hw1252 => k0_hw1252

def k0_chk1253 (v786 : IVec S16 32) : Prop :=
  (∀ a x, ((![v786] : Fin 1 → IVec S16 32) a x).toNat < S6144.size a)
theorem k0_idx1253_inb : ∀ (v786 : IVec S16 32) (k0_hw1253 : k0_chk1253 v786), ∀ a x, ((![v786] : Fin 1 → IVec S16 32) a x).toNat < S6144.size a := fun v786 k0_hw1253 => k0_hw1253

def k0_chk1254 (v791 : IVec S16 32) : Prop :=
  (∀ a x, ((![v791] : Fin 1 → IVec S16 32) a x).toNat < S6144.size a)
theorem k0_idx1254_inb : ∀ (v791 : IVec S16 32) (k0_hw1254 : k0_chk1254 v791), ∀ a x, ((![v791] : Fin 1 → IVec S16 32) a x).toNat < S6144.size a := fun v791 k0_hw1254 => k0_hw1254

def k0_chk1255 (v796 : IVec S16 32) : Prop :=
  (∀ a x, ((![v796] : Fin 1 → IVec S16 32) a x).toNat < S6144.size a)
theorem k0_idx1255_inb : ∀ (v796 : IVec S16 32) (k0_hw1255 : k0_chk1255 v796), ∀ a x, ((![v796] : Fin 1 → IVec S16 32) a x).toNat < S6144.size a := fun v796 k0_hw1255 => k0_hw1255

def k0_chk1256 (v801 : IVec S16 32) : Prop :=
  (∀ a x, ((![v801] : Fin 1 → IVec S16 32) a x).toNat < S6144.size a)
theorem k0_idx1256_inb : ∀ (v801 : IVec S16 32) (k0_hw1256 : k0_chk1256 v801), ∀ a x, ((![v801] : Fin 1 → IVec S16 32) a x).toNat < S6144.size a := fun v801 k0_hw1256 => k0_hw1256

def k0_chk1257 (v806 : IVec S16 32) : Prop :=
  (∀ a x, ((![v806] : Fin 1 → IVec S16 32) a x).toNat < S6144.size a)
theorem k0_idx1257_inb : ∀ (v806 : IVec S16 32) (k0_hw1257 : k0_chk1257 v806), ∀ a x, ((![v806] : Fin 1 → IVec S16 32) a x).toNat < S6144.size a := fun v806 k0_hw1257 => k0_hw1257

def k0_chk1258 (v811 : IVec S16 32) : Prop :=
  (∀ a x, ((![v811] : Fin 1 → IVec S16 32) a x).toNat < S6144.size a)
theorem k0_idx1258_inb : ∀ (v811 : IVec S16 32) (k0_hw1258 : k0_chk1258 v811), ∀ a x, ((![v811] : Fin 1 → IVec S16 32) a x).toNat < S6144.size a := fun v811 k0_hw1258 => k0_hw1258

def k0_chk1259 (v816 : IVec S16 32) : Prop :=
  (∀ a x, ((![v816] : Fin 1 → IVec S16 32) a x).toNat < S6144.size a)
theorem k0_idx1259_inb : ∀ (v816 : IVec S16 32) (k0_hw1259 : k0_chk1259 v816), ∀ a x, ((![v816] : Fin 1 → IVec S16 32) a x).toNat < S6144.size a := fun v816 k0_hw1259 => k0_hw1259

def k0_chk1260 (v821 : IVec S16 32) : Prop :=
  (∀ a x, ((![v821] : Fin 1 → IVec S16 32) a x).toNat < S6144.size a)
theorem k0_idx1260_inb : ∀ (v821 : IVec S16 32) (k0_hw1260 : k0_chk1260 v821), ∀ a x, ((![v821] : Fin 1 → IVec S16 32) a x).toNat < S6144.size a := fun v821 k0_hw1260 => k0_hw1260

def k0_chk1261 (v826 : IVec S16 32) : Prop :=
  (∀ a x, ((![v826] : Fin 1 → IVec S16 32) a x).toNat < S6144.size a)
theorem k0_idx1261_inb : ∀ (v826 : IVec S16 32) (k0_hw1261 : k0_chk1261 v826), ∀ a x, ((![v826] : Fin 1 → IVec S16 32) a x).toNat < S6144.size a := fun v826 k0_hw1261 => k0_hw1261

def k0_chk1262 (v831 : IVec S16 32) : Prop :=
  (∀ a x, ((![v831] : Fin 1 → IVec S16 32) a x).toNat < S6144.size a)
theorem k0_idx1262_inb : ∀ (v831 : IVec S16 32) (k0_hw1262 : k0_chk1262 v831), ∀ a x, ((![v831] : Fin 1 → IVec S16 32) a x).toNat < S6144.size a := fun v831 k0_hw1262 => k0_hw1262

def k0_chk1263 (v836 : IVec S16 32) : Prop :=
  (∀ a x, ((![v836] : Fin 1 → IVec S16 32) a x).toNat < S6144.size a)
theorem k0_idx1263_inb : ∀ (v836 : IVec S16 32) (k0_hw1263 : k0_chk1263 v836), ∀ a x, ((![v836] : Fin 1 → IVec S16 32) a x).toNat < S6144.size a := fun v836 k0_hw1263 => k0_hw1263

def k0_chk1264 (v841 : IVec S16 32) : Prop :=
  (∀ a x, ((![v841] : Fin 1 → IVec S16 32) a x).toNat < S6144.size a)
theorem k0_idx1264_inb : ∀ (v841 : IVec S16 32) (k0_hw1264 : k0_chk1264 v841), ∀ a x, ((![v841] : Fin 1 → IVec S16 32) a x).toNat < S6144.size a := fun v841 k0_hw1264 => k0_hw1264

def k0_chk1265 (v846 : IVec S16 32) : Prop :=
  (∀ a x, ((![v846] : Fin 1 → IVec S16 32) a x).toNat < S6144.size a)
theorem k0_idx1265_inb : ∀ (v846 : IVec S16 32) (k0_hw1265 : k0_chk1265 v846), ∀ a x, ((![v846] : Fin 1 → IVec S16 32) a x).toNat < S6144.size a := fun v846 k0_hw1265 => k0_hw1265

def k0_chk1266 (v851 : IVec S16 32) : Prop :=
  (∀ a x, ((![v851] : Fin 1 → IVec S16 32) a x).toNat < S6144.size a)
theorem k0_idx1266_inb : ∀ (v851 : IVec S16 32) (k0_hw1266 : k0_chk1266 v851), ∀ a x, ((![v851] : Fin 1 → IVec S16 32) a x).toNat < S6144.size a := fun v851 k0_hw1266 => k0_hw1266

def k0_chk1267 (v856 : IVec S16 32) : Prop :=
  (∀ a x, ((![v856] : Fin 1 → IVec S16 32) a x).toNat < S6144.size a)
theorem k0_idx1267_inb : ∀ (v856 : IVec S16 32) (k0_hw1267 : k0_chk1267 v856), ∀ a x, ((![v856] : Fin 1 → IVec S16 32) a x).toNat < S6144.size a := fun v856 k0_hw1267 => k0_hw1267

def k0_chk1268 (v861 : IVec S16 32) : Prop :=
  (∀ a x, ((![v861] : Fin 1 → IVec S16 32) a x).toNat < S6144.size a)
theorem k0_idx1268_inb : ∀ (v861 : IVec S16 32) (k0_hw1268 : k0_chk1268 v861), ∀ a x, ((![v861] : Fin 1 → IVec S16 32) a x).toNat < S6144.size a := fun v861 k0_hw1268 => k0_hw1268

def k0_chk1269 (v866 : IVec S16 32) : Prop :=
  (∀ a x, ((![v866] : Fin 1 → IVec S16 32) a x).toNat < S6144.size a)
theorem k0_idx1269_inb : ∀ (v866 : IVec S16 32) (k0_hw1269 : k0_chk1269 v866), ∀ a x, ((![v866] : Fin 1 → IVec S16 32) a x).toNat < S6144.size a := fun v866 k0_hw1269 => k0_hw1269

def k0_chk1270 (v871 : IVec S16 32) : Prop :=
  (∀ a x, ((![v871] : Fin 1 → IVec S16 32) a x).toNat < S6144.size a)
theorem k0_idx1270_inb : ∀ (v871 : IVec S16 32) (k0_hw1270 : k0_chk1270 v871), ∀ a x, ((![v871] : Fin 1 → IVec S16 32) a x).toNat < S6144.size a := fun v871 k0_hw1270 => k0_hw1270

def k0_chk1271 (v876 : IVec S16 32) : Prop :=
  (∀ a x, ((![v876] : Fin 1 → IVec S16 32) a x).toNat < S6144.size a)
theorem k0_idx1271_inb : ∀ (v876 : IVec S16 32) (k0_hw1271 : k0_chk1271 v876), ∀ a x, ((![v876] : Fin 1 → IVec S16 32) a x).toNat < S6144.size a := fun v876 k0_hw1271 => k0_hw1271

def k0_chk1272 (v881 : IVec S16 32) : Prop :=
  (∀ a x, ((![v881] : Fin 1 → IVec S16 32) a x).toNat < S6144.size a)
theorem k0_idx1272_inb : ∀ (v881 : IVec S16 32) (k0_hw1272 : k0_chk1272 v881), ∀ a x, ((![v881] : Fin 1 → IVec S16 32) a x).toNat < S6144.size a := fun v881 k0_hw1272 => k0_hw1272

def k0_chk1273 (v886 : IVec S16 32) : Prop :=
  (∀ a x, ((![v886] : Fin 1 → IVec S16 32) a x).toNat < S6144.size a)
theorem k0_idx1273_inb : ∀ (v886 : IVec S16 32) (k0_hw1273 : k0_chk1273 v886), ∀ a x, ((![v886] : Fin 1 → IVec S16 32) a x).toNat < S6144.size a := fun v886 k0_hw1273 => k0_hw1273

def k0_chk1274 (v891 : IVec S16 32) : Prop :=
  (∀ a x, ((![v891] : Fin 1 → IVec S16 32) a x).toNat < S6144.size a)
theorem k0_idx1274_inb : ∀ (v891 : IVec S16 32) (k0_hw1274 : k0_chk1274 v891), ∀ a x, ((![v891] : Fin 1 → IVec S16 32) a x).toNat < S6144.size a := fun v891 k0_hw1274 => k0_hw1274

def k0_chk1275 (v896 : IVec S16 32) : Prop :=
  (∀ a x, ((![v896] : Fin 1 → IVec S16 32) a x).toNat < S6144.size a)
theorem k0_idx1275_inb : ∀ (v896 : IVec S16 32) (k0_hw1275 : k0_chk1275 v896), ∀ a x, ((![v896] : Fin 1 → IVec S16 32) a x).toNat < S6144.size a := fun v896 k0_hw1275 => k0_hw1275

def k0_chk1276 (v901 : IVec S16 32) : Prop :=
  (∀ a x, ((![v901] : Fin 1 → IVec S16 32) a x).toNat < S6144.size a)
theorem k0_idx1276_inb : ∀ (v901 : IVec S16 32) (k0_hw1276 : k0_chk1276 v901), ∀ a x, ((![v901] : Fin 1 → IVec S16 32) a x).toNat < S6144.size a := fun v901 k0_hw1276 => k0_hw1276

def k0_chk1277 (v906 : IVec S16 32) : Prop :=
  (∀ a x, ((![v906] : Fin 1 → IVec S16 32) a x).toNat < S6144.size a)
theorem k0_idx1277_inb : ∀ (v906 : IVec S16 32) (k0_hw1277 : k0_chk1277 v906), ∀ a x, ((![v906] : Fin 1 → IVec S16 32) a x).toNat < S6144.size a := fun v906 k0_hw1277 => k0_hw1277

def k0_chk1278 (v911 : IVec S16 32) : Prop :=
  (∀ a x, ((![v911] : Fin 1 → IVec S16 32) a x).toNat < S6144.size a)
theorem k0_idx1278_inb : ∀ (v911 : IVec S16 32) (k0_hw1278 : k0_chk1278 v911), ∀ a x, ((![v911] : Fin 1 → IVec S16 32) a x).toNat < S6144.size a := fun v911 k0_hw1278 => k0_hw1278

def k0_chk1279 (v916 : IVec S16 32) : Prop :=
  (∀ a x, ((![v916] : Fin 1 → IVec S16 32) a x).toNat < S6144.size a)
theorem k0_idx1279_inb : ∀ (v916 : IVec S16 32) (k0_hw1279 : k0_chk1279 v916), ∀ a x, ((![v916] : Fin 1 → IVec S16 32) a x).toNat < S6144.size a := fun v916 k0_hw1279 => k0_hw1279

def k0_chk1280 (v921 : IVec S16 32) : Prop :=
  (∀ a x, ((![v921] : Fin 1 → IVec S16 32) a x).toNat < S6144.size a)
theorem k0_idx1280_inb : ∀ (v921 : IVec S16 32) (k0_hw1280 : k0_chk1280 v921), ∀ a x, ((![v921] : Fin 1 → IVec S16 32) a x).toNat < S6144.size a := fun v921 k0_hw1280 => k0_hw1280
@[reducible] def k0_t42_loop : Scf.Loop 32 :=
  let c0_i32_654 : BitVec 32 := 0#32
  let c64_i32_655 : BitVec 32 := 64#32
  let v464 : BitVec 32 := Scalar.addi c0_i32_654 c64_i32_655
  let c1_i32_656 : BitVec 32 := 1#32
  ⟨c0_i32_654, v464, c1_i32_656⟩
def k0_off66 (k0_t42 : Fin k0_t42_loop.trips) (c0_i32_762 : BitVec 32) : Fin 2 → Nat :=
  let c0_i32_654 : BitVec 32 := 0#32
  let c1_i32_656 : BitVec 32 := 1#32
  let arg12 : BitVec 32 := Scf.iv c0_i32_654 c1_i32_656 k0_t42
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1281 (v766 : IVec S16 32) : Prop :=
  (∀ a x, ((![v766] : Fin 1 → IVec S16 32) a x).toNat < S6144.size a)
theorem k0_idx1281_inb : ∀ (v766 : IVec S16 32) (k0_hw1281 : k0_chk1281 v766), ∀ a x, ((![v766] : Fin 1 → IVec S16 32) a x).toNat < S6144.size a := fun v766 k0_hw1281 => k0_hw1281

def k0_chk1282 (v771 : IVec S16 32) : Prop :=
  (∀ a x, ((![v771] : Fin 1 → IVec S16 32) a x).toNat < S6144.size a)
theorem k0_idx1282_inb : ∀ (v771 : IVec S16 32) (k0_hw1282 : k0_chk1282 v771), ∀ a x, ((![v771] : Fin 1 → IVec S16 32) a x).toNat < S6144.size a := fun v771 k0_hw1282 => k0_hw1282

def k0_chk1283 (v776 : IVec S16 32) : Prop :=
  (∀ a x, ((![v776] : Fin 1 → IVec S16 32) a x).toNat < S6144.size a)
theorem k0_idx1283_inb : ∀ (v776 : IVec S16 32) (k0_hw1283 : k0_chk1283 v776), ∀ a x, ((![v776] : Fin 1 → IVec S16 32) a x).toNat < S6144.size a := fun v776 k0_hw1283 => k0_hw1283

def k0_chk1284 (v781 : IVec S16 32) : Prop :=
  (∀ a x, ((![v781] : Fin 1 → IVec S16 32) a x).toNat < S6144.size a)
theorem k0_idx1284_inb : ∀ (v781 : IVec S16 32) (k0_hw1284 : k0_chk1284 v781), ∀ a x, ((![v781] : Fin 1 → IVec S16 32) a x).toNat < S6144.size a := fun v781 k0_hw1284 => k0_hw1284

def k0_chk1285 (v786 : IVec S16 32) : Prop :=
  (∀ a x, ((![v786] : Fin 1 → IVec S16 32) a x).toNat < S6144.size a)
theorem k0_idx1285_inb : ∀ (v786 : IVec S16 32) (k0_hw1285 : k0_chk1285 v786), ∀ a x, ((![v786] : Fin 1 → IVec S16 32) a x).toNat < S6144.size a := fun v786 k0_hw1285 => k0_hw1285

def k0_chk1286 (v791 : IVec S16 32) : Prop :=
  (∀ a x, ((![v791] : Fin 1 → IVec S16 32) a x).toNat < S6144.size a)
theorem k0_idx1286_inb : ∀ (v791 : IVec S16 32) (k0_hw1286 : k0_chk1286 v791), ∀ a x, ((![v791] : Fin 1 → IVec S16 32) a x).toNat < S6144.size a := fun v791 k0_hw1286 => k0_hw1286

def k0_chk1287 (v796 : IVec S16 32) : Prop :=
  (∀ a x, ((![v796] : Fin 1 → IVec S16 32) a x).toNat < S6144.size a)
theorem k0_idx1287_inb : ∀ (v796 : IVec S16 32) (k0_hw1287 : k0_chk1287 v796), ∀ a x, ((![v796] : Fin 1 → IVec S16 32) a x).toNat < S6144.size a := fun v796 k0_hw1287 => k0_hw1287

def k0_chk1288 (v801 : IVec S16 32) : Prop :=
  (∀ a x, ((![v801] : Fin 1 → IVec S16 32) a x).toNat < S6144.size a)
theorem k0_idx1288_inb : ∀ (v801 : IVec S16 32) (k0_hw1288 : k0_chk1288 v801), ∀ a x, ((![v801] : Fin 1 → IVec S16 32) a x).toNat < S6144.size a := fun v801 k0_hw1288 => k0_hw1288

def k0_chk1289 (v806 : IVec S16 32) : Prop :=
  (∀ a x, ((![v806] : Fin 1 → IVec S16 32) a x).toNat < S6144.size a)
theorem k0_idx1289_inb : ∀ (v806 : IVec S16 32) (k0_hw1289 : k0_chk1289 v806), ∀ a x, ((![v806] : Fin 1 → IVec S16 32) a x).toNat < S6144.size a := fun v806 k0_hw1289 => k0_hw1289

def k0_chk1290 (v811 : IVec S16 32) : Prop :=
  (∀ a x, ((![v811] : Fin 1 → IVec S16 32) a x).toNat < S6144.size a)
theorem k0_idx1290_inb : ∀ (v811 : IVec S16 32) (k0_hw1290 : k0_chk1290 v811), ∀ a x, ((![v811] : Fin 1 → IVec S16 32) a x).toNat < S6144.size a := fun v811 k0_hw1290 => k0_hw1290

def k0_chk1291 (v816 : IVec S16 32) : Prop :=
  (∀ a x, ((![v816] : Fin 1 → IVec S16 32) a x).toNat < S6144.size a)
theorem k0_idx1291_inb : ∀ (v816 : IVec S16 32) (k0_hw1291 : k0_chk1291 v816), ∀ a x, ((![v816] : Fin 1 → IVec S16 32) a x).toNat < S6144.size a := fun v816 k0_hw1291 => k0_hw1291

def k0_chk1292 (v821 : IVec S16 32) : Prop :=
  (∀ a x, ((![v821] : Fin 1 → IVec S16 32) a x).toNat < S6144.size a)
theorem k0_idx1292_inb : ∀ (v821 : IVec S16 32) (k0_hw1292 : k0_chk1292 v821), ∀ a x, ((![v821] : Fin 1 → IVec S16 32) a x).toNat < S6144.size a := fun v821 k0_hw1292 => k0_hw1292

def k0_chk1293 (v826 : IVec S16 32) : Prop :=
  (∀ a x, ((![v826] : Fin 1 → IVec S16 32) a x).toNat < S6144.size a)
theorem k0_idx1293_inb : ∀ (v826 : IVec S16 32) (k0_hw1293 : k0_chk1293 v826), ∀ a x, ((![v826] : Fin 1 → IVec S16 32) a x).toNat < S6144.size a := fun v826 k0_hw1293 => k0_hw1293

def k0_chk1294 (v831 : IVec S16 32) : Prop :=
  (∀ a x, ((![v831] : Fin 1 → IVec S16 32) a x).toNat < S6144.size a)
theorem k0_idx1294_inb : ∀ (v831 : IVec S16 32) (k0_hw1294 : k0_chk1294 v831), ∀ a x, ((![v831] : Fin 1 → IVec S16 32) a x).toNat < S6144.size a := fun v831 k0_hw1294 => k0_hw1294

def k0_chk1295 (v836 : IVec S16 32) : Prop :=
  (∀ a x, ((![v836] : Fin 1 → IVec S16 32) a x).toNat < S6144.size a)
theorem k0_idx1295_inb : ∀ (v836 : IVec S16 32) (k0_hw1295 : k0_chk1295 v836), ∀ a x, ((![v836] : Fin 1 → IVec S16 32) a x).toNat < S6144.size a := fun v836 k0_hw1295 => k0_hw1295

def k0_chk1296 (v841 : IVec S16 32) : Prop :=
  (∀ a x, ((![v841] : Fin 1 → IVec S16 32) a x).toNat < S6144.size a)
theorem k0_idx1296_inb : ∀ (v841 : IVec S16 32) (k0_hw1296 : k0_chk1296 v841), ∀ a x, ((![v841] : Fin 1 → IVec S16 32) a x).toNat < S6144.size a := fun v841 k0_hw1296 => k0_hw1296

def k0_chk1297 (v846 : IVec S16 32) : Prop :=
  (∀ a x, ((![v846] : Fin 1 → IVec S16 32) a x).toNat < S6144.size a)
theorem k0_idx1297_inb : ∀ (v846 : IVec S16 32) (k0_hw1297 : k0_chk1297 v846), ∀ a x, ((![v846] : Fin 1 → IVec S16 32) a x).toNat < S6144.size a := fun v846 k0_hw1297 => k0_hw1297

def k0_chk1298 (v851 : IVec S16 32) : Prop :=
  (∀ a x, ((![v851] : Fin 1 → IVec S16 32) a x).toNat < S6144.size a)
theorem k0_idx1298_inb : ∀ (v851 : IVec S16 32) (k0_hw1298 : k0_chk1298 v851), ∀ a x, ((![v851] : Fin 1 → IVec S16 32) a x).toNat < S6144.size a := fun v851 k0_hw1298 => k0_hw1298

def k0_chk1299 (v856 : IVec S16 32) : Prop :=
  (∀ a x, ((![v856] : Fin 1 → IVec S16 32) a x).toNat < S6144.size a)
theorem k0_idx1299_inb : ∀ (v856 : IVec S16 32) (k0_hw1299 : k0_chk1299 v856), ∀ a x, ((![v856] : Fin 1 → IVec S16 32) a x).toNat < S6144.size a := fun v856 k0_hw1299 => k0_hw1299

def k0_chk1300 (v861 : IVec S16 32) : Prop :=
  (∀ a x, ((![v861] : Fin 1 → IVec S16 32) a x).toNat < S6144.size a)
theorem k0_idx1300_inb : ∀ (v861 : IVec S16 32) (k0_hw1300 : k0_chk1300 v861), ∀ a x, ((![v861] : Fin 1 → IVec S16 32) a x).toNat < S6144.size a := fun v861 k0_hw1300 => k0_hw1300

def k0_chk1301 (v866 : IVec S16 32) : Prop :=
  (∀ a x, ((![v866] : Fin 1 → IVec S16 32) a x).toNat < S6144.size a)
theorem k0_idx1301_inb : ∀ (v866 : IVec S16 32) (k0_hw1301 : k0_chk1301 v866), ∀ a x, ((![v866] : Fin 1 → IVec S16 32) a x).toNat < S6144.size a := fun v866 k0_hw1301 => k0_hw1301

def k0_chk1302 (v871 : IVec S16 32) : Prop :=
  (∀ a x, ((![v871] : Fin 1 → IVec S16 32) a x).toNat < S6144.size a)
theorem k0_idx1302_inb : ∀ (v871 : IVec S16 32) (k0_hw1302 : k0_chk1302 v871), ∀ a x, ((![v871] : Fin 1 → IVec S16 32) a x).toNat < S6144.size a := fun v871 k0_hw1302 => k0_hw1302

def k0_chk1303 (v876 : IVec S16 32) : Prop :=
  (∀ a x, ((![v876] : Fin 1 → IVec S16 32) a x).toNat < S6144.size a)
theorem k0_idx1303_inb : ∀ (v876 : IVec S16 32) (k0_hw1303 : k0_chk1303 v876), ∀ a x, ((![v876] : Fin 1 → IVec S16 32) a x).toNat < S6144.size a := fun v876 k0_hw1303 => k0_hw1303

def k0_chk1304 (v881 : IVec S16 32) : Prop :=
  (∀ a x, ((![v881] : Fin 1 → IVec S16 32) a x).toNat < S6144.size a)
theorem k0_idx1304_inb : ∀ (v881 : IVec S16 32) (k0_hw1304 : k0_chk1304 v881), ∀ a x, ((![v881] : Fin 1 → IVec S16 32) a x).toNat < S6144.size a := fun v881 k0_hw1304 => k0_hw1304

def k0_chk1305 (v886 : IVec S16 32) : Prop :=
  (∀ a x, ((![v886] : Fin 1 → IVec S16 32) a x).toNat < S6144.size a)
theorem k0_idx1305_inb : ∀ (v886 : IVec S16 32) (k0_hw1305 : k0_chk1305 v886), ∀ a x, ((![v886] : Fin 1 → IVec S16 32) a x).toNat < S6144.size a := fun v886 k0_hw1305 => k0_hw1305

def k0_chk1306 (v891 : IVec S16 32) : Prop :=
  (∀ a x, ((![v891] : Fin 1 → IVec S16 32) a x).toNat < S6144.size a)
theorem k0_idx1306_inb : ∀ (v891 : IVec S16 32) (k0_hw1306 : k0_chk1306 v891), ∀ a x, ((![v891] : Fin 1 → IVec S16 32) a x).toNat < S6144.size a := fun v891 k0_hw1306 => k0_hw1306

def k0_chk1307 (v896 : IVec S16 32) : Prop :=
  (∀ a x, ((![v896] : Fin 1 → IVec S16 32) a x).toNat < S6144.size a)
theorem k0_idx1307_inb : ∀ (v896 : IVec S16 32) (k0_hw1307 : k0_chk1307 v896), ∀ a x, ((![v896] : Fin 1 → IVec S16 32) a x).toNat < S6144.size a := fun v896 k0_hw1307 => k0_hw1307

def k0_chk1308 (v901 : IVec S16 32) : Prop :=
  (∀ a x, ((![v901] : Fin 1 → IVec S16 32) a x).toNat < S6144.size a)
theorem k0_idx1308_inb : ∀ (v901 : IVec S16 32) (k0_hw1308 : k0_chk1308 v901), ∀ a x, ((![v901] : Fin 1 → IVec S16 32) a x).toNat < S6144.size a := fun v901 k0_hw1308 => k0_hw1308

def k0_chk1309 (v906 : IVec S16 32) : Prop :=
  (∀ a x, ((![v906] : Fin 1 → IVec S16 32) a x).toNat < S6144.size a)
theorem k0_idx1309_inb : ∀ (v906 : IVec S16 32) (k0_hw1309 : k0_chk1309 v906), ∀ a x, ((![v906] : Fin 1 → IVec S16 32) a x).toNat < S6144.size a := fun v906 k0_hw1309 => k0_hw1309

def k0_chk1310 (v911 : IVec S16 32) : Prop :=
  (∀ a x, ((![v911] : Fin 1 → IVec S16 32) a x).toNat < S6144.size a)
theorem k0_idx1310_inb : ∀ (v911 : IVec S16 32) (k0_hw1310 : k0_chk1310 v911), ∀ a x, ((![v911] : Fin 1 → IVec S16 32) a x).toNat < S6144.size a := fun v911 k0_hw1310 => k0_hw1310

def k0_chk1311 (v916 : IVec S16 32) : Prop :=
  (∀ a x, ((![v916] : Fin 1 → IVec S16 32) a x).toNat < S6144.size a)
theorem k0_idx1311_inb : ∀ (v916 : IVec S16 32) (k0_hw1311 : k0_chk1311 v916), ∀ a x, ((![v916] : Fin 1 → IVec S16 32) a x).toNat < S6144.size a := fun v916 k0_hw1311 => k0_hw1311

def k0_chk1312 (v921 : IVec S16 32) : Prop :=
  (∀ a x, ((![v921] : Fin 1 → IVec S16 32) a x).toNat < S6144.size a)
theorem k0_idx1312_inb : ∀ (v921 : IVec S16 32) (k0_hw1312 : k0_chk1312 v921), ∀ a x, ((![v921] : Fin 1 → IVec S16 32) a x).toNat < S6144.size a := fun v921 k0_hw1312 => k0_hw1312
@[reducible] def k0_t43_loop : Scf.Loop 32 :=
  let c0_i32_670 : BitVec 32 := 0#32
  let c64_i32_671 : BitVec 32 := 64#32
  let v475 : BitVec 32 := Scalar.addi c0_i32_670 c64_i32_671
  let c1_i32_672 : BitVec 32 := 1#32
  ⟨c0_i32_670, v475, c1_i32_672⟩
def k0_off67 (k0_t43 : Fin k0_t43_loop.trips) (c0_i32_762 : BitVec 32) : Fin 2 → Nat :=
  let c0_i32_670 : BitVec 32 := 0#32
  let c1_i32_672 : BitVec 32 := 1#32
  let arg12 : BitVec 32 := Scf.iv c0_i32_670 c1_i32_672 k0_t43
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1313 (v766 : IVec S16 32) : Prop :=
  (∀ a x, ((![v766] : Fin 1 → IVec S16 32) a x).toNat < S6144.size a)
theorem k0_idx1313_inb : ∀ (v766 : IVec S16 32) (k0_hw1313 : k0_chk1313 v766), ∀ a x, ((![v766] : Fin 1 → IVec S16 32) a x).toNat < S6144.size a := fun v766 k0_hw1313 => k0_hw1313

def k0_chk1314 (v771 : IVec S16 32) : Prop :=
  (∀ a x, ((![v771] : Fin 1 → IVec S16 32) a x).toNat < S6144.size a)
theorem k0_idx1314_inb : ∀ (v771 : IVec S16 32) (k0_hw1314 : k0_chk1314 v771), ∀ a x, ((![v771] : Fin 1 → IVec S16 32) a x).toNat < S6144.size a := fun v771 k0_hw1314 => k0_hw1314

def k0_chk1315 (v776 : IVec S16 32) : Prop :=
  (∀ a x, ((![v776] : Fin 1 → IVec S16 32) a x).toNat < S6144.size a)
theorem k0_idx1315_inb : ∀ (v776 : IVec S16 32) (k0_hw1315 : k0_chk1315 v776), ∀ a x, ((![v776] : Fin 1 → IVec S16 32) a x).toNat < S6144.size a := fun v776 k0_hw1315 => k0_hw1315

def k0_chk1316 (v781 : IVec S16 32) : Prop :=
  (∀ a x, ((![v781] : Fin 1 → IVec S16 32) a x).toNat < S6144.size a)
theorem k0_idx1316_inb : ∀ (v781 : IVec S16 32) (k0_hw1316 : k0_chk1316 v781), ∀ a x, ((![v781] : Fin 1 → IVec S16 32) a x).toNat < S6144.size a := fun v781 k0_hw1316 => k0_hw1316

def k0_chk1317 (v786 : IVec S16 32) : Prop :=
  (∀ a x, ((![v786] : Fin 1 → IVec S16 32) a x).toNat < S6144.size a)
theorem k0_idx1317_inb : ∀ (v786 : IVec S16 32) (k0_hw1317 : k0_chk1317 v786), ∀ a x, ((![v786] : Fin 1 → IVec S16 32) a x).toNat < S6144.size a := fun v786 k0_hw1317 => k0_hw1317

def k0_chk1318 (v791 : IVec S16 32) : Prop :=
  (∀ a x, ((![v791] : Fin 1 → IVec S16 32) a x).toNat < S6144.size a)
theorem k0_idx1318_inb : ∀ (v791 : IVec S16 32) (k0_hw1318 : k0_chk1318 v791), ∀ a x, ((![v791] : Fin 1 → IVec S16 32) a x).toNat < S6144.size a := fun v791 k0_hw1318 => k0_hw1318

def k0_chk1319 (v796 : IVec S16 32) : Prop :=
  (∀ a x, ((![v796] : Fin 1 → IVec S16 32) a x).toNat < S6144.size a)
theorem k0_idx1319_inb : ∀ (v796 : IVec S16 32) (k0_hw1319 : k0_chk1319 v796), ∀ a x, ((![v796] : Fin 1 → IVec S16 32) a x).toNat < S6144.size a := fun v796 k0_hw1319 => k0_hw1319

def k0_chk1320 (v801 : IVec S16 32) : Prop :=
  (∀ a x, ((![v801] : Fin 1 → IVec S16 32) a x).toNat < S6144.size a)
theorem k0_idx1320_inb : ∀ (v801 : IVec S16 32) (k0_hw1320 : k0_chk1320 v801), ∀ a x, ((![v801] : Fin 1 → IVec S16 32) a x).toNat < S6144.size a := fun v801 k0_hw1320 => k0_hw1320

def k0_chk1321 (v806 : IVec S16 32) : Prop :=
  (∀ a x, ((![v806] : Fin 1 → IVec S16 32) a x).toNat < S6144.size a)
theorem k0_idx1321_inb : ∀ (v806 : IVec S16 32) (k0_hw1321 : k0_chk1321 v806), ∀ a x, ((![v806] : Fin 1 → IVec S16 32) a x).toNat < S6144.size a := fun v806 k0_hw1321 => k0_hw1321

def k0_chk1322 (v811 : IVec S16 32) : Prop :=
  (∀ a x, ((![v811] : Fin 1 → IVec S16 32) a x).toNat < S6144.size a)
theorem k0_idx1322_inb : ∀ (v811 : IVec S16 32) (k0_hw1322 : k0_chk1322 v811), ∀ a x, ((![v811] : Fin 1 → IVec S16 32) a x).toNat < S6144.size a := fun v811 k0_hw1322 => k0_hw1322

def k0_chk1323 (v816 : IVec S16 32) : Prop :=
  (∀ a x, ((![v816] : Fin 1 → IVec S16 32) a x).toNat < S6144.size a)
theorem k0_idx1323_inb : ∀ (v816 : IVec S16 32) (k0_hw1323 : k0_chk1323 v816), ∀ a x, ((![v816] : Fin 1 → IVec S16 32) a x).toNat < S6144.size a := fun v816 k0_hw1323 => k0_hw1323

def k0_chk1324 (v821 : IVec S16 32) : Prop :=
  (∀ a x, ((![v821] : Fin 1 → IVec S16 32) a x).toNat < S6144.size a)
theorem k0_idx1324_inb : ∀ (v821 : IVec S16 32) (k0_hw1324 : k0_chk1324 v821), ∀ a x, ((![v821] : Fin 1 → IVec S16 32) a x).toNat < S6144.size a := fun v821 k0_hw1324 => k0_hw1324

def k0_chk1325 (v826 : IVec S16 32) : Prop :=
  (∀ a x, ((![v826] : Fin 1 → IVec S16 32) a x).toNat < S6144.size a)
theorem k0_idx1325_inb : ∀ (v826 : IVec S16 32) (k0_hw1325 : k0_chk1325 v826), ∀ a x, ((![v826] : Fin 1 → IVec S16 32) a x).toNat < S6144.size a := fun v826 k0_hw1325 => k0_hw1325

def k0_chk1326 (v831 : IVec S16 32) : Prop :=
  (∀ a x, ((![v831] : Fin 1 → IVec S16 32) a x).toNat < S6144.size a)
theorem k0_idx1326_inb : ∀ (v831 : IVec S16 32) (k0_hw1326 : k0_chk1326 v831), ∀ a x, ((![v831] : Fin 1 → IVec S16 32) a x).toNat < S6144.size a := fun v831 k0_hw1326 => k0_hw1326

def k0_chk1327 (v836 : IVec S16 32) : Prop :=
  (∀ a x, ((![v836] : Fin 1 → IVec S16 32) a x).toNat < S6144.size a)
theorem k0_idx1327_inb : ∀ (v836 : IVec S16 32) (k0_hw1327 : k0_chk1327 v836), ∀ a x, ((![v836] : Fin 1 → IVec S16 32) a x).toNat < S6144.size a := fun v836 k0_hw1327 => k0_hw1327

def k0_chk1328 (v841 : IVec S16 32) : Prop :=
  (∀ a x, ((![v841] : Fin 1 → IVec S16 32) a x).toNat < S6144.size a)
theorem k0_idx1328_inb : ∀ (v841 : IVec S16 32) (k0_hw1328 : k0_chk1328 v841), ∀ a x, ((![v841] : Fin 1 → IVec S16 32) a x).toNat < S6144.size a := fun v841 k0_hw1328 => k0_hw1328

def k0_chk1329 (v846 : IVec S16 32) : Prop :=
  (∀ a x, ((![v846] : Fin 1 → IVec S16 32) a x).toNat < S6144.size a)
theorem k0_idx1329_inb : ∀ (v846 : IVec S16 32) (k0_hw1329 : k0_chk1329 v846), ∀ a x, ((![v846] : Fin 1 → IVec S16 32) a x).toNat < S6144.size a := fun v846 k0_hw1329 => k0_hw1329

def k0_chk1330 (v851 : IVec S16 32) : Prop :=
  (∀ a x, ((![v851] : Fin 1 → IVec S16 32) a x).toNat < S6144.size a)
theorem k0_idx1330_inb : ∀ (v851 : IVec S16 32) (k0_hw1330 : k0_chk1330 v851), ∀ a x, ((![v851] : Fin 1 → IVec S16 32) a x).toNat < S6144.size a := fun v851 k0_hw1330 => k0_hw1330

def k0_chk1331 (v856 : IVec S16 32) : Prop :=
  (∀ a x, ((![v856] : Fin 1 → IVec S16 32) a x).toNat < S6144.size a)
theorem k0_idx1331_inb : ∀ (v856 : IVec S16 32) (k0_hw1331 : k0_chk1331 v856), ∀ a x, ((![v856] : Fin 1 → IVec S16 32) a x).toNat < S6144.size a := fun v856 k0_hw1331 => k0_hw1331

def k0_chk1332 (v861 : IVec S16 32) : Prop :=
  (∀ a x, ((![v861] : Fin 1 → IVec S16 32) a x).toNat < S6144.size a)
theorem k0_idx1332_inb : ∀ (v861 : IVec S16 32) (k0_hw1332 : k0_chk1332 v861), ∀ a x, ((![v861] : Fin 1 → IVec S16 32) a x).toNat < S6144.size a := fun v861 k0_hw1332 => k0_hw1332

def k0_chk1333 (v866 : IVec S16 32) : Prop :=
  (∀ a x, ((![v866] : Fin 1 → IVec S16 32) a x).toNat < S6144.size a)
theorem k0_idx1333_inb : ∀ (v866 : IVec S16 32) (k0_hw1333 : k0_chk1333 v866), ∀ a x, ((![v866] : Fin 1 → IVec S16 32) a x).toNat < S6144.size a := fun v866 k0_hw1333 => k0_hw1333

def k0_chk1334 (v871 : IVec S16 32) : Prop :=
  (∀ a x, ((![v871] : Fin 1 → IVec S16 32) a x).toNat < S6144.size a)
theorem k0_idx1334_inb : ∀ (v871 : IVec S16 32) (k0_hw1334 : k0_chk1334 v871), ∀ a x, ((![v871] : Fin 1 → IVec S16 32) a x).toNat < S6144.size a := fun v871 k0_hw1334 => k0_hw1334

def k0_chk1335 (v876 : IVec S16 32) : Prop :=
  (∀ a x, ((![v876] : Fin 1 → IVec S16 32) a x).toNat < S6144.size a)
theorem k0_idx1335_inb : ∀ (v876 : IVec S16 32) (k0_hw1335 : k0_chk1335 v876), ∀ a x, ((![v876] : Fin 1 → IVec S16 32) a x).toNat < S6144.size a := fun v876 k0_hw1335 => k0_hw1335

def k0_chk1336 (v881 : IVec S16 32) : Prop :=
  (∀ a x, ((![v881] : Fin 1 → IVec S16 32) a x).toNat < S6144.size a)
theorem k0_idx1336_inb : ∀ (v881 : IVec S16 32) (k0_hw1336 : k0_chk1336 v881), ∀ a x, ((![v881] : Fin 1 → IVec S16 32) a x).toNat < S6144.size a := fun v881 k0_hw1336 => k0_hw1336

def k0_chk1337 (v886 : IVec S16 32) : Prop :=
  (∀ a x, ((![v886] : Fin 1 → IVec S16 32) a x).toNat < S6144.size a)
theorem k0_idx1337_inb : ∀ (v886 : IVec S16 32) (k0_hw1337 : k0_chk1337 v886), ∀ a x, ((![v886] : Fin 1 → IVec S16 32) a x).toNat < S6144.size a := fun v886 k0_hw1337 => k0_hw1337

def k0_chk1338 (v891 : IVec S16 32) : Prop :=
  (∀ a x, ((![v891] : Fin 1 → IVec S16 32) a x).toNat < S6144.size a)
theorem k0_idx1338_inb : ∀ (v891 : IVec S16 32) (k0_hw1338 : k0_chk1338 v891), ∀ a x, ((![v891] : Fin 1 → IVec S16 32) a x).toNat < S6144.size a := fun v891 k0_hw1338 => k0_hw1338

def k0_chk1339 (v896 : IVec S16 32) : Prop :=
  (∀ a x, ((![v896] : Fin 1 → IVec S16 32) a x).toNat < S6144.size a)
theorem k0_idx1339_inb : ∀ (v896 : IVec S16 32) (k0_hw1339 : k0_chk1339 v896), ∀ a x, ((![v896] : Fin 1 → IVec S16 32) a x).toNat < S6144.size a := fun v896 k0_hw1339 => k0_hw1339

def k0_chk1340 (v901 : IVec S16 32) : Prop :=
  (∀ a x, ((![v901] : Fin 1 → IVec S16 32) a x).toNat < S6144.size a)
theorem k0_idx1340_inb : ∀ (v901 : IVec S16 32) (k0_hw1340 : k0_chk1340 v901), ∀ a x, ((![v901] : Fin 1 → IVec S16 32) a x).toNat < S6144.size a := fun v901 k0_hw1340 => k0_hw1340

def k0_chk1341 (v906 : IVec S16 32) : Prop :=
  (∀ a x, ((![v906] : Fin 1 → IVec S16 32) a x).toNat < S6144.size a)
theorem k0_idx1341_inb : ∀ (v906 : IVec S16 32) (k0_hw1341 : k0_chk1341 v906), ∀ a x, ((![v906] : Fin 1 → IVec S16 32) a x).toNat < S6144.size a := fun v906 k0_hw1341 => k0_hw1341

def k0_chk1342 (v911 : IVec S16 32) : Prop :=
  (∀ a x, ((![v911] : Fin 1 → IVec S16 32) a x).toNat < S6144.size a)
theorem k0_idx1342_inb : ∀ (v911 : IVec S16 32) (k0_hw1342 : k0_chk1342 v911), ∀ a x, ((![v911] : Fin 1 → IVec S16 32) a x).toNat < S6144.size a := fun v911 k0_hw1342 => k0_hw1342

def k0_chk1343 (v916 : IVec S16 32) : Prop :=
  (∀ a x, ((![v916] : Fin 1 → IVec S16 32) a x).toNat < S6144.size a)
theorem k0_idx1343_inb : ∀ (v916 : IVec S16 32) (k0_hw1343 : k0_chk1343 v916), ∀ a x, ((![v916] : Fin 1 → IVec S16 32) a x).toNat < S6144.size a := fun v916 k0_hw1343 => k0_hw1343

def k0_chk1344 (v921 : IVec S16 32) : Prop :=
  (∀ a x, ((![v921] : Fin 1 → IVec S16 32) a x).toNat < S6144.size a)
theorem k0_idx1344_inb : ∀ (v921 : IVec S16 32) (k0_hw1344 : k0_chk1344 v921), ∀ a x, ((![v921] : Fin 1 → IVec S16 32) a x).toNat < S6144.size a := fun v921 k0_hw1344 => k0_hw1344
@[reducible] def k0_t44_loop : Scf.Loop 32 :=
  let c0_i32_686 : BitVec 32 := 0#32
  let c64_i32_687 : BitVec 32 := 64#32
  let v486 : BitVec 32 := Scalar.addi c0_i32_686 c64_i32_687
  let c1_i32_688 : BitVec 32 := 1#32
  ⟨c0_i32_686, v486, c1_i32_688⟩
def k0_off68 (k0_t44 : Fin k0_t44_loop.trips) (c0_i32_762 : BitVec 32) : Fin 2 → Nat :=
  let c0_i32_686 : BitVec 32 := 0#32
  let c1_i32_688 : BitVec 32 := 1#32
  let arg12 : BitVec 32 := Scf.iv c0_i32_686 c1_i32_688 k0_t44
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1345 (v766 : IVec S16 32) : Prop :=
  (∀ a x, ((![v766] : Fin 1 → IVec S16 32) a x).toNat < S6144.size a)
theorem k0_idx1345_inb : ∀ (v766 : IVec S16 32) (k0_hw1345 : k0_chk1345 v766), ∀ a x, ((![v766] : Fin 1 → IVec S16 32) a x).toNat < S6144.size a := fun v766 k0_hw1345 => k0_hw1345

def k0_chk1346 (v771 : IVec S16 32) : Prop :=
  (∀ a x, ((![v771] : Fin 1 → IVec S16 32) a x).toNat < S6144.size a)
theorem k0_idx1346_inb : ∀ (v771 : IVec S16 32) (k0_hw1346 : k0_chk1346 v771), ∀ a x, ((![v771] : Fin 1 → IVec S16 32) a x).toNat < S6144.size a := fun v771 k0_hw1346 => k0_hw1346

def k0_chk1347 (v776 : IVec S16 32) : Prop :=
  (∀ a x, ((![v776] : Fin 1 → IVec S16 32) a x).toNat < S6144.size a)
theorem k0_idx1347_inb : ∀ (v776 : IVec S16 32) (k0_hw1347 : k0_chk1347 v776), ∀ a x, ((![v776] : Fin 1 → IVec S16 32) a x).toNat < S6144.size a := fun v776 k0_hw1347 => k0_hw1347

def k0_chk1348 (v781 : IVec S16 32) : Prop :=
  (∀ a x, ((![v781] : Fin 1 → IVec S16 32) a x).toNat < S6144.size a)
theorem k0_idx1348_inb : ∀ (v781 : IVec S16 32) (k0_hw1348 : k0_chk1348 v781), ∀ a x, ((![v781] : Fin 1 → IVec S16 32) a x).toNat < S6144.size a := fun v781 k0_hw1348 => k0_hw1348

def k0_chk1349 (v786 : IVec S16 32) : Prop :=
  (∀ a x, ((![v786] : Fin 1 → IVec S16 32) a x).toNat < S6144.size a)
theorem k0_idx1349_inb : ∀ (v786 : IVec S16 32) (k0_hw1349 : k0_chk1349 v786), ∀ a x, ((![v786] : Fin 1 → IVec S16 32) a x).toNat < S6144.size a := fun v786 k0_hw1349 => k0_hw1349

def k0_chk1350 (v791 : IVec S16 32) : Prop :=
  (∀ a x, ((![v791] : Fin 1 → IVec S16 32) a x).toNat < S6144.size a)
theorem k0_idx1350_inb : ∀ (v791 : IVec S16 32) (k0_hw1350 : k0_chk1350 v791), ∀ a x, ((![v791] : Fin 1 → IVec S16 32) a x).toNat < S6144.size a := fun v791 k0_hw1350 => k0_hw1350

def k0_chk1351 (v796 : IVec S16 32) : Prop :=
  (∀ a x, ((![v796] : Fin 1 → IVec S16 32) a x).toNat < S6144.size a)
theorem k0_idx1351_inb : ∀ (v796 : IVec S16 32) (k0_hw1351 : k0_chk1351 v796), ∀ a x, ((![v796] : Fin 1 → IVec S16 32) a x).toNat < S6144.size a := fun v796 k0_hw1351 => k0_hw1351

def k0_chk1352 (v801 : IVec S16 32) : Prop :=
  (∀ a x, ((![v801] : Fin 1 → IVec S16 32) a x).toNat < S6144.size a)
theorem k0_idx1352_inb : ∀ (v801 : IVec S16 32) (k0_hw1352 : k0_chk1352 v801), ∀ a x, ((![v801] : Fin 1 → IVec S16 32) a x).toNat < S6144.size a := fun v801 k0_hw1352 => k0_hw1352

def k0_chk1353 (v806 : IVec S16 32) : Prop :=
  (∀ a x, ((![v806] : Fin 1 → IVec S16 32) a x).toNat < S6144.size a)
theorem k0_idx1353_inb : ∀ (v806 : IVec S16 32) (k0_hw1353 : k0_chk1353 v806), ∀ a x, ((![v806] : Fin 1 → IVec S16 32) a x).toNat < S6144.size a := fun v806 k0_hw1353 => k0_hw1353

def k0_chk1354 (v811 : IVec S16 32) : Prop :=
  (∀ a x, ((![v811] : Fin 1 → IVec S16 32) a x).toNat < S6144.size a)
theorem k0_idx1354_inb : ∀ (v811 : IVec S16 32) (k0_hw1354 : k0_chk1354 v811), ∀ a x, ((![v811] : Fin 1 → IVec S16 32) a x).toNat < S6144.size a := fun v811 k0_hw1354 => k0_hw1354

def k0_chk1355 (v816 : IVec S16 32) : Prop :=
  (∀ a x, ((![v816] : Fin 1 → IVec S16 32) a x).toNat < S6144.size a)
theorem k0_idx1355_inb : ∀ (v816 : IVec S16 32) (k0_hw1355 : k0_chk1355 v816), ∀ a x, ((![v816] : Fin 1 → IVec S16 32) a x).toNat < S6144.size a := fun v816 k0_hw1355 => k0_hw1355

def k0_chk1356 (v821 : IVec S16 32) : Prop :=
  (∀ a x, ((![v821] : Fin 1 → IVec S16 32) a x).toNat < S6144.size a)
theorem k0_idx1356_inb : ∀ (v821 : IVec S16 32) (k0_hw1356 : k0_chk1356 v821), ∀ a x, ((![v821] : Fin 1 → IVec S16 32) a x).toNat < S6144.size a := fun v821 k0_hw1356 => k0_hw1356

def k0_chk1357 (v826 : IVec S16 32) : Prop :=
  (∀ a x, ((![v826] : Fin 1 → IVec S16 32) a x).toNat < S6144.size a)
theorem k0_idx1357_inb : ∀ (v826 : IVec S16 32) (k0_hw1357 : k0_chk1357 v826), ∀ a x, ((![v826] : Fin 1 → IVec S16 32) a x).toNat < S6144.size a := fun v826 k0_hw1357 => k0_hw1357

def k0_chk1358 (v831 : IVec S16 32) : Prop :=
  (∀ a x, ((![v831] : Fin 1 → IVec S16 32) a x).toNat < S6144.size a)
theorem k0_idx1358_inb : ∀ (v831 : IVec S16 32) (k0_hw1358 : k0_chk1358 v831), ∀ a x, ((![v831] : Fin 1 → IVec S16 32) a x).toNat < S6144.size a := fun v831 k0_hw1358 => k0_hw1358

def k0_chk1359 (v836 : IVec S16 32) : Prop :=
  (∀ a x, ((![v836] : Fin 1 → IVec S16 32) a x).toNat < S6144.size a)
theorem k0_idx1359_inb : ∀ (v836 : IVec S16 32) (k0_hw1359 : k0_chk1359 v836), ∀ a x, ((![v836] : Fin 1 → IVec S16 32) a x).toNat < S6144.size a := fun v836 k0_hw1359 => k0_hw1359

def k0_chk1360 (v841 : IVec S16 32) : Prop :=
  (∀ a x, ((![v841] : Fin 1 → IVec S16 32) a x).toNat < S6144.size a)
theorem k0_idx1360_inb : ∀ (v841 : IVec S16 32) (k0_hw1360 : k0_chk1360 v841), ∀ a x, ((![v841] : Fin 1 → IVec S16 32) a x).toNat < S6144.size a := fun v841 k0_hw1360 => k0_hw1360

def k0_chk1361 (v846 : IVec S16 32) : Prop :=
  (∀ a x, ((![v846] : Fin 1 → IVec S16 32) a x).toNat < S6144.size a)
theorem k0_idx1361_inb : ∀ (v846 : IVec S16 32) (k0_hw1361 : k0_chk1361 v846), ∀ a x, ((![v846] : Fin 1 → IVec S16 32) a x).toNat < S6144.size a := fun v846 k0_hw1361 => k0_hw1361

def k0_chk1362 (v851 : IVec S16 32) : Prop :=
  (∀ a x, ((![v851] : Fin 1 → IVec S16 32) a x).toNat < S6144.size a)
theorem k0_idx1362_inb : ∀ (v851 : IVec S16 32) (k0_hw1362 : k0_chk1362 v851), ∀ a x, ((![v851] : Fin 1 → IVec S16 32) a x).toNat < S6144.size a := fun v851 k0_hw1362 => k0_hw1362

def k0_chk1363 (v856 : IVec S16 32) : Prop :=
  (∀ a x, ((![v856] : Fin 1 → IVec S16 32) a x).toNat < S6144.size a)
theorem k0_idx1363_inb : ∀ (v856 : IVec S16 32) (k0_hw1363 : k0_chk1363 v856), ∀ a x, ((![v856] : Fin 1 → IVec S16 32) a x).toNat < S6144.size a := fun v856 k0_hw1363 => k0_hw1363

def k0_chk1364 (v861 : IVec S16 32) : Prop :=
  (∀ a x, ((![v861] : Fin 1 → IVec S16 32) a x).toNat < S6144.size a)
theorem k0_idx1364_inb : ∀ (v861 : IVec S16 32) (k0_hw1364 : k0_chk1364 v861), ∀ a x, ((![v861] : Fin 1 → IVec S16 32) a x).toNat < S6144.size a := fun v861 k0_hw1364 => k0_hw1364

def k0_chk1365 (v866 : IVec S16 32) : Prop :=
  (∀ a x, ((![v866] : Fin 1 → IVec S16 32) a x).toNat < S6144.size a)
theorem k0_idx1365_inb : ∀ (v866 : IVec S16 32) (k0_hw1365 : k0_chk1365 v866), ∀ a x, ((![v866] : Fin 1 → IVec S16 32) a x).toNat < S6144.size a := fun v866 k0_hw1365 => k0_hw1365

def k0_chk1366 (v871 : IVec S16 32) : Prop :=
  (∀ a x, ((![v871] : Fin 1 → IVec S16 32) a x).toNat < S6144.size a)
theorem k0_idx1366_inb : ∀ (v871 : IVec S16 32) (k0_hw1366 : k0_chk1366 v871), ∀ a x, ((![v871] : Fin 1 → IVec S16 32) a x).toNat < S6144.size a := fun v871 k0_hw1366 => k0_hw1366

def k0_chk1367 (v876 : IVec S16 32) : Prop :=
  (∀ a x, ((![v876] : Fin 1 → IVec S16 32) a x).toNat < S6144.size a)
theorem k0_idx1367_inb : ∀ (v876 : IVec S16 32) (k0_hw1367 : k0_chk1367 v876), ∀ a x, ((![v876] : Fin 1 → IVec S16 32) a x).toNat < S6144.size a := fun v876 k0_hw1367 => k0_hw1367

def k0_chk1368 (v881 : IVec S16 32) : Prop :=
  (∀ a x, ((![v881] : Fin 1 → IVec S16 32) a x).toNat < S6144.size a)
theorem k0_idx1368_inb : ∀ (v881 : IVec S16 32) (k0_hw1368 : k0_chk1368 v881), ∀ a x, ((![v881] : Fin 1 → IVec S16 32) a x).toNat < S6144.size a := fun v881 k0_hw1368 => k0_hw1368

def k0_chk1369 (v886 : IVec S16 32) : Prop :=
  (∀ a x, ((![v886] : Fin 1 → IVec S16 32) a x).toNat < S6144.size a)
theorem k0_idx1369_inb : ∀ (v886 : IVec S16 32) (k0_hw1369 : k0_chk1369 v886), ∀ a x, ((![v886] : Fin 1 → IVec S16 32) a x).toNat < S6144.size a := fun v886 k0_hw1369 => k0_hw1369

def k0_chk1370 (v891 : IVec S16 32) : Prop :=
  (∀ a x, ((![v891] : Fin 1 → IVec S16 32) a x).toNat < S6144.size a)
theorem k0_idx1370_inb : ∀ (v891 : IVec S16 32) (k0_hw1370 : k0_chk1370 v891), ∀ a x, ((![v891] : Fin 1 → IVec S16 32) a x).toNat < S6144.size a := fun v891 k0_hw1370 => k0_hw1370

def k0_chk1371 (v896 : IVec S16 32) : Prop :=
  (∀ a x, ((![v896] : Fin 1 → IVec S16 32) a x).toNat < S6144.size a)
theorem k0_idx1371_inb : ∀ (v896 : IVec S16 32) (k0_hw1371 : k0_chk1371 v896), ∀ a x, ((![v896] : Fin 1 → IVec S16 32) a x).toNat < S6144.size a := fun v896 k0_hw1371 => k0_hw1371

def k0_chk1372 (v901 : IVec S16 32) : Prop :=
  (∀ a x, ((![v901] : Fin 1 → IVec S16 32) a x).toNat < S6144.size a)
theorem k0_idx1372_inb : ∀ (v901 : IVec S16 32) (k0_hw1372 : k0_chk1372 v901), ∀ a x, ((![v901] : Fin 1 → IVec S16 32) a x).toNat < S6144.size a := fun v901 k0_hw1372 => k0_hw1372

def k0_chk1373 (v906 : IVec S16 32) : Prop :=
  (∀ a x, ((![v906] : Fin 1 → IVec S16 32) a x).toNat < S6144.size a)
theorem k0_idx1373_inb : ∀ (v906 : IVec S16 32) (k0_hw1373 : k0_chk1373 v906), ∀ a x, ((![v906] : Fin 1 → IVec S16 32) a x).toNat < S6144.size a := fun v906 k0_hw1373 => k0_hw1373

def k0_chk1374 (v911 : IVec S16 32) : Prop :=
  (∀ a x, ((![v911] : Fin 1 → IVec S16 32) a x).toNat < S6144.size a)
theorem k0_idx1374_inb : ∀ (v911 : IVec S16 32) (k0_hw1374 : k0_chk1374 v911), ∀ a x, ((![v911] : Fin 1 → IVec S16 32) a x).toNat < S6144.size a := fun v911 k0_hw1374 => k0_hw1374

def k0_chk1375 (v916 : IVec S16 32) : Prop :=
  (∀ a x, ((![v916] : Fin 1 → IVec S16 32) a x).toNat < S6144.size a)
theorem k0_idx1375_inb : ∀ (v916 : IVec S16 32) (k0_hw1375 : k0_chk1375 v916), ∀ a x, ((![v916] : Fin 1 → IVec S16 32) a x).toNat < S6144.size a := fun v916 k0_hw1375 => k0_hw1375

def k0_chk1376 (v921 : IVec S16 32) : Prop :=
  (∀ a x, ((![v921] : Fin 1 → IVec S16 32) a x).toNat < S6144.size a)
theorem k0_idx1376_inb : ∀ (v921 : IVec S16 32) (k0_hw1376 : k0_chk1376 v921), ∀ a x, ((![v921] : Fin 1 → IVec S16 32) a x).toNat < S6144.size a := fun v921 k0_hw1376 => k0_hw1376
@[reducible] def k0_t45_loop : Scf.Loop 32 :=
  let c0_i32_702 : BitVec 32 := 0#32
  let c64_i32_703 : BitVec 32 := 64#32
  let v497 : BitVec 32 := Scalar.addi c0_i32_702 c64_i32_703
  let c1_i32_704 : BitVec 32 := 1#32
  ⟨c0_i32_702, v497, c1_i32_704⟩
def k0_off69 (k0_t45 : Fin k0_t45_loop.trips) (c0_i32_762 : BitVec 32) : Fin 2 → Nat :=
  let c0_i32_702 : BitVec 32 := 0#32
  let c1_i32_704 : BitVec 32 := 1#32
  let arg12 : BitVec 32 := Scf.iv c0_i32_702 c1_i32_704 k0_t45
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1377 (v766 : IVec S16 32) : Prop :=
  (∀ a x, ((![v766] : Fin 1 → IVec S16 32) a x).toNat < S6144.size a)
theorem k0_idx1377_inb : ∀ (v766 : IVec S16 32) (k0_hw1377 : k0_chk1377 v766), ∀ a x, ((![v766] : Fin 1 → IVec S16 32) a x).toNat < S6144.size a := fun v766 k0_hw1377 => k0_hw1377

def k0_chk1378 (v771 : IVec S16 32) : Prop :=
  (∀ a x, ((![v771] : Fin 1 → IVec S16 32) a x).toNat < S6144.size a)
theorem k0_idx1378_inb : ∀ (v771 : IVec S16 32) (k0_hw1378 : k0_chk1378 v771), ∀ a x, ((![v771] : Fin 1 → IVec S16 32) a x).toNat < S6144.size a := fun v771 k0_hw1378 => k0_hw1378

def k0_chk1379 (v776 : IVec S16 32) : Prop :=
  (∀ a x, ((![v776] : Fin 1 → IVec S16 32) a x).toNat < S6144.size a)
theorem k0_idx1379_inb : ∀ (v776 : IVec S16 32) (k0_hw1379 : k0_chk1379 v776), ∀ a x, ((![v776] : Fin 1 → IVec S16 32) a x).toNat < S6144.size a := fun v776 k0_hw1379 => k0_hw1379

def k0_chk1380 (v781 : IVec S16 32) : Prop :=
  (∀ a x, ((![v781] : Fin 1 → IVec S16 32) a x).toNat < S6144.size a)
theorem k0_idx1380_inb : ∀ (v781 : IVec S16 32) (k0_hw1380 : k0_chk1380 v781), ∀ a x, ((![v781] : Fin 1 → IVec S16 32) a x).toNat < S6144.size a := fun v781 k0_hw1380 => k0_hw1380

def k0_chk1381 (v786 : IVec S16 32) : Prop :=
  (∀ a x, ((![v786] : Fin 1 → IVec S16 32) a x).toNat < S6144.size a)
theorem k0_idx1381_inb : ∀ (v786 : IVec S16 32) (k0_hw1381 : k0_chk1381 v786), ∀ a x, ((![v786] : Fin 1 → IVec S16 32) a x).toNat < S6144.size a := fun v786 k0_hw1381 => k0_hw1381

def k0_chk1382 (v791 : IVec S16 32) : Prop :=
  (∀ a x, ((![v791] : Fin 1 → IVec S16 32) a x).toNat < S6144.size a)
theorem k0_idx1382_inb : ∀ (v791 : IVec S16 32) (k0_hw1382 : k0_chk1382 v791), ∀ a x, ((![v791] : Fin 1 → IVec S16 32) a x).toNat < S6144.size a := fun v791 k0_hw1382 => k0_hw1382

def k0_chk1383 (v796 : IVec S16 32) : Prop :=
  (∀ a x, ((![v796] : Fin 1 → IVec S16 32) a x).toNat < S6144.size a)
theorem k0_idx1383_inb : ∀ (v796 : IVec S16 32) (k0_hw1383 : k0_chk1383 v796), ∀ a x, ((![v796] : Fin 1 → IVec S16 32) a x).toNat < S6144.size a := fun v796 k0_hw1383 => k0_hw1383

def k0_chk1384 (v801 : IVec S16 32) : Prop :=
  (∀ a x, ((![v801] : Fin 1 → IVec S16 32) a x).toNat < S6144.size a)
theorem k0_idx1384_inb : ∀ (v801 : IVec S16 32) (k0_hw1384 : k0_chk1384 v801), ∀ a x, ((![v801] : Fin 1 → IVec S16 32) a x).toNat < S6144.size a := fun v801 k0_hw1384 => k0_hw1384

def k0_chk1385 (v806 : IVec S16 32) : Prop :=
  (∀ a x, ((![v806] : Fin 1 → IVec S16 32) a x).toNat < S6144.size a)
theorem k0_idx1385_inb : ∀ (v806 : IVec S16 32) (k0_hw1385 : k0_chk1385 v806), ∀ a x, ((![v806] : Fin 1 → IVec S16 32) a x).toNat < S6144.size a := fun v806 k0_hw1385 => k0_hw1385

def k0_chk1386 (v811 : IVec S16 32) : Prop :=
  (∀ a x, ((![v811] : Fin 1 → IVec S16 32) a x).toNat < S6144.size a)
theorem k0_idx1386_inb : ∀ (v811 : IVec S16 32) (k0_hw1386 : k0_chk1386 v811), ∀ a x, ((![v811] : Fin 1 → IVec S16 32) a x).toNat < S6144.size a := fun v811 k0_hw1386 => k0_hw1386

def k0_chk1387 (v816 : IVec S16 32) : Prop :=
  (∀ a x, ((![v816] : Fin 1 → IVec S16 32) a x).toNat < S6144.size a)
theorem k0_idx1387_inb : ∀ (v816 : IVec S16 32) (k0_hw1387 : k0_chk1387 v816), ∀ a x, ((![v816] : Fin 1 → IVec S16 32) a x).toNat < S6144.size a := fun v816 k0_hw1387 => k0_hw1387

def k0_chk1388 (v821 : IVec S16 32) : Prop :=
  (∀ a x, ((![v821] : Fin 1 → IVec S16 32) a x).toNat < S6144.size a)
theorem k0_idx1388_inb : ∀ (v821 : IVec S16 32) (k0_hw1388 : k0_chk1388 v821), ∀ a x, ((![v821] : Fin 1 → IVec S16 32) a x).toNat < S6144.size a := fun v821 k0_hw1388 => k0_hw1388

def k0_chk1389 (v826 : IVec S16 32) : Prop :=
  (∀ a x, ((![v826] : Fin 1 → IVec S16 32) a x).toNat < S6144.size a)
theorem k0_idx1389_inb : ∀ (v826 : IVec S16 32) (k0_hw1389 : k0_chk1389 v826), ∀ a x, ((![v826] : Fin 1 → IVec S16 32) a x).toNat < S6144.size a := fun v826 k0_hw1389 => k0_hw1389

def k0_chk1390 (v831 : IVec S16 32) : Prop :=
  (∀ a x, ((![v831] : Fin 1 → IVec S16 32) a x).toNat < S6144.size a)
theorem k0_idx1390_inb : ∀ (v831 : IVec S16 32) (k0_hw1390 : k0_chk1390 v831), ∀ a x, ((![v831] : Fin 1 → IVec S16 32) a x).toNat < S6144.size a := fun v831 k0_hw1390 => k0_hw1390

def k0_chk1391 (v836 : IVec S16 32) : Prop :=
  (∀ a x, ((![v836] : Fin 1 → IVec S16 32) a x).toNat < S6144.size a)
theorem k0_idx1391_inb : ∀ (v836 : IVec S16 32) (k0_hw1391 : k0_chk1391 v836), ∀ a x, ((![v836] : Fin 1 → IVec S16 32) a x).toNat < S6144.size a := fun v836 k0_hw1391 => k0_hw1391

def k0_chk1392 (v841 : IVec S16 32) : Prop :=
  (∀ a x, ((![v841] : Fin 1 → IVec S16 32) a x).toNat < S6144.size a)
theorem k0_idx1392_inb : ∀ (v841 : IVec S16 32) (k0_hw1392 : k0_chk1392 v841), ∀ a x, ((![v841] : Fin 1 → IVec S16 32) a x).toNat < S6144.size a := fun v841 k0_hw1392 => k0_hw1392

def k0_chk1393 (v846 : IVec S16 32) : Prop :=
  (∀ a x, ((![v846] : Fin 1 → IVec S16 32) a x).toNat < S6144.size a)
theorem k0_idx1393_inb : ∀ (v846 : IVec S16 32) (k0_hw1393 : k0_chk1393 v846), ∀ a x, ((![v846] : Fin 1 → IVec S16 32) a x).toNat < S6144.size a := fun v846 k0_hw1393 => k0_hw1393

def k0_chk1394 (v851 : IVec S16 32) : Prop :=
  (∀ a x, ((![v851] : Fin 1 → IVec S16 32) a x).toNat < S6144.size a)
theorem k0_idx1394_inb : ∀ (v851 : IVec S16 32) (k0_hw1394 : k0_chk1394 v851), ∀ a x, ((![v851] : Fin 1 → IVec S16 32) a x).toNat < S6144.size a := fun v851 k0_hw1394 => k0_hw1394

def k0_chk1395 (v856 : IVec S16 32) : Prop :=
  (∀ a x, ((![v856] : Fin 1 → IVec S16 32) a x).toNat < S6144.size a)
theorem k0_idx1395_inb : ∀ (v856 : IVec S16 32) (k0_hw1395 : k0_chk1395 v856), ∀ a x, ((![v856] : Fin 1 → IVec S16 32) a x).toNat < S6144.size a := fun v856 k0_hw1395 => k0_hw1395

def k0_chk1396 (v861 : IVec S16 32) : Prop :=
  (∀ a x, ((![v861] : Fin 1 → IVec S16 32) a x).toNat < S6144.size a)
theorem k0_idx1396_inb : ∀ (v861 : IVec S16 32) (k0_hw1396 : k0_chk1396 v861), ∀ a x, ((![v861] : Fin 1 → IVec S16 32) a x).toNat < S6144.size a := fun v861 k0_hw1396 => k0_hw1396

def k0_chk1397 (v866 : IVec S16 32) : Prop :=
  (∀ a x, ((![v866] : Fin 1 → IVec S16 32) a x).toNat < S6144.size a)
theorem k0_idx1397_inb : ∀ (v866 : IVec S16 32) (k0_hw1397 : k0_chk1397 v866), ∀ a x, ((![v866] : Fin 1 → IVec S16 32) a x).toNat < S6144.size a := fun v866 k0_hw1397 => k0_hw1397

def k0_chk1398 (v871 : IVec S16 32) : Prop :=
  (∀ a x, ((![v871] : Fin 1 → IVec S16 32) a x).toNat < S6144.size a)
theorem k0_idx1398_inb : ∀ (v871 : IVec S16 32) (k0_hw1398 : k0_chk1398 v871), ∀ a x, ((![v871] : Fin 1 → IVec S16 32) a x).toNat < S6144.size a := fun v871 k0_hw1398 => k0_hw1398

def k0_chk1399 (v876 : IVec S16 32) : Prop :=
  (∀ a x, ((![v876] : Fin 1 → IVec S16 32) a x).toNat < S6144.size a)
theorem k0_idx1399_inb : ∀ (v876 : IVec S16 32) (k0_hw1399 : k0_chk1399 v876), ∀ a x, ((![v876] : Fin 1 → IVec S16 32) a x).toNat < S6144.size a := fun v876 k0_hw1399 => k0_hw1399

def k0_chk1400 (v881 : IVec S16 32) : Prop :=
  (∀ a x, ((![v881] : Fin 1 → IVec S16 32) a x).toNat < S6144.size a)
theorem k0_idx1400_inb : ∀ (v881 : IVec S16 32) (k0_hw1400 : k0_chk1400 v881), ∀ a x, ((![v881] : Fin 1 → IVec S16 32) a x).toNat < S6144.size a := fun v881 k0_hw1400 => k0_hw1400

def k0_chk1401 (v886 : IVec S16 32) : Prop :=
  (∀ a x, ((![v886] : Fin 1 → IVec S16 32) a x).toNat < S6144.size a)
theorem k0_idx1401_inb : ∀ (v886 : IVec S16 32) (k0_hw1401 : k0_chk1401 v886), ∀ a x, ((![v886] : Fin 1 → IVec S16 32) a x).toNat < S6144.size a := fun v886 k0_hw1401 => k0_hw1401

def k0_chk1402 (v891 : IVec S16 32) : Prop :=
  (∀ a x, ((![v891] : Fin 1 → IVec S16 32) a x).toNat < S6144.size a)
theorem k0_idx1402_inb : ∀ (v891 : IVec S16 32) (k0_hw1402 : k0_chk1402 v891), ∀ a x, ((![v891] : Fin 1 → IVec S16 32) a x).toNat < S6144.size a := fun v891 k0_hw1402 => k0_hw1402

def k0_chk1403 (v896 : IVec S16 32) : Prop :=
  (∀ a x, ((![v896] : Fin 1 → IVec S16 32) a x).toNat < S6144.size a)
theorem k0_idx1403_inb : ∀ (v896 : IVec S16 32) (k0_hw1403 : k0_chk1403 v896), ∀ a x, ((![v896] : Fin 1 → IVec S16 32) a x).toNat < S6144.size a := fun v896 k0_hw1403 => k0_hw1403

def k0_chk1404 (v901 : IVec S16 32) : Prop :=
  (∀ a x, ((![v901] : Fin 1 → IVec S16 32) a x).toNat < S6144.size a)
theorem k0_idx1404_inb : ∀ (v901 : IVec S16 32) (k0_hw1404 : k0_chk1404 v901), ∀ a x, ((![v901] : Fin 1 → IVec S16 32) a x).toNat < S6144.size a := fun v901 k0_hw1404 => k0_hw1404

def k0_chk1405 (v906 : IVec S16 32) : Prop :=
  (∀ a x, ((![v906] : Fin 1 → IVec S16 32) a x).toNat < S6144.size a)
theorem k0_idx1405_inb : ∀ (v906 : IVec S16 32) (k0_hw1405 : k0_chk1405 v906), ∀ a x, ((![v906] : Fin 1 → IVec S16 32) a x).toNat < S6144.size a := fun v906 k0_hw1405 => k0_hw1405

def k0_chk1406 (v911 : IVec S16 32) : Prop :=
  (∀ a x, ((![v911] : Fin 1 → IVec S16 32) a x).toNat < S6144.size a)
theorem k0_idx1406_inb : ∀ (v911 : IVec S16 32) (k0_hw1406 : k0_chk1406 v911), ∀ a x, ((![v911] : Fin 1 → IVec S16 32) a x).toNat < S6144.size a := fun v911 k0_hw1406 => k0_hw1406

def k0_chk1407 (v916 : IVec S16 32) : Prop :=
  (∀ a x, ((![v916] : Fin 1 → IVec S16 32) a x).toNat < S6144.size a)
theorem k0_idx1407_inb : ∀ (v916 : IVec S16 32) (k0_hw1407 : k0_chk1407 v916), ∀ a x, ((![v916] : Fin 1 → IVec S16 32) a x).toNat < S6144.size a := fun v916 k0_hw1407 => k0_hw1407

def k0_chk1408 (v921 : IVec S16 32) : Prop :=
  (∀ a x, ((![v921] : Fin 1 → IVec S16 32) a x).toNat < S6144.size a)
theorem k0_idx1408_inb : ∀ (v921 : IVec S16 32) (k0_hw1408 : k0_chk1408 v921), ∀ a x, ((![v921] : Fin 1 → IVec S16 32) a x).toNat < S6144.size a := fun v921 k0_hw1408 => k0_hw1408
@[reducible] def k0_t46_loop : Scf.Loop 32 :=
  let c0_i32_718 : BitVec 32 := 0#32
  let c64_i32_719 : BitVec 32 := 64#32
  let v508 : BitVec 32 := Scalar.addi c0_i32_718 c64_i32_719
  let c1_i32_720 : BitVec 32 := 1#32
  ⟨c0_i32_718, v508, c1_i32_720⟩
def k0_off70 (k0_t46 : Fin k0_t46_loop.trips) (c0_i32_762 : BitVec 32) : Fin 2 → Nat :=
  let c0_i32_718 : BitVec 32 := 0#32
  let c1_i32_720 : BitVec 32 := 1#32
  let arg12 : BitVec 32 := Scf.iv c0_i32_718 c1_i32_720 k0_t46
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1409 (v766 : IVec S16 32) : Prop :=
  (∀ a x, ((![v766] : Fin 1 → IVec S16 32) a x).toNat < S6144.size a)
theorem k0_idx1409_inb : ∀ (v766 : IVec S16 32) (k0_hw1409 : k0_chk1409 v766), ∀ a x, ((![v766] : Fin 1 → IVec S16 32) a x).toNat < S6144.size a := fun v766 k0_hw1409 => k0_hw1409

def k0_chk1410 (v771 : IVec S16 32) : Prop :=
  (∀ a x, ((![v771] : Fin 1 → IVec S16 32) a x).toNat < S6144.size a)
theorem k0_idx1410_inb : ∀ (v771 : IVec S16 32) (k0_hw1410 : k0_chk1410 v771), ∀ a x, ((![v771] : Fin 1 → IVec S16 32) a x).toNat < S6144.size a := fun v771 k0_hw1410 => k0_hw1410

def k0_chk1411 (v776 : IVec S16 32) : Prop :=
  (∀ a x, ((![v776] : Fin 1 → IVec S16 32) a x).toNat < S6144.size a)
theorem k0_idx1411_inb : ∀ (v776 : IVec S16 32) (k0_hw1411 : k0_chk1411 v776), ∀ a x, ((![v776] : Fin 1 → IVec S16 32) a x).toNat < S6144.size a := fun v776 k0_hw1411 => k0_hw1411

def k0_chk1412 (v781 : IVec S16 32) : Prop :=
  (∀ a x, ((![v781] : Fin 1 → IVec S16 32) a x).toNat < S6144.size a)
theorem k0_idx1412_inb : ∀ (v781 : IVec S16 32) (k0_hw1412 : k0_chk1412 v781), ∀ a x, ((![v781] : Fin 1 → IVec S16 32) a x).toNat < S6144.size a := fun v781 k0_hw1412 => k0_hw1412

def k0_chk1413 (v786 : IVec S16 32) : Prop :=
  (∀ a x, ((![v786] : Fin 1 → IVec S16 32) a x).toNat < S6144.size a)
theorem k0_idx1413_inb : ∀ (v786 : IVec S16 32) (k0_hw1413 : k0_chk1413 v786), ∀ a x, ((![v786] : Fin 1 → IVec S16 32) a x).toNat < S6144.size a := fun v786 k0_hw1413 => k0_hw1413

def k0_chk1414 (v791 : IVec S16 32) : Prop :=
  (∀ a x, ((![v791] : Fin 1 → IVec S16 32) a x).toNat < S6144.size a)
theorem k0_idx1414_inb : ∀ (v791 : IVec S16 32) (k0_hw1414 : k0_chk1414 v791), ∀ a x, ((![v791] : Fin 1 → IVec S16 32) a x).toNat < S6144.size a := fun v791 k0_hw1414 => k0_hw1414

def k0_chk1415 (v796 : IVec S16 32) : Prop :=
  (∀ a x, ((![v796] : Fin 1 → IVec S16 32) a x).toNat < S6144.size a)
theorem k0_idx1415_inb : ∀ (v796 : IVec S16 32) (k0_hw1415 : k0_chk1415 v796), ∀ a x, ((![v796] : Fin 1 → IVec S16 32) a x).toNat < S6144.size a := fun v796 k0_hw1415 => k0_hw1415

def k0_chk1416 (v801 : IVec S16 32) : Prop :=
  (∀ a x, ((![v801] : Fin 1 → IVec S16 32) a x).toNat < S6144.size a)
theorem k0_idx1416_inb : ∀ (v801 : IVec S16 32) (k0_hw1416 : k0_chk1416 v801), ∀ a x, ((![v801] : Fin 1 → IVec S16 32) a x).toNat < S6144.size a := fun v801 k0_hw1416 => k0_hw1416

def k0_chk1417 (v806 : IVec S16 32) : Prop :=
  (∀ a x, ((![v806] : Fin 1 → IVec S16 32) a x).toNat < S6144.size a)
theorem k0_idx1417_inb : ∀ (v806 : IVec S16 32) (k0_hw1417 : k0_chk1417 v806), ∀ a x, ((![v806] : Fin 1 → IVec S16 32) a x).toNat < S6144.size a := fun v806 k0_hw1417 => k0_hw1417

def k0_chk1418 (v811 : IVec S16 32) : Prop :=
  (∀ a x, ((![v811] : Fin 1 → IVec S16 32) a x).toNat < S6144.size a)
theorem k0_idx1418_inb : ∀ (v811 : IVec S16 32) (k0_hw1418 : k0_chk1418 v811), ∀ a x, ((![v811] : Fin 1 → IVec S16 32) a x).toNat < S6144.size a := fun v811 k0_hw1418 => k0_hw1418

def k0_chk1419 (v816 : IVec S16 32) : Prop :=
  (∀ a x, ((![v816] : Fin 1 → IVec S16 32) a x).toNat < S6144.size a)
theorem k0_idx1419_inb : ∀ (v816 : IVec S16 32) (k0_hw1419 : k0_chk1419 v816), ∀ a x, ((![v816] : Fin 1 → IVec S16 32) a x).toNat < S6144.size a := fun v816 k0_hw1419 => k0_hw1419

def k0_chk1420 (v821 : IVec S16 32) : Prop :=
  (∀ a x, ((![v821] : Fin 1 → IVec S16 32) a x).toNat < S6144.size a)
theorem k0_idx1420_inb : ∀ (v821 : IVec S16 32) (k0_hw1420 : k0_chk1420 v821), ∀ a x, ((![v821] : Fin 1 → IVec S16 32) a x).toNat < S6144.size a := fun v821 k0_hw1420 => k0_hw1420

def k0_chk1421 (v826 : IVec S16 32) : Prop :=
  (∀ a x, ((![v826] : Fin 1 → IVec S16 32) a x).toNat < S6144.size a)
theorem k0_idx1421_inb : ∀ (v826 : IVec S16 32) (k0_hw1421 : k0_chk1421 v826), ∀ a x, ((![v826] : Fin 1 → IVec S16 32) a x).toNat < S6144.size a := fun v826 k0_hw1421 => k0_hw1421

def k0_chk1422 (v831 : IVec S16 32) : Prop :=
  (∀ a x, ((![v831] : Fin 1 → IVec S16 32) a x).toNat < S6144.size a)
theorem k0_idx1422_inb : ∀ (v831 : IVec S16 32) (k0_hw1422 : k0_chk1422 v831), ∀ a x, ((![v831] : Fin 1 → IVec S16 32) a x).toNat < S6144.size a := fun v831 k0_hw1422 => k0_hw1422

def k0_chk1423 (v836 : IVec S16 32) : Prop :=
  (∀ a x, ((![v836] : Fin 1 → IVec S16 32) a x).toNat < S6144.size a)
theorem k0_idx1423_inb : ∀ (v836 : IVec S16 32) (k0_hw1423 : k0_chk1423 v836), ∀ a x, ((![v836] : Fin 1 → IVec S16 32) a x).toNat < S6144.size a := fun v836 k0_hw1423 => k0_hw1423

def k0_chk1424 (v841 : IVec S16 32) : Prop :=
  (∀ a x, ((![v841] : Fin 1 → IVec S16 32) a x).toNat < S6144.size a)
theorem k0_idx1424_inb : ∀ (v841 : IVec S16 32) (k0_hw1424 : k0_chk1424 v841), ∀ a x, ((![v841] : Fin 1 → IVec S16 32) a x).toNat < S6144.size a := fun v841 k0_hw1424 => k0_hw1424

def k0_chk1425 (v846 : IVec S16 32) : Prop :=
  (∀ a x, ((![v846] : Fin 1 → IVec S16 32) a x).toNat < S6144.size a)
theorem k0_idx1425_inb : ∀ (v846 : IVec S16 32) (k0_hw1425 : k0_chk1425 v846), ∀ a x, ((![v846] : Fin 1 → IVec S16 32) a x).toNat < S6144.size a := fun v846 k0_hw1425 => k0_hw1425

def k0_chk1426 (v851 : IVec S16 32) : Prop :=
  (∀ a x, ((![v851] : Fin 1 → IVec S16 32) a x).toNat < S6144.size a)
theorem k0_idx1426_inb : ∀ (v851 : IVec S16 32) (k0_hw1426 : k0_chk1426 v851), ∀ a x, ((![v851] : Fin 1 → IVec S16 32) a x).toNat < S6144.size a := fun v851 k0_hw1426 => k0_hw1426

def k0_chk1427 (v856 : IVec S16 32) : Prop :=
  (∀ a x, ((![v856] : Fin 1 → IVec S16 32) a x).toNat < S6144.size a)
theorem k0_idx1427_inb : ∀ (v856 : IVec S16 32) (k0_hw1427 : k0_chk1427 v856), ∀ a x, ((![v856] : Fin 1 → IVec S16 32) a x).toNat < S6144.size a := fun v856 k0_hw1427 => k0_hw1427

def k0_chk1428 (v861 : IVec S16 32) : Prop :=
  (∀ a x, ((![v861] : Fin 1 → IVec S16 32) a x).toNat < S6144.size a)
theorem k0_idx1428_inb : ∀ (v861 : IVec S16 32) (k0_hw1428 : k0_chk1428 v861), ∀ a x, ((![v861] : Fin 1 → IVec S16 32) a x).toNat < S6144.size a := fun v861 k0_hw1428 => k0_hw1428

def k0_chk1429 (v866 : IVec S16 32) : Prop :=
  (∀ a x, ((![v866] : Fin 1 → IVec S16 32) a x).toNat < S6144.size a)
theorem k0_idx1429_inb : ∀ (v866 : IVec S16 32) (k0_hw1429 : k0_chk1429 v866), ∀ a x, ((![v866] : Fin 1 → IVec S16 32) a x).toNat < S6144.size a := fun v866 k0_hw1429 => k0_hw1429

def k0_chk1430 (v871 : IVec S16 32) : Prop :=
  (∀ a x, ((![v871] : Fin 1 → IVec S16 32) a x).toNat < S6144.size a)
theorem k0_idx1430_inb : ∀ (v871 : IVec S16 32) (k0_hw1430 : k0_chk1430 v871), ∀ a x, ((![v871] : Fin 1 → IVec S16 32) a x).toNat < S6144.size a := fun v871 k0_hw1430 => k0_hw1430

def k0_chk1431 (v876 : IVec S16 32) : Prop :=
  (∀ a x, ((![v876] : Fin 1 → IVec S16 32) a x).toNat < S6144.size a)
theorem k0_idx1431_inb : ∀ (v876 : IVec S16 32) (k0_hw1431 : k0_chk1431 v876), ∀ a x, ((![v876] : Fin 1 → IVec S16 32) a x).toNat < S6144.size a := fun v876 k0_hw1431 => k0_hw1431

def k0_chk1432 (v881 : IVec S16 32) : Prop :=
  (∀ a x, ((![v881] : Fin 1 → IVec S16 32) a x).toNat < S6144.size a)
theorem k0_idx1432_inb : ∀ (v881 : IVec S16 32) (k0_hw1432 : k0_chk1432 v881), ∀ a x, ((![v881] : Fin 1 → IVec S16 32) a x).toNat < S6144.size a := fun v881 k0_hw1432 => k0_hw1432

def k0_chk1433 (v886 : IVec S16 32) : Prop :=
  (∀ a x, ((![v886] : Fin 1 → IVec S16 32) a x).toNat < S6144.size a)
theorem k0_idx1433_inb : ∀ (v886 : IVec S16 32) (k0_hw1433 : k0_chk1433 v886), ∀ a x, ((![v886] : Fin 1 → IVec S16 32) a x).toNat < S6144.size a := fun v886 k0_hw1433 => k0_hw1433

def k0_chk1434 (v891 : IVec S16 32) : Prop :=
  (∀ a x, ((![v891] : Fin 1 → IVec S16 32) a x).toNat < S6144.size a)
theorem k0_idx1434_inb : ∀ (v891 : IVec S16 32) (k0_hw1434 : k0_chk1434 v891), ∀ a x, ((![v891] : Fin 1 → IVec S16 32) a x).toNat < S6144.size a := fun v891 k0_hw1434 => k0_hw1434

def k0_chk1435 (v896 : IVec S16 32) : Prop :=
  (∀ a x, ((![v896] : Fin 1 → IVec S16 32) a x).toNat < S6144.size a)
theorem k0_idx1435_inb : ∀ (v896 : IVec S16 32) (k0_hw1435 : k0_chk1435 v896), ∀ a x, ((![v896] : Fin 1 → IVec S16 32) a x).toNat < S6144.size a := fun v896 k0_hw1435 => k0_hw1435

def k0_chk1436 (v901 : IVec S16 32) : Prop :=
  (∀ a x, ((![v901] : Fin 1 → IVec S16 32) a x).toNat < S6144.size a)
theorem k0_idx1436_inb : ∀ (v901 : IVec S16 32) (k0_hw1436 : k0_chk1436 v901), ∀ a x, ((![v901] : Fin 1 → IVec S16 32) a x).toNat < S6144.size a := fun v901 k0_hw1436 => k0_hw1436

def k0_chk1437 (v906 : IVec S16 32) : Prop :=
  (∀ a x, ((![v906] : Fin 1 → IVec S16 32) a x).toNat < S6144.size a)
theorem k0_idx1437_inb : ∀ (v906 : IVec S16 32) (k0_hw1437 : k0_chk1437 v906), ∀ a x, ((![v906] : Fin 1 → IVec S16 32) a x).toNat < S6144.size a := fun v906 k0_hw1437 => k0_hw1437

def k0_chk1438 (v911 : IVec S16 32) : Prop :=
  (∀ a x, ((![v911] : Fin 1 → IVec S16 32) a x).toNat < S6144.size a)
theorem k0_idx1438_inb : ∀ (v911 : IVec S16 32) (k0_hw1438 : k0_chk1438 v911), ∀ a x, ((![v911] : Fin 1 → IVec S16 32) a x).toNat < S6144.size a := fun v911 k0_hw1438 => k0_hw1438

def k0_chk1439 (v916 : IVec S16 32) : Prop :=
  (∀ a x, ((![v916] : Fin 1 → IVec S16 32) a x).toNat < S6144.size a)
theorem k0_idx1439_inb : ∀ (v916 : IVec S16 32) (k0_hw1439 : k0_chk1439 v916), ∀ a x, ((![v916] : Fin 1 → IVec S16 32) a x).toNat < S6144.size a := fun v916 k0_hw1439 => k0_hw1439

def k0_chk1440 (v921 : IVec S16 32) : Prop :=
  (∀ a x, ((![v921] : Fin 1 → IVec S16 32) a x).toNat < S6144.size a)
theorem k0_idx1440_inb : ∀ (v921 : IVec S16 32) (k0_hw1440 : k0_chk1440 v921), ∀ a x, ((![v921] : Fin 1 → IVec S16 32) a x).toNat < S6144.size a := fun v921 k0_hw1440 => k0_hw1440
@[reducible] def k0_t47_loop : Scf.Loop 32 :=
  let c0_i32_734 : BitVec 32 := 0#32
  let c64_i32_735 : BitVec 32 := 64#32
  let v519 : BitVec 32 := Scalar.addi c0_i32_734 c64_i32_735
  let c1_i32_736 : BitVec 32 := 1#32
  ⟨c0_i32_734, v519, c1_i32_736⟩
def k0_off71 (k0_t47 : Fin k0_t47_loop.trips) (c0_i32_762 : BitVec 32) : Fin 2 → Nat :=
  let c0_i32_734 : BitVec 32 := 0#32
  let c1_i32_736 : BitVec 32 := 1#32
  let arg12 : BitVec 32 := Scf.iv c0_i32_734 c1_i32_736 k0_t47
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1441 (v766 : IVec S16 32) : Prop :=
  (∀ a x, ((![v766] : Fin 1 → IVec S16 32) a x).toNat < S6144.size a)
theorem k0_idx1441_inb : ∀ (v766 : IVec S16 32) (k0_hw1441 : k0_chk1441 v766), ∀ a x, ((![v766] : Fin 1 → IVec S16 32) a x).toNat < S6144.size a := fun v766 k0_hw1441 => k0_hw1441

def k0_chk1442 (v771 : IVec S16 32) : Prop :=
  (∀ a x, ((![v771] : Fin 1 → IVec S16 32) a x).toNat < S6144.size a)
theorem k0_idx1442_inb : ∀ (v771 : IVec S16 32) (k0_hw1442 : k0_chk1442 v771), ∀ a x, ((![v771] : Fin 1 → IVec S16 32) a x).toNat < S6144.size a := fun v771 k0_hw1442 => k0_hw1442

def k0_chk1443 (v776 : IVec S16 32) : Prop :=
  (∀ a x, ((![v776] : Fin 1 → IVec S16 32) a x).toNat < S6144.size a)
theorem k0_idx1443_inb : ∀ (v776 : IVec S16 32) (k0_hw1443 : k0_chk1443 v776), ∀ a x, ((![v776] : Fin 1 → IVec S16 32) a x).toNat < S6144.size a := fun v776 k0_hw1443 => k0_hw1443

def k0_chk1444 (v781 : IVec S16 32) : Prop :=
  (∀ a x, ((![v781] : Fin 1 → IVec S16 32) a x).toNat < S6144.size a)
theorem k0_idx1444_inb : ∀ (v781 : IVec S16 32) (k0_hw1444 : k0_chk1444 v781), ∀ a x, ((![v781] : Fin 1 → IVec S16 32) a x).toNat < S6144.size a := fun v781 k0_hw1444 => k0_hw1444

def k0_chk1445 (v786 : IVec S16 32) : Prop :=
  (∀ a x, ((![v786] : Fin 1 → IVec S16 32) a x).toNat < S6144.size a)
theorem k0_idx1445_inb : ∀ (v786 : IVec S16 32) (k0_hw1445 : k0_chk1445 v786), ∀ a x, ((![v786] : Fin 1 → IVec S16 32) a x).toNat < S6144.size a := fun v786 k0_hw1445 => k0_hw1445

def k0_chk1446 (v791 : IVec S16 32) : Prop :=
  (∀ a x, ((![v791] : Fin 1 → IVec S16 32) a x).toNat < S6144.size a)
theorem k0_idx1446_inb : ∀ (v791 : IVec S16 32) (k0_hw1446 : k0_chk1446 v791), ∀ a x, ((![v791] : Fin 1 → IVec S16 32) a x).toNat < S6144.size a := fun v791 k0_hw1446 => k0_hw1446

def k0_chk1447 (v796 : IVec S16 32) : Prop :=
  (∀ a x, ((![v796] : Fin 1 → IVec S16 32) a x).toNat < S6144.size a)
theorem k0_idx1447_inb : ∀ (v796 : IVec S16 32) (k0_hw1447 : k0_chk1447 v796), ∀ a x, ((![v796] : Fin 1 → IVec S16 32) a x).toNat < S6144.size a := fun v796 k0_hw1447 => k0_hw1447

def k0_chk1448 (v801 : IVec S16 32) : Prop :=
  (∀ a x, ((![v801] : Fin 1 → IVec S16 32) a x).toNat < S6144.size a)
theorem k0_idx1448_inb : ∀ (v801 : IVec S16 32) (k0_hw1448 : k0_chk1448 v801), ∀ a x, ((![v801] : Fin 1 → IVec S16 32) a x).toNat < S6144.size a := fun v801 k0_hw1448 => k0_hw1448

def k0_chk1449 (v806 : IVec S16 32) : Prop :=
  (∀ a x, ((![v806] : Fin 1 → IVec S16 32) a x).toNat < S6144.size a)
theorem k0_idx1449_inb : ∀ (v806 : IVec S16 32) (k0_hw1449 : k0_chk1449 v806), ∀ a x, ((![v806] : Fin 1 → IVec S16 32) a x).toNat < S6144.size a := fun v806 k0_hw1449 => k0_hw1449

def k0_chk1450 (v811 : IVec S16 32) : Prop :=
  (∀ a x, ((![v811] : Fin 1 → IVec S16 32) a x).toNat < S6144.size a)
theorem k0_idx1450_inb : ∀ (v811 : IVec S16 32) (k0_hw1450 : k0_chk1450 v811), ∀ a x, ((![v811] : Fin 1 → IVec S16 32) a x).toNat < S6144.size a := fun v811 k0_hw1450 => k0_hw1450

def k0_chk1451 (v816 : IVec S16 32) : Prop :=
  (∀ a x, ((![v816] : Fin 1 → IVec S16 32) a x).toNat < S6144.size a)
theorem k0_idx1451_inb : ∀ (v816 : IVec S16 32) (k0_hw1451 : k0_chk1451 v816), ∀ a x, ((![v816] : Fin 1 → IVec S16 32) a x).toNat < S6144.size a := fun v816 k0_hw1451 => k0_hw1451

def k0_chk1452 (v821 : IVec S16 32) : Prop :=
  (∀ a x, ((![v821] : Fin 1 → IVec S16 32) a x).toNat < S6144.size a)
theorem k0_idx1452_inb : ∀ (v821 : IVec S16 32) (k0_hw1452 : k0_chk1452 v821), ∀ a x, ((![v821] : Fin 1 → IVec S16 32) a x).toNat < S6144.size a := fun v821 k0_hw1452 => k0_hw1452

def k0_chk1453 (v826 : IVec S16 32) : Prop :=
  (∀ a x, ((![v826] : Fin 1 → IVec S16 32) a x).toNat < S6144.size a)
theorem k0_idx1453_inb : ∀ (v826 : IVec S16 32) (k0_hw1453 : k0_chk1453 v826), ∀ a x, ((![v826] : Fin 1 → IVec S16 32) a x).toNat < S6144.size a := fun v826 k0_hw1453 => k0_hw1453

def k0_chk1454 (v831 : IVec S16 32) : Prop :=
  (∀ a x, ((![v831] : Fin 1 → IVec S16 32) a x).toNat < S6144.size a)
theorem k0_idx1454_inb : ∀ (v831 : IVec S16 32) (k0_hw1454 : k0_chk1454 v831), ∀ a x, ((![v831] : Fin 1 → IVec S16 32) a x).toNat < S6144.size a := fun v831 k0_hw1454 => k0_hw1454

def k0_chk1455 (v836 : IVec S16 32) : Prop :=
  (∀ a x, ((![v836] : Fin 1 → IVec S16 32) a x).toNat < S6144.size a)
theorem k0_idx1455_inb : ∀ (v836 : IVec S16 32) (k0_hw1455 : k0_chk1455 v836), ∀ a x, ((![v836] : Fin 1 → IVec S16 32) a x).toNat < S6144.size a := fun v836 k0_hw1455 => k0_hw1455

def k0_chk1456 (v841 : IVec S16 32) : Prop :=
  (∀ a x, ((![v841] : Fin 1 → IVec S16 32) a x).toNat < S6144.size a)
theorem k0_idx1456_inb : ∀ (v841 : IVec S16 32) (k0_hw1456 : k0_chk1456 v841), ∀ a x, ((![v841] : Fin 1 → IVec S16 32) a x).toNat < S6144.size a := fun v841 k0_hw1456 => k0_hw1456

def k0_chk1457 (v846 : IVec S16 32) : Prop :=
  (∀ a x, ((![v846] : Fin 1 → IVec S16 32) a x).toNat < S6144.size a)
theorem k0_idx1457_inb : ∀ (v846 : IVec S16 32) (k0_hw1457 : k0_chk1457 v846), ∀ a x, ((![v846] : Fin 1 → IVec S16 32) a x).toNat < S6144.size a := fun v846 k0_hw1457 => k0_hw1457

def k0_chk1458 (v851 : IVec S16 32) : Prop :=
  (∀ a x, ((![v851] : Fin 1 → IVec S16 32) a x).toNat < S6144.size a)
theorem k0_idx1458_inb : ∀ (v851 : IVec S16 32) (k0_hw1458 : k0_chk1458 v851), ∀ a x, ((![v851] : Fin 1 → IVec S16 32) a x).toNat < S6144.size a := fun v851 k0_hw1458 => k0_hw1458

def k0_chk1459 (v856 : IVec S16 32) : Prop :=
  (∀ a x, ((![v856] : Fin 1 → IVec S16 32) a x).toNat < S6144.size a)
theorem k0_idx1459_inb : ∀ (v856 : IVec S16 32) (k0_hw1459 : k0_chk1459 v856), ∀ a x, ((![v856] : Fin 1 → IVec S16 32) a x).toNat < S6144.size a := fun v856 k0_hw1459 => k0_hw1459

def k0_chk1460 (v861 : IVec S16 32) : Prop :=
  (∀ a x, ((![v861] : Fin 1 → IVec S16 32) a x).toNat < S6144.size a)
theorem k0_idx1460_inb : ∀ (v861 : IVec S16 32) (k0_hw1460 : k0_chk1460 v861), ∀ a x, ((![v861] : Fin 1 → IVec S16 32) a x).toNat < S6144.size a := fun v861 k0_hw1460 => k0_hw1460

def k0_chk1461 (v866 : IVec S16 32) : Prop :=
  (∀ a x, ((![v866] : Fin 1 → IVec S16 32) a x).toNat < S6144.size a)
theorem k0_idx1461_inb : ∀ (v866 : IVec S16 32) (k0_hw1461 : k0_chk1461 v866), ∀ a x, ((![v866] : Fin 1 → IVec S16 32) a x).toNat < S6144.size a := fun v866 k0_hw1461 => k0_hw1461

def k0_chk1462 (v871 : IVec S16 32) : Prop :=
  (∀ a x, ((![v871] : Fin 1 → IVec S16 32) a x).toNat < S6144.size a)
theorem k0_idx1462_inb : ∀ (v871 : IVec S16 32) (k0_hw1462 : k0_chk1462 v871), ∀ a x, ((![v871] : Fin 1 → IVec S16 32) a x).toNat < S6144.size a := fun v871 k0_hw1462 => k0_hw1462

def k0_chk1463 (v876 : IVec S16 32) : Prop :=
  (∀ a x, ((![v876] : Fin 1 → IVec S16 32) a x).toNat < S6144.size a)
theorem k0_idx1463_inb : ∀ (v876 : IVec S16 32) (k0_hw1463 : k0_chk1463 v876), ∀ a x, ((![v876] : Fin 1 → IVec S16 32) a x).toNat < S6144.size a := fun v876 k0_hw1463 => k0_hw1463

def k0_chk1464 (v881 : IVec S16 32) : Prop :=
  (∀ a x, ((![v881] : Fin 1 → IVec S16 32) a x).toNat < S6144.size a)
theorem k0_idx1464_inb : ∀ (v881 : IVec S16 32) (k0_hw1464 : k0_chk1464 v881), ∀ a x, ((![v881] : Fin 1 → IVec S16 32) a x).toNat < S6144.size a := fun v881 k0_hw1464 => k0_hw1464

def k0_chk1465 (v886 : IVec S16 32) : Prop :=
  (∀ a x, ((![v886] : Fin 1 → IVec S16 32) a x).toNat < S6144.size a)
theorem k0_idx1465_inb : ∀ (v886 : IVec S16 32) (k0_hw1465 : k0_chk1465 v886), ∀ a x, ((![v886] : Fin 1 → IVec S16 32) a x).toNat < S6144.size a := fun v886 k0_hw1465 => k0_hw1465

def k0_chk1466 (v891 : IVec S16 32) : Prop :=
  (∀ a x, ((![v891] : Fin 1 → IVec S16 32) a x).toNat < S6144.size a)
theorem k0_idx1466_inb : ∀ (v891 : IVec S16 32) (k0_hw1466 : k0_chk1466 v891), ∀ a x, ((![v891] : Fin 1 → IVec S16 32) a x).toNat < S6144.size a := fun v891 k0_hw1466 => k0_hw1466

def k0_chk1467 (v896 : IVec S16 32) : Prop :=
  (∀ a x, ((![v896] : Fin 1 → IVec S16 32) a x).toNat < S6144.size a)
theorem k0_idx1467_inb : ∀ (v896 : IVec S16 32) (k0_hw1467 : k0_chk1467 v896), ∀ a x, ((![v896] : Fin 1 → IVec S16 32) a x).toNat < S6144.size a := fun v896 k0_hw1467 => k0_hw1467

def k0_chk1468 (v901 : IVec S16 32) : Prop :=
  (∀ a x, ((![v901] : Fin 1 → IVec S16 32) a x).toNat < S6144.size a)
theorem k0_idx1468_inb : ∀ (v901 : IVec S16 32) (k0_hw1468 : k0_chk1468 v901), ∀ a x, ((![v901] : Fin 1 → IVec S16 32) a x).toNat < S6144.size a := fun v901 k0_hw1468 => k0_hw1468

def k0_chk1469 (v906 : IVec S16 32) : Prop :=
  (∀ a x, ((![v906] : Fin 1 → IVec S16 32) a x).toNat < S6144.size a)
theorem k0_idx1469_inb : ∀ (v906 : IVec S16 32) (k0_hw1469 : k0_chk1469 v906), ∀ a x, ((![v906] : Fin 1 → IVec S16 32) a x).toNat < S6144.size a := fun v906 k0_hw1469 => k0_hw1469

def k0_chk1470 (v911 : IVec S16 32) : Prop :=
  (∀ a x, ((![v911] : Fin 1 → IVec S16 32) a x).toNat < S6144.size a)
theorem k0_idx1470_inb : ∀ (v911 : IVec S16 32) (k0_hw1470 : k0_chk1470 v911), ∀ a x, ((![v911] : Fin 1 → IVec S16 32) a x).toNat < S6144.size a := fun v911 k0_hw1470 => k0_hw1470

def k0_chk1471 (v916 : IVec S16 32) : Prop :=
  (∀ a x, ((![v916] : Fin 1 → IVec S16 32) a x).toNat < S6144.size a)
theorem k0_idx1471_inb : ∀ (v916 : IVec S16 32) (k0_hw1471 : k0_chk1471 v916), ∀ a x, ((![v916] : Fin 1 → IVec S16 32) a x).toNat < S6144.size a := fun v916 k0_hw1471 => k0_hw1471

def k0_chk1472 (v921 : IVec S16 32) : Prop :=
  (∀ a x, ((![v921] : Fin 1 → IVec S16 32) a x).toNat < S6144.size a)
theorem k0_idx1472_inb : ∀ (v921 : IVec S16 32) (k0_hw1472 : k0_chk1472 v921), ∀ a x, ((![v921] : Fin 1 → IVec S16 32) a x).toNat < S6144.size a := fun v921 k0_hw1472 => k0_hw1472
@[reducible] def k0_t48_loop : Scf.Loop 32 :=
  let c0_i32_745 : BitVec 32 := 0#32
  let c64_i32_746 : BitVec 32 := 64#32
  let v526 : BitVec 32 := Scalar.addi c0_i32_745 c64_i32_746
  let c1_i32_747 : BitVec 32 := 1#32
  ⟨c0_i32_745, v526, c1_i32_747⟩
def k0_off72 (k0_t48 : Fin k0_t48_loop.trips) (c0_i32_762 : BitVec 32) : Fin 2 → Nat :=
  let c0_i32_745 : BitVec 32 := 0#32
  let c1_i32_747 : BitVec 32 := 1#32
  let arg12 : BitVec 32 := Scf.iv c0_i32_745 c1_i32_747 k0_t48
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1473 (v766 : IVec S16 32) : Prop :=
  (∀ a x, ((![v766] : Fin 1 → IVec S16 32) a x).toNat < S6144.size a)
theorem k0_idx1473_inb : ∀ (v766 : IVec S16 32) (k0_hw1473 : k0_chk1473 v766), ∀ a x, ((![v766] : Fin 1 → IVec S16 32) a x).toNat < S6144.size a := fun v766 k0_hw1473 => k0_hw1473

def k0_chk1474 (v771 : IVec S16 32) : Prop :=
  (∀ a x, ((![v771] : Fin 1 → IVec S16 32) a x).toNat < S6144.size a)
theorem k0_idx1474_inb : ∀ (v771 : IVec S16 32) (k0_hw1474 : k0_chk1474 v771), ∀ a x, ((![v771] : Fin 1 → IVec S16 32) a x).toNat < S6144.size a := fun v771 k0_hw1474 => k0_hw1474

def k0_chk1475 (v776 : IVec S16 32) : Prop :=
  (∀ a x, ((![v776] : Fin 1 → IVec S16 32) a x).toNat < S6144.size a)
theorem k0_idx1475_inb : ∀ (v776 : IVec S16 32) (k0_hw1475 : k0_chk1475 v776), ∀ a x, ((![v776] : Fin 1 → IVec S16 32) a x).toNat < S6144.size a := fun v776 k0_hw1475 => k0_hw1475

def k0_chk1476 (v781 : IVec S16 32) : Prop :=
  (∀ a x, ((![v781] : Fin 1 → IVec S16 32) a x).toNat < S6144.size a)
theorem k0_idx1476_inb : ∀ (v781 : IVec S16 32) (k0_hw1476 : k0_chk1476 v781), ∀ a x, ((![v781] : Fin 1 → IVec S16 32) a x).toNat < S6144.size a := fun v781 k0_hw1476 => k0_hw1476

def k0_chk1477 (v786 : IVec S16 32) : Prop :=
  (∀ a x, ((![v786] : Fin 1 → IVec S16 32) a x).toNat < S6144.size a)
theorem k0_idx1477_inb : ∀ (v786 : IVec S16 32) (k0_hw1477 : k0_chk1477 v786), ∀ a x, ((![v786] : Fin 1 → IVec S16 32) a x).toNat < S6144.size a := fun v786 k0_hw1477 => k0_hw1477

def k0_chk1478 (v791 : IVec S16 32) : Prop :=
  (∀ a x, ((![v791] : Fin 1 → IVec S16 32) a x).toNat < S6144.size a)
theorem k0_idx1478_inb : ∀ (v791 : IVec S16 32) (k0_hw1478 : k0_chk1478 v791), ∀ a x, ((![v791] : Fin 1 → IVec S16 32) a x).toNat < S6144.size a := fun v791 k0_hw1478 => k0_hw1478

def k0_chk1479 (v796 : IVec S16 32) : Prop :=
  (∀ a x, ((![v796] : Fin 1 → IVec S16 32) a x).toNat < S6144.size a)
theorem k0_idx1479_inb : ∀ (v796 : IVec S16 32) (k0_hw1479 : k0_chk1479 v796), ∀ a x, ((![v796] : Fin 1 → IVec S16 32) a x).toNat < S6144.size a := fun v796 k0_hw1479 => k0_hw1479

def k0_chk1480 (v801 : IVec S16 32) : Prop :=
  (∀ a x, ((![v801] : Fin 1 → IVec S16 32) a x).toNat < S6144.size a)
theorem k0_idx1480_inb : ∀ (v801 : IVec S16 32) (k0_hw1480 : k0_chk1480 v801), ∀ a x, ((![v801] : Fin 1 → IVec S16 32) a x).toNat < S6144.size a := fun v801 k0_hw1480 => k0_hw1480

def k0_chk1481 (v806 : IVec S16 32) : Prop :=
  (∀ a x, ((![v806] : Fin 1 → IVec S16 32) a x).toNat < S6144.size a)
theorem k0_idx1481_inb : ∀ (v806 : IVec S16 32) (k0_hw1481 : k0_chk1481 v806), ∀ a x, ((![v806] : Fin 1 → IVec S16 32) a x).toNat < S6144.size a := fun v806 k0_hw1481 => k0_hw1481

def k0_chk1482 (v811 : IVec S16 32) : Prop :=
  (∀ a x, ((![v811] : Fin 1 → IVec S16 32) a x).toNat < S6144.size a)
theorem k0_idx1482_inb : ∀ (v811 : IVec S16 32) (k0_hw1482 : k0_chk1482 v811), ∀ a x, ((![v811] : Fin 1 → IVec S16 32) a x).toNat < S6144.size a := fun v811 k0_hw1482 => k0_hw1482

def k0_chk1483 (v816 : IVec S16 32) : Prop :=
  (∀ a x, ((![v816] : Fin 1 → IVec S16 32) a x).toNat < S6144.size a)
theorem k0_idx1483_inb : ∀ (v816 : IVec S16 32) (k0_hw1483 : k0_chk1483 v816), ∀ a x, ((![v816] : Fin 1 → IVec S16 32) a x).toNat < S6144.size a := fun v816 k0_hw1483 => k0_hw1483

def k0_chk1484 (v821 : IVec S16 32) : Prop :=
  (∀ a x, ((![v821] : Fin 1 → IVec S16 32) a x).toNat < S6144.size a)
theorem k0_idx1484_inb : ∀ (v821 : IVec S16 32) (k0_hw1484 : k0_chk1484 v821), ∀ a x, ((![v821] : Fin 1 → IVec S16 32) a x).toNat < S6144.size a := fun v821 k0_hw1484 => k0_hw1484

def k0_chk1485 (v826 : IVec S16 32) : Prop :=
  (∀ a x, ((![v826] : Fin 1 → IVec S16 32) a x).toNat < S6144.size a)
theorem k0_idx1485_inb : ∀ (v826 : IVec S16 32) (k0_hw1485 : k0_chk1485 v826), ∀ a x, ((![v826] : Fin 1 → IVec S16 32) a x).toNat < S6144.size a := fun v826 k0_hw1485 => k0_hw1485

def k0_chk1486 (v831 : IVec S16 32) : Prop :=
  (∀ a x, ((![v831] : Fin 1 → IVec S16 32) a x).toNat < S6144.size a)
theorem k0_idx1486_inb : ∀ (v831 : IVec S16 32) (k0_hw1486 : k0_chk1486 v831), ∀ a x, ((![v831] : Fin 1 → IVec S16 32) a x).toNat < S6144.size a := fun v831 k0_hw1486 => k0_hw1486

def k0_chk1487 (v836 : IVec S16 32) : Prop :=
  (∀ a x, ((![v836] : Fin 1 → IVec S16 32) a x).toNat < S6144.size a)
theorem k0_idx1487_inb : ∀ (v836 : IVec S16 32) (k0_hw1487 : k0_chk1487 v836), ∀ a x, ((![v836] : Fin 1 → IVec S16 32) a x).toNat < S6144.size a := fun v836 k0_hw1487 => k0_hw1487

def k0_chk1488 (v841 : IVec S16 32) : Prop :=
  (∀ a x, ((![v841] : Fin 1 → IVec S16 32) a x).toNat < S6144.size a)
theorem k0_idx1488_inb : ∀ (v841 : IVec S16 32) (k0_hw1488 : k0_chk1488 v841), ∀ a x, ((![v841] : Fin 1 → IVec S16 32) a x).toNat < S6144.size a := fun v841 k0_hw1488 => k0_hw1488

def k0_chk1489 (v846 : IVec S16 32) : Prop :=
  (∀ a x, ((![v846] : Fin 1 → IVec S16 32) a x).toNat < S6144.size a)
theorem k0_idx1489_inb : ∀ (v846 : IVec S16 32) (k0_hw1489 : k0_chk1489 v846), ∀ a x, ((![v846] : Fin 1 → IVec S16 32) a x).toNat < S6144.size a := fun v846 k0_hw1489 => k0_hw1489

def k0_chk1490 (v851 : IVec S16 32) : Prop :=
  (∀ a x, ((![v851] : Fin 1 → IVec S16 32) a x).toNat < S6144.size a)
theorem k0_idx1490_inb : ∀ (v851 : IVec S16 32) (k0_hw1490 : k0_chk1490 v851), ∀ a x, ((![v851] : Fin 1 → IVec S16 32) a x).toNat < S6144.size a := fun v851 k0_hw1490 => k0_hw1490

def k0_chk1491 (v856 : IVec S16 32) : Prop :=
  (∀ a x, ((![v856] : Fin 1 → IVec S16 32) a x).toNat < S6144.size a)
theorem k0_idx1491_inb : ∀ (v856 : IVec S16 32) (k0_hw1491 : k0_chk1491 v856), ∀ a x, ((![v856] : Fin 1 → IVec S16 32) a x).toNat < S6144.size a := fun v856 k0_hw1491 => k0_hw1491

def k0_chk1492 (v861 : IVec S16 32) : Prop :=
  (∀ a x, ((![v861] : Fin 1 → IVec S16 32) a x).toNat < S6144.size a)
theorem k0_idx1492_inb : ∀ (v861 : IVec S16 32) (k0_hw1492 : k0_chk1492 v861), ∀ a x, ((![v861] : Fin 1 → IVec S16 32) a x).toNat < S6144.size a := fun v861 k0_hw1492 => k0_hw1492

def k0_chk1493 (v866 : IVec S16 32) : Prop :=
  (∀ a x, ((![v866] : Fin 1 → IVec S16 32) a x).toNat < S6144.size a)
theorem k0_idx1493_inb : ∀ (v866 : IVec S16 32) (k0_hw1493 : k0_chk1493 v866), ∀ a x, ((![v866] : Fin 1 → IVec S16 32) a x).toNat < S6144.size a := fun v866 k0_hw1493 => k0_hw1493

def k0_chk1494 (v871 : IVec S16 32) : Prop :=
  (∀ a x, ((![v871] : Fin 1 → IVec S16 32) a x).toNat < S6144.size a)
theorem k0_idx1494_inb : ∀ (v871 : IVec S16 32) (k0_hw1494 : k0_chk1494 v871), ∀ a x, ((![v871] : Fin 1 → IVec S16 32) a x).toNat < S6144.size a := fun v871 k0_hw1494 => k0_hw1494

def k0_chk1495 (v876 : IVec S16 32) : Prop :=
  (∀ a x, ((![v876] : Fin 1 → IVec S16 32) a x).toNat < S6144.size a)
theorem k0_idx1495_inb : ∀ (v876 : IVec S16 32) (k0_hw1495 : k0_chk1495 v876), ∀ a x, ((![v876] : Fin 1 → IVec S16 32) a x).toNat < S6144.size a := fun v876 k0_hw1495 => k0_hw1495

def k0_chk1496 (v881 : IVec S16 32) : Prop :=
  (∀ a x, ((![v881] : Fin 1 → IVec S16 32) a x).toNat < S6144.size a)
theorem k0_idx1496_inb : ∀ (v881 : IVec S16 32) (k0_hw1496 : k0_chk1496 v881), ∀ a x, ((![v881] : Fin 1 → IVec S16 32) a x).toNat < S6144.size a := fun v881 k0_hw1496 => k0_hw1496

def k0_chk1497 (v886 : IVec S16 32) : Prop :=
  (∀ a x, ((![v886] : Fin 1 → IVec S16 32) a x).toNat < S6144.size a)
theorem k0_idx1497_inb : ∀ (v886 : IVec S16 32) (k0_hw1497 : k0_chk1497 v886), ∀ a x, ((![v886] : Fin 1 → IVec S16 32) a x).toNat < S6144.size a := fun v886 k0_hw1497 => k0_hw1497

def k0_chk1498 (v891 : IVec S16 32) : Prop :=
  (∀ a x, ((![v891] : Fin 1 → IVec S16 32) a x).toNat < S6144.size a)
theorem k0_idx1498_inb : ∀ (v891 : IVec S16 32) (k0_hw1498 : k0_chk1498 v891), ∀ a x, ((![v891] : Fin 1 → IVec S16 32) a x).toNat < S6144.size a := fun v891 k0_hw1498 => k0_hw1498

def k0_chk1499 (v896 : IVec S16 32) : Prop :=
  (∀ a x, ((![v896] : Fin 1 → IVec S16 32) a x).toNat < S6144.size a)
theorem k0_idx1499_inb : ∀ (v896 : IVec S16 32) (k0_hw1499 : k0_chk1499 v896), ∀ a x, ((![v896] : Fin 1 → IVec S16 32) a x).toNat < S6144.size a := fun v896 k0_hw1499 => k0_hw1499

def k0_chk1500 (v901 : IVec S16 32) : Prop :=
  (∀ a x, ((![v901] : Fin 1 → IVec S16 32) a x).toNat < S6144.size a)
theorem k0_idx1500_inb : ∀ (v901 : IVec S16 32) (k0_hw1500 : k0_chk1500 v901), ∀ a x, ((![v901] : Fin 1 → IVec S16 32) a x).toNat < S6144.size a := fun v901 k0_hw1500 => k0_hw1500

def k0_chk1501 (v906 : IVec S16 32) : Prop :=
  (∀ a x, ((![v906] : Fin 1 → IVec S16 32) a x).toNat < S6144.size a)
theorem k0_idx1501_inb : ∀ (v906 : IVec S16 32) (k0_hw1501 : k0_chk1501 v906), ∀ a x, ((![v906] : Fin 1 → IVec S16 32) a x).toNat < S6144.size a := fun v906 k0_hw1501 => k0_hw1501

def k0_chk1502 (v911 : IVec S16 32) : Prop :=
  (∀ a x, ((![v911] : Fin 1 → IVec S16 32) a x).toNat < S6144.size a)
theorem k0_idx1502_inb : ∀ (v911 : IVec S16 32) (k0_hw1502 : k0_chk1502 v911), ∀ a x, ((![v911] : Fin 1 → IVec S16 32) a x).toNat < S6144.size a := fun v911 k0_hw1502 => k0_hw1502

def k0_chk1503 (v916 : IVec S16 32) : Prop :=
  (∀ a x, ((![v916] : Fin 1 → IVec S16 32) a x).toNat < S6144.size a)
theorem k0_idx1503_inb : ∀ (v916 : IVec S16 32) (k0_hw1503 : k0_chk1503 v916), ∀ a x, ((![v916] : Fin 1 → IVec S16 32) a x).toNat < S6144.size a := fun v916 k0_hw1503 => k0_hw1503

def k0_chk1504 (v921 : IVec S16 32) : Prop :=
  (∀ a x, ((![v921] : Fin 1 → IVec S16 32) a x).toNat < S6144.size a)
theorem k0_idx1504_inb : ∀ (v921 : IVec S16 32) (k0_hw1504 : k0_chk1504 v921), ∀ a x, ((![v921] : Fin 1 → IVec S16 32) a x).toNat < S6144.size a := fun v921 k0_hw1504 => k0_hw1504
@[reducible] def k0_t49_loop : Scf.Loop 32 :=
  let c0_i32_756 : BitVec 32 := 0#32
  let c64_i32_757 : BitVec 32 := 64#32
  let v533 : BitVec 32 := Scalar.addi c0_i32_756 c64_i32_757
  let c1_i32_758 : BitVec 32 := 1#32
  ⟨c0_i32_756, v533, c1_i32_758⟩
def k0_off73 (k0_t49 : Fin k0_t49_loop.trips) (c0_i32_762 : BitVec 32) : Fin 2 → Nat :=
  let c0_i32_756 : BitVec 32 := 0#32
  let c1_i32_758 : BitVec 32 := 1#32
  let arg12 : BitVec 32 := Scf.iv c0_i32_756 c1_i32_758 k0_t49
  let c0_i32_760 : BitVec 32 := 0#32
  let v535 : BitVec 32 := Scalar.shrui arg12 c0_i32_760
  let v539 : Index := Scalar.indexCast v535
  let c0_i32_761 : BitVec 32 := 0#32
  let v536 : BitVec 32 := Scalar.andi arg12 c0_i32_761
  let c512_i32 : BitVec 32 := 512#32
  let v537 : BitVec 32 := Scalar.muli v536 c512_i32
  let v538 : BitVec 32 := Scalar.addi v537 c0_i32_762
  let v540 : Index := Scalar.indexCast v538
  ![v539.toNat, v540.toNat]

def k0_chk1505 (v766 : IVec S16 32) : Prop :=
  (∀ a x, ((![v766] : Fin 1 → IVec S16 32) a x).toNat < S6144.size a)
theorem k0_idx1505_inb : ∀ (v766 : IVec S16 32) (k0_hw1505 : k0_chk1505 v766), ∀ a x, ((![v766] : Fin 1 → IVec S16 32) a x).toNat < S6144.size a := fun v766 k0_hw1505 => k0_hw1505

def k0_chk1506 (v771 : IVec S16 32) : Prop :=
  (∀ a x, ((![v771] : Fin 1 → IVec S16 32) a x).toNat < S6144.size a)
theorem k0_idx1506_inb : ∀ (v771 : IVec S16 32) (k0_hw1506 : k0_chk1506 v771), ∀ a x, ((![v771] : Fin 1 → IVec S16 32) a x).toNat < S6144.size a := fun v771 k0_hw1506 => k0_hw1506

def k0_chk1507 (v776 : IVec S16 32) : Prop :=
  (∀ a x, ((![v776] : Fin 1 → IVec S16 32) a x).toNat < S6144.size a)
theorem k0_idx1507_inb : ∀ (v776 : IVec S16 32) (k0_hw1507 : k0_chk1507 v776), ∀ a x, ((![v776] : Fin 1 → IVec S16 32) a x).toNat < S6144.size a := fun v776 k0_hw1507 => k0_hw1507

def k0_chk1508 (v781 : IVec S16 32) : Prop :=
  (∀ a x, ((![v781] : Fin 1 → IVec S16 32) a x).toNat < S6144.size a)
theorem k0_idx1508_inb : ∀ (v781 : IVec S16 32) (k0_hw1508 : k0_chk1508 v781), ∀ a x, ((![v781] : Fin 1 → IVec S16 32) a x).toNat < S6144.size a := fun v781 k0_hw1508 => k0_hw1508

def k0_chk1509 (v786 : IVec S16 32) : Prop :=
  (∀ a x, ((![v786] : Fin 1 → IVec S16 32) a x).toNat < S6144.size a)
theorem k0_idx1509_inb : ∀ (v786 : IVec S16 32) (k0_hw1509 : k0_chk1509 v786), ∀ a x, ((![v786] : Fin 1 → IVec S16 32) a x).toNat < S6144.size a := fun v786 k0_hw1509 => k0_hw1509

def k0_chk1510 (v791 : IVec S16 32) : Prop :=
  (∀ a x, ((![v791] : Fin 1 → IVec S16 32) a x).toNat < S6144.size a)
theorem k0_idx1510_inb : ∀ (v791 : IVec S16 32) (k0_hw1510 : k0_chk1510 v791), ∀ a x, ((![v791] : Fin 1 → IVec S16 32) a x).toNat < S6144.size a := fun v791 k0_hw1510 => k0_hw1510

def k0_chk1511 (v796 : IVec S16 32) : Prop :=
  (∀ a x, ((![v796] : Fin 1 → IVec S16 32) a x).toNat < S6144.size a)
theorem k0_idx1511_inb : ∀ (v796 : IVec S16 32) (k0_hw1511 : k0_chk1511 v796), ∀ a x, ((![v796] : Fin 1 → IVec S16 32) a x).toNat < S6144.size a := fun v796 k0_hw1511 => k0_hw1511

def k0_chk1512 (v801 : IVec S16 32) : Prop :=
  (∀ a x, ((![v801] : Fin 1 → IVec S16 32) a x).toNat < S6144.size a)
theorem k0_idx1512_inb : ∀ (v801 : IVec S16 32) (k0_hw1512 : k0_chk1512 v801), ∀ a x, ((![v801] : Fin 1 → IVec S16 32) a x).toNat < S6144.size a := fun v801 k0_hw1512 => k0_hw1512

def k0_chk1513 (v806 : IVec S16 32) : Prop :=
  (∀ a x, ((![v806] : Fin 1 → IVec S16 32) a x).toNat < S6144.size a)
theorem k0_idx1513_inb : ∀ (v806 : IVec S16 32) (k0_hw1513 : k0_chk1513 v806), ∀ a x, ((![v806] : Fin 1 → IVec S16 32) a x).toNat < S6144.size a := fun v806 k0_hw1513 => k0_hw1513

def k0_chk1514 (v811 : IVec S16 32) : Prop :=
  (∀ a x, ((![v811] : Fin 1 → IVec S16 32) a x).toNat < S6144.size a)
theorem k0_idx1514_inb : ∀ (v811 : IVec S16 32) (k0_hw1514 : k0_chk1514 v811), ∀ a x, ((![v811] : Fin 1 → IVec S16 32) a x).toNat < S6144.size a := fun v811 k0_hw1514 => k0_hw1514

def k0_chk1515 (v816 : IVec S16 32) : Prop :=
  (∀ a x, ((![v816] : Fin 1 → IVec S16 32) a x).toNat < S6144.size a)
theorem k0_idx1515_inb : ∀ (v816 : IVec S16 32) (k0_hw1515 : k0_chk1515 v816), ∀ a x, ((![v816] : Fin 1 → IVec S16 32) a x).toNat < S6144.size a := fun v816 k0_hw1515 => k0_hw1515

def k0_chk1516 (v821 : IVec S16 32) : Prop :=
  (∀ a x, ((![v821] : Fin 1 → IVec S16 32) a x).toNat < S6144.size a)
theorem k0_idx1516_inb : ∀ (v821 : IVec S16 32) (k0_hw1516 : k0_chk1516 v821), ∀ a x, ((![v821] : Fin 1 → IVec S16 32) a x).toNat < S6144.size a := fun v821 k0_hw1516 => k0_hw1516

def k0_chk1517 (v826 : IVec S16 32) : Prop :=
  (∀ a x, ((![v826] : Fin 1 → IVec S16 32) a x).toNat < S6144.size a)
theorem k0_idx1517_inb : ∀ (v826 : IVec S16 32) (k0_hw1517 : k0_chk1517 v826), ∀ a x, ((![v826] : Fin 1 → IVec S16 32) a x).toNat < S6144.size a := fun v826 k0_hw1517 => k0_hw1517

def k0_chk1518 (v831 : IVec S16 32) : Prop :=
  (∀ a x, ((![v831] : Fin 1 → IVec S16 32) a x).toNat < S6144.size a)
theorem k0_idx1518_inb : ∀ (v831 : IVec S16 32) (k0_hw1518 : k0_chk1518 v831), ∀ a x, ((![v831] : Fin 1 → IVec S16 32) a x).toNat < S6144.size a := fun v831 k0_hw1518 => k0_hw1518

def k0_chk1519 (v836 : IVec S16 32) : Prop :=
  (∀ a x, ((![v836] : Fin 1 → IVec S16 32) a x).toNat < S6144.size a)
theorem k0_idx1519_inb : ∀ (v836 : IVec S16 32) (k0_hw1519 : k0_chk1519 v836), ∀ a x, ((![v836] : Fin 1 → IVec S16 32) a x).toNat < S6144.size a := fun v836 k0_hw1519 => k0_hw1519

def k0_chk1520 (v841 : IVec S16 32) : Prop :=
  (∀ a x, ((![v841] : Fin 1 → IVec S16 32) a x).toNat < S6144.size a)
theorem k0_idx1520_inb : ∀ (v841 : IVec S16 32) (k0_hw1520 : k0_chk1520 v841), ∀ a x, ((![v841] : Fin 1 → IVec S16 32) a x).toNat < S6144.size a := fun v841 k0_hw1520 => k0_hw1520

def k0_chk1521 (v846 : IVec S16 32) : Prop :=
  (∀ a x, ((![v846] : Fin 1 → IVec S16 32) a x).toNat < S6144.size a)
theorem k0_idx1521_inb : ∀ (v846 : IVec S16 32) (k0_hw1521 : k0_chk1521 v846), ∀ a x, ((![v846] : Fin 1 → IVec S16 32) a x).toNat < S6144.size a := fun v846 k0_hw1521 => k0_hw1521

def k0_chk1522 (v851 : IVec S16 32) : Prop :=
  (∀ a x, ((![v851] : Fin 1 → IVec S16 32) a x).toNat < S6144.size a)
theorem k0_idx1522_inb : ∀ (v851 : IVec S16 32) (k0_hw1522 : k0_chk1522 v851), ∀ a x, ((![v851] : Fin 1 → IVec S16 32) a x).toNat < S6144.size a := fun v851 k0_hw1522 => k0_hw1522

def k0_chk1523 (v856 : IVec S16 32) : Prop :=
  (∀ a x, ((![v856] : Fin 1 → IVec S16 32) a x).toNat < S6144.size a)
theorem k0_idx1523_inb : ∀ (v856 : IVec S16 32) (k0_hw1523 : k0_chk1523 v856), ∀ a x, ((![v856] : Fin 1 → IVec S16 32) a x).toNat < S6144.size a := fun v856 k0_hw1523 => k0_hw1523

def k0_chk1524 (v861 : IVec S16 32) : Prop :=
  (∀ a x, ((![v861] : Fin 1 → IVec S16 32) a x).toNat < S6144.size a)
theorem k0_idx1524_inb : ∀ (v861 : IVec S16 32) (k0_hw1524 : k0_chk1524 v861), ∀ a x, ((![v861] : Fin 1 → IVec S16 32) a x).toNat < S6144.size a := fun v861 k0_hw1524 => k0_hw1524

def k0_chk1525 (v866 : IVec S16 32) : Prop :=
  (∀ a x, ((![v866] : Fin 1 → IVec S16 32) a x).toNat < S6144.size a)
theorem k0_idx1525_inb : ∀ (v866 : IVec S16 32) (k0_hw1525 : k0_chk1525 v866), ∀ a x, ((![v866] : Fin 1 → IVec S16 32) a x).toNat < S6144.size a := fun v866 k0_hw1525 => k0_hw1525

def k0_chk1526 (v871 : IVec S16 32) : Prop :=
  (∀ a x, ((![v871] : Fin 1 → IVec S16 32) a x).toNat < S6144.size a)
theorem k0_idx1526_inb : ∀ (v871 : IVec S16 32) (k0_hw1526 : k0_chk1526 v871), ∀ a x, ((![v871] : Fin 1 → IVec S16 32) a x).toNat < S6144.size a := fun v871 k0_hw1526 => k0_hw1526

def k0_chk1527 (v876 : IVec S16 32) : Prop :=
  (∀ a x, ((![v876] : Fin 1 → IVec S16 32) a x).toNat < S6144.size a)
theorem k0_idx1527_inb : ∀ (v876 : IVec S16 32) (k0_hw1527 : k0_chk1527 v876), ∀ a x, ((![v876] : Fin 1 → IVec S16 32) a x).toNat < S6144.size a := fun v876 k0_hw1527 => k0_hw1527

def k0_chk1528 (v881 : IVec S16 32) : Prop :=
  (∀ a x, ((![v881] : Fin 1 → IVec S16 32) a x).toNat < S6144.size a)
theorem k0_idx1528_inb : ∀ (v881 : IVec S16 32) (k0_hw1528 : k0_chk1528 v881), ∀ a x, ((![v881] : Fin 1 → IVec S16 32) a x).toNat < S6144.size a := fun v881 k0_hw1528 => k0_hw1528

def k0_chk1529 (v886 : IVec S16 32) : Prop :=
  (∀ a x, ((![v886] : Fin 1 → IVec S16 32) a x).toNat < S6144.size a)
theorem k0_idx1529_inb : ∀ (v886 : IVec S16 32) (k0_hw1529 : k0_chk1529 v886), ∀ a x, ((![v886] : Fin 1 → IVec S16 32) a x).toNat < S6144.size a := fun v886 k0_hw1529 => k0_hw1529

def k0_chk1530 (v891 : IVec S16 32) : Prop :=
  (∀ a x, ((![v891] : Fin 1 → IVec S16 32) a x).toNat < S6144.size a)
theorem k0_idx1530_inb : ∀ (v891 : IVec S16 32) (k0_hw1530 : k0_chk1530 v891), ∀ a x, ((![v891] : Fin 1 → IVec S16 32) a x).toNat < S6144.size a := fun v891 k0_hw1530 => k0_hw1530

def k0_chk1531 (v896 : IVec S16 32) : Prop :=
  (∀ a x, ((![v896] : Fin 1 → IVec S16 32) a x).toNat < S6144.size a)
theorem k0_idx1531_inb : ∀ (v896 : IVec S16 32) (k0_hw1531 : k0_chk1531 v896), ∀ a x, ((![v896] : Fin 1 → IVec S16 32) a x).toNat < S6144.size a := fun v896 k0_hw1531 => k0_hw1531

def k0_chk1532 (v901 : IVec S16 32) : Prop :=
  (∀ a x, ((![v901] : Fin 1 → IVec S16 32) a x).toNat < S6144.size a)
theorem k0_idx1532_inb : ∀ (v901 : IVec S16 32) (k0_hw1532 : k0_chk1532 v901), ∀ a x, ((![v901] : Fin 1 → IVec S16 32) a x).toNat < S6144.size a := fun v901 k0_hw1532 => k0_hw1532

def k0_chk1533 (v906 : IVec S16 32) : Prop :=
  (∀ a x, ((![v906] : Fin 1 → IVec S16 32) a x).toNat < S6144.size a)
theorem k0_idx1533_inb : ∀ (v906 : IVec S16 32) (k0_hw1533 : k0_chk1533 v906), ∀ a x, ((![v906] : Fin 1 → IVec S16 32) a x).toNat < S6144.size a := fun v906 k0_hw1533 => k0_hw1533

def k0_chk1534 (v911 : IVec S16 32) : Prop :=
  (∀ a x, ((![v911] : Fin 1 → IVec S16 32) a x).toNat < S6144.size a)
theorem k0_idx1534_inb : ∀ (v911 : IVec S16 32) (k0_hw1534 : k0_chk1534 v911), ∀ a x, ((![v911] : Fin 1 → IVec S16 32) a x).toNat < S6144.size a := fun v911 k0_hw1534 => k0_hw1534

def k0_chk1535 (v916 : IVec S16 32) : Prop :=
  (∀ a x, ((![v916] : Fin 1 → IVec S16 32) a x).toNat < S6144.size a)
theorem k0_idx1535_inb : ∀ (v916 : IVec S16 32) (k0_hw1535 : k0_chk1535 v916), ∀ a x, ((![v916] : Fin 1 → IVec S16 32) a x).toNat < S6144.size a := fun v916 k0_hw1535 => k0_hw1535

def k0_chk1536 (v921 : IVec S16 32) : Prop :=
  (∀ a x, ((![v921] : Fin 1 → IVec S16 32) a x).toNat < S6144.size a)
theorem k0_idx1536_inb : ∀ (v921 : IVec S16 32) (k0_hw1536 : k0_chk1536 v921), ∀ a x, ((![v921] : Fin 1 → IVec S16 32) a x).toNat < S6144.size a := fun v921 k0_hw1536 => k0_hw1536
def k0_off74 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v534 : BitVec 32 := Scalar.muli v1 c6144_i32
  ![v534.toNat]
abbrev grid1 : Pipeline.Grid := .none

abbrev stage1_0 : Fin 1 → Memref sig .tc .vmem S32x384x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x3x512x512 : Shape := ⟨4, ![32, 3, 512, 512]⟩
abbrev S32x1x512x512 : Shape := ⟨4, ![32, 1, 512, 512]⟩
abbrev S32x512x512 : Shape := ⟨3, ![32, 512, 512]⟩
abbrev S8388608 : Shape := ⟨1, ![8388608]⟩
abbrev S_ : Shape := ⟨0, ![]⟩
abbrev S64 : Shape := ⟨1, ![64]⟩
abbrev S8388608x1 : Shape := ⟨2, ![8388608, 1]⟩

abbrev nBuf : Space → Nat
  | .hbm => 272
  | .vmem => 0
  | .smem => 0
  | _ => 0

abbrev hbmTy0_0 (i : Nat) : BufTy := match i % 128 with
  | 0 => ⟨S32x3x512x512, .f32⟩
  | 1 => ⟨S32x3x512x512, .f32⟩
  | 2 => ⟨S32x1x512x512, .f32⟩
  | 3 => ⟨S32x512x512, .f32⟩
  | 4 => ⟨S8388608, .f32⟩
  | 5 => ⟨S_, .f32⟩
  | 6 => ⟨S8388608, .f32⟩
  | 7 => ⟨S8388608, .i1⟩
  | 8 => ⟨S_, .f32⟩
  | 9 => ⟨S8388608, .f32⟩
  | 10 => ⟨S8388608, .i1⟩
  | 11 => ⟨S8388608, .i1⟩
  | 12 => ⟨S_, .f32⟩
  | 13 => ⟨S8388608, .f32⟩
  | 14 => ⟨S8388608, .f32⟩
  | 15 => ⟨S8388608, .f32⟩
  | 16 => ⟨S8388608, .i32⟩
  | 17 => ⟨S_, .i32⟩
  | 18 => ⟨S_, .i32⟩
  | 19 => ⟨S_, .i32⟩
  | 20 => ⟨S8388608, .i32⟩
  | 21 => ⟨S8388608, .i32⟩
  | 22 => ⟨S_, .i32⟩
  | 23 => ⟨S8388608, .i32⟩
  | 24 => ⟨S8388608, .i32⟩
  | 25 => ⟨S_, .f32⟩
  | 26 => ⟨S64, .f32⟩
  | 27 => ⟨S8388608, .f32⟩
  | 28 => ⟨S_, .i32⟩
  | 29 => ⟨S8388608, .i32⟩
  | 30 => ⟨S8388608, .i1⟩
  | 31 => ⟨S_, .i32⟩
  | 32 => ⟨S8388608, .i32⟩
  | 33 => ⟨S8388608, .i32⟩
  | 34 => ⟨S8388608, .i32⟩
  | 35 => ⟨S8388608x1, .i32⟩
  | 36 => ⟨S64, .f32⟩
  | 37 => ⟨S32x1x512x512, .f32⟩
  | 38 => ⟨S32x512x512, .f32⟩
  | 39 => ⟨S8388608, .f32⟩
  | 40 => ⟨S_, .f32⟩
  | 41 => ⟨S8388608, .f32⟩
  | 42 => ⟨S8388608, .i1⟩
  | 43 => ⟨S_, .f32⟩
  | 44 => ⟨S8388608, .f32⟩
  | 45 => ⟨S8388608, .i1⟩
  | 46 => ⟨S8388608, .i1⟩
  | 47 => ⟨S_, .f32⟩
  | 48 => ⟨S8388608, .f32⟩
  | 49 => ⟨S8388608, .f32⟩
  | 50 => ⟨S8388608, .f32⟩
  | 51 => ⟨S8388608, .i32⟩
  | 52 => ⟨S_, .i32⟩
  | 53 => ⟨S_, .i32⟩
  | 54 => ⟨S_, .i32⟩
  | 55 => ⟨S8388608, .i32⟩
  | 56 => ⟨S8388608, .i32⟩
  | 57 => ⟨S_, .i32⟩
  | 58 => ⟨S8388608, .i32⟩
  | 59 => ⟨S8388608, .i32⟩
  | 60 => ⟨S_, .f32⟩
  | 61 => ⟨S64, .f32⟩
  | 62 => ⟨S8388608, .f32⟩
  | 63 => ⟨S_, .i32⟩
  | 64 => ⟨S8388608, .i32⟩
  | 65 => ⟨S8388608, .i1⟩
  | 66 => ⟨S_, .i32⟩
  | 67 => ⟨S8388608, .i32⟩
  | 68 => ⟨S8388608, .i32⟩
  | 69 => ⟨S8388608, .i32⟩
  | 70 => ⟨S8388608x1, .i32⟩
  | 71 => ⟨S64, .f32⟩
  | 72 => ⟨S_, .f32⟩
  | 73 => ⟨S_, .f32⟩
  | 74 => ⟨S_, .f32⟩
  | 75 => ⟨S_, .f32⟩
  | 76 => ⟨S64, .f32⟩
  | 77 => ⟨S64, .f32⟩
  | 78 => ⟨S_, .f32⟩
  | 79 => ⟨S_, .f32⟩
  | 80 => ⟨S_, .f32⟩
  | 81 => ⟨S_, .f32⟩
  | 82 => ⟨S64, .f32⟩
  | 83 => ⟨S64, .f32⟩
  | 84 => ⟨S64, .f32⟩
  | 85 => ⟨S64, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S32x1x512x512, .f32⟩
  | 93 => ⟨S32x512x512, .f32⟩
  | 94 => ⟨S8388608, .f32⟩
  | 95 => ⟨S_, .f32⟩
  | 96 => ⟨S8388608, .f32⟩
  | 97 => ⟨S8388608, .i1⟩
  | 98 => ⟨S_, .f32⟩
  | 99 => ⟨S8388608, .f32⟩
  | 100 => ⟨S8388608, .i1⟩
  | 101 => ⟨S8388608, .i1⟩
  | 102 => ⟨S_, .f32⟩
  | 103 => ⟨S8388608, .f32⟩
  | 104 => ⟨S8388608, .f32⟩
  | 105 => ⟨S8388608, .f32⟩
  | 106 => ⟨S8388608, .i32⟩
  | 107 => ⟨S_, .i32⟩
  | 108 => ⟨S_, .i32⟩
  | 109 => ⟨S_, .i32⟩
  | 110 => ⟨S8388608, .i32⟩
  | 111 => ⟨S8388608, .i32⟩
  | 112 => ⟨S_, .i32⟩
  | 113 => ⟨S8388608, .i32⟩
  | 114 => ⟨S8388608, .i32⟩
  | 115 => ⟨S_, .f32⟩
  | 116 => ⟨S64, .f32⟩
  | 117 => ⟨S8388608, .f32⟩
  | 118 => ⟨S_, .i32⟩
  | 119 => ⟨S8388608, .i32⟩
  | 120 => ⟨S8388608, .i1⟩
  | 121 => ⟨S_, .i32⟩
  | 122 => ⟨S8388608, .i32⟩
  | 123 => ⟨S8388608, .i32⟩
  | 124 => ⟨S8388608, .i32⟩
  | 125 => ⟨S8388608x1, .i32⟩
  | 126 => ⟨S64, .f32⟩
  | 127 => ⟨S32x1x512x512, .f32⟩
  | _ => ⟨S32x3x512x512, .f32⟩

abbrev hbmTy0_1 (i : Nat) : BufTy := match i % 128 with
  | 0 => ⟨S32x512x512, .f32⟩
  | 1 => ⟨S8388608, .f32⟩
  | 2 => ⟨S_, .f32⟩
  | 3 => ⟨S8388608, .f32⟩
  | 4 => ⟨S8388608, .i1⟩
  | 5 => ⟨S_, .f32⟩
  | 6 => ⟨S8388608, .f32⟩
  | 7 => ⟨S8388608, .i1⟩
  | 8 => ⟨S8388608, .i1⟩
  | 9 => ⟨S_, .f32⟩
  | 10 => ⟨S8388608, .f32⟩
  | 11 => ⟨S8388608, .f32⟩
  | 12 => ⟨S8388608, .f32⟩
  | 13 => ⟨S8388608, .i32⟩
  | 14 => ⟨S_, .i32⟩
  | 15 => ⟨S_, .i32⟩
  | 16 => ⟨S_, .i32⟩
  | 17 => ⟨S8388608, .i32⟩
  | 18 => ⟨S8388608, .i32⟩
  | 19 => ⟨S_, .i32⟩
  | 20 => ⟨S8388608, .i32⟩
  | 21 => ⟨S8388608, .i32⟩
  | 22 => ⟨S_, .f32⟩
  | 23 => ⟨S64, .f32⟩
  | 24 => ⟨S8388608, .f32⟩
  | 25 => ⟨S_, .i32⟩
  | 26 => ⟨S8388608, .i32⟩
  | 27 => ⟨S8388608, .i1⟩
  | 28 => ⟨S_, .i32⟩
  | 29 => ⟨S8388608, .i32⟩
  | 30 => ⟨S8388608, .i32⟩
  | 31 => ⟨S8388608, .i32⟩
  | 32 => ⟨S8388608x1, .i32⟩
  | 33 => ⟨S64, .f32⟩
  | 34 => ⟨S_, .f32⟩
  | 35 => ⟨S_, .f32⟩
  | 36 => ⟨S_, .f32⟩
  | 37 => ⟨S_, .f32⟩
  | 38 => ⟨S64, .f32⟩
  | 39 => ⟨S64, .f32⟩
  | 40 => ⟨S_, .f32⟩
  | 41 => ⟨S_, .f32⟩
  | 42 => ⟨S_, .f32⟩
  | 43 => ⟨S_, .f32⟩
  | 44 => ⟨S64, .f32⟩
  | 45 => ⟨S64, .f32⟩
  | 46 => ⟨S64, .f32⟩
  | 47 => ⟨S64, .f32⟩
  | 48 => ⟨S_, .f32⟩
  | 49 => ⟨S_, .f32⟩
  | 50 => ⟨S_, .f32⟩
  | 51 => ⟨S_, .f32⟩
  | 52 => ⟨S_, .f32⟩
  | 53 => ⟨S32x1x512x512, .f32⟩
  | 54 => ⟨S32x512x512, .f32⟩
  | 55 => ⟨S8388608, .f32⟩
  | 56 => ⟨S_, .f32⟩
  | 57 => ⟨S8388608, .f32⟩
  | 58 => ⟨S8388608, .i1⟩
  | 59 => ⟨S_, .f32⟩
  | 60 => ⟨S8388608, .f32⟩
  | 61 => ⟨S8388608, .i1⟩
  | 62 => ⟨S8388608, .i1⟩
  | 63 => ⟨S_, .f32⟩
  | 64 => ⟨S8388608, .f32⟩
  | 65 => ⟨S8388608, .f32⟩
  | 66 => ⟨S8388608, .f32⟩
  | 67 => ⟨S8388608, .i32⟩
  | 68 => ⟨S_, .i32⟩
  | 69 => ⟨S_, .i32⟩
  | 70 => ⟨S_, .i32⟩
  | 71 => ⟨S8388608, .i32⟩
  | 72 => ⟨S8388608, .i32⟩
  | 73 => ⟨S_, .i32⟩
  | 74 => ⟨S8388608, .i32⟩
  | 75 => ⟨S8388608, .i32⟩
  | 76 => ⟨S_, .f32⟩
  | 77 => ⟨S64, .f32⟩
  | 78 => ⟨S8388608, .f32⟩
  | 79 => ⟨S_, .i32⟩
  | 80 => ⟨S8388608, .i32⟩
  | 81 => ⟨S8388608, .i1⟩
  | 82 => ⟨S_, .i32⟩
  | 83 => ⟨S8388608, .i32⟩
  | 84 => ⟨S8388608, .i32⟩
  | 85 => ⟨S8388608, .i32⟩
  | 86 => ⟨S8388608x1, .i32⟩
  | 87 => ⟨S64, .f32⟩
  | 88 => ⟨S32x1x512x512, .f32⟩
  | 89 => ⟨S32x512x512, .f32⟩
  | 90 => ⟨S8388608, .f32⟩
  | 91 => ⟨S_, .f32⟩
  | 92 => ⟨S8388608, .f32⟩
  | 93 => ⟨S8388608, .i1⟩
  | 94 => ⟨S_, .f32⟩
  | 95 => ⟨S8388608, .f32⟩
  | 96 => ⟨S8388608, .i1⟩
  | 97 => ⟨S8388608, .i1⟩
  | 98 => ⟨S_, .f32⟩
  | 99 => ⟨S8388608, .f32⟩
  | 100 => ⟨S8388608, .f32⟩
  | 101 => ⟨S8388608, .f32⟩
  | 102 => ⟨S8388608, .i32⟩
  | 103 => ⟨S_, .i32⟩
  | 104 => ⟨S_, .i32⟩
  | 105 => ⟨S_, .i32⟩
  | 106 => ⟨S8388608, .i32⟩
  | 107 => ⟨S8388608, .i32⟩
  | 108 => ⟨S_, .i32⟩
  | 109 => ⟨S8388608, .i32⟩
  | 110 => ⟨S8388608, .i32⟩
  | 111 => ⟨S_, .f32⟩
  | 112 => ⟨S64, .f32⟩
  | 113 => ⟨S8388608, .f32⟩
  | 114 => ⟨S_, .i32⟩
  | 115 => ⟨S8388608, .i32⟩
  | 116 => ⟨S8388608, .i1⟩
  | 117 => ⟨S_, .i32⟩
  | 118 => ⟨S8388608, .i32⟩
  | 119 => ⟨S8388608, .i32⟩
  | 120 => ⟨S8388608, .i32⟩
  | 121 => ⟨S8388608x1, .i32⟩
  | 122 => ⟨S64, .f32⟩
  | 123 => ⟨S_, .f32⟩
  | 124 => ⟨S_, .f32⟩
  | 125 => ⟨S_, .f32⟩
  | 126 => ⟨S_, .f32⟩
  | 127 => ⟨S64, .f32⟩
  | _ => ⟨S32x3x512x512, .f32⟩

abbrev hbmTy0_2 (i : Nat) : BufTy := match i % 128 with
  | 0 => ⟨S64, .f32⟩
  | 1 => ⟨S_, .f32⟩
  | 2 => ⟨S_, .f32⟩
  | 3 => ⟨S_, .f32⟩
  | 4 => ⟨S_, .f32⟩
  | 5 => ⟨S64, .f32⟩
  | 6 => ⟨S64, .f32⟩
  | 7 => ⟨S64, .f32⟩
  | 8 => ⟨S64, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S32x3x512x512, .f32⟩

abbrev hbmTy (i : Nat) : BufTy := match i / 128 with
  | 0 => hbmTy0_0 i
  | 1 => hbmTy0_1 i
  | 2 => hbmTy0_2 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_c_10 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_c_12 : Ref sig .tc := ⟨.hbm, 63, rfl⟩
abbrev main_v37 : Ref sig .tc := ⟨.hbm, 64, rfl⟩
abbrev main_v38 : Ref sig .tc := ⟨.hbm, 65, rfl⟩
abbrev main_c_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_14 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_cst_17 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_18 : Ref sig .tc := ⟨.hbm, 86, rfl⟩
abbrev main_v54 : Ref sig .tc := ⟨.hbm, 87, rfl⟩
abbrev main_cst_19 : Ref sig .tc := ⟨.hbm, 88, rfl⟩
abbrev main_v55 : Ref sig .tc := ⟨.hbm, 89, rfl⟩
abbrev main_cst_20 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_21 : Ref sig .tc := ⟨.hbm, 95, rfl⟩
abbrev main_v60 : Ref sig .tc := ⟨.hbm, 96, rfl⟩
abbrev main_v61 : Ref sig .tc := ⟨.hbm, 97, rfl⟩
abbrev main_cst_22 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_23 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_24 : Ref sig .tc := ⟨.hbm, 107, rfl⟩
abbrev main_c_25 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_v69 : Ref sig .tc := ⟨.hbm, 114, rfl⟩
abbrev main_cst_26 : Ref sig .tc := ⟨.hbm, 115, rfl⟩
abbrev main_v70 : Ref sig .tc := ⟨.hbm, 116, rfl⟩
abbrev main_v71 : Ref sig .tc := ⟨.hbm, 117, rfl⟩
abbrev main_c_27 : Ref sig .tc := ⟨.hbm, 118, rfl⟩
abbrev main_v72 : Ref sig .tc := ⟨.hbm, 119, rfl⟩
abbrev main_v73 : Ref sig .tc := ⟨.hbm, 120, rfl⟩
abbrev main_c_28 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_29 : Ref sig .tc := ⟨.hbm, 130, rfl⟩
abbrev main_v82 : Ref sig .tc := ⟨.hbm, 131, rfl⟩
abbrev main_v83 : Ref sig .tc := ⟨.hbm, 132, rfl⟩
abbrev main_cst_30 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_31 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_32 : Ref sig .tc := ⟨.hbm, 142, rfl⟩
abbrev main_c_33 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_v91 : Ref sig .tc := ⟨.hbm, 149, rfl⟩
abbrev main_cst_34 : Ref sig .tc := ⟨.hbm, 150, rfl⟩
abbrev main_v92 : Ref sig .tc := ⟨.hbm, 151, rfl⟩
abbrev main_v93 : Ref sig .tc := ⟨.hbm, 152, rfl⟩
abbrev main_c_35 : Ref sig .tc := ⟨.hbm, 153, rfl⟩
abbrev main_v94 : Ref sig .tc := ⟨.hbm, 154, rfl⟩
abbrev main_v95 : Ref sig .tc := ⟨.hbm, 155, rfl⟩
abbrev main_c_36 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_37 : Ref sig .tc := ⟨.hbm, 162, rfl⟩
abbrev main_v101 : Ref sig .tc := ⟨.hbm, 163, rfl⟩
abbrev main_cst_38 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_39 : Ref sig .tc := ⟨.hbm, 168, rfl⟩
abbrev main_v105 : Ref sig .tc := ⟨.hbm, 169, rfl⟩
abbrev main_cst_40 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_cst_41 : Ref sig .tc := ⟨.hbm, 176, rfl⟩
abbrev main_v111 : Ref sig .tc := ⟨.hbm, 177, rfl⟩
abbrev main_cst_42 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_43 : Ref sig .tc := ⟨.hbm, 184, rfl⟩
abbrev main_v117 : Ref sig .tc := ⟨.hbm, 185, rfl⟩
abbrev main_v118 : Ref sig .tc := ⟨.hbm, 186, rfl⟩
abbrev main_cst_44 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_cst_45 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_c_46 : Ref sig .tc := ⟨.hbm, 196, rfl⟩
abbrev main_c_47 : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_v126 : Ref sig .tc := ⟨.hbm, 203, rfl⟩
abbrev main_cst_48 : Ref sig .tc := ⟨.hbm, 204, rfl⟩
abbrev main_v127 : Ref sig .tc := ⟨.hbm, 205, rfl⟩
abbrev main_v128 : Ref sig .tc := ⟨.hbm, 206, rfl⟩
abbrev main_c_49 : Ref sig .tc := ⟨.hbm, 207, rfl⟩
abbrev main_v129 : Ref sig .tc := ⟨.hbm, 208, rfl⟩
abbrev main_v130 : Ref sig .tc := ⟨.hbm, 209, rfl⟩
abbrev main_c_50 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_cst_52 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_c_54 : Ref sig .tc := ⟨.hbm, 231, rfl⟩
abbrev main_c_55 : Ref sig .tc := ⟨.hbm, 232, rfl⟩
abbrev main_call5_v0 : Ref sig .tc := ⟨.hbm, 233, rfl⟩
abbrev main_call5_v1 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_v148 : Ref sig .tc := ⟨.hbm, 238, rfl⟩
abbrev main_cst_56 : Ref sig .tc := ⟨.hbm, 239, rfl⟩
abbrev main_v149 : Ref sig .tc := ⟨.hbm, 240, rfl⟩
abbrev main_v150 : Ref sig .tc := ⟨.hbm, 241, rfl⟩
abbrev main_c_57 : Ref sig .tc := ⟨.hbm, 242, rfl⟩
abbrev main_v151 : Ref sig .tc := ⟨.hbm, 243, rfl⟩
abbrev main_v152 : Ref sig .tc := ⟨.hbm, 244, rfl⟩
abbrev main_c_58 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_cst_59 : Ref sig .tc := ⟨.hbm, 251, rfl⟩
abbrev main_v158 : Ref sig .tc := ⟨.hbm, 252, rfl⟩
abbrev main_cst_60 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_cst_61 : Ref sig .tc := ⟨.hbm, 257, rfl⟩
abbrev main_v162 : Ref sig .tc := ⟨.hbm, 258, rfl⟩
abbrev main_cst_62 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_cst_63 : Ref sig .tc := ⟨.hbm, 265, rfl⟩
abbrev main_v168 : Ref sig .tc := ⟨.hbm, 266, rfl⟩
abbrev main_cst_64 : Ref sig .tc := ⟨.hbm, 267, rfl⟩
abbrev main_v169 : Ref sig .tc := ⟨.hbm, 268, rfl⟩
abbrev main_v170 : Ref sig .tc := ⟨.hbm, 269, rfl⟩
abbrev main_cst_65 : Ref sig .tc := ⟨.hbm, 270, rfl⟩
abbrev main_v171 : Ref sig .tc := ⟨.hbm, 271, rfl⟩

abbrev nD : Nat := 1
abbrev τ : Topo := Topo.v7x

variable {F : FTy → Type} [FloatOps F]
-- ==== Proof.Trip.lean ====
module

public import proofs.«01_k».proof.KernelIdeal
public import Idealize.ShloMosaic.Lib.SparseCore.Ops

@[expose] public section

noncomputable section

namespace Cert.KernelIdeal

open Idealize.ShloMosaic Idealize.SL.Sem
open Facts₀ Facts

variable {F : FTy → Type} [FloatOps F] [Facts]

/-- The vector-subcore programs at one processor. -/
abbrev TP (F : FTy → Type) (i : grid0.Coords) (α : Type) : Type 1 :=
  Prog (TpuEff nD τ sig (Elt F) Λ₀ (.scVector ((i 0).castLE hcore0) ((i 1).castLE hsub0))) α

abbrev Buf64 := Memref sig .scVector .vmem S64x512 .f32
abbrev Hist := Memref sig .scVector .vmem S6144 .f32

/-- The loads of one trip, from number `32 - n` on. -/
def loads (i : grid0.Coords) (buf : Buf64) (t : Fin k0_t2_loop.trips) :
    (n : ℕ) → n ≤ 32 → (List (Vec F S16 .f32) → TP F i PUnit.{1}) → TP F i PUnit.{1}
  | 0, _, k => k []
  | n + 1, h, k =>
    Prog.lift (.load buf (Rect.unit (s := S64x512) (k0_off5 t (BitVec.ofNat 32 (16 * (31 - n)))) S1x16.size
      (k0_off5_inb t ⟨31 - n, by omega⟩)).toLoadRect (View.loadsAt_vmem h_S1x16)) >>= fun v =>
    loads i buf t n (by omega) fun vs => k (shapeCast S16 v shapeCasts_S1x16_S16 :: vs)

/-- The word a lane adds one at: its bin times 16, plus its own word of the row. -/
def slot (rb : IVec S16 32) (x : Vec F S16 .f32) : IVec S16 32 :=
  addi (andi (shli (fptosi 32 (mulf x (broadcast S16 (Scalar.ofBits .f32 0x42800000#32)))) (broadcast S16 4#32))
    (broadcast S16 1008#32)) rb

def checks (i : grid0.Coords) (rb : IVec S16 32) :
    List (Vec F S16 .f32) → (List {v : IVec S16 32 // k0_chk1 v} → TP F i PUnit.{1}) → TP F i PUnit.{1}
  | [], k => k []
  | x :: xs, k =>
    Prog.lift (TpuEff.assume (k0_chk1 (slot rb x)) (k0_chk1.dec (slot rb x))) >>= fun h =>
    checks i rb xs fun r => k (⟨slot rb x, h.down⟩ :: r)

def scatters (i : grid0.Coords) (hist : Hist) (ones : FVec F S16 .f32) :
    List {v : IVec S16 32 // k0_chk1 v} → TP F i PUnit.{1}
  | [] => pure ⟨⟩
  | v :: r =>
    SparseCore.vectorStoreIdx hist ![v.1] ones (fun _ => 1#1) true (k0_idx1_inb v.1 v.2)
      (View.stores_vmem_bits_univ h_S6144 rfl) >>= fun _ => scatters i hist ones r

def trip (i : grid0.Coords) (hist : Hist) (buf : Buf64) (ones : FVec F S16 .f32) (rb : IVec S16 32)
    (t : Fin k0_t2_loop.trips) : TP F i PUnit.{1} :=
  loads i buf t 32 (le_refl 32) fun vs => checks i rb vs fun r => scatters i hist ones r

/-- The block of an argument chunk `g` reads: the task's row of the batch, channel `g % 24 / 8`, 64 image rows. -/
def blkOff (i : grid0.Coords) (g : ℕ) : Fin 4 → ℕ :=
  ![(Scalar.addi (Scalar.muli (BitVec.ofNat 32 (i 1).val) 2#32) (BitVec.ofNat 32 (i 0).val)).toNat,
    g % 24 / 8, g % 8 * 64, 0]

theorem blkOff_inb : ∀ (i : grid0.Coords) (g : Fin 48) (a : Fin 4),
    blkOff i g.val a + S1x1x64x512.size a ≤ S32x3x512x512.size a := by decide +kernel

/-- What the body is run on. -/
structure Args where
  pred : Memref sig .scVector .hbm S32x3x512x512 .f32
  target : Memref sig .scVector .hbm S32x3x512x512 .f32
  out : Memref sig .scVector .hbm S196608 .f32
  hist : Hist
  buf : ℕ → Buf64
  hbuf : ∀ n, (buf n).IsWhole
  sem : ℕ → DmaSems sig S_
  osem : DmaSems sig S_

def Args.arg (A : Args) : ℕ → Memref sig .scVector .hbm S32x3x512x512 .f32
  | 0 => A.pred
  | _ + 1 => A.target

def Args.src (A : Args) (i : grid0.Coords) (g : Fin 48) : Memref sig .scVector .hbm S64x512 .f32 :=
  ((A.arg (g.val / 24)).slice (Rect.unit (s := S32x3x512x512) (blkOff i g.val) S1x1x64x512.size (blkOff_inb i g))
    (fun _ => rfl)).squeeze S64x512 squeezes_S1x1x64x512_S64x512

def fetch (i : grid0.Coords) (A : Args) (g : Fin 48) : TP F i PUnit.{1} :=
  Prog.lift (.enqueueDma (A.src i g) (.here (A.buf (g.val % 3))) (.dma (A.sem (g.val % 3)).sem)
    ((View.wordExact_bits rfl).reshape _ _) (A.hbuf _).wordExact ⟨Or.inl rfl, trivial⟩)

def await (i : grid0.Coords) (A : Args) (g : Fin 48) : TP F i PUnit.{1} :=
  Prog.lift (.waitDma2 (A.sem (g.val % 3)).sem (A.src i g) (A.buf (g.val % 3))
    ((View.wordExact_bits rfl).reshape _ _) (A.hbuf _).wordExact)

def iota16 : IVec S16 32 := iota .scVector S16 32 [0] iota_S16_d0_w32_scVector

def ones : FVec F S16 .f32 := broadcast S16 (Scalar.ofBits .f32 0x3F800000#32)

/-- The words of chunk `g`'s rows of the histogram begin at 1024 times its row's number. -/
def rowBase (g : ℕ) : IVec S16 32 := addi iota16 (broadcast S16 (BitVec.ofNat 32 (g / 8 * 1024)))

/-- With `n` chunks to go, the fetch of the third of them, if there is one. -/
def next (i : grid0.Coords) (A : Args) : (n : ℕ) → n < 48 → TP F i PUnit.{1}
  | m + 3, h => fetch i A ⟨47 - m, by omega⟩
  | _, _ => pure ⟨⟩

/-- The last `n` chunks, then `k`. -/
def chunks (i : grid0.Coords) (A : Args) (k : TP F i PUnit.{1}) : (n : ℕ) → n ≤ 48 → TP F i PUnit.{1}
  | 0, _ => k
  | n + 1, h =>
    await i A ⟨47 - n, by omega⟩ >>= fun _ =>
    Scf.Loop.for k0_t2_loop k0_t2_ok ⟨⟩ (fun t _ =>
      trip i A.hist (A.buf ((47 - n) % 3)) ones (rowBase (47 - n)) t) >>= fun _ =>
    next i A n h >>= fun _ => chunks i A k n (by omega)
termination_by structural n => n

def zeros (i : grid0.Coords) (A : Args) : TP F i PUnit.{1} :=
  Scf.Loop.for k0_t1_loop k0_t1_ok ⟨⟩ fun t _ => do
    let _ : Vec F S16 .f32 ← Prog.lift (.load A.hist (Rect.unit (s := S6144) (k0_off1 t) S16.size (k0_off1_inb t)).toLoadRect (View.loadsAt_vmem h_S16))
    Prog.lift (.store A.hist (Rect.unit (s := S6144) (k0_off1 t) S16.size (k0_off1_inb t)) (broadcast S16 (Scalar.ofBits .f32 0x00000000#32)) Finset.univ (View.stores_vmem_bits_univ h_S16 rfl) (.inl rfl))
    pure ⟨⟩

def Args.outRow (A : Args) (i : grid0.Coords) : Memref sig .scVector .hbm S6144 .f32 :=
  A.out.slice (Rect.unit (s := S196608) (k0_off74 i) S6144.size (k0_off74_inb i)) (fun _ => rfl)

def Args.histAll (A : Args) : Hist :=
  A.hist.slice (Rect.unit (s := S6144) ![0] S6144.size inb_S6144_S6144_0) (fun _ => rfl)

def copyOut (i : grid0.Coords) (A : Args) : TP F i PUnit.{1} := do
  Prog.lift (.enqueueDma A.histAll (.here (A.outRow i)) (.dma A.osem.sem) (View.wordExact_bits rfl) (View.wordExact_bits rfl) ⟨Or.inl rfl, trivial⟩)
  Prog.lift (.waitDma2 A.osem.sem A.histAll (A.outRow i) (View.wordExact_bits rfl) (View.wordExact_bits rfl))
  pure ⟨⟩

def body (i : grid0.Coords) (A : Args) : TP F i PUnit.{1} :=
  zeros i A >>= fun _ => fetch i A 0 >>= fun _ => fetch i A 1 >>= fun _ => fetch i A 2 >>= fun _ =>
  chunks i A (copyOut i A) 48 (le_refl 48)

def three {α : Sort*} (a b c : α) : ℕ → α
  | 0 => a
  | 1 => b
  | _ + 2 => c

/-- The 64 trips over the buffer of chunk `n`. -/
def trips (i : grid0.Coords) (A : Args) (n : ℕ) (ones : FVec F S16 .f32) (rb : IVec S16 32) : TP F i PUnit.{1} :=
  Scf.Loop.for k0_t2_loop k0_t2_ok ⟨⟩ fun t _ => trip i A.hist (A.buf (n % 3)) ones rb t

/-- The first trips and copies: the task's histogram is zeroed and three copies are in flight, the first one awaited. -/
def front (i : grid0.Coords) (A : Args) :
    TP F i (Σ' (_ : BitVec 32) (_ : IVec S16 32) (_ : FVec F S16 .f32), IVec S16 32) :=
  zeros i A >>= fun _ => fetch i A 0 >>= fun _ => fetch i A 1 >>= fun _ => fetch i A 2 >>= fun _ => await i A 0 >>= fun _ =>
  pure ⟨Scalar.addi (Scalar.muli (BitVec.ofNat 32 (i 1).val) 2#32) (BitVec.ofNat 32 (i 0).val), iota16, ones, rowBase 0⟩

/-- Chunks `n` and `n + 1`, each followed by its buffer's next copy and the wait for the chunk after it. -/
def pair (i : grid0.Coords) (A : Args) (n : ℕ) (h : n < 44) (l : IVec S16 32) (ones : FVec F S16 .f32) (rb : IVec S16 32) :
    TP F i (IVec S16 32) :=
  trips i A n ones rb >>= fun _ => fetch i A ⟨n + 3, by omega⟩ >>= fun _ => await i A ⟨n + 1, by omega⟩ >>= fun _ =>
  trips i A (n + 1) ones (addi l (broadcast S16 (BitVec.ofNat 32 ((n + 1) / 8 * 1024)))) >>= fun _ =>
  fetch i A ⟨n + 4, by omega⟩ >>= fun _ => await i A ⟨n + 2, by omega⟩ >>= fun _ =>
  pure (addi l (broadcast S16 (BitVec.ofNat 32 ((n + 2) / 8 * 1024))))

/-- Chunks 44, 45 and 46. -/
def back (i : grid0.Coords) (A : Args) (l : IVec S16 32) (ones : FVec F S16 .f32) (rb : IVec S16 32) : TP F i PUnit.{1} :=
  trips i A 44 ones rb >>= fun _ => fetch i A 47 >>= fun _ => await i A 45 >>= fun _ =>
  trips i A 45 ones (addi l (broadcast S16 5120#32)) >>= fun _ => await i A 46 >>= fun _ =>
  trips i A 46 ones (addi l (broadcast S16 5120#32)) >>= fun _ => pure ⟨⟩

/-- The last `2 n + 4` chunks. -/
def pairs (i : grid0.Coords) (A : Args) (l : IVec S16 32) (ones : FVec F S16 .f32) : (n : ℕ) → n ≤ 22 → IVec S16 32 → TP F i PUnit.{1}
  | 0, _, rb =>
    back i A l ones rb >>= fun _ => await i A 47 >>= fun _ =>
    trips i A 47 ones (addi l (broadcast S16 5120#32)) >>= fun _ => copyOut i A
  | n + 1, h, rb => pair i A (42 - 2 * n) (by omega) l ones rb >>= fun rb' => pairs i A l ones n (by omega) rb'

set_option maxRecDepth 100000
set_option maxHeartbeats 40000000
/-- The printed body is the one written out above. -/
theorem body_eq (i : grid0.Coords) (arg2 : Memref sig .scVector .hbm S32x3x512x512 .f32) (harg2 : arg2.IsWhole) (arg3 : Memref sig .scVector .hbm S32x3x512x512 .f32) (harg3 : arg3.IsWhole) (arg4 : Memref sig .scVector .hbm S196608 .f32) (harg4 : arg4.IsWhole) (arg5 : Memref sig .scVector .vmem S6144 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S64x512 .f32) (harg8 : arg8.IsWhole) (arg9 : DmaSems sig S_) (arg10 : DmaSems sig S_) (arg11 : DmaSems sig S_) (v535_r0 : DmaSems sig S_) :
   cc0__sc_hist (F := F) i arg2 harg2 arg3 harg3 arg4 harg4 arg5 harg5 arg6 harg6 arg7 harg7 arg8 harg8 arg9 arg10 arg11 v535_r0 =
    (front i ⟨arg2, arg3, arg4, arg5, three arg6 arg7 arg8, fun | 0 => harg6 | 1 => harg7 | _ + 2 => harg8, three arg9 arg10 arg11, v535_r0⟩ >>= fun x => pairs i ⟨arg2, arg3, arg4, arg5, three arg6 arg7 arg8, fun | 0 => harg6 | 1 => harg7 | _ + 2 => harg8, three arg9 arg10 arg11, v535_r0⟩ x.2.1 x.2.2.1 22 (le_refl 22) x.2.2.2) := by
  rfl

end Cert.KernelIdeal
-- ==== Proof.Order.lean ====
module

public import proofs.«01_k».proof.Proof.Trip

@[expose] public section

noncomputable section

namespace Cert.KernelIdeal

open Idealize.ShloMosaic Idealize.SL.Sem
open Facts₀ Facts

variable {F : FTy → Type} [FloatOps F] [Facts]

/-- A chunk, then the rest: the recursion of `chunks` read at the chunk's own number. -/
theorem chunks_at (i : grid0.Coords) (A : Args) (k : TP F i PUnit.{1}) (g : ℕ) (hg : g < 45) :
    chunks i A k (48 - g) (by omega) =
      (await i A ⟨g, by omega⟩ >>= fun _ => trips i A g ones (rowBase g) >>= fun _ =>
        fetch i A ⟨g + 3, by omega⟩ >>= fun _ => chunks i A k (48 - (g + 1)) (by omega)) := by
  obtain ⟨m, rfl⟩ : ∃ m, g = 44 - m := ⟨44 - g, by omega⟩
  obtain ⟨m, hm, e⟩ : ∃ m', ∃ _ : m' < 45, 44 - m = 44 - m' := ⟨m - (m - 44), by omega, by omega⟩
  simp only [e]
  have e1 : 48 - (44 - m) = m + 3 + 1 := by omega
  have e2 : 48 - (44 - m + 1) = m + 3 := by omega
  have e3 : 44 - m + 3 = 47 - m := by omega
  have e4 : 47 - (m + 3) = 44 - m := by omega
  simp only [e1, e2, e3]
  conv => lhs; unfold chunks
  simp only [e4, next, trips]

/-- The pairs of chunks, one after the other, are the chunks one after the other. -/
theorem pairs_eq (i : grid0.Coords) (A : Args) : ∀ (n : ℕ) (h : n ≤ 22),
    (await i A ⟨44 - 2 * n, by omega⟩ >>= fun _ => pairs (F := F) i A iota16 ones n h (rowBase (44 - 2 * n))) =
      chunks i A (copyOut i A) (48 - (44 - 2 * n)) (by omega) := by
  intro n
  induction n with
  | zero =>
    intro h
    simp only [pairs, back, bind_assoc, pure_bind]
    rfl
  | succ n ih =>
    intro h
    have e : 42 - 2 * n = 44 - 2 * (n + 1) := by omega
    have e2 : 44 - 2 * (n + 1) + 2 = 44 - 2 * n := by omega
    rw [chunks_at _ _ _ _ (by omega), chunks_at _ _ _ _ (by omega)]
    have ih' := ih (by omega)
    simp only [e2, ← ih', pairs, pair, bind_assoc, pure_bind, e]
    rfl

/-- The printed body zeroes the histogram, starts three copies, goes through the 48 chunks and copies the histogram out. -/
theorem body_eq' (i : grid0.Coords) (arg2 : Memref sig .scVector .hbm S32x3x512x512 .f32) (harg2 : arg2.IsWhole) (arg3 : Memref sig .scVector .hbm S32x3x512x512 .f32) (harg3 : arg3.IsWhole) (arg4 : Memref sig .scVector .hbm S196608 .f32) (harg4 : arg4.IsWhole) (arg5 : Memref sig .scVector .vmem S6144 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S64x512 .f32) (harg8 : arg8.IsWhole) (arg9 : DmaSems sig S_) (arg10 : DmaSems sig S_) (arg11 : DmaSems sig S_) (v535_r0 : DmaSems sig S_) :
   cc0__sc_hist (F := F) i arg2 harg2 arg3 harg3 arg4 harg4 arg5 harg5 arg6 harg6 arg7 harg7 arg8 harg8 arg9 arg10 arg11 v535_r0 =
    body i ⟨arg2, arg3, arg4, arg5, three arg6 arg7 arg8, fun | 0 => harg6 | 1 => harg7 | _ + 2 => harg8, three arg9 arg10 arg11, v535_r0⟩ := by
  rw [body_eq]
  generalize (Args.mk arg2 arg3 arg4 arg5 _ _ _ _) = A
  simp only [front, bind_assoc, pure_bind, body]
  have h := pairs_eq (F := F) i A 22 (le_refl 22)
  exact congrArg (fun x => zeros i A >>= fun _ => fetch i A 0 >>= fun _ => fetch i A 1 >>= fun _ => fetch i A 2 >>= fun _ => x) h

end Cert.KernelIdeal
-- ==== Proof.Hist.lean ====
module

public import proofs.«01_k».proof.Proof.Trip

@[expose] public section

noncomputable section

namespace Cert.KernelIdeal

open Idealize.ShloMosaic Idealize.SL.Sem
open Facts₀ Facts

variable {F : FTy → Type} [FloatOps F] [Facts]

/-! ## What a task's histogram holds, as a function of the blocks it reads -/

/-- The word of a value's bin before the row and the lane are added: 16 times the bin's number. -/
def binWord (x : Elt F .f32) : BitVec 32 :=
  IntOp.andi (IntOp.shli .vector (FloatOps.fptosi (F := F) (φ := .f32) 32 (FloatOps.mulf (F := F) (φ := .f32) x (Scalar.ofBits .f32 0x42800000#32))) 4#32) 1008#32

theorem slot_apply (rb : IVec S16 32) (x : Vec F S16 .f32) (l : S16.Idx) :
    slot rb x l = binWord (x l) + rb l := rfl

theorem iota16_apply (l : S16.Idx) : iota16 l = BitVec.ofNat 32 (l 0).val := by
  simp [iota16, iota]

theorem rowBase_toNat (g : Fin 48) (l : S16.Idx) : (rowBase g.val l).toNat = (l 0).val + g.val / 8 * 1024 := by
  have h0 : (l 0).val < 16 := (l 0).isLt
  have h1 := g.isLt
  show (iota16 l + BitVec.ofNat 32 (g.val / 8 * 1024)).toNat = _
  rw [iota16_apply, BitVec.toNat_add, BitVec.toNat_ofNat, BitVec.toNat_ofNat]
  omega

theorem binWord_le (x : Elt F .f32) : (binWord x).toNat ≤ 1008 := by
  show (BitVec.toNat (_ &&& 1008#32)) ≤ 1008
  rw [BitVec.toNat_and]
  exact Nat.and_le_right

theorem slot_toNat (g : Fin 48) (x : Vec F S16 .f32) (l : S16.Idx) :
    (slot (rowBase g.val) x l).toNat = (binWord (x l)).toNat + ((l 0).val + g.val / 8 * 1024) := by
  have h0 : (l 0).val < 16 := (l 0).isLt
  have h1 := g.isLt
  have h2 := binWord_le (x l)
  rw [slot_apply, BitVec.toNat_add, rowBase_toNat]
  omega

/-- Every word a trip adds to is in the histogram. -/
theorem slot_ok (g : Fin 48) (x : Vec F S16 .f32) : k0_chk1 (slot (rowBase g.val) x) := by
  intro a l
  match a with
  | 0 =>
    show (slot (rowBase g.val) x l).toNat < 6144
    have h0 : (l 0).val < 16 := (l 0).isLt
    have h1 := g.isLt
    have h2 := binWord_le (x l)
    rw [slot_toNat]
    omega

/-- One vector of 16 values added to the histogram. -/
def scat (H : Vec F S6144 .f32) (v : {v : IVec S16 32 // k0_chk1 v}) : Vec F S6144 .f32 :=
  storeIdx H ![v.1] ones (fun _ => 1#1) true (k0_idx1_inb v.1 v.2)

def slotOk (g : Fin 48) (x : Vec F S16 .f32) : {v : IVec S16 32 // k0_chk1 v} := ⟨slot (rowBase g.val) x, slot_ok g x⟩

/-- The part of a block that a load of a trip reads. -/
abbrev loadRect (t : Fin k0_t2_loop.trips) (u : Fin 32) : Rect S64x512 :=
  Rect.unit (s := S64x512) (k0_off5 t (BitVec.ofNat 32 (16 * u.val))) S1x16.size (k0_off5_inb t u)

/-- Vector `u` of trip `t` of a block. -/
def vec (B : Vec F S64x512 .f32) (t : Fin k0_t2_loop.trips) (u : Fin 32) : Vec F S16 .f32 :=
  shapeCast S16 (fun j : S1x16.Idx => B ((loadRect t u).emb j)) shapeCasts_S1x16_S16

/-- The last `n` vectors of trip `t`. -/
def vecs (B : Vec F S64x512 .f32) (t : Fin k0_t2_loop.trips) : (n : ℕ) → n ≤ 32 → List (Vec F S16 .f32)
  | 0, _ => []
  | n + 1, h => vec B t ⟨31 - n, by omega⟩ :: vecs B t n (by omega)

/-- The histogram after vectors `xs` of chunk `g`. -/
def addAll (g : Fin 48) (H : Vec F S6144 .f32) (xs : List (Vec F S16 .f32)) : Vec F S6144 .f32 :=
  xs.foldl (fun H x => scat H (slotOk g x)) H

/-- The histogram after the first `n` trips on block `B` of chunk `g`. -/
def addTrips (g : Fin 48) (B : Vec F S64x512 .f32) (H : Vec F S6144 .f32) : ℕ → Vec F S6144 .f32
  | 0 => H
  | n + 1 => if h : n < k0_t2_loop.trips then addAll g (addTrips g B H n) (vecs B ⟨n, h⟩ 32 (le_refl 32)) else addTrips g B H n

/-- The histogram after the first `n` chunks of blocks `B`. -/
def addChunks (B : Fin 48 → Vec F S64x512 .f32) : ℕ → Vec F S6144 .f32
  | 0 => fun _ => Scalar.ofBits .f32 0x00000000#32
  | n + 1 => if h : n < 48 then addTrips ⟨n, h⟩ (B ⟨n, h⟩) (addChunks B n) k0_t2_loop.trips else addChunks B n

end Cert.KernelIdeal
-- ==== Proof.Setup.lean ====
module

public import proofs.«01_k».proof.Proof.Order
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

/-!
The program as the SparseCore launch theorem sees it: its handshakes, its definitions, its ghost state, and the
arguments the task's body is run on.
-/

@[expose] public section

noncomputable section

namespace Cert.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The ghost state of the pipeline around the last kernel. -/
abbrev UP : Type := Rounds.URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's part of the ghost state lies in the machine's. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP 𝕄).LandsIn (upEmb : UEmb _ 𝕄) := by unfold EP; infer_instance

abbrev cV (i : grid0.Coords) : Fin τ.nSC := (i 0).castLE hcore0
abbrev jV (i : grid0.Coords) : Fin τ.nSub := (i 1).castLE hsub0
/-- The thread of one task. -/
abbrev tV (d : Dev nD) (i : grid0.Coords) : Thread nD τ := V d (cV i) (jV i)

/-- What the program runs the body on. -/
abbrev AA : Args :=
  ⟨Memref.whole main_arg0_scv, Memref.whole main_arg1_scv, Memref.whole main_v0_scv, Memref.whole cc0_scratch0,
    three (Memref.whole cc0_scratch1) (Memref.whole cc0_scratch2) (Memref.whole cc0_scratch3),
    fun | 0 => Memref.isWhole_whole _ | 1 => Memref.isWhole_whole _ | _ + 2 => Memref.isWhole_whole _,
    three cc0_scratch4 cc0_scratch5 cc0_scratch6, cc0_scoped0⟩

end Cert.Run
-- ==== Proof.Task.lean ====
module

public import proofs.«01_k».proof.Proof.Setup

/-!
One task, run symbolically at a pair of SparseCore and tile: the trips over one block, the chunks, the copies.
-/

@[expose] public section

noncomputable section

namespace Cert.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)

abbrev W (p : TP F i PUnit.{1}) (Q : PUnit.{1} → sProp 𝕄) : sProp 𝕄 := wp frame (wpE (defs₀ (F := F)) 𝒱₀ (tV d i) none) Set.univ p Q

/-- The task's histogram, held with contents `H`. -/
abbrev hPts (H : Vec F S6144 .f32) : sProp 𝕄 := (tV d i).loc cc0_scratch0 ↦{fullShare} H

/-- Buffer `n`, held whole. -/
abbrev bPts (n : ℕ) (f : Buf (Elt F) ((AA.buf n).view.loc (tV d i))) : sProp 𝕄 := (AA.buf n).view.loc (tV d i) ↦{fullShare} f

theorem wp_loads (b : ℕ) (f : Buf (Elt F) ((AA.buf b).view.loc (tV d i))) (B : Vec F S64x512 .f32)
    (hB : (AA.buf b).view.read (Elt F) f = B) (t : Fin k0_t2_loop.trips) (Q : PUnit.{1} → sProp 𝕄) :
    ∀ (n : ℕ) (h : n ≤ 32) (k : List (Vec F S16 .f32) → TP F i PUnit.{1}),
      bPts d i b f ⊢ iprop((bPts d i b f -∗ W d i (k (vecs B t n h)) Q) -∗ W d i (loads i (AA.buf b) t n h k) Q)
  | 0, h, k => by
    iintro Hb Hk
    iapply Hk
    iexact Hb
  | n + 1, h, k => by
    unfold loads
    simp only [Prog.bind_lift]
    iintro Hb Hk
    iapply (wp_load 𝒱₀ (tV d i) none Set.univ (S := Finset.univ) (Finset.subset_univ _)) $$ Hb
    iintro Hb
    subst hB
    iapply (wp_loads b f _ rfl t Q n (Nat.le_of_succ_le h) (fun vs => k (_ :: vs))) $$ Hb
    iexact Hk

theorem wp_checks (g : Fin 48) (Q : PUnit.{1} → sProp 𝕄) : ∀ (xs : List (Vec F S16 .f32))
    (k : List {v : IVec S16 32 // k0_chk1 v} → TP F i PUnit.{1}),
      W d i (k (xs.map (slotOk g))) Q ⊢ W d i (checks i (rowBase g.val) xs k) Q
  | [], k => .rfl
  | x :: xs, k => by
    unfold checks
    simp only [Prog.bind_lift]
    unfold W
    rw [wp_assume_of _ _ _ _ (slot_ok g x)]
    exact wp_checks g Q xs fun r => k (_ :: r)

/-- One scatter: the histogram with one vector of values added. -/
theorem wp_scat (H : Vec F S6144 .f32) (v : {v : IVec S16 32 // k0_chk1 v}) (k : PUnit.{1} → TP F i PUnit.{1}) (Q : PUnit.{1} → sProp 𝕄) :
    hPts d i H ⊢ iprop((hPts d i (scat H v) -∗ W d i (k ⟨⟩) Q)
      -∗ W d i (SparseCore.vectorStoreIdx AA.hist ![v.1] ones (fun _ => 1#1) true (k0_idx1_inb v.1 v.2)
        (View.stores_vmem_bits_univ h_S6144 rfl) >>= k) Q) := by
  have h := SparseCore.wp_vectorStoreIdx (Name := ℕ) (U := UU) (Lvl := ℕ) (Ix := HIx 1) (defs := defs₀ (F := F)) 𝒱₀ (tV d i) none Set.univ
    (base := (Memref.whole cc0_scratch0 : Hist)) (idxs := ![v.1]) (v := ones) (mask := fun _ => 1#1) (add := true)
    (h := k0_idx1_inb v.1 v.2) (hs := View.stores_vmem_bits_univ h_S6144 rfl) (k := k) (f := H) (Q := Q)
  rw [Memref.set_access_whole, Memref.read_access_whole, Memref.write_access_whole_univ] at h
  exact h

theorem wp_scatters (Q : PUnit.{1} → sProp 𝕄) : ∀ (r : List {v : IVec S16 32 // k0_chk1 v}) (H : Vec F S6144 .f32),
      hPts d i H ⊢ iprop((hPts d i (r.foldl scat H) -∗ Q ⟨⟩) -∗ W d i (scatters i AA.hist ones r) Q)
  | [], H => by
    unfold scatters W
    rw [wp_pure]
    iintro Hh HQ
    imodintro
    iapply HQ; iexact Hh
  | v :: r, H => by
    unfold scatters
    iintro Hh HQ
    iapply (wp_scat d i H v) $$ Hh
    iintro Hh
    iapply (wp_scatters Q r (scat H v)) $$ Hh
    iexact HQ

theorem wp_trip (g : Fin 48) (b : ℕ) (f : Buf (Elt F) ((AA.buf b).view.loc (tV d i))) (B : Vec F S64x512 .f32)
    (hB : (AA.buf b).view.read (Elt F) f = B) (H : Vec F S6144 .f32) (t : Fin k0_t2_loop.trips) (Q : PUnit.{1} → sProp 𝕄) :
    iprop(bPts d i b f ∗ hPts d i H)
      ⊢ iprop((bPts d i b f ∗ hPts d i (addAll g H (vecs B t 32 (le_refl 32))) -∗ Q ⟨⟩)
        -∗ W d i (trip i AA.hist (AA.buf b) ones (rowBase g.val) t) Q) := by
  unfold trip
  iintro ⟨Hb, Hh⟩ HQ
  iapply (wp_loads d i b f B hB t Q 32 (le_refl 32) _) $$ Hb
  iintro Hb
  iapply (wp_checks d i g Q (vecs B t 32 (le_refl 32)) fun r => scatters i AA.hist ones r)
  iapply (wp_scatters d i Q _ H) $$ Hh
  iintro Hh
  iapply HQ
  isplitl [Hb]; · iexact Hb
  rw [List.foldl_map]
  iexact Hh

theorem wp_trips (g : Fin 48) (b : ℕ) (f : Buf (Elt F) ((AA.buf b).view.loc (tV d i))) (B : Vec F S64x512 .f32)
    (hB : (AA.buf b).view.read (Elt F) f = B) (H : Vec F S6144 .f32) (k : PUnit.{1} → TP F i PUnit.{1}) (Q : PUnit.{1} → sProp 𝕄) :
    iprop(bPts d i b f ∗ hPts d i H)
      ⊢ iprop((bPts d i b f ∗ hPts d i (addTrips g B H k0_t2_loop.trips) -∗ W d i (k ⟨⟩) Q)
        -∗ W d i (Scf.Loop.for k0_t2_loop k0_t2_ok ⟨⟩ (fun t _ => trip i AA.hist (AA.buf b) ones (rowBase g.val) t) >>= k) Q) := by
  iintro H0 HK
  iapply (Scf.wp_for_bind frame (wpE (defs₀ (F := F)) 𝒱₀ (tV d i) none) Set.univ _ _ _ k0_t2_ok ⟨⟩ _
    (fun n _ => iprop(bPts d i b f ∗ hPts d i (addTrips g B H n))) ?_) $$ [H0]
  · intro t _
    iintro H0
    iapply (wp_trip d i g b f B hB _ t _) $$ H0
    iintro H0
    have e : addTrips g B H (t.val + 1) = addAll g (addTrips g B H t.val) (vecs B t 32 (le_refl 32)) := by
      rw [addTrips, dif_pos t.isLt]
    rw [e]
    iexact H0
  · iexact H0
  iintro %acc H0
  iapply HK
  iexact H0

end Cert.Run
-- ==== Proof.Ring.lean ====
module

public import proofs.«01_k».proof.Proof.Task

/-!
The copies of one task: which buffer is idle, which one a copy is in flight to, and the 48 chunks one after the other.
-/

@[expose] public section

noncomputable section

namespace Cert.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)

variable (X : (n : ℕ) → Buf (Elt F) ((AA.arg n).view.loc (tV d i))) (qs : ℕ → PosShare TreeShare)

/-- Argument `n`, held at a share. -/
abbrev sPts (n : ℕ) (q : PosShare TreeShare) : sProp 𝕄 := (AA.arg n).view.loc (tV d i) ↦{q} X n

/-- Both arguments, at the share of buffer `b`. -/
def Src (b : ℕ) : sProp 𝕄 := iprop(sPts d i X 0 (qs b) ∗ sPts d i X 1 (qs b))

/-- Block `g` of the arguments. -/
def data (g : Fin 48) : Vec F S64x512 .f32 := (AA.src i g).view.read (Elt F) (X (g.val / 24))

abbrev bSem (b : ℕ) : SemLoc sig := .dma (AA.sem b).sem
abbrev amt (b : ℕ) : ℕ := (AA.buf b).view.amount (bSem b)

theorem amt_pos (b : ℕ) : 0 < amt b := View.dmaCredit_pos _ (by decide)

/-- Buffer `b` with nothing in flight to it. -/
def Idle (b : ℕ) : sProp 𝕄 := iprop((∃ f, bPts d i b f) ∗ semVal (tV d i, bSem b) 0 ∗ Src d i X qs b)

/-- What the copy of chunk `g` delivers. -/
def Landed (g : Fin 48) : sProp 𝕄 :=
  iprop((∃ f, ⌜(AA.buf (g.val % 3)).view.read (Elt F) f = data d i X g⌝ ∗ bPts d i (g.val % 3) f)
    ∗ ((AA.src i g).view.loc (tV d i) ↦[(AA.src i g).view.set]{qs (g.val % 3)} X (g.val / 24)))

/-- The copy of chunk `g` in flight, and what is kept of the arguments' share meanwhile. -/
def Fly (g : Fin 48) : sProp 𝕄 :=
  iprop(Transfers.Flight countersEmb (tV d i) (bSem (g.val % 3)) (default : HIx 1) (amt (g.val % 3)) (Landed d i X qs g)
    ∗ ((AA.src i g).view.loc (tV d i) ↦[Finset.univ \ (AA.src i g).view.set]{qs (g.val % 3)} X (g.val / 24))
    ∗ sPts d i X (1 - g.val / 24) (qs (g.val % 3)))

theorem Src_eq (g : Fin 48) (b : ℕ) :
    Src d i X qs b = iprop(sPts d i X (g.val / 24) (qs b) ∗ sPts d i X (1 - g.val / 24) (qs b)) := by
  have h : g.val / 24 = 0 ∨ g.val / 24 = 1 := by omega
  rcases h with h | h
  · rw [h]; rfl
  · rw [h]; exact BI.Entails.antisymm Idealize.SL.BI.sep_comm Idealize.SL.BI.sep_comm

/-- The block that chunk `g` reads, and the rest of its argument. -/
theorem sPts_block (g : Fin 48) (q : PosShare TreeShare) :
    sPts d i X (g.val / 24) q = iprop(((AA.src i g).view.loc (tV d i) ↦[(AA.src i g).view.set]{q} X (g.val / 24))
      ∗ ((AA.src i g).view.loc (tV d i) ↦[Finset.univ \ (AA.src i g).view.set]{q} X (g.val / 24))) :=
  have h := pointsTo_split_subset (ℓ := (AA.src i g).view.loc (tV d i)) (q := q) (f := X (g.val / 24)) (S := Finset.univ)
    (Finset.subset_univ (AA.src i g).view.set)
  BI.Entails.antisymm h.1 h.2

theorem wp_fetch (g : Fin 48) (k : PUnit.{1} → TP F i PUnit.{1}) (Q : PUnit.{1} → sProp 𝕄) :
    Idle d i X qs (g.val % 3) ⊢ iprop((Fly d i X qs g -∗ W d i (k ⟨⟩) Q) -∗ W d i (fetch i AA g >>= k) Q) := by
  unfold Idle fetch
  rw [Src_eq d i X qs g, sPts_block]
  simp only [Prog.bind_lift]
  iintro ⟨⟨%f, Hb⟩, Hv, ⟨Hs, Hr⟩, Ho⟩ HK
  iapply (Transfers.wp_dmaLocal countersEmb 𝒱₀ (tV d i) none (default : HIx 1) (amt (g.val % 3)) rfl (amt_pos _) (Finset.subset_univ _)) $$ [Hs Hb Hv]
  · isplitl [Hs]; · iexact Hs
    isplitl [Hb]; · iexact Hb
    iexact Hv
  iintro Hf
  iapply HK
  unfold Fly
  isplitl [Hf]
  · iapply (Transfers.Flight_mono countersEmb (tV d i) ?_) $$ Hf
    unfold Landed
    iintro ⟨Hb, Hs⟩
    isplitl [Hb]
    · iexists _
      isplitr
      swap; · iexact Hb
      ipureintro
      exact View.read_write_univ _ _
    · iexact Hs
  isplitl [Hr]; · iexact Hr
  iexact Ho

/-- The waits of a task so far: those it began with, and its own. -/
def Ow (O : CellTallies nD τ sig (HIx 1)) (W₀ : Waits sig (HIx 1)) : sProp 𝕄 :=
  iprop(∃ W', ⌜∀ p ∈ W', p ∈ W₀ ∨ p.2 = none⌝ ∗ owes (tV d i) O W')

variable {O : CellTallies nD τ sig (HIx 1)} (W₀ : Waits sig (HIx 1)) (hO : ∀ g, O g none = 0)
include hO

theorem mayWait (sm : SemLoc sig) : (levAts (K (F := F)).L (K (F := F)).lev : sProp 𝕄) ⊢ MayWait (tV d i) sm (default : HIx 1) O :=
  ((K (F := F)).mayWaits_none (thr := tV d i) hO).trans (Transfers.MayWaits.elim sm)

theorem wp_await (g : Fin 48) (k : PUnit.{1} → TP F i PUnit.{1}) (Q : PUnit.{1} → sProp 𝕄) :
    iprop(levAts (K (F := F)).L (K (F := F)).lev ∗ Fly d i X qs g ∗ Ow d i O W₀)
      ⊢ iprop(((∃ f, ⌜(AA.buf (g.val % 3)).view.read (Elt F) f = data d i X g⌝ ∗ bPts d i (g.val % 3) f)
          ∗ semVal (tV d i, bSem (g.val % 3)) 0 ∗ Src d i X qs (g.val % 3) ∗ Ow d i O W₀ -∗ W d i (k ⟨⟩) Q)
        -∗ W d i (await i AA g >>= k) Q) := by
  unfold Fly await Ow
  rw [Src_eq d i X qs g, sPts_block]
  simp only [Prog.bind_lift]
  iintro ⟨#Hlv, ⟨Hf, Hr, Ho⟩, ⟨%W', %hW', HO⟩⟩ HK
  iapply (Transfers.wp_waitLocalO countersEmb 𝒱₀ (tV d i) none (dstw := AA.buf (g.val % 3)) (srcw := AA.src i g)
      (hsrc := (View.wordExact_bits rfl).reshape _ _) (hdst := (AA.hbuf (g.val % 3)).wordExact) (default : HIx 1) (N := amt (g.val % 3)) rfl) $$ [Hf HO]
  · isplitl [Hf]; · iexact Hf
    isplitl [HO]; · iexact HO
    iapply (mayWait d i hO _) $$ Hlv
  unfold Landed
  iintro ⟨⟨Hb, Hs⟩, Hv, HO⟩
  iapply HK
  isplitl [Hb]; · iexact Hb
  isplitl [Hv]; · iexact Hv
  isplitl [Hs Hr Ho]
  · isplitl [Hs Hr]
    · isplitl [Hs]; · iexact Hs
      iexact Hr
    · iexact Ho
  iexists _
  isplitr
  swap; · iexact HO
  ipureintro
  intro p hp
  rcases Finset.mem_insert.mp hp with hp | hp
  · exact .inr (hp ▸ rfl)
  · exact hW' p hp

omit hO in
/-- A buffer's state when the chunk to come in it is `g`: in flight, or none is left. -/
def Slot (g : ℕ) : sProp 𝕄 := if h : g < 48 then Fly d i X qs ⟨g, h⟩ else Idle d i X qs (g % 3)

omit hO in
theorem wp_next (n : ℕ) (h : n < 48) (k : PUnit.{1} → TP F i PUnit.{1}) (Q : PUnit.{1} → sProp 𝕄) :
    Idle d i X qs ((47 - n) % 3) ⊢ iprop((Slot d i X qs (50 - n) -∗ W d i (k ⟨⟩) Q) -∗ W d i (next i AA n h >>= k) Q) := by
  by_cases hn : 3 ≤ n
  · obtain ⟨m, rfl⟩ : ∃ m, n = m + 3 := ⟨n - 3, by omega⟩
    have e : 50 - (m + 3) = 47 - m := by omega
    have e2 : (47 - (m + 3)) % 3 = (47 - m) % 3 := by omega
    rw [e, e2]
    unfold Slot
    rw [dif_pos (by omega)]
    exact wp_fetch d i X qs ⟨47 - m, by omega⟩ k Q
  · have e : next (F := F) i AA n h = pure ⟨⟩ := by
      match n, hn with
      | 0, _ => rfl
      | 1, _ => rfl
      | 2, _ => rfl
      | m + 3, hn => exact absurd (by omega) hn
    have e2 : (47 - n) % 3 = (50 - n) % 3 := by omega
    rw [e, pure_bind, e2]
    unfold Slot
    rw [dif_neg (by omega)]
    iintro H HK
    iapply HK; iexact H

theorem wp_chunks (k : TP F i PUnit.{1}) (Q : PUnit.{1} → sProp 𝕄) : ∀ (n : ℕ) (h : n ≤ 48),
    iprop(levAts (K (F := F)).L (K (F := F)).lev ∗ hPts d i (addChunks (data d i X) (48 - n))
        ∗ Slot d i X qs (48 - n) ∗ Slot d i X qs (49 - n) ∗ Slot d i X qs (50 - n) ∗ Ow d i O W₀)
      ⊢ iprop((hPts d i (addChunks (data d i X) 48) ∗ Slot d i X qs 48 ∗ Slot d i X qs 49 ∗ Slot d i X qs 50 ∗ Ow d i O W₀ -∗ W d i k Q)
        -∗ W d i (chunks i AA k n h) Q)
  | 0, h => by
    unfold chunks
    iintro ⟨-, H⟩ HK
    iapply HK; iexact H
  | n + 1, h => by
    have e1 : 48 - (n + 1) = 47 - n := by omega
    have e2 : 49 - (n + 1) = 48 - n := by omega
    have e3 : 50 - (n + 1) = 49 - n := by omega
    have hg : 47 - n < 48 := by omega
    have e4 : 48 - n = 47 - n + 1 := by omega
    have e5 : addChunks (data d i X) (48 - n)
        = addTrips ⟨47 - n, hg⟩ (data d i X ⟨47 - n, hg⟩) (addChunks (data d i X) (47 - n)) k0_t2_loop.trips := by
      rw [e4, addChunks, dif_pos hg]
    have IH := wp_chunks k Q n (by omega)
    unfold chunks
    rw [e1, e2, e3]
    iintro ⟨#Hlv, Hh, HS, HS1, HS2, HO⟩ HK
    ihave HF := (Entails.of_eq (show Slot d i X qs (47 - n) = Fly d i X qs ⟨47 - n, hg⟩ from dif_pos hg)) $$ HS
    iapply (wp_await d i X qs W₀ hO ⟨47 - n, hg⟩ _ Q) $$ [HF HO]
    · isplitr; · iexact Hlv
      isplitl [HF] <;> iassumption
    iintro ⟨⟨%f, %hf, Hb⟩, Hv, Hs, HO⟩
    iapply (wp_trips d i ⟨47 - n, hg⟩ ((47 - n) % 3) f _ hf _ _ Q) $$ [Hb Hh]
    · isplitl [Hb] <;> iassumption
    iintro ⟨Hb, Hh⟩
    iapply (wp_next d i X qs n h _ Q) $$ [Hb Hv Hs]
    · unfold Idle
      isplitl [Hb]; · iexists f; iexact Hb
      isplitl [Hv] <;> iassumption
    iintro HS
    iapply IH $$ [Hh HS HS1 HS2 HO]
    · isplitr; · iexact Hlv
      isplitl [Hh]; · rw [e5]; iexact Hh
      isplitl [HS1]; · iexact HS1
      isplitl [HS2]; · iexact HS2
      isplitl [HS] <;> iassumption
    iexact HK

end Cert.Run
-- ==== Proof.Ends.lean ====
module

public import proofs.«01_k».proof.Proof.Ring

/-!
The beginning and the end of one task: the histogram is zeroed, three copies are started, the chunks are gone through,
and the histogram is copied to its block of the result.
-/

@[expose] public section

noncomputable section

namespace Cert.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)

/-- The zero a histogram begins with. -/
abbrev z0 : Elt F .f32 := Scalar.ofBits (F := F) .f32 0x00000000#32

theorem wp_zeros (f : Vec F S6144 .f32) (k : PUnit.{1} → TP F i PUnit.{1}) (Q : PUnit.{1} → sProp 𝕄) :
    hPts d i f ⊢ iprop((hPts d i (fun _ => z0) -∗ W d i (k ⟨⟩) Q) -∗ W d i (zeros i AA >>= k) Q) := by
  unfold zeros
  iintro Hh HK
  iapply (Scf.wp_for_bind frame (wpE (defs₀ (F := F)) 𝒱₀ (tV d i) none) Set.univ _ _ _ k0_t1_ok ⟨⟩ _
    (fun n _ => iprop(∃ H : Vec F S6144 .f32, ⌜∀ j : S6144.Idx, (j 0).val < 16 * n → H j = z0⌝ ∗ hPts d i H)) ?_) $$ [Hh]
  · intro t _
    iintro ⟨%H, %hH, Hh⟩
    simp only [Prog.bind_lift]
    iapply (wp_load 𝒱₀ (tV d i) none Set.univ (m := AA.hist) (f := H) (S := Finset.univ) (Finset.subset_univ _)) $$ Hh
    iintro Hh
    iapply (wp_store 𝒱₀ (tV d i) none Set.univ (m := AA.hist) (r := Rect.unit (s := S6144) (k0_off1 t) S16.size (k0_off1_inb t)) (f := H) (S := Finset.univ) (Finset.subset_univ _)) $$ Hh
    iintro Hh
    rw [wp_pure]
    imodintro
    iexists _
    isplitr
    swap; · iexact Hh
    ipureintro
    intro j hj
    by_cases hm : j ∈ (AA.hist.access (Rect.unit (s := S6144) (k0_off1 t) S16.size (k0_off1_inb t))).setOn Finset.univ
    · obtain ⟨x, hx, rfl⟩ := Finset.mem_map.mp hm
      rw [View.write_emb_of_mem _ _ hx]
      rfl
    · rw [View.write_of_not_mem _ _ _ hm]
      refine hH j (by_contra fun hlt => hm ?_)
      show j ∈ ((View.whole cc0_scratch0).slice (Rect.unit (s := S6144) (k0_off1 t) S16.size (k0_off1_inb t))).set
      rw [View.set_slice_whole, Rect.mem_set_unit]
      intro a
      match a with
      | 0 =>
        rw [k0_off1_eq]
        show 16 * t.val ≤ (j 0).val ∧ (j 0).val < 16 * t.val + 16
        omega
  · iexists f
    isplitr
    · ipureintro
      intro j hj
      omega
    · iexact Hh
  iintro %acc ⟨%H, %hH, Hh⟩
  iapply HK
  have e : H = fun _ => z0 := funext fun j => hH j (by
    have : Scf.trips k0_t1_loop.lb k0_t1_loop.ub k0_t1_loop.st = 384 := by decide
    have hj : (j 0).val < 6144 := (j 0).isLt
    omega)
  rw [e]
  iexact Hh

/-- The task's block of the result, held with the contents `f`. -/
abbrev oPts (f : Buf (Elt F) ((AA.outRow i).view.loc (tV d i))) : sProp 𝕄 :=
  (AA.outRow i).view.loc (tV d i) ↦[(AA.outRow i).view.set]{fullShare} f

abbrev oSem : SemLoc sig := .dma AA.osem.sem

theorem histAll_read (H : Vec F S6144 .f32) : (AA.histAll).view.read (Elt F) H = H :=
  Memref.read_access_unit_zero (Elt F) cc0_scratch0 (off := ![0]) (by funext a; match a with | 0 => rfl) _ H

/-- The histogram as the copy out reads it. -/
theorem hPts_histAll (H : Vec F S6144 .f32) :
    hPts d i H = iprop((AA.histAll.view.loc (tV d i) ↦[AA.histAll.view.set]{fullShare} H)
      ∗ (AA.histAll.view.loc (tV d i) ↦[Finset.univ \ AA.histAll.view.set]{fullShare} H)) :=
  have h := pointsTo_split_subset (Ix := HIx 1) (Name := ℕ) (U := UU) (Lvl := ℕ) (Val := Elt F) (ℓ := AA.histAll.view.loc (tV d i))
    (q := fullShare) (f := H) (S := Finset.univ) (Finset.subset_univ AA.histAll.view.set)
  BI.Entails.antisymm h.1 h.2

theorem wp_copyOut {O : CellTallies nD τ sig (HIx 1)} (W₀ : Waits sig (HIx 1)) (hO : ∀ g, O g none = 0)
    (H : Vec F S6144 .f32) (f OUT : Buf (Elt F) ((AA.outRow i).view.loc (tV d i)))
    (hOUT : (AA.outRow i).view.read (Elt F) OUT = H) (Q : PUnit.{1} → sProp 𝕄) :
    iprop(levAts (K (F := F)).L (K (F := F)).lev ∗ hPts d i H ∗ oPts d i f ∗ semVal (tV d i, oSem) 0 ∗ Ow d i O W₀)
      ⊢ iprop((hPts d i H ∗ oPts d i OUT ∗ semVal (tV d i, oSem) 0 ∗ Ow d i O W₀ -∗ Q ⟨⟩) -∗ W d i (copyOut i AA) Q) := by
  unfold copyOut Ow
  rw [hPts_histAll]
  simp only [Prog.bind_lift]
  iintro ⟨#Hlv, ⟨Hh, Hr⟩, Ho, Hv, ⟨%W', %hW', HO⟩⟩ HQ
  iapply (Transfers.wp_dmaLocal countersEmb 𝒱₀ (tV d i) none (default : HIx 1) ((AA.outRow i).view.amount oSem) rfl
    (View.dmaCredit_pos _ (by decide)) (Finset.Subset.refl _)) $$ [Hh Ho Hv]
  · isplitl [Hh]; · iexact Hh
    isplitl [Ho]; · iexact Ho
    iexact Hv
  iintro Hf
  iapply (Transfers.wp_waitLocalO countersEmb 𝒱₀ (tV d i) none (dstw := AA.outRow i) (srcw := AA.histAll)
    (hsrc := View.wordExact_bits rfl) (hdst := View.wordExact_bits rfl) (default : HIx 1) (N := (AA.outRow i).view.amount oSem) rfl) $$ [Hf HO]
  · isplitl [Hf]; · iexact Hf
    isplitl [HO]; · iexact HO
    iapply (mayWait d i hO _) $$ Hlv
  iintro ⟨⟨Ho, Hh⟩, Hv, HO⟩
  rw [wp_pure]
  imodintro
  iapply HQ
  isplitl [Hh Hr]
  · isplitl [Hh] <;> iassumption
  isplitl [Ho]
  · iapply (Entails.of_eq (pointsTo_congr ?_)) $$ Ho
    intro j hj
    obtain ⟨x, -, rfl⟩ := Finset.mem_map.mp hj
    rw [View.write_emb_of_mem _ _ (Finset.mem_univ x)]
    show cast _ (AA.histAll.view.read (Elt F) H x) = _
    rw [histAll_read, ← hOUT]
    rfl
  isplitl [Hv]; · iexact Hv
  iexists _
  isplitr
  swap; · iexact HO
  ipureintro
  intro p hp
  rcases Finset.mem_insert.mp hp with hp | hp
  · exact .inr (hp ▸ rfl)
  · exact hW' p hp

/-- The whole body of a task. -/
theorem wp_body (X : (n : ℕ) → Buf (Elt F) ((AA.arg n).view.loc (tV d i))) (qs : ℕ → PosShare TreeShare)
    {O : CellTallies nD τ sig (HIx 1)} (W₀ : Waits sig (HIx 1)) (hO : ∀ g, O g none = 0)
    (h₀ : Vec F S6144 .f32) (f OUT : Buf (Elt F) ((AA.outRow i).view.loc (tV d i)))
    (hOUT : (AA.outRow i).view.read (Elt F) OUT = addChunks (data d i X) 48) :
    iprop(levAts (K (F := F)).L (K (F := F)).lev ∗ hPts d i h₀ ∗ Idle d i X qs 0 ∗ Idle d i X qs 1 ∗ Idle d i X qs 2
        ∗ oPts d i f ∗ semVal (tV d i, oSem) 0 ∗ Ow d i O W₀)
      ⊢ W d i (KernelIdeal.body i AA) fun _ => iprop((∃ H, hPts d i H) ∗ Idle d i X qs 0 ∗ Idle d i X qs 1 ∗ Idle d i X qs 2
        ∗ oPts d i OUT ∗ semVal (tV d i, oSem) 0 ∗ Ow d i O W₀) := by
  have s0 : Fly d i X qs 0 = Slot d i X qs (48 - 48) := (by unfold Slot; rw [dif_pos (show (48 - 48 : ℕ) < 48 by decide)]; rfl)
  have s1 : Fly d i X qs 1 = Slot d i X qs (49 - 48) := (by unfold Slot; rw [dif_pos (show (49 - 48 : ℕ) < 48 by decide)]; rfl)
  have s2 : Fly d i X qs 2 = Slot d i X qs (50 - 48) := (by unfold Slot; rw [dif_pos (show (50 - 48 : ℕ) < 48 by decide)]; rfl)
  have e0 : Slot d i X qs 48 = Idle d i X qs 0 := by unfold Slot; rw [dif_neg (show ¬(48 : ℕ) < 48 by decide)]
  have e1 : Slot d i X qs 49 = Idle d i X qs 1 := by unfold Slot; rw [dif_neg (show ¬(49 : ℕ) < 48 by decide)]
  have e2 : Slot d i X qs 50 = Idle d i X qs 2 := by unfold Slot; rw [dif_neg (show ¬(50 : ℕ) < 48 by decide)]
  unfold KernelIdeal.body
  iintro ⟨#Hlv, Hh, H0, H1, H2, Ho, Hv, HO⟩
  iapply (wp_zeros d i h₀ _ _) $$ Hh
  iintro Hh
  iapply (show Idle d i X qs 0 ⊢ _ from wp_fetch d i X qs 0 _ _) $$ H0
  iintro H0
  iapply (show Idle d i X qs 1 ⊢ _ from wp_fetch d i X qs 1 _ _) $$ H1
  iintro H1
  iapply (show Idle d i X qs 2 ⊢ _ from wp_fetch d i X qs 2 _ _) $$ H2
  iintro H2
  iapply (wp_chunks d i X qs W₀ hO (copyOut i AA) _ 48 (le_refl 48)) $$ [Hh H0 H1 H2 HO]
  · isplitr; · iexact Hlv
    isplitl [Hh]; · iexact Hh
    isplitl [H0]; · iapply (Entails.of_eq s0); iexact H0
    isplitl [H1]; · iapply (Entails.of_eq s1); iexact H1
    isplitl [H2]; · iapply (Entails.of_eq s2); iexact H2
    iexact HO
  iintro ⟨Hh, H0, H1, H2, HO⟩
  iapply (wp_copyOut d i W₀ hO _ f OUT hOUT _) $$ [Hh Ho Hv HO]
  · isplitr; · iexact Hlv
    isplitl [Hh]; · iexact Hh
    isplitl [Ho]; · iexact Ho
    isplitl [Hv]; · iexact Hv
    iexact HO
  iintro ⟨Hh, Ho, Hv, HO⟩
  isplitl [Hh]; · iexists _; iexact Hh
  isplitl [H0]; · iapply (Entails.of_eq e0); iexact H0
  isplitl [H1]; · iapply (Entails.of_eq e1); iexact H1
  isplitl [H2]; · iapply (Entails.of_eq e2); iexact H2
  isplitl [Ho]; · iexact Ho
  isplitl [Hv]; · iexact Hv
  iexact HO

end Cert.Run
-- ==== Proof.Tile.lean ====
module

public import proofs.«01_k».proof.Proof.Ends

/-!
What one task is handed and what it hands back: a share of both arguments and its block of the result, which it
leaves holding its histogram.
-/

@[expose] public section

noncomputable section

namespace Cert.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Shares -/

/-- `n + 1` shares that make up `q`: its left half, the left half of the rest, and so on. -/
def comb : ℕ → PosShare TreeShare → ℕ → PosShare TreeShare
  | 0, q, _ => q
  | _ + 1, q, 0 => q.left
  | n + 1, q, i + 1 => comb n q.right i

theorem pts_half {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- The first of `n + 2` and the rest. -/
def headTail (n : ℕ) : Fin 1 ⊕ Fin (n + 1) ≃ Fin (n + 2) := finSumFinEquiv.trans (finCongr (by omega))

theorem headTail_inr (n : ℕ) (i : Fin (n + 1)) : (headTail n (Sum.inr i)).val = i.val + 1 := by simp [headTail, Nat.add_comm]

theorem pts_comb {ℓ : Loc nD τ sig} (I : Finset (Idx ℓ)) (f : Buf (Elt F) ℓ) :
    ∀ (n : ℕ) (q : PosShare TreeShare), (ℓ ↦[I]{q} f : sProp 𝕄) = bigSep Finset.univ fun i : Fin (n + 1) => ℓ ↦[I]{comb n q i.val} f
  | 0, q => (bigSep_univ_of_subsingleton (0 : Fin 1) (Φ := fun i : Fin 1 => (ℓ ↦[I]{comb 0 q i.val} f : sProp 𝕄))).symm
  | n + 1, q => by
    rw [pts_half, pts_comb I f n q.right,
      bigSep_univ_equiv (headTail n) (fun i : Fin (n + 2) => (ℓ ↦[I]{comb (n + 1) q i.val} f : sProp 𝕄)), bigSep_univ_sum,
      bigSep_univ_of_subsingleton (0 : Fin 1)]
    congr 1
    refine bigSep_congr fun i _ => ?_
    rw [headTail_inr]; rfl

variable [FloatOps F]

/-! ## The arrays -/

abbrev pLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

theorem odiv : 32 ∣ S196608.size 0 := ⟨6144, rfl⟩
abbrev orow (w : Fin 32) : Rect S196608 := Rect.part (s := S196608) (a₀ := 0) odiv w

/-- The task of SparseCore `c` and subcore `j`. -/
def taskNo (c : Fin 2) (j : Fin 16) : Fin 32 := finProdFinEquiv (j, c)

theorem taskNo_val (c : Fin 2) (j : Fin 16) : (taskNo c j).val = c.val + 2 * j.val := finProdFinEquiv_apply_val _

def coordsV (c : Fin (grid0.bound 0)) (s : Fin (grid0.bound 1)) : grid0.Coords :=
  fun | 0 => c | 1 => s | ⟨_ + 2, h⟩ => absurd h (Nat.not_lt.2 (Nat.le_add_left _ _))

abbrev cL (L : grid0.Coords) : Fin 2 := Fin.cast (show grid0.bound 0 = 2 from rfl) (L 0)
abbrev jL (L : grid0.Coords) : Fin 16 := Fin.cast (show grid0.bound 1 = 16 from rfl) (L 1)

/-- The coordinates of task `w`. -/
def taskCoords (w : Fin 32) : grid0.Coords :=
  coordsV ⟨w.val % 2, Nat.mod_lt _ (by decide)⟩ ⟨w.val / 2, by have := w.isLt; show w.val / 2 < 16; omega⟩

theorem taskCoords_taskNo (L : grid0.Coords) : taskCoords (taskNo (cL L) (jL L)) = L := by
  have hc : (cL L).val < 2 := (cL L).isLt
  have e := taskNo_val (cL L) (jL L)
  funext a
  match a with
  | 0 => exact Fin.ext (show (taskNo (cL L) (jL L)).val % 2 = (cL L).val by omega)
  | 1 => exact Fin.ext (show (taskNo (cL L) (jL L)).val / 2 = (jL L).val by omega)

variable (m : (ℓ : Loc nD τ sig) → Buf (Elt F) ℓ)

/-- The two arguments as the tasks read them. -/
def args (d : Dev nD) (L : grid0.Coords) : (n : ℕ) → Buf (Elt F) ((AA.arg n).view.loc (tV d L))
  | 0 => m (pLoc d)
  | _ + 1 => m (tLoc d)

/-- The histogram of task `w`. -/
def taskHist (d : Dev nD) (w : Fin 32) : Vec F S6144 .f32 := addChunks (data d (taskCoords w) (args m d (taskCoords w))) 48

/-- The thirty-two histograms one after the other. -/
def hists (d : Dev nD) : Buf (Elt F) (oLoc d) := fun j : S196608.Idx =>
  taskHist m d ⟨(j 0).val / 6144, by have h : (j 0).val < 196608 := (j 0).isLt; omega⟩
    fun | 0 => ⟨(j 0).val % 6144, Nat.mod_lt _ (by decide)⟩

/-- What task `w` is handed, its block of the result at `f`. -/
def Tk (d : Dev nD) (f : Buf (Elt F) (oLoc d)) (w : Fin 32) : sProp 𝕄 :=
  iprop((pLoc d ↦{comb 31 fullShare w.val} m (pLoc d)) ∗ (tLoc d ↦{comb 31 fullShare w.val} m (tLoc d)) ∗ oLoc d ↦[(orow w).set]{fullShare} f)

section Tile

variable (d : Dev nD) (L : grid0.Coords)

abbrev wL : Fin 32 := taskNo (cL L) (jL L)

theorem orow_eq : Rect.unit (s := S196608) (k0_off74 L) S6144.size (k0_off74_inb L) = orow (wL L) := by
  unfold orow Rect.part Rect.block
  have e := taskNo_val (cL L) (jL L)
  congr 1 <;> funext a
  · rw [k0_off74_eq]
    match a with
    | 0 =>
      show 12288 * (jL L).val + 6144 * (cL L).val = _
      simp [Shape.partIx, Shape.partSize]
      show 12288 * (jL L).val + 6144 * (cL L).val = (taskNo (cL L) (jL L)).val * 6144
      omega
  · match a with
    | 0 => simp [Shape.partSize]

theorem set_outRow : (AA.outRow L).view.set = (orow (wL L)).set := by
  show ((View.whole (main_v0_scv : Ref sig .scVector)).slice (Rect.unit (s := S196608) (k0_off74 L) S6144.size (k0_off74_inb L))).set = _
  rw [View.set_slice, orow_eq]; exact Finset.map_refl

theorem oPts_eq (f : Buf (Elt F) (oLoc d)) : (oPts d L f : sProp 𝕄) = oLoc d ↦[(orow (wL L)).set]{fullShare} f := by
  unfold oPts; rw [set_outRow]; rfl

theorem hists_read : (AA.outRow L).view.read (Elt F) (hists m d) = addChunks (data d L (args m d L)) 48 := by
  have e : (wL L).val = (cL L).val + 2 * (jL L).val := taskNo_val (cL L) (jL L)
  funext j
  have hj : (j 0).val < 6144 := (j 0).isLt
  have he : ((show S196608.Idx from (AA.outRow L).view.emb j) 0).val = (wL L).val * 6144 + (j 0).val := by
    show (k0_off74 L) 0 + 1 * (j 0).val = _
    rw [k0_off74_eq]
    show 12288 * (jL L).val + 6144 * (cL L).val + 1 * (j 0).val = _
    omega
  refine ((View.read_apply _ _).trans (cast_eq _ _)).trans ?_
  show taskHist m d _ _ = _
  have hw : (⟨((show S196608.Idx from (AA.outRow L).view.emb j) 0).val / 6144, by rw [he]; have := (wL L).isLt; omega⟩ : Fin 32) = wL L :=
    Fin.ext (by show _ / 6144 = (wL L).val; rw [he]; omega)
  rw [hw]
  unfold taskHist
  rw [taskCoords_taskNo]
  refine congrArg _ ?_
  funext a
  match a with
  | 0 => exact Fin.ext (by show _ % 6144 = (j 0).val; rw [he]; omega)

abbrev cell (d : Dev nD) (L : grid0.Coords) (x : DmaSems sig S_) : GSem nD τ sig := (tV d L, .dma x.sem)

/-- The four semaphores of a task are among its subcore's. -/
theorem ownSems0_V :
    (ownSems0 (tV d L) : sProp 𝕄)
      = iprop(semVal (cell d L cc0_scratch4) 0 ∗ semVal (cell d L cc0_scratch5) 0 ∗ semVal (cell d L cc0_scratch6) 0 ∗ semVal (cell d L cc0_scoped0) 0
          ∗ bigSep (((((ownCells (tV d L)).erase (cell d L cc0_scratch4)).erase (cell d L cc0_scratch5)).erase (cell d L cc0_scratch6)).erase (cell d L cc0_scoped0)) fun g => semVal g 0) := by
  have ne : ∀ x y : DmaSems sig S_, x.sem ≠ y.sem → cell d L x ≠ cell d L y := fun x y h e => h (by
    have := (Prod.mk.inj e).2; exact SemLoc.dma.inj this)
  have mem : ∀ x : DmaSems sig S_, (SemLoc.dma x.sem : SemLoc sig).isScoped .scVector = true → cell d L x ∈ ownCells (tV d L) :=
    fun x h => mem_ownCells.mpr ⟨rfl, h⟩
  unfold SparseCore.Cfg.ownSems0
  rw [SparseCore.bigSep_erase' (mem cc0_scratch4 (by decide)),
    SparseCore.bigSep_erase' (Finset.mem_erase.mpr ⟨ne cc0_scratch5 cc0_scratch4 (by decide), mem cc0_scratch5 (by decide)⟩),
    SparseCore.bigSep_erase' (Finset.mem_erase.mpr ⟨ne cc0_scratch6 cc0_scratch5 (by decide), Finset.mem_erase.mpr ⟨ne cc0_scratch6 cc0_scratch4 (by decide), mem cc0_scratch6 (by decide)⟩⟩),
    SparseCore.bigSep_erase' (Finset.mem_erase.mpr ⟨ne cc0_scoped0 cc0_scratch6 (by decide), Finset.mem_erase.mpr ⟨ne cc0_scoped0 cc0_scratch5 (by decide), Finset.mem_erase.mpr ⟨ne cc0_scoped0 cc0_scratch4 (by decide), mem cc0_scoped0 (by decide)⟩⟩⟩)]

abbrev own (d : Dev nD) (L : grid0.Coords) (x : Ref sig .scVector) : sProp 𝕄 := iprop(∃ f, (tV d L).loc x ↦{fullShare} f)
abbrev ref (L : grid0.Coords) (x : Ref sig .scVector) : DevRef τ sig := (Proc.scVector (cV L) (jV L)).devRef x

/-- The histogram and the three buffers are among the subcore's own. -/
theorem ownBufs_V :
    (ownBufs (tV d L) : sProp 𝕄)
      = iprop(own d L cc0_scratch0 ∗ own d L cc0_scratch1 ∗ own d L cc0_scratch2 ∗ own d L cc0_scratch3
          ∗ bigSep (((((ownRefs (τ := τ) (.scVector (cV L) (jV L))).erase (ref L cc0_scratch0)).erase (ref L cc0_scratch1)).erase (ref L cc0_scratch2)).erase (ref L cc0_scratch3))
              fun b => iprop(∃ f, ((d, b) : Loc nD τ sig) ↦{fullShare} f)) := by
  have ne : ∀ x y : Ref sig .scVector, x ≠ y → ref L x ≠ ref L y := fun x y h e => h (Proc.devRef_injective _ e)
  have m0 : ref L cc0_scratch0 ∈ ownRefs (τ := τ) (.scVector (cV L) (jV L)) := SparseCore.Cfg.mem_ownRefs_of_owner rfl
  have m1 : ref L cc0_scratch1 ∈ ownRefs (τ := τ) (.scVector (cV L) (jV L)) := SparseCore.Cfg.mem_ownRefs_of_owner rfl
  have m2 : ref L cc0_scratch2 ∈ ownRefs (τ := τ) (.scVector (cV L) (jV L)) := SparseCore.Cfg.mem_ownRefs_of_owner rfl
  have m3 : ref L cc0_scratch3 ∈ ownRefs (τ := τ) (.scVector (cV L) (jV L)) := SparseCore.Cfg.mem_ownRefs_of_owner rfl
  unfold SparseCore.Cfg.ownBufs
  refine (SparseCore.bigSep_erase' m0).trans ?_
  rw [SparseCore.bigSep_erase' (Finset.mem_erase.mpr ⟨ne cc0_scratch1 cc0_scratch0 (by decide), m1⟩),
    SparseCore.bigSep_erase' (Finset.mem_erase.mpr ⟨ne cc0_scratch2 cc0_scratch1 (by decide), Finset.mem_erase.mpr ⟨ne cc0_scratch2 cc0_scratch0 (by decide), m2⟩⟩),
    SparseCore.bigSep_erase' (Finset.mem_erase.mpr ⟨ne cc0_scratch3 cc0_scratch2 (by decide), Finset.mem_erase.mpr ⟨ne cc0_scratch3 cc0_scratch1 (by decide), Finset.mem_erase.mpr ⟨ne cc0_scratch3 cc0_scratch0 (by decide), m3⟩⟩⟩)]

theorem zip_three (A0 A1 A2 B0 B1 B2 : sProp 𝕄) :
    iprop((A0 ∗ A1 ∗ A2) ∗ B0 ∗ B1 ∗ B2) ⊢ iprop((A0 ∗ B0) ∗ (A1 ∗ B1) ∗ A2 ∗ B2) := by
  iintro ⟨⟨A0, A1, A2⟩, B0, B1, B2⟩
  isplitl [A0 B0]; · isplitl [A0] <;> iassumption
  isplitl [A1 B1]; · isplitl [A1] <;> iassumption
  isplitl [A2] <;> iassumption

theorem unzip_three (A0 A1 A2 B0 B1 B2 : sProp 𝕄) :
    iprop((A0 ∗ B0) ∗ (A1 ∗ B1) ∗ A2 ∗ B2) ⊢ iprop((A0 ∗ A1 ∗ A2) ∗ B0 ∗ B1 ∗ B2) := by
  iintro ⟨⟨A0, B0⟩, ⟨A1, B1⟩, A2, B2⟩
  isplitl [A0 A1 A2]
  · isplitl [A0]; · iassumption
    isplitl [A1] <;> iassumption
  · isplitl [B0]; · iassumption
    isplitl [B1] <;> iassumption

/-- A task's share of the two arguments is its three buffers' shares. -/
theorem Src_three (q : PosShare TreeShare) :
    iprop((pLoc d ↦{q} m (pLoc d)) ∗ (tLoc d ↦{q} m (tLoc d)))
      = iprop(Src d L (args m d L) (comb 2 q) 0 ∗ Src d L (args m d L) (comb 2 q) 1 ∗ Src d L (args m d L) (comb 2 q) 2) := by
  have h : ∀ {ℓ : Loc nD τ sig} (f : Buf (Elt F) ℓ), (ℓ ↦{q} f : sProp 𝕄)
      = iprop((ℓ ↦{comb 2 q 0} f) ∗ (ℓ ↦{comb 2 q 1} f) ∗ ℓ ↦{comb 2 q 2} f) := fun f => by
    rw [pts_half _ f q, pts_half _ f q.right]; rfl
  rw [h (m (pLoc d)), h (m (tLoc d))]
  unfold Src
  show iprop(((pLoc d ↦{comb 2 q 0} m (pLoc d)) ∗ (pLoc d ↦{comb 2 q 1} m (pLoc d)) ∗ (pLoc d ↦{comb 2 q 2} m (pLoc d)))
      ∗ ((tLoc d ↦{comb 2 q 0} m (tLoc d)) ∗ (tLoc d ↦{comb 2 q 1} m (tLoc d)) ∗ (tLoc d ↦{comb 2 q 2} m (tLoc d))))
    = iprop(((pLoc d ↦{comb 2 q 0} m (pLoc d)) ∗ (tLoc d ↦{comb 2 q 0} m (tLoc d)))
      ∗ ((pLoc d ↦{comb 2 q 1} m (pLoc d)) ∗ (tLoc d ↦{comb 2 q 1} m (tLoc d)))
      ∗ ((pLoc d ↦{comb 2 q 2} m (pLoc d)) ∗ (tLoc d ↦{comb 2 q 2} m (tLoc d))))
  exact BI.Entails.antisymm (zip_three _ _ _ _ _ _) (unzip_three _ _ _ _ _ _)

set_option maxHeartbeats 1000000 in
/-- One task, from what it is handed to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ Tk m d (m (oLoc d)) (wL L)
        ∗ scopedBufs (tV d L) ∗ scopedSems0 (tV d L) ∗ owes (tV d L) O W)
      ⊢ wp frame (wpE (defs₀ (F := F)) 𝒱₀ (tV d L) none) Set.univ
          (cc0__sc_hist L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scoped0)
          fun _ => iprop(Tk m d (hists m d) (wL L) ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L), ownSems0_V, ownBufs_V,
    body_eq']
  unfold Tk
  iintro ⟨#Hlv, -, ⟨Hp, Ht, Ho⟩, ⟨⟨%h0, Hh⟩, B0, B1, B2, Hbufs⟩, ⟨S0, S1, S2, Sv, Hsems⟩, HO⟩
  ihave Hs := (Entails.of_eq (Src_three m d L (comb 31 fullShare (wL L).val))) $$ [Hp Ht]
  · isplitl [Hp] <;> iassumption
  icases Hs with ⟨A0, A1, A2⟩
  iapply ((wp_body d L (args m d L) (comb 2 (comb 31 fullShare (wL L).val)) W hO h0 (m (oLoc d)) (hists m d) (hists_read m d L)).trans
    (wp_wand frame _ _)) $$ [Hh B0 B1 B2 A0 A1 A2 S0 S1 S2 Sv Ho HO]
  · isplitr; · iexact Hlv
    isplitl [Hh]; · iexact Hh
    isplitl [B0 S0 A0]
    · unfold Idle
      isplitl [B0]; · iexact B0
      isplitl [S0]; · iexact S0
      iexact A0
    isplitl [B1 S1 A1]
    · unfold Idle
      isplitl [B1]; · iexact B1
      isplitl [S1]; · iexact S1
      iexact A1
    isplitl [B2 S2 A2]
    · unfold Idle
      isplitl [B2]; · iexact B2
      isplitl [S2]; · iexact S2
      iexact A2
    isplitl [Ho]
    · iapply (Entails.of_eq (oPts_eq d L (m (oLoc d))).symm)
      iexact Ho
    isplitl [Sv]; · iexact Sv
    unfold Ow
    iexists W
    isplitr
    · ipureintro; exact fun p hp => Or.inl hp
    iexact HO
  iintro %_ ⟨Hh, H0, H1, H2, Ho, Sv, HO⟩
  unfold Idle
  icases H0 with ⟨B0, S0, A0⟩
  icases H1 with ⟨B1, S1, A1⟩
  icases H2 with ⟨B2, S2, A2⟩
  ihave Hs := (Entails.of_eq (Src_three m d L (comb 31 fullShare (wL L).val)).symm) $$ [A0 A1 A2]
  · isplitl [A0]; · iexact A0
    isplitl [A1] <;> iassumption
  icases Hs with ⟨Hp, Ht⟩
  isplitl [Hp Ht Ho]
  · isplitl [Hp]; · iexact Hp
    isplitl [Ht]; · iexact Ht
    iapply (Entails.of_eq (oPts_eq d L (hists m d)))
    iexact Ho
  isplitl [Hh B0 B1 B2 Hbufs]
  · isplitl [Hh]; · iexact Hh
    isplitl [B0]; · iexact B0
    isplitl [B1]; · iexact B1
    isplitl [B2]; · iexact B2
    iexact Hbufs
  isplitl [S0 S1 S2 Sv Hsems]
  · isplitl [S0]; · iexact S0
    isplitl [S1]; · iexact S1
    isplitl [S2]; · iexact S2
    isplitl [Sv]; · iexact Sv
    iexact Hsems
  unfold Ow
  iexact HO

end Tile

end Cert.Run
-- ==== Proof.Call.lean ====
module

public import proofs.«01_k».proof.Proof.Tile

/-!
The call of the SparseCores: what it carries to the thirty-two tasks and back, and each task's obligation.
-/

@[expose] public section

noncomputable section

namespace Cert.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

instance Tk_storable (d : Dev nD) (f : Buf (Elt F) (oLoc d)) (w : Fin 32) : BI.Storable (upEmb : UEmb _ 𝕄) (Tk m d f w) := by
  unfold Tk; infer_instance

/-- What the tasks of SparseCore `c` are handed. -/
def Core (d : Dev nD) (f : Buf (Elt F) (oLoc d)) (c : Fin 2) : sProp 𝕄 := bigSep Finset.univ fun j : Fin 16 => Tk m d f (taskNo c j)

instance Core_storable (d : Dev nD) (f : Buf (Elt F) (oLoc d)) (c : Fin 2) : BI.Storable (upEmb : UEmb _ 𝕄) (Core m d f c) := by
  unfold Core; infer_instance

/-- The one call takes both arguments and the result's array, and brings them back with every task's histogram in its
    block. -/
def P : (K (F := F)).Pay (nD := nD) (Val := Elt F) (Name := ℕ) (U := UU) where
  st := fun q d c => match q with | 0 => Core m d (m (oLoc d)) (Fin.cast nCore_zero c)
  dn := fun q d c => match q with | 0 => Core m d (hists m d) (Fin.cast nCore_zero c)
  go := fun q d c j => match q with | 0 => Tk m d (m (oLoc d)) (taskNo (Fin.cast nCore_zero c) (Fin.cast nSub_zero j))
  td := fun q d c j => match q with | 0 => Tk m d (hists m d) (taskNo (Fin.cast nCore_zero c) (Fin.cast nSub_zero j))
  x := fun _ _ => iprop(emp)

instance P_storable : (P (F := F) m).IsStorable where
  st q d c := match q with | 0 => Core_storable m d (m (oLoc d)) (Fin.cast nCore_zero c)
  dn q d c := match q with | 0 => Core_storable m d (hists m d) (Fin.cast nCore_zero c)
  go q d c j := match q with | 0 => Tk_storable m d (m (oLoc d)) (taskNo (Fin.cast nCore_zero c) (Fin.cast nSub_zero j))
  td q d c j := match q with | 0 => Tk_storable m d (hists m d) (taskNo (Fin.cast nCore_zero c) (Fin.cast nSub_zero j))

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_hist (coordsV c s)
          (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scoped0) ⟨⟩ c s := rfl

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

theorem bigSep_tasks (Φ : Fin 16 → sProp 𝕄) :
    (bigSep Finset.univ fun j : Fin ((K (F := F)).nSub 0) => Φ (Fin.cast nSub_zero j)) = bigSep Finset.univ Φ :=
  bigSep_congr fun _ _ => congrArg Φ (Fin.ext rfl)

theorem vecSplit : (K (F := F)).VecSplit' (P m) 0 := by
  intro d c
  show Core m d (m (oLoc d)) (Fin.cast nCore_zero c) ⊢ |={Set.univ}=> iprop(
      (bigSep Finset.univ fun j : Fin ((K (F := F)).nSub 0) => Tk m d (m (oLoc d)) (taskNo (Fin.cast nCore_zero c) (Fin.cast nSub_zero j)))
      ∗ ((bigSep Finset.univ fun j : Fin ((K (F := F)).nSub 0) => Tk m d (hists m d) (taskNo (Fin.cast nCore_zero c) (Fin.cast nSub_zero j)))
          -∗ Core m d (hists m d) (Fin.cast nCore_zero c)))
  rw [bigSep_tasks (F := F) (fun j => Tk m d (m (oLoc d)) (taskNo (Fin.cast nCore_zero c) j)),
    bigSep_tasks (F := F) (fun j => Tk m d (hists m d) (taskNo (Fin.cast nCore_zero c) j))]
  unfold Core
  iintro H; imodintro
  isplitl [H]; · iexact H
  iintro H; iexact H

theorem orow_set_disjoint : ∀ i ∈ (Finset.univ : Finset (Fin 32)), ∀ j ∈ (Finset.univ : Finset (Fin 32)), i ≠ j → Disjoint (orow i).set (orow j).set :=
  fun _ _ _ _ h => Rect.part_disjoint odiv h

theorem oRows (d : Dev nD) (f : Buf (Elt F) (oLoc d)) :
    (oLoc d ↦{fullShare} f : sProp 𝕄) = bigSep Finset.univ fun w : Fin 32 => oLoc d ↦[(orow w).set]{fullShare} f := by
  rw [← pointsTo_biUnion Finset.univ (ℓ := oLoc d) (fun w => (orow w).set) orow_set_disjoint, Rect.biUnion_part odiv]

/-- The SparseCores' parts together are the whole arrays. -/
theorem cores_eq (d : Dev nD) (f : Buf (Elt F) (oLoc d)) :
    (bigSep Finset.univ fun c : Fin ((K (F := F)).nCore 0) => Core m d f (Fin.cast nCore_zero c))
      = iprop((pLoc d ↦{fullShare} m (pLoc d)) ∗ (tLoc d ↦{fullShare} m (tLoc d)) ∗ oLoc d ↦{fullShare} f) := by
  have h1 : (bigSep Finset.univ fun c : Fin ((K (F := F)).nCore 0) => Core m d f (Fin.cast nCore_zero c)) = bigSep Finset.univ (Core m d f) :=
    bigSep_congr fun _ _ => congrArg (Core m d f) (Fin.ext rfl)
  rw [h1]
  unfold Core
  rw [bigSep_univ_comm, ← bigSep_univ_prod (fun x : Fin 16 × Fin 2 => Tk m d f (taskNo x.2 x.1)),
    show (fun x : Fin 16 × Fin 2 => Tk m d f (taskNo x.2 x.1)) = fun x => Tk m d f (finProdFinEquiv x) from rfl,
    ← bigSep_univ_equiv (finProdFinEquiv (m := 16) (n := 2)) (fun w : Fin 32 => Tk m d f w)]
  unfold Tk
  rw [bigSep_sep', bigSep_sep', oRows, pts_comb Finset.univ (m (pLoc d)) 31 fullShare, pts_comb Finset.univ (m (tLoc d)) 31 fullShare]

theorem st0_eq (d : Dev nD) : (bigSep Finset.univ fun c : Fin ((K (F := F)).nCore 0) => (P m).st 0 d c)
    = iprop((pLoc d ↦{fullShare} m (pLoc d)) ∗ (tLoc d ↦{fullShare} m (tLoc d)) ∗ oLoc d ↦{fullShare} m (oLoc d)) := cores_eq m d _
theorem dn0_eq (d : Dev nD) : (bigSep Finset.univ fun c : Fin ((K (F := F)).nCore 0) => (P m).dn 0 d c)
    = iprop((pLoc d ↦{fullShare} m (pLoc d)) ∗ (tLoc d ↦{fullShare} m (tLoc d)) ∗ oLoc d ↦{fullShare} hists m d) := cores_eq m d _

end Cert.Run
-- ==== Proof.Final.lean ====
module

public import proofs.«01_k».proof.Proof.Setup
public import proofs.«01_k».proof.Proof.Gen.KernelIdeal.Launch

/-!
The last kernel: the loss it computes of the histograms, and its run on its two buffers.
-/

@[expose] public section

noncomputable section

namespace Cert.Run

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Every bin's count, over all tasks and lanes. -/
def counts (v : FVec F S32x384x16 .f32) : FVec F S384x1 .f32 :=
  shapeCast S384x1 (multiReduction .add [1] S384
    (multiReduction .add [0] S384x16 (shapeCast S32x384x16 v shapeCasts_S32x384x16_S32x384x16) 0x00000000#32 reduces_S32x384x16_S384x16 (.inl rfl) rfl)
    0x00000000#32 reduces_S384x16_S384 (.inl rfl) rfl) shapeCasts_S384_S384x1

/-- The sum of a histogram's bins. -/
def total (x : FVec F S64x1 .f32) : F .f32 :=
  extractAt ![0, 0, 0] (shapeCast S1x1x1 (multiReduction .add [1, 2] S1 (shapeCast S1x64x1 x shapeCasts_S64x1_S1x64x1) 0x00000000#32
    reduces_S1x64x1_S1 (.inl rfl) rfl) shapeCasts_S1_S1x1x1) inpos_S1x1x1_p0_0_0

/-- A histogram divided by its sum, the small constant added to the sum. -/
def norm (x : FVec F S64x1 .f32) : FVec F S64x1 .f32 :=
  divf x (broadcast S64x1 (Scalar.addf (total x) (Scalar.ofBits .f32 0x322BCC77#32)))

/-- The mean distance of two histograms' bins. -/
def dist (x y : FVec F S64x1 .f32) : F .f32 :=
  Scalar.divf (total (absf (subf (norm x) (norm y)))) (Scalar.ofBits .f32 0x42800000#32)

/-- The loss, of the counts. -/
def lossOf (v : FVec F S384x1 .f32) : F .f32 :=
  Scalar.divf (Scalar.addf (Scalar.addf (Scalar.addf (Scalar.ofBits .f32 0x00000000#32)
      (dist (extractStridedSlice S64x1 ![0, 0] v slices_S384x1_o0_0_S64x1) (extractStridedSlice S64x1 ![192, 0] v slices_S384x1_o192_0_S64x1)))
      (dist (extractStridedSlice S64x1 ![64, 0] v slices_S384x1_o64_0_S64x1) (extractStridedSlice S64x1 ![256, 0] v slices_S384x1_o256_0_S64x1)))
      (dist (extractStridedSlice S64x1 ![128, 0] v slices_S384x1_o128_0_S64x1) (extractStridedSlice S64x1 ![320, 0] v slices_S384x1_o320_0_S64x1)))
    (Scalar.ofBits .f32 0x40400000#32)

/-- What the last kernel stores. -/
def final (v : FVec F S32x384x16 .f32) : FVec F S1x1 .f32 :=
  mulf (broadcast S1x1 (Scalar.ofBits .f32 0x3F800000#32)) (broadcast S1x1 (lossOf (counts v)))

abbrev aPts (c : Dev nD) (x : FVec F S32x384x16 .f32) : sProp 𝕄 := (stage1_0 0).view.loc (c : Thread nD τ) ↦{fullShare} x
abbrev rPts (c : Dev nD) (y : FVec F S1x1 .f32) : sProp 𝕄 := (stage1_1 0).view.loc (c : Thread nD τ) ↦{fullShare} y

/-- The last kernel: it loads the histograms and stores the loss. -/
theorem final_eq (arg0 : Memref sig .tc .vmem S32x384x16 .f32) (h0 : arg0.IsWhole) (arg1 : Memref sig .tc .vmem S1x1 .f32) (h1 : arg1.IsWhole) :
    cc1__tc_final (F := F) arg0 h0 arg1 h1
      = .op (.load arg0 (Rect.unit (s := S32x384x16) ![0, 0, 0] S32x384x16.size inb_S32x384x16_S32x384x16_0_0_0).toLoadRect (View.loadsAt_vmem h_S32x384x16)) fun (v : Vec F S32x384x16 .f32) =>
        .op (.load arg1 (Rect.unit (s := S1x1) ![0, 0] S1x1.size inb_S1x1_S1x1_0_0).toLoadRect (View.loadsAt_vmem h_S1x1)) fun (_ : Vec F S1x1 .f32) =>
        .op (.store arg1 (Rect.unit (s := S1x1) ![0, 0] S1x1.size inb_S1x1_S1x1_0_0) (final v) Finset.univ (View.stores_vmem_bits_univ h_S1x1 rfl) (.inl rfl)) fun _ =>
        .ret ⟨⟩ := rfl

theorem final_run (c : Dev nD) (x : FVec F S32x384x16 .f32) (y : FVec F S1x1 .f32) (h0 : (stage1_0 0).IsWhole) (h1 : (stage1_1 0).IsWhole)
    (Q : PUnit.{1} → sProp 𝕄) :
    iprop(aPts c x ∗ rPts c y ∗ (iprop(aPts c x ∗ rPts c (final x)) -∗ Q ⟨⟩))
      ⊢ wp frame (wpE (defs₀ (F := F)) 𝒱₀ (c : Thread nD τ) none) Set.univ (cc1__tc_final (stage1_0 0) h0 (stage1_1 0) h1) Q := by
  have ex : (stage1_0 0).view.readAt (Elt F) (Rect.unit (s := S32x384x16) ![0, 0, 0] S32x384x16.size inb_S32x384x16_S32x384x16_0_0_0).toLoadRect x = x :=
    Memref.readAt_unit_zero (Elt F) cc1_stg0_0 (off := ![0, 0, 0]) (by funext a; match a with | 0 => rfl | 1 => rfl | 2 => rfl) _ x
  have ey : ∀ w : FVec F S1x1 .f32, ((stage1_1 0).access (Rect.unit (s := S1x1) ![0, 0] S1x1.size inb_S1x1_S1x1_0_0)).write (Elt F) y w Finset.univ = w :=
    fun w => Memref.write_access_unit_zero_univ (Elt F) cc1_stg1_0 (off := ![0, 0]) (by funext a; match a with | 0 => rfl | 1 => rfl) _ y w
  rw [final_eq]
  iintro ⟨H0, H1, Hk⟩
  iapply (wp_load 𝒱₀ (c : Thread nD τ) none Set.univ (m := stage1_0 0) (f := x) (S := Finset.univ) (Finset.subset_univ _)) $$ H0
  iintro H0
  iapply (wp_load 𝒱₀ (c : Thread nD τ) none Set.univ (m := stage1_1 0) (f := y) (S := Finset.univ) (Finset.subset_univ _)) $$ H1
  iintro H1
  iapply (wp_store 𝒱₀ (c : Thread nD τ) none Set.univ (m := stage1_1 0) (r := Rect.unit (s := S1x1) ![0, 0] S1x1.size inb_S1x1_S1x1_0_0)
    (f := y) (S := Finset.univ) (Finset.subset_univ _)) $$ H1
  iintro H1
  rw [wp_ret, ex, ey]
  imodintro
  iapply Hk
  isplitl [H0]; · iexact H0
  iexact H1

end Cert.Run
-- ==== Proof.Region.lean ====
module

public import proofs.«01_k».proof.Proof.Final
public import Idealize.ShloMosaic.Lib.StableHlo.Run
public import Idealize.ShloMosaic.Lib.Pipeline.RegionsLoop
public import Idealize.ShloMosaic.Lib.Pipeline.Value

/-!
The last kernel in its pipeline: entered from the TensorCore's arrays, left with the loss in its result's.
-/

@[expose] public section

noncomputable section

namespace Cert.Run

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The histograms as the kernel's buffer holds them. -/
abbrev stg (c : Dev nD) : FVec F S32x384x16 .f32 := ((cfg1.win 0).blk t1_0).view.read (Elt F) (V c main_v1)

/-- The buffers the pipeline does not stage. -/
abbrev Φc (c : Dev nD) : sProp 𝕄 := Pipeline.scopedRest (Ix := HIx 1) (Name := ℕ) (U := UU) (Lvl := ℕ) (Val := Elt F) spec1 c

def dat (c : Dev nD) : Dat τ (Elt F) (HIx 1) ℕ UU ℕ cfg1 c where
  A w := V c (Pipeline.arrRef spec1 w)
  after w _ := match w with
    | ⟨0, _⟩ => stg V c
    | ⟨1, _⟩ => final (stg V c)
  Φ _ := Φc c
  q _ := fullShare
  owed _ := 0
  recorded _ := {p | (K (F := F)).lev ((c : Thread nD τ), p.1) p.2 ≤ 8}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before_in (c : Dev nD) (d : (cfg1.win 0).block.Idx → Elt F (cfg1.win 0).elt) : (dat V c).before 0 t1_0 d = stg V c := by
  unfold Dat.before; rw [if_pos (by decide)]; rfl

theorem body_obligation (c : Dev nD) : BodyObligation (dat V c) (defs₀ (F := F)) 𝒱₀ (default : HIx 1) Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt (default : HIx 1) t1_0.succ = (dat V c).owesAt (default : HIx 1) t1_0.castSucc from rfl]
  iintro ⟨HΦ, Howes, ⟨%d0, %f0, %hf0, H0⟩, ⟨%d1, %f1, -, H1⟩⟩
  rw [before_in] at hf0
  subst hf0
  iapply (final_run c (stg V c) f1 (hstage1_0 0) (hstage1_1 0) _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

theorem emb0 (y : S32x384x16.Idx) : (((cfg1.win 0).blk t1_0).view.emb y : S32x384x16.Idx) = y :=
  funext fun a => Fin.ext (Window.rect_emb_val_of_index_zero (cfg1.win 0) t1_0 a (by match a with | 0 => rfl | 1 => rfl | 2 => rfl) y)

theorem emb1 (y : S1x1.Idx) : (((cfg1.win 1).blk t1_0).view.emb y : S1x1.Idx) = y :=
  funext fun a => Fin.ext (Window.rect_emb_val_of_index_zero (cfg1.win 1) t1_0 a (by match a with | 0 => rfl | 1 => rfl) y)

theorem stg_eq (c : Dev nD) : stg V c = (V c main_v1 : FVec F S32x384x16 .f32) :=
  funext fun y => ((View.read_apply _ _).trans (cast_eq _ _)).trans (congrArg (V c main_v1) (emb0 y))

/-- The result's array after the pipeline. -/
theorem arr_eq (c : Dev nD) : (dat V c).arrAt 1 cfg1.N = (final (V c main_v1 : FVec F S32x384x16 .f32) : FVec F S1x1 .f32) := by
  funext j
  have h := (dat V c).arrAt_emb_eq_flushed 1 (fun t t' _ _ h => absurd ((fin_N1 t).trans (fin_N1 t').symm) h) t1_0 (by decide) j
  have e : (((cfg1.win 1).blk t1_0).view.emb j : S1x1.Idx) = j := emb1 j
  refine (congrArg ((dat V c).arrAt 1 cfg1.N) e.symm).trans (h.trans ((cast_eq _ _).trans ?_))
  exact congrFun (congrArg (final (F := F)) (stg_eq V c)) j

variable (Vp : (c : Dev nD) → (b : Ref sig .tc) → Buf (Elt F) ((c : Thread nD τ).loc b))

/-- What the TensorCore owes while the pipeline runs: nothing, its waits all below the next call's. -/
abbrev Owed (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
def reg (hVp_out : ∀ c, Vp c main_v2 = (dat V c).arrAt 1 cfg1.N) (hVp_ne : ∀ c (b : Ref sig .tc), b ≠ main_v2 → Vp c b = V c b) :
    Pipeline.RegionSeg (pcfgs (F := F)) adm (pdats V adm) (default : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ Owed c)
  post c := iprop(unscopedBufs c (Vp c) ∗ Owed c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v1 (by decide)).symm
        · exact (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le 8
    iexact HO

/-! ## The call of the pipeline -/

abbrev padm : (p : Fin 1) → (pcfgs (F := F) p).Adm := fun p => (cfgs p).toPCfg_adm

theorem phinj' : Function.Injective (Pipeline.cellOf (nD := nD) (τ := τ) (Pipeline.pin (pcfgs (F := F)) padm)) := cellOf_inj

variable (R : Pipeline.RegionSeg (pcfgs (F := F)) padm (pdats V padm) (default : HIx 1) defs₀ 𝒱₀ (K (F := F)).L (K (F := F)).lev 0)

abbrev done : Prog (TpuEff nD τ sig (Elt F) (ΛP (F := F)) .tc) PUnit.{1} := .ret ⟨⟩
abbrev enter : Prog (TpuEff nD τ sig (Elt F) (ΛP (F := F)) .tc) PUnit.{1} := .op (.customCall (Pipeline.entry 0) ()) fun _ => done

theorem region_wp (d : Dev nD) (Q : PUnit.{1} → sProp 𝕄) :
    iprop((iprop(boundary (d.tc : Thread nD τ) ∗ R.post d) -∗ wp frame (wpE (D (F := F)) 𝒱 (d.tc : Thread nD τ) none) Set.univ done Q)
        ∗ boundary (d.tc : Thread nD τ) ∗ R.pre d ∗ levAts (K (F := F)).L (K (F := F)).lev
        ∗ Pipeline.cellsGhost (Pipeline.pin (pcfgs (F := F)) padm) (EP : Emb UP 𝕄) 0 d ∗ Pipeline.toksInit (Pipeline.pin (pcfgs (F := F)) padm) (EP : Emb UP 𝕄) 0 d)
      ⊢ wp frame (wpE (D (F := F)) 𝒱 (d.tc : Thread nD τ) none) Set.univ enter Q :=
  Pipeline.RegionSeg.wp (pcfgs (F := F)) padm (pdats V padm) (default : HIx 1) (phinj' (F := F)) (EP : Emb UP 𝕄) defs₀ 𝒱₀
    (K (F := F)).L (K (F := F)).lev R d none (fun u hu => nomatch hu) (fun _ => done) Q

theorem cont_ret (d : Dev nD) (A B : sProp 𝕄) (Q : PUnit.{1} → sProp 𝕄) :
    iprop((A -∗ Q ⟨⟩) ∗ B) ⊢ iprop((A -∗ wp frame (wpE (D (F := F)) 𝒱 (d.tc : Thread nD τ) none) Set.univ done Q) ∗ B) := by
  iintro ⟨HQ, HB⟩
  isplitl [HQ]
  · iintro HA
    rw [wp_ret]; imodintro
    iapply HQ; iexact HA
  iexact HB

theorem region_run (d : Dev nD) (Q : PUnit.{1} → sProp 𝕄) :
    iprop((iprop(boundary (d.tc : Thread nD τ) ∗ R.post d) -∗ Q ⟨⟩)
        ∗ boundary (d.tc : Thread nD τ) ∗ R.pre d ∗ levAts (K (F := F)).L (K (F := F)).lev
        ∗ Pipeline.cellsGhost (Pipeline.pin (pcfgs (F := F)) padm) (EP : Emb UP 𝕄) 0 d ∗ Pipeline.toksInit (Pipeline.pin (pcfgs (F := F)) padm) (EP : Emb UP 𝕄) 0 d)
      ⊢ wp frame (wpE (D (F := F)) 𝒱 (d.tc : Thread nD τ) none) Set.univ enter Q := by
  have h := region_wp V R d Q
  exact (cont_ret d _ _ Q).trans h

theorem region_lift (d : Dev nD) (Q : PUnit.{1} → sProp 𝕄) :
    iprop((iprop(boundary (d.tc : Thread nD τ) ∗ R.post d) -∗ Q ⟨⟩)
        ∗ boundary (d.tc : Thread nD τ) ∗ R.pre d ∗ levAts (K (F := F)).L (K (F := F)).lev
        ∗ Pipeline.cellsGhost (Pipeline.pin (pcfgs (F := F)) padm) (EP : Emb UP 𝕄) 0 d ∗ Pipeline.toksInit (Pipeline.pin (pcfgs (F := F)) padm) (EP : Emb UP 𝕄) 0 d)
      ⊢ wp frame (wpE ((K (F := F)).defs (D (F := F))) 𝒱 (d.tc : Thread nD τ) none) Set.univ
          (Prog.lift (.customCall (SparseCore.inner (Pipeline.entry 0)) ())) Q := by
  have h := (K (F := F)).wp_liftProg (D (F := F)) 𝒱 (d.tc : Thread nD τ) Set.univ none enter Q
  exact (region_run V R d Q).trans h

variable (hVp_out : ∀ c, Vp c main_v2 = (dat V c).arrAt 1 cfg1.N) (hVp_ne : ∀ c (b : Ref sig .tc), b ≠ main_v2 → Vp c b = V c b)

/-- The ghost state the pipeline starts from. -/
abbrev G (d : Dev nD) : sProp 𝕄 := iprop(Pipeline.cellsGhost cfgs (EP : Emb UP 𝕄) 0 d ∗ Pipeline.toksInit cfgs (EP : Emb UP 𝕄) 0 d)

include hVp_out hVp_ne in
theorem region_reg (d : Dev nD) (Q : PUnit.{1} → sProp 𝕄) :
    iprop((iprop(boundary (d.tc : Thread nD τ) ∗ unscopedBufs d (Vp d) ∗ Owed d) -∗ Q ⟨⟩)
        ∗ boundary (d.tc : Thread nD τ) ∗ (unscopedBufs d (V d) ∗ Owed d) ∗ levAts (K (F := F)).L (K (F := F)).lev ∗ G d)
      ⊢ wp frame (wpE ((K (F := F)).defs (D (F := F))) 𝒱 (d.tc : Thread nD τ) none) Set.univ
          (Prog.lift (.customCall (SparseCore.inner (Pipeline.entry 0)) ())) Q :=
  region_lift V (reg V padm Vp hVp_out hVp_ne) d Q

end Cert.Run
-- ==== Proof.Launch.lean ====
module

public import proofs.«01_k».proof.Proof.Call
public import proofs.«01_k».proof.Proof.Region

/-!
The whole program: the SparseCores' call, the reshape of the histograms, the last kernel, the reshape of the loss; run from any launch memory.
-/

@[expose] public section

noncomputable section

namespace Cert.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at launch -/

theorem phinj : Function.Injective (Pipeline.cellOf (nD := nD) (τ := τ) cfgs) := cellOf_inj

def u₀ : UU := (initOf (K (F := F)).hsCells (K (F := F)).hsToks,
  (initOf (Pipeline.cells cfgs phinj) (Pipeline.launchToks cfgs phinj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem G_intro : iprop((bigSep Finset.univ fun c : Dev nD => bigSep Finset.univ fun p : Fin 1 => Pipeline.cellsGhost cfgs (EP : Emb UP 𝕄) p c)
      ∗ (bigSep Finset.univ fun c : Dev nD => bigSep Finset.univ fun p : Fin 1 => (Pipeline.toksInit cfgs (EP : Emb UP 𝕄) p c : sProp 𝕄)))
    ⊢ bigSep Finset.univ (G (F := F)) := by
  rw [show (G (F := F)) = fun d => iprop(Pipeline.cellsGhost cfgs (EP : Emb UP 𝕄) 0 d ∗ Pipeline.toksInit cfgs (EP : Emb UP 𝕄) 0 d) from rfl, bigSep_sep']
  rw [show (bigSep Finset.univ fun c : Dev nD => bigSep Finset.univ fun p : Fin 1 => Pipeline.cellsGhost cfgs (EP : Emb UP 𝕄) p c)
      = bigSep Finset.univ fun c : Dev nD => Pipeline.cellsGhost cfgs (EP : Emb UP 𝕄) 0 c from bigSep_congr fun _ _ => bigSep_univ_of_subsingleton (0 : Fin 1),
    show (bigSep Finset.univ fun c : Dev nD => bigSep Finset.univ fun p : Fin 1 => (Pipeline.toksInit cfgs (EP : Emb UP 𝕄) p c : sProp 𝕄))
      = bigSep Finset.univ fun c : Dev nD => Pipeline.toksInit cfgs (EP : Emb UP 𝕄) 0 c from bigSep_congr fun _ _ => bigSep_univ_of_subsingleton (0 : Fin 1)]

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost cfgs (EP : Emb UP 𝕄) phinj) $$ HP with HG
  imodintro
  isplitl [HH]; · iexact HH
  isplitl [HG]; · iapply (G_intro (F := F)) $$ HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays along the program -/

abbrev tcr (b : Ref sig .tc) : DevRef τ sig := Proc.devRef .tc b

/-- After the SparseCores' call, -/
def A0 (d : Dev nD) : Valuation τ sig (Elt F) := Function.update (fun b => m (d, b)) (tcr main_v0) (hists m d)
abbrev op1 : HloOp τ sig (Elt F) := StableHlo.reshape main_v0 main_v1 (rfl : (.f32 : EltTy) = .f32) shapeCasts_S196608_S32x384x16
abbrev op3 : HloOp τ sig (Elt F) := StableHlo.reshape main_v2 main_v3 (rfl : (.f32 : EltTy) = .f32) shapeCasts_S1x1_S_
/-- after the reshape, -/
def A1 (d : Dev nD) : Valuation τ sig (Elt F) := op1.result (A0 m d)
/-- after the last kernel, -/
def A2 (d : Dev nD) : Valuation τ sig (Elt F) := Function.update (A1 m d) (tcr main_v2) ((dat (fun c b => A1 m c (tcr b)) d).arrAt 1 cfg1.N)
/-- and at the end. -/
def A3 (d : Dev nD) : Valuation τ sig (Elt F) := op3.result (A2 m d)

/-- The program's result. -/
def out (d : Dev nD) : Vec F S_ .f32 := shapeCast S_ (final (shapeCast S32x384x16 (hists m d : Vec F S196608 .f32) shapeCasts_S196608_S32x384x16)) shapeCasts_S1x1_S_

theorem A0_v0 (d : Dev nD) : A0 m d (tcr main_v0) = hists m d := Function.update_self _ _ _
theorem A0_ne (d : Dev nD) {b : Ref sig .tc} (h : b ≠ main_v0) : A0 m d (tcr b) = m (d, tcr b) :=
  Function.update_of_ne (StableHlo.devRef_ne_of_ne h) _ _
theorem A1_ne (d : Dev nD) {b : Ref sig .tc} (h : b ≠ main_v1) : A1 m d (tcr b) = A0 m d (tcr b) := StableHlo.reshape_result_ne _ _ _ _ _ _ _ h
theorem A1_v1 (d : Dev nD) : A1 m d (tcr main_v1) = (shapeCast S32x384x16 (hists m d : Vec F S196608 .f32) shapeCasts_S196608_S32x384x16 : Vec F S32x384x16 .f32) := by
  unfold A1
  rw [StableHlo.reshape_result, A0_v0]; rfl
theorem A2_ne (d : Dev nD) {b : Ref sig .tc} (h : b ≠ main_v2) : A2 m d (tcr b) = A1 m d (tcr b) :=
  Function.update_of_ne (StableHlo.devRef_ne_of_ne h) _ _
theorem A2_v2 (d : Dev nD) : A2 m d (tcr main_v2) = (final (shapeCast S32x384x16 (hists m d : Vec F S196608 .f32) shapeCasts_S196608_S32x384x16) : Vec F S1x1 .f32) := by
  unfold A2
  rw [Function.update_self, arr_eq, A1_v1]
theorem A3_ne (d : Dev nD) {b : Ref sig .tc} (h : b ≠ main_v3) : A3 m d (tcr b) = A2 m d (tcr b) := StableHlo.reshape_result_ne _ _ _ _ _ _ _ h
theorem A3_v3 (d : Dev nD) : A3 m d (tcr main_v3) = out m d := by
  unfold A3 out
  rw [StableHlo.reshape_result, A2_v2]; rfl

theorem unscopedBufs_eq (d : Dev nD) (W : (b : Ref sig .tc) → Buf (Elt F) ((d.tc : Thread nD τ).loc b)) :
    (unscopedBufs d W : sProp 𝕄) = iprop((pLoc d ↦{fullShare} W main_arg0) ∗ (tLoc d ↦{fullShare} W main_arg1) ∗ (oLoc d ↦{fullShare} W main_v0)
      ∗ ((d.tc : Thread nD τ).loc main_v1 ↦{fullShare} W main_v1) ∗ ((d.tc : Thread nD τ).loc main_v2 ↦{fullShare} W main_v2) ∗ (d.tc : Thread nD τ).loc main_v3 ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

def ucRefs : Finset (DevRef τ sig) := (StableHlo.tcRefs τ sig).filter fun b => ¬ b.isScoped

theorem unscopedBufs_held (d : Dev nD) (W : Valuation τ sig (Elt F)) :
    (unscopedBufs d (fun b => W (tcr b)) : sProp 𝕄) = held (d.tc : Thread nD τ) ucRefs W := by
  unfold unscopedBufs held ucRefs StableHlo.tcRefs
  rw [Finset.filter_map, bigSep_map]; rfl

theorem sub_ucRefs {x y : Ref sig .tc} (hx : ¬ x.isScoped) (hy : ¬ y.isScoped) : ({tcr x, tcr y} : Finset (DevRef τ sig)) ⊆ ucRefs := by
  intro b hb
  simp only [Finset.mem_insert, Finset.mem_singleton] at hb
  unfold ucRefs StableHlo.tcRefs
  rcases hb with rfl | rfl
  · exact Finset.mem_filter.mpr ⟨Finset.mem_map.mpr ⟨x, Finset.mem_univ _, rfl⟩, hx⟩
  · exact Finset.mem_filter.mpr ⟨Finset.mem_map.mpr ⟨y, Finset.mem_univ _, rfl⟩, hy⟩

/-! ## The program on the TensorCore -/

theorem region_main (d : Dev nD) (Q : PUnit.{1} → sProp 𝕄) :
    iprop((iprop(boundary (d.tc : Thread nD τ) ∗ unscopedBufs d (fun b => A2 m d (tcr b)) ∗ Owed d) -∗ Q ⟨⟩)
        ∗ boundary (d.tc : Thread nD τ) ∗ (unscopedBufs d (fun b => A1 m d (tcr b)) ∗ Owed d) ∗ levAts (K (F := F)).L (K (F := F)).lev ∗ G d)
      ⊢ wp frame (wpE ((K (F := F)).defs (D (F := F))) 𝒱 (d.tc : Thread nD τ) none) Set.univ
          (Prog.lift (.customCall (SparseCore.inner (Pipeline.entry 0)) ())) Q :=
  region_reg (fun c b => A1 m c (tcr b)) (fun c b => A2 m c (tcr b)) (fun c => by unfold A2; exact Function.update_self _ _ _) (fun c b h => A2_ne m c h) d Q

theorem owed_of (d : Dev nD) : (iprop(∃ W, ⌜(K (F := F)).WBelow (SparseCore.T d) W (8 * SparseCore.Cfg.Blocks.fst 1 1 ((0 : Fin 1).val + 1))⌝
      ∗ owes (SparseCore.T d) ((K (F := F)).Otc d ((0 : Fin 1).val + 1)) W) : sProp 𝕄) ⊢ Owed (F := F) d := by
  rw [(K (F := F)).Otc_end d (n := (0 : Fin 1).val + 1) le_rfl]
  iintro H; iexact H

theorem owed_to (d : Dev nD) : Owed (F := F) d ⊢ (iprop(∃ W, ⌜(K (F := F)).WBelow (SparseCore.T d) W (8 * SparseCore.Cfg.Blocks.fst 1 1 1)⌝
      ∗ owes (SparseCore.T d) ((K (F := F)).Otc d 1) W) : sProp 𝕄) := by
  rw [(K (F := F)).Otc_end d (n := 1) le_rfl]
  iintro H; iexact H

/-- What the TensorCore has at the end: every array. -/
abbrev FIN (d : Dev nD) : sProp 𝕄 := unscopedBufs d (fun b => A3 m d (tcr b))

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Ht, Ho, H1, H2, H3⟩, Hts, -⟩, HG⟩
  iapply ((K (F := F)).wp_run (D (F := F)) 𝒱 (EH := EH) (P := P m) κ d 0) $$ [Hst Hp Ht Ho H1 H2 H3 Hb Hts HG]
  isplitr; · iexact Hctx
  isplitl [Hst]; · iexact Hst
  isplitl [Hp Ht Ho]
  · rw [st0_eq]
    isplitl [Hp]; · iexact Hp
    isplitl [Ht]; · iexact Ht
    iexact Ho
  iintro ⟨Hst, Hdn⟩
  ihave Hdn' := (Entails.of_eq (dn0_eq m d)) $$ Hdn
  icases Hdn' with ⟨Hp, Ht, Ho⟩
  ihave Hheld := (Entails.of_eq (unscopedBufs_held (F := F) d (A0 m d))) $$ [Hp Ht Ho H1 H2 H3]
  · rw [unscopedBufs_eq, A0_v0, A0_ne m d (b := main_arg0) (by decide), A0_ne m d (b := main_arg1) (by decide), A0_ne m d (b := main_v1) (by decide),
      A0_ne m d (b := main_v2) (by decide), A0_ne m d (b := main_v3) (by decide)]
    isplitl [Hp]; · iexact Hp
    isplitl [Ht]; · iexact Ht
    isplitl [Ho]; · iexact Ho
    isplitl [H1]; · iexact H1
    isplitl [H2]; · iexact H2
    iexact H3
  iapply (wp_hlo_within 𝒱 (SparseCore.T d) none Set.univ (op := op1) (S := ucRefs) (sub_ucRefs (by decide) (by decide)) (V := A0 m d)) $$ [Hb Hheld]
  · isplitl [Hb] <;> iassumption
  iintro ⟨Hb, Hheld⟩
  rw [wp_ret]; imodintro
  ihave Hub := (Entails.of_eq (unscopedBufs_held (F := F) d (A1 m d)).symm) $$ [Hheld]
  · iexact Hheld
  unfold SparseCore.Cfg.tcSt
  icases Hst with ⟨HO, Hrest⟩
  ihave HO := (owed_of d) $$ HO
  iapply (region_main m d _)
  isplitl [Hts Hrest]
  · iintro ⟨Hb, Hub, HO⟩
    ihave Hheld := (Entails.of_eq (unscopedBufs_held (F := F) d (A2 m d))) $$ Hub
    iapply (wp_hlo_within 𝒱 (SparseCore.T d) none Set.univ (op := op3) (S := ucRefs) (sub_ucRefs (by decide) (by decide)) (V := A2 m d)) $$ [Hb Hheld]
    · isplitl [Hb] <;> iassumption
    iintro ⟨Hb, Hheld⟩
    rw [wp_ret]; imodintro
    ihave Hub := (Entails.of_eq (unscopedBufs_held (F := F) d (A3 m d)).symm) $$ [Hheld]
    · iexact Hheld
    imodintro
    isplitl [HO Hrest]
    · isplitl [HO]; · iapply (owed_to d) $$ HO
      iexact Hrest
    isplitl [Hub]; · iexact Hub
    isplitl [Hb] <;> iassumption
  isplitl [Hb]; · iexact Hb
  isplitl [Hub HO]
  · isplitl [Hub]; · iexact Hub
    iexact HO
  isplitr; · iapply ((K (F := F)).ctx_levAts κ) $$ Hctx
  iexact HG

/-! ## The run -/

abbrev rLoc (d : Dev nD) : Loc nD τ sig := (d.tc : Thread nD τ).loc main_v3

def fq (d : Dev nD) (s' : Phys nD τ sig (Elt F)) : Prop :=
  s'.mem.mem (pLoc d) = m (pLoc d) ∧ s'.mem.mem (tLoc d) = m (tLoc d) ∧ s'.mem.mem (rLoc d) = (out m d : Buf (Elt F) (rLoc d))

theorem A3_arg0 (d : Dev nD) : A3 m d (tcr main_arg0) = m (pLoc d) := by
  rw [A3_ne m d (by decide), A2_ne m d (by decide), A1_ne m d (by decide), A0_ne m d (by decide)]
theorem A3_arg1 (d : Dev nD) : A3 m d (tcr main_arg1) = m (tLoc d) := by
  rw [A3_ne m d (by decide), A2_ne m d (by decide), A1_ne m d (by decide), A0_ne m d (by decide)]

set_option maxRecDepth 16384 in
theorem hfin (d : Dev nD) (s' : Phys nD τ sig (Elt F)) : iprop(FIN m d ∗ SI s') ⊢ (⌜fq m d s'⌝ : sProp 𝕄) := by
  unfold FIN
  rw [unscopedBufs_eq, A3_arg0, A3_arg1, A3_v3]
  iintro ⟨⟨Hp, Ht, -, -, -, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := (out m d : Buf (Elt F) (rLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (pLoc c) = m (pLoc c) ∧ r.2.mem (tLoc c) = m (tLoc c) ∧ r.2.mem (rLoc c) = (out m c : Buf (Elt F) (rLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Run
-- ==== Proof.Frames.lean ====
module

public import proofs.«01_k».proof.Defs
public import proofs.«01_k».proof.Proof.Launch
public import proofs.«01_k».proof.Proof.Gen.Kernel

/-!
The frames of the kernel, at both readings of its floats. The two printed texts are one program, so one run serves both.
-/

@[expose] public section

noncomputable section

namespace Cert.Run

open Idealize.ShloMosaic Idealize.SL.Sem

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem defs₀_eq : (Cert.Kernel.defs₀ (F := Bits)) = Cert.KernelIdeal.defs₀ := by
  funext p ℓ a
  match p, ℓ, a with
  | .scVector c s, 0, _ => rfl
  | .scVector c s, 1, _ => rfl
  | .tc, 0, _ => rfl
  | .tc, 1, (t, s) => rfl
  | .scScalar c, 0, _ => rfl
  | .scScalar c, 1, _ => rfl

theorem defs_eq : (Cert.Kernel.defs (F := Bits)) = Cert.KernelIdeal.defs :=
  congrArg (fun D => Cert.KernelIdeal.sc.defs (Pipeline.defs Cert.KernelIdeal.pcfgs D)) defs₀_eq

theorem threads_eq : (Cert.Kernel.threads (F := Bits)) = Cert.KernelIdeal.threads := rfl

theorem frame_kernel : Cert.quiescent_Kernel := fun m ρ _ => by
  have h := (θ_run Cert.KernelIdeal.defs _ _).mono (Q' := fun r : PUnit × MemSt Cert.KernelIdeal.nD Cert.KernelIdeal.τ Cert.KernelIdeal.sig (Elt Bits) =>
      (∀ c : Dev Cert.KernelIdeal.nD, r.2.mem (pLoc c) = m (pLoc c) ∧ r.2.mem (tLoc c) = m (tLoc c)) ∧ r.2.sem = fun _ => 0)
    (fun _ h => ⟨fun c => ⟨(h.1 c).1, (h.1 c).2.1⟩, h.2⟩) (run_main (F := Bits) m ρ)
  rw [← defs_eq] at h
  exact h

end Cert.Run
-- ==== Proof.Bin.lean ====
module

public import proofs.«01_k».proof.Proof.Hist
public import Idealize.ShloMosaic.Lib.IdealHost

/-!
The bin of a value between zero and one, exactly: what the kernel computes of it and what the reference does.
-/

@[expose] public section

noncomputable section

namespace Cert.Value

open Idealize.ShloMosaic Idealize.ShloMosaic.ValueIdx Cert.KernelIdeal
open scoped BigOperators

theorem ofBits_sixtyFour : Ideal.ofBits .f32 0x42800000#32 = ((64 : ℝ) : EReal) := by
  simp [Ideal.ofBits, Ideal.ieee, -EReal.coe_mul]; norm_num

/-- A real between zero and sixty-four, truncated to a word. -/
theorem fptosi_nat (r : ℝ) (k : ℕ) (hk : k < 64) (h : ⌊r⌋ = (k : ℤ)) : Ideal.fptosi 32 (r : EReal) = BitVec.ofNat 32 k := by
  have h0 : 0 ≤ r := by
    have := Int.floor_nonneg (a := r); rw [h] at this; exact this.1 (Int.natCast_nonneg k)
  rw [Ideal.fptosi, Ideal.toIntClamped_coe, if_pos h0, h]
  have e : max (-((2 ^ (32 - 1) : ℕ) : ℤ)) (min (((2 ^ (32 - 1) : ℕ) : ℤ) - 1) (k : ℤ)) = (k : ℤ) := by
    norm_num; omega
  rw [e, BitVec.ofInt_natCast]

/-- The kernel's and the reference's bin number of a value between zero and one. -/
theorem bin_number (x : EReal) (h0 : 0 ≤ x) (h1 : x < 1) :
    ∃ k : ℕ, k < 64 ∧ Ideal.fptosi 32 (x * ((64 : ℝ) : EReal)) = BitVec.ofNat 32 k
      ∧ Ideal.fptosi 32 (Ideal.liftRound Int.floor (x * ((64 : ℝ) : EReal))) = BitVec.ofNat 32 k := by
  obtain ⟨r, rfl⟩ : ∃ r : ℝ, x = (r : EReal) := by
    induction x with
    | bot => exact absurd h0 (by simp)
    | top => exact absurd h1 (by simp)
    | coe r => exact ⟨r, rfl⟩
  have r0 : 0 ≤ r := EReal.coe_nonneg.1 h0
  have r1 : r < 1 := by exact_mod_cast h1
  have f0 : 0 ≤ ⌊r * 64⌋ := Int.floor_nonneg.2 (by positivity)
  have f1 : ⌊r * 64⌋ < 64 := Int.floor_lt.2 (by push_cast; linarith)
  obtain ⟨k, hk⟩ := Int.eq_ofNat_of_zero_le f0
  have hk64 : k < 64 := by omega
  refine ⟨k, hk64, ?_, ?_⟩
  · rw [← EReal.coe_mul]; exact fptosi_nat _ k hk64 hk
  · rw [← EReal.coe_mul, Ideal.liftRound_coe]
    exact fptosi_nat _ k hk64 (by rw [Int.floor_intCast]; exact hk)

/-- The bin of a value: the number of the bin a word of the reference's index holds. -/
def bin (x : EReal) : ℕ := (Ideal.fptosi 32 (Ideal.liftRound Int.floor (x * ((64 : ℝ) : EReal)))).toNat

theorem word_nat (k : ℕ) (hk : k < 64) : (IntOp.andi (IntOp.shli .vector (BitVec.ofNat 32 k) 4#32) 1008#32 : BitVec 32).toNat = 16 * k := by
  have : ∀ k : Fin 64, (IntOp.andi (IntOp.shli .vector (BitVec.ofNat 32 k.val) 4#32) 1008#32 : BitVec 32).toNat = 16 * k.val := by decide
  exact this ⟨k, hk⟩

theorem bin_lt (x : EReal) (h0 : 0 ≤ x) (h1 : x < 1) : bin x < 64 := by
  obtain ⟨k, hk, -, e⟩ := bin_number x h0 h1
  rw [bin, e, BitVec.toNat_ofNat]; omega

theorem fptosi_bin (x : EReal) (h0 : 0 ≤ x) (h1 : x < 1) :
    Ideal.fptosi 32 (Ideal.liftRound Int.floor (x * ((64 : ℝ) : EReal))) = BitVec.ofNat 32 (bin x) := by
  rw [bin, BitVec.ofNat_toNat, BitVec.setWidth_eq]

/-- The kernel's word of a value is sixteen times its bin. -/
theorem binWord_eq (x : EReal) (h0 : 0 ≤ x) (h1 : x < 1) : (binWord (F := Ideal) x).toNat = 16 * bin x := by
  obtain ⟨k, hk, e1, e2⟩ := bin_number x h0 h1
  have hb : bin x = k := by rw [bin, e2, BitVec.toNat_ofNat]; omega
  rw [hb, ← word_nat k hk, ← e1, ← ofBits_sixtyFour]
  rfl

end Cert.Value
-- ==== Proof.RefHist.lean ====
module

public import proofs.«01_k».proof.Proof.Bin
public import proofs.«01_k».proof.Proof.Gen.ReferenceIdeal
public import Idealize.ShloMosaic.Lib.Pointwise
public import Idealize.ShloMosaic.Lib.IdealHost
public import Idealize.ShloMosaic.Lib.Routing.OpsPair
public import Idealize.ShloMosaic.Lib.Routing.Ops

/-!
The reference's histogram of one channel's values: how many are of each bin, when every value is between zero and one, one left out.
-/

@[expose] public section

noncomputable section

namespace Cert.RefValue

open Idealize.ShloMosaic Cert.ReferenceIdeal Cert.ReferenceIdeal.Gen
open scoped BigOperators

/-- The bin word of each value, clipped to the bins. -/
def words (x : FVec Ideal S8388608 .f32) : IVec S8388608 32 :=
  minsi (broadcastInDim S8388608 ![] bcast_S_S8388608 (id (constantI S_ 32 63#32))) (maxsi (broadcastInDim S8388608 ![] bcast_S_S8388608 (id (constantI S_ 32 0#32)))
    (fptosi 32 (Host.floor (mulf x (broadcastInDim S8388608 ![] bcast_S_S8388608 (constant S_ .f32 0x42800000#32))))))

/-- The histogram of the values. -/
def refHist (x : FVec Ideal S8388608 .f32) : FVec Ideal S64 .f32 :=
  Host.scatterAdd scatter_S64_S8388608x1_S8388608_n_0_0_1 (broadcastInDim S64 ![] bcast_S_S64 (constant S_ .f32 0x00000000#32))
    (broadcastInDim S8388608x1 ![0] bcast_S8388608_S8388608x1_0
      (select (cmpi .slt (words x) (broadcastInDim S8388608 ![] bcast_S_S8388608 (constantI S_ 32 0#32)))
        (addi (words x) (broadcastInDim S8388608 ![] bcast_S_S8388608 (constantI S_ 32 64#32))) (words x)))
    (uitofp .f32 (andi (cmpf .oge x (broadcastInDim S8388608 ![] bcast_S_S8388608 (constant S_ .f32 0x00000000#32)))
      (cmpf .ole x (broadcastInDim S8388608 ![] bcast_S_S8388608 (constant S_ .f32 0x3F800000#32)))))

/-- The dimension numbers of a scatter of `M` scalars into a vector of `N`, one index each. -/
def dims (N M : ℕ) (wf : ScatterDims.WF ⟨1, ![N]⟩ ⟨2, ![M, 1]⟩ ⟨1, ![M]⟩ [] [0] [0] 1) : ScatterDims ⟨1, ![N]⟩ ⟨2, ![M, 1]⟩ ⟨1, ![M]⟩ where
  updateWindowDims := []
  insertedWindowDims := [0]
  scatterDimsToOperandDims := [0]
  indexVectorDim := 1
  wf := wf

/-- An update starts at its index word, read signed. -/
theorem dims_start {N M : ℕ} (wf) (idx : IVec ⟨2, ![M, 1]⟩ 32) (i : Fin M) :
    (dims N M wf).start (ValueIdx.ix1 i) idx 0 = (idx (ValueIdx.ix2 i (0 : Fin 1))).toInt :=
  congrArg (fun q => (idx q).toInt) (funext fun a => match a with | 0 => rfl | 1 => rfl)

/-- A scatter that adds `M` scalars, one index each, at an entry: the sum of the updates whose index word, read signed, is the entry. -/
theorem scatterAdd_at {N M : ℕ} (wf) (x : FVec Ideal ⟨1, ![N]⟩ .f32) (idx : IVec ⟨2, ![M, 1]⟩ 32) (upd : FVec Ideal ⟨1, ![M]⟩ .f32) (b : Fin N) :
    (Host.scatterAdd (dims N M wf) x idx upd (ValueIdx.ix1 b) : EReal)
      = x (ValueIdx.ix1 b) + ∑ k : Fin M, if (idx (ValueIdx.ix2 k (0 : Fin 1))).toInt = (b.val : Int) then upd (ValueIdx.ix1 k) else 0 := by
  show (x (ValueIdx.ix1 b) : EReal) + ∑ j ∈ Finset.univ.filter _, upd j = _
  rw [Finset.sum_filter]
  refine congrArg ((x (ValueIdx.ix1 b) : EReal) + ·) ((sum_idx1 _).trans (Finset.sum_congr rfl fun k _ => if_congr ?_ rfl rfl))
  refine (Routing.resultIdx?_ix1 (dims N M wf) (ValueIdx.ix1 k) idx b).trans ?_
  rw [dims_start, show (dims N M wf).window (ValueIdx.ix1 k) 0 = 0 from rfl, Nat.cast_zero, add_zero]

theorem clip_nat : ∀ k : Fin 64, IntOp.minsi 63#32 (IntOp.maxsi 0#32 (BitVec.ofNat 32 k.val)) = BitVec.ofNat 32 k.val := by decide +kernel
theorem wrap_nat : ∀ k : Fin 64, Scalar.select (IntOp.cmpi .slt (BitVec.ofNat 32 k.val) 0#32) (IntOp.addi (BitVec.ofNat 32 k.val) 64#32) (BitVec.ofNat 32 k.val)
    = BitVec.ofNat 32 k.val := by decide +kernel
theorem toInt_nat : ∀ k : Fin 64, (BitVec.ofNat 32 k.val).toInt = (k.val : Int) := by decide +kernel

theorem words_at (x : FVec Ideal S8388608 .f32) (j : S8388608.Idx) (h0 : (0 : EReal) ≤ x j) (h1 : (x j : EReal) < 1) :
    words x j = BitVec.ofNat 32 (Cert.Value.bin (x j)) := by
  refine Eq.trans ?_ (clip_nat ⟨_, Cert.Value.bin_lt (x j) h0 h1⟩)
  rw [← Cert.Value.fptosi_bin (x j) h0 h1, ← Cert.Value.ofBits_sixtyFour]
  rfl

theorem index_at (x : FVec Ideal S8388608 .f32) (j : S8388608.Idx) (h0 : (0 : EReal) ≤ x j) (h1 : (x j : EReal) < 1) :
    (select (cmpi .slt (words x) (broadcastInDim S8388608 ![] bcast_S_S8388608 (constantI S_ 32 0#32)))
        (addi (words x) (broadcastInDim S8388608 ![] bcast_S_S8388608 (constantI S_ 32 64#32))) (words x)) j
      = BitVec.ofNat 32 (Cert.Value.bin (x j)) := by
  refine Eq.trans ?_ (wrap_nat ⟨_, Cert.Value.bin_lt (x j) h0 h1⟩)
  rw [← words_at x j h0 h1]
  rfl

theorem mask_at (v : EReal) (h0 : 0 ≤ v) (h1 : v < 1) :
    (FloatOps.uitofp (F := Ideal) .f32 (IntOp.andi (FloatOps.cmpf (F := Ideal) (φ := .f32) .oge v (Ideal.ofBits .f32 0x00000000#32))
      (FloatOps.cmpf (F := Ideal) (φ := .f32) .ole v (Ideal.ofBits .f32 0x3F800000#32))) : EReal) = 1 := by
  rw [Ideal.cmpf_def, Ideal.cmpf_def, Ideal.ofBits_zero_f32, Ideal.ofBits_one_f32]
  have e0 : Ideal.cmp .oge v 0 = 1#1 := by simp [Ideal.cmp, h0]
  have e1 : Ideal.cmp .ole v 1 = 1#1 := by simp [Ideal.cmp, h1.le]
  rw [e0, e1]
  show (((1#1 &&& 1#1).toNat : ℝ) : EReal) = 1
  simp

/-- The histogram at a bin. -/
theorem refHist_at (x : FVec Ideal S8388608 .f32) (hx : ∀ j, (0 : EReal) ≤ x j ∧ (x j : EReal) < 1) (b : Fin 64) :
    (refHist x (ValueIdx.ix1 b) : EReal) = ∑ k : Fin 8388608, if Cert.Value.bin (x (ValueIdx.ix1 k)) = b.val then 1 else 0 := by
  unfold refHist
  refine (scatterAdd_at scatter_S64_S8388608x1_S8388608_n_0_0_1.wf _ _ _ b).trans ?_
  have e0 : (broadcastInDim S64 ![] bcast_S_S64 (constant (F := Ideal) S_ .f32 0x00000000#32) (ValueIdx.ix1 b) : EReal) = 0 := Ideal.ofBits_zero_f32
  rw [e0, zero_add]
  refine Finset.sum_congr rfl fun k _ => ?_
  have hb := Cert.Value.bin_lt _ (hx (ValueIdx.ix1 k)).1 (hx (ValueIdx.ix1 k)).2
  rw [Routing.bcCol, index_at x _ (hx _).1 (hx _).2, toInt_nat ⟨_, hb⟩]
  exact if_congr Int.natCast_inj (mask_at _ (hx _).1 (hx _).2) rfl

end Cert.RefValue
-- ==== Proof.Count.lean ====
module

public import proofs.«01_k».proof.Proof.Bin
public import proofs.«01_k».proof.Proof.Gen.KernelIdeal.Launch
public import Idealize.ShloMosaic.Lib.Pointwise
public import Idealize.ShloMosaic.Lib.ValueLayout

/-!
What a task's histogram counts: each word holds the number of the values, over the blocks of its row, that its lane
added to its bin.
-/

@[expose] public section

noncomputable section

namespace Cert.Value

open Idealize.ShloMosaic Idealize.ShloMosaic.ValueIdx Cert.KernelIdeal
open Facts₀ Facts
open scoped BigOperators

/-- A fold of steps each of which adds to every entry. -/
theorem foldl_at {A I : Type} (step : (I → EReal) → A → I → EReal) (inc : A → I → EReal)
    (h : ∀ g a j, step g a j = g j + inc a j) :
    ∀ (L : List A) (g : I → EReal) (j : I), L.foldl step g j = g j + (L.map fun a => inc a j).sum
  | [], g, j => by simp
  | a :: L, g, j => by rw [List.foldl_cons, foldl_at step inc h L, h, List.map_cons, List.sum_cons, add_assoc]

/-- What one vector of words adds at word `j`. -/
def incV (v : IVec S16 32) (j : S6144.Idx) : EReal := ∑ l : Fin 16, if (v (ValueIdx.ix1 l)).toNat = (j 0).val then 1 else 0

theorem ofBits_one : (Scalar.ofBits (F := Ideal) .f32 0x3F800000#32 : EReal) = 1 := Ideal.ofBits_one_f32

theorem scat_at (H : Vec Ideal S6144 .f32) (v : {v : IVec S16 32 // k0_chk1 v}) (j : S6144.Idx) :
    (scat H v j : EReal) = H j + incV v.1 j := by
  unfold scat storeIdx incV
  rw [Fin.sum_univ_def]
  refine foldl_at (I := S6144.Idx) (A := Fin 16) _ (fun k j => if (v.1 (ValueIdx.ix1 k)).toNat = (j 0).val then 1 else 0)
    (fun g k j => ?_) (List.finRange 16) H j
  have hl : (Shape.ofLane (d := ![16]) k : S16.Idx) = ValueIdx.ix1 k := by funext a; match a with | 0 => rfl
  refine (congrFun (if_pos (show (1#1 : BitVec 1) = 1 from rfl)) j).trans ?_
  by_cases hj : (v.1 (ValueIdx.ix1 k)).toNat = (j 0).val
  · have e : idxAt ![v.1] (k0_idx1_inb v.1 v.2) (Shape.ofLane (d := ![16]) k) = j := by
      funext a
      match a with
      | 0 => exact Fin.ext (by show (v.1 (Shape.ofLane (d := ![16]) k)).toNat = (j 0).val; rw [hl]; exact hj)
    refine (if_pos fun a => by rw [e]).trans ?_
    rw [if_pos hj]
    refine (congrArg (fun i => (g i : EReal) + (Scalar.ofBits (F := Ideal) .f32 0x3F800000#32 : EReal)) e).trans ?_
    exact congrArg (g j + ·) ofBits_one
  · rw [if_neg hj, add_zero]
    refine if_neg fun h => hj ((h 0).trans ?_).symm
    show (v.1 (Shape.ofLane (d := ![16]) k)).toNat = _
    rw [hl]

/-- What a vector of values of chunk `g` adds at word `j`. -/
def incX (g : Fin 48) (j : S6144.Idx) (x : Vec Ideal S16 .f32) : EReal := incV (slot (rowBase g.val) x) j

theorem addAll_at (g : Fin 48) (j : S6144.Idx) : ∀ (xs : List (Vec Ideal S16 .f32)) (H : Vec Ideal S6144 .f32),
    (addAll g H xs j : EReal) = H j + (xs.map (incX g j)).sum
  | [], H => by simp [addAll]
  | x :: xs, H => by
    show (addAll g (scat H (slotOk g x)) xs j : EReal) = _
    rw [addAll_at g j xs, scat_at, List.map_cons, List.sum_cons, add_assoc]
    rfl

theorem vecs_sum (B : Vec Ideal S64x512 .f32) (t : Fin k0_t2_loop.trips) (f : Vec Ideal S16 .f32 → EReal) :
    ∀ (n : ℕ) (h : n ≤ 32), ((vecs B t n h).map f).sum = ∑ k : Fin n, f (vec B t ⟨31 - k.val, by omega⟩)
  | 0, _ => rfl
  | n + 1, h => by
    rw [Fin.sum_univ_castSucc, vecs, List.map_cons, List.sum_cons, vecs_sum B t f n, add_comm]
    rfl

theorem vecs_sum_all (B : Vec Ideal S64x512 .f32) (t : Fin k0_t2_loop.trips) (f : Vec Ideal S16 .f32 → EReal) :
    ((vecs B t 32 (le_refl 32)).map f).sum = ∑ u : Fin 32, f (vec B t u) := by
  rw [vecs_sum, ← Equiv.sum_comp Fin.revPerm]
  refine Finset.sum_congr rfl fun k _ => congrArg (fun u => f (vec B t u)) (Fin.ext ?_)
  show 31 - (Fin.rev k).val = k.val
  rw [Fin.val_rev]; omega

/-- What trip `t` on block `B` adds at word `j`. -/
def incT (g : Fin 48) (j : S6144.Idx) (B : Vec Ideal S64x512 .f32) (t : Fin k0_t2_loop.trips) : EReal :=
  ∑ u : Fin 32, incX g j (vec B t u)

theorem addTrips_at (g : Fin 48) (B : Vec Ideal S64x512 .f32) (H : Vec Ideal S6144 .f32) (j : S6144.Idx) :
    ∀ (n : ℕ) (h : n ≤ k0_t2_loop.trips), (addTrips g B H n j : EReal) = H j + ∑ t : Fin n, incT g j B (Fin.castLE h t)
  | 0, _ => by simp [addTrips]
  | n + 1, h => by
    rw [addTrips, dif_pos (show n < k0_t2_loop.trips from h), addAll_at, addTrips_at g B H j n (by omega), vecs_sum_all,
      Fin.sum_univ_castSucc (fun t : Fin (n + 1) => incT g j B (Fin.castLE h t)), add_assoc]
    rfl

theorem addChunks_at (B : Fin 48 → Vec Ideal S64x512 .f32) (j : S6144.Idx) :
    ∀ (n : ℕ) (h : n ≤ 48), (addChunks B n j : EReal)
      = ∑ g : Fin n, ∑ t : Fin k0_t2_loop.trips, incT (Fin.castLE h g) j (B (Fin.castLE h g)) t
  | 0, _ => by
    show (Scalar.ofBits (F := Ideal) .f32 0x00000000#32 : EReal) = _
    simp
  | n + 1, h => by
    rw [addChunks, dif_pos (show n < 48 from h), addTrips_at _ _ _ _ _ (le_refl _), addChunks_at B j n (by omega), Fin.sum_univ_castSucc]
    rfl

theorem trips_eq : k0_t2_loop.trips = 64 := by decide +kernel

theorem off5_eq : ∀ (t : Fin k0_t2_loop.trips) (u : Fin 32), k0_off5 t (BitVec.ofNat 32 (16 * u.val)) = ![t.val, 16 * u.val] := by
  decide +kernel

theorem vec_apply (B : Vec Ideal S64x512 .f32) (t : Fin k0_t2_loop.trips) (u : Fin 32) (l : Fin 16) :
    vec B t u (ValueIdx.ix1 l) = B (ValueIdx.ix2 ⟨t.val, trips_eq ▸ t.isLt⟩ ⟨16 * u.val + l.val, by omega⟩) := by
  have e : Shape.reshapeEquiv shapeCasts_S1x16_S16 (ValueIdx.ix1 l) = ValueIdx.ix2 (0 : Fin 1) l :=
    Shape.reshapeEquiv_eq_of_rowMajor _ (by
      rw [Shape.rowMajor_val_two, Shape.rowMajor_val_one]
      show 0 * 16 + l.val = l.val
      omega)
  show B ((loadRect t u).emb (Shape.reshapeEquiv shapeCasts_S1x16_S16 (ValueIdx.ix1 l))) = _
  rw [e]
  refine congrArg B (funext fun a => Fin.ext ?_)
  match a with
  | 0 =>
    show k0_off5 t (BitVec.ofNat 32 (16 * u.val)) 0 + 1 * 0 = t.val
    rw [off5_eq]; rfl
  | 1 =>
    show k0_off5 t (BitVec.ofNat 32 (16 * u.val)) 1 + 1 * l.val = 16 * u.val + l.val
    rw [off5_eq]
    show 16 * u.val + 1 * l.val = _
    omega

/-- What a vector of values between zero and one adds at a word: one if it is of the word's row and its value at the word's lane
is of the word's bin. -/
theorem incX_eq (g : Fin 48) (x : Vec Ideal S16 .f32) (hx : ∀ l, (0 : EReal) ≤ x l ∧ (x l : EReal) < 1) (r : ℕ) (b : ℕ) (hb : b < 64) (l : Fin 16)
    (j : S6144.Idx) (hj : (j 0).val = (r * 64 + b) * 16 + l.val) :
    incX g j x = if g.val / 8 = r ∧ bin (x (ValueIdx.ix1 l)) = b then 1 else 0 := by
  unfold incX incV
  have hs : ∀ k : Fin 16, (slot (rowBase g.val) x (ValueIdx.ix1 k)).toNat = 16 * bin (x (ValueIdx.ix1 k)) + (k.val + g.val / 8 * 1024) := fun k => by
    rw [slot_toNat, binWord_eq _ (hx _).1 (hx _).2]
  have hlt : ∀ k : Fin 16, bin (x (ValueIdx.ix1 k)) < 64 := fun k => bin_lt _ (hx _).1 (hx _).2
  rw [Finset.sum_eq_single l]
  · rw [hs, hj]
    have := hlt l
    refine if_congr ?_ rfl rfl
    constructor
    · intro h; constructor <;> omega
    · rintro ⟨rfl, rfl⟩; omega
  · intro k _ hk
    rw [if_neg]
    rw [hs, hj]
    intro h
    have := hlt k
    have := k.isLt
    have := l.isLt
    exact hk (Fin.ext (by omega))
  · intro h; exact absurd (Finset.mem_univ _) h

end Cert.Value
-- ==== Proof.Bins.lean ====
module

public import proofs.«01_k».proof.Proof.Count
public import proofs.«01_k».proof.Proof.Tile

/-!
The bins the last kernel adds up, over all the tasks: the numbers of the values of each channel of the two arguments.
-/

@[expose] public section

noncomputable section

namespace Cert.Value

open Idealize.ShloMosaic Idealize.ShloMosaic.TcCoe Cert.KernelIdeal Cert.Run
open Facts₀ Facts
open scoped BigOperators

/-- A sum over a product's numbers, by quotient and remainder. -/
theorem sum_split {N a b : ℕ} (h : N = a * b) (f : Fin N → EReal) :
    ∑ i, f i = ∑ p : Fin a, ∑ q : Fin b, f ⟨p.val * b + q.val, by
      subst h; have hp := p.isLt; have hq := q.isLt
      calc p.val * b + q.val < p.val * b + b := by omega
        _ = (p.val + 1) * b := by ring
        _ ≤ a * b := Nat.mul_le_mul_right b hp⟩ := by
  subst h
  rw [← Equiv.sum_comp finProdFinEquiv f, Fintype.sum_prod_type]
  refine Finset.sum_congr rfl fun p _ => Finset.sum_congr rfl fun q _ => congrArg f (Fin.ext ?_)
  rw [finProdFinEquiv_apply_val]
  show q.val + b * p.val = p.val * b + q.val
  ring

/-- An argument. -/
abbrev Arr : Type := S32x3x512x512.Idx → EReal

/-- One if the value at image `w`, channel `c`, row `r`, column `q` is of bin `b`. -/
def ind (X : Arr) (c : Fin 3) (b : ℕ) (w : Fin 32) (r q : Fin 512) : EReal := if bin (X (ix4 w c r q)) = b then 1 else 0

/-- How many values of channel `c` are of bin `b`. -/
def cnt (X : Arr) (c : Fin 3) (b : ℕ) : EReal := ∑ w : Fin 32, ∑ r : Fin 512, ∑ q : Fin 512, ind X c b w r q

/-- Every value of an argument is between zero and one, one left out. -/
def InUnit (X : Arr) : Prop := ∀ j, 0 ≤ X j ∧ X j < 1

variable (m : (ℓ : Loc nD τ sig) → Buf (Elt Ideal) ℓ) (d : Dev nD)

/-- The arguments by number. -/
def argOf : ℕ → Arr
  | 0 => fun j => m (pLoc d) j
  | _ + 1 => fun j => m (tLoc d) j

theorem read_arg (L : grid0.Coords) (n : ℕ) (off : Fin 4 → ℕ) (inb : ∀ a, off a + S1x1x64x512.size a ≤ S32x3x512x512.size a) :
    (((AA.arg n).slice (Rect.unit (s := S32x3x512x512) off S1x1x64x512.size inb) (fun _ => rfl)).squeeze S64x512
        squeezes_S1x1x64x512_S64x512).view.read (Elt Ideal) (args m d L n)
      = shapeCast S64x512 (fun j : S1x1x64x512.Idx => argOf m d n ((Rect.unit (s := S32x3x512x512) off S1x1x64x512.size inb).emb j)) (by decide) := by
  match n with
  | 0 => rfl
  | _ + 1 => rfl

theorem off_task : ∀ w : Fin 32, (Scalar.addi (Scalar.muli (BitVec.ofNat 32 (taskCoords w 1).val) 2#32) (BitVec.ofNat 32 (taskCoords w 0).val)).toNat = w.val := by
  decide +kernel

theorem data_apply (w : Fin 32) (g : Fin 48) (t : Fin 64) (q : Fin 512) :
    (data d (taskCoords w) (args m d (taskCoords w)) g (ix2 t q) : EReal)
      = argOf m d (g.val / 24) (ix4 w ⟨g.val % 24 / 8, by omega⟩ ⟨g.val % 8 * 64 + t.val, by omega⟩ q) := by
  refine (congrFun (read_arg m d (taskCoords w) (g.val / 24) (blkOff (taskCoords w) g.val) (blkOff_inb (taskCoords w) g)) (ix2 t q)).trans ?_
  have e : ∀ h : S1x1x64x512.ShapeCasts S64x512, Shape.reshapeEquiv h (ix2 t q) = ix4 (0 : Fin 1) (0 : Fin 1) t q := fun h =>
    Shape.reshapeEquiv_eq_of_rowMajor h (by
      rw [Shape.rowMajor_val_four, Shape.rowMajor_val_two]
      show ((0 * 1 + 0) * 64 + t.val) * 512 + q.val = t.val * 512 + q.val
      omega)
  unfold shapeCast
  rw [e]
  refine congrArg (argOf m d (g.val / 24)) (funext fun a => Fin.ext ?_)
  match a with
  | 0 =>
    show blkOff (taskCoords w) g.val 0 + 1 * 0 = w.val
    exact (congrArg (· + 1 * 0) (off_task w)).trans rfl
  | 1 => rfl
  | 2 => show g.val % 8 * 64 + 1 * t.val = g.val % 8 * 64 + t.val; rw [Nat.one_mul]
  | 3 => show 0 + 1 * q.val = q.val; rw [Nat.one_mul, Nat.zero_add]

/-- A word of a task's histogram. -/
theorem taskHist_at (hm : ∀ n, InUnit (argOf m d n)) (w : Fin 32) (r : Fin 6) (b : ℕ) (hb : b < 64) (l : Fin 16) (j : S6144.Idx)
    (hj : (j 0).val = (r.val * 64 + b) * 16 + l.val) :
    (taskHist m d w j : EReal) = ∑ k : Fin 8, ∑ t : Fin 64, ∑ u : Fin 32,
      ind (argOf m d (r.val / 3)) ⟨r.val % 3, by omega⟩ b w ⟨k.val * 64 + t.val, by omega⟩ ⟨u.val * 16 + l.val, by omega⟩ := by
  have hd : ∀ (g : Fin 48) (p : S64x512.Idx), (0 : EReal) ≤ data d (taskCoords w) (args m d (taskCoords w)) g p
      ∧ (data d (taskCoords w) (args m d (taskCoords w)) g p : EReal) < 1 := fun g p => by
    obtain ⟨t, q, rfl⟩ : ∃ (t : Fin 64) (q : Fin 512), p = ix2 t q := ⟨p 0, p 1, ValueIdx.eq_ix2 p⟩
    rw [data_apply]
    exact hm _ _
  have hT : ∀ g : Fin 48, (∑ t : Fin k0_t2_loop.trips, incT g j (data d (taskCoords w) (args m d (taskCoords w)) g) t)
      = ∑ t : Fin 64, ∑ u : Fin 32, if g.val / 8 = r.val then
          ind (argOf m d (g.val / 24)) ⟨g.val % 24 / 8, by omega⟩ b w ⟨g.val % 8 * 64 + t.val, by omega⟩ ⟨u.val * 16 + l.val, by omega⟩ else 0 := fun g => by
    rw [← Equiv.sum_comp (finCongr trips_eq)]
    refine Finset.sum_congr rfl fun t _ => ?_
    unfold incT
    refine Finset.sum_congr rfl fun u _ => ?_
    rw [incX_eq g (vec (data d (taskCoords w) (args m d (taskCoords w)) g) t u) (fun x => hd g _) r.val b hb l j hj, vec_apply]
    have e := data_apply m d w g (finCongr trips_eq t) ⟨16 * u.val + l.val, by omega⟩
    unfold ind
    have e' : (data d (taskCoords w) (args m d (taskCoords w)) g
        (ValueIdx.ix2 ⟨t.val, trips_eq ▸ t.isLt⟩ ⟨16 * u.val + l.val, by omega⟩) : EReal) = _ := e
    rw [e']
    have hc : (⟨16 * u.val + l.val, by omega⟩ : Fin 512) = ⟨u.val * 16 + l.val, by omega⟩ := Fin.ext (by show 16 * u.val + l.val = u.val * 16 + l.val; omega)
    rw [hc]
    by_cases h1 : g.val / 8 = r.val
    · rw [if_pos h1]
      exact if_congr ⟨fun h => h.2, fun h => ⟨h1, h⟩⟩ rfl rfl
    · rw [if_neg h1, if_neg fun h => h1 h.1]
  unfold taskHist
  rw [addChunks_at _ _ 48 (le_refl 48)]
  refine (Finset.sum_congr rfl fun g _ => hT (Fin.castLE (le_refl 48) g)).trans ?_
  rw [sum_split (show 48 = 6 * 8 from rfl), Finset.sum_eq_single r]
  · refine Finset.sum_congr rfl fun k _ => Finset.sum_congr rfl fun t _ => Finset.sum_congr rfl fun u _ => ?_
    have hk := k.isLt
    have hr := r.isLt
    refine (if_pos (show (r.val * 8 + k.val) / 8 = r.val by omega)).trans ?_
    have h1 : (r.val * 8 + k.val) / 24 = r.val / 3 := by omega
    have h2 : (r.val * 8 + k.val) % 24 / 8 = r.val % 3 := by omega
    have h3 : (r.val * 8 + k.val) % 8 = k.val := by omega
    show ind (argOf m d ((r.val * 8 + k.val) / 24)) ⟨(r.val * 8 + k.val) % 24 / 8, _⟩ b w ⟨(r.val * 8 + k.val) % 8 * 64 + t.val, _⟩ _ = _
    simp only [h1, h2, h3]
  · intro r' _ hr'
    refine Finset.sum_eq_zero fun k _ => Finset.sum_eq_zero fun t _ => Finset.sum_eq_zero fun u _ => if_neg fun h => hr' (Fin.ext ?_)
    have h' : (r'.val * 8 + k.val) / 8 = r.val := h
    have hk := k.isLt
    omega
  · intro h; exact absurd (Finset.mem_univ _) h

/-- The words of one bin, over all lanes and tasks. -/
theorem sum_hist (hm : ∀ n, InUnit (argOf m d n)) (r : Fin 6) (b : ℕ) (hb : b < 64) :
    (∑ l : Fin 16, ∑ w : Fin 32, (taskHist m d w (ix1 ⟨(r.val * 64 + b) * 16 + l.val, by omega⟩) : EReal))
      = cnt (argOf m d (r.val / 3)) ⟨r.val % 3, by omega⟩ b := by
  rw [Finset.sum_comm]
  unfold cnt
  refine Finset.sum_congr rfl fun w _ => ?_
  rw [Finset.sum_congr rfl fun l _ => taskHist_at m d hm w r b hb l (ix1 ⟨(r.val * 64 + b) * 16 + l.val, by omega⟩) rfl]
  rw [sum_split (show 512 = 8 * 64 from rfl), Finset.sum_comm]
  refine Finset.sum_congr rfl fun k _ => ?_
  rw [Finset.sum_comm]
  refine Finset.sum_congr rfl fun t _ => ?_
  rw [sum_split (show 512 = 32 * 16 from rfl), Finset.sum_comm]

end Cert.Value
-- ==== Proof.Loss.lean ====
module

public import proofs.«01_k».proof.Proof.Bins
public import proofs.«01_k».proof.Proof.Final
public import Idealize.ShloMosaic.Lib.Pointwise
public import Idealize.ShloMosaic.Lib.IdealHost

/-!
The loss of six histograms, over the extended reals, and the last kernel's result as that loss of the channels' histograms.
-/

@[expose] public section

noncomputable section

namespace Cert.Value

open Idealize.ShloMosaic Idealize.ShloMosaic.TcCoe Cert.KernelIdeal Cert.Run
open Facts₀ Facts
open scoped BigOperators

/-- A histogram of 64 bins. -/
abbrev Bins : Type := Fin 64 → EReal

/-- A histogram divided by its sum, the small constant added to the sum. -/
def nrm (h : Bins) : Bins := fun k => Ideal.div (h k) (∑ i, h i + Ideal.ofBits .f32 0x322BCC77#32)

/-- The mean distance of two histograms' bins. -/
def dst (x y : Bins) : EReal := Ideal.div (∑ k, max (nrm x k - nrm y k) (-(nrm x k - nrm y k))) (Ideal.ofBits .f32 0x42800000#32)

/-- The mean of the channels' distances. -/
def loss (p t : Fin 3 → Bins) : EReal :=
  Ideal.div (0 + dst (p 0) (t 0) + dst (p 1) (t 1) + dst (p 2) (t 2)) (Ideal.ofBits .f32 0x40400000#32)

/-- A column of 64 words as a histogram. -/
def col (x : FVec Ideal S64x1 .f32) : Bins := fun k => x (ix2 k 0)

theorem total_eq (x : FVec Ideal S64x1 .f32) : (total x : EReal) = ∑ k, col x k := by
  unfold total col
  pointwise [extractAt]
  exact Finset.sum_congr rfl fun k _ => Fin.sum_univ_one _

theorem norm_eq (x : FVec Ideal S64x1 .f32) : col (norm x) = nrm (col x) := by
  funext k
  show Ideal.div (x (ix2 k 0)) (total x + Ideal.ofBits .f32 0x322BCC77#32) = _
  rw [total_eq]
  rfl

theorem dist_eq (x y : FVec Ideal S64x1 .f32) : (dist x y : EReal) = dst (col x) (col y) := by
  show Ideal.div (total (absf (subf (norm x) (norm y)))) (Ideal.ofBits .f32 0x42800000#32) = _
  rw [total_eq]
  refine congrArg (fun s => Ideal.div s (Ideal.ofBits .f32 0x42800000#32)) (Finset.sum_congr rfl fun k _ => ?_)
  rw [← norm_eq, ← norm_eq]
  rfl

variable (m : (ℓ : Loc nD τ sig) → Buf (Elt Ideal) ℓ) (d : Dev nD)

theorem counts_eq (v : FVec Ideal S32x384x16 .f32) (p : Fin 384) :
    (counts v (ix2 p 0) : EReal) = ∑ l : Fin 16, ∑ w : Fin 32, v (ix3 w p l) := by
  unfold counts
  pointwise

/-- A bin's count over the tasks and lanes is the count of the argument's channel. -/
theorem counts_hists (hm : ∀ n, InUnit (argOf m d n)) (r : Fin 6) (b : Fin 64) (h : S196608.ShapeCasts S32x384x16) :
    (counts (F := Ideal) (shapeCast S32x384x16 (hists m d) h) (ix2 ⟨r.val * 64 + b.val, by omega⟩ 0) : EReal)
      = cnt (argOf m d (r.val / 3)) ⟨r.val % 3, by omega⟩ b.val := by
  rw [counts_eq, ← sum_hist m d hm r b.val b.isLt]
  refine Finset.sum_congr rfl fun l _ => Finset.sum_congr rfl fun w _ => ?_
  have hr := r.isLt
  have hb := b.isLt
  have hl := l.isLt
  have hw := w.isLt
  have e : Shape.reshapeEquiv h (ix3 w (⟨r.val * 64 + b.val, by omega⟩ : Fin 384) l)
      = ix1 (⟨w.val * 6144 + ((r.val * 64 + b.val) * 16 + l.val), by omega⟩ : Fin 196608) :=
    Shape.reshapeEquiv_eq_of_rowMajor h (by
      rw [Shape.rowMajor_val_one, Shape.rowMajor_val_three]
      show w.val * 6144 + ((r.val * 64 + b.val) * 16 + l.val) = (w.val * 384 + (r.val * 64 + b.val)) * 16 + l.val
      omega)
  unfold shapeCast
  rw [e]
  unfold hists
  have h1 : (w.val * 6144 + ((r.val * 64 + b.val) * 16 + l.val)) / 6144 = w.val := by omega
  have h2 : (w.val * 6144 + ((r.val * 64 + b.val) * 16 + l.val)) % 6144 = (r.val * 64 + b.val) * 16 + l.val := by omega
  have ew : (⟨(w.val * 6144 + ((r.val * 64 + b.val) * 16 + l.val)) / 6144, by omega⟩ : Fin 32) = w := Fin.ext h1
  refine (congrArg (fun w' => taskHist m d w' _) ew).trans (congrArg (taskHist m d w) (funext fun a => ?_))
  match a with
  | 0 => exact Fin.ext h2

/-- The histogram of a channel of an argument. -/
def chan (X : Arr) (c : Fin 3) : Bins := fun b => cnt X c b.val

/-- The last kernel's loss is the loss of the channels' histograms. -/
theorem lossOf_hists (hm : ∀ n, InUnit (argOf m d n)) (h : S196608.ShapeCasts S32x384x16) :
    (lossOf (F := Ideal) (counts (shapeCast S32x384x16 (hists m d) h)) : EReal) = loss (chan (argOf m d 0)) (chan (argOf m d 1)) := by
  have hc : ∀ (o : ℕ) (hs : S384x1.Slices ![o, 0] S64x1) (r : Fin 6), o = r.val * 64 →
      col (extractStridedSlice S64x1 ![o, 0] (counts (shapeCast S32x384x16 (hists m d) h)) hs)
        = chan (argOf m d (r.val / 3)) ⟨r.val % 3, by omega⟩ := fun o hs r ho => by
    subst ho
    funext k
    refine Eq.trans ?_ (counts_hists m d hm r k h)
    unfold col
    pointwise
  unfold lossOf
  show Ideal.div (Ideal.ofBits .f32 0x00000000#32 + Run.dist (F := Ideal) _ _ + Run.dist (F := Ideal) _ _ + Run.dist (F := Ideal) _ _) (Ideal.ofBits .f32 0x40400000#32) = _
  rw [dist_eq, dist_eq, dist_eq, Ideal.ofBits_zero_f32, hc 0 _ 0 rfl, hc 64 _ 1 rfl, hc 128 _ 2 rfl, hc 192 _ 3 rfl, hc 256 _ 4 rfl, hc 320 _ 5 rfl]
  rfl

end Cert.Value
-- ==== Proof.RefLoss.lean ====
module

public import proofs.«01_k».proof.Proof.RefHist
public import proofs.«01_k».proof.Proof.Loss
public import proofs.«01_k».proof.Proof.Gen.ReferenceIdeal.Run

/-!
The reference's result: the loss of the channels' histograms.
-/

@[expose] public section

noncomputable section

namespace Cert.RefValue

open Idealize.ShloMosaic Cert.ReferenceIdeal Cert.ReferenceIdeal.Gen
open Cert.Value (Bins nrm dst loss chan cnt ind sum_split Arr)
open scoped BigOperators

/-- A channel's values, one after the other. -/
def flat (X : FVec Ideal S32x3x512x512 .f32) (c : ℕ) (h : S32x3x512x512.Slices ![0, c, 0, 0] S32x1x512x512) : FVec Ideal S8388608 .f32 :=
  shapeCast _ (shapeCast _ (extractStridedSlice S32x1x512x512 ![0, c, 0, 0] X h) shapeCasts_S32x1x512x512_S32x512x512) shapeCasts_S32x512x512_S8388608

/-- A histogram divided by its sum, the small constant added to the sum. -/
def refNorm (h : FVec Ideal S64 .f32) : FVec Ideal S64 .f32 :=
  Host.divf h (broadcastInDim S64 ![] bcast_S_S64 (addf (Host.reduceAdd h (constant S_ .f32 0x00000000#32) reducesTo_S64_S_d0 h_S_) (constant S_ .f32 0x322BCC77#32)))

/-- The mean distance of two histograms' bins. -/
def refDist (x y : FVec Ideal S64 .f32) : FVec Ideal S_ .f32 :=
  Host.divf (Host.reduceAdd (Host.absf (subf (refNorm x) (refNorm y))) (constant S_ .f32 0x00000000#32) reducesTo_S64_S_d0 h_S_) (constant S_ .f32 0x42800000#32)

/-- The mean of three distances. -/
def refLoss (p t : Fin 3 → FVec Ideal S64 .f32) : FVec Ideal S_ .f32 :=
  Host.divf (addf (addf (addf (constant S_ .f32 0x00000000#32) (refDist (p 0) (t 0))) (refDist (p 1) (t 1))) (refDist (p 2) (t 2))) (constant S_ .f32 0x40400000#32)

/-- A vector of 64 words as a histogram. -/
def vec64 (h : FVec Ideal S64 .f32) : Bins := fun k => h (ix1 k)

theorem sum_eq (h : FVec Ideal S64 .f32) (j : S_.Idx) :
    (Host.reduceAdd h (constant S_ .f32 0x00000000#32) reducesTo_S64_S_d0 h_S_ j : EReal) = ∑ k, vec64 h k := by
  rw [ValueIdx.hostReduceAdd_apply]
  refine (Ideal.hostReduceAdd_r1_a0 _ _ _ _).trans ?_
  have e : (constant (F := Ideal) S_ .f32 0x00000000#32 (Shape.Idx.first h_S_) : EReal) = 0 := Ideal.ofBits_zero_f32
  rw [e, zero_add]
  rfl

theorem refNorm_eq (h : FVec Ideal S64 .f32) : vec64 (refNorm h) = nrm (vec64 h) := by
  funext k
  unfold vec64 refNorm
  rw [ValueIdx.hostDivf_apply, ValueIdx.broadcastInDim_scalar_apply]
  show Ideal.div _ (Host.reduceAdd h (constant S_ .f32 0x00000000#32) reducesTo_S64_S_d0 h_S_ _ + Ideal.ofBits .f32 0x322BCC77#32) = _
  rw [sum_eq]
  rfl

theorem refDist_eq (x y : FVec Ideal S64 .f32) (j : S_.Idx) : (refDist x y j : EReal) = dst (vec64 x) (vec64 y) := by
  unfold refDist
  rw [ValueIdx.hostDivf_apply, sum_eq]
  refine congrArg (fun s => Ideal.div s (Ideal.ofBits .f32 0x42800000#32)) (Finset.sum_congr rfl fun k _ => ?_)
  rw [← refNorm_eq, ← refNorm_eq]
  rfl

theorem refLoss_eq (p t : Fin 3 → FVec Ideal S64 .f32) (j : S_.Idx) : (refLoss p t j : EReal) = loss (fun c => vec64 (p c)) (fun c => vec64 (t c)) := by
  unfold refLoss
  show Ideal.div (Ideal.ofBits .f32 0x00000000#32 + refDist (p 0) (t 0) j + refDist (p 1) (t 1) j + refDist (p 2) (t 2) j) (Ideal.ofBits .f32 0x40400000#32) = _
  rw [refDist_eq, refDist_eq, refDist_eq, Ideal.ofBits_zero_f32]
  rfl

theorem flat_at (X : FVec Ideal S32x3x512x512 .f32) (c : Fin 3) (h : S32x3x512x512.Slices ![0, c.val, 0, 0] S32x1x512x512) (w : Fin 32) (r q : Fin 512)
    (k : Fin 8388608) (hk : k.val = (w.val * 512 + r.val) * 512 + q.val) : flat X c.val h (ix1 k) = X (ix4 w c r q) := by
  have e1 : Shape.reshapeEquiv shapeCasts_S32x512x512_S8388608 (ix1 k) = ix3 w r q :=
    Shape.reshapeEquiv_eq_of_rowMajor _ (by
      rw [Shape.rowMajor_val_one, Shape.rowMajor_val_three]
      exact hk.symm)
  have e2 : Shape.reshapeEquiv shapeCasts_S32x1x512x512_S32x512x512 (ix3 w r q) = ix4 w (0 : Fin 1) r q :=
    Shape.reshapeEquiv_eq_of_rowMajor _ (by
      rw [Shape.rowMajor_val_four, Shape.rowMajor_val_three]
      show ((w.val * 1 + 0) * 512 + r.val) * 512 + q.val = (w.val * 512 + r.val) * 512 + q.val
      omega)
  unfold flat shapeCast
  rw [e1, e2]
  unfold extractStridedSlice
  refine congrArg X (funext fun a => Fin.ext ?_)
  match a with
  | 0 => exact Nat.zero_add _
  | 1 => exact Nat.add_zero _
  | 2 => exact Nat.zero_add _
  | 3 => exact Nat.zero_add _

theorem refHist_flat (X : FVec Ideal S32x3x512x512 .f32) (hX : Cert.Value.InUnit X) (c : Fin 3) (h : S32x3x512x512.Slices ![0, c.val, 0, 0] S32x1x512x512) :
    vec64 (refHist (flat X c.val h)) = chan X c := by
  funext b
  have hx : ∀ j, (0 : EReal) ≤ flat X c.val h j ∧ (flat X c.val h j : EReal) < 1 := fun j => hX _
  refine (refHist_at (flat X c.val h) hx b).trans ?_
  rw [sum_split (show 8388608 = 16384 * 512 from rfl), sum_split (show 16384 = 32 * 512 from rfl)]
  unfold chan cnt
  refine Finset.sum_congr rfl fun w _ => Finset.sum_congr rfl fun r _ => Finset.sum_congr rfl fun q _ => ?_
  unfold ind
  have e := flat_at X c h w r q ⟨(w.val * 512 + r.val) * 512 + q.val, by omega⟩ rfl
  exact congrArg (fun v : EReal => if Cert.Value.bin v = b.val then (1 : EReal) else 0) e

end Cert.RefValue
-- ==== Proof.Value.lean ====
module

public import proofs.«01_k».proof.Proof.RefLoss
public import proofs.«01_k».proof.Proof.Frames

/-!
The kernel's result is the reference's, when every value of the arguments is between zero and one, one left out.
-/

@[expose] public section

noncomputable section

namespace Cert.RefValue

open Idealize.ShloMosaic Idealize.ShloMosaic.TcCoe Idealize.SL.Sem
open Cert.Value (InUnit chan loss argOf lossOf_hists)
open Cert.Run (out run_main hists pLoc tLoc)

/-- The side condition that the precondition's function states. -/
theorem pre_facts : Cert.Pre_unit_interval.Facts := ⟨by decide⟩

theorem and_one : ∀ a b : BitVec 1, IntOp.andi a b = 1#1 → a = 1#1 ∧ b = 1#1 := by decide

theorem oge_zero (v : EReal) (h : Ideal.cmp .oge v (Ideal.ofBits .f32 0x00000000#32) = 1#1) : 0 ≤ v := by
  rw [Ideal.ofBits_zero_f32] at h
  by_contra hv
  simp [Ideal.cmp, hv] at h

theorem olt_one (v : EReal) (h : Ideal.cmp .olt v (Ideal.ofBits .f32 0x3F800000#32) = 1#1) : v < 1 := by
  rw [Ideal.ofBits_one_f32] at h
  by_contra hv
  simp [Ideal.cmp, hv] at h

/-- What the precondition says of the arguments' values. -/
theorem unit_of_pre [Cert.Pre_unit_interval.Facts] (x y : FVec Ideal Cert.Pre_unit_interval.S32x3x512x512 .f32)
    (h : Cert.Pre_unit_interval.fn (F := Ideal) x y = fun _ => 1#1) : InUnit x ∧ InUnit y := by
  have hj : ∀ j, (0 ≤ (x j : EReal) ∧ (x j : EReal) < 1) ∧ 0 ≤ (y j : EReal) ∧ (y j : EReal) < 1 := fun j => by
    obtain ⟨h3, hd⟩ := and_one _ _ (congrFun h j)
    obtain ⟨h2, hc⟩ := and_one _ _ h3
    obtain ⟨ha, hb⟩ := and_one _ _ h2
    exact ⟨⟨oge_zero _ ha, olt_one _ hb⟩, oge_zero _ hc, olt_one _ hd⟩
  exact ⟨fun j => (hj j).1, fun j => (hj j).2⟩

/-- The kernel's result. -/
theorem out_eq (m : (ℓ : Loc Cert.KernelIdeal.nD Cert.KernelIdeal.τ Cert.KernelIdeal.sig) → Buf (Elt Ideal) ℓ) (d : Dev Cert.KernelIdeal.nD)
    (hm : ∀ n, InUnit (argOf m d n)) (j : Cert.KernelIdeal.S_.Idx) : (out m d j : EReal) = loss (chan (argOf m d 0)) (chan (argOf m d 1)) := by
  refine Eq.trans ?_ (lossOf_hists m d hm Cert.KernelIdeal.Facts₀.shapeCasts_S196608_S32x384x16)
  show Ideal.ofBits .f32 0x3F800000#32 * _ = _
  rw [Ideal.ofBits_one_f32, one_mul]
  rfl

open Cert.ReferenceIdeal Cert.ReferenceIdeal.Gen in
/-- The reference's result, in the words of this proof. -/
def refOut (x y : FVec Ideal S32x3x512x512 .f32) : FVec Ideal S_ .f32 :=
  refLoss
    (fun | 0 => refHist (flat x 0 slices_S32x3x512x512_S32x1x512x512_0_0_0_0) | 1 => refHist (flat x 1 slices_S32x3x512x512_S32x1x512x512_0_1_0_0)
         | 2 => refHist (flat x 2 slices_S32x3x512x512_S32x1x512x512_0_2_0_0))
    (fun | 0 => refHist (flat y 0 slices_S32x3x512x512_S32x1x512x512_0_0_0_0) | 1 => refHist (flat y 1 slices_S32x3x512x512_S32x1x512x512_0_1_0_0)
         | 2 => refHist (flat y 2 slices_S32x3x512x512_S32x1x512x512_0_2_0_0))

open Cert.ReferenceIdeal Cert.ReferenceIdeal.Gen in
theorem refOut_eq (x y : FVec Ideal S32x3x512x512 .f32) (hx : InUnit x) (hy : InUnit y) (j : S_.Idx) : (refOut x y j : EReal) = loss (chan x) (chan y) := by
  unfold refOut
  rw [refLoss_eq]
  refine congrArg₂ loss (funext fun c => ?_) (funext fun c => ?_)
  · match c with
    | 0 => exact refHist_flat x hx 0 _
    | 1 => exact refHist_flat x hx 1 _
    | 2 => exact refHist_flat x hx 2 _
  · match c with
    | 0 => exact refHist_flat y hy 0 _
    | 1 => exact refHist_flat y hy 1 _
    | 2 => exact refHist_flat y hy 2 _

/-- The reference's run, its result in the words of this proof. -/
theorem run_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v171)
          = refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run _ _ _).mono (fun _ h c => ⟨(h c).1.trans rfl, (h c).2⟩) (Cert.ReferenceIdeal.Value.run (F := Ideal) m ρ)

attribute [local instance] pre_facts in
theorem algebraic : Cert.algebraic_KernelIdeal_ReferenceIdeal_pre_unit_interval := fun m ρ m' ρ' hp ha => by
  refine ⟨fun c => out m c, (θ_run _ _ _).mono (fun r h c => ⟨(h.1 c).2.2, (h.1 c).1, (h.1 c).2.1⟩) (run_main (F := Ideal) m ρ),
    (θ_run _ _ _).mono (fun r h c => ⟨(h c).1.trans ?_, (h c).2⟩) (run_ref m' ρ')⟩
  have hu := unit_of_pre _ _ (hp c)
  rw [(ha c).1, (ha c).2]
  funext j
  refine (refOut_eq _ _ hu.1 hu.2 j).trans (out_eq m c (fun n => ?_) j).symm
  match n with
  | 0 => exact hu.1
  | _ + 1 => exact hu.2

end Cert.RefValue
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.RefValue.pre_facts,
  Cert.Run.frame_kernel, Cert.Run.frame_ideal, fun m ρ _ => Cert.Run.frame_ideal m ρ trivial, frame_reference, fun m ρ _ => frame_reference m ρ trivial,
  trivial, Cert.RefValue.algebraic⟩

end Cert.Proof

end
